-- ==== Defs.lean ====
def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenIdeal_hidden_finite [hPre_hidden_finite : Cert.Pre_hidden_finite.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_hidden_finite.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3))) = (fun _ => 1#1)

def Pre_HiddenReferenceIdeal (m : (ℓ : Loc Cert.HiddenReferenceIdeal.nD Cert.HiddenReferenceIdeal.τ Cert.HiddenReferenceIdeal.sig) → Buf (Elt Ideal) ℓ) : Prop :=
  True

def Pre_HiddenReferenceIdeal_hidden_finite [hPre_hidden_finite : Cert.Pre_hidden_finite.Facts] (m : (ℓ : Loc Cert.HiddenReferenceIdeal.nD Cert.HiddenReferenceIdeal.τ Cert.HiddenReferenceIdeal.sig) → Buf (Elt Ideal) ℓ) : Prop :=
  ∀ c : Dev Cert.HiddenReferenceIdeal.nD,
    (Cert.Pre_hidden_finite.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7))) = (fun _ => 1#1)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenIdeal_pre_hidden_finite [hHiddenIdeal : Cert.HiddenIdeal.Facts] [hPre_hidden_finite : Cert.Pre_hidden_finite.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_hidden_finite m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_HiddenReferenceIdeal_pre_hidden_finite [hHiddenReferenceIdeal : Cert.HiddenReferenceIdeal.Facts] [hPre_hidden_finite : Cert.Pre_hidden_finite.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal_hidden_finite m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4)
      ∧ r.2.mem ((c.tc : Thread Cert.Input.nD Cert.Input.τ).loc Cert.Input.main_arg5) = m ((c.tc : Thread Cert.Input.nD Cert.Input.τ).loc Cert.Input.main_arg5)
      ∧ r.2.mem ((c.tc : Thread Cert.Input.nD Cert.Input.τ).loc Cert.Input.main_arg6) = m ((c.tc : Thread Cert.Input.nD Cert.Input.τ).loc Cert.Input.main_arg6))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
      ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
      ∧ r.2.mem ((c.tc : Thread Cert.InputIdeal.nD Cert.InputIdeal.τ).loc Cert.InputIdeal.main_arg6) = m ((c.tc : Thread Cert.InputIdeal.nD Cert.InputIdeal.τ).loc Cert.InputIdeal.main_arg6))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5)
      ∧ r.2.mem ((c.tc : Thread Cert.InputReferenceIdeal.nD Cert.InputReferenceIdeal.τ).loc Cert.InputReferenceIdeal.main_arg6) = m ((c.tc : Thread Cert.InputReferenceIdeal.nD Cert.InputReferenceIdeal.τ).loc Cert.InputReferenceIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10)
      ∧ r.2.mem ((c.tc : Thread Cert.InProj.nD Cert.InProj.τ).loc Cert.InProj.main_arg11) = m ((c.tc : Thread Cert.InProj.nD Cert.InProj.τ).loc Cert.InProj.main_arg11)
      ∧ r.2.mem ((c.tc : Thread Cert.InProj.nD Cert.InProj.τ).loc Cert.InProj.main_arg12) = m ((c.tc : Thread Cert.InProj.nD Cert.InProj.τ).loc Cert.InProj.main_arg12)
      ∧ r.2.mem ((c.tc : Thread Cert.InProj.nD Cert.InProj.τ).loc Cert.InProj.main_arg13) = m ((c.tc : Thread Cert.InProj.nD Cert.InProj.τ).loc Cert.InProj.main_arg13)
      ∧ r.2.mem ((c.tc : Thread Cert.InProj.nD Cert.InProj.τ).loc Cert.InProj.main_arg14) = m ((c.tc : Thread Cert.InProj.nD Cert.InProj.τ).loc Cert.InProj.main_arg14)
      ∧ r.2.mem ((c.tc : Thread Cert.InProj.nD Cert.InProj.τ).loc Cert.InProj.main_arg15) = m ((c.tc : Thread Cert.InProj.nD Cert.InProj.τ).loc Cert.InProj.main_arg15)
      ∧ r.2.mem ((c.tc : Thread Cert.InProj.nD Cert.InProj.τ).loc Cert.InProj.main_arg16) = m ((c.tc : Thread Cert.InProj.nD Cert.InProj.τ).loc Cert.InProj.main_arg16)
      ∧ r.2.mem ((c.tc : Thread Cert.InProj.nD Cert.InProj.τ).loc Cert.InProj.main_arg17) = m ((c.tc : Thread Cert.InProj.nD Cert.InProj.τ).loc Cert.InProj.main_arg17))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
      ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
      ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12)
      ∧ r.2.mem ((c.tc : Thread Cert.InProjIdeal.nD Cert.InProjIdeal.τ).loc Cert.InProjIdeal.main_arg13) = m ((c.tc : Thread Cert.InProjIdeal.nD Cert.InProjIdeal.τ).loc Cert.InProjIdeal.main_arg13)
      ∧ r.2.mem ((c.tc : Thread Cert.InProjIdeal.nD Cert.InProjIdeal.τ).loc Cert.InProjIdeal.main_arg14) = m ((c.tc : Thread Cert.InProjIdeal.nD Cert.InProjIdeal.τ).loc Cert.InProjIdeal.main_arg14)
      ∧ r.2.mem ((c.tc : Thread Cert.InProjIdeal.nD Cert.InProjIdeal.τ).loc Cert.InProjIdeal.main_arg15) = m ((c.tc : Thread Cert.InProjIdeal.nD Cert.InProjIdeal.τ).loc Cert.InProjIdeal.main_arg15)
      ∧ r.2.mem ((c.tc : Thread Cert.InProjIdeal.nD Cert.InProjIdeal.τ).loc Cert.InProjIdeal.main_arg16) = m ((c.tc : Thread Cert.InProjIdeal.nD Cert.InProjIdeal.τ).loc Cert.InProjIdeal.main_arg16)
      ∧ r.2.mem ((c.tc : Thread Cert.InProjIdeal.nD Cert.InProjIdeal.τ).loc Cert.InProjIdeal.main_arg17) = m ((c.tc : Thread Cert.InProjIdeal.nD Cert.InProjIdeal.τ).loc Cert.InProjIdeal.main_arg17))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9)
      ∧ r.2.mem ((c.tc : Thread Cert.InProjReferenceIdeal.nD Cert.InProjReferenceIdeal.τ).loc Cert.InProjReferenceIdeal.main_arg10) = m ((c.tc : Thread Cert.InProjReferenceIdeal.nD Cert.InProjReferenceIdeal.τ).loc Cert.InProjReferenceIdeal.main_arg10)
      ∧ r.2.mem ((c.tc : Thread Cert.InProjReferenceIdeal.nD Cert.InProjReferenceIdeal.τ).loc Cert.InProjReferenceIdeal.main_arg11) = m ((c.tc : Thread Cert.InProjReferenceIdeal.nD Cert.InProjReferenceIdeal.τ).loc Cert.InProjReferenceIdeal.main_arg11)
      ∧ r.2.mem ((c.tc : Thread Cert.InProjReferenceIdeal.nD Cert.InProjReferenceIdeal.τ).loc Cert.InProjReferenceIdeal.main_arg12) = m ((c.tc : Thread Cert.InProjReferenceIdeal.nD Cert.InProjReferenceIdeal.τ).loc Cert.InProjReferenceIdeal.main_arg12)
      ∧ r.2.mem ((c.tc : Thread Cert.InProjReferenceIdeal.nD Cert.InProjReferenceIdeal.τ).loc Cert.InProjReferenceIdeal.main_arg13) = m ((c.tc : Thread Cert.InProjReferenceIdeal.nD Cert.InProjReferenceIdeal.τ).loc Cert.InProjReferenceIdeal.main_arg13)
      ∧ r.2.mem ((c.tc : Thread Cert.InProjReferenceIdeal.nD Cert.InProjReferenceIdeal.τ).loc Cert.InProjReferenceIdeal.main_arg14) = m ((c.tc : Thread Cert.InProjReferenceIdeal.nD Cert.InProjReferenceIdeal.τ).loc Cert.InProjReferenceIdeal.main_arg14)
      ∧ r.2.mem ((c.tc : Thread Cert.InProjReferenceIdeal.nD Cert.InProjReferenceIdeal.τ).loc Cert.InProjReferenceIdeal.main_arg15) = m ((c.tc : Thread Cert.InProjReferenceIdeal.nD Cert.InProjReferenceIdeal.τ).loc Cert.InProjReferenceIdeal.main_arg15)
      ∧ r.2.mem ((c.tc : Thread Cert.InProjReferenceIdeal.nD Cert.InProjReferenceIdeal.τ).loc Cert.InProjReferenceIdeal.main_arg16) = m ((c.tc : Thread Cert.InProjReferenceIdeal.nD Cert.InProjReferenceIdeal.τ).loc Cert.InProjReferenceIdeal.main_arg16)
      ∧ r.2.mem ((c.tc : Thread Cert.InProjReferenceIdeal.nD Cert.InProjReferenceIdeal.τ).loc Cert.InProjReferenceIdeal.main_arg17) = m ((c.tc : Thread Cert.InProjReferenceIdeal.nD Cert.InProjReferenceIdeal.τ).loc Cert.InProjReferenceIdeal.main_arg17))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7))
      ∧ r.2.sem = fun _ => 0)

def preserves_Hidden_HiddenIdeal : Prop :=
  True

def algebraic_HiddenIdeal_HiddenReferenceIdeal_pre_hidden_finite [hHiddenIdeal : Cert.HiddenIdeal.Facts] [hHiddenReferenceIdeal : Cert.HiddenReferenceIdeal.Facts] [hPre_hidden_finite : Cert.Pre_hidden_finite.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal_hidden_finite m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v18_0)) (v1 : (c : Dev Cert.HiddenIdeal.nD) → Buf (Elt Ideal) ((c.tc : Thread Cert.HiddenIdeal.nD Cert.HiddenIdeal.τ).loc Cert.HiddenIdeal.main_v18_1)) (v2 : (c : Dev Cert.HiddenIdeal.nD) → Buf (Elt Ideal) ((c.tc : Thread Cert.HiddenIdeal.nD Cert.HiddenIdeal.τ).loc Cert.HiddenIdeal.main_v18_2)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v18_0) = v0 c
          ∧ r.2.mem ((c.tc : Thread Cert.HiddenIdeal.nD Cert.HiddenIdeal.τ).loc Cert.HiddenIdeal.main_v18_1) = v1 c
          ∧ r.2.mem ((c.tc : Thread Cert.HiddenIdeal.nD Cert.HiddenIdeal.τ).loc Cert.HiddenIdeal.main_v18_2) = v2 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v11) = v0 c
          ∧ r.2.mem ((c.tc : Thread Cert.HiddenReferenceIdeal.nD Cert.HiddenReferenceIdeal.τ).loc Cert.HiddenReferenceIdeal.main_v12) = v1 c
          ∧ r.2.mem ((c.tc : Thread Cert.HiddenReferenceIdeal.nD Cert.HiddenReferenceIdeal.τ).loc Cert.HiddenReferenceIdeal.main_v13) = v2 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v14) = v0 c
          ∧ r.2.mem ((c.tc : Thread Cert.GateUpReferenceIdeal.nD Cert.GateUpReferenceIdeal.τ).loc Cert.GateUpReferenceIdeal.main_v15) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_Input_InputIdeal : Prop :=
  True

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)
      ∧ m' ((c.tc : Thread Cert.InputReferenceIdeal.nD Cert.InputReferenceIdeal.τ).loc Cert.InputReferenceIdeal.main_arg2) = m ((c.tc : Thread Cert.InputIdeal.nD Cert.InputIdeal.τ).loc Cert.InputIdeal.main_arg2)
      ∧ m' ((c.tc : Thread Cert.InputReferenceIdeal.nD Cert.InputReferenceIdeal.τ).loc Cert.InputReferenceIdeal.main_arg3) = m ((c.tc : Thread Cert.InputIdeal.nD Cert.InputIdeal.τ).loc Cert.InputIdeal.main_arg3)
      ∧ m' ((c.tc : Thread Cert.InputReferenceIdeal.nD Cert.InputReferenceIdeal.τ).loc Cert.InputReferenceIdeal.main_arg4) = m ((c.tc : Thread Cert.InputIdeal.nD Cert.InputIdeal.τ).loc Cert.InputIdeal.main_arg4)
      ∧ m' ((c.tc : Thread Cert.InputReferenceIdeal.nD Cert.InputReferenceIdeal.τ).loc Cert.InputReferenceIdeal.main_arg5) = m ((c.tc : Thread Cert.InputIdeal.nD Cert.InputIdeal.τ).loc Cert.InputIdeal.main_arg5)
      ∧ m' ((c.tc : Thread Cert.InputReferenceIdeal.nD Cert.InputReferenceIdeal.τ).loc Cert.InputReferenceIdeal.main_arg6) = m ((c.tc : Thread Cert.InputIdeal.nD Cert.InputIdeal.τ).loc Cert.InputIdeal.main_arg6)) →
    ∃ (v0 : (c : Dev Cert.InputIdeal.nD) → Buf (Elt Ideal) ((c.tc : Thread Cert.InputIdeal.nD Cert.InputIdeal.τ).loc Cert.InputIdeal.main_v0_0)) (v1 : (c : Dev Cert.InputIdeal.nD) → Buf (Elt Ideal) ((c.tc : Thread Cert.InputIdeal.nD Cert.InputIdeal.τ).loc Cert.InputIdeal.main_v0_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v0_0) = v0 c
          ∧ r.2.mem ((c.tc : Thread Cert.InputIdeal.nD Cert.InputIdeal.τ).loc Cert.InputIdeal.main_v0_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
          ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
          ∧ r.2.mem ((c.tc : Thread Cert.InputIdeal.nD Cert.InputIdeal.τ).loc Cert.InputIdeal.main_arg6) = m ((c.tc : Thread Cert.InputIdeal.nD Cert.InputIdeal.τ).loc Cert.InputIdeal.main_arg6))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v45) = v0 c
          ∧ r.2.mem ((c.tc : Thread Cert.InputReferenceIdeal.nD Cert.InputReferenceIdeal.τ).loc Cert.InputReferenceIdeal.main_v28) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5)
          ∧ r.2.mem ((c.tc : Thread Cert.InputReferenceIdeal.nD Cert.InputReferenceIdeal.τ).loc Cert.InputReferenceIdeal.main_arg6) = m' ((c.tc : Thread Cert.InputReferenceIdeal.nD Cert.InputReferenceIdeal.τ).loc Cert.InputReferenceIdeal.main_arg6))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)
      ∧ m' ((c.tc : Thread Cert.LossReferenceIdeal.nD Cert.LossReferenceIdeal.τ).loc Cert.LossReferenceIdeal.main_arg5) = m ((c.tc : Thread Cert.LossIdeal.nD Cert.LossIdeal.τ).loc Cert.LossIdeal.main_arg5)
      ∧ m' ((c.tc : Thread Cert.LossReferenceIdeal.nD Cert.LossReferenceIdeal.τ).loc Cert.LossReferenceIdeal.main_arg6) = m ((c.tc : Thread Cert.LossIdeal.nD Cert.LossIdeal.τ).loc Cert.LossIdeal.main_arg6)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)) (v5 : (c : Dev Cert.LossIdeal.nD) → Buf (Elt Ideal) ((c.tc : Thread Cert.LossIdeal.nD Cert.LossIdeal.τ).loc Cert.LossIdeal.main_v0_5)) (v6 : (c : Dev Cert.LossIdeal.nD) → Buf (Elt Ideal) ((c.tc : Thread Cert.LossIdeal.nD Cert.LossIdeal.τ).loc Cert.LossIdeal.main_v0_6)) (v7 : (c : Dev Cert.LossIdeal.nD) → Buf (Elt Ideal) ((c.tc : Thread Cert.LossIdeal.nD Cert.LossIdeal.τ).loc Cert.LossIdeal.main_v0_7)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_v0_5) = v5 c
          ∧ r.2.mem ((c.tc : Thread Cert.LossIdeal.nD Cert.LossIdeal.τ).loc Cert.LossIdeal.main_v0_6) = v6 c
          ∧ r.2.mem ((c.tc : Thread Cert.LossIdeal.nD Cert.LossIdeal.τ).loc Cert.LossIdeal.main_v0_7) = v7 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v73) = v0 c
          ∧ r.2.mem ((c.tc : Thread Cert.LossReferenceIdeal.nD Cert.LossReferenceIdeal.τ).loc Cert.LossReferenceIdeal.main_v57) = v1 c
          ∧ r.2.mem ((c.tc : Thread Cert.LossReferenceIdeal.nD Cert.LossReferenceIdeal.τ).loc Cert.LossReferenceIdeal.main_v89) = v2 c
          ∧ r.2.mem ((c.tc : Thread Cert.LossReferenceIdeal.nD Cert.LossReferenceIdeal.τ).loc Cert.LossReferenceIdeal.main_v96) = v3 c
          ∧ r.2.mem ((c.tc : Thread Cert.LossReferenceIdeal.nD Cert.LossReferenceIdeal.τ).loc Cert.LossReferenceIdeal.main_v97) = v4 c
          ∧ r.2.mem ((c.tc : Thread Cert.LossReferenceIdeal.nD Cert.LossReferenceIdeal.τ).loc Cert.LossReferenceIdeal.main_v98) = v5 c
          ∧ r.2.mem ((c.tc : Thread Cert.LossReferenceIdeal.nD Cert.LossReferenceIdeal.τ).loc Cert.LossReferenceIdeal.main_v99) = v6 c
          ∧ r.2.mem ((c.tc : Thread Cert.LossReferenceIdeal.nD Cert.LossReferenceIdeal.τ).loc Cert.LossReferenceIdeal.main_v100) = v7 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)) (v2 : (c : Dev Cert.OutProjIdeal.nD) → Buf (Elt Ideal) ((c.tc : Thread Cert.OutProjIdeal.nD Cert.OutProjIdeal.τ).loc Cert.OutProjIdeal.main_v0_2)) (v3 : (c : Dev Cert.OutProjIdeal.nD) → Buf (Elt Ideal) ((c.tc : Thread Cert.OutProjIdeal.nD Cert.OutProjIdeal.τ).loc Cert.OutProjIdeal.main_v0_3)) (v4 : (c : Dev Cert.OutProjIdeal.nD) → Buf (Elt Ideal) ((c.tc : Thread Cert.OutProjIdeal.nD Cert.OutProjIdeal.τ).loc Cert.OutProjIdeal.main_v0_4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_v0_2) = v2 c
          ∧ r.2.mem ((c.tc : Thread Cert.OutProjIdeal.nD Cert.OutProjIdeal.τ).loc Cert.OutProjIdeal.main_v0_3) = v3 c
          ∧ r.2.mem ((c.tc : Thread Cert.OutProjIdeal.nD Cert.OutProjIdeal.τ).loc Cert.OutProjIdeal.main_v0_4) = v4 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v14) = v0 c
          ∧ r.2.mem ((c.tc : Thread Cert.OutProjReferenceIdeal.nD Cert.OutProjReferenceIdeal.τ).loc Cert.OutProjReferenceIdeal.main_v15) = v1 c
          ∧ r.2.mem ((c.tc : Thread Cert.OutProjReferenceIdeal.nD Cert.OutProjReferenceIdeal.τ).loc Cert.OutProjReferenceIdeal.main_v16) = v2 c
          ∧ r.2.mem ((c.tc : Thread Cert.OutProjReferenceIdeal.nD Cert.OutProjReferenceIdeal.τ).loc Cert.OutProjReferenceIdeal.main_v17) = v3 c
          ∧ r.2.mem ((c.tc : Thread Cert.OutProjReferenceIdeal.nD Cert.OutProjReferenceIdeal.τ).loc Cert.OutProjReferenceIdeal.main_v18) = v4 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)
      ∧ m' ((c.tc : Thread Cert.InProjReferenceIdeal.nD Cert.InProjReferenceIdeal.τ).loc Cert.InProjReferenceIdeal.main_arg9) = m ((c.tc : Thread Cert.InProjIdeal.nD Cert.InProjIdeal.τ).loc Cert.InProjIdeal.main_arg9)
      ∧ m' ((c.tc : Thread Cert.InProjReferenceIdeal.nD Cert.InProjReferenceIdeal.τ).loc Cert.InProjReferenceIdeal.main_arg10) = m ((c.tc : Thread Cert.InProjIdeal.nD Cert.InProjIdeal.τ).loc Cert.InProjIdeal.main_arg10)
      ∧ m' ((c.tc : Thread Cert.InProjReferenceIdeal.nD Cert.InProjReferenceIdeal.τ).loc Cert.InProjReferenceIdeal.main_arg11) = m ((c.tc : Thread Cert.InProjIdeal.nD Cert.InProjIdeal.τ).loc Cert.InProjIdeal.main_arg11)
      ∧ m' ((c.tc : Thread Cert.InProjReferenceIdeal.nD Cert.InProjReferenceIdeal.τ).loc Cert.InProjReferenceIdeal.main_arg12) = m ((c.tc : Thread Cert.InProjIdeal.nD Cert.InProjIdeal.τ).loc Cert.InProjIdeal.main_arg12)
      ∧ m' ((c.tc : Thread Cert.InProjReferenceIdeal.nD Cert.InProjReferenceIdeal.τ).loc Cert.InProjReferenceIdeal.main_arg13) = m ((c.tc : Thread Cert.InProjIdeal.nD Cert.InProjIdeal.τ).loc Cert.InProjIdeal.main_arg13)
      ∧ m' ((c.tc : Thread Cert.InProjReferenceIdeal.nD Cert.InProjReferenceIdeal.τ).loc Cert.InProjReferenceIdeal.main_arg14) = m ((c.tc : Thread Cert.InProjIdeal.nD Cert.InProjIdeal.τ).loc Cert.InProjIdeal.main_arg14)
      ∧ m' ((c.tc : Thread Cert.InProjReferenceIdeal.nD Cert.InProjReferenceIdeal.τ).loc Cert.InProjReferenceIdeal.main_arg15) = m ((c.tc : Thread Cert.InProjIdeal.nD Cert.InProjIdeal.τ).loc Cert.InProjIdeal.main_arg15)
      ∧ m' ((c.tc : Thread Cert.InProjReferenceIdeal.nD Cert.InProjReferenceIdeal.τ).loc Cert.InProjReferenceIdeal.main_arg16) = m ((c.tc : Thread Cert.InProjIdeal.nD Cert.InProjIdeal.τ).loc Cert.InProjIdeal.main_arg16)
      ∧ m' ((c.tc : Thread Cert.InProjReferenceIdeal.nD Cert.InProjReferenceIdeal.τ).loc Cert.InProjReferenceIdeal.main_arg17) = m ((c.tc : Thread Cert.InProjIdeal.nD Cert.InProjIdeal.τ).loc Cert.InProjIdeal.main_arg17)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)) (v3 : (c : Dev Cert.InProjIdeal.nD) → Buf (Elt Ideal) ((c.tc : Thread Cert.InProjIdeal.nD Cert.InProjIdeal.τ).loc Cert.InProjIdeal.main_v16_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_v16_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
          ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11)
          ∧ r.2.mem ((c.tc : Thread Cert.InProjIdeal.nD Cert.InProjIdeal.τ).loc Cert.InProjIdeal.main_arg12) = m ((c.tc : Thread Cert.InProjIdeal.nD Cert.InProjIdeal.τ).loc Cert.InProjIdeal.main_arg12)
          ∧ r.2.mem ((c.tc : Thread Cert.InProjIdeal.nD Cert.InProjIdeal.τ).loc Cert.InProjIdeal.main_arg13) = m ((c.tc : Thread Cert.InProjIdeal.nD Cert.InProjIdeal.τ).loc Cert.InProjIdeal.main_arg13)
          ∧ r.2.mem ((c.tc : Thread Cert.InProjIdeal.nD Cert.InProjIdeal.τ).loc Cert.InProjIdeal.main_arg14) = m ((c.tc : Thread Cert.InProjIdeal.nD Cert.InProjIdeal.τ).loc Cert.InProjIdeal.main_arg14)
          ∧ r.2.mem ((c.tc : Thread Cert.InProjIdeal.nD Cert.InProjIdeal.τ).loc Cert.InProjIdeal.main_arg15) = m ((c.tc : Thread Cert.InProjIdeal.nD Cert.InProjIdeal.τ).loc Cert.InProjIdeal.main_arg15)
          ∧ r.2.mem ((c.tc : Thread Cert.InProjIdeal.nD Cert.InProjIdeal.τ).loc Cert.InProjIdeal.main_arg16) = m ((c.tc : Thread Cert.InProjIdeal.nD Cert.InProjIdeal.τ).loc Cert.InProjIdeal.main_arg16)
          ∧ r.2.mem ((c.tc : Thread Cert.InProjIdeal.nD Cert.InProjIdeal.τ).loc Cert.InProjIdeal.main_arg17) = m ((c.tc : Thread Cert.InProjIdeal.nD Cert.InProjIdeal.τ).loc Cert.InProjIdeal.main_arg17))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v269) = v0 c
          ∧ r.2.mem ((c.tc : Thread Cert.InProjReferenceIdeal.nD Cert.InProjReferenceIdeal.τ).loc Cert.InProjReferenceIdeal.main_v252) = v1 c
          ∧ r.2.mem ((c.tc : Thread Cert.InProjReferenceIdeal.nD Cert.InProjReferenceIdeal.τ).loc Cert.InProjReferenceIdeal.main_v271) = v2 c
          ∧ r.2.mem ((c.tc : Thread Cert.InProjReferenceIdeal.nD Cert.InProjReferenceIdeal.τ).loc Cert.InProjReferenceIdeal.main_v274) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8)
          ∧ r.2.mem ((c.tc : Thread Cert.InProjReferenceIdeal.nD Cert.InProjReferenceIdeal.τ).loc Cert.InProjReferenceIdeal.main_arg9) = m' ((c.tc : Thread Cert.InProjReferenceIdeal.nD Cert.InProjReferenceIdeal.τ).loc Cert.InProjReferenceIdeal.main_arg9)
          ∧ r.2.mem ((c.tc : Thread Cert.InProjReferenceIdeal.nD Cert.InProjReferenceIdeal.τ).loc Cert.InProjReferenceIdeal.main_arg10) = m' ((c.tc : Thread Cert.InProjReferenceIdeal.nD Cert.InProjReferenceIdeal.τ).loc Cert.InProjReferenceIdeal.main_arg10)
          ∧ r.2.mem ((c.tc : Thread Cert.InProjReferenceIdeal.nD Cert.InProjReferenceIdeal.τ).loc Cert.InProjReferenceIdeal.main_arg11) = m' ((c.tc : Thread Cert.InProjReferenceIdeal.nD Cert.InProjReferenceIdeal.τ).loc Cert.InProjReferenceIdeal.main_arg11)
          ∧ r.2.mem ((c.tc : Thread Cert.InProjReferenceIdeal.nD Cert.InProjReferenceIdeal.τ).loc Cert.InProjReferenceIdeal.main_arg12) = m' ((c.tc : Thread Cert.InProjReferenceIdeal.nD Cert.InProjReferenceIdeal.τ).loc Cert.InProjReferenceIdeal.main_arg12)
          ∧ r.2.mem ((c.tc : Thread Cert.InProjReferenceIdeal.nD Cert.InProjReferenceIdeal.τ).loc Cert.InProjReferenceIdeal.main_arg13) = m' ((c.tc : Thread Cert.InProjReferenceIdeal.nD Cert.InProjReferenceIdeal.τ).loc Cert.InProjReferenceIdeal.main_arg13)
          ∧ r.2.mem ((c.tc : Thread Cert.InProjReferenceIdeal.nD Cert.InProjReferenceIdeal.τ).loc Cert.InProjReferenceIdeal.main_arg14) = m' ((c.tc : Thread Cert.InProjReferenceIdeal.nD Cert.InProjReferenceIdeal.τ).loc Cert.InProjReferenceIdeal.main_arg14)
          ∧ r.2.mem ((c.tc : Thread Cert.InProjReferenceIdeal.nD Cert.InProjReferenceIdeal.τ).loc Cert.InProjReferenceIdeal.main_arg15) = m' ((c.tc : Thread Cert.InProjReferenceIdeal.nD Cert.InProjReferenceIdeal.τ).loc Cert.InProjReferenceIdeal.main_arg15)
          ∧ r.2.mem ((c.tc : Thread Cert.InProjReferenceIdeal.nD Cert.InProjReferenceIdeal.τ).loc Cert.InProjReferenceIdeal.main_arg16) = m' ((c.tc : Thread Cert.InProjReferenceIdeal.nD Cert.InProjReferenceIdeal.τ).loc Cert.InProjReferenceIdeal.main_arg16)
          ∧ r.2.mem ((c.tc : Thread Cert.InProjReferenceIdeal.nD Cert.InProjReferenceIdeal.τ).loc Cert.InProjReferenceIdeal.main_arg17) = m' ((c.tc : Thread Cert.InProjReferenceIdeal.nD Cert.InProjReferenceIdeal.τ).loc Cert.InProjReferenceIdeal.main_arg17))

def preserves_Attn_AttnIdeal : Prop :=
  IdealRules.named_const.Statement Cert.AttnIdeal.κ "mask" .f32 0xF149F2CA#32 ⊥

def algebraic_AttnIdeal_AttnReferenceIdeal_pre_attn_finite [hAttnIdeal : Cert.AttnIdeal.Facts] [hAttnReferenceIdeal : Cert.AttnReferenceIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_attn_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v54_0)) (v1 : (c : Dev Cert.AttnIdeal.nD) → Buf (Elt Ideal) ((c.tc : Thread Cert.AttnIdeal.nD Cert.AttnIdeal.τ).loc Cert.AttnIdeal.main_v54_1)) (v2 : (c : Dev Cert.AttnIdeal.nD) → Buf (Elt Ideal) ((c.tc : Thread Cert.AttnIdeal.nD Cert.AttnIdeal.τ).loc Cert.AttnIdeal.main_v54_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v54_0) = v0 c
          ∧ r.2.mem ((c.tc : Thread Cert.AttnIdeal.nD Cert.AttnIdeal.τ).loc Cert.AttnIdeal.main_v54_1) = v1 c
          ∧ r.2.mem ((c.tc : Thread Cert.AttnIdeal.nD Cert.AttnIdeal.τ).loc Cert.AttnIdeal.main_v54_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v77) = v0 c
          ∧ r.2.mem ((c.tc : Thread Cert.AttnReferenceIdeal.nD Cert.AttnReferenceIdeal.τ).loc Cert.AttnReferenceIdeal.main_v78) = v1 c
          ∧ r.2.mem ((c.tc : Thread Cert.AttnReferenceIdeal.nD Cert.AttnReferenceIdeal.τ).loc Cert.AttnReferenceIdeal.main_v79) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7))

def Claim : Prop :=
  ∃ (hHidden : Cert.Hidden.Facts) (hHiddenIdeal : Cert.HiddenIdeal.Facts) (hHiddenReferenceIdeal : Cert.HiddenReferenceIdeal.Facts) (hGateUp : Cert.GateUp.Facts) (hGateUpIdeal : Cert.GateUpIdeal.Facts) (hGateUpReferenceIdeal : Cert.GateUpReferenceIdeal.Facts) (hInput : Cert.Input.Facts) (hInputIdeal : Cert.InputIdeal.Facts) (hInputReferenceIdeal : Cert.InputReferenceIdeal.Facts) (hLoss : Cert.Loss.Facts) (hLossIdeal : Cert.LossIdeal.Facts) (hLossReferenceIdeal : Cert.LossReferenceIdeal.Facts) (hOutProj : Cert.OutProj.Facts) (hOutProjIdeal : Cert.OutProjIdeal.Facts) (hOutProjReferenceIdeal : Cert.OutProjReferenceIdeal.Facts) (hInProj : Cert.InProj.Facts) (hInProjIdeal : Cert.InProjIdeal.Facts) (hInProjReferenceIdeal : Cert.InProjReferenceIdeal.Facts) (hAttn : Cert.Attn.Facts) (hAttnIdeal : Cert.AttnIdeal.Facts) (hAttnReferenceIdeal : Cert.AttnReferenceIdeal.Facts) (hPre_hidden_finite : Cert.Pre_hidden_finite.Facts) (hPre_attn_finite : Cert.Pre_attn_finite.Facts),
    quiescent_Hidden (hHidden := hHidden)
    ∧ quiescent_HiddenIdeal (hHiddenIdeal := hHiddenIdeal)
    ∧ quiescent_HiddenIdeal_pre_hidden_finite (hHiddenIdeal := hHiddenIdeal) (hPre_hidden_finite := hPre_hidden_finite)
    ∧ quiescent_HiddenReferenceIdeal (hHiddenReferenceIdeal := hHiddenReferenceIdeal)
    ∧ quiescent_HiddenReferenceIdeal_pre_hidden_finite (hHiddenReferenceIdeal := hHiddenReferenceIdeal) (hPre_hidden_finite := hPre_hidden_finite)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Input (hInput := hInput)
    ∧ quiescent_InputIdeal (hInputIdeal := hInputIdeal)
    ∧ quiescent_InputReferenceIdeal (hInputReferenceIdeal := hInputReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ preserves_Hidden_HiddenIdeal
    ∧ algebraic_HiddenIdeal_HiddenReferenceIdeal_pre_hidden_finite (hHiddenIdeal := hHiddenIdeal) (hHiddenReferenceIdeal := hHiddenReferenceIdeal) (hPre_hidden_finite := hPre_hidden_finite)
    ∧ preserves_GateUp_GateUpIdeal
    ∧ algebraic_GateUpIdeal_GateUpReferenceIdeal (hGateUpIdeal := hGateUpIdeal) (hGateUpReferenceIdeal := hGateUpReferenceIdeal)
    ∧ preserves_Input_InputIdeal
    ∧ algebraic_InputIdeal_InputReferenceIdeal (hInputIdeal := hInputIdeal) (hInputReferenceIdeal := hInputReferenceIdeal)
    ∧ preserves_Loss_LossIdeal
    ∧ algebraic_LossIdeal_LossReferenceIdeal (hLossIdeal := hLossIdeal) (hLossReferenceIdeal := hLossReferenceIdeal)
    ∧ preserves_OutProj_OutProjIdeal
    ∧ algebraic_OutProjIdeal_OutProjReferenceIdeal (hOutProjIdeal := hOutProjIdeal) (hOutProjReferenceIdeal := hOutProjReferenceIdeal)
    ∧ preserves_InProj_InProjIdeal
    ∧ algebraic_InProjIdeal_InProjReferenceIdeal (hInProjIdeal := hInProjIdeal) (hInProjReferenceIdeal := hInProjReferenceIdeal)
    ∧ preserves_Attn_AttnIdeal
    ∧ algebraic_AttnIdeal_AttnReferenceIdeal_pre_attn_finite (hAttnIdeal := hAttnIdeal) (hAttnReferenceIdeal := hAttnReferenceIdeal) (hPre_attn_finite := hPre_attn_finite)
-- ==== Pre_attn_finite.lean ====
abbrev S8192x512 : Shape := ⟨2, ![8192, 512]⟩
abbrev S8192x8 : Shape := ⟨2, ![8192, 8]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn_part2 {F : FTy → Type} [FloatOps F] (main_arg7 : FVec F S8192x8 .f32) (main_v33 : IVec S_ 1) (main_v35 : FVec F S8192x512 .f32) : IVec S_ 1 :=
  let main_cst_10 : FVec F S_ .f32 := constant S_ .f32 0x7F800000#32
  let main_v36 : FVec F S8192x512 .f32 := broadcastInDim S8192x512 ![] bcast_S_S8192x512 main_cst_10
  let main_v37 : IVec S8192x512 1 := cmpf .olt main_v35 main_v36
  let main_c_11 : IVec S_ 1 := constantI S_ 1 1#1
  let main_v38 : IVec S_ 1 := (fun x v => Host.reduce IntOp.andi x v reducesTo_S8192x512_S_d0_1 h_S_) main_v37 main_c_11
  let main_v39 : IVec S_ 1 := andi main_v33 main_v38
  let main_v40 : FVec F S8192x8 .f32 := Host.absf main_arg7
  let main_cst_12 : FVec F S_ .f32 := constant S_ .f32 0x7F800000#32
  let main_v41 : FVec F S8192x8 .f32 := broadcastInDim S8192x8 ![] bcast_S_S8192x8 main_cst_12
  let main_v42 : IVec S8192x8 1 := cmpf .olt main_v40 main_v41
  let main_c_13 : IVec S_ 1 := constantI S_ 1 1#1
  let main_v43 : IVec S_ 1 := (fun x v => Host.reduce IntOp.andi x v reducesTo_S8192x8_S_d0_1 h_S_) main_v42 main_c_13
  let main_v44 : IVec S_ 1 := andi main_v39 main_v43
  main_v44

def fn_part1 {F : FTy → Type} [FloatOps F] (main_arg4 : FVec F S8192x512 .bf16) (main_arg5 : FVec F S8192x8 .f32) (main_arg6 : FVec F S8192x512 .bf16) (main_arg7 : FVec F S8192x8 .f32) (main_v16 : IVec S_ 1) (main_v17 : FVec F S8192x512 .f32) : IVec S_ 1 :=
  let main_v18 : FVec F S8192x512 .f32 := Host.absf main_v17
  let main_cst_4 : FVec F S_ .f32 := constant S_ .f32 0x7F800000#32
  let main_v19 : FVec F S8192x512 .f32 := broadcastInDim S8192x512 ![] bcast_S_S8192x512 main_cst_4
  let main_v20 : IVec S8192x512 1 := cmpf .olt main_v18 main_v19
  let main_c_5 : IVec S_ 1 := constantI S_ 1 1#1
  let main_v21 : IVec S_ 1 := (fun x v => Host.reduce IntOp.andi x v reducesTo_S8192x512_S_d0_1 h_S_) main_v20 main_c_5
  let main_v22 : IVec S_ 1 := andi main_v16 main_v21
  let main_v23 : FVec F S8192x512 .f32 := (extf .f32 · bitsLt_bf16_f32) main_arg4
  let main_v24 : FVec F S8192x512 .f32 := Host.absf main_v23
  let main_cst_6 : FVec F S_ .f32 := constant S_ .f32 0x7F800000#32
  let main_v25 : FVec F S8192x512 .f32 := broadcastInDim S8192x512 ![] bcast_S_S8192x512 main_cst_6
  let main_v26 : IVec S8192x512 1 := cmpf .olt main_v24 main_v25
  let main_c_7 : IVec S_ 1 := constantI S_ 1 1#1
  let main_v27 : IVec S_ 1 := (fun x v => Host.reduce IntOp.andi x v reducesTo_S8192x512_S_d0_1 h_S_) main_v26 main_c_7
  let main_v28 : IVec S_ 1 := andi main_v22 main_v27
  let main_v29 : FVec F S8192x8 .f32 := Host.absf main_arg5
  let main_cst_8 : FVec F S_ .f32 := constant S_ .f32 0x7F800000#32
  let main_v30 : FVec F S8192x8 .f32 := broadcastInDim S8192x8 ![] bcast_S_S8192x8 main_cst_8
  let main_v31 : IVec S8192x8 1 := cmpf .olt main_v29 main_v30
  let main_c_9 : IVec S_ 1 := constantI S_ 1 1#1
  let main_v32 : IVec S_ 1 := (fun x v => Host.reduce IntOp.andi x v reducesTo_S8192x8_S_d0_1 h_S_) main_v31 main_c_9
  let main_v33 : IVec S_ 1 := andi main_v28 main_v32
  let main_v34 : FVec F S8192x512 .f32 := (extf .f32 · bitsLt_bf16_f32) main_arg6
  let main_v35 : FVec F S8192x512 .f32 := Host.absf main_v34
  fn_part2 (F := F) main_arg7 main_v33 main_v35

def fn {F : FTy → Type} [FloatOps F] (main_arg0 : FVec F S8192x512 .bf16) (main_arg1 : FVec F S8192x512 .bf16) (main_arg2 : FVec F S8192x512 .bf16) (main_arg3 : FVec F S8192x512 .bf16) (main_arg4 : FVec F S8192x512 .bf16) (main_arg5 : FVec F S8192x8 .f32) (main_arg6 : FVec F S8192x512 .bf16) (main_arg7 : FVec F S8192x8 .f32) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  let main_v11 : FVec F S8192x512 .f32 := (extf .f32 · bitsLt_bf16_f32) main_arg2
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v10 main_v15
  let main_v17 : FVec F S8192x512 .f32 := (extf .f32 · bitsLt_bf16_f32) main_arg3
  fn_part1 (F := F) main_arg4 main_arg5 main_arg6 main_arg7 main_v16 main_v17
-- ==== Pre_hidden_finite.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2816 .f32) (main_arg1 : FVec F S8192x2816 .f32) (main_arg2 : FVec F S2816x1024 .bf16) (main_arg3 : FVec F S8192x1024 .bf16) : IVec S_ 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := (extf .f32 · bitsLt_bf16_f32) main_arg2
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x1024 .f32 := (extf .f32 · bitsLt_bf16_f32) main_arg3
  let main_v11 : FVec F S8192x1024 .f32 := Host.absf main_v10
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v9 main_v14
  main_v15
-- ==== Hidden.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 29
  | .vmem => 17
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .bf16⟩
  | .hbm, ⟨3, _⟩ => ⟨S8192x1024, .bf16⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S8192x2816, .bf16⟩
  | .hbm, ⟨27, _⟩ => ⟨S8192x2816, .bf16⟩
  | .hbm, ⟨28, _⟩ => ⟨S2816x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S1408x1024, .bf16⟩
  | .local _ .vmem, ⟨15, _⟩ => ⟨S1408x1024, .bf16⟩
  | .local _ .vmem, ⟨16, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_16 : BitVec 32 := 0#32
  let v26 : BitVec 1 := Scalar.cmpi .ne v25 c0_i32_16
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== HiddenReferenceIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 33
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .bf16⟩
  | .hbm, ⟨3, _⟩ => ⟨S8192x1024, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x1024, .f32⟩
  | .hbm, ⟨21, _⟩ => ⟨S1024x2816, .f32⟩
  | .hbm, ⟨22, _⟩ => ⟨S2816x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | .hbm, ⟨32, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== GateUp.lean ====
abbrev S8192x1024 : Shape := ⟨2, ![8192, 1024]⟩
abbrev S8192x2816 : Shape := ⟨2, ![8192, 2816]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S2816x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .f32⟩
  | .local _ .vmem, ⟨11, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond5 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GateUpReferenceIdeal.lean ====
abbrev S8192x1024 : Shape := ⟨2, ![8192, 1024]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S2816x1024, .f32⟩
  | .hbm, ⟨8, _⟩ => ⟨S1024x2816, .f32⟩
  | .hbm, ⟨9, _⟩ => ⟨S8192x2816, .f32⟩
  | .hbm, ⟨10, _⟩ => ⟨S1024x2816, .f32⟩
  | .hbm, ⟨11, _⟩ => ⟨S8192x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | .hbm, ⟨19, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Input.lean ====
abbrev S8192x1024 : Shape := ⟨2, ![8192, 1024]⟩
abbrev S1x1024 : Shape := ⟨2, ![1, 1024]⟩
abbrev S8192x2816 : Shape := ⟨2, ![8192, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x2816, .bf16⟩
  | .hbm, ⟨4, _⟩ => ⟨S8192x2816, .bf16⟩
  | .hbm, ⟨5, _⟩ => ⟨S2816x1024, .bf16⟩
  | .hbm, ⟨6, _⟩ => ⟨S2816x1024, .bf16⟩
  | .hbm, ⟨7, _⟩ => ⟨S8192x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_22 : BitVec 32 := 0#32
  let v42 : BitVec 1 := Scalar.cmpi .ne v41 c0_i32_22
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InputReferenceIdeal.lean ====
abbrev S8192x1024 : Shape := ⟨2, ![8192, 1024]⟩
abbrev S1x1024 : Shape := ⟨2, ![1, 1024]⟩
abbrev S8192x2816 : Shape := ⟨2, ![8192, 2816]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x2816, .bf16⟩
  | .hbm, ⟨4, _⟩ => ⟨S8192x2816, .bf16⟩
  | .hbm, ⟨5, _⟩ => ⟨S2816x1024, .bf16⟩
  | .hbm, ⟨6, _⟩ => ⟨S2816x1024, .bf16⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S512x1024 : Shape := ⟨2, ![512, 1024]⟩
abbrev S512x1408 : Shape := ⟨2, ![512, 1408]⟩
abbrev S512x2816 : Shape := ⟨2, ![512, 2816]⟩
abbrev S512 : Shape := ⟨1, ![512]⟩
abbrev S512x1 : Shape := ⟨2, ![512, 1]⟩
abbrev S1408x1024 : Shape := ⟨2, ![1408, 1024]⟩
abbrev S1024 : Shape := ⟨1, ![1024]⟩

abbrev nBuf : Space → Nat
  | .hbm => 15
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .bf16⟩
  | .hbm, ⟨11, _⟩ => ⟨S8192x1024, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1024, .bf16⟩
  | .local _ .vmem, ⟨24, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1408_i32 : BitVec 32 := 1408#32
  let v4 : BitVec 32 := Scalar.muli arg1 c1408_i32
  v4
def k0_off1 (i : grid0.Coords) : Fin 2 → Nat :=
  let arg1 : BitVec 32 := BitVec.ofNat 32 (i 1).val
  let c1408_i32 : BitVec 32 := 1408#32
  let v4 : BitVec 32 := Scalar.muli arg1 c1408_i32
  let v5 : BitVec 32 := v4
  let v6 : Index := Scalar.indexCast v5
  let c0_2 : Index := 0#32
  ![v6.toNat, 0]
def k0_cond4 (i : grid0.Coords) : BitVec 1 :=
  let arg1 : BitVec 32 := BitVec.ofNat 32 (i 1).val
  let c1_i32_16 : BitVec 32 := 1#32
  let v34 : BitVec 1 := Scalar.cmpi .eq arg1 c1_i32_16
  let v35 : BitVec 32 := Scalar.extui v34
  let c0_i32_17 : BitVec 32 := 0#32
  let v36 : BitVec 1 := Scalar.cmpi .ne v35 c0_i32_17
  v36

def k0_cond5 (i : grid0.Coords) : BitVec 1 :=
  let arg0 : BitVec 32 := BitVec.ofNat 32 (i 0).val
  let c0_i32_31 : BitVec 32 := 0#32
  let v53 : BitVec 1 := Scalar.cmpi .eq arg0 c0_i32_31
  let v87 : BitVec 32 := Scalar.extui v53
  let c0_i32_43 : BitVec 32 := 0#32
  let v88 : BitVec 1 := Scalar.cmpi .ne v87 c0_i32_43
  v88

def k0_cond6 (i : grid0.Coords) : BitVec 1 :=
  let arg0 : BitVec 32 := BitVec.ofNat 32 (i 0).val
  let c0_i32_31 : BitVec 32 := 0#32
  let v53 : BitVec 1 := Scalar.cmpi .eq arg0 c0_i32_31
  let v_true : BitVec 1 := 1#1
  let v89 : BitVec 1 := Scalar.xori v53 v_true
  let v90 : BitVec 32 := Scalar.extui v89
  let c0_i32_44 : BitVec 32 := 0#32
  let v91 : BitVec 1 := Scalar.cmpi .ne v90 c0_i32_44
  v91

def k0_cond7 (i : grid0.Coords) : BitVec 1 :=
  let arg0 : BitVec 32 := BitVec.ofNat 32 (i 0).val
  let c0_i32_31 : BitVec 32 := 0#32
  let v53 : BitVec 1 := Scalar.cmpi .eq arg0 c0_i32_31
  let v95 : BitVec 32 := Scalar.extui v53
  let c0_i32_46 : BitVec 32 := 0#32
  let v96 : BitVec 1 := Scalar.cmpi .ne v95 c0_i32_46
  v96

def k0_cond8 (i : grid0.Coords) : BitVec 1 :=
  let arg0 : BitVec 32 := BitVec.ofNat 32 (i 0).val
  let c0_i32_31 : BitVec 32 := 0#32
  let v53 : BitVec 1 := Scalar.cmpi .eq arg0 c0_i32_31
  let true_47 : BitVec 1 := 1#1
  let v97 : BitVec 1 := Scalar.xori v53 true_47
  let v98 : BitVec 32 := Scalar.extui v97
  let c0_i32_48 : BitVec 32 := 0#32
  let v99 : BitVec 1 := Scalar.cmpi .ne v98 c0_i32_48
  v99

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1408 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== LossReferenceIdeal.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S1024 : Shape := ⟨1, ![1024]⟩

abbrev nBuf : Space → Nat
  | .hbm => 149
  | .vmem => 0
  | .smem => 0
  | _ => 0

abbrev hbmTy0_0 (i : Nat) : BufTy := match i % 128 with
  | 0 => ⟨S8192x1024, .f32⟩
  | 1 => ⟨S1x1024, .f32⟩
  | 2 => ⟨S2816x1024, .bf16⟩
  | 3 => ⟨S2816x1024, .bf16⟩
  | 4 => ⟨S2816x1024, .bf16⟩
  | 5 => ⟨S1x1024, .f32⟩
  | 6 => ⟨S8192x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S8192x1024, .f32⟩
  | 21 => ⟨S8192x1024, .f32⟩
  | 22 => ⟨S2816x1024, .f32⟩
  | 23 => ⟨S1024x2816, .f32⟩
  | 24 => ⟨S8192x2816, .f32⟩
  | 25 => ⟨S2816x1024, .f32⟩
  | 26 => ⟨S1024x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S2816x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192, .f32⟩
  | 74 => ⟨S_, .f32⟩
  | 75 => ⟨S8192, .f32⟩
  | 76 => ⟨S8192, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S8192, .f32⟩
  | 85 => ⟨S_, .f32⟩
  | 86 => ⟨S8192, .f32⟩
  | 87 => ⟨S8192, .f32⟩
  | 88 => ⟨S8192x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192x1, .f32⟩
  | 122 => ⟨S8192x1, .f32⟩
  | 123 => ⟨S8192x1, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S1024, .f32⟩
  | 4 => ⟨S1x1024, .f32⟩
  | 5 => ⟨S_, .f32⟩
  | 6 => ⟨S8192x2816, .f32⟩
  | 7 => ⟨S8192x2816, .f32⟩
  | 8 => ⟨S8192x2816, .f32⟩
  | 9 => ⟨S8192x2816, .f32⟩
  | 10 => ⟨S8192x2816, .f32⟩
  | 11 => ⟨S8192x2816, .f32⟩
  | 12 => ⟨S8192x2816, .f32⟩
  | 13 => ⟨S_, .f32⟩
  | 14 => ⟨S8192x1024, .f32⟩
  | 15 => ⟨S8192x1024, .f32⟩
  | 16 => ⟨S8192x1024, .bf16⟩
  | 17 => ⟨S8192x1024, .bf16⟩
  | 18 => ⟨S8192x2816, .bf16⟩
  | 19 => ⟨S8192x2816, .bf16⟩
  | 20 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_cst_12 : Ref sig .tc := ⟨.hbm, 81, rfl⟩
abbrev main_cst_13 : Ref sig .tc := ⟨.hbm, 82, rfl⟩
abbrev main_v49 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_16 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_17 : Ref sig .tc := ⟨.hbm, 103, rfl⟩
abbrev main_v66 : Ref sig .tc := ⟨.hbm, 104, rfl⟩
abbrev main_v67 : Ref sig .tc := ⟨.hbm, 105, rfl⟩
abbrev main_cst_18 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_19 : Ref sig .tc := ⟨.hbm, 114, rfl⟩
abbrev main_v75 : Ref sig .tc := ⟨.hbm, 115, rfl⟩
abbrev main_v76 : Ref sig .tc := ⟨.hbm, 116, rfl⟩
abbrev main_cst_20 : Ref sig .tc := ⟨.hbm, 117, rfl⟩
abbrev main_v77 : Ref sig .tc := ⟨.hbm, 118, rfl⟩
abbrev main_v78 : Ref sig .tc := ⟨.hbm, 119, rfl⟩
abbrev main_cst_21 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_22 : Ref sig .tc := ⟨.hbm, 130, rfl⟩
abbrev main_v88 : Ref sig .tc := ⟨.hbm, 131, rfl⟩
abbrev main_v89 : Ref sig .tc := ⟨.hbm, 132, rfl⟩
abbrev main_cst_23 : Ref sig .tc := ⟨.hbm, 133, rfl⟩
abbrev main_v90 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩

abbrev nD : Nat := 1
abbrev τ : Topo := Topo.v7x

variable {F : FTy → Type} [FloatOps F]
-- ==== OutProj.lean ====
abbrev S8192x1024 : Shape := ⟨2, ![8192, 1024]⟩
abbrev S8192x512 : Shape := ⟨2, ![8192, 512]⟩
abbrev S1024x1024 : Shape := ⟨2, ![1024, 1024]⟩
abbrev S4x2048x512 : Shape := ⟨3, ![4, 2048, 512]⟩
abbrev S16x512x512 : Shape := ⟨3, ![16, 512, 512]⟩
abbrev S512x1024 : Shape := ⟨2, ![512, 1024]⟩
abbrev S512x512 : Shape := ⟨2, ![512, 512]⟩
abbrev S4x128x512 : Shape := ⟨3, ![4, 128, 512]⟩
abbrev S16x32x512 : Shape := ⟨3, ![16, 32, 512]⟩
abbrev S512x128 : Shape := ⟨2, ![512, 128]⟩
abbrev S128x128 : Shape := ⟨2, ![128, 128]⟩
abbrev S1x128x128 : Shape := ⟨3, ![1, 128, 128]⟩
abbrev S32x128 : Shape := ⟨2, ![32, 128]⟩
abbrev S1x32x128 : Shape := ⟨3, ![1, 32, 128]⟩

abbrev nBuf : Space → Nat
  | .hbm => 9
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S8192x512, .bf16⟩
  | .hbm, ⟨5, _⟩ => ⟨S8192x512, .bf16⟩
  | .hbm, ⟨6, _⟩ => ⟨S1024x1024, .bf16⟩
  | .hbm, ⟨7, _⟩ => ⟨S4x2048x512, .bf16⟩
  | .hbm, ⟨8, _⟩ => ⟨S16x512x512, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1024x1024, .bf16⟩
  | .local _ .vmem, ⟨12, _⟩ => ⟨S4x128x512, .bf16⟩
  | .local _ .vmem, ⟨13, _⟩ => ⟨S4x128x512, .bf16⟩
  | .local _ .vmem, ⟨14, _⟩ => ⟨S16x32x512, .bf16⟩
  | .local _ .vmem, ⟨15, _⟩ => ⟨S16x32x512, .bf16⟩
  | .local _ .vmem, ⟨16, _⟩ => ⟨S1024x1024, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v436 : BitVec 1 := Scalar.cmpi .eq arg0 c15_i32
  let v437 : BitVec 32 := Scalar.extui v436
  let c0_i32_408 : BitVec 32 := 0#32
  let v438 : BitVec 1 := Scalar.cmpi .ne v437 c0_i32_408
  v438

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjReferenceIdeal.lean ====
abbrev S8192x1024 : Shape := ⟨2, ![8192, 1024]⟩
abbrev S8192x512 : Shape := ⟨2, ![8192, 512]⟩
abbrev S1024x1024 : Shape := ⟨2, ![1024, 1024]⟩
abbrev S2048x4x512 : Shape := ⟨3, ![2048, 4, 512]⟩
abbrev S4x2048x512 : Shape := ⟨3, ![4, 2048, 512]⟩
abbrev S512x16x512 : Shape := ⟨3, ![512, 16, 512]⟩
abbrev S16x512x512 : Shape := ⟨3, ![16, 512, 512]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S8192x512, .f32⟩
  | .hbm, ⟨5, _⟩ => ⟨S8192x512, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S8192x1024, .f32⟩
  | .hbm, ⟨12, _⟩ => ⟨S8192x512, .f32⟩
  | .hbm, ⟨13, _⟩ => ⟨S8192x512, .f32⟩
  | .hbm, ⟨14, _⟩ => ⟨S2048x4x512, .f32⟩
  | .hbm, ⟨15, _⟩ => ⟨S4x2048x512, .f32⟩
  | .hbm, ⟨16, _⟩ => ⟨S512x16x512, .f32⟩
  | .hbm, ⟨17, _⟩ => ⟨S16x512x512, .f32⟩
  | .hbm, ⟨18, _⟩ => ⟨S8192x512, .bf16⟩
  | .hbm, ⟨19, _⟩ => ⟨S8192x512, .bf16⟩
  | .hbm, ⟨20, _⟩ => ⟨S1024x1024, .bf16⟩
  | .hbm, ⟨21, _⟩ => ⟨S4x2048x512, .bf16⟩
  | .hbm, ⟨22, _⟩ => ⟨S16x512x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S2304x1024 : Shape := ⟨2, ![2304, 1024]⟩
abbrev S8192x32 : Shape := ⟨2, ![8192, 32]⟩
abbrev S8192x512 : Shape := ⟨2, ![8192, 512]⟩
abbrev S2x8192x128 : Shape := ⟨3, ![2, 8192, 128]⟩
abbrev S4x2048x512 : Shape := ⟨3, ![4, 2048, 512]⟩
abbrev S16x512x512 : Shape := ⟨3, ![16, 512, 512]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S512x1024 : Shape := ⟨2, ![512, 1024]⟩
abbrev S512x128 : Shape := ⟨2, ![512, 128]⟩
abbrev S512x512 : Shape := ⟨2, ![512, 512]⟩
abbrev S2x512x128 : Shape := ⟨3, ![2, 512, 128]⟩
abbrev S4x128x512 : Shape := ⟨3, ![4, 128, 512]⟩
abbrev S16x32x512 : Shape := ⟨3, ![16, 32, 512]⟩
abbrev S512x2304 : Shape := ⟨2, ![512, 2304]⟩
abbrev S1x128 : Shape := ⟨2, ![1, 128]⟩
abbrev S1x512 : Shape := ⟨2, ![1, 512]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩
abbrev S512x768 : Shape := ⟨2, ![512, 768]⟩
abbrev S768x1024 : Shape := ⟨2, ![768, 1024]⟩
abbrev S512 : Shape := ⟨1, ![512]⟩
abbrev S512x1 : Shape := ⟨2, ![512, 1]⟩
abbrev S1024 : Shape := ⟨1, ![1024]⟩

abbrev nBuf : Space → Nat
  | .hbm => 41
  | .vmem => 48
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2304x1024, .bf16⟩
  | .hbm, ⟨4, _⟩ => ⟨S8192x32, .f32⟩
  | .hbm, ⟨5, _⟩ => ⟨S8192x32, .f32⟩
  | .hbm, ⟨6, _⟩ => ⟨S8192x512, .bf16⟩
  | .hbm, ⟨7, _⟩ => ⟨S2x8192x128, .bf16⟩
  | .hbm, ⟨8, _⟩ => ⟨S2x8192x128, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S4x2048x512, .bf16⟩
  | .hbm, ⟨13, _⟩ => ⟨S4x2048x512, .bf16⟩
  | .hbm, ⟨14, _⟩ => ⟨S4x2048x512, .bf16⟩
  | .hbm, ⟨15, _⟩ => ⟨S16x512x512, .bf16⟩
  | .hbm, ⟨16, _⟩ => ⟨S16x512x512, .bf16⟩
  | .hbm, ⟨17, _⟩ => ⟨S16x512x512, .bf16⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x128, .f32⟩
  | .hbm, ⟨35, _⟩ => ⟨S8192x32, .f32⟩
  | .hbm, ⟨36, _⟩ => ⟨S8192x128, .f32⟩
  | .hbm, ⟨37, _⟩ => ⟨S8192x1024, .f32⟩
  | .hbm, ⟨38, _⟩ => ⟨S1x1024, .f32⟩
  | .hbm, ⟨39, _⟩ => ⟨S2304x1024, .bf16⟩
  | .hbm, ⟨40, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2304x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S2x512x128, .bf16⟩
  | .local _ .vmem, ⟨15, _⟩ => ⟨S2x512x128, .bf16⟩
  | .local _ .vmem, ⟨16, _⟩ => ⟨S2x512x128, .bf16⟩
  | .local _ .vmem, ⟨17, _⟩ => ⟨S2x512x128, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x128x512, .bf16⟩
  | .local _ .vmem, ⟨25, _⟩ => ⟨S4x128x512, .bf16⟩
  | .local _ .vmem, ⟨26, _⟩ => ⟨S4x128x512, .bf16⟩
  | .local _ .vmem, ⟨27, _⟩ => ⟨S4x128x512, .bf16⟩
  | .local _ .vmem, ⟨28, _⟩ => ⟨S4x128x512, .bf16⟩
  | .local _ .vmem, ⟨29, _⟩ => ⟨S4x128x512, .bf16⟩
  | .local _ .vmem, ⟨30, _⟩ => ⟨S16x32x512, .bf16⟩
  | .local _ .vmem, ⟨31, _⟩ => ⟨S16x32x512, .bf16⟩
  | .local _ .vmem, ⟨32, _⟩ => ⟨S16x32x512, .bf16⟩
  | .local _ .vmem, ⟨33, _⟩ => ⟨S16x32x512, .bf16⟩
  | .local _ .vmem, ⟨34, _⟩ => ⟨S16x32x512, .bf16⟩
  | .local _ .vmem, ⟨35, _⟩ => ⟨S16x32x512, .bf16⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | .local _ .vmem, ⟨39, _⟩ => ⟨S2304x1024, .bf16⟩
  | .local _ .vmem, ⟨40, _⟩ => ⟨S512x1024, .bf16⟩
  | .local _ .vmem, ⟨41, _⟩ => ⟨S512x1024, .bf16⟩
  | .local _ .vmem, ⟨42, _⟩ => ⟨S512x2304, .bf16⟩
  | .local _ .vmem, ⟨43, _⟩ => ⟨S2304x1024, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev main_v16_2 : Ref sig .tc := ⟨.hbm, 39, rfl⟩
abbrev main_v16_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg22_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_scratch5 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem21_0 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![16], ![false]⟩

def k0_cond7 (i : grid0.Coords) : BitVec 1 :=
  let arg0 : BitVec 32 := BitVec.ofNat 32 (i 0).val
  let c0_i32_1819 : BitVec 32 := 0#32
  let v2232 : BitVec 1 := Scalar.cmpi .eq arg0 c0_i32_1819
  let v2233 : BitVec 32 := Scalar.extui v2232
  let c0_i32_1820 : BitVec 32 := 0#32
  let v2234 : BitVec 1 := Scalar.cmpi .ne v2233 c0_i32_1820
  v2234

def k0_cond8 (i : grid0.Coords) : BitVec 1 :=
  let arg0 : BitVec 32 := BitVec.ofNat 32 (i 0).val
  let c0_i32_1819 : BitVec 32 := 0#32
  let v2232 : BitVec 1 := Scalar.cmpi .eq arg0 c0_i32_1819
  let true_1821 : BitVec 1 := 1#1
  let v2235 : BitVec 1 := Scalar.xori v2232 true_1821
  let v2236 : BitVec 32 := Scalar.extui v2235
  let c0_i32_1822 : BitVec 32 := 0#32
  let v2237 : BitVec 1 := Scalar.cmpi .ne v2236 c0_i32_1822
  v2237

def k0_cond9 (i : grid0.Coords) : BitVec 1 :=
  let arg0 : BitVec 32 := BitVec.ofNat 32 (i 0).val
  let c15_i32 : BitVec 32 := 15#32
  let v2238 : BitVec 1 := Scalar.cmpi .eq arg0 c15_i32
  let v2239 : BitVec 32 := Scalar.extui v2238
  let c0_i32_1823 : BitVec 32 := 0#32
  let v2240 : BitVec 1 := Scalar.cmpi .ne v2239 c0_i32_1823
  v2240

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x32x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x32x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x32x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2304x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InProjReferenceIdeal.lean ====
abbrev S8192x1024 : Shape := ⟨2, ![8192, 1024]⟩
abbrev S1x1024 : Shape := ⟨2, ![1, 1024]⟩
abbrev S2304x1024 : Shape := ⟨2, ![2304, 1024]⟩
abbrev S8192x32 : Shape := ⟨2, ![8192, 32]⟩
abbrev S8192x512 : Shape := ⟨2, ![8192, 512]⟩
abbrev S2x8192x128 : Shape := ⟨3, ![2, 8192, 128]⟩
abbrev S4x2048x512 : Shape := ⟨3, ![4, 2048, 512]⟩
abbrev S16x512x512 : Shape := ⟨3, ![16, 512, 512]⟩
abbrev S1024x2304 : Shape := ⟨2, ![1024, 2304]⟩
abbrev S_ : Shape := ⟨0, ![]⟩
abbrev S8192 : Shape := ⟨1, ![8192]⟩
abbrev S8192x1 : Shape := ⟨2, ![8192, 1]⟩
abbrev S8192x2304 : Shape := ⟨2, ![8192, 2304]⟩
abbrev S8192x128 : Shape := ⟨2, ![8192, 128]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8192x2x64 : Shape := ⟨3, ![8192, 2, 64]⟩
abbrev S8192x2x32 : Shape := ⟨3, ![8192, 2, 32]⟩
abbrev S8192x64 : Shape := ⟨2, ![8192, 64]⟩
abbrev S1x8192x128 : Shape := ⟨3, ![1, 8192, 128]⟩
abbrev S2048x4x512 : Shape := ⟨3, ![2048, 4, 512]⟩
abbrev S512x16x512 : Shape := ⟨3, ![512, 16, 512]⟩
abbrev S1024 : Shape := ⟨1, ![1024]⟩

abbrev nBuf : Space → Nat
  | .hbm => 310
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S2304x1024, .bf16⟩
  | 4 => ⟨S8192x32, .f32⟩
  | 5 => ⟨S8192x32, .f32⟩
  | 6 => ⟨S8192x512, .bf16⟩
  | 7 => ⟨S2x8192x128, .bf16⟩
  | 8 => ⟨S2x8192x128, .bf16⟩
  | 9 => ⟨S8192x512, .bf16⟩
  | 10 => ⟨S8192x512, .bf16⟩
  | 11 => ⟨S8192x512, .bf16⟩
  | 12 => ⟨S4x2048x512, .bf16⟩
  | 13 => ⟨S4x2048x512, .bf16⟩
  | 14 => ⟨S4x2048x512, .bf16⟩
  | 15 => ⟨S16x512x512, .bf16⟩
  | 16 => ⟨S16x512x512, .bf16⟩
  | 17 => ⟨S16x512x512, .bf16⟩
  | 18 => ⟨S8192x512, .f32⟩
  | 19 => ⟨S2x8192x128, .f32⟩
  | 20 => ⟨S2x8192x128, .f32⟩
  | 21 => ⟨S8192x512, .f32⟩
  | 22 => ⟨S8192x512, .f32⟩
  | 23 => ⟨S8192x512, .f32⟩
  | 24 => ⟨S4x2048x512, .f32⟩
  | 25 => ⟨S4x2048x512, .f32⟩
  | 26 => ⟨S4x2048x512, .f32⟩
  | 27 => ⟨S16x512x512, .f32⟩
  | 28 => ⟨S16x512x512, .f32⟩
  | 29 => ⟨S16x512x512, .f32⟩
  | 30 => ⟨S2304x1024, .f32⟩
  | 31 => ⟨S1024x2304, .f32⟩
  | 32 => ⟨S8192x1024, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S8192x1024, .f32⟩
  | 50 => ⟨S8192x1024, .f32⟩
  | 51 => ⟨S8192x2304, .f32⟩
  | 52 => ⟨S8192x512, .f32⟩
  | 53 => ⟨S8192x128, .f32⟩
  | 54 => ⟨S8192x128, .f32⟩
  | 55 => ⟨S8192x512, .f32⟩
  | 56 => ⟨S8192x512, .f32⟩
  | 57 => ⟨S8192x512, .f32⟩
  | 58 => ⟨S8192x8x64, .f32⟩
  | 59 => ⟨S8192x8x32, .f32⟩
  | 60 => ⟨S8192x8x32, .f32⟩
  | 61 => ⟨S8192x1x32, .f32⟩
  | 62 => ⟨S8192x1x32, .f32⟩
  | 63 => ⟨S8192x8x32, .f32⟩
  | 64 => ⟨S8192x8x32, .f32⟩
  | 65 => ⟨S8192x8x32, .f32⟩
  | 66 => ⟨S8192x8x32, .f32⟩
  | 67 => ⟨S8192x8x32, .f32⟩
  | 68 => ⟨S8192x8x32, .f32⟩
  | 69 => ⟨S8192x8x32, .f32⟩
  | 70 => ⟨S8192x8x32, .f32⟩
  | 71 => ⟨S8192x8x32, .f32⟩
  | 72 => ⟨S8192x8x32, .f32⟩
  | 73 => ⟨S8192x8x64, .f32⟩
  | 74 => ⟨S8192x512, .f32⟩
  | 75 => ⟨S_, .f32⟩
  | 76 => ⟨S8192x512, .f32⟩
  | 77 => ⟨S8192x512, .f32⟩
  | 78 => ⟨S8192x8x64, .f32⟩
  | 79 => ⟨S8192x8x32, .f32⟩
  | 80 => ⟨S8192x8x32, .f32⟩
  | 81 => ⟨S8192x1x32, .f32⟩
  | 82 => ⟨S8192x1x32, .f32⟩
  | 83 => ⟨S8192x8x32, .f32⟩
  | 84 => ⟨S8192x8x32, .f32⟩
  | 85 => ⟨S8192x8x32, .f32⟩
  | 86 => ⟨S8192x8x32, .f32⟩
  | 87 => ⟨S8192x8x32, .f32⟩
  | 88 => ⟨S8192x8x32, .f32⟩
  | 89 => ⟨S8192x8x32, .f32⟩
  | 90 => ⟨S8192x8x32, .f32⟩
  | 91 => ⟨S8192x8x32, .f32⟩
  | 92 => ⟨S8192x8x32, .f32⟩
  | 93 => ⟨S8192x8x64, .f32⟩
  | 94 => ⟨S8192x512, .f32⟩
  | 95 => ⟨S8192x8x64, .f32⟩
  | 96 => ⟨S8192x8x32, .f32⟩
  | 97 => ⟨S8192x8x32, .f32⟩
  | 98 => ⟨S8192x1x32, .f32⟩
  | 99 => ⟨S8192x1x32, .f32⟩
  | 100 => ⟨S8192x8x32, .f32⟩
  | 101 => ⟨S8192x8x32, .f32⟩
  | 102 => ⟨S8192x8x32, .f32⟩
  | 103 => ⟨S8192x8x32, .f32⟩
  | 104 => ⟨S8192x8x32, .f32⟩
  | 105 => ⟨S8192x8x32, .f32⟩
  | 106 => ⟨S8192x8x32, .f32⟩
  | 107 => ⟨S8192x8x32, .f32⟩
  | 108 => ⟨S8192x8x32, .f32⟩
  | 109 => ⟨S8192x8x32, .f32⟩
  | 110 => ⟨S8192x8x64, .f32⟩
  | 111 => ⟨S8192x512, .f32⟩
  | 112 => ⟨S_, .f32⟩
  | 113 => ⟨S8192x512, .f32⟩
  | 114 => ⟨S8192x512, .f32⟩
  | 115 => ⟨S8192x2x64, .f32⟩
  | 116 => ⟨S8192x2x32, .f32⟩
  | 117 => ⟨S8192x2x32, .f32⟩
  | 118 => ⟨S8192x1x32, .f32⟩
  | 119 => ⟨S8192x1x32, .f32⟩
  | 120 => ⟨S8192x2x32, .f32⟩
  | 121 => ⟨S8192x2x32, .f32⟩
  | 122 => ⟨S8192x2x32, .f32⟩
  | 123 => ⟨S8192x2x32, .f32⟩
  | 124 => ⟨S8192x2x32, .f32⟩
  | 125 => ⟨S8192x2x32, .f32⟩
  | 126 => ⟨S8192x2x32, .f32⟩
  | 127 => ⟨S8192x2x32, .f32⟩
  | _ => ⟨S8192x1024, .f32⟩

abbrev hbmTy0_1 (i : Nat) : BufTy := match i % 128 with
  | 0 => ⟨S8192x2x32, .f32⟩
  | 1 => ⟨S8192x2x32, .f32⟩
  | 2 => ⟨S8192x2x64, .f32⟩
  | 3 => ⟨S8192x128, .f32⟩
  | 4 => ⟨S8192x64, .f32⟩
  | 5 => ⟨S8192x128, .f32⟩
  | 6 => ⟨S8192x64, .f32⟩
  | 7 => ⟨S8192x128, .f32⟩
  | 8 => ⟨S1x8192x128, .f32⟩
  | 9 => ⟨S1x8192x128, .f32⟩
  | 10 => ⟨S2x8192x128, .f32⟩
  | 11 => ⟨S8192x64, .f32⟩
  | 12 => ⟨S8192x128, .f32⟩
  | 13 => ⟨S8192x64, .f32⟩
  | 14 => ⟨S8192x128, .f32⟩
  | 15 => ⟨S1x8192x128, .f32⟩
  | 16 => ⟨S1x8192x128, .f32⟩
  | 17 => ⟨S2x8192x128, .f32⟩
  | 18 => ⟨S2048x4x512, .f32⟩
  | 19 => ⟨S4x2048x512, .f32⟩
  | 20 => ⟨S2048x4x512, .f32⟩
  | 21 => ⟨S4x2048x512, .f32⟩
  | 22 => ⟨S2048x4x512, .f32⟩
  | 23 => ⟨S4x2048x512, .f32⟩
  | 24 => ⟨S512x16x512, .f32⟩
  | 25 => ⟨S16x512x512, .f32⟩
  | 26 => ⟨S512x16x512, .f32⟩
  | 27 => ⟨S16x512x512, .f32⟩
  | 28 => ⟨S512x16x512, .f32⟩
  | 29 => ⟨S16x512x512, .f32⟩
  | 30 => ⟨S512x16x512, .f32⟩
  | 31 => ⟨S8192x512, .f32⟩
  | 32 => ⟨S8192x512, .f32⟩
  | 33 => ⟨S512x16x512, .f32⟩
  | 34 => ⟨S8192x512, .f32⟩
  | 35 => ⟨S8192x512, .f32⟩
  | 36 => ⟨S512x16x512, .f32⟩
  | 37 => ⟨S8192x512, .f32⟩
  | 38 => ⟨S8192x512, .f32⟩
  | 39 => ⟨S2048x4x512, .f32⟩
  | 40 => ⟨S8192x512, .f32⟩
  | 41 => ⟨S8192x512, .f32⟩
  | 42 => ⟨S2048x4x512, .f32⟩
  | 43 => ⟨S8192x512, .f32⟩
  | 44 => ⟨S8192x512, .f32⟩
  | 45 => ⟨S2048x4x512, .f32⟩
  | 46 => ⟨S8192x512, .f32⟩
  | 47 => ⟨S8192x512, .f32⟩
  | 48 => ⟨S1x8192x128, .f32⟩
  | 49 => ⟨S8192x128, .f32⟩
  | 50 => ⟨S1x8192x128, .f32⟩
  | 51 => ⟨S8192x128, .f32⟩
  | 52 => ⟨S8192x64, .f32⟩
  | 53 => ⟨S8192x64, .f32⟩
  | 54 => ⟨S8192x64, .f32⟩
  | 55 => ⟨S_, .f32⟩
  | 56 => ⟨S8192x128, .f32⟩
  | 57 => ⟨S8192x64, .f32⟩
  | 58 => ⟨S8192x64, .f32⟩
  | 59 => ⟨S8192x64, .f32⟩
  | 60 => ⟨S_, .f32⟩
  | 61 => ⟨S8192x128, .f32⟩
  | 62 => ⟨S8192x128, .f32⟩
  | 63 => ⟨S1x8192x128, .f32⟩
  | 64 => ⟨S8192x128, .f32⟩
  | 65 => ⟨S1x8192x128, .f32⟩
  | 66 => ⟨S8192x128, .f32⟩
  | 67 => ⟨S8192x64, .f32⟩
  | 68 => ⟨S8192x64, .f32⟩
  | 69 => ⟨S8192x64, .f32⟩
  | 70 => ⟨S_, .f32⟩
  | 71 => ⟨S8192x128, .f32⟩
  | 72 => ⟨S8192x64, .f32⟩
  | 73 => ⟨S8192x64, .f32⟩
  | 74 => ⟨S8192x64, .f32⟩
  | 75 => ⟨S_, .f32⟩
  | 76 => ⟨S8192x128, .f32⟩
  | 77 => ⟨S8192x128, .f32⟩
  | 78 => ⟨S8192x2x64, .f32⟩
  | 79 => ⟨S8192x2x32, .f32⟩
  | 80 => ⟨S8192x2x32, .f32⟩
  | 81 => ⟨S8192x2x32, .f32⟩
  | 82 => ⟨S8192x2x32, .f32⟩
  | 83 => ⟨S8192x2x32, .f32⟩
  | 84 => ⟨S8192x2x32, .f32⟩
  | 85 => ⟨S8192x2x32, .f32⟩
  | 86 => ⟨S8192x2x32, .f32⟩
  | 87 => ⟨S8192x2x32, .f32⟩
  | 88 => ⟨S8192x2x32, .f32⟩
  | 89 => ⟨S8192x2x32, .f32⟩
  | 90 => ⟨S8192x2x32, .f32⟩
  | 91 => ⟨S8192x2x32, .f32⟩
  | 92 => ⟨S8192x2x64, .f32⟩
  | 93 => ⟨S8192x128, .f32⟩
  | 94 => ⟨S_, .f32⟩
  | 95 => ⟨S8192x512, .f32⟩
  | 96 => ⟨S8192x512, .f32⟩
  | 97 => ⟨S8192x8x64, .f32⟩
  | 98 => ⟨S8192x8x32, .f32⟩
  | 99 => ⟨S8192x8x32, .f32⟩
  | 100 => ⟨S8192x8x32, .f32⟩
  | 101 => ⟨S8192x8x32, .f32⟩
  | 102 => ⟨S8192x8x32, .f32⟩
  | 103 => ⟨S8192x8x32, .f32⟩
  | 104 => ⟨S8192x8x32, .f32⟩
  | 105 => ⟨S8192x8x32, .f32⟩
  | 106 => ⟨S8192x8x32, .f32⟩
  | 107 => ⟨S8192x8x32, .f32⟩
  | 108 => ⟨S8192x8x32, .f32⟩
  | 109 => ⟨S8192x8x32, .f32⟩
  | 110 => ⟨S8192x8x32, .f32⟩
  | 111 => ⟨S8192x8x64, .f32⟩
  | 112 => ⟨S8192x512, .f32⟩
  | 113 => ⟨S8192x8x64, .f32⟩
  | 114 => ⟨S8192x8x32, .f32⟩
  | 115 => ⟨S8192x8x32, .f32⟩
  | 116 => ⟨S8192x8x32, .f32⟩
  | 117 => ⟨S8192x8x32, .f32⟩
  | 118 => ⟨S8192x8x32, .f32⟩
  | 119 => ⟨S8192x8x32, .f32⟩
  | 120 => ⟨S8192x8x32, .f32⟩
  | 121 => ⟨S8192x8x32, .f32⟩
  | 122 => ⟨S8192x8x32, .f32⟩
  | 123 => ⟨S8192x8x32, .f32⟩
  | 124 => ⟨S8192x8x32, .f32⟩
  | 125 => ⟨S8192x8x32, .f32⟩
  | 126 => ⟨S8192x8x32, .f32⟩
  | 127 => ⟨S8192x8x64, .f32⟩
  | _ => ⟨S8192x1024, .f32⟩

abbrev hbmTy0_2 (i : Nat) : BufTy := match i % 128 with
  | 0 => ⟨S8192x512, .f32⟩
  | 1 => ⟨S_, .f32⟩
  | 2 => ⟨S8192x512, .f32⟩
  | 3 => ⟨S8192x512, .f32⟩
  | 4 => ⟨S8192x8x64, .f32⟩
  | 5 => ⟨S8192x8x32, .f32⟩
  | 6 => ⟨S8192x8x32, .f32⟩
  | 7 => ⟨S8192x8x32, .f32⟩
  | 8 => ⟨S8192x8x32, .f32⟩
  | 9 => ⟨S8192x8x32, .f32⟩
  | 10 => ⟨S8192x8x32, .f32⟩
  | 11 => ⟨S8192x8x32, .f32⟩
  | 12 => ⟨S8192x8x32, .f32⟩
  | 13 => ⟨S8192x8x32, .f32⟩
  | 14 => ⟨S8192x8x32, .f32⟩
  | 15 => ⟨S8192x8x32, .f32⟩
  | 16 => ⟨S8192x8x32, .f32⟩
  | 17 => ⟨S8192x8x32, .f32⟩
  | 18 => ⟨S8192x8x64, .f32⟩
  | 19 => ⟨S8192x512, .f32⟩
  | 20 => ⟨S8192x2304, .f32⟩
  | 21 => ⟨S2304x1024, .f32⟩
  | 22 => ⟨S1024x2304, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S8192x1024, .f32⟩
  | 35 => ⟨S8192x1024, .f32⟩
  | 36 => ⟨S8192x1024, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S2304x1024, .f32⟩
  | 49 => ⟨S2304x1024, .bf16⟩
  | 50 => ⟨S_, .f32⟩
  | 51 => ⟨S8192x1024, .f32⟩
  | 52 => ⟨S8192x1024, .f32⟩
  | 53 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_3 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_4 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_cst_5 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_cst_6 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_cst_7 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_cst_8 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_cst_9 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_cst_10 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_v250 : Ref sig .tc := ⟨.hbm, 280, rfl⟩
abbrev main_cst_11 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_cst_12 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_cst_13 : Ref sig .tc := ⟨.hbm, 294, rfl⟩
abbrev main_v262 : Ref sig .tc := ⟨.hbm, 295, rfl⟩
abbrev main_v263 : Ref sig .tc := ⟨.hbm, 296, rfl⟩
abbrev main_cst_14 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_cst_15 : Ref sig .tc := ⟨.hbm, 306, rfl⟩
abbrev main_v272 : Ref sig .tc := ⟨.hbm, 307, rfl⟩
abbrev main_v273 : Ref sig .tc := ⟨.hbm, 308, rfl⟩
abbrev main_v274 : Ref sig .tc := ⟨.hbm, 309, rfl⟩

abbrev nD : Nat := 1
abbrev τ : Topo := Topo.v7x

variable {F : FTy → Type} [FloatOps F]
-- ==== Attn.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S8192x8192 : Shape := ⟨2, ![8192, 8192]⟩
abbrev S_ : Shape := ⟨0, ![]⟩
abbrev S1x8192x8192 : Shape := ⟨3, ![1, 8192, 8192]⟩
abbrev S8x8192 : Shape := ⟨2, ![8, 8192]⟩
abbrev S8192x8x1 : Shape := ⟨3, ![8192, 8, 1]⟩
abbrev S8x64x8192 : Shape := ⟨3, ![8, 64, 8192]⟩
abbrev S8 : Shape := ⟨1, ![8]⟩
abbrev S4x4x8x128 : Shape := ⟨4, ![4, 4, 8, 128]⟩
abbrev S2048x128 : Shape := ⟨2, ![2048, 128]⟩
abbrev S8192x128 : Shape := ⟨2, ![8192, 128]⟩
abbrev S1x1x8x128 : Shape := ⟨4, ![1, 1, 8, 128]⟩
abbrev S1x128 : Shape := ⟨2, ![1, 128]⟩
abbrev S64x256 : Shape := ⟨2, ![64, 256]⟩
abbrev S1x256 : Shape := ⟨2, ![1, 256]⟩
abbrev S1x1 : Shape := ⟨2, ![1, 1]⟩
abbrev S256x128 : Shape := ⟨2, ![256, 128]⟩
abbrev S64x128 : Shape := ⟨2, ![64, 128]⟩
abbrev S128x128 : Shape := ⟨2, ![128, 128]⟩
abbrev S128x256 : Shape := ⟨2, ![128, 256]⟩
abbrev S64 : Shape := ⟨1, ![64]⟩
abbrev S64x1 : Shape := ⟨2, ![64, 1]⟩
abbrev S8x128 : Shape := ⟨2, ![8, 128]⟩

abbrev nBuf : Space → Nat
  | .hbm => 75
  | .vmem => 22
  | .smem => 1
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x8, .f32⟩
  | .hbm, ⟨6, _⟩ => ⟨S8192x512, .bf16⟩
  | .hbm, ⟨7, _⟩ => ⟨S8192x8, .f32⟩
  | .hbm, ⟨8, _⟩ => ⟨S8192x512, .f32⟩
  | .hbm, ⟨9, _⟩ => ⟨S8192x8x64, .f32⟩
  | .hbm, ⟨10, _⟩ => ⟨S8192x512, .f32⟩
  | .hbm, ⟨11, _⟩ => ⟨S8192x8x64, .f32⟩
  | .hbm, ⟨12, _⟩ => ⟨S8x8192x8192, .f32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i1⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8192x8, .f32⟩
  | .hbm, ⟨36, _⟩ => ⟨S8192x8, .f32⟩
  | .hbm, ⟨37, _⟩ => ⟨S8192x8, .f32⟩
  | .hbm, ⟨38, _⟩ => ⟨S_, .f32⟩
  | .hbm, ⟨39, _⟩ => ⟨S8x8192, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S8192x8x1, .f32⟩
  | .hbm, ⟨44, _⟩ => ⟨S8192x512, .f32⟩
  | .hbm, ⟨45, _⟩ => ⟨S8192x8x64, .f32⟩
  | .hbm, ⟨46, _⟩ => ⟨S8192x8x64, .f32⟩
  | .hbm, ⟨47, _⟩ => ⟨S8192x8x64, .f32⟩
  | .hbm, ⟨48, _⟩ => ⟨S8192x8, .f32⟩
  | .hbm, ⟨49, _⟩ => ⟨S8192x8x1, .f32⟩
  | .hbm, ⟨50, _⟩ => ⟨S8192x512, .f32⟩
  | .hbm, ⟨51, _⟩ => ⟨S8192x8x64, .f32⟩
  | .hbm, ⟨52, _⟩ => ⟨S8192x8x64, .f32⟩
  | .hbm, ⟨53, _⟩ => ⟨S8192x8x64, .f32⟩
  | .hbm, ⟨54, _⟩ => ⟨S8192x8x64, .f32⟩
  | .hbm, ⟨55, _⟩ => ⟨S8192x512, .f32⟩
  | .hbm, ⟨56, _⟩ => ⟨S8192x8x64, .f32⟩
  | .hbm, ⟨57, _⟩ => ⟨S8x64x8192, .f32⟩
  | .hbm, ⟨58, _⟩ => ⟨S8192x8x64, .f32⟩
  | .hbm, ⟨59, _⟩ => ⟨S8192x8x64, .f32⟩
  | .hbm, ⟨60, _⟩ => ⟨S8192x8x1, .f32⟩
  | .hbm, ⟨61, _⟩ => ⟨S8192x8x64, .f32⟩
  | .hbm, ⟨62, _⟩ => ⟨S8192x8x64, .f32⟩
  | .hbm, ⟨63, _⟩ => ⟨S8192x512, .f32⟩
  | .hbm, ⟨64, _⟩ => ⟨S8192x512, .bf16⟩
  | .hbm, ⟨65, _⟩ => ⟨S8192x8, .f32⟩
  | .hbm, ⟨66, _⟩ => ⟨S8192x8x1, .f32⟩
  | .hbm, ⟨67, _⟩ => ⟨S8192x8x64, .f32⟩
  | .hbm, ⟨68, _⟩ => ⟨S8192x512, .f32⟩
  | .hbm, ⟨69, _⟩ => ⟨S_, .f32⟩
  | .hbm, ⟨70, _⟩ => ⟨S8, .f32⟩
  | .hbm, ⟨71, _⟩ => ⟨S8192x512, .bf16⟩
  | .hbm, ⟨72, _⟩ => ⟨S8192x512, .bf16⟩
  | .hbm, ⟨73, _⟩ => ⟨S8192x512, .bf16⟩
  | .hbm, ⟨74, _⟩ => ⟨S4x4x8x128, .f32⟩
  | .local _ .vmem, ⟨0, _⟩ => ⟨S2048x128, .bf16⟩
  | .local _ .vmem, ⟨1, _⟩ => ⟨S2048x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S1x1x8x128, .f32⟩
  | .local _ .vmem, ⟨19, _⟩ => ⟨S1x1x8x128, .f32⟩
  | .local _ .vmem, ⟨20, _⟩ => ⟨S8192x128, .f32⟩
  | .local _ .vmem, ⟨21, _⟩ => ⟨S8192x128, .f32⟩
  | .local _ .smem, ⟨0, _⟩ => ⟨S8, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_3 : Ref sig .tc := ⟨.hbm, 69, rfl⟩
abbrev main_v53 : Ref sig .tc := ⟨.hbm, 70, rfl⟩
abbrev main_v54_0 : Ref sig .tc := ⟨.hbm, 71, rfl⟩
abbrev main_v54_1 : Ref sig .tc := ⟨.hbm, 72, rfl⟩
abbrev main_v54_2 : Ref sig .tc := ⟨.hbm, 73, rfl⟩
abbrev main_v54_3 : Ref sig .tc := ⟨.hbm, 74, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c7936_i32 : BitVec 32 := 7936#32
  let c0_i32_4 : BitVec 32 := 0#32
  let arg1 : BitVec 32 := BitVec.ofNat 32 (i 1).val
  let c2048_i32 : BitVec 32 := 2048#32
  let v4 : BitVec 32 := Scalar.muli arg1 c2048_i32
  let c0_i32_2 : BitVec 32 := 0#32
  let v14 : BitVec 32 := Scalar.addi v4 c0_i32_2
  let c64_i32_3 : BitVec 32 := 64#32
  let v15 : BitVec 32 := Scalar.subi v14 c64_i32_3
  let v16 : BitVec 32 := Scalar.maxsi c0_i32_4 v15
  let v17 : BitVec 32 := Scalar.minsi c7936_i32 v16
  v17
def k0_off1 (i : grid0.Coords) (c0_i32_2 : BitVec 32) : Fin 2 → Nat :=
  let c7936_i32 : BitVec 32 := 7936#32
  let c0_i32_4 : BitVec 32 := 0#32
  let arg1 : BitVec 32 := BitVec.ofNat 32 (i 1).val
  let c2048_i32 : BitVec 32 := 2048#32
  let v4 : BitVec 32 := Scalar.muli arg1 c2048_i32
  let v14 : BitVec 32 := Scalar.addi v4 c0_i32_2
  let c64_i32_3 : BitVec 32 := 64#32
  let v15 : BitVec 32 := Scalar.subi v14 c64_i32_3
  let v16 : BitVec 32 := Scalar.maxsi c0_i32_4 v15
  let v17 : BitVec 32 := Scalar.minsi c7936_i32 v16
  let v18 : BitVec 32 := v17
  let v54 : Index := Scalar.indexCast v18
  let c0 : Index := 0#32
  ![v54.toNat, 0]
def k0_mult2 (i : grid0.Coords) : BitVec 32 :=
  let c7936_i32_25 : BitVec 32 := 7936#32
  let c0_i32_24 : BitVec 32 := 0#32
  let arg1 : BitVec 32 := BitVec.ofNat 32 (i 1).val
  let c2048_i32 : BitVec 32 := 2048#32
  let v4 : BitVec 32 := Scalar.muli arg1 c2048_i32
  let c64_i32_22 : BitVec 32 := 64#32
  let v78 : BitVec 32 := Scalar.addi v4 c64_i32_22
  let c64_i32_23 : BitVec 32 := 64#32
  let v79 : BitVec 32 := Scalar.subi v78 c64_i32_23
  let v80 : BitVec 32 := Scalar.maxsi c0_i32_24 v79
  let v81 : BitVec 32 := Scalar.minsi c7936_i32_25 v80
  v81
def k0_mult3 (i : grid0.Coords) : BitVec 32 :=
  let c7936_i32_47 : BitVec 32 := 7936#32
  let c0_i32_46 : BitVec 32 := 0#32
  let arg1 : BitVec 32 := BitVec.ofNat 32 (i 1).val
  let c2048_i32 : BitVec 32 := 2048#32
  let v4 : BitVec 32 := Scalar.muli arg1 c2048_i32
  let c128_i32 : BitVec 32 := 128#32
  let v142 : BitVec 32 := Scalar.addi v4 c128_i32
  let c64_i32_45 : BitVec 32 := 64#32
  let v143 : BitVec 32 := Scalar.subi v142 c64_i32_45
  let v144 : BitVec 32 := Scalar.maxsi c0_i32_46 v143
  let v145 : BitVec 32 := Scalar.minsi c7936_i32_47 v144
  v145
def k0_mult4 (i : grid0.Coords) : BitVec 32 :=
  let c7936_i32_69 : BitVec 32 := 7936#32
  let c0_i32_68 : BitVec 32 := 0#32
  let arg1 : BitVec 32 := BitVec.ofNat 32 (i 1).val
  let c2048_i32 : BitVec 32 := 2048#32
  let v4 : BitVec 32 := Scalar.muli arg1 c2048_i32
  let c192_i32 : BitVec 32 := 192#32
  let v206 : BitVec 32 := Scalar.addi v4 c192_i32
  let c64_i32_67 : BitVec 32 := 64#32
  let v207 : BitVec 32 := Scalar.subi v206 c64_i32_67
  let v208 : BitVec 32 := Scalar.maxsi c0_i32_68 v207
  let v209 : BitVec 32 := Scalar.minsi c7936_i32_69 v208
  v209
def k0_mult5 (i : grid0.Coords) : BitVec 32 :=
  let c7936_i32_91 : BitVec 32 := 7936#32
  let c0_i32_90 : BitVec 32 := 0#32
  let arg1 : BitVec 32 := BitVec.ofNat 32 (i 1).val
  let c2048_i32 : BitVec 32 := 2048#32
  let v4 : BitVec 32 := Scalar.muli arg1 c2048_i32
  let c256_i32 : BitVec 32 := 256#32
  let v270 : BitVec 32 := Scalar.addi v4 c256_i32
  let c64_i32_89 : BitVec 32 := 64#32
  let v271 : BitVec 32 := Scalar.subi v270 c64_i32_89
  let v272 : BitVec 32 := Scalar.maxsi c0_i32_90 v271
  let v273 : BitVec 32 := Scalar.minsi c7936_i32_91 v272
  v273
def k0_mult6 (i : grid0.Coords) : BitVec 32 :=
  let c7936_i32_113 : BitVec 32 := 7936#32
  let c0_i32_112 : BitVec 32 := 0#32
  let arg1 : BitVec 32 := BitVec.ofNat 32 (i 1).val
  let c2048_i32 : BitVec 32 := 2048#32
  let v4 : BitVec 32 := Scalar.muli arg1 c2048_i32
  let c320_i32 : BitVec 32 := 320#32
  let v334 : BitVec 32 := Scalar.addi v4 c320_i32
  let c64_i32_111 : BitVec 32 := 64#32
  let v335 : BitVec 32 := Scalar.subi v334 c64_i32_111
  let v336 : BitVec 32 := Scalar.maxsi c0_i32_112 v335
  let v337 : BitVec 32 := Scalar.minsi c7936_i32_113 v336
  v337
def k0_mult7 (i : grid0.Coords) : BitVec 32 :=
  let c7936_i32_135 : BitVec 32 := 7936#32
  let c0_i32_134 : BitVec 32 := 0#32
  let arg1 : BitVec 32 := BitVec.ofNat 32 (i 1).val
  let c2048_i32 : BitVec 32 := 2048#32
  let v4 : BitVec 32 := Scalar.muli arg1 c2048_i32
  let c384_i32 : BitVec 32 := 384#32
  let v398 : BitVec 32 := Scalar.addi v4 c384_i32
  let c64_i32_133 : BitVec 32 := 64#32
  let v399 : BitVec 32 := Scalar.subi v398 c64_i32_133
  let v400 : BitVec 32 := Scalar.maxsi c0_i32_134 v399
  let v401 : BitVec 32 := Scalar.minsi c7936_i32_135 v400
  v401
def k0_mult8 (i : grid0.Coords) : BitVec 32 :=
  let c7936_i32_157 : BitVec 32 := 7936#32
  let c0_i32_156 : BitVec 32 := 0#32
  let arg1 : BitVec 32 := BitVec.ofNat 32 (i 1).val
  let c2048_i32 : BitVec 32 := 2048#32
  let v4 : BitVec 32 := Scalar.muli arg1 c2048_i32
  let c448_i32 : BitVec 32 := 448#32
  let v462 : BitVec 32 := Scalar.addi v4 c448_i32
  let c64_i32_155 : BitVec 32 := 64#32
  let v463 : BitVec 32 := Scalar.subi v462 c64_i32_155
  let v464 : BitVec 32 := Scalar.maxsi c0_i32_156 v463
  let v465 : BitVec 32 := Scalar.minsi c7936_i32_157 v464
  v465
def k0_mult9 (i : grid0.Coords) : BitVec 32 :=
  let c7936_i32_180 : BitVec 32 := 7936#32
  let c0_i32_179 : BitVec 32 := 0#32
  let arg1 : BitVec 32 := BitVec.ofNat 32 (i 1).val
  let c2048_i32 : BitVec 32 := 2048#32
  let v4 : BitVec 32 := Scalar.muli arg1 c2048_i32
  let c512_i32_177 : BitVec 32 := 512#32
  let v526 : BitVec 32 := Scalar.addi v4 c512_i32_177
  let c64_i32_178 : BitVec 32 := 64#32
  let v527 : BitVec 32 := Scalar.subi v526 c64_i32_178
  let v528 : BitVec 32 := Scalar.maxsi c0_i32_179 v527
  let v529 : BitVec 32 := Scalar.minsi c7936_i32_180 v528
  v529
def k0_mult10 (i : grid0.Coords) : BitVec 32 :=
  let c7936_i32_202 : BitVec 32 := 7936#32
  let c0_i32_201 : BitVec 32 := 0#32
  let arg1 : BitVec 32 := BitVec.ofNat 32 (i 1).val
  let c2048_i32 : BitVec 32 := 2048#32
  let v4 : BitVec 32 := Scalar.muli arg1 c2048_i32
  let c576_i32 : BitVec 32 := 576#32
  let v590 : BitVec 32 := Scalar.addi v4 c576_i32
  let c64_i32_200 : BitVec 32 := 64#32
  let v591 : BitVec 32 := Scalar.subi v590 c64_i32_200
  let v592 : BitVec 32 := Scalar.maxsi c0_i32_201 v591
  let v593 : BitVec 32 := Scalar.minsi c7936_i32_202 v592
  v593
def k0_mult11 (i : grid0.Coords) : BitVec 32 :=
  let c7936_i32_224 : BitVec 32 := 7936#32
  let c0_i32_223 : BitVec 32 := 0#32
  let arg1 : BitVec 32 := BitVec.ofNat 32 (i 1).val
  let c2048_i32 : BitVec 32 := 2048#32
  let v4 : BitVec 32 := Scalar.muli arg1 c2048_i32
  let c640_i32 : BitVec 32 := 640#32
  let v654 : BitVec 32 := Scalar.addi v4 c640_i32
  let c64_i32_222 : BitVec 32 := 64#32
  let v655 : BitVec 32 := Scalar.subi v654 c64_i32_222
  let v656 : BitVec 32 := Scalar.maxsi c0_i32_223 v655
  let v657 : BitVec 32 := Scalar.minsi c7936_i32_224 v656
  v657
def k0_mult12 (i : grid0.Coords) : BitVec 32 :=
  let c7936_i32_246 : BitVec 32 := 7936#32
  let c0_i32_245 : BitVec 32 := 0#32
  let arg1 : BitVec 32 := BitVec.ofNat 32 (i 1).val
  let c2048_i32 : BitVec 32 := 2048#32
  let v4 : BitVec 32 := Scalar.muli arg1 c2048_i32
  let c704_i32 : BitVec 32 := 704#32
  let v718 : BitVec 32 := Scalar.addi v4 c704_i32
  let c64_i32_244 : BitVec 32 := 64#32
  let v719 : BitVec 32 := Scalar.subi v718 c64_i32_244
  let v720 : BitVec 32 := Scalar.maxsi c0_i32_245 v719
  let v721 : BitVec 32 := Scalar.minsi c7936_i32_246 v720
  v721
def k0_mult13 (i : grid0.Coords) : BitVec 32 :=
  let c7936_i32_268 : BitVec 32 := 7936#32
  let c0_i32_267 : BitVec 32 := 0#32
  let arg1 : BitVec 32 := BitVec.ofNat 32 (i 1).val
  let c2048_i32 : BitVec 32 := 2048#32
  let v4 : BitVec 32 := Scalar.muli arg1 c2048_i32
  let c768_i32 : BitVec 32 := 768#32
  let v782 : BitVec 32 := Scalar.addi v4 c768_i32
  let c64_i32_266 : BitVec 32 := 64#32
  let v783 : BitVec 32 := Scalar.subi v782 c64_i32_266
  let v784 : BitVec 32 := Scalar.maxsi c0_i32_267 v783
  let v785 : BitVec 32 := Scalar.minsi c7936_i32_268 v784
  v785
def k0_mult14 (i : grid0.Coords) : BitVec 32 :=
  let c7936_i32_290 : BitVec 32 := 7936#32
  let c0_i32_289 : BitVec 32 := 0#32
  let arg1 : BitVec 32 := BitVec.ofNat 32 (i 1).val
  let c2048_i32 : BitVec 32 := 2048#32
  let v4 : BitVec 32 := Scalar.muli arg1 c2048_i32
  let c832_i32 : BitVec 32 := 832#32
  let v846 : BitVec 32 := Scalar.addi v4 c832_i32
  let c64_i32_288 : BitVec 32 := 64#32
  let v847 : BitVec 32 := Scalar.subi v846 c64_i32_288
  let v848 : BitVec 32 := Scalar.maxsi c0_i32_289 v847
  let v849 : BitVec 32 := Scalar.minsi c7936_i32_290 v848
  v849
def k0_mult15 (i : grid0.Coords) : BitVec 32 :=
  let c7936_i32_312 : BitVec 32 := 7936#32
  let c0_i32_311 : BitVec 32 := 0#32
  let arg1 : BitVec 32 := BitVec.ofNat 32 (i 1).val
  let c2048_i32 : BitVec 32 := 2048#32
  let v4 : BitVec 32 := Scalar.muli arg1 c2048_i32
  let c896_i32 : BitVec 32 := 896#32
  let v910 : BitVec 32 := Scalar.addi v4 c896_i32
  let c64_i32_310 : BitVec 32 := 64#32
  let v911 : BitVec 32 := Scalar.subi v910 c64_i32_310
  let v912 : BitVec 32 := Scalar.maxsi c0_i32_311 v911
  let v913 : BitVec 32 := Scalar.minsi c7936_i32_312 v912
  v913
def k0_mult16 (i : grid0.Coords) : BitVec 32 :=
  let c7936_i32_334 : BitVec 32 := 7936#32
  let c0_i32_333 : BitVec 32 := 0#32
  let arg1 : BitVec 32 := BitVec.ofNat 32 (i 1).val
  let c2048_i32 : BitVec 32 := 2048#32
  let v4 : BitVec 32 := Scalar.muli arg1 c2048_i32
  let c960_i32 : BitVec 32 := 960#32
  let v974 : BitVec 32 := Scalar.addi v4 c960_i32
  let c64_i32_332 : BitVec 32 := 64#32
  let v975 : BitVec 32 := Scalar.subi v974 c64_i32_332
  let v976 : BitVec 32 := Scalar.maxsi c0_i32_333 v975
  let v977 : BitVec 32 := Scalar.minsi c7936_i32_334 v976
  v977
def k0_mult17 (i : grid0.Coords) : BitVec 32 :=
  let c7936_i32_356 : BitVec 32 := 7936#32
  let c0_i32_355 : BitVec 32 := 0#32
  let arg1 : BitVec 32 := BitVec.ofNat 32 (i 1).val
  let c2048_i32 : BitVec 32 := 2048#32
  let v4 : BitVec 32 := Scalar.muli arg1 c2048_i32
  let c1024_i32 : BitVec 32 := 1024#32
  let v1038 : BitVec 32 := Scalar.addi v4 c1024_i32
  let c64_i32_354 : BitVec 32 := 64#32
  let v1039 : BitVec 32 := Scalar.subi v1038 c64_i32_354
  let v1040 : BitVec 32 := Scalar.maxsi c0_i32_355 v1039
  let v1041 : BitVec 32 := Scalar.minsi c7936_i32_356 v1040
  v1041
def k0_mult18 (i : grid0.Coords) : BitVec 32 :=
  let c7936_i32_378 : BitVec 32 := 7936#32
  let c0_i32_377 : BitVec 32 := 0#32
  let arg1 : BitVec 32 := BitVec.ofNat 32 (i 1).val
  let c2048_i32 : BitVec 32 := 2048#32
  let v4 : BitVec 32 := Scalar.muli arg1 c2048_i32
  let c1088_i32 : BitVec 32 := 1088#32
  let v1102 : BitVec 32 := Scalar.addi v4 c1088_i32
  let c64_i32_376 : BitVec 32 := 64#32
  let v1103 : BitVec 32 := Scalar.subi v1102 c64_i32_376
  let v1104 : BitVec 32 := Scalar.maxsi c0_i32_377 v1103
  let v1105 : BitVec 32 := Scalar.minsi c7936_i32_378 v1104
  v1105
def k0_mult19 (i : grid0.Coords) : BitVec 32 :=
  let c7936_i32_400 : BitVec 32 := 7936#32
  let c0_i32_399 : BitVec 32 := 0#32
  let arg1 : BitVec 32 := BitVec.ofNat 32 (i 1).val
  let c2048_i32 : BitVec 32 := 2048#32
  let v4 : BitVec 32 := Scalar.muli arg1 c2048_i32
  let c1152_i32 : BitVec 32 := 1152#32
  let v1166 : BitVec 32 := Scalar.addi v4 c1152_i32
  let c64_i32_398 : BitVec 32 := 64#32
  let v1167 : BitVec 32 := Scalar.subi v1166 c64_i32_398
  let v1168 : BitVec 32 := Scalar.maxsi c0_i32_399 v1167
  let v1169 : BitVec 32 := Scalar.minsi c7936_i32_400 v1168
  v1169
def k0_mult20 (i : grid0.Coords) : BitVec 32 :=
  let c7936_i32_422 : BitVec 32 := 7936#32
  let c0_i32_421 : BitVec 32 := 0#32
  let arg1 : BitVec 32 := BitVec.ofNat 32 (i 1).val
  let c2048_i32 : BitVec 32 := 2048#32
  let v4 : BitVec 32 := Scalar.muli arg1 c2048_i32
  let c1216_i32 : BitVec 32 := 1216#32
  let v1230 : BitVec 32 := Scalar.addi v4 c1216_i32
  let c64_i32_420 : BitVec 32 := 64#32
  let v1231 : BitVec 32 := Scalar.subi v1230 c64_i32_420
  let v1232 : BitVec 32 := Scalar.maxsi c0_i32_421 v1231
  let v1233 : BitVec 32 := Scalar.minsi c7936_i32_422 v1232
  v1233
def k0_mult21 (i : grid0.Coords) : BitVec 32 :=
  let c7936_i32_444 : BitVec 32 := 7936#32
  let c0_i32_443 : BitVec 32 := 0#32
  let arg1 : BitVec 32 := BitVec.ofNat 32 (i 1).val
  let c2048_i32 : BitVec 32 := 2048#32
  let v4 : BitVec 32 := Scalar.muli arg1 c2048_i32
  let c1280_i32 : BitVec 32 := 1280#32
  let v1294 : BitVec 32 := Scalar.addi v4 c1280_i32
  let c64_i32_442 : BitVec 32 := 64#32
  let v1295 : BitVec 32 := Scalar.subi v1294 c64_i32_442
  let v1296 : BitVec 32 := Scalar.maxsi c0_i32_443 v1295
  let v1297 : BitVec 32 := Scalar.minsi c7936_i32_444 v1296
  v1297
def k0_mult22 (i : grid0.Coords) : BitVec 32 :=
  let c7936_i32_466 : BitVec 32 := 7936#32
  let c0_i32_465 : BitVec 32 := 0#32
  let arg1 : BitVec 32 := BitVec.ofNat 32 (i 1).val
  let c2048_i32 : BitVec 32 := 2048#32
  let v4 : BitVec 32 := Scalar.muli arg1 c2048_i32
  let c1344_i32 : BitVec 32 := 1344#32
  let v1358 : BitVec 32 := Scalar.addi v4 c1344_i32
  let c64_i32_464 : BitVec 32 := 64#32
  let v1359 : BitVec 32 := Scalar.subi v1358 c64_i32_464
  let v1360 : BitVec 32 := Scalar.maxsi c0_i32_465 v1359
  let v1361 : BitVec 32 := Scalar.minsi c7936_i32_466 v1360
  v1361
def k0_mult23 (i : grid0.Coords) : BitVec 32 :=
  let c7936_i32_488 : BitVec 32 := 7936#32
  let c0_i32_487 : BitVec 32 := 0#32
  let arg1 : BitVec 32 := BitVec.ofNat 32 (i 1).val
  let c2048_i32 : BitVec 32 := 2048#32
  let v4 : BitVec 32 := Scalar.muli arg1 c2048_i32
  let c1408_i32 : BitVec 32 := 1408#32
  let v1422 : BitVec 32 := Scalar.addi v4 c1408_i32
  let c64_i32_486 : BitVec 32 := 64#32
  let v1423 : BitVec 32 := Scalar.subi v1422 c64_i32_486
  let v1424 : BitVec 32 := Scalar.maxsi c0_i32_487 v1423
  let v1425 : BitVec 32 := Scalar.minsi c7936_i32_488 v1424
  v1425
def k0_mult24 (i : grid0.Coords) : BitVec 32 :=
  let c7936_i32_510 : BitVec 32 := 7936#32
  let c0_i32_509 : BitVec 32 := 0#32
  let arg1 : BitVec 32 := BitVec.ofNat 32 (i 1).val
  let c2048_i32 : BitVec 32 := 2048#32
  let v4 : BitVec 32 := Scalar.muli arg1 c2048_i32
  let c1472_i32 : BitVec 32 := 1472#32
  let v1486 : BitVec 32 := Scalar.addi v4 c1472_i32
  let c64_i32_508 : BitVec 32 := 64#32
  let v1487 : BitVec 32 := Scalar.subi v1486 c64_i32_508
  let v1488 : BitVec 32 := Scalar.maxsi c0_i32_509 v1487
  let v1489 : BitVec 32 := Scalar.minsi c7936_i32_510 v1488
  v1489
def k0_mult25 (i : grid0.Coords) : BitVec 32 :=
  let c7936_i32_532 : BitVec 32 := 7936#32
  let c0_i32_531 : BitVec 32 := 0#32
  let arg1 : BitVec 32 := BitVec.ofNat 32 (i 1).val
  let c2048_i32 : BitVec 32 := 2048#32
  let v4 : BitVec 32 := Scalar.muli arg1 c2048_i32
  let c1536_i32 : BitVec 32 := 1536#32
  let v1550 : BitVec 32 := Scalar.addi v4 c1536_i32
  let c64_i32_530 : BitVec 32 := 64#32
  let v1551 : BitVec 32 := Scalar.subi v1550 c64_i32_530
  let v1552 : BitVec 32 := Scalar.maxsi c0_i32_531 v1551
  let v1553 : BitVec 32 := Scalar.minsi c7936_i32_532 v1552
  v1553
def k0_mult26 (i : grid0.Coords) : BitVec 32 :=
  let c7936_i32_554 : BitVec 32 := 7936#32
  let c0_i32_553 : BitVec 32 := 0#32
  let arg1 : BitVec 32 := BitVec.ofNat 32 (i 1).val
  let c2048_i32 : BitVec 32 := 2048#32
  let v4 : BitVec 32 := Scalar.muli arg1 c2048_i32
  let c1600_i32 : BitVec 32 := 1600#32
  let v1614 : BitVec 32 := Scalar.addi v4 c1600_i32
  let c64_i32_552 : BitVec 32 := 64#32
  let v1615 : BitVec 32 := Scalar.subi v1614 c64_i32_552
  let v1616 : BitVec 32 := Scalar.maxsi c0_i32_553 v1615
  let v1617 : BitVec 32 := Scalar.minsi c7936_i32_554 v1616
  v1617
def k0_mult27 (i : grid0.Coords) : BitVec 32 :=
  let c7936_i32_576 : BitVec 32 := 7936#32
  let c0_i32_575 : BitVec 32 := 0#32
  let arg1 : BitVec 32 := BitVec.ofNat 32 (i 1).val
  let c2048_i32 : BitVec 32 := 2048#32
  let v4 : BitVec 32 := Scalar.muli arg1 c2048_i32
  let c1664_i32 : BitVec 32 := 1664#32
  let v1678 : BitVec 32 := Scalar.addi v4 c1664_i32
  let c64_i32_574 : BitVec 32 := 64#32
  let v1679 : BitVec 32 := Scalar.subi v1678 c64_i32_574
  let v1680 : BitVec 32 := Scalar.maxsi c0_i32_575 v1679
  let v1681 : BitVec 32 := Scalar.minsi c7936_i32_576 v1680
  v1681
def k0_mult28 (i : grid0.Coords) : BitVec 32 :=
  let c7936_i32_598 : BitVec 32 := 7936#32
  let c0_i32_597 : BitVec 32 := 0#32
  let arg1 : BitVec 32 := BitVec.ofNat 32 (i 1).val
  let c2048_i32 : BitVec 32 := 2048#32
  let v4 : BitVec 32 := Scalar.muli arg1 c2048_i32
  let c1728_i32 : BitVec 32 := 1728#32
  let v1742 : BitVec 32 := Scalar.addi v4 c1728_i32
  let c64_i32_596 : BitVec 32 := 64#32
  let v1743 : BitVec 32 := Scalar.subi v1742 c64_i32_596
  let v1744 : BitVec 32 := Scalar.maxsi c0_i32_597 v1743
  let v1745 : BitVec 32 := Scalar.minsi c7936_i32_598 v1744
  v1745
def k0_mult29 (i : grid0.Coords) : BitVec 32 :=
  let c7936_i32_620 : BitVec 32 := 7936#32
  let c0_i32_619 : BitVec 32 := 0#32
  let arg1 : BitVec 32 := BitVec.ofNat 32 (i 1).val
  let c2048_i32 : BitVec 32 := 2048#32
  let v4 : BitVec 32 := Scalar.muli arg1 c2048_i32
  let c1792_i32 : BitVec 32 := 1792#32
  let v1806 : BitVec 32 := Scalar.addi v4 c1792_i32
  let c64_i32_618 : BitVec 32 := 64#32
  let v1807 : BitVec 32 := Scalar.subi v1806 c64_i32_618
  let v1808 : BitVec 32 := Scalar.maxsi c0_i32_619 v1807
  let v1809 : BitVec 32 := Scalar.minsi c7936_i32_620 v1808
  v1809
def k0_mult30 (i : grid0.Coords) : BitVec 32 :=
  let c7936_i32_642 : BitVec 32 := 7936#32
  let c0_i32_641 : BitVec 32 := 0#32
  let arg1 : BitVec 32 := BitVec.ofNat 32 (i 1).val
  let c2048_i32 : BitVec 32 := 2048#32
  let v4 : BitVec 32 := Scalar.muli arg1 c2048_i32
  let c1856_i32 : BitVec 32 := 1856#32
  let v1870 : BitVec 32 := Scalar.addi v4 c1856_i32
  let c64_i32_640 : BitVec 32 := 64#32
  let v1871 : BitVec 32 := Scalar.subi v1870 c64_i32_640
  let v1872 : BitVec 32 := Scalar.maxsi c0_i32_641 v1871
  let v1873 : BitVec 32 := Scalar.minsi c7936_i32_642 v1872
  v1873
def k0_mult31 (i : grid0.Coords) : BitVec 32 :=
  let c7936_i32_664 : BitVec 32 := 7936#32
  let c0_i32_663 : BitVec 32 := 0#32
  let arg1 : BitVec 32 := BitVec.ofNat 32 (i 1).val
  let c2048_i32 : BitVec 32 := 2048#32
  let v4 : BitVec 32 := Scalar.muli arg1 c2048_i32
  let c1920_i32 : BitVec 32 := 1920#32
  let v1934 : BitVec 32 := Scalar.addi v4 c1920_i32
  let c64_i32_662 : BitVec 32 := 64#32
  let v1935 : BitVec 32 := Scalar.subi v1934 c64_i32_662
  let v1936 : BitVec 32 := Scalar.maxsi c0_i32_663 v1935
  let v1937 : BitVec 32 := Scalar.minsi c7936_i32_664 v1936
  v1937
def k0_mult32 (i : grid0.Coords) : BitVec 32 :=
  let c7936_i32_686 : BitVec 32 := 7936#32
  let c0_i32_685 : BitVec 32 := 0#32
  let arg1 : BitVec 32 := BitVec.ofNat 32 (i 1).val
  let c2048_i32 : BitVec 32 := 2048#32
  let v4 : BitVec 32 := Scalar.muli arg1 c2048_i32
  let c1984_i32 : BitVec 32 := 1984#32
  let v1998 : BitVec 32 := Scalar.addi v4 c1984_i32
  let c64_i32_684 : BitVec 32 := 64#32
  let v1999 : BitVec 32 := Scalar.subi v1998 c64_i32_684
  let v2000 : BitVec 32 := Scalar.maxsi c0_i32_685 v1999
  let v2001 : BitVec 32 := Scalar.minsi c7936_i32_686 v2000
  v2001
def k0_cond2 (i : grid0.Coords) : BitVec 1 :=
  let arg1 : BitVec 32 := BitVec.ofNat 32 (i 1).val
  let c3_i32 : BitVec 32 := 3#32
  let v1 : BitVec 1 := Scalar.cmpi .eq arg1 c3_i32
  let v4696 : BitVec 32 := Scalar.extui v1
  let c0_i32_1478 : BitVec 32 := 0#32
  let v4697 : BitVec 1 := Scalar.cmpi .ne v4696 c0_i32_1478
  v4697

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnReferenceIdeal.lean ====
abbrev S8192x512 : Shape := ⟨2, ![8192, 512]⟩
abbrev S8192x8 : Shape := ⟨2, ![8192, 8]⟩
abbrev S8192x8x64 : Shape := ⟨3, ![8192, 8, 64]⟩
abbrev S8x8192x8192 : Shape := ⟨3, ![8, 8192, 8192]⟩
abbrev S8192x8192 : Shape := ⟨2, ![8192, 8192]⟩
abbrev S_ : Shape := ⟨0, ![]⟩
abbrev S1x8192x8192 : Shape := ⟨3, ![1, 8192, 8192]⟩
abbrev S8x8192 : Shape := ⟨2, ![8, 8192]⟩
abbrev S8192x8x1 : Shape := ⟨3, ![8192, 8, 1]⟩
abbrev S8x64x8192 : Shape := ⟨3, ![8, 64, 8192]⟩
abbrev S8x8192x64 : Shape := ⟨3, ![8, 8192, 64]⟩

abbrev nBuf : Space → Nat
  | .hbm => 103
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x8, .f32⟩
  | .hbm, ⟨6, _⟩ => ⟨S8192x512, .bf16⟩
  | .hbm, ⟨7, _⟩ => ⟨S8192x8, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x8x64, .f32⟩
  | .hbm, ⟨12, _⟩ => ⟨S8192x8x64, .f32⟩
  | .hbm, ⟨13, _⟩ => ⟨S8x8192x8192, .f32⟩
  | .hbm, ⟨14, _⟩ => ⟨S8192x8192, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i1⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .i1⟩
  | .hbm, ⟨29, _⟩ => ⟨S1x8192x8192, .i1⟩
  | .hbm, ⟨30, _⟩ => ⟨S_, .f32⟩
  | .hbm, ⟨31, _⟩ => ⟨S_, .f32⟩
  | .hbm, ⟨32, _⟩ => ⟨S8x8192x8192, .i1⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192x8192, .f32⟩
  | .hbm, ⟨37, _⟩ => ⟨S8x8192x8192, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S_, .f32⟩
  | .hbm, ⟨42, _⟩ => ⟨S8x8192, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S8192x8x1, .f32⟩
  | .hbm, ⟨47, _⟩ => ⟨S8192x512, .f32⟩
  | .hbm, ⟨48, _⟩ => ⟨S8192x8x64, .f32⟩
  | .hbm, ⟨49, _⟩ => ⟨S8192x8x64, .f32⟩
  | .hbm, ⟨50, _⟩ => ⟨S8192x8x64, .f32⟩
  | .hbm, ⟨51, _⟩ => ⟨S8192x8, .f32⟩
  | .hbm, ⟨52, _⟩ => ⟨S8192x8x1, .f32⟩
  | .hbm, ⟨53, _⟩ => ⟨S8192x512, .f32⟩
  | .hbm, ⟨54, _⟩ => ⟨S8192x8x64, .f32⟩
  | .hbm, ⟨55, _⟩ => ⟨S8192x8x64, .f32⟩
  | .hbm, ⟨56, _⟩ => ⟨S8192x8x64, .f32⟩
  | .hbm, ⟨57, _⟩ => ⟨S8192x8x64, .f32⟩
  | .hbm, ⟨58, _⟩ => ⟨S8192x8x64, .f32⟩
  | .hbm, ⟨59, _⟩ => ⟨S8x64x8192, .f32⟩
  | .hbm, ⟨60, _⟩ => ⟨S8192x8x64, .f32⟩
  | .hbm, ⟨61, _⟩ => ⟨S8192x8x64, .f32⟩
  | .hbm, ⟨62, _⟩ => ⟨S8192x8x1, .f32⟩
  | .hbm, ⟨63, _⟩ => ⟨S8192x8x64, .f32⟩
  | .hbm, ⟨64, _⟩ => ⟨S8192x8x64, .f32⟩
  | .hbm, ⟨65, _⟩ => ⟨S8192x8x1, .f32⟩
  | .hbm, ⟨66, _⟩ => ⟨S_, .f32⟩
  | .hbm, ⟨67, _⟩ => ⟨S8192x8x1, .f32⟩
  | .hbm, ⟨68, _⟩ => ⟨S8192x8x1, .f32⟩
  | .hbm, ⟨69, _⟩ => ⟨S8192x512, .f32⟩
  | .hbm, ⟨70, _⟩ => ⟨S8192x8x64, .f32⟩
  | .hbm, ⟨71, _⟩ => ⟨S8192x8x64, .f32⟩
  | .hbm, ⟨72, _⟩ => ⟨S8192x8x64, .f32⟩
  | .hbm, ⟨73, _⟩ => ⟨S8192x8x64, .f32⟩
  | .hbm, ⟨74, _⟩ => ⟨S_, .f32⟩
  | .hbm, ⟨75, _⟩ => ⟨S8192x8, .f32⟩
  | .hbm, ⟨76, _⟩ => ⟨S8192x8x1, .f32⟩
  | .hbm, ⟨77, _⟩ => ⟨S8192x8x1, .f32⟩
  | .hbm, ⟨78, _⟩ => ⟨S8192x8x64, .f32⟩
  | .hbm, ⟨79, _⟩ => ⟨S8192x8x64, .f32⟩
  | .hbm, ⟨80, _⟩ => ⟨S_, .f32⟩
  | .hbm, ⟨81, _⟩ => ⟨S8192x8, .f32⟩
  | .hbm, ⟨82, _⟩ => ⟨S8x64x8192, .f32⟩
  | .hbm, ⟨83, _⟩ => ⟨S8x8192x8192, .f32⟩
  | .hbm, ⟨84, _⟩ => ⟨S8x64x8192, .f32⟩
  | .hbm, ⟨85, _⟩ => ⟨S8192x8x64, .f32⟩
  | .hbm, ⟨86, _⟩ => ⟨S8192x512, .f32⟩
  | .hbm, ⟨87, _⟩ => ⟨S8x8192, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192x8192, .f32⟩
  | .hbm, ⟨93, _⟩ => ⟨S8x8192x8192, .f32⟩
  | .hbm, ⟨94, _⟩ => ⟨S8x8192x64, .f32⟩
  | .hbm, ⟨95, _⟩ => ⟨S8192x8x64, .f32⟩
  | .hbm, ⟨96, _⟩ => ⟨S8x8192x64, .f32⟩
  | .hbm, ⟨97, _⟩ => ⟨S8192x8x64, .f32⟩
  | .hbm, ⟨98, _⟩ => ⟨S8192x512, .f32⟩
  | .hbm, ⟨99, _⟩ => ⟨S8192x512, .f32⟩
  | .hbm, ⟨100, _⟩ => ⟨S8192x512, .bf16⟩
  | .hbm, ⟨101, _⟩ => ⟨S8192x512, .bf16⟩
  | .hbm, ⟨102, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_call0_v0 : Ref sig .tc := ⟨.hbm, 31, rfl⟩
abbrev main_v19_1 : Ref sig .tc := ⟨.hbm, 32, rfl⟩
abbrev main_call0_v2 : Ref sig .tc := ⟨.hbm, 33, rfl⟩
abbrev main_v19_0 : Ref sig .tc := ⟨.hbm, 34, rfl⟩
abbrev main_call0_cst : Ref sig .tc := ⟨.hbm, 35, rfl⟩
abbrev main_v19_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_3 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call1_cst : Ref sig .tc := ⟨.hbm, 91, rfl⟩
abbrev main_call1_v0 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Proof.AttnRoll.lean ====
module

public import proofs.«01_k».proof.Proof.Gen.AttnIdeal.Skeleton

@[expose] public section

set_option synthInstance.maxSize 4096

noncomputable section

namespace Cert.AttnIdeal.Gen

open Idealize.ShloMosaic Idealize.SL.Sem

variable {F : FTy → Type} [FloatOps F] [Named F]

/-! The backward pass of the dilated attention works through 32 strips of 64 query rows, written out one after
    another: first the scores of every strip, then its probabilities, then its contributions to the three gradients.
    Here the strips are a list and one strip's arithmetic is written once; `body_rolled` says that the printed
    body is that recursion. -/

/-- Lanes of the first of the pair's two heads. -/
def lowM : IVec S1x128 1 := cmpi .slt (iota .tc S1x128 32 [1] iota_S1x128_d1_w32) (broadcast S1x128 64#32)

/-- The band of strip `j`: key positions within the half window and inside the row's segment. -/
def validOf (i : grid0.Coords) (j : ℕ) : IVec S64x256 1 :=
  have v10 : IVec S64x256 32 := subi (iota .tc S64x256 32 [1] iota_S64x256_d1_w32) (iota .tc S64x256 32 [0] iota_S64x256_d0_w32)
  have v11 : IVec S1x256 32 := iota .tc S1x256 32 [1] iota_S1x256_d1_w32
  let v78 : BitVec 32 := Scalar.addi (Scalar.muli (BitVec.ofNat 32 (i 1).val) 2048#32) (BitVec.ofNat 32 (64 * j))
  let c64_i32_23 : BitVec 32 := 64#32
  let v79 : BitVec 32 := Scalar.subi v78 c64_i32_23
  let c0_i32_24 : BitVec 32 := 0#32
  let c7936_i32_25 : BitVec 32 := 7936#32
  let v80 : BitVec 32 := Scalar.maxsi c0_i32_24 v79
  let v81 : BitVec 32 := Scalar.minsi c7936_i32_25 v80
  let v82 : BitVec 32 := v81
  have v83 : IVec S1x256 32 := broadcast S1x256 v82
  have v84 : IVec S1x256 32 := addi v11 v83
  let c512_i32_26 : BitVec 32 := 512#32
  let v85 : BitVec 32 := Scalar.divsi v78 c512_i32_26
  let c0_i32_27 : BitVec 32 := 0#32
  let v86 : BitVec 1 := Scalar.cmpi .sgt v78 c0_i32_27
  let v87 : BitVec 32 := Scalar.extui v86
  let c0_i32_28 : BitVec 32 := 0#32
  let v88 : BitVec 1 := Scalar.cmpi .slt v78 c0_i32_28
  let v89 : BitVec 32 := Scalar.extui v88
  let v90 : BitVec 32 := Scalar.subi v87 v89
  let c0_i32_29 : BitVec 32 := 0#32
  let v91 : BitVec 1 := Scalar.cmpi .sgt c512_i32_26 c0_i32_29
  let v92 : BitVec 32 := Scalar.extui v91
  let c0_i32_30 : BitVec 32 := 0#32
  let v93 : BitVec 1 := Scalar.cmpi .slt c512_i32_26 c0_i32_30
  let v94 : BitVec 32 := Scalar.extui v93
  let v95 : BitVec 32 := Scalar.subi v92 v94
  let v96 : BitVec 1 := Scalar.cmpi .ne v90 v95
  let v97 : BitVec 32 := Scalar.remsi v78 c512_i32_26
  let c0_i32_31 : BitVec 32 := 0#32
  let v98 : BitVec 1 := Scalar.cmpi .ne v97 c0_i32_31
  let v99 : BitVec 1 := Scalar.andi v96 v98
  let c1_i32_32 : BitVec 32 := 1#32
  let v100 : BitVec 32 := Scalar.subi v85 c1_i32_32
  let v101 : BitVec 32 := Scalar.select v99 v100 v85
  let c512_i32_33 : BitVec 32 := 512#32
  let v102 : BitVec 32 := Scalar.muli v101 c512_i32_33
  let v103 : BitVec 32 := Scalar.subi v82 v78
  have v104 : IVec S64x256 32 := broadcast S64x256 v103
  have v105 : IVec S64x256 32 := addi v10 v104
  have v106 : IVec S64x256 32 := absi v105
  let c64_i32_34 : BitVec 32 := 64#32
  have v107 : IVec S64x256 32 := broadcast S64x256 c64_i32_34
  have v108 : IVec S64x256 1 := cmpi .sle v106 v107
  have v109 : IVec S1x256 32 := broadcast S1x256 v102
  have v110 : IVec S1x256 1 := cmpi .sge v84 v109
  have v111 : IVec S64x256 1 := broadcastTo S64x256 v110 broadcasts_S1x256_S64x256
  have v112 : IVec S64x256 1 := andi v108 v111
  let c512_i32_35 : BitVec 32 := 512#32
  let v113 : BitVec 32 := Scalar.addi v102 c512_i32_35
  have v114 : IVec S1x256 32 := broadcast S1x256 v113
  have v115 : IVec S1x256 1 := cmpi .slt v84 v114
  have v116 : IVec S64x256 1 := broadcastTo S64x256 v115 broadcasts_S1x256_S64x256
  have v117 : IVec S64x256 1 := andi v112 v116
  v117

/-- The two heads of 64 rows, one above the other, each zero outside its own lanes. -/
def splitHeads (x : Vec F S64x128 .bf16) : FVec F S128x128 .bf16 :=
  have v7 : IVec S1x128 1 := lowM
  have cst : F .bf16 := Scalar.ofBits .bf16 0x0000#16
  have v122 : FVec F S64x128 .bf16 := broadcast S64x128 cst
  have v123 : IVec S1x128 1 := shapeCast S1x128 v7 shapeCasts_S1x128_S1x128
  have v124 : IVec S64x128 1 := broadcastTo S64x128 v123 broadcasts_S1x128_S64x128
  have v125 : Vec F S64x128 .bf16 := select v124 x v122
  have v126 : IVec S1x128 1 := shapeCast S1x128 v7 shapeCasts_S1x128_S1x128
  have v127 : IVec S64x128 1 := broadcastTo S64x128 v126 broadcasts_S1x128_S64x128
  have v128 : FVec F S64x128 .bf16 := select v127 v122 x
  have v129 : FVec F S128x128 .bf16 := concatenate S128x128 0 [⟨S64x128, v125⟩, ⟨S64x128, v128⟩] concatenates_S64x128_S64x128_S128x128_d0
  v129

/-- Scores of the two heads of a strip against its window of keys. -/
def scoreOf (q2 : FVec F S128x128 .bf16) (kw : Vec F S256x128 .bf16) : FVec F S128x256 .f32 :=
  matmul dot_S128x128_S256x128_S128x256_1_1_0_0_n_n none q2 kw (constant S128x256 .f32 0x00000000#32)

/-- The probabilities of the two heads. -/
def probOf (valid : IVec S64x256 1) (dov ov : Vec F S64x128 .bf16) (lv : Vec F S64x128 .f32) (sc dp : FVec F S128x256 .f32) : FVec F S128x256 .bf16 :=
  have v2120 : FVec F S64x128 .f32 := extf .f32 dov bitsLt_bf16_f32
  have v2122 : FVec F S64x128 .bf16 := shapeCast S64x128 ov shapeCasts_S64x128_S64x128
  have v2123 : FVec F S64x128 .f32 := extf .f32 v2122 bitsLt_bf16_f32
  have v2124 : FVec F S64x128 .f32 := mulf v2120 v2123
  have v2126 : FVec F S64x128 .f32 := shapeCast S64x128 lv shapeCasts_S64x128_S64x128
  have cst_725 : F .f32 := Scalar.ofBits .f32 0xFF800000#32
  have v2127 : IVec S1x128 1 := shapeCast S1x128 lowM shapeCasts_S1x128_S1x128
  have v2128 : IVec S64x128 1 := broadcastTo S64x128 v2127 broadcasts_S1x128_S64x128
  have v2129 : FVec F S64x128 .f32 := broadcast S64x128 cst_725
  have v2130 : FVec F S64x128 .f32 := select v2128 v2126 v2129
  have cst_726 : FVec F S64 .f32 := constant S64 .f32 0xFF800000#32
  have v2131 : FVec F S64 .f32 := multiReduction .maximumf [1] S64 v2130 0xFF800000#32 reduces_S64x128_S64 (.inl rfl) rfl
  have v2132 : FVec F S64x1 .f32 := shapeCast S64x1 v2131 shapeCasts_S64_S64x1
  have cst_727 : F .f32 := Scalar.ofBits .f32 0x00000000#32
  have v2133 : IVec S1x128 1 := shapeCast S1x128 lowM shapeCasts_S1x128_S1x128
  have v2134 : IVec S64x128 1 := broadcastTo S64x128 v2133 broadcasts_S1x128_S64x128
  have v2135 : FVec F S64x128 .f32 := broadcast S64x128 cst_727
  have v2136 : FVec F S64x128 .f32 := select v2134 v2124 v2135
  have cst_728 : FVec F S64 .f32 := constant S64 .f32 0x00000000#32
  have v2137 : FVec F S64 .f32 := multiReduction .add [1] S64 v2136 0x00000000#32 reduces_S64x128_S64 (.inl rfl) rfl
  have v2138 : FVec F S64x1 .f32 := shapeCast S64x1 v2137 shapeCasts_S64_S64x1
  have v2139 : FVec F S64x256 .f32 := extractStridedSlice S64x256 ![0, 0] sc slices_S128x256_o0_0_S64x256
  have cst_729 : F .f32 := Named.named κ "mask" 0xF149F2CA#32
  have v2140 : FVec F S64x256 .f32 := broadcast S64x256 cst_729
  have v2141 : FVec F S64x256 .f32 := select valid v2139 v2140
  have v2142 : FVec F S64x256 .f32 := broadcastTo S64x256 v2132 broadcasts_S64x1_S64x256
  have v2143 : FVec F S64x256 .f32 := subf v2141 v2142
  have v2144 : FVec F S64x256 .f32 := exp v2143
  have v2145 : FVec F S64x256 .bf16 := truncf .bf16 v2144 bitsLt_bf16_f32
  have v2146 : FVec F S64x256 .f32 := extractStridedSlice S64x256 ![0, 0] dp slices_S128x256_o0_0_S64x256
  have v2147 : FVec F S64x256 .f32 := broadcastTo S64x256 v2138 broadcasts_S64x1_S64x256
  have v2148 : FVec F S64x256 .f32 := subf v2146 v2147
  have v2149 : FVec F S64x256 .f32 := mulf v2144 v2148
  have v2150 : FVec F S64x256 .bf16 := truncf .bf16 v2149 bitsLt_bf16_f32
  have cst_730 : IVec S1x128 1 := constantI S1x128 1 1#1
  have v2151 : IVec S1x128 1 := xori lowM cst_730
  have cst_731 : F .f32 := Scalar.ofBits .f32 0xFF800000#32
  have v2152 : IVec S1x128 1 := shapeCast S1x128 v2151 shapeCasts_S1x128_S1x128
  have v2153 : IVec S64x128 1 := broadcastTo S64x128 v2152 broadcasts_S1x128_S64x128
  have v2154 : FVec F S64x128 .f32 := broadcast S64x128 cst_731
  have v2155 : FVec F S64x128 .f32 := select v2153 v2126 v2154
  have cst_732 : FVec F S64 .f32 := constant S64 .f32 0xFF800000#32
  have v2156 : FVec F S64 .f32 := multiReduction .maximumf [1] S64 v2155 0xFF800000#32 reduces_S64x128_S64 (.inl rfl) rfl
  have v2157 : FVec F S64x1 .f32 := shapeCast S64x1 v2156 shapeCasts_S64_S64x1
  have cst_733 : F .f32 := Scalar.ofBits .f32 0x00000000#32
  have v2158 : IVec S1x128 1 := shapeCast S1x128 v2151 shapeCasts_S1x128_S1x128
  have v2159 : IVec S64x128 1 := broadcastTo S64x128 v2158 broadcasts_S1x128_S64x128
  have v2160 : FVec F S64x128 .f32 := broadcast S64x128 cst_733
  have v2161 : FVec F S64x128 .f32 := select v2159 v2124 v2160
  have cst_734 : FVec F S64 .f32 := constant S64 .f32 0x00000000#32
  have v2162 : FVec F S64 .f32 := multiReduction .add [1] S64 v2161 0x00000000#32 reduces_S64x128_S64 (.inl rfl) rfl
  have v2163 : FVec F S64x1 .f32 := shapeCast S64x1 v2162 shapeCasts_S64_S64x1
  have v2164 : FVec F S64x256 .f32 := extractStridedSlice S64x256 ![64, 0] sc slices_S128x256_o64_0_S64x256
  have cst_735 : F .f32 := Named.named κ "mask" 0xF149F2CA#32
  have v2165 : FVec F S64x256 .f32 := broadcast S64x256 cst_735
  have v2166 : FVec F S64x256 .f32 := select valid v2164 v2165
  have v2167 : FVec F S64x256 .f32 := broadcastTo S64x256 v2157 broadcasts_S64x1_S64x256
  have v2168 : FVec F S64x256 .f32 := subf v2166 v2167
  have v2169 : FVec F S64x256 .f32 := exp v2168
  have v2170 : FVec F S64x256 .bf16 := truncf .bf16 v2169 bitsLt_bf16_f32
  have v2171 : FVec F S64x256 .f32 := extractStridedSlice S64x256 ![64, 0] dp slices_S128x256_o64_0_S64x256
  have v2172 : FVec F S64x256 .f32 := broadcastTo S64x256 v2163 broadcasts_S64x1_S64x256
  have v2173 : FVec F S64x256 .f32 := subf v2171 v2172
  have v2174 : FVec F S64x256 .f32 := mulf v2169 v2173
  have v2175 : FVec F S64x256 .bf16 := truncf .bf16 v2174 bitsLt_bf16_f32
  have v2176 : FVec F S128x256 .bf16 := concatenate S128x256 0 [⟨S64x256, v2145⟩, ⟨S64x256, v2170⟩] concatenates_S64x256_S64x256_S128x256_d0
  have v2177 : FVec F S128x256 .bf16 := concatenate S128x256 0 [⟨S64x256, v2150⟩, ⟨S64x256, v2175⟩] concatenates_S64x256_S64x256_S128x256_d0
  v2176

/-- The gradient of the scores of the two heads. -/
def dscOf (valid : IVec S64x256 1) (dov ov : Vec F S64x128 .bf16) (lv : Vec F S64x128 .f32) (sc dp : FVec F S128x256 .f32) : FVec F S128x256 .bf16 :=
  have v2120 : FVec F S64x128 .f32 := extf .f32 dov bitsLt_bf16_f32
  have v2122 : FVec F S64x128 .bf16 := shapeCast S64x128 ov shapeCasts_S64x128_S64x128
  have v2123 : FVec F S64x128 .f32 := extf .f32 v2122 bitsLt_bf16_f32
  have v2124 : FVec F S64x128 .f32 := mulf v2120 v2123
  have v2126 : FVec F S64x128 .f32 := shapeCast S64x128 lv shapeCasts_S64x128_S64x128
  have cst_725 : F .f32 := Scalar.ofBits .f32 0xFF800000#32
  have v2127 : IVec S1x128 1 := shapeCast S1x128 lowM shapeCasts_S1x128_S1x128
  have v2128 : IVec S64x128 1 := broadcastTo S64x128 v2127 broadcasts_S1x128_S64x128
  have v2129 : FVec F S64x128 .f32 := broadcast S64x128 cst_725
  have v2130 : FVec F S64x128 .f32 := select v2128 v2126 v2129
  have cst_726 : FVec F S64 .f32 := constant S64 .f32 0xFF800000#32
  have v2131 : FVec F S64 .f32 := multiReduction .maximumf [1] S64 v2130 0xFF800000#32 reduces_S64x128_S64 (.inl rfl) rfl
  have v2132 : FVec F S64x1 .f32 := shapeCast S64x1 v2131 shapeCasts_S64_S64x1
  have cst_727 : F .f32 := Scalar.ofBits .f32 0x00000000#32
  have v2133 : IVec S1x128 1 := shapeCast S1x128 lowM shapeCasts_S1x128_S1x128
  have v2134 : IVec S64x128 1 := broadcastTo S64x128 v2133 broadcasts_S1x128_S64x128
  have v2135 : FVec F S64x128 .f32 := broadcast S64x128 cst_727
  have v2136 : FVec F S64x128 .f32 := select v2134 v2124 v2135
  have cst_728 : FVec F S64 .f32 := constant S64 .f32 0x00000000#32
  have v2137 : FVec F S64 .f32 := multiReduction .add [1] S64 v2136 0x00000000#32 reduces_S64x128_S64 (.inl rfl) rfl
  have v2138 : FVec F S64x1 .f32 := shapeCast S64x1 v2137 shapeCasts_S64_S64x1
  have v2139 : FVec F S64x256 .f32 := extractStridedSlice S64x256 ![0, 0] sc slices_S128x256_o0_0_S64x256
  have cst_729 : F .f32 := Named.named κ "mask" 0xF149F2CA#32
  have v2140 : FVec F S64x256 .f32 := broadcast S64x256 cst_729
  have v2141 : FVec F S64x256 .f32 := select valid v2139 v2140
  have v2142 : FVec F S64x256 .f32 := broadcastTo S64x256 v2132 broadcasts_S64x1_S64x256
  have v2143 : FVec F S64x256 .f32 := subf v2141 v2142
  have v2144 : FVec F S64x256 .f32 := exp v2143
  have v2145 : FVec F S64x256 .bf16 := truncf .bf16 v2144 bitsLt_bf16_f32
  have v2146 : FVec F S64x256 .f32 := extractStridedSlice S64x256 ![0, 0] dp slices_S128x256_o0_0_S64x256
  have v2147 : FVec F S64x256 .f32 := broadcastTo S64x256 v2138 broadcasts_S64x1_S64x256
  have v2148 : FVec F S64x256 .f32 := subf v2146 v2147
  have v2149 : FVec F S64x256 .f32 := mulf v2144 v2148
  have v2150 : FVec F S64x256 .bf16 := truncf .bf16 v2149 bitsLt_bf16_f32
  have cst_730 : IVec S1x128 1 := constantI S1x128 1 1#1
  have v2151 : IVec S1x128 1 := xori lowM cst_730
  have cst_731 : F .f32 := Scalar.ofBits .f32 0xFF800000#32
  have v2152 : IVec S1x128 1 := shapeCast S1x128 v2151 shapeCasts_S1x128_S1x128
  have v2153 : IVec S64x128 1 := broadcastTo S64x128 v2152 broadcasts_S1x128_S64x128
  have v2154 : FVec F S64x128 .f32 := broadcast S64x128 cst_731
  have v2155 : FVec F S64x128 .f32 := select v2153 v2126 v2154
  have cst_732 : FVec F S64 .f32 := constant S64 .f32 0xFF800000#32
  have v2156 : FVec F S64 .f32 := multiReduction .maximumf [1] S64 v2155 0xFF800000#32 reduces_S64x128_S64 (.inl rfl) rfl
  have v2157 : FVec F S64x1 .f32 := shapeCast S64x1 v2156 shapeCasts_S64_S64x1
  have cst_733 : F .f32 := Scalar.ofBits .f32 0x00000000#32
  have v2158 : IVec S1x128 1 := shapeCast S1x128 v2151 shapeCasts_S1x128_S1x128
  have v2159 : IVec S64x128 1 := broadcastTo S64x128 v2158 broadcasts_S1x128_S64x128
  have v2160 : FVec F S64x128 .f32 := broadcast S64x128 cst_733
  have v2161 : FVec F S64x128 .f32 := select v2159 v2124 v2160
  have cst_734 : FVec F S64 .f32 := constant S64 .f32 0x00000000#32
  have v2162 : FVec F S64 .f32 := multiReduction .add [1] S64 v2161 0x00000000#32 reduces_S64x128_S64 (.inl rfl) rfl
  have v2163 : FVec F S64x1 .f32 := shapeCast S64x1 v2162 shapeCasts_S64_S64x1
  have v2164 : FVec F S64x256 .f32 := extractStridedSlice S64x256 ![64, 0] sc slices_S128x256_o64_0_S64x256
  have cst_735 : F .f32 := Named.named κ "mask" 0xF149F2CA#32
  have v2165 : FVec F S64x256 .f32 := broadcast S64x256 cst_735
  have v2166 : FVec F S64x256 .f32 := select valid v2164 v2165
  have v2167 : FVec F S64x256 .f32 := broadcastTo S64x256 v2157 broadcasts_S64x1_S64x256
  have v2168 : FVec F S64x256 .f32 := subf v2166 v2167
  have v2169 : FVec F S64x256 .f32 := exp v2168
  have v2170 : FVec F S64x256 .bf16 := truncf .bf16 v2169 bitsLt_bf16_f32
  have v2171 : FVec F S64x256 .f32 := extractStridedSlice S64x256 ![64, 0] dp slices_S128x256_o64_0_S64x256
  have v2172 : FVec F S64x256 .f32 := broadcastTo S64x256 v2163 broadcasts_S64x1_S64x256
  have v2173 : FVec F S64x256 .f32 := subf v2171 v2172
  have v2174 : FVec F S64x256 .f32 := mulf v2169 v2173
  have v2175 : FVec F S64x256 .bf16 := truncf .bf16 v2174 bitsLt_bf16_f32
  have v2176 : FVec F S128x256 .bf16 := concatenate S128x256 0 [⟨S64x256, v2145⟩, ⟨S64x256, v2170⟩] concatenates_S64x256_S64x256_S128x256_d0
  have v2177 : FVec F S128x256 .bf16 := concatenate S128x256 0 [⟨S64x256, v2150⟩, ⟨S64x256, v2175⟩] concatenates_S64x256_S64x256_S128x256_d0
  v2177

/-- A window of an accumulator with a strip's contribution added. -/
def accOf (old : Vec F S256x128 .f32) (p2 : FVec F S128x256 .bf16) (x2 : FVec F S128x128 .bf16) : FVec F S256x128 .f32 :=
  shapeCast S256x128 (addf old (matmul dot_S128x256_S128x128_S256x128_0_0_1_1_n_n none p2 x2 (constant S256x128 .f32 0x00000000#32))) shapeCasts_S256x128_S256x128

/-- A strip's rows of the gradient of the queries. -/
def dqOf (ds2 : FVec F S128x256 .bf16) (kw : Vec F S256x128 .bf16) : FVec F S64x128 .bf16 :=
  have v7 : IVec S1x128 1 := lowM
  have v3894 : FVec F S128x128 .f32 := matmul dot_S128x256_S256x128_S128x128_1_0_0_1_n_n none ds2 kw (constant S128x128 .f32 0x00000000#32)
  have v3895 : FVec F S64x128 .f32 := extractStridedSlice S64x128 ![0, 0] v3894 slices_S128x128_o0_0_S64x128
  have v3896 : FVec F S64x128 .f32 := extractStridedSlice S64x128 ![64, 0] v3894 slices_S128x128_o64_0_S64x128
  have v3897 : IVec S1x128 1 := shapeCast S1x128 v7 shapeCasts_S1x128_S1x128
  have v3898 : IVec S64x128 1 := broadcastTo S64x128 v3897 broadcasts_S1x128_S64x128
  have v3899 : FVec F S64x128 .f32 := select v3898 v3895 v3896
  truncf .bf16 v3899 bitsLt_bf16_f32

/-- What a strip reads first: keys, output gradient, queries, values. -/
structure Strip (F : FTy → Type) where
  j : Fin 32
  kw : Vec F S256x128 .bf16
  dov : Vec F S64x128 .bf16
  qv : Vec F S64x128 .bf16
  vw : Vec F S256x128 .bf16

/-- A strip with its probabilities and score gradients. -/
structure Grads (F : FTy → Type) where
  j : Fin 32
  kw : Vec F S256x128 .bf16
  do2 : FVec F S128x128 .bf16
  q2 : FVec F S128x128 .bf16
  pr2 : FVec F S128x256 .bf16
  ds2 : FVec F S128x256 .bf16

theorem inbRows (j : Fin 32) : ∀ a, (![64 * j.val, 0] : Fin 2 → ℕ) a + S64x128.size a ≤ S2048x128.size a := by
  intro a; fin_cases a
  · show 64 * j.val + 64 ≤ 2048; omega
  · show 0 + 128 ≤ 128; omega

/-- The rows of strip `j` in a tile of 2048. -/
abbrev rowsR (j : Fin 32) : Rect S2048x128 := Rect.unit (s := S2048x128) ![64 * j.val, 0] S64x128.size (inbRows j)

/-- The window of keys of strip `j`. -/
abbrev winR (i : grid0.Coords) (j : Fin 32) : Rect S8192x128 :=
  Rect.unit (s := S8192x128) (k0_off1 i (BitVec.ofNat 32 (64 * j.val))) S256x128.size (k0_off1_inb i j)

theorem rowsPacked (j : Fin 32) : (rowsR j).PackedRows (EltTy.packing .bf16) := by
  fin_cases j
  · exact packedbf16_S2048x128_S64x128_0_0
  · exact packedbf16_S2048x128_S64x128_64_0
  · exact packedbf16_S2048x128_S64x128_128_0
  · exact packedbf16_S2048x128_S64x128_192_0
  · exact packedbf16_S2048x128_S64x128_256_0
  · exact packedbf16_S2048x128_S64x128_320_0
  · exact packedbf16_S2048x128_S64x128_384_0
  · exact packedbf16_S2048x128_S64x128_448_0
  · exact packedbf16_S2048x128_S64x128_512_0
  · exact packedbf16_S2048x128_S64x128_576_0
  · exact packedbf16_S2048x128_S64x128_640_0
  · exact packedbf16_S2048x128_S64x128_704_0
  · exact packedbf16_S2048x128_S64x128_768_0
  · exact packedbf16_S2048x128_S64x128_832_0
  · exact packedbf16_S2048x128_S64x128_896_0
  · exact packedbf16_S2048x128_S64x128_960_0
  · exact packedbf16_S2048x128_S64x128_1024_0
  · exact packedbf16_S2048x128_S64x128_1088_0
  · exact packedbf16_S2048x128_S64x128_1152_0
  · exact packedbf16_S2048x128_S64x128_1216_0
  · exact packedbf16_S2048x128_S64x128_1280_0
  · exact packedbf16_S2048x128_S64x128_1344_0
  · exact packedbf16_S2048x128_S64x128_1408_0
  · exact packedbf16_S2048x128_S64x128_1472_0
  · exact packedbf16_S2048x128_S64x128_1536_0
  · exact packedbf16_S2048x128_S64x128_1600_0
  · exact packedbf16_S2048x128_S64x128_1664_0
  · exact packedbf16_S2048x128_S64x128_1728_0
  · exact packedbf16_S2048x128_S64x128_1792_0
  · exact packedbf16_S2048x128_S64x128_1856_0
  · exact packedbf16_S2048x128_S64x128_1920_0
  · exact packedbf16_S2048x128_S64x128_1984_0

def strips : List (Fin 32) := [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩]

/-- The first sweep: every strip's reads. -/
def sweep1 (i : grid0.Coords) (arg3 : Memref sig .tc .vmem S2048x128 .bf16) (arg4 arg5 : Memref sig .tc .vmem S8192x128 .bf16) (arg7 : Memref sig .tc .vmem S2048x128 .bf16) :
    List (Fin 32) → (List (Strip F) → Prog (TpuEff nD τ sig (Elt F) Λ₀ .tc) PUnit) → Prog (TpuEff nD τ sig (Elt F) Λ₀ .tc) PUnit
  | [], k => k []
  | j :: js, k =>
    .op (.load arg4 (winR i j).toLoadRect (View.loadsAt_vmem h_S256x128)) fun kw : Vec F S256x128 .bf16 =>
    .op (.load arg7 (rowsR j).toLoadRect (View.loadsAt_vmem h_S64x128)) fun dov : Vec F S64x128 .bf16 =>
    .op (.load arg3 (rowsR j).toLoadRect (View.loadsAt_vmem h_S64x128)) fun qv : Vec F S64x128 .bf16 =>
    .op (.load arg5 (winR i j).toLoadRect (View.loadsAt_vmem h_S256x128)) fun vw : Vec F S256x128 .bf16 =>
    sweep1 i arg3 arg4 arg5 arg7 js fun l => k (⟨j, kw, dov, qv, vw⟩ :: l)

/-- A strip's probabilities and score gradients from what was read. -/
def gradsOf (i : grid0.Coords) (s : Strip F) (ov : Vec F S64x128 .bf16) (lv : Vec F S64x128 .f32) : Grads F :=
  ⟨s.j, s.kw, splitHeads s.dov, splitHeads s.qv,
    probOf (validOf i s.j.val) s.dov ov lv (scoreOf (splitHeads s.qv) s.kw) (scoreOf (splitHeads s.dov) s.vw),
    dscOf (validOf i s.j.val) s.dov ov lv (scoreOf (splitHeads s.qv) s.kw) (scoreOf (splitHeads s.dov) s.vw)⟩

/-- The second sweep: every strip's probabilities. -/
def sweep2 (i : grid0.Coords) (arg6 : Memref sig .tc .vmem S2048x128 .bf16) (arg8 : Memref sig .tc .vmem S2048x128 .f32) :
    List (Strip F) → (List (Grads F) → Prog (TpuEff nD τ sig (Elt F) Λ₀ .tc) PUnit) → Prog (TpuEff nD τ sig (Elt F) Λ₀ .tc) PUnit
  | [], k => k []
  | s :: ss, k =>
    .op (.load arg6 (rowsR s.j).toLoadRect (View.loadsAt_vmem h_S64x128)) fun ov : Vec F S64x128 .bf16 =>
    .op (.load arg8 (rowsR s.j).toLoadRect (View.loadsAt_vmem h_S64x128)) fun lv : Vec F S64x128 .f32 =>
    sweep2 i arg6 arg8 ss fun l => k (gradsOf i s ov lv :: l)

/-- The third sweep: every strip's contributions written. -/
def sweep3 (i : grid0.Coords) (arg9 : Memref sig .tc .vmem S2048x128 .bf16) (harg9 : arg9.IsWhole) (arg13 arg14 : Memref sig .tc .vmem S8192x128 .f32) :
    List (Grads F) → Prog (TpuEff nD τ sig (Elt F) Λ₀ .tc) PUnit → Prog (TpuEff nD τ sig (Elt F) Λ₀ .tc) PUnit
  | [], k => k
  | g :: gs, k =>
    .op (.load arg14 (winR i g.j).toLoadRect (View.loadsAt_vmem h_S256x128)) fun old : Vec F S256x128 .f32 =>
    .op (.load arg14 (winR i g.j).toLoadRect (View.loadsAt_vmem h_S256x128)) fun _ : Vec F S256x128 .f32 =>
    .op (.store arg14 (winR i g.j) (accOf old g.pr2 g.do2) Finset.univ (View.stores_vmem_bits_univ h_S256x128 rfl) (.inl rfl)) fun _ =>
    .op (.load arg13 (winR i g.j).toLoadRect (View.loadsAt_vmem h_S256x128)) fun old' : Vec F S256x128 .f32 =>
    .op (.load arg13 (winR i g.j).toLoadRect (View.loadsAt_vmem h_S256x128)) fun _ : Vec F S256x128 .f32 =>
    .op (.store arg13 (winR i g.j) (accOf old' g.ds2 g.q2) Finset.univ (View.stores_vmem_bits_univ h_S256x128 rfl) (.inl rfl)) fun _ =>
    .op (.load arg9 (rowsR g.j).toLoadRect (View.loadsAt_vmem h_S64x128)) fun _ : Vec F S64x128 .bf16 =>
    .op (.store arg9 (rowsR g.j) (dqOf g.ds2 g.kw) Finset.univ (View.stores_vmem h_S64x128 (harg9.storeExact_slice rfl _ (rowsPacked g.j)) (fun _ => rfl)) (.inl rfl)) fun _ =>
    sweep3 i arg9 harg9 arg13 arg14 gs k

/-- The sink gradients: none in this call. -/
def dsinkOf : FVec F S1x1x8x128 .f32 :=
  k0_pay2 lowM (broadcast S1x1 (Scalar.ofBits .f32 0x00000000#32)) (broadcast S1x1 (Scalar.ofBits .f32 0x00000000#32))

/-- The end of the body: the sink gradients, and at the last tile of a column the accumulated gradients. -/
def bodyEnd (i : grid0.Coords) (arg10 : Memref sig .tc .vmem S8192x128 .bf16) (harg10 : arg10.IsWhole) (arg11 : Memref sig .tc .vmem S8192x128 .bf16) (harg11 : arg11.IsWhole) (arg12 : Memref sig .tc .vmem S1x1x8x128 .f32) (arg13 arg14 : Memref sig .tc .vmem S8192x128 .f32) :
    Prog (TpuEff nD τ sig (Elt F) Λ₀ .tc) PUnit :=
  .op (.load arg12 (Rect.unit (s := S1x1x8x128) ![0, 0, 0, 0] S1x1x8x128.size inb_S1x1x8x128_S1x1x8x128_0_0_0_0).toLoadRect (View.loadsAt_vmem h_S1x1x8x128)) fun _ : Vec F S1x1x8x128 .f32 =>
  .op (.store arg12 (Rect.unit (s := S1x1x8x128) ![0, 0, 0, 0] S1x1x8x128.size inb_S1x1x8x128_S1x1x8x128_0_0_0_0) (dsinkOf (F := F)) Finset.univ (View.stores_vmem_bits_univ h_S1x1x8x128 rfl) (.inl rfl)) fun _ =>
  if _h : k0_cond2 i = 1#1 then
    .op (.load arg13 (Rect.unit (s := S8192x128) ![0, 0] S8192x128.size inb_S8192x128_S8192x128_0_0).toLoadRect (View.loadsAt_vmem h_S8192x128)) fun a : Vec F S8192x128 .f32 =>
    .op (.load arg10 (Rect.unit (s := S8192x128) ![0, 0] S8192x128.size inb_S8192x128_S8192x128_0_0).toLoadRect (View.loadsAt_vmem h_S8192x128)) fun _ : Vec F S8192x128 .bf16 =>
    .op (.store arg10 (Rect.unit (s := S8192x128) ![0, 0] S8192x128.size inb_S8192x128_S8192x128_0_0) (k0_pay3 a) Finset.univ (View.stores_vmem h_S8192x128 (harg10.storeExact_slice rfl _ packedbf16_S8192x128_S8192x128_0_0) (fun _ => rfl)) (.inl rfl)) fun _ =>
    .op (.load arg14 (Rect.unit (s := S8192x128) ![0, 0] S8192x128.size inb_S8192x128_S8192x128_0_0).toLoadRect (View.loadsAt_vmem h_S8192x128)) fun b : Vec F S8192x128 .f32 =>
    .op (.load arg11 (Rect.unit (s := S8192x128) ![0, 0] S8192x128.size inb_S8192x128_S8192x128_0_0).toLoadRect (View.loadsAt_vmem h_S8192x128)) fun _ : Vec F S8192x128 .bf16 =>
    .op (.store arg11 (Rect.unit (s := S8192x128) ![0, 0] S8192x128.size inb_S8192x128_S8192x128_0_0) (k0_pay4 b) Finset.univ (View.stores_vmem h_S8192x128 (harg11.storeExact_slice rfl _ packedbf16_S8192x128_S8192x128_0_0) (fun _ => rfl)) (.inl rfl)) fun _ =>
    .ret ⟨⟩
  else .ret ⟨⟩

/-- The body after its first branch. -/
def bodyRest (i : grid0.Coords) (arg2 : Memref sig .tc .smem S8 .f32) (harg2 : arg2.IsWhole) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x1x8x128 .f32) (harg12 : arg12.IsWhole) (arg13 : Memref sig .tc .vmem S8192x128 .f32) (harg13 : arg13.IsWhole) (arg14 : Memref sig .tc .vmem S8192x128 .f32) (harg14 : arg14.IsWhole) :
    Prog (TpuEff nD τ sig (Elt F) Λ₀ .tc) PUnit :=
  sweep1 i arg3 arg4 arg5 arg7 strips fun l =>
  sweep2 i arg6 arg8 l fun gs =>
  sweep3 i arg9 harg9 arg13 arg14 gs (bodyEnd i arg10 harg10 arg11 harg11 arg12 arg13 arg14)

/-- The accumulators cleared. -/
def clear (arg13 arg14 : Memref sig .tc .vmem S8192x128 .f32) : Prog (TpuEff nD τ sig (Elt F) Λ₀ .tc) PUnit :=
  .op (.load arg13 (Rect.unit (s := S8192x128) ![0, 0] S8192x128.size inb_S8192x128_S8192x128_0_0).toLoadRect (View.loadsAt_vmem h_S8192x128)) fun _ : Vec F S8192x128 .f32 =>
  .op (.store arg13 (Rect.unit (s := S8192x128) ![0, 0] S8192x128.size inb_S8192x128_S8192x128_0_0) (k0_pay5 (F := F)) Finset.univ (View.stores_vmem_bits_univ h_S8192x128 rfl) (.inl rfl)) fun _ =>
  .op (.load arg14 (Rect.unit (s := S8192x128) ![0, 0] S8192x128.size inb_S8192x128_S8192x128_0_0).toLoadRect (View.loadsAt_vmem h_S8192x128)) fun _ : Vec F S8192x128 .f32 =>
  .op (.store arg14 (Rect.unit (s := S8192x128) ![0, 0] S8192x128.size inb_S8192x128_S8192x128_0_0) (k0_pay6 (F := F)) Finset.univ (View.stores_vmem_bits_univ h_S8192x128 rfl) (.inl rfl)) fun _ =>
  .ret ⟨⟩

/-- What the body's first stretch computes. -/
def part1Out (i : grid0.Coords) : Σ' (v1 : BitVec 1) (v4 : BitVec 32) (v7 : IVec S1x128 1) (v10 : IVec S64x256 32) (v11 : IVec S1x256 32) (v12 : FVec F S1x1 .f32) (v13 : FVec F S1x1 .f32) (v14 : BitVec 32) (v18 : BitVec 32) (v20 : IVec S1x256 32) (v37 : BitVec 32), BitVec 32 :=
  let arg1 : BitVec 32 := BitVec.ofNat 32 (i 1).val
  let v1 : BitVec 1 := Scalar.cmpi .eq arg1 3#32
  let c2048_i32 : BitVec 32 := 2048#32
  let v4 : BitVec 32 := Scalar.muli arg1 c2048_i32
  have v5 : IVec S1x128 32 := iota .tc S1x128 32 [1] iota_S1x128_d1_w32
  let c64_i32 : BitVec 32 := 64#32
  have v6 : IVec S1x128 32 := broadcast S1x128 c64_i32
  have v7 : IVec S1x128 1 := cmpi .slt v5 v6
  have v8 : IVec S64x256 32 := iota .tc S64x256 32 [1] iota_S64x256_d1_w32
  have v9 : IVec S64x256 32 := iota .tc S64x256 32 [0] iota_S64x256_d0_w32
  have v10 : IVec S64x256 32 := subi v8 v9
  have v11 : IVec S1x256 32 := iota .tc S1x256 32 [1] iota_S1x256_d1_w32
  have cst : F .f32 := Scalar.ofBits .f32 0x00000000#32
  have v12 : FVec F S1x1 .f32 := broadcast S1x1 cst
  have cst_1 : F .f32 := Scalar.ofBits .f32 0x00000000#32
  have v13 : FVec F S1x1 .f32 := broadcast S1x1 cst_1
  let c0_i32_2 : BitVec 32 := 0#32
  let v14 : BitVec 32 := Scalar.addi v4 c0_i32_2
  let c64_i32_3 : BitVec 32 := 64#32
  let v15 : BitVec 32 := Scalar.subi v14 c64_i32_3
  let c0_i32_4 : BitVec 32 := 0#32
  let c7936_i32 : BitVec 32 := 7936#32
  let v16 : BitVec 32 := Scalar.maxsi c0_i32_4 v15
  let v17 : BitVec 32 := Scalar.minsi c7936_i32 v16
  let v18 : BitVec 32 := v17
  have v19 : IVec S1x256 32 := broadcast S1x256 v18
  have v20 : IVec S1x256 32 := addi v11 v19
  let c512_i32 : BitVec 32 := 512#32
  let v21 : BitVec 32 := Scalar.divsi v14 c512_i32
  let c0_i32_5 : BitVec 32 := 0#32
  let v22 : BitVec 1 := Scalar.cmpi .sgt v14 c0_i32_5
  let v23 : BitVec 32 := Scalar.extui v22
  let c0_i32_6 : BitVec 32 := 0#32
  let v24 : BitVec 1 := Scalar.cmpi .slt v14 c0_i32_6
  let v25 : BitVec 32 := Scalar.extui v24
  let v26 : BitVec 32 := Scalar.subi v23 v25
  let c0_i32_7 : BitVec 32 := 0#32
  let v27 : BitVec 1 := Scalar.cmpi .sgt c512_i32 c0_i32_7
  let v28 : BitVec 32 := Scalar.extui v27
  let c0_i32_8 : BitVec 32 := 0#32
  let v29 : BitVec 1 := Scalar.cmpi .slt c512_i32 c0_i32_8
  let v30 : BitVec 32 := Scalar.extui v29
  let v31 : BitVec 32 := Scalar.subi v28 v30
  let v32 : BitVec 1 := Scalar.cmpi .ne v26 v31
  let v33 : BitVec 32 := Scalar.remsi v14 c512_i32
  let c0_i32_9 : BitVec 32 := 0#32
  let v34 : BitVec 1 := Scalar.cmpi .ne v33 c0_i32_9
  let v35 : BitVec 1 := Scalar.andi v32 v34
  let c1_i32 : BitVec 32 := 1#32
  let v36 : BitVec 32 := Scalar.subi v21 c1_i32
  let v37 : BitVec 32 := Scalar.select v35 v36 v21
  let c512_i32_10 : BitVec 32 := 512#32
  ⟨v1, v4, v7, v10, v11, v12, v13, v14, v18, v20, v37, c512_i32_10⟩

/-- The body's first condition: the first tile of a column. -/
def condFirst (i : grid0.Coords) : BitVec 1 :=
  Scalar.cmpi .ne (Scalar.extui (Scalar.cmpi .eq (BitVec.ofNat 32 (i 1).val) 0#32) : BitVec 32) 0#32

/-- The first stretch of the body where its branch is taken, -/
theorem part1_pos (i : grid0.Coords) (arg2 : Memref sig .tc .smem S8 .f32) (harg2 : arg2.IsWhole) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x1x8x128 .f32) (harg12 : arg12.IsWhole) (arg13 : Memref sig .tc .vmem S8192x128 .f32) (harg13 : arg13.IsWhole) (arg14 : Memref sig .tc .vmem S8192x128 .f32) (harg14 : arg14.IsWhole) (h : condFirst i = 1#1) :
    k0_part1 (F := F) i arg2 harg2 arg3 harg3 arg4 harg4 arg5 harg5 arg6 harg6 arg7 harg7 arg8 harg8 arg9 harg9 arg10 harg10 arg11 harg11 arg12 harg12 arg13 harg13 arg14 harg14 = ((clear arg13 arg14) >>= fun _ : PUnit => .ret (part1Out i)) := by
  unfold k0_part1
  refine (dif_pos h).trans ?_
  chain_rfl

/-- and where it is not. -/
theorem part1_neg (i : grid0.Coords) (arg2 : Memref sig .tc .smem S8 .f32) (harg2 : arg2.IsWhole) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x1x8x128 .f32) (harg12 : arg12.IsWhole) (arg13 : Memref sig .tc .vmem S8192x128 .f32) (harg13 : arg13.IsWhole) (arg14 : Memref sig .tc .vmem S8192x128 .f32) (harg14 : arg14.IsWhole) (h : ¬condFirst i = 1#1) :
    k0_part1 (F := F) i arg2 harg2 arg3 harg3 arg4 harg4 arg5 harg5 arg6 harg6 arg7 harg7 arg8 harg8 arg9 harg9 arg10 harg10 arg11 harg11 arg12 harg12 arg13 harg13 arg14 harg14 = .ret (part1Out i) := by
  unfold k0_part1
  refine (dif_neg h).trans ?_
  chain_rfl

/-- The printed body at the first tile of a column is the recursion over its strips after the clearing. -/
theorem body_first (i : grid0.Coords) (arg2 : Memref sig .tc .smem S8 .f32) (harg2 : arg2.IsWhole) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x1x8x128 .f32) (harg12 : arg12.IsWhole) (arg13 : Memref sig .tc .vmem S8192x128 .f32) (harg13 : arg13.IsWhole) (arg14 : Memref sig .tc .vmem S8192x128 .f32) (harg14 : arg14.IsWhole) (h : condFirst i = 1#1) :
    cc0_attn_b16_bwd (F := F) i arg2 harg2 arg3 harg3 arg4 harg4 arg5 harg5 arg6 harg6 arg7 harg7 arg8 harg8 arg9 harg9 arg10 harg10 arg11 harg11 arg12 harg12 arg13 harg13 arg14 harg14 = ((clear arg13 arg14) >>= fun _ : PUnit => bodyRest i arg2 harg2 arg3 harg3 arg4 harg4 arg5 harg5 arg6 harg6 arg7 harg7 arg8 harg8 arg9 harg9 arg10 harg10 arg11 harg11 arg12 harg12 arg13 harg13 arg14 harg14) := by
  unfold cc0_attn_b16_bwd k0_part106
  rw [part1_pos (F := F) i arg2 harg2 arg3 harg3 arg4 harg4 arg5 harg5 arg6 harg6 arg7 harg7 arg8 harg8 arg9 harg9 arg10 harg10 arg11 harg11 arg12 harg12 arg13 harg13 arg14 harg14 h]
  chain_rfl

/-- The printed body at any other tile is the recursion over its strips. -/
theorem body_later (i : grid0.Coords) (arg2 : Memref sig .tc .smem S8 .f32) (harg2 : arg2.IsWhole) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x1x8x128 .f32) (harg12 : arg12.IsWhole) (arg13 : Memref sig .tc .vmem S8192x128 .f32) (harg13 : arg13.IsWhole) (arg14 : Memref sig .tc .vmem S8192x128 .f32) (harg14 : arg14.IsWhole) (h : ¬condFirst i = 1#1) :
    cc0_attn_b16_bwd (F := F) i arg2 harg2 arg3 harg3 arg4 harg4 arg5 harg5 arg6 harg6 arg7 harg7 arg8 harg8 arg9 harg9 arg10 harg10 arg11 harg11 arg12 harg12 arg13 harg13 arg14 harg14 = bodyRest i arg2 harg2 arg3 harg3 arg4 harg4 arg5 harg5 arg6 harg6 arg7 harg7 arg8 harg8 arg9 harg9 arg10 harg10 arg11 harg11 arg12 harg12 arg13 harg13 arg14 harg14 := by
  unfold cc0_attn_b16_bwd k0_part106
  rw [part1_neg (F := F) i arg2 harg2 arg3 harg3 arg4 harg4 arg5 harg5 arg6 harg6 arg7 harg7 arg8 harg8 arg9 harg9 arg10 harg10 arg11 harg11 arg12 harg12 arg13 harg13 arg14 harg14 h]
  chain_rfl

end Cert.AttnIdeal.Gen

end
-- ==== Proof.AttnRun.lean ====
module

public import proofs.«01_k».proof.Proof.AttnRoll
public import proofs.«01_k».proof.Proof.Gen.AttnIdeal.Frame

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One load and one store, over what a memref is read as -/

/-- The contents `X` with the rectangle `r` replaced by `w`. -/
def putR {s : Shape} {α : Type} (r : Rect s) (X : s.Idx → α) (w : r.shape.Idx → α) : s.Idx → α :=
  fun y => match preimage? r.emb y with
    | some x => w x
    | none => X y

theorem putR_hit {s : Shape} {α : Type} (r : Rect s) (X : s.Idx → α) (w : r.shape.Idx → α) (x : r.shape.Idx) :
    putR r X w (r.emb x) = w x := by
  unfold putR; rw [preimage?_emb]

theorem putR_miss {s : Shape} {α : Type} (r : Rect s) (X : s.Idx → α) (w : r.shape.Idx → α) (y : s.Idx)
    (h : ∀ x, r.emb x ≠ y) : putR r X w y = X y := by
  unfold putR; rw [preimage?_eq_none h]

theorem read_put {s : Shape} {e : EltTy} {cs : CoreSpace} (m : Memref sig .tc cs s e) (r : Rect s) (f : m.view.ty.Contents (Elt F)) (w : r.shape.Idx → Elt F e) :
    m.view.read (Elt F) (m.view.writes (Elt F) f [⟨r, w⟩]) = putR r (m.view.read (Elt F) f) w := by
  funext y
  by_cases h : ∃ x, r.emb x = y
  · obtain ⟨x, rfl⟩ := h
    rw [putR_hit]; exact View.read_writes_cons_emb _ _ _ _ _ _
  · rw [putR_miss _ _ _ _ (fun x hx => h ⟨x, hx⟩)]
    refine View.read_writes_apply_of_forall_not_mem _ _ _ _ ?_
    intro p hp
    rw [List.mem_singleton.1 hp]
    intro hm
    rw [← Rect.map_emb_univ] at hm
    obtain ⟨x, -, hx⟩ := Finset.mem_map.1 hm
    exact h ⟨x, hx⟩

variable (c : Dev nD)

abbrev runs (p : Prog (TpuEff nD τ sig (Elt F) Λ₀ .tc) PUnit) (Q : PUnit → sProp 𝕄) : sProp 𝕄 :=
  wp frame (wpE (defs₀ (F := F)) Variants.none (c : Thread nD τ) none) Set.univ p Q

theorem run_load (Q : PUnit → sProp 𝕄) {s : Shape} {e : EltTy} {cs : CoreSpace} (m : Memref sig .tc cs s e) (r : LoadRect s) (hl : m.view.LoadsAt r)
    (q : PosShare TreeShare) (X : s.Idx → Elt F e) (k : (r.shape.Idx → Elt F e) → Prog (TpuEff nD τ sig (Elt F) Λ₀ .tc) PUnit) :
    (owns (c : Thread nD τ) m q X : sProp 𝕄) ⊢ iprop((owns (c : Thread nD τ) m q X -∗ runs c (k fun x => X (r.idx x)) Q) -∗ runs c (.op (.load m r hl) k) Q) := by
  iintro H Hk
  unfold owns
  icases H with ⟨%f, %hf, H⟩
  iapply (wp_load (defs := defs₀ (F := F)) Variants.none (c : Thread nD τ) none Set.univ (m := m) (hl := hl) (k := k) (Q := _) (q := q) (f := f) (View.setOn_subset_set _ _)) $$ H
  iintro H
  have hr : m.view.readAt (Elt F) r f = fun x => X (r.idx x) := by
    funext x; rw [View.readAt_apply, hf]
  rw [hr]
  iapply Hk
  iexists f
  isplitr
  · ipureintro; exact hf
  iexact H

theorem run_store (Q : PUnit → sProp 𝕄) {s : Shape} {e : EltTy} {cs : CoreSpace} (m : Memref sig .tc cs s e) (r : Rect s) (w : r.shape.Idx → Elt F e)
    (hx : (m.access r).Stores Finset.univ) (hm : Finset.univ = Finset.univ ∨ ∀ a, r.stride a = 1)
    (X : s.Idx → Elt F e) (k : PUnit → Prog (TpuEff nD τ sig (Elt F) Λ₀ .tc) PUnit) :
    (owns (c : Thread nD τ) m fullShare X : sProp 𝕄) ⊢ iprop((owns (c : Thread nD τ) m fullShare (putR r X w) -∗ runs c (k ⟨⟩) Q) -∗ runs c (.op (.store m r w Finset.univ hx hm) k) Q) := by
  iintro H Hk
  unfold owns
  icases H with ⟨%f, %hf, H⟩
  iapply (wp_store_writes₀ (defs := defs₀ (F := F)) Variants.none (c : Thread nD τ) none Set.univ (m := m) (r := r) (w := w) (hx := hx) (hm := hm) (k := k) (Q := _) (f := f) (View.set_slice_subset _ _)) $$ H
  iintro H
  iapply Hk
  iexists _
  isplitr
  swap
  · iexact H
  ipureintro
  rw [read_put, hf]

/-! ## The sweeps -/

variable (i : grid0.Coords)

/-- A strip read off the blocks. -/
def stripOf (X3 : Vec F S2048x128 .bf16) (X4 X5 : Vec F S8192x128 .bf16) (X7 : Vec F S2048x128 .bf16) (j : Fin 32) : Strip F :=
  ⟨j, fun x => X4 ((winR i j).emb x), fun x => X7 ((rowsR j).emb x), fun x => X3 ((rowsR j).emb x), fun x => X5 ((winR i j).emb x)⟩

theorem run_sweep1 (Q : PUnit → sProp 𝕄) (arg3 : Memref sig .tc .vmem S2048x128 .bf16) (arg4 arg5 : Memref sig .tc .vmem S8192x128 .bf16) (arg7 : Memref sig .tc .vmem S2048x128 .bf16)
    (X3 : Vec F S2048x128 .bf16) (X4 X5 : Vec F S8192x128 .bf16) (X7 : Vec F S2048x128 .bf16) (js : List (Fin 32)) :
    ∀ k : List (Strip F) → Prog (TpuEff nD τ sig (Elt F) Λ₀ .tc) PUnit,
    (iprop(owns (c : Thread nD τ) arg3 fullShare X3 ∗ owns (c : Thread nD τ) arg4 fullShare X4 ∗ owns (c : Thread nD τ) arg5 fullShare X5 ∗ owns (c : Thread nD τ) arg7 fullShare X7
      ∗ ((owns (c : Thread nD τ) arg3 fullShare X3 ∗ owns (c : Thread nD τ) arg4 fullShare X4 ∗ owns (c : Thread nD τ) arg5 fullShare X5 ∗ owns (c : Thread nD τ) arg7 fullShare X7)
          -∗ runs c (k (js.map (stripOf i X3 X4 X5 X7))) Q)) : sProp 𝕄)
      ⊢ runs c (sweep1 i arg3 arg4 arg5 arg7 js k) Q := by
  induction js with
  | nil =>
    intro k
    iintro ⟨H3, H4, H5, H7, Hk⟩
    unfold sweep1
    iapply Hk
    isplitl [H3]; · iexact H3
    isplitl [H4]; · iexact H4
    isplitl [H5]; · iexact H5
    iexact H7
  | cons j js ih =>
    intro k
    iintro ⟨H3, H4, H5, H7, Hk⟩
    unfold sweep1
    iapply (run_load c Q arg4 _ _ fullShare X4 _) $$ H4
    iintro H4
    iapply (run_load c Q arg7 _ _ fullShare X7 _) $$ H7
    iintro H7
    iapply (run_load c Q arg3 _ _ fullShare X3 _) $$ H3
    iintro H3
    iapply (run_load c Q arg5 _ _ fullShare X5 _) $$ H5
    iintro H5
    iapply (ih _)
    isplitl [H3]; · iexact H3
    isplitl [H4]; · iexact H4
    isplitl [H5]; · iexact H5
    isplitl [H7]; · iexact H7
    iexact Hk

/-- A strip's gradients read off the blocks. -/
def gradsAt (X6 : Vec F S2048x128 .bf16) (X8 : Vec F S2048x128 .f32) (s : Strip F) : Grads F :=
  gradsOf i s (fun x => X6 ((rowsR s.j).emb x)) (fun x => X8 ((rowsR s.j).emb x))

theorem run_sweep2 (Q : PUnit → sProp 𝕄) (arg6 : Memref sig .tc .vmem S2048x128 .bf16) (arg8 : Memref sig .tc .vmem S2048x128 .f32)
    (X6 : Vec F S2048x128 .bf16) (X8 : Vec F S2048x128 .f32) (ss : List (Strip F)) :
    ∀ k : List (Grads F) → Prog (TpuEff nD τ sig (Elt F) Λ₀ .tc) PUnit,
    (iprop(owns (c : Thread nD τ) arg6 fullShare X6 ∗ owns (c : Thread nD τ) arg8 fullShare X8
      ∗ ((owns (c : Thread nD τ) arg6 fullShare X6 ∗ owns (c : Thread nD τ) arg8 fullShare X8)
          -∗ runs c (k (ss.map (gradsAt i X6 X8))) Q)) : sProp 𝕄)
      ⊢ runs c (sweep2 i arg6 arg8 ss k) Q := by
  induction ss with
  | nil =>
    intro k
    iintro ⟨H6, H8, Hk⟩
    unfold sweep2
    iapply Hk
    isplitl [H6]; · iexact H6
    iexact H8
  | cons s ss ih =>
    intro k
    iintro ⟨H6, H8, Hk⟩
    unfold sweep2
    iapply (run_load c Q arg6 _ _ fullShare X6 _) $$ H6
    iintro H6
    iapply (run_load c Q arg8 _ _ fullShare X8 _) $$ H8
    iintro H8
    iapply (ih _)
    isplitl [H6]; · iexact H6
    isplitl [H8]; · iexact H8
    iexact Hk

/-- A strip's contribution to the gradient of the values, added in its window, -/
def dvStep (b : Vec F S8192x128 .f32) (g : Grads F) : Vec F S8192x128 .f32 :=
  putR (winR i g.j) b (accOf (fun x => b ((winR i g.j).emb x)) g.pr2 g.do2)

/-- to the gradient of the keys, -/
def dkStep (a : Vec F S8192x128 .f32) (g : Grads F) : Vec F S8192x128 .f32 :=
  putR (winR i g.j) a (accOf (fun x => a ((winR i g.j).emb x)) g.ds2 g.q2)

/-- and to the gradient of the queries, written in its rows. -/
def dqStep (d : Vec F S2048x128 .bf16) (g : Grads F) : Vec F S2048x128 .bf16 :=
  putR (rowsR g.j) d (dqOf g.ds2 g.kw)

theorem run_sweep3 (Q : PUnit → sProp 𝕄) (arg9 : Memref sig .tc .vmem S2048x128 .bf16) (harg9 : arg9.IsWhole) (arg13 arg14 : Memref sig .tc .vmem S8192x128 .f32)
    (k : Prog (TpuEff nD τ sig (Elt F) Λ₀ .tc) PUnit) (gs : List (Grads F)) :
    ∀ (d : Vec F S2048x128 .bf16) (a b : Vec F S8192x128 .f32),
    (iprop(owns (c : Thread nD τ) arg9 fullShare d ∗ owns (c : Thread nD τ) arg13 fullShare a ∗ owns (c : Thread nD τ) arg14 fullShare b
      ∗ ((owns (c : Thread nD τ) arg9 fullShare (gs.foldl dqStep d) ∗ owns (c : Thread nD τ) arg13 fullShare (gs.foldl (dkStep i) a) ∗ owns (c : Thread nD τ) arg14 fullShare (gs.foldl (dvStep i) b))
          -∗ runs c k Q)) : sProp 𝕄)
      ⊢ runs c (sweep3 i arg9 harg9 arg13 arg14 gs k) Q := by
  induction gs with
  | nil =>
    intro d a b
    iintro ⟨H9, H13, H14, Hk⟩
    unfold sweep3
    iapply Hk
    isplitl [H9]; · iexact H9
    isplitl [H13]; · iexact H13
    iexact H14
  | cons g gs ih =>
    intro d a b
    iintro ⟨H9, H13, H14, Hk⟩
    unfold sweep3
    iapply (run_load c Q arg14 _ _ fullShare b _) $$ H14
    iintro H14
    iapply (run_load c Q arg14 _ _ fullShare b _) $$ H14
    iintro H14
    iapply (run_store c Q arg14 _ _ _ _ b _) $$ H14
    iintro H14
    iapply (run_load c Q arg13 _ _ fullShare a _) $$ H13
    iintro H13
    iapply (run_load c Q arg13 _ _ fullShare a _) $$ H13
    iintro H13
    iapply (run_store c Q arg13 _ _ _ _ a _) $$ H13
    iintro H13
    iapply (run_load c Q arg9 _ _ fullShare d _) $$ H9
    iintro H9
    iapply (run_store c Q arg9 _ _ _ _ d _) $$ H9
    iintro H9
    iapply (ih (dqStep d g) (dkStep i a g) (dvStep i b g))
    isplitl [H9]; · iexact H9
    isplitl [H13]; · iexact H13
    isplitl [H14]; · iexact H14
    iexact Hk

end Cert.AttnIdeal.Gen

end
-- ==== Proof.AttnTile.lean ====
module

public import proofs.«01_k».proof.Proof.AttnRun

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## A store of the whole block -/

theorem putR_all {s : Shape} {α : Type} (off : Fin s.rank → ℕ) (inb) (h0 : ∀ a, off a = 0) (X : s.Idx → α) (w : s.Idx → α) :
    putR (Rect.unit (s := s) off s.size inb) X w = w := by
  funext y
  have he : (Rect.unit (s := s) off s.size inb).emb y = y := by
    funext a
    apply Fin.ext
    show off a + 1 * (y a).val = (y a).val
    rw [h0 a]; omega
  calc putR (Rect.unit (s := s) off s.size inb) X w y
      = putR (Rect.unit (s := s) off s.size inb) X w ((Rect.unit (s := s) off s.size inb).emb y) := by rw [he]
    _ = w y := putR_hit (Rect.unit (s := s) off s.size inb) X w y

theorem take_all {s : Shape} {α : Type} (off : Fin s.rank → ℕ) (inb) (h0 : ∀ a, off a = 0) (X : s.Idx → α) :
    (fun x => X ((Rect.unit (s := s) off s.size inb).toLoadRect.idx x)) = X := by
  funext y
  congr 1
  funext a
  apply Fin.ext
  show off a + 1 * (y a).val = (y a).val
  rw [h0 a]; omega

theorem zero2 : ∀ a : Fin S8192x128.rank, (![0, 0] : Fin 2 → ℕ) a = 0 := by decide
theorem zero4 : ∀ a : Fin S1x1x8x128.rank, (![0, 0, 0, 0] : Fin 4 → ℕ) a = 0 := by decide

/-! ## What a tile computes -/

variable (i : grid0.Coords)

/-- Strip `j`'s gradients, read off the blocks. -/
def gradsFor (X3 : Vec F S2048x128 .bf16) (X4 : Vec F S8192x128 .bf16) (X5 : Vec F S8192x128 .bf16) (X6 : Vec F S2048x128 .bf16) (X7 : Vec F S2048x128 .bf16) (X8 : Vec F S2048x128 .f32) (j : Fin 32) : Grads F :=
  gradsAt i X6 X8 (stripOf i X3 X4 X5 X7 j)

/-- The tile's strips' gradients. -/
def tileGrads (X3 : Vec F S2048x128 .bf16) (X4 : Vec F S8192x128 .bf16) (X5 : Vec F S8192x128 .bf16) (X6 : Vec F S2048x128 .bf16) (X7 : Vec F S2048x128 .bf16) (X8 : Vec F S2048x128 .f32) : List (Grads F) :=
  strips.map (gradsFor i X3 X4 X5 X6 X7 X8)

/-- The gradient of the queries over the tile. -/
def dqTile (X3 : Vec F S2048x128 .bf16) (X4 : Vec F S8192x128 .bf16) (X5 : Vec F S8192x128 .bf16) (X6 : Vec F S2048x128 .bf16) (X7 : Vec F S2048x128 .bf16) (X8 : Vec F S2048x128 .f32) : Vec F S2048x128 .bf16 := fun y =>
  dqOf (gradsFor i X3 X4 X5 X6 X7 X8 ⟨(y 0).val / 64, by have : (y 0).val < 2048 := (y 0).isLt; omega⟩).ds2
    (gradsFor i X3 X4 X5 X6 X7 X8 ⟨(y 0).val / 64, by have : (y 0).val < 2048 := (y 0).isLt; omega⟩).kw
    (fun a => match a with
      | ⟨0, _⟩ => (⟨(y 0).val % 64, Nat.mod_lt _ (by decide)⟩ : Fin 64)
      | ⟨1, _⟩ => (⟨(y 1).val, (y 1).isLt⟩ : Fin 128))

theorem dqStep_eq (X3 : Vec F S2048x128 .bf16) (X4 : Vec F S8192x128 .bf16) (X5 : Vec F S8192x128 .bf16) (X6 : Vec F S2048x128 .bf16) (X7 : Vec F S2048x128 .bf16) (X8 : Vec F S2048x128 .f32) (d : Vec F S2048x128 .bf16) (j : Fin 32) (y : S2048x128.Idx) :
    dqStep d (gradsFor i X3 X4 X5 X6 X7 X8 j) y = if (y 0).val / 64 = j.val then dqTile i X3 X4 X5 X6 X7 X8 y else d y := by
  have hj : (gradsFor i X3 X4 X5 X6 X7 X8 j).j = j := rfl
  unfold dqStep
  rw [hj]
  split
  · rename_i h
    have hjj : j = ⟨(y 0).val / 64, by have : (y 0).val < 2048 := (y 0).isLt; omega⟩ := Fin.ext h.symm
    let x : (rowsR j).shape.Idx := fun a => match a with
      | ⟨0, _⟩ => (⟨(y 0).val % 64, Nat.mod_lt _ (by decide)⟩ : Fin 64)
      | ⟨1, _⟩ => (⟨(y 1).val, (y 1).isLt⟩ : Fin 128)
    have hx : (rowsR j).emb x = y := by
      funext a
      apply Fin.ext
      match a with
      | ⟨0, _⟩ =>
        show 64 * j.val + 1 * ((y 0).val % 64) = (y 0).val
        omega
      | ⟨1, _⟩ =>
        show 0 + 1 * (y 1).val = (y 1).val
        omega
    rw [← congrArg (putR (rowsR j) d _) hx, putR_hit]
    unfold dqTile
    rw [← hjj]
    refine congrArg _ (funext fun a => ?_)
    match a with
    | ⟨0, _⟩ => rfl
    | ⟨1, _⟩ => rfl
  · rename_i h
    refine putR_miss _ _ _ _ fun x hx => h ?_
    have h0 : ((rowsR j).emb x 0).val = (y 0).val := by rw [hx]
    have h1 : ((rowsR j).emb x 0).val = 64 * j.val + 1 * (x 0).val := rfl
    have h2 : (x 0).val < 64 := (x 0).isLt
    omega

theorem foldl_dq (X3 : Vec F S2048x128 .bf16) (X4 : Vec F S8192x128 .bf16) (X5 : Vec F S8192x128 .bf16) (X6 : Vec F S2048x128 .bf16) (X7 : Vec F S2048x128 .bf16) (X8 : Vec F S2048x128 .f32) (js : List (Fin 32)) : ∀ (d : Vec F S2048x128 .bf16) (y : S2048x128.Idx),
    (js.map (gradsFor i X3 X4 X5 X6 X7 X8)).foldl dqStep d y = if ∃ j ∈ js, (y 0).val / 64 = j.val then dqTile i X3 X4 X5 X6 X7 X8 y else d y := by
  induction js with
  | nil => intro d y; simp
  | cons j js ih =>
    intro d y
    rw [List.map_cons, List.foldl_cons, ih, dqStep_eq]
    by_cases h1 : ∃ j ∈ js, (y 0).val / 64 = j.val
    · rw [if_pos h1, if_pos (by obtain ⟨a, ha, hb⟩ := h1; exact ⟨a, List.mem_cons_of_mem _ ha, hb⟩)]
    · rw [if_neg h1]
      by_cases h2 : (y 0).val / 64 = j.val
      · rw [if_pos h2, if_pos ⟨j, List.mem_cons_self, h2⟩]
      · rw [if_neg h2, if_neg]
        rintro ⟨a, ha, hb⟩
        rcases List.mem_cons.1 ha with rfl | ha
        · exact h2 hb
        · exact h1 ⟨a, ha, hb⟩

theorem mem_strips : ∀ j : Fin 32, j ∈ strips := by decide

theorem foldl_tile (X3 : Vec F S2048x128 .bf16) (X4 : Vec F S8192x128 .bf16) (X5 : Vec F S8192x128 .bf16) (X6 : Vec F S2048x128 .bf16) (X7 : Vec F S2048x128 .bf16) (X8 : Vec F S2048x128 .f32) (d : Vec F S2048x128 .bf16) :
    (tileGrads i X3 X4 X5 X6 X7 X8).foldl dqStep d = dqTile i X3 X4 X5 X6 X7 X8 := by
  funext y
  unfold tileGrads
  rw [foldl_dq, if_pos]
  exact ⟨⟨(y 0).val / 64, by have : (y 0).val < 2048 := (y 0).isLt; omega⟩, mem_strips _, rfl⟩

/-! ## The body's run -/

variable (c : Dev nD)

theorem run_clear (Q : PUnit → sProp 𝕄) (arg13 arg14 : Memref sig .tc .vmem S8192x128 .f32) (a b : Vec F S8192x128 .f32) (k : Prog (TpuEff nD τ sig (Elt F) Λ₀ .tc) PUnit) :
    (iprop(owns (c : Thread nD τ) arg13 fullShare a ∗ owns (c : Thread nD τ) arg14 fullShare b
      ∗ ((owns (c : Thread nD τ) arg13 fullShare (k0_pay5 (F := F)) ∗ owns (c : Thread nD τ) arg14 fullShare (k0_pay6 (F := F))) -∗ runs c k Q)) : sProp 𝕄)
      ⊢ runs c (clear arg13 arg14 >>= fun _ : PUnit => k) Q := by
  iintro ⟨H13, H14, Hk⟩
  iapply (run_load c Q arg13 _ _ fullShare a _) $$ H13
  iintro H13
  iapply (run_store c Q arg13 _ _ _ _ a _) $$ H13
  iintro H13
  iapply (run_load c Q arg14 _ _ fullShare b _) $$ H14
  iintro H14
  iapply (run_store c Q arg14 _ _ _ _ b _) $$ H14
  iintro H14
  rw [putR_all _ _ zero2, putR_all _ _ zero2]
  iapply Hk
  isplitl [H13]; · iexact H13
  iexact H14

theorem run_end_last (Q : PUnit → sProp 𝕄) (h : k0_cond2 i = 1#1) (arg10 : Memref sig .tc .vmem S8192x128 .bf16) (harg10 : arg10.IsWhole) (arg11 : Memref sig .tc .vmem S8192x128 .bf16) (harg11 : arg11.IsWhole) (arg12 : Memref sig .tc .vmem S1x1x8x128 .f32) (arg13 arg14 : Memref sig .tc .vmem S8192x128 .f32)
    (d10 d11 : Vec F S8192x128 .bf16) (d12 : Vec F S1x1x8x128 .f32) (a b : Vec F S8192x128 .f32) :
    (iprop(owns (c : Thread nD τ) arg10 fullShare d10 ∗ owns (c : Thread nD τ) arg11 fullShare d11 ∗ owns (c : Thread nD τ) arg12 fullShare d12 ∗ owns (c : Thread nD τ) arg13 fullShare a ∗ owns (c : Thread nD τ) arg14 fullShare b
      ∗ ((owns (c : Thread nD τ) arg10 fullShare (k0_pay3 a) ∗ owns (c : Thread nD τ) arg11 fullShare (k0_pay4 b) ∗ owns (c : Thread nD τ) arg12 fullShare (dsinkOf (F := F)) ∗ owns (c : Thread nD τ) arg13 fullShare a ∗ owns (c : Thread nD τ) arg14 fullShare b) -∗ Q ⟨⟩)) : sProp 𝕄)
      ⊢ runs c (bodyEnd (F := F) i arg10 harg10 arg11 harg11 arg12 arg13 arg14) Q := by
  iintro ⟨H10, H11, H12, H13, H14, Hk⟩
  unfold bodyEnd
  iapply (run_load c Q arg12 _ _ fullShare d12 _) $$ H12
  iintro H12
  iapply (run_store c Q arg12 _ _ _ _ d12 _) $$ H12
  iintro H12
  rw [dif_pos h]
  iapply (run_load c Q arg13 _ _ fullShare a _) $$ H13
  iintro H13
  iapply (run_load c Q arg10 _ _ fullShare d10 _) $$ H10
  iintro H10
  iapply (run_store c Q arg10 _ _ _ _ d10 _) $$ H10
  iintro H10
  iapply (run_load c Q arg14 _ _ fullShare b _) $$ H14
  iintro H14
  iapply (run_load c Q arg11 _ _ fullShare d11 _) $$ H11
  iintro H11
  iapply (run_store c Q arg11 _ _ _ _ d11 _) $$ H11
  iintro H11
  rw [putR_all _ _ zero4, putR_all _ _ zero2, putR_all _ _ zero2, take_all _ _ zero2, take_all _ _ zero2]
  unfold runs
  rw [wp_ret]
  imodintro
  iapply Hk
  isplitl [H10]; · iexact H10
  isplitl [H11]; · iexact H11
  isplitl [H12]; · iexact H12
  isplitl [H13]; · iexact H13
  iexact H14

theorem run_end_mid (Q : PUnit → sProp 𝕄) (h : ¬k0_cond2 i = 1#1) (arg10 : Memref sig .tc .vmem S8192x128 .bf16) (harg10 : arg10.IsWhole) (arg11 : Memref sig .tc .vmem S8192x128 .bf16) (harg11 : arg11.IsWhole) (arg12 : Memref sig .tc .vmem S1x1x8x128 .f32) (arg13 arg14 : Memref sig .tc .vmem S8192x128 .f32)
    (d12 : Vec F S1x1x8x128 .f32) :
    (iprop(owns (c : Thread nD τ) arg12 fullShare d12 ∗ (owns (c : Thread nD τ) arg12 fullShare (dsinkOf (F := F)) -∗ Q ⟨⟩)) : sProp 𝕄)
      ⊢ runs c (bodyEnd (F := F) i arg10 harg10 arg11 harg11 arg12 arg13 arg14) Q := by
  iintro ⟨H12, Hk⟩
  unfold bodyEnd
  iapply (run_load c Q arg12 _ _ fullShare d12 _) $$ H12
  iintro H12
  iapply (run_store c Q arg12 _ _ _ _ d12 _) $$ H12
  iintro H12
  rw [dif_neg h, putR_all _ _ zero4]
  unfold runs
  rw [wp_ret]
  imodintro
  iapply Hk
  iexact H12

theorem run_rest (Q : PUnit → sProp 𝕄) (i : grid0.Coords) (arg2 : Memref sig .tc .smem S8 .f32) (harg2 : arg2.IsWhole) (arg3 : Memref sig .tc .vmem S2048x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .f32) (harg8 : arg8.IsWhole) (arg9 : Memref sig .tc .vmem S2048x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x1x8x128 .f32) (harg12 : arg12.IsWhole) (arg13 : Memref sig .tc .vmem S8192x128 .f32) (harg13 : arg13.IsWhole) (arg14 : Memref sig .tc .vmem S8192x128 .f32) (harg14 : arg14.IsWhole)
    (X3 : Vec F S2048x128 .bf16) (X4 : Vec F S8192x128 .bf16) (X5 : Vec F S8192x128 .bf16) (X6 : Vec F S2048x128 .bf16) (X7 : Vec F S2048x128 .bf16) (X8 : Vec F S2048x128 .f32) (d9 : Vec F S2048x128 .bf16) (a b : Vec F S8192x128 .f32) :
    (iprop(owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare d9 ∗ owns (c : Thread nD τ) arg13 fullShare a ∗ owns (c : Thread nD τ) arg14 fullShare b
      ∗ ((owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (dqTile i X3 X4 X5 X6 X7 X8) ∗ owns (c : Thread nD τ) arg13 fullShare ((tileGrads i X3 X4 X5 X6 X7 X8).foldl (dkStep i) a) ∗ owns (c : Thread nD τ) arg14 fullShare ((tileGrads i X3 X4 X5 X6 X7 X8).foldl (dvStep i) b))
          -∗ runs c (bodyEnd (F := F) i arg10 harg10 arg11 harg11 arg12 arg13 arg14) Q)) : sProp 𝕄)
      ⊢ runs c (bodyRest (F := F) i arg2 harg2 arg3 harg3 arg4 harg4 arg5 harg5 arg6 harg6 arg7 harg7 arg8 harg8 arg9 harg9 arg10 harg10 arg11 harg11 arg12 harg12 arg13 harg13 arg14 harg14) Q := by
  iintro ⟨H3, H4, H5, H6, H7, H8, H9, H13, H14, Hk⟩
  unfold bodyRest
  iapply (run_sweep1 c i Q arg3 arg4 arg5 arg7 X3 X4 X5 X7 strips _)
  isplitl [H3]; · iexact H3
  isplitl [H4]; · iexact H4
  isplitl [H5]; · iexact H5
  isplitl [H7]; · iexact H7
  iintro ⟨H3, H4, H5, H7⟩
  iapply (run_sweep2 c i Q arg6 arg8 X6 X8 _ _)
  isplitl [H6]; · iexact H6
  isplitl [H8]; · iexact H8
  iintro ⟨H6, H8⟩
  iapply (run_sweep3 c i Q arg9 harg9 arg13 arg14 _ _ d9 a b)
  isplitl [H9]; · iexact H9
  isplitl [H13]; · iexact H13
  isplitl [H14]; · iexact H14
  iintro ⟨H9, H13, H14⟩
  rw [show List.map (gradsAt i X6 X8) (List.map (stripOf i X3 X4 X5 X7) strips) = tileGrads i X3 X4 X5 X6 X7 X8 from by rw [List.map_map]; rfl, foldl_tile]
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  iexact H14

end Cert.AttnIdeal.Gen

end
-- ==== Proof.AttnData.lean ====
module

public import proofs.«01_k».proof.Proof.AttnTile
public import Idealize.ShloMosaic.Lib.Claim

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

theorem hfirst (t : Fin cfg0.N) : condFirst (grid0.coords t) = 1#1 ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [condFirst, e1]
    word_cmp
   : ∀ t : Fin grid0.N, condFirst (grid0.coords t) = 1#1 ↔ t.val % 4 = 0) t

theorem hlast (t : Fin cfg0.N) : k0_cond2 (grid0.coords t) = 1#1 ↔ t.val % 4 = 3 :=
  (fun t => by
    have ht : t.val < 16 := Nat.lt_of_lt_of_eq t.isLt N_0
    have e1 : (grid0.coords t 1).val = t.val / 1 % 4 := Pipeline.Grid.coords_val t 1 (by decide) rfl
    simp only [k0_cond2, e1]
    word_cmp
   : ∀ t : Fin grid0.N, k0_cond2 (grid0.coords t) = 1#1 ↔ t.val % 4 = 3) t

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_10 : ∀ t : Fin cfg0.N, cfg0.idle 10 (grid0.coords t) = false := fun _ => rfl
theorem liveAt0_8 : ∀ t : Fin cfg0.N, t.val % 4 = 3 → cfg0.idle 8 (grid0.coords t) = false := fun t h => by
  show (!(k0_cond2 (grid0.coords t) == 1#1)) = false
  rw [(hlast t).2 h]; rfl
theorem idleAt0_8 : ∀ t : Fin cfg0.N, ¬t.val % 4 = 3 → cfg0.idle 8 (grid0.coords t) = true := fun t h => by
  show (!(k0_cond2 (grid0.coords t) == 1#1)) = true
  rw [beq_false_of_ne (fun e => h ((hlast t).1 e))]; rfl
theorem noFlush0_8 : ∀ t : Fin cfg0.N, ¬t.val % 4 = 3 → (cfg0.win 8).flush t = false := fun t h =>
  Bool.eq_false_iff.2 fun e => h ((flush0_8 t).1 e)
theorem liveAt0_9 : ∀ t : Fin cfg0.N, t.val % 4 = 3 → cfg0.idle 9 (grid0.coords t) = false := fun t h => by
  show (!(k0_cond2 (grid0.coords t) == 1#1)) = false
  rw [(hlast t).2 h]; rfl
theorem idleAt0_9 : ∀ t : Fin cfg0.N, ¬t.val % 4 = 3 → cfg0.idle 9 (grid0.coords t) = true := fun t h => by
  show (!(k0_cond2 (grid0.coords t) == 1#1)) = true
  rw [beq_false_of_ne (fun e => h ((hlast t).1 e))]; rfl
theorem noFlush0_9 : ∀ t : Fin cfg0.N, ¬t.val % 4 = 3 → (cfg0.win 9).flush t = false := fun t h =>
  Bool.eq_false_iff.2 fun e => h ((flush0_9 t).1 e)

abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8192x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8192x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x8x128 .f32 := win0_10.stage (cfg0.slots t 10)
abbrev hs0_10 (t : Fin cfg0.N) : (ms0_10 t).IsWhole := hstage0_10 ((cfg0.slots t 10).cast nbuf0_10)

abbrev scM0_0 : Memref sig .tc .vmem S8192x128 .f32 := Memref.whole cc0_scratch0
abbrev scM0_1 : Memref sig .tc .vmem S8192x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the accumulators hold after each point -/

/-- The strips' gradients of the tile at point `t`. -/
def gradsT (c : Dev nD) (t : Fin cfg0.N) : List (Grads F) :=
  tileGrads (grid0.coords t) (iblk m c 1 t) (iblk m c 2 t) (iblk m c 3 t) (iblk m c 4 t) (iblk m c 5 t) (iblk m c 6 t)

/-- The gradient of the queries over the tile at point `t`. -/
def dqAt (c : Dev nD) (t : Fin cfg0.N) : Vec F S2048x128 .bf16 :=
  dqTile (grid0.coords t) (iblk m c 1 t) (iblk m c 2 t) (iblk m c 3 t) (iblk m c 4 t) (iblk m c 5 t) (iblk m c 6 t)

/-- The accumulators after the tile at point `t`, from what it finds in them. -/
def stepT (c : Dev nD) (t : Fin cfg0.N) (s : Vec F S8192x128 .f32 × Vec F S8192x128 .f32) : Vec F S8192x128 .f32 × Vec F S8192x128 .f32 :=
  ((gradsT m c t).foldl (dkStep (grid0.coords t)) s.1, (gradsT m c t).foldl (dvStep (grid0.coords t)) s.2)

/-- The accumulators after point `n`: cleared at the first tile of a column. -/
def accAt (c : Dev nD) : (n : ℕ) → n < cfg0.N → Vec F S8192x128 .f32 × Vec F S8192x128 .f32
  | 0, h => stepT m c ⟨0, h⟩ (k0_pay5, k0_pay6)
  | n + 1, h => if (n + 1) % 4 = 0 then stepT m c ⟨n + 1, h⟩ (k0_pay5, k0_pay6)
      else stepT m c ⟨n + 1, h⟩ (accAt c n (Nat.lt_of_succ_lt h))

theorem accAt_first (c : Dev nD) (t : Fin cfg0.N) (h : t.val % 4 = 0) : accAt m c t.val t.isLt = stepT m c t (k0_pay5, k0_pay6) := by
  obtain ⟨n, hn⟩ := t
  cases n with
  | zero => rfl
  | succ n => exact if_pos h

theorem accAt_later (c : Dev nD) (t : Fin cfg0.N) (h : ¬t.val % 4 = 0) :
    accAt m c t.val t.isLt = stepT m c t (accAt m c (t.val - 1) (Nat.lt_of_le_of_lt (Nat.sub_le _ _) t.isLt)) := by
  obtain ⟨n, hn⟩ := t
  cases n with
  | zero => exact absurd rfl h
  | succ n => exact if_neg h

def PhiS (c : Dev nD) : (n : ℕ) → n ≤ cfg0.N → sProp 𝕄
  | 0, _ => Pipeline.ΦA spec0 c
  | n + 1, hn => iprop(iprop(owns (c : Thread nD τ) scM0_0 fullShare (accAt m c n hn).1 ∗ owns (c : Thread nD τ) scM0_1 fullShare (accAt m c n hn).2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn).1 ∗ owns (c : Thread nD τ) scM0_1 fullShare (accAt m c n hn).2) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)).1 ∗ owns (c : Thread nD τ) scM0_1 fullShare (accAt m c (n - 1) (by omega)).2) ∗ (∃ r, prngReg c r)) := by
  cases n with
  | zero => exact absurd rfl hz
  | succ n => rfl

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => k0_pay3 (accAt m c t.val t.isLt).1
    | ⟨9, _⟩ => k0_pay4 (accAt m c t.val t.isLt).2
    | ⟨10, _⟩ => dsinkOf (F := F)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t := by dsimp only [dats]
theorem after0_8 (c : Dev nD) (t : Fin cfg0.N) : (dats m 0 c).after 8 t = k0_pay3 (accAt m c t.val t.isLt).1 := by dsimp only [dats]
theorem after0_9 (c : Dev nD) (t : Fin cfg0.N) : (dats m 0 c).after 9 t = k0_pay4 (accAt m c t.val t.isLt).2 := by dsimp only [dats]
theorem after0_10 (c : Dev nD) (t : Fin cfg0.N) : (dats m 0 c).after 10 t = dsinkOf (F := F) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a point -/

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

/-- The tile's run from given accumulators, up to the body's end. -/
theorem run_tile (c : Dev nD) (t : Fin cfg0.N) (Q : PUnit → sProp 𝕄) (s : Vec F S8192x128 .f32 × Vec F S8192x128 .f32) (d9 : Vec F S2048x128 .bf16) :
    (iprop(owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare d9 ∗ owns (c : Thread nD τ) scM0_0 fullShare s.1 ∗ owns (c : Thread nD τ) scM0_1 fullShare s.2
      ∗ ((owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (dqAt m c t) ∗ owns (c : Thread nD τ) scM0_0 fullShare (stepT m c t s).1 ∗ owns (c : Thread nD τ) scM0_1 fullShare (stepT m c t s).2)
          -∗ runs c (bodyEnd (F := F) (grid0.coords t) (ms0_8 t) (hs0_8 t) (ms0_9 t) (hs0_9 t) (ms0_10 t) scM0_0 scM0_1) Q)) : sProp 𝕄)
      ⊢ runs c (bodyRest (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)) Q := by
  dsimp only [stepT, dqAt, gradsT]
  exact run_rest c Q (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 1 t) (iblk m c 2 t) (iblk m c 3 t) (iblk m c 4 t) (iblk m c 5 t) (iblk m c 6 t) d9 s.1 s.2

theorem tile_first (c : Dev nD) (t : Fin cfg0.N) (hc : t.val % 4 = 0) (hl : ¬t.val % 4 = 3) (Q : PUnit → sProp 𝕄) (s : Vec F S8192x128 .f32 × Vec F S8192x128 .f32)
    (d7 : Vec F S2048x128 .bf16) (d8 d9 : Vec F S8192x128 .bf16) (d10 : Vec F S1x1x8x128 .f32) :
    (iprop(owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare d7 ∗ owns (c : Thread nD τ) (ms0_8 t) fullShare d8 ∗ owns (c : Thread nD τ) (ms0_9 t) fullShare d9 ∗ owns (c : Thread nD τ) (ms0_10 t) fullShare d10 ∗ owns (c : Thread nD τ) scM0_0 fullShare s.1 ∗ owns (c : Thread nD τ) scM0_1 fullShare s.2
      ∗ ((owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (dqAt m c t) ∗ owns (c : Thread nD τ) (ms0_8 t) fullShare d8 ∗ owns (c : Thread nD τ) (ms0_9 t) fullShare d9 ∗ owns (c : Thread nD τ) (ms0_10 t) fullShare (dsinkOf (F := F)) ∗ owns (c : Thread nD τ) scM0_0 fullShare (stepT m c t (k0_pay5, k0_pay6)).1 ∗ owns (c : Thread nD τ) scM0_1 fullShare (stepT m c t (k0_pay5, k0_pay6)).2) -∗ Q ⟨⟩)) : sProp 𝕄)
      ⊢ runs c (bodyAt0 (F := F) t) Q := by
  iintro ⟨H1, H2, H3, H4, H5, H6, H7, H8, H9, H10, HS0, HS1, Hk⟩
  rw [show bodyAt0 (F := F) t = _ from body_first (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hfirst t).2 hc)]
  iapply (run_clear c Q scM0_0 scM0_1 s.1 s.2 _)
  isplitl [HS0]; · iexact HS0
  isplitl [HS1]; · iexact HS1
  iintro ⟨HS0, HS1⟩
  iapply (run_tile m c t Q (k0_pay5, k0_pay6) d7)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H1, H2, H3, H4, H5, H6, H7, HS0, HS1⟩
  iapply (run_end_mid (grid0.coords t) c Q (fun e => hl ((hlast t).1 e)) (ms0_8 t) (hs0_8 t) (ms0_9 t) (hs0_9 t) (ms0_10 t) scM0_0 scM0_1 d10)
  isplitl [H10]; · iexact H10
  iintro H10
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iexact HS1

theorem tile_mid (c : Dev nD) (t : Fin cfg0.N) (hc : ¬t.val % 4 = 0) (hl : ¬t.val % 4 = 3) (Q : PUnit → sProp 𝕄) (s : Vec F S8192x128 .f32 × Vec F S8192x128 .f32)
    (d7 : Vec F S2048x128 .bf16) (d8 d9 : Vec F S8192x128 .bf16) (d10 : Vec F S1x1x8x128 .f32) :
    (iprop(owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare d7 ∗ owns (c : Thread nD τ) (ms0_8 t) fullShare d8 ∗ owns (c : Thread nD τ) (ms0_9 t) fullShare d9 ∗ owns (c : Thread nD τ) (ms0_10 t) fullShare d10 ∗ owns (c : Thread nD τ) scM0_0 fullShare s.1 ∗ owns (c : Thread nD τ) scM0_1 fullShare s.2
      ∗ ((owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (dqAt m c t) ∗ owns (c : Thread nD τ) (ms0_8 t) fullShare d8 ∗ owns (c : Thread nD τ) (ms0_9 t) fullShare d9 ∗ owns (c : Thread nD τ) (ms0_10 t) fullShare (dsinkOf (F := F)) ∗ owns (c : Thread nD τ) scM0_0 fullShare (stepT m c t s).1 ∗ owns (c : Thread nD τ) scM0_1 fullShare (stepT m c t s).2) -∗ Q ⟨⟩)) : sProp 𝕄)
      ⊢ runs c (bodyAt0 (F := F) t) Q := by
  iintro ⟨H1, H2, H3, H4, H5, H6, H7, H8, H9, H10, HS0, HS1, Hk⟩
  rw [show bodyAt0 (F := F) t = _ from body_later (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun e => hc ((hfirst t).1 e))]
  iapply (run_tile m c t Q s d7)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H1, H2, H3, H4, H5, H6, H7, HS0, HS1⟩
  iapply (run_end_mid (grid0.coords t) c Q (fun e => hl ((hlast t).1 e)) (ms0_8 t) (hs0_8 t) (ms0_9 t) (hs0_9 t) (ms0_10 t) scM0_0 scM0_1 d10)
  isplitl [H10]; · iexact H10
  iintro H10
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iexact HS1

theorem tile_last (c : Dev nD) (t : Fin cfg0.N) (hc : ¬t.val % 4 = 0) (hl : t.val % 4 = 3) (Q : PUnit → sProp 𝕄) (s : Vec F S8192x128 .f32 × Vec F S8192x128 .f32)
    (d7 : Vec F S2048x128 .bf16) (d8 d9 : Vec F S8192x128 .bf16) (d10 : Vec F S1x1x8x128 .f32) :
    (iprop(owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare d7 ∗ owns (c : Thread nD τ) (ms0_8 t) fullShare d8 ∗ owns (c : Thread nD τ) (ms0_9 t) fullShare d9 ∗ owns (c : Thread nD τ) (ms0_10 t) fullShare d10 ∗ owns (c : Thread nD τ) scM0_0 fullShare s.1 ∗ owns (c : Thread nD τ) scM0_1 fullShare s.2
      ∗ ((owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (dqAt m c t) ∗ owns (c : Thread nD τ) (ms0_8 t) fullShare (k0_pay3 (stepT m c t s).1) ∗ owns (c : Thread nD τ) (ms0_9 t) fullShare (k0_pay4 (stepT m c t s).2) ∗ owns (c : Thread nD τ) (ms0_10 t) fullShare (dsinkOf (F := F)) ∗ owns (c : Thread nD τ) scM0_0 fullShare (stepT m c t s).1 ∗ owns (c : Thread nD τ) scM0_1 fullShare (stepT m c t s).2) -∗ Q ⟨⟩)) : sProp 𝕄)
      ⊢ runs c (bodyAt0 (F := F) t) Q := by
  iintro ⟨H1, H2, H3, H4, H5, H6, H7, H8, H9, H10, HS0, HS1, Hk⟩
  rw [show bodyAt0 (F := F) t = _ from body_later (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun e => hc ((hfirst t).1 e))]
  iapply (run_tile m c t Q s d7)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H1, H2, H3, H4, H5, H6, H7, HS0, HS1⟩
  iapply (run_end_last (grid0.coords t) c Q ((hlast t).2 hl) (ms0_8 t) (hs0_8 t) (ms0_9 t) (hs0_9 t) (ms0_10 t) scM0_0 scM0_1 d8 d9 d10 _ _)
  isplitl [H8]; · iexact H8
  isplitl [H9]; · iexact H9
  isplitl [H10]; · iexact H10
  isplitl [HS0]; · iexact HS0
  isplitl [HS1]; · iexact HS1
  iintro ⟨H8, H9, H10, HS0, HS1⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iexact HS1

set_option maxHeartbeats 3200000 in
theorem sound_first0 (c : Dev nD) (t : Fin cfg0.N) (hz : t.val = 0) (h0 : t.val % 4 = 0) (h3 : ¬t.val % 4 = 3) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  rw [show (dats m 0 c).leavesExact 7 t = owns (c : Thread nD τ) (ms0_7 t) fullShare ((dats m 0 c).after 7 t) from by
        unfold Dat.leavesExact; rw [liveAt0_7 t], after0_7]
  rw [Dat.leavesExact_idle (dats m 0 c) 8 t (idleAt0_8 t h3) (noFlush0_8 t h3)]
  rw [Dat.leavesExact_idle (dats m 0 c) 9 t (idleAt0_9 t h3) (noFlush0_9 t h3)]
  rw [show (dats m 0 c).leavesExact 10 t = owns (c : Thread nD τ) (ms0_10 t) fullShare ((dats m 0 c).after 10 t) from by
        unfold Dat.leavesExact; rw [liveAt0_10 t], after0_10]
  rw [PhiS_castSucc m c t, PhiS_zero m c _ _ hz, PhiA0_eq, accAt_first m c t h0]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tile_first m c t h0 h3 _ (s0, s1) _ _ _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexact H10

set_option maxHeartbeats 3200000 in
theorem sound_first (c : Dev nD) (t : Fin cfg0.N) (hz : t.val ≠ 0) (h0 : t.val % 4 = 0) (h3 : ¬t.val % 4 = 3) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  rw [show (dats m 0 c).leavesExact 7 t = owns (c : Thread nD τ) (ms0_7 t) fullShare ((dats m 0 c).after 7 t) from by
        unfold Dat.leavesExact; rw [liveAt0_7 t], after0_7]
  rw [Dat.leavesExact_idle (dats m 0 c) 8 t (idleAt0_8 t h3) (noFlush0_8 t h3)]
  rw [Dat.leavesExact_idle (dats m 0 c) 9 t (idleAt0_9 t h3) (noFlush0_9 t h3)]
  rw [show (dats m 0 c).leavesExact 10 t = owns (c : Thread nD τ) (ms0_10 t) fullShare ((dats m 0 c).after 10 t) from by
        unfold Dat.leavesExact; rw [liveAt0_10 t], after0_10]
  rw [PhiS_castSucc m c t, PhiS_pos m c _ _ hz, accAt_first m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tile_first m c t h0 h3 _ _ _ _ _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexact H10

set_option maxHeartbeats 3200000 in
theorem sound_mid (c : Dev nD) (t : Fin cfg0.N) (hz : t.val ≠ 0) (h0 : ¬t.val % 4 = 0) (h3 : ¬t.val % 4 = 3) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  rw [show (dats m 0 c).leavesExact 7 t = owns (c : Thread nD τ) (ms0_7 t) fullShare ((dats m 0 c).after 7 t) from by
        unfold Dat.leavesExact; rw [liveAt0_7 t], after0_7]
  rw [Dat.leavesExact_idle (dats m 0 c) 8 t (idleAt0_8 t h3) (noFlush0_8 t h3)]
  rw [Dat.leavesExact_idle (dats m 0 c) 9 t (idleAt0_9 t h3) (noFlush0_9 t h3)]
  rw [show (dats m 0 c).leavesExact 10 t = owns (c : Thread nD τ) (ms0_10 t) fullShare ((dats m 0 c).after 10 t) from by
        unfold Dat.leavesExact; rw [liveAt0_10 t], after0_10]
  rw [PhiS_castSucc m c t, PhiS_pos m c _ _ hz, accAt_later m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tile_mid m c t h0 h3 _ _ _ _ _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexact H10

set_option maxHeartbeats 3200000 in
theorem sound_last (c : Dev nD) (t : Fin cfg0.N) (hz : t.val ≠ 0) (h0 : ¬t.val % 4 = 0) (h3 : t.val % 4 = 3) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  rw [show (dats m 0 c).leavesExact 7 t = owns (c : Thread nD τ) (ms0_7 t) fullShare ((dats m 0 c).after 7 t) from by
        unfold Dat.leavesExact; rw [liveAt0_7 t], after0_7]
  rw [show (dats m 0 c).leavesExact 8 t = owns (c : Thread nD τ) (ms0_8 t) fullShare ((dats m 0 c).after 8 t) from by
        unfold Dat.leavesExact; rw [liveAt0_8 t h3], after0_8]
  rw [show (dats m 0 c).leavesExact 9 t = owns (c : Thread nD τ) (ms0_9 t) fullShare ((dats m 0 c).after 9 t) from by
        unfold Dat.leavesExact; rw [liveAt0_9 t h3], after0_9]
  rw [show (dats m 0 c).leavesExact 10 t = owns (c : Thread nD τ) (ms0_10 t) fullShare ((dats m 0 c).after 10 t) from by
        unfold Dat.leavesExact; rw [liveAt0_10 t], after0_10]
  rw [PhiS_castSucc m c t, PhiS_pos m c _ _ hz, accAt_later m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (tile_last m c t h0 h3 _ _ _ _ _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases hz : t.val = 0
    · exact sound_first0 m c t hz h0 (by omega)
    · exact sound_first m c t hz h0 (by omega)
  · by_cases h3 : t.val % 4 = 3
    · exact sound_last m c t (by omega) h0 h3
    · exact sound_mid m c t (by omega) h0 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  θ_run_and (frame_of m ρ (dats m) (A_eq m) (run_main m ρ)) ((θ_run defs _ _).mono (fun _ h => h.2) (run_main_quiescent m ρ))

end Cert.AttnIdeal.Gen

end
-- ==== Proof.AttnSame.lean ====
/- The printed attention program is the idealized one with the mask's constant read as its bits, so the frame of the one
   is the frame of the other. -/
module

public import proofs.«01_k».proof.Proof.AttnData
public import proofs.«01_k».proof.Proof.Gen.Attn.Frame

@[expose] public section

noncomputable section

namespace Cert.Attn.Gen

open Idealize.ShloMosaic Idealize.ShloMosaic.TcCoe
open Idealize.SL Idealize.SL.RA Idealize.SL.Sem

variable {F : FTy → Type} [FloatOps F]

/-- A named constant read as its bits. -/
@[reducible] def asBits : Named F := ⟨fun _ _ {φ} bits => Scalar.ofBits φ bits⟩

set_option maxRecDepth 100000 in
set_option maxHeartbeats 4000000 in
/-- The two host programs are one text. -/
theorem main_same : main (F := F) = AttnIdeal.main (F := F) := by
  rfl

set_option maxRecDepth 100000 in
set_option maxHeartbeats 40000000 in
/-- The two texts of the kernel's body agree. -/
theorem body_same : @cc0_attn_b16_bwd F _ _ = @AttnIdeal.cc0_attn_b16_bwd F _ asBits _ := by
  unfold cc0_attn_b16_bwd AttnIdeal.cc0_attn_b16_bwd
  rfl

set_option maxRecDepth 100000 in
set_option maxHeartbeats 4000000 in
/-- The two tables of the kernels' bodies agree. -/
theorem defs0_same : defs₀ (F := F) = @AttnIdeal.defs₀ F _ asBits _ := by
  unfold defs₀ AttnIdeal.defs₀
  rw [body_same]
  refine congrArg Defs.onTc ?_
  funext l a
  match l, a with
  | 0, (t, s) => rfl

set_option maxRecDepth 100000 in
set_option maxHeartbeats 4000000 in
/-- The two tables of definitions agree. -/
theorem defs_same : defs (F := F) = @AttnIdeal.defs F _ asBits _ := by
  unfold defs AttnIdeal.defs
  exact congrArg (Pipeline.defs (pcfgs (F := F))) defs0_same

set_option maxRecDepth 100000 in
set_option maxHeartbeats 4000000 in
/-- The printed program ends, leaves its arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) := by
  rw [defs_same, main_same]
  exact @AttnIdeal.Gen.frame F _ asBits m ρ

end Cert.Attn.Gen

end

end
-- ==== Proof.HiddenHost.lean ====
/- The three arrays the hidden-gradient kernel's host code prepares: the derivative of the gated activation with respect
   to the gate, the activation, and the hidden values. -/
module

public import proofs.«01_k».proof.Defs
public import proofs.«01_k».proof.Proof.Gen.HiddenIdeal.Value
public import Idealize.ShloMosaic.Lib.StableHlo.Run
public import Idealize.ShloMosaic.Lib.Tactic

@[expose] public section

noncomputable section

namespace Cert.HiddenIdeal.Hand

open Idealize Idealize.ShloMosaic Idealize.ShloMosaic.TcCoe Idealize.SL.Sem
open Cert.HiddenIdeal Cert.HiddenIdeal.Gen

variable {F : FTy → Type} [FloatOps F]
variable (m : (ℓ : Loc nD τ sig) → Buf (Elt F) ℓ)

abbrev one : FVec F S8192x2816 .f32 := broadcastInDim S8192x2816 ![] bcast_S_S8192x2816 (constant S_ .f32 0x3F800000#32)
/-- The logistic function, entry by entry. -/
abbrev sg (g : FVec F S8192x2816 .f32) : FVec F S8192x2816 .f32 := Host.divf one (addf one (Host.exp (Host.negf g)))

theorem host14 (c : Dev nD) : V m c main_v14 = truncf .bf16 (mulf (m ((c : Thread nD τ).loc main_arg1))
    (mulf (sg (m ((c : Thread nD τ).loc main_arg0))) (addf one (mulf (m ((c : Thread nD τ).loc main_arg0)) (subf one (sg (m ((c : Thread nD τ).loc main_arg0)))))))) bitsLt_bf16_f32 := by
  unfold V
  after_results
theorem host15 (c : Dev nD) : V m c main_v15 = truncf .bf16 (mulf (m ((c : Thread nD τ).loc main_arg0)) (sg (m ((c : Thread nD τ).loc main_arg0)))) bitsLt_bf16_f32 := by
  unfold V
  after_results
theorem host17 (c : Dev nD) : V m c main_v17 = truncf .bf16 (mulf (mulf (m ((c : Thread nD τ).loc main_arg0)) (sg (m ((c : Thread nD τ).loc main_arg0)))) (m ((c : Thread nD τ).loc main_arg1))) bitsLt_bf16_f32 := by
  unfold V
  after_results
theorem hostArg2 (c : Dev nD) : V m c main_arg2 = m ((c : Thread nD τ).loc main_arg2) := by
  unfold V
  after_results
theorem hostArg3 (c : Dev nD) : V m c main_arg3 = m ((c : Thread nD τ).loc main_arg3) := by
  unfold V
  after_results

end Cert.HiddenIdeal.Hand
-- ==== Proof.TileSums.lean ====
/- Sums cut into equal tiles: a running sum that takes one tile per step is, after the last step, the whole sum. -/
module

public import Mathlib.Algebra.BigOperators.Fin
public import Idealize.ShloMosaic.Lib.Pointwise

@[expose] public section

namespace Cert.Tiles

/-- The sum of the `s`-th tile of `T` entries of `f`. -/
def tile {M : Type*} [AddCommMonoid M] {N : ℕ} (hN : 0 < N) (T : ℕ) (f : Fin N → M) (s : ℕ) : M :=
  ∑ k : Fin T, f ⟨(s * T + k.val) % N, Nat.mod_lt _ hN⟩

/-- All the tiles together are the whole sum. -/
theorem sum_tiles {M : Type*} [AddCommMonoid M] {N : ℕ} (hN : 0 < N) (J T : ℕ) (h : J * T = N) (f : Fin N → M) :
    ∑ s ∈ Finset.range J, tile hN T f s = ∑ k : Fin N, f k := by
  rw [Idealize.ShloMosaic.Fin.sum_univ_tiles J T h f, Finset.sum_range]
  refine Finset.sum_congr rfl fun j _ => Finset.sum_congr rfl fun t _ => ?_
  congr 1
  apply Fin.ext
  have hj := j.isLt; have ht := t.isLt
  have hlt : j.val * T + t.val < N := by
    subst h
    calc j.val * T + t.val < j.val * T + T := by omega
      _ = (j.val + 1) * T := by rw [Nat.add_mul, Nat.one_mul]
      _ ≤ J * T := Nat.mul_le_mul_right _ (by omega)
  exact Nat.mod_eq_of_lt hlt

/-- One tile whose entries lie inside the sum. -/
theorem tile_of_lt {M : Type*} [AddCommMonoid M] {N : ℕ} (hN : 0 < N) (T : ℕ) (f : Fin N → M) (s : ℕ)
    (h : ∀ k : Fin T, s * T + k.val < N) :
    tile hN T f s = ∑ k : Fin T, f ⟨s * T + k.val, h k⟩ := by
  refine Finset.sum_congr rfl fun k _ => ?_
  congr 1
  exact Fin.ext (Nat.mod_eq_of_lt (h k))

end Cert.Tiles
-- ==== Proof.Finite.lean ====
/- Reading a finiteness precondition: where every entry's magnitude is below infinity, every entry is a real number. -/
module

public import Idealize.ShloMosaic.Lib.Pointwise
public import Idealize.ShloMosaic.Lib.ReduceAll
public import Idealize.ShloMosaic.Lib.IdealHost

@[expose] public section

namespace Cert.Finite

open Idealize Idealize.ShloMosaic

/-- The array's entries are real numbers. -/
def Real' {ι : Type} (x : ι → EReal) : Prop := ∀ i, ∃ r : ℝ, x i = r

theorem real_of_abs_lt (x : EReal) (h : max x (-x) < ⊤) : ∃ r : ℝ, x = r := by
  induction x using EReal.rec with
  | bot => simp at h
  | coe r => exact ⟨r, rfl⟩
  | top => simp at h

theorem inf_f32 : Ideal.ofBits .f32 0x7F800000#32 = ⊤ := by simp [Ideal.ofBits, Ideal.ieee]

/-- The conjunction over all entries of "magnitude below infinity" is true only of real arrays. -/
theorem real_of_all {s t u : Shape} [Subsingleton t.Idx] {axes : List (Fin s.rank)} (x : FVec Ideal s .f32)
    (hb : (⟨0, ![]⟩ : Shape).BroadcastsInDim s ![]) (init : u.Idx → BitVec 1) (h : s.ReducesTo axes t) (hu : 0 < u.numel) (j : t.Idx)
    (e : Host.reduce IntOp.andi (cmpf .olt (Host.absf x) (broadcastInDim s ![] hb (constant (⟨0, ![]⟩ : Shape) .f32 0x7F800000#32))) init h hu j = 1#1) :
    Real' (ι := s.Idx) x := by
  intro i
  have := Host.reduce_andi_all _ init h hu j e i
  apply real_of_abs_lt
  by_contra hn
  have hc : (cmpf .olt (Host.absf x) (broadcastInDim s ![] hb (constant (⟨0, ![]⟩ : Shape) .f32 0x7F800000#32))) i
      = BitVec.ofBool (decide (max (x i : EReal) (-(x i)) < Ideal.ofBits .f32 0x7F800000#32)) := rfl
  rw [hc, inf_f32, decide_eq_false hn] at this
  exact absurd this (by decide)

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

theorem real_sum {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    rw [Finset.sum_insert ha]
    exact real_add (h a (Finset.mem_insert_self ..)) (ih fun i hi => h i (Finset.mem_insert_of_mem hi))

end Cert.Finite
-- ==== Proof.HiddenValue.lean ====
/- The values of the hidden gradients and of the down projection's weight gradient. Each point's blocks of the two
   hidden gradients are `dout @ wd.T` times the prepared factors; the weight gradient is carried over the 16 row blocks.
   The reference's derivative of the gate is a sum of two terms, equal to the kernel's one product where the arguments
   are real numbers. -/
module

public import proofs.«01_k».proof.Proof.HiddenHost
public import proofs.«01_k».proof.Proof.TileSums
public import proofs.«01_k».proof.Proof.Finite
public import proofs.«01_k».proof.Proof.Gen.HiddenReferenceIdeal.Run
public import Idealize.ShloMosaic.Lib.Pointwise

@[expose] public section

noncomputable section

namespace Cert.HiddenIdeal.Hand

open Idealize Idealize.ShloMosaic Idealize.ShloMosaic.TcCoe Idealize.SL.Sem
open Cert.HiddenIdeal Cert.HiddenIdeal.Gen Cert.HiddenIdeal.Value Cert.Tiles Cert.Finite

variable (m : (ℓ : Loc nD τ sig) → Buf (Elt Ideal) ℓ)

/-- The argument arrays as arrays of extended reals. -/
abbrev gA (c : Dev nD) : S8192x2816.Idx → EReal := m ((c : Thread nD τ).loc main_arg0)
abbrev uA (c : Dev nD) : S8192x2816.Idx → EReal := m ((c : Thread nD τ).loc main_arg1)
abbrev wdA (c : Dev nD) : S2816x1024.Idx → EReal := m ((c : Thread nD τ).loc main_arg2)
abbrev doA (c : Dev nD) : S8192x1024.Idx → EReal := m ((c : Thread nD τ).loc main_arg3)

/-- The logistic function of one number. -/
abbrev lg (x : EReal) : EReal := Ideal.div 1 (1 + Ideal.exp (-x))

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = t.val % 16 ∧ win0_1.index t (1 : Fin 2) = t.val / 16 :=
  (by decide +kernel : ∀ t : Fin grid0.N, _)
theorem idx2 : ∀ t : Fin cfg0.N, win0_2.index t (0 : Fin 2) = t.val % 16 ∧ win0_2.index t (1 : Fin 2) = t.val / 16 :=
  (by decide +kernel : ∀ t : Fin grid0.N, _)
theorem idx3 : ∀ t : Fin cfg0.N, win0_3.index t (0 : Fin 2) = t.val % 16 ∧ win0_3.index t (1 : Fin 2) = t.val / 16 :=
  (by decide +kernel : ∀ t : Fin grid0.N, _)
theorem idx4 : ∀ t : Fin cfg0.N, win0_4.index t (0 : Fin 2) = t.val / 16 ∧ win0_4.index t (1 : Fin 2) = 0 :=
  (by decide +kernel : ∀ t : Fin grid0.N, _)

/-! ## The blocks a point reads -/

theorem blk0 (c : Dev nD) (t : Fin cfg0.N) (k : Fin 512) (d : Fin 1024) (R : Fin 8192)
    (hR : R.val = t.val % 16 * 512 + k.val) :
    (iblk m c 0 t : S512x1024.Idx → EReal) (ix2 k d) = doA m c (ix2 R d) := by
  unfold iblk
  rw [View.read_apply]
  show V m c main_arg3 _ = m (c.tc.loc main_arg3) _
  rw [hostArg3]
  congr 1
  funext a
  apply Fin.ext
  match a with
  | ⟨0, _⟩ => show win0_0.index t 0 * 512 + 1 * k.val = R.val; rw [(idx0 t).1]; omega
  | ⟨1, _⟩ => show win0_0.index t 1 * 1024 + 1 * d.val = d.val; rw [(idx0 t).2]; omega

theorem blk1 (c : Dev nD) (t : Fin cfg0.N) (k : Fin 512) (r : Fin 1408) (R : Fin 8192) (C : Fin 2816)
    (hR : R.val = t.val % 16 * 512 + k.val) (hC : C.val = t.val / 16 * 1408 + r.val) :
    (iblk m c 1 t : S512x1408.Idx → EReal) (ix2 k r)
      = uA m c (ix2 R C) * (lg (gA m c (ix2 R C)) * (1 + gA m c (ix2 R C) * (1 - lg (gA m c (ix2 R C))))) := by
  unfold iblk
  rw [View.read_apply]
  show V m c main_v14 _ = _
  rw [host14]
  have he : ((cfg0.win 1).blk t).view.emb (ix2 k r : S512x1408.Idx) = (ix2 R C : S8192x2816.Idx) := by
    funext a
    apply Fin.ext
    match a with
    | ⟨0, _⟩ => show win0_1.index t 0 * 512 + 1 * k.val = R.val; rw [(idx1 t).1]; omega
    | ⟨1, _⟩ => show win0_1.index t 1 * 1408 + 1 * r.val = C.val; rw [(idx1 t).2]; omega
  refine (congrArg _ he).trans ?_
  pointwise

theorem blk2 (c : Dev nD) (t : Fin cfg0.N) (k : Fin 512) (r : Fin 1408) (R : Fin 8192) (C : Fin 2816)
    (hR : R.val = t.val % 16 * 512 + k.val) (hC : C.val = t.val / 16 * 1408 + r.val) :
    (iblk m c 2 t : S512x1408.Idx → EReal) (ix2 k r) = gA m c (ix2 R C) * lg (gA m c (ix2 R C)) := by
  unfold iblk
  rw [View.read_apply]
  show V m c main_v15 _ = _
  rw [host15]
  have he : ((cfg0.win 2).blk t).view.emb (ix2 k r : S512x1408.Idx) = (ix2 R C : S8192x2816.Idx) := by
    funext a
    apply Fin.ext
    match a with
    | ⟨0, _⟩ => show win0_2.index t 0 * 512 + 1 * k.val = R.val; rw [(idx2 t).1]; omega
    | ⟨1, _⟩ => show win0_2.index t 1 * 1408 + 1 * r.val = C.val; rw [(idx2 t).2]; omega
  refine (congrArg _ he).trans ?_
  pointwise

theorem blk3 (c : Dev nD) (t : Fin cfg0.N) (k : Fin 512) (r : Fin 1408) (R : Fin 8192) (C : Fin 2816)
    (hR : R.val = t.val % 16 * 512 + k.val) (hC : C.val = t.val / 16 * 1408 + r.val) :
    (iblk m c 3 t : S512x1408.Idx → EReal) (ix2 k r) = gA m c (ix2 R C) * lg (gA m c (ix2 R C)) * uA m c (ix2 R C) := by
  unfold iblk
  rw [View.read_apply]
  show V m c main_v17 _ = _
  rw [host17]
  have he : ((cfg0.win 3).blk t).view.emb (ix2 k r : S512x1408.Idx) = (ix2 R C : S8192x2816.Idx) := by
    funext a
    apply Fin.ext
    match a with
    | ⟨0, _⟩ => show win0_3.index t 0 * 512 + 1 * k.val = R.val; rw [(idx3 t).1]; omega
    | ⟨1, _⟩ => show win0_3.index t 1 * 1408 + 1 * r.val = C.val; rw [(idx3 t).2]; omega
  refine (congrArg _ he).trans ?_
  pointwise

theorem blk4 (c : Dev nD) (t : Fin cfg0.N) (r : Fin 1408) (d : Fin 1024) (C : Fin 2816)
    (hC : C.val = t.val / 16 * 1408 + r.val) :
    (iblk m c 4 t : S1408x1024.Idx → EReal) (ix2 r d) = wdA m c (ix2 C d) := by
  unfold iblk
  rw [View.read_apply]
  show V m c main_arg2 _ = m (c.tc.loc main_arg2) _
  rw [hostArg2]
  congr 1
  funext a
  apply Fin.ext
  match a with
  | ⟨0, _⟩ => show win0_4.index t 0 * 1408 + 1 * r.val = C.val; rw [(idx4 t).1]; omega
  | ⟨1, _⟩ => show win0_4.index t 1 * 1024 + 1 * d.val = d.val; rw [(idx4 t).2]; omega

/-! ## One point -/

abbrev dhid (x : Vec Ideal S512x1024 .bf16) (w : Vec Ideal S1408x1024 .bf16) : FVec Ideal S512x1408 .f32 :=
  matmul (F := Ideal) (φ₁ := .bf16) (φ₂ := .bf16) dot_S512x1024_S1408x1024_S512x1408_1_1_0_0_n_n none x w (constant S512x1408 .f32 0x00000000#32)
abbrev wprod (x : Vec Ideal S512x1408 .bf16) (y : Vec Ideal S512x1024 .bf16) : FVec Ideal S1408x1024 .f32 :=
  matmul (F := Ideal) (φ₁ := .bf16) (φ₂ := .bf16) dot_S512x1408_S512x1024_S1408x1024_0_0_1_1_n_n none x y (constant S1408x1024 .f32 0x00000000#32)
abbrev scaled (x : Vec Ideal S512x1024 .bf16) (w : Vec Ideal S1408x1024 .bf16) (f : Vec Ideal S512x1408 .bf16) : FVec Ideal S512x1408 .bf16 :=
  truncf (F := Ideal) (φ := .f32) .bf16 (mulf (dhid x w) (extf (F := Ideal) (φ := .bf16) .f32 f bitsLt_bf16_f32)) bitsLt_bf16_f32

theorem scaled_apply (x : FVec Ideal S512x1024 .bf16) (w : FVec Ideal S1408x1024 .bf16) (f : FVec Ideal S512x1408 .bf16) (k : Fin 512) (r : Fin 1408) :
    (scaled x w f) (ix2 k r) = (∑ d : Fin 1024, (x (ix2 k d) : EReal) * w (ix2 r d)) * f (ix2 k r) := by
  pointwise

theorem wprod_apply (x : FVec Ideal S512x1408 .bf16) (y : FVec Ideal S512x1024 .bf16) (r : Fin 1408) (d : Fin 1024) :
    (wprod x y) (ix2 r d) = ∑ k : Fin 512, (x (ix2 k r) : EReal) * y (ix2 k d) := by
  pointwise

theorem hz : (![0, 0] : Fin 2 → Nat) = fun _ => 0 := funext fun a => by fin_cases a <;> rfl

theorem point_cases (t : Fin cfg0.N) {P : Prop} (hA : t.val % 16 = 0 → P) (hB : ¬t.val % 16 = 0 → ¬t.val % 16 = 15 → P)
    (hC : t.val % 16 = 15 → P) : P := by
  by_cases h0 : t.val % 16 = 0
  · exact hA h0
  · by_cases h15 : t.val % 16 = 15
    · exact hC h15
    · exact hB h0 h15

theorem st_dg (c : Dev nD) (t : Fin cfg0.N) (acc) :
    (stAt0 m c t.val t.isLt acc).1 = scaled (iblk m c 0 t) (iblk m c 4 t) (iblk m c 1 t) := by
  refine point_cases t (fun h0 => ?_) (fun h0 h15 => ?_) fun h15 => ?_
  case' refine_1 =>
    rw [stAt0_A m c t acc h0 (by omega) (by omega)]
    dsimp only
    unfold out0_A_5 kernelRun0_A
  case' refine_2 =>
    rw [stAt0_B m c t acc h0 (by omega) h15]
    dsimp only
    unfold out0_B_5 kernelRun0_B
  case' refine_3 =>
    rw [stAt0_C m c t acc (by omega) (by omega) h15]
    dsimp only
    unfold out0_C_5 kernelRun0_C
  all_goals
    rw [View.read_writes_junk_eq_canon]
    dsimp only
    sl_unfold_words
    rw [View.canon_unit_zero hz]
    simp only [k0_pay1, k0_pay2, k0_pay3, k0_pay4, k0_pay5, k0_pay6, k0_pay7, View.readAt_eq_ld, (hs0_0 t).read_unread, (hs0_1 t).read_unread, (hs0_4 t).read_unread, View.ld_unit_zero (S := S512x1024) hz, View.ld_unit_zero (S := S1408x1024) hz, View.ld_unit_zero (S := S512x1408) hz, shapeCast_self]

theorem st_du (c : Dev nD) (t : Fin cfg0.N) (acc) :
    (stAt0 m c t.val t.isLt acc).2.1 = scaled (iblk m c 0 t) (iblk m c 4 t) (iblk m c 2 t) := by
  refine point_cases t (fun h0 => ?_) (fun h0 h15 => ?_) fun h15 => ?_
  case' refine_1 =>
    rw [stAt0_A m c t acc h0 (by omega) (by omega)]
    dsimp only
    unfold out0_A_6 kernelRun0_A
  case' refine_2 =>
    rw [stAt0_B m c t acc h0 (by omega) h15]
    dsimp only
    unfold out0_B_6 kernelRun0_B
  case' refine_3 =>
    rw [stAt0_C m c t acc (by omega) (by omega) h15]
    dsimp only
    unfold out0_C_6 kernelRun0_C
  all_goals
    rw [View.read_writes_junk_eq_canon]
    dsimp only
    sl_unfold_words
    rw [View.canon_unit_zero hz]
    simp only [k0_pay1, k0_pay2, k0_pay3, k0_pay4, k0_pay5, k0_pay6, k0_pay7, View.readAt_eq_ld, (hs0_0 t).read_unread, (hs0_2 t).read_unread, (hs0_4 t).read_unread, View.ld_unit_zero (S := S512x1024) hz, View.ld_unit_zero (S := S1408x1024) hz, View.ld_unit_zero (S := S512x1408) hz, shapeCast_self]

theorem st_all (c : Dev nD) (t : Fin cfg0.N) (acc) :
    (stAt0 m c t.val t.isLt acc).1 = scaled (iblk m c 0 t) (iblk m c 4 t) (iblk m c 1 t)
    ∧ (stAt0 m c t.val t.isLt acc).2.1 = scaled (iblk m c 0 t) (iblk m c 4 t) (iblk m c 2 t) :=
  ⟨st_dg m c t acc, st_du m c t acc⟩

theorem st_first (c : Dev nD) (t : Fin cfg0.N) (acc) (h : t.val % 16 = 0) :
    (stAt0 m c t.val t.isLt acc).2.2.2 = wprod (iblk m c 3 t) (iblk m c 0 t) := by
  rw [stAt0_A m c t acc h (by omega) (by omega)]
  dsimp only
  unfold sout0_A_0 kernelRun0_A
  rw [View.read_writes_junk_eq_canon]
  dsimp only
  sl_unfold_words
  rw [View.canon_unit_zero hz]
  simp only [k0_pay1, k0_pay2, k0_pay3, k0_pay4, k0_pay5, k0_pay6, k0_pay7, View.readAt_eq_ld, (hs0_0 t).read_unread, (hs0_3 t).read_unread, View.ld_unit_zero (S := S512x1024) hz, View.ld_unit_zero (S := S512x1408) hz, shapeCast_self]

theorem st_next (c : Dev nD) (t : Fin cfg0.N) (acc) (h : ¬t.val % 16 = 0) :
    (stAt0 m c t.val t.isLt acc).2.2.2 = addf (F := Ideal) (φ := .f32) acc.2.2.2 (wprod (iblk m c 3 t) (iblk m c 0 t)) := by
  by_cases h15 : t.val % 16 = 15
  case' pos =>
    rw [stAt0_C m c t acc h (by omega) h15]
    dsimp only
    unfold sout0_C_0 kernelRun0_C
  case' neg =>
    rw [stAt0_B m c t acc h (by omega) h15]
    dsimp only
    unfold sout0_B_0 kernelRun0_B
  all_goals
    rw [View.read_writes_junk_eq_canon]
    dsimp only
    sl_unfold_words
    rw [View.canon_unit_zero hz]
    simp only [k0_pay1, k0_pay2, k0_pay3, k0_pay4, k0_pay5, k0_pay6, k0_pay7, View.readAt_eq_ld, (hs0_0 t).read_unread, (hs0_3 t).read_unread, (Memref.isWhole_whole _).read_unread, View.ld_unit_zero (S := S512x1024) hz, View.ld_unit_zero (S := S1408x1024) hz, View.ld_unit_zero (S := S512x1408) hz, shapeCast_self]

theorem st_last (c : Dev nD) (t : Fin cfg0.N) (acc) (h : t.val % 16 = 15) :
    (stAt0 m c t.val t.isLt acc).2.2.1 = truncf (F := Ideal) (φ := .f32) .bf16 (stAt0 m c t.val t.isLt acc).2.2.2 bitsLt_bf16_f32 := by
  rw [st_next m c t acc (by omega), stAt0_C m c t acc (by omega) (by omega) h]
  dsimp only
  unfold out0_C_7 kernelRun0_C
  rw [View.read_writes_junk_eq_canon]
  dsimp only
  sl_unfold_words
  rw [View.canon_unit_zero hz]
  simp only [k0_pay1, k0_pay2, k0_pay3, k0_pay4, k0_pay5, k0_pay6, k0_pay7, View.readCov_unit_zero (S := S1408x1024) _ hz, View.readAt_eq_ld, (hs0_0 t).read_unread, (hs0_3 t).read_unread, (Memref.isWhole_whole _).read_unread, View.ld_unit_zero (S := S512x1024) hz, View.ld_unit_zero (S := S1408x1024) hz, View.ld_unit_zero (S := S512x1408) hz, shapeCast_self]

/-! ## The carried sum -/

abbrev fold (c : Dev nD) (n : ℕ) (h : 0 + n < cfg0.N) :=
  Pipeline.accAt (fun n h => stAt0 m c n h junk0) (stAt0 m c) 0 n h

theorem fold_step (c : Dev nD) (n : ℕ) (h : 0 + n < cfg0.N) :
    ∃ acc, fold m c n h = stAt0 m c n (by omega) acc ∧ ∀ k (hk : n = k + 1), acc = fold m c k (by omega) := by
  cases n with
  | zero => exact ⟨junk0, rfl, fun k hk => absurd hk (by omega)⟩
  | succ k =>
    refine ⟨fold m c k (by omega), ?_, fun k' hk => ?_⟩
    · exact (Pipeline.accAt_succ _ _ 0 k h).trans (by congr 1; omega)
    · cases hk; rfl

/-- The terms of one entry of the weight gradient. -/
def term (c : Dev nD) (C : Fin 2816) (d : Fin 1024) (R : Fin 8192) : EReal :=
  gA m c (ix2 R C) * lg (gA m c (ix2 R C)) * uA m c (ix2 R C) * doA m c (ix2 R d)

theorem wprod_tile (c : Dev nD) (t : Fin cfg0.N) (r : Fin 1408) (d : Fin 1024) (C : Fin 2816)
    (hC : C.val = t.val / 16 * 1408 + r.val) :
    (wprod (iblk m c 3 t) (iblk m c 0 t) : S1408x1024.Idx → EReal) (ix2 r d)
      = tile (by decide : 0 < 8192) 512 (term m c C d) (t.val % 16) := by
  rw [tile_of_lt _ _ _ _ (fun k => by have := k.isLt; omega)]
  refine (wprod_apply _ _ r d).trans (Finset.sum_congr rfl fun k _ => ?_)
  rw [blk3 m c t k r ⟨t.val % 16 * 512 + k.val, by have := k.isLt; omega⟩ C rfl hC,
    blk0 m c t k d ⟨t.val % 16 * 512 + k.val, by have := k.isLt; omega⟩ rfl]
  rfl

theorem carried (c : Dev nD) : ∀ (n : ℕ) (h : 0 + n < cfg0.N) (r : Fin 1408) (d : Fin 1024) (C : Fin 2816),
    C.val = n / 16 * 1408 + r.val →
    ((fold m c n h).2.2.2 : S1408x1024.Idx → EReal) (ix2 r d)
        = ∑ s ∈ Finset.range (n % 16 + 1), tile (by decide : 0 < 8192) 512 (term m c C d) s := by
  intro n
  induction n with
  | zero =>
    intro h r d C hC
    obtain ⟨acc, e, -⟩ := fold_step m c 0 h
    rw [e, st_first m c ⟨0, by omega⟩ acc rfl]
    simp only [Nat.zero_mod, Nat.zero_add, Finset.sum_range_one]
    exact wprod_tile m c ⟨0, by omega⟩ r d C hC
  | succ k ih =>
    intro h r d C hC
    obtain ⟨acc, e, ea⟩ := fold_step m c (k + 1) h
    have ea := ea k rfl
    subst ea
    have p := wprod_tile m c ⟨k + 1, by omega⟩ r d C hC
    by_cases h0 : (k + 1) % 16 = 0
    · rw [e, st_first m c ⟨k + 1, by omega⟩ (fold m c k (by omega)) h0, h0]
      simp only [Nat.zero_add, Finset.sum_range_one]
      simp only [h0] at p
      exact p
    · rw [e, st_next m c ⟨k + 1, by omega⟩ (fold m c k (by omega)) h0]
      have i := ih (by omega) r d C (by omega)
      have hm : (k + 1) % 16 = k % 16 + 1 := by omega
      simp only [hm] at p
      rw [hm, Finset.sum_range_succ, ← i, ← p]
      rfl

/-! ## The three results at an entry -/

theorem result7 (c : Dev nD) (C : Fin 2816) (d : Fin 1024) :
    (G7 m c : S2816x1024.Idx → EReal) (ix2 C d) = ∑ R : Fin 8192, term m c C d R := by
  have hC := C.isLt
  have hd := d.isLt
  have hN : cfg0.N = 32 := N_0
  have hrun : run7Of (ix2 C d) = C.val / 1408 := by
    show 1 * (C.val / 1408 - 0) + 1 * (d.val / 1024 - 0) = _
    omega
  have hpt : pt7Of (ix2 C d) = 16 * (C.val / 1408) + 15 := by show 16 * run7Of (ix2 C d) + 15 = _; rw [hrun]
  have hlt : pt7Of (ix2 C d) < cfg0.N := by rw [hpt, hN]; omega
  have hloc : loc7Of (ix2 C d) = ix2 (⟨C.val % 1408, by omega⟩ : Fin 1408) d := by
    funext a
    match a with
    | ⟨0, _⟩ => rfl
    | ⟨1, _⟩ => exact Fin.ext (Nat.mod_eq_of_lt hd)
  unfold G7
  rw [dif_pos hlt, hloc, fold0_congr m c (pt7Of (ix2 C d)) (by omega) (16 * (C.val / 1408) + 15) (by omega) hpt]
  change ((fold m c (16 * (C.val / 1408) + 15) (by omega)).2.2.1 : S1408x1024.Idx → EReal) _ = _
  obtain ⟨acc, e, -⟩ := fold_step m c (16 * (C.val / 1408) + 15) (by omega)
  have hl := st_last m c ⟨16 * (C.val / 1408) + 15, by omega⟩ acc (by show (16 * (C.val / 1408) + 15) % 16 = 15; omega)
  have hc := carried m c (16 * (C.val / 1408) + 15) (by omega) ⟨C.val % 1408, by omega⟩ d C (by show C.val = (16 * (C.val / 1408) + 15) / 16 * 1408 + C.val % 1408; omega)
  rw [e] at hc ⊢
  rw [hl]
  refine Eq.trans ?_ ((hc.trans ?_).trans (sum_tiles (by decide : 0 < 8192) 16 512 rfl _))
  · rfl
  · rw [show (16 * (C.val / 1408) + 15) % 16 + 1 = 16 by omega]

theorem result5 (c : Dev nD) (R : Fin 8192) (C : Fin 2816) :
    (G5 m c : S8192x2816.Idx → EReal) (ix2 R C)
      = (∑ d : Fin 1024, doA m c (ix2 R d) * wdA m c (ix2 C d))
        * (uA m c (ix2 R C) * (lg (gA m c (ix2 R C)) * (1 + gA m c (ix2 R C) * (1 - lg (gA m c (ix2 R C)))))) := by
  have hC := C.isLt
  have hR := R.isLt
  have hN : cfg0.N = 32 := N_0
  have hpt : pt5Of (ix2 R C) = R.val / 512 + 16 * (C.val / 1408) := by
    show 1 * (R.val / 512 - 0) + 16 * (C.val / 1408 - 0) = _
    omega
  have hlt : pt5Of (ix2 R C) < cfg0.N := by rw [hpt, hN]; omega
  unfold G5
  rw [dif_pos hlt, fold0_congr m c (pt5Of (ix2 R C)) (by omega) (R.val / 512 + 16 * (C.val / 1408)) (by omega) hpt]
  change ((fold m c (R.val / 512 + 16 * (C.val / 1408)) (by omega)).1 : S512x1408.Idx → EReal) _ = _
  obtain ⟨acc, e, -⟩ := fold_step m c (R.val / 512 + 16 * (C.val / 1408)) (by omega)
  have hloc : loc5Of (ix2 R C) = ix2 (⟨R.val % 512, by omega⟩ : Fin 512) (⟨C.val % 1408, by omega⟩ : Fin 1408) := by
    funext a
    match a with
    | ⟨0, _⟩ => rfl
    | ⟨1, _⟩ => rfl
  rw [e, (st_all m c ⟨R.val / 512 + 16 * (C.val / 1408), by omega⟩ acc).1, hloc]
  have h1 : R.val = (R.val / 512 + 16 * (C.val / 1408)) % 16 * 512 + R.val % 512 := by omega
  have h2 : C.val = (R.val / 512 + 16 * (C.val / 1408)) / 16 * 1408 + C.val % 1408 := by omega
  refine (scaled_apply _ _ _ _ _).trans ?_
  refine congrArg₂ _ (Finset.sum_congr rfl fun d _ => congrArg₂ _ ?_ ?_) ?_
  · exact blk0 m c ⟨R.val / 512 + 16 * (C.val / 1408), by omega⟩ ⟨R.val % 512, by omega⟩ d R h1
  · exact blk4 m c ⟨R.val / 512 + 16 * (C.val / 1408), by omega⟩ ⟨C.val % 1408, by omega⟩ d C h2
  · exact blk1 m c ⟨R.val / 512 + 16 * (C.val / 1408), by omega⟩ ⟨R.val % 512, by omega⟩ ⟨C.val % 1408, by omega⟩ R C h1 h2

theorem result6 (c : Dev nD) (R : Fin 8192) (C : Fin 2816) :
    (G6 m c : S8192x2816.Idx → EReal) (ix2 R C)
      = (∑ d : Fin 1024, doA m c (ix2 R d) * wdA m c (ix2 C d)) * (gA m c (ix2 R C) * lg (gA m c (ix2 R C))) := by
  have hC := C.isLt
  have hR := R.isLt
  have hN : cfg0.N = 32 := N_0
  have hpt : pt6Of (ix2 R C) = R.val / 512 + 16 * (C.val / 1408) := by
    show 1 * (R.val / 512 - 0) + 16 * (C.val / 1408 - 0) = _
    omega
  have hlt : pt6Of (ix2 R C) < cfg0.N := by rw [hpt, hN]; omega
  unfold G6
  rw [dif_pos hlt, fold0_congr m c (pt6Of (ix2 R C)) (by omega) (R.val / 512 + 16 * (C.val / 1408)) (by omega) hpt]
  change ((fold m c (R.val / 512 + 16 * (C.val / 1408)) (by omega)).2.1 : S512x1408.Idx → EReal) _ = _
  obtain ⟨acc, e, -⟩ := fold_step m c (R.val / 512 + 16 * (C.val / 1408)) (by omega)
  have hloc : loc6Of (ix2 R C) = ix2 (⟨R.val % 512, by omega⟩ : Fin 512) (⟨C.val % 1408, by omega⟩ : Fin 1408) := by
    funext a
    match a with
    | ⟨0, _⟩ => rfl
    | ⟨1, _⟩ => rfl
  rw [e, (st_all m c ⟨R.val / 512 + 16 * (C.val / 1408), by omega⟩ acc).2, hloc]
  have h1 : R.val = (R.val / 512 + 16 * (C.val / 1408)) % 16 * 512 + R.val % 512 := by omega
  have h2 : C.val = (R.val / 512 + 16 * (C.val / 1408)) / 16 * 1408 + C.val % 1408 := by omega
  refine (scaled_apply _ _ _ _ _).trans ?_
  refine congrArg₂ _ (Finset.sum_congr rfl fun d _ => congrArg₂ _ ?_ ?_) ?_
  · exact blk0 m c ⟨R.val / 512 + 16 * (C.val / 1408), by omega⟩ ⟨R.val % 512, by omega⟩ d R h1
  · exact blk4 m c ⟨R.val / 512 + 16 * (C.val / 1408), by omega⟩ ⟨C.val % 1408, by omega⟩ d C h2
  · exact blk2 m c ⟨R.val / 512 + 16 * (C.val / 1408), by omega⟩ ⟨R.val % 512, by omega⟩ ⟨C.val % 1408, by omega⟩ R C h1 h2

end Cert.HiddenIdeal.Hand
-- ==== Proof.HiddenAlg.lean ====
/- The hidden-gradient kernel against its reference, where the arguments are real numbers. -/
module

public import proofs.«01_k».proof.Proof.HiddenValue

@[expose] public section

noncomputable section

namespace Cert.Proof

open Idealize Idealize.ShloMosaic Idealize.ShloMosaic.TcCoe Idealize.SL.Sem Cert.Finite

/-- The shape relations the precondition's operations take. -/
theorem hidden_finite_facts : Cert.Pre_hidden_finite.Facts := by
  constructor <;> decide +kernel

/-- The precondition says that the up projection, the weights and the incoming gradient are arrays of real numbers. -/
theorem hidden_real (m : (ℓ : Loc Cert.HiddenIdeal.nD Cert.HiddenIdeal.τ Cert.HiddenIdeal.sig) → Buf (Elt Ideal) ℓ)
    (h : Cert.Pre_HiddenIdeal_hidden_finite (hPre_hidden_finite := hidden_finite_facts) m) (c : Dev Cert.HiddenIdeal.nD) :
    Real' (Cert.HiddenIdeal.Hand.uA m c) ∧ Real' (Cert.HiddenIdeal.Hand.wdA m c)
      ∧ Real' (Cert.HiddenIdeal.Hand.doA m c) := by
  have e := congrFun (h c) ix0
  unfold Cert.Pre_hidden_finite.fn at e
  dsimp only at e
  obtain ⟨e, e2⟩ := IntOp.andi_eq_one.1 e
  obtain ⟨e0, e1⟩ := IntOp.andi_eq_one.1 e
  haveI : Subsingleton (Cert.Pre_hidden_finite.S_).Idx := ⟨fun a b => funext fun i => i.elim0⟩
  exact ⟨real_of_all _ _ _ _ _ _ e0, real_of_all _ _ _ _ _ _ e1, real_of_all _ _ _ _ _ _ e2⟩

/-- The logistic function of a real number. -/
theorem lg_real (r : ℝ) : ∃ s : ℝ, Cert.HiddenIdeal.Hand.lg (r : EReal) = s := by
  refine ⟨(1 + Real.exp (-r))⁻¹, ?_⟩
  show Ideal.logistic (r : EReal) = _
  exact Ideal.logistic_coe _

/-- The derivative of the gate as one product, and as the sum of the two products of the product rule. -/
theorem gate_law (D u g s : ℝ) : (D : EReal) * ((u : EReal) * ((s : EReal) * (1 + (g : EReal) * (1 - (s : EReal)))))
    = D * u * s + g * (D * u) * (s * (1 - s)) := by
  rw [← EReal.coe_one]
  norm_cast
  ring

theorem lg_top : Cert.HiddenIdeal.Hand.lg ⊤ = 1 := by
  show Ideal.logistic ⊤ = 1
  simp
theorem lg_bot : Cert.HiddenIdeal.Hand.lg ⊥ = 0 := by
  show Ideal.logistic ⊥ = 0
  simp
theorem sub_self_one : (1 : EReal) - 1 = 0 := by
  rw [← EReal.coe_one, ← EReal.coe_sub, sub_self, EReal.coe_zero]

theorem gate_eq (D u g : EReal) (hD : ∃ r : ℝ, D = r) (hu : ∃ r : ℝ, u = r) :
    D * u * Cert.HiddenIdeal.Hand.lg g + g * (D * u) * (Cert.HiddenIdeal.Hand.lg g * (1 - Cert.HiddenIdeal.Hand.lg g))
      = D * (u * (Cert.HiddenIdeal.Hand.lg g * (1 + g * (1 - Cert.HiddenIdeal.Hand.lg g)))) := by
  obtain ⟨D, rfl⟩ := hD
  obtain ⟨u, rfl⟩ := hu
  induction g using EReal.rec with
  | bot => rw [lg_bot]; simp
  | coe g =>
    obtain ⟨s, hs⟩ := lg_real g
    rw [hs]
    exact (gate_law D u g s).symm
  | top => rw [lg_top, sub_self_one]; simp

open Cert.HiddenReferenceIdeal Cert.HiddenReferenceIdeal.Gen in
theorem ref_dg (g u : FVec Ideal Cert.HiddenReferenceIdeal.S8192x2816 .f32) (wd : FVec Ideal Cert.HiddenReferenceIdeal.S2816x1024 .bf16) (dout : FVec Ideal Cert.HiddenReferenceIdeal.S8192x1024 .bf16) (R : Fin 8192) (C : Fin 2816) :
    (truncf .bf16 (addf (mulf (mulf (Host.dotGeneral dot_S8192x1024_S2816x1024_S8192x2816_1_1_0_0_n_n none (extf .f32 dout bitsLt_bf16_f32) (extf .f32 wd bitsLt_bf16_f32)) u) (Host.divf (broadcastInDim S8192x2816 ![] bcast_S_S8192x2816 (constant S_ .f32 0x3F800000#32)) (addf (broadcastInDim S8192x2816 ![] bcast_S_S8192x2816 (constant S_ .f32 0x3F800000#32)) (Host.exp (Host.negf g))))) (mulf (mulf g (mulf (Host.dotGeneral dot_S8192x1024_S2816x1024_S8192x2816_1_1_0_0_n_n none (extf .f32 dout bitsLt_bf16_f32) (extf .f32 wd bitsLt_bf16_f32)) u)) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf g)))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf g)))))))) bitsLt_bf16_f32 : FVec Ideal S8192x2816 .bf16) (ix2 R C)
      = (∑ d : Fin 1024, (dout (ix2 R d) : EReal) * wd (ix2 C d)) * u (ix2 R C) * Cert.HiddenIdeal.Hand.lg (g (ix2 R C))
        + g (ix2 R C) * ((∑ d : Fin 1024, (dout (ix2 R d) : EReal) * wd (ix2 C d)) * u (ix2 R C))
          * (Cert.HiddenIdeal.Hand.lg (g (ix2 R C)) * (1 - Cert.HiddenIdeal.Hand.lg (g (ix2 R C)))) := by
  pointwise

open Cert.HiddenReferenceIdeal Cert.HiddenReferenceIdeal.Gen in
theorem ref_du (g u : FVec Ideal Cert.HiddenReferenceIdeal.S8192x2816 .f32) (wd : FVec Ideal Cert.HiddenReferenceIdeal.S2816x1024 .bf16) (dout : FVec Ideal Cert.HiddenReferenceIdeal.S8192x1024 .bf16) (R : Fin 8192) (C : Fin 2816) :
    (truncf .bf16 (mulf (mulf g (Host.divf (broadcastInDim S8192x2816 ![] bcast_S_S8192x2816 (constant S_ .f32 0x3F800000#32)) (addf (broadcastInDim S8192x2816 ![] bcast_S_S8192x2816 (constant S_ .f32 0x3F800000#32)) (Host.exp (Host.negf g))))) (Host.dotGeneral dot_S8192x1024_S2816x1024_S8192x2816_1_1_0_0_n_n none (extf .f32 dout bitsLt_bf16_f32) (extf .f32 wd bitsLt_bf16_f32))) bitsLt_bf16_f32 : FVec Ideal S8192x2816 .bf16) (ix2 R C)
      = g (ix2 R C) * Cert.HiddenIdeal.Hand.lg (g (ix2 R C)) * (∑ d : Fin 1024, (dout (ix2 R d) : EReal) * wd (ix2 C d)) := by
  pointwise

open Cert.HiddenReferenceIdeal Cert.HiddenReferenceIdeal.Gen in
theorem ref_gwd (g u : FVec Ideal Cert.HiddenReferenceIdeal.S8192x2816 .f32) (dout : FVec Ideal Cert.HiddenReferenceIdeal.S8192x1024 .bf16) (C : Fin 2816) (d : Fin 1024) :
    (truncf .bf16 (transpose S2816x1024 [1, 0] (Host.dotGeneral dot_S8192x1024_S8192x2816_S1024x2816_0_0_1_1_n_n none (extf .f32 dout bitsLt_bf16_f32) (mulf (mulf g (Host.divf (broadcastInDim S8192x2816 ![] bcast_S_S8192x2816 (constant S_ .f32 0x3F800000#32)) (addf (broadcastInDim S8192x2816 ![] bcast_S_S8192x2816 (constant S_ .f32 0x3F800000#32)) (Host.exp (Host.negf g))))) u)) transposes_S1024x2816_S2816x1024_1_0) bitsLt_bf16_f32 : FVec Ideal S2816x1024 .bf16) (ix2 C d)
      = ∑ R : Fin 8192, (dout (ix2 R d) : EReal) * (g (ix2 R C) * Cert.HiddenIdeal.Hand.lg (g (ix2 R C)) * u (ix2 R C)) := by
  pointwise

theorem eta2 {a b : ℕ} (i : (⟨2, ![a, b]⟩ : Shape).Idx) : i = ix2 (i 0) (i 1) := by
  funext x
  match x with
  | ⟨0, _⟩ => rfl
  | ⟨1, _⟩ => rfl

theorem algebraic_hidden : Cert.algebraic_HiddenIdeal_HiddenReferenceIdeal_pre_hidden_finite
    (hHiddenIdeal := Cert.HiddenIdeal.Gen.facts) (hHiddenReferenceIdeal := Cert.HiddenReferenceIdeal.Gen.facts)
    (hPre_hidden_finite := hidden_finite_facts) := by
  intro m ρ m' ρ' hpre hag
  refine ⟨fun c => Cert.HiddenIdeal.Value.G5 m c, fun c => Cert.HiddenIdeal.Value.G6 m c, fun c => Cert.HiddenIdeal.Value.G7 m c,
    Cert.HiddenIdeal.Value.run m ρ, (θ_run _ _ _).mono (fun r h c => ?_) (Cert.HiddenReferenceIdeal.Value.run m' ρ')⟩
  obtain ⟨h0, h1, h2, hk⟩ := h c
  obtain ⟨a0, a1, a2, a3⟩ := hag c
  obtain ⟨fu, fw, fd⟩ := hidden_real m hpre c
  refine ⟨h0.trans ?_, h1.trans ?_, h2.trans ?_, hk⟩
  · rw [a0, a1, a2, a3]
    funext i
    rw [eta2 i]
    refine (ref_dg (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (i 0) (i 1)).trans ?_
    refine Eq.trans ?_ (Cert.HiddenIdeal.Hand.result5 m c (i 0) (i 1)).symm
    exact gate_eq _ _ _ (real_sum Finset.univ _ (fun d _ => real_mul (fd _) (fw _))) (fu _)
  · rw [a0, a2, a3]
    funext i
    rw [eta2 i]
    refine (ref_du (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (i 0) (i 1)).trans ?_
    exact (mul_comm _ _).trans (Cert.HiddenIdeal.Hand.result6 m c (i 0) (i 1)).symm
  · rw [a0, a1, a3]
    funext i
    rw [eta2 i]
    refine (ref_gwd (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg3)) (i 0) (i 1)).trans ?_
    refine Eq.trans ?_ (Cert.HiddenIdeal.Hand.result7 m c (i 0) (i 1)).symm
    exact Finset.sum_congr rfl fun R _ => mul_comm _ _

end Cert.Proof
-- ==== Proof.GateUpValue.lean ====
/- The values of the two gate-and-up weight gradients: the carried sums after each grid point are the sums over the
   row blocks met so far, so the two arrays end as the whole products over all 8192 rows, which is what the reference
   computes. -/
module

public import proofs.«01_k».proof.Defs
public import proofs.«01_k».proof.Proof.Gen.GateUpIdeal.Value
public import proofs.«01_k».proof.Proof.TileSums
public import proofs.«01_k».proof.Proof.Gen.GateUpReferenceIdeal.Run
public import Idealize.ShloMosaic.Lib.Pointwise

@[expose] public section

noncomputable section

namespace Cert.GateUpIdeal.Hand

open Idealize Idealize.ShloMosaic Idealize.ShloMosaic.TcCoe Idealize.SL.Sem
open Cert.GateUpIdeal Cert.GateUpIdeal.Gen Cert.GateUpIdeal.Value Cert.Tiles

variable (m : (ℓ : Loc nD τ sig) → Buf (Elt Ideal) ℓ)

/-- The argument arrays as arrays of extended reals. -/
abbrev hA (c : Dev nD) : S8192x1024.Idx → EReal := m ((c : Thread nD τ).loc main_arg0)
abbrev dgA (c : Dev nD) : S8192x2816.Idx → EReal := m ((c : Thread nD τ).loc main_arg1)
abbrev duA (c : Dev nD) : S8192x2816.Idx → EReal := m ((c : Thread nD τ).loc main_arg2)

theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = t.val % 8 ∧ win0_1.index t (1 : Fin 2) = t.val / 8 :=
  (by decide +kernel : ∀ t : Fin grid0.N, _)
theorem idx2 : ∀ t : Fin cfg0.N, win0_2.index t (0 : Fin 2) = t.val % 8 ∧ win0_2.index t (1 : Fin 2) = 0 :=
  (by decide +kernel : ∀ t : Fin grid0.N, _)

theorem blk0 (c : Dev nD) (t : Fin cfg0.N) (k : Fin 1024) (r : Fin 1408) (R : Fin 8192) (C : Fin 2816)
    (hR : R.val = t.val % 8 * 1024 + k.val) (hC : C.val = t.val / 8 * 1408 + r.val) :
    (iblk m c 0 t : S1024x1408.Idx → EReal) (ix2 k r) = dgA m c (ix2 R C) := by
  unfold iblk
  rw [View.read_apply]
  show V m c main_arg1 _ = m (c.tc.loc main_arg1) _
  unfold V
  congr 1
  funext a
  apply Fin.ext
  match a with
  | ⟨0, _⟩ => show win0_0.index t 0 * 1024 + 1 * k.val = R.val; rw [(idx0 t).1]; omega
  | ⟨1, _⟩ => show win0_0.index t 1 * 1408 + 1 * r.val = C.val; rw [(idx0 t).2]; omega

theorem blk1 (c : Dev nD) (t : Fin cfg0.N) (k : Fin 1024) (r : Fin 1408) (R : Fin 8192) (C : Fin 2816)
    (hR : R.val = t.val % 8 * 1024 + k.val) (hC : C.val = t.val / 8 * 1408 + r.val) :
    (iblk m c 1 t : S1024x1408.Idx → EReal) (ix2 k r) = duA m c (ix2 R C) := by
  unfold iblk
  rw [View.read_apply]
  show V m c main_arg2 _ = m (c.tc.loc main_arg2) _
  unfold V
  congr 1
  funext a
  apply Fin.ext
  match a with
  | ⟨0, _⟩ => show win0_1.index t 0 * 1024 + 1 * k.val = R.val; rw [(idx1 t).1]; omega
  | ⟨1, _⟩ => show win0_1.index t 1 * 1408 + 1 * r.val = C.val; rw [(idx1 t).2]; omega

theorem blk2 (c : Dev nD) (t : Fin cfg0.N) (k : Fin 1024) (d : Fin 1024) (R : Fin 8192)
    (hR : R.val = t.val % 8 * 1024 + k.val) :
    (iblk m c 2 t : S1024x1024.Idx → EReal) (ix2 k d) = hA m c (ix2 R d) := by
  unfold iblk
  rw [View.read_apply]
  show V m c main_arg0 _ = m (c.tc.loc main_arg0) _
  unfold V
  congr 1
  funext a
  apply Fin.ext
  match a with
  | ⟨0, _⟩ => show win0_2.index t 0 * 1024 + 1 * k.val = R.val; rw [(idx2 t).1]; omega
  | ⟨1, _⟩ => show win0_2.index t 1 * 1024 + 1 * d.val = d.val; rw [(idx2 t).2]; omega

/-- The terms of one entry of the two products: the column `1408 * b + r` of the gradient against column `d` of `h`. -/
def term (A : S8192x2816.Idx → EReal) (B : S8192x1024.Idx → EReal) (C : Fin 2816) (d : Fin 1024) (R : Fin 8192) : EReal :=
  A (ix2 R C) * B (ix2 R d)

/-- One block product. -/
abbrev prodB (x : Vec Ideal S1024x1408 .bf16) (y : Vec Ideal S1024x1024 .bf16) : FVec Ideal S1408x1024 .f32 :=
  matmul (F := Ideal) (φ₁ := .bf16) (φ₂ := .bf16) dot_S1024x1408_S1024x1024_S1408x1024_0_0_1_1_n_n none x y (constant S1408x1024 .f32 0x00000000#32)

/-- One block product at an entry is one tile of the terms. -/
theorem prod_apply (x : FVec Ideal S1024x1408 .bf16) (y : FVec Ideal S1024x1024 .bf16) (r : Fin 1408) (d : Fin 1024) :
    (matmul dot_S1024x1408_S1024x1024_S1408x1024_0_0_1_1_n_n none x y (constant S1408x1024 .f32 0x00000000#32)
      : FVec Ideal S1408x1024 .f32) (ix2 r d) = ∑ k : Fin 1024, (x (ix2 k r) : EReal) * y (ix2 k d) := by
  pointwise

theorem prod0 (c : Dev nD) (t : Fin cfg0.N) (r : Fin 1408) (d : Fin 1024) (C : Fin 2816)
    (hC : C.val = t.val / 8 * 1408 + r.val) :
    (prodB (iblk m c 0 t) (iblk m c 2 t) : S1408x1024.Idx → EReal) (ix2 r d) = tile (by decide : 0 < 8192) 1024 (term (dgA m c) (hA m c) C d) (t.val % 8) := by
  rw [tile_of_lt _ _ _ _ (fun k => by have := k.isLt; omega)]
  refine (prod_apply _ _ r d).trans (Finset.sum_congr rfl fun k _ => ?_)
  rw [blk0 m c t k r ⟨t.val % 8 * 1024 + k.val, by have := k.isLt; omega⟩ C rfl hC,
    blk2 m c t k d ⟨t.val % 8 * 1024 + k.val, by have := k.isLt; omega⟩ rfl]
  rfl

theorem prod1 (c : Dev nD) (t : Fin cfg0.N) (r : Fin 1408) (d : Fin 1024) (C : Fin 2816)
    (hC : C.val = t.val / 8 * 1408 + r.val) :
    (prodB (iblk m c 1 t) (iblk m c 2 t) : S1408x1024.Idx → EReal) (ix2 r d) = tile (by decide : 0 < 8192) 1024 (term (duA m c) (hA m c) C d) (t.val % 8) := by
  rw [tile_of_lt _ _ _ _ (fun k => by have := k.isLt; omega)]
  refine (prod_apply _ _ r d).trans (Finset.sum_congr rfl fun k _ => ?_)
  rw [blk1 m c t k r ⟨t.val % 8 * 1024 + k.val, by have := k.isLt; omega⟩ C rfl hC,
    blk2 m c t k d ⟨t.val % 8 * 1024 + k.val, by have := k.isLt; omega⟩ rfl]
  rfl

theorem hz : (![0, 0] : Fin 2 → Nat) = fun _ => 0 := funext fun a => by fin_cases a <;> rfl

/-- At a first row block the carried sums are the products; later they take the products on top. -/
theorem st_first (c : Dev nD) (t : Fin cfg0.N) (acc) (h : t.val % 8 = 0) :
    (stAt0 m c t.val t.isLt acc).2.2.1 = prodB (iblk m c 0 t) (iblk m c 2 t)
    ∧ (stAt0 m c t.val t.isLt acc).2.2.2 = prodB (iblk m c 1 t) (iblk m c 2 t) := by
  rw [stAt0_A m c t acc h (by omega) h (by omega) (by omega)]
  dsimp only
  constructor
  case' left => unfold sout0_A_0 kernelRun0_A
  case' right => unfold sout0_A_1 kernelRun0_A
  all_goals
    rw [View.read_writes_junk_eq_canon]
    dsimp only
    sl_unfold_words
    rw [View.canon_unit_zero hz]
    simp only [k0_pay1, k0_pay2, k0_pay3, k0_pay4, k0_pay5, k0_pay6, k0_pay7, k0_pay8, View.readCov_unit_zero (S := S1408x1024) _ hz, View.readAt_eq_ld, (hs0_0 t).read_unread, (hs0_1 t).read_unread, (hs0_2 t).read_unread, (Memref.isWhole_whole _).read_unread,
      View.ld_unit_zero (S := S1024x1408) hz, View.ld_unit_zero (S := S1024x1024) hz, View.ld_unit_zero (S := S1408x1024) hz, shapeCast_self]

theorem st_next (c : Dev nD) (t : Fin cfg0.N) (acc) (h : ¬t.val % 8 = 0) :
    (stAt0 m c t.val t.isLt acc).2.2.1 = addf (F := Ideal) (φ := .f32) acc.2.2.1 (prodB (iblk m c 0 t) (iblk m c 2 t))
    ∧ (stAt0 m c t.val t.isLt acc).2.2.2 = addf (F := Ideal) (φ := .f32) acc.2.2.2 (prodB (iblk m c 1 t) (iblk m c 2 t)) := by
  by_cases h7 : t.val % 8 = 7
  case' pos =>
    rw [stAt0_C m c t acc h (by omega) h (by omega) h7]
    dsimp only
    constructor
    case' left => unfold sout0_C_0 kernelRun0_C
    case' right => unfold sout0_C_1 kernelRun0_C
  case' neg =>
    rw [stAt0_B m c t acc h (by omega) h (by omega) h7]
    dsimp only
    constructor
    case' left => unfold sout0_B_0 kernelRun0_B
    case' right => unfold sout0_B_1 kernelRun0_B
  all_goals
    rw [View.read_writes_junk_eq_canon]
    dsimp only
    sl_unfold_words
    rw [View.canon_unit_zero hz]
    simp only [k0_pay1, k0_pay2, k0_pay3, k0_pay4, k0_pay5, k0_pay6, k0_pay7, k0_pay8, View.readCov_unit_zero (S := S1408x1024) _ hz, View.readAt_eq_ld, (hs0_0 t).read_unread, (hs0_1 t).read_unread, (hs0_2 t).read_unread, (Memref.isWhole_whole _).read_unread,
      View.ld_unit_zero (S := S1024x1408) hz, View.ld_unit_zero (S := S1024x1024) hz, View.ld_unit_zero (S := S1408x1024) hz, shapeCast_self]

/-- At a last row block the two results are the carried sums, rounded. -/
theorem st_last (c : Dev nD) (t : Fin cfg0.N) (acc) (h : t.val % 8 = 7) :
    (stAt0 m c t.val t.isLt acc).1 = truncf (F := Ideal) (φ := .f32) .bf16 (stAt0 m c t.val t.isLt acc).2.2.1 bitsLt_bf16_f32
    ∧ (stAt0 m c t.val t.isLt acc).2.1 = truncf (F := Ideal) (φ := .f32) .bf16 (stAt0 m c t.val t.isLt acc).2.2.2 bitsLt_bf16_f32 := by
  rw [(st_next m c t acc (by omega)).1, (st_next m c t acc (by omega)).2,
    stAt0_C m c t acc (by omega) (by omega) (by omega) (by omega) h]
  dsimp only
  constructor
  case' left => unfold out0_C_3 kernelRun0_C
  case' right => unfold out0_C_4 kernelRun0_C
  all_goals
    rw [View.read_writes_junk_eq_canon]
    dsimp only
    sl_unfold_words
    rw [View.canon_unit_zero hz]
    simp only [k0_pay1, k0_pay2, k0_pay3, k0_pay4, k0_pay5, k0_pay6, k0_pay7, k0_pay8, View.readCov_unit_zero (S := S1408x1024) _ hz, View.readAt_eq_ld, (hs0_0 t).read_unread, (hs0_1 t).read_unread, (hs0_2 t).read_unread, (Memref.isWhole_whole _).read_unread,
      View.ld_unit_zero (S := S1024x1408) hz, View.ld_unit_zero (S := S1024x1024) hz, View.ld_unit_zero (S := S1408x1024) hz, shapeCast_self]

/-- What is carried after point `n`. -/
abbrev fold (c : Dev nD) (n : ℕ) (h : 0 + n < cfg0.N) :=
  Pipeline.accAt (fun n h => stAt0 m c n h junk0) (stAt0 m c) 0 n h

/-- A point's state is one step from some earlier state. -/
theorem fold_step (c : Dev nD) (n : ℕ) (h : 0 + n < cfg0.N) :
    ∃ acc, fold m c n h = stAt0 m c n (by omega) acc ∧ ∀ k (hk : n = k + 1), acc = fold m c k (by omega) := by
  cases n with
  | zero => exact ⟨junk0, rfl, fun k hk => absurd hk (by omega)⟩
  | succ k =>
    refine ⟨fold m c k (by omega), ?_, fun k' hk => ?_⟩
    · exact (Pipeline.accAt_succ _ _ 0 k h).trans (by congr 1; omega)
    · cases hk; rfl

theorem carried (c : Dev nD) : ∀ (n : ℕ) (h : 0 + n < cfg0.N) (r : Fin 1408) (d : Fin 1024) (C : Fin 2816),
    C.val = n / 8 * 1408 + r.val →
    ((fold m c n h).2.2.1 : S1408x1024.Idx → EReal) (ix2 r d)
        = ∑ s ∈ Finset.range (n % 8 + 1), tile (by decide : 0 < 8192) 1024 (term (dgA m c) (hA m c) C d) s
    ∧ ((fold m c n h).2.2.2 : S1408x1024.Idx → EReal) (ix2 r d)
        = ∑ s ∈ Finset.range (n % 8 + 1), tile (by decide : 0 < 8192) 1024 (term (duA m c) (hA m c) C d) s := by
  intro n
  induction n with
  | zero =>
    intro h r d C hC
    obtain ⟨acc, e, -⟩ := fold_step m c 0 h
    have hf := st_first m c ⟨0, by omega⟩ acc rfl
    rw [e, hf.1, hf.2]
    simp only [Nat.zero_mod, Nat.zero_add, Finset.sum_range_one]
    exact ⟨prod0 m c ⟨0, by omega⟩ r d C hC, prod1 m c ⟨0, by omega⟩ r d C hC⟩
  | succ k ih =>
    intro h r d C hC
    obtain ⟨acc, e, ea⟩ := fold_step m c (k + 1) h
    have ea := ea k rfl
    subst ea
    by_cases h0 : (k + 1) % 8 = 0
    · have hf := st_first m c ⟨k + 1, by omega⟩ (fold m c k (by omega)) h0
      rw [e, hf.1, hf.2, h0]
      simp only [Nat.zero_add, Finset.sum_range_one]
      have p0 := prod0 m c ⟨k + 1, by omega⟩ r d C hC
      have p1 := prod1 m c ⟨k + 1, by omega⟩ r d C hC
      simp only [h0] at p0 p1
      exact ⟨p0, p1⟩
    · have hf := st_next m c ⟨k + 1, by omega⟩ (fold m c k (by omega)) h0
      rw [e, hf.1, hf.2]
      obtain ⟨i0, i1⟩ := ih (by omega) r d C (by omega)
      have p0 := prod0 m c ⟨k + 1, by omega⟩ r d C hC
      have p1 := prod1 m c ⟨k + 1, by omega⟩ r d C hC
      have hm : (k + 1) % 8 = k % 8 + 1 := by omega
      simp only [hm] at p0 p1
      rw [hm, Finset.sum_range_succ, Finset.sum_range_succ (n := k % 8 + 1), ← i0, ← i1, ← p0, ← p1]
      exact ⟨rfl, rfl⟩

/-- The two results at an entry: the whole sums over the rows. -/
theorem result3 (c : Dev nD) (C : Fin 2816) (d : Fin 1024) :
    (G3 m c : S2816x1024.Idx → EReal) (ix2 C d) = ∑ R : Fin 8192, dgA m c (ix2 R C) * hA m c (ix2 R d) := by
  have hC := C.isLt
  have hd := d.isLt
  have hN : cfg0.N = 16 := N_0
  have hrun : run3Of (ix2 C d) = C.val / 1408 := by
    show 1 * (C.val / 1408 - 0) + 1 * (d.val / 1024 - 0) = _
    omega
  have hpt : pt3Of (ix2 C d) = 8 * (C.val / 1408) + 7 := by show 8 * run3Of (ix2 C d) + 7 = _; rw [hrun]
  have hlt : pt3Of (ix2 C d) < cfg0.N := by rw [hpt, hN]; omega
  have hloc : loc3Of (ix2 C d) = ix2 (⟨C.val % 1408, by omega⟩ : Fin 1408) d := by
    funext a
    match a with
    | ⟨0, _⟩ => rfl
    | ⟨1, _⟩ => exact Fin.ext (Nat.mod_eq_of_lt hd)
  unfold G3
  rw [dif_pos hlt, hloc, fold0_congr m c (pt3Of (ix2 C d)) (by omega) (8 * (C.val / 1408) + 7) (by omega) hpt]
  change ((fold m c (8 * (C.val / 1408) + 7) (by omega)).1 : S1408x1024.Idx → EReal) _ = _
  obtain ⟨acc, e, -⟩ := fold_step m c (8 * (C.val / 1408) + 7) (by omega)
  have hl := (st_last m c ⟨8 * (C.val / 1408) + 7, by omega⟩ acc (by show (8 * (C.val / 1408) + 7) % 8 = 7; omega)).1
  have hc := (carried m c (8 * (C.val / 1408) + 7) (by omega) ⟨C.val % 1408, by omega⟩ d C (by show C.val = (8 * (C.val / 1408) + 7) / 8 * 1408 + C.val % 1408; omega)).1
  rw [e] at hc ⊢
  rw [hl]
  refine Eq.trans ?_ ((hc.trans ?_).trans (sum_tiles (by decide : 0 < 8192) 8 1024 rfl _))
  · rfl
  · rw [show (8 * (C.val / 1408) + 7) % 8 + 1 = 8 by omega]
    rfl

theorem result4 (c : Dev nD) (C : Fin 2816) (d : Fin 1024) :
    (G4 m c : S2816x1024.Idx → EReal) (ix2 C d) = ∑ R : Fin 8192, duA m c (ix2 R C) * hA m c (ix2 R d) := by
  have hC := C.isLt
  have hd := d.isLt
  have hN : cfg0.N = 16 := N_0
  have hrun : run4Of (ix2 C d) = C.val / 1408 := by
    show 1 * (C.val / 1408 - 0) + 1 * (d.val / 1024 - 0) = _
    omega
  have hpt : pt4Of (ix2 C d) = 8 * (C.val / 1408) + 7 := by show 8 * run4Of (ix2 C d) + 7 = _; rw [hrun]
  have hlt : pt4Of (ix2 C d) < cfg0.N := by rw [hpt, hN]; omega
  have hloc : loc4Of (ix2 C d) = ix2 (⟨C.val % 1408, by omega⟩ : Fin 1408) d := by
    funext a
    match a with
    | ⟨0, _⟩ => rfl
    | ⟨1, _⟩ => exact Fin.ext (Nat.mod_eq_of_lt hd)
  unfold G4
  rw [dif_pos hlt, hloc, fold0_congr m c (pt4Of (ix2 C d)) (by omega) (8 * (C.val / 1408) + 7) (by omega) hpt]
  change ((fold m c (8 * (C.val / 1408) + 7) (by omega)).2.1 : S1408x1024.Idx → EReal) _ = _
  obtain ⟨acc, e, -⟩ := fold_step m c (8 * (C.val / 1408) + 7) (by omega)
  have hl := (st_last m c ⟨8 * (C.val / 1408) + 7, by omega⟩ acc (by show (8 * (C.val / 1408) + 7) % 8 = 7; omega)).2
  have hc := (carried m c (8 * (C.val / 1408) + 7) (by omega) ⟨C.val % 1408, by omega⟩ d C (by show C.val = (8 * (C.val / 1408) + 7) / 8 * 1408 + C.val % 1408; omega)).2
  rw [e] at hc ⊢
  rw [hl]
  refine Eq.trans ?_ ((hc.trans ?_).trans (sum_tiles (by decide : 0 < 8192) 8 1024 rfl _))
  · rfl
  · rw [show (8 * (C.val / 1408) + 7) % 8 + 1 = 8 by omega]
    rfl

end Cert.GateUpIdeal.Hand

namespace Cert.Proof

open Idealize Idealize.ShloMosaic Idealize.ShloMosaic.TcCoe Idealize.SL.Sem

theorem gate_up_ref (x : FVec Ideal Cert.GateUpReferenceIdeal.S8192x2816 .bf16) (y : FVec Ideal Cert.GateUpReferenceIdeal.S8192x1024 .bf16) (C : Fin 2816) (d : Fin 1024) :
    open Cert.GateUpReferenceIdeal Cert.GateUpReferenceIdeal.Gen in
    (truncf .bf16 (transpose S2816x1024 [1, 0] (transpose S1024x2816 [1, 0] (Host.dotGeneral dot_S8192x2816_S8192x1024_S2816x1024_0_0_1_1_n_n none (extf .f32 x bitsLt_bf16_f32) (extf .f32 y bitsLt_bf16_f32)) transposes_S2816x1024_S1024x2816_1_0) transposes_S1024x2816_S2816x1024_1_0) bitsLt_bf16_f32 : FVec Ideal S2816x1024 .bf16) (ix2 C d)
      = ∑ R : Fin 8192, (x (ix2 R C) : EReal) * y (ix2 R d) := by
  pointwise

theorem algebraic_gate_up : Cert.algebraic_GateUpIdeal_GateUpReferenceIdeal
    (hGateUpIdeal := Cert.GateUpIdeal.Gen.facts) (hGateUpReferenceIdeal := Cert.GateUpReferenceIdeal.Gen.facts) := by
  intro m ρ m' ρ' _ hag
  refine ⟨fun c => Cert.GateUpIdeal.Value.G3 m c, fun c => Cert.GateUpIdeal.Value.G4 m c,
    Cert.GateUpIdeal.Value.run m ρ, (θ_run _ _ _).mono (fun r h c => ?_) (Cert.GateUpReferenceIdeal.Value.run m' ρ')⟩
  obtain ⟨h0, h1, hk⟩ := h c
  obtain ⟨a0, a1, a2⟩ := hag c
  refine ⟨h0.trans ?_, h1.trans ?_, hk⟩
  · rw [a0, a1]
    funext i
    have := gate_up_ref (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg0)) (i 0) (i 1)
    have hi : i = ix2 (i 0) (i 1) := by funext a; match a with | ⟨0, _⟩ => rfl | ⟨1, _⟩ => rfl
    rw [hi]
    exact this.trans (Cert.GateUpIdeal.Hand.result3 m c (i 0) (i 1)).symm
  · rw [a0, a2]
    funext i
    have := gate_up_ref (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg0)) (i 0) (i 1)
    have hi : i = ix2 (i 0) (i 1) := by funext a; match a with | ⟨0, _⟩ => rfl | ⟨1, _⟩ => rfl
    rw [hi]
    exact this.trans (Cert.GateUpIdeal.Hand.result4 m c (i 0) (i 1)).symm

end Cert.Proof
-- ==== Proof.InputValue.lean ====
/- The values of the input-gradient kernel. Each point's block of the residual stream's gradient is the incoming
   gradient plus the norm's derivative of `dgate @ wg + dup @ wu`; the norm weight's gradient is summed over the 16 row
   blocks in the output's own buffer, which is written back once, after the last point. -/
module

public import proofs.«01_k».proof.Defs
public import proofs.«01_k».proof.Proof.Gen.InputIdeal.Value
public import proofs.«01_k».proof.Proof.TileSums
public import proofs.«01_k».proof.Proof.Finite
public import proofs.«01_k».proof.Proof.Gen.InputReferenceIdeal.Run
public import Idealize.ShloMosaic.Lib.Pointwise
public import Idealize.ShloMosaic.Lib.Pipeline.Value

@[expose] public section

noncomputable section

namespace Cert.InputIdeal.Hand

open Idealize Idealize.ShloMosaic Idealize.ShloMosaic.TcCoe Idealize.SL.Sem
open Cert.InputIdeal Cert.InputIdeal.Gen Cert.InputIdeal.Value Cert.Tiles Cert.Finite

variable (m : (ℓ : Loc nD τ sig) → Buf (Elt Ideal) ℓ)

/-- The argument arrays as arrays of extended reals. -/
abbrev dyA (c : Dev nD) : S8192x1024.Idx → EReal := m ((c : Thread nD τ).loc main_arg0)
abbrev xA (c : Dev nD) : S8192x1024.Idx → EReal := m ((c : Thread nD τ).loc main_arg1)
abbrev gnA (c : Dev nD) : S1x1024.Idx → EReal := m ((c : Thread nD τ).loc main_arg2)
abbrev dgA (c : Dev nD) : S8192x2816.Idx → EReal := m ((c : Thread nD τ).loc main_arg3)
abbrev duA (c : Dev nD) : S8192x2816.Idx → EReal := m ((c : Thread nD τ).loc main_arg4)
abbrev wgA (c : Dev nD) : S2816x1024.Idx → EReal := m ((c : Thread nD τ).loc main_arg5)
abbrev wuA (c : Dev nD) : S2816x1024.Idx → EReal := m ((c : Thread nD τ).loc main_arg6)

/-- The row length 1024, the norm's epsilon, and 1/1024, as the programs' constants. -/
abbrev cLen : EReal := Ideal.ofBits .f32 0x44800000#32
abbrev cEps : EReal := Ideal.ofBits .f32 0x358637BD#32
abbrev cInv : EReal := Ideal.ofBits .f32 0x3A800000#32

/-- A row's mean square plus epsilon, and the gradient at the norm's output. -/
def msq (c : Dev nD) (R : Fin 8192) : EReal := Ideal.div (∑ d : Fin 1024, xA m c (ix2 R d) * xA m c (ix2 R d)) cLen + cEps
def dh (c : Dev nD) (R : Fin 8192) (d : Fin 1024) : EReal :=
  (∑ e : Fin 2816, dgA m c (ix2 R e) * wgA m c (ix2 e d)) + ∑ e : Fin 2816, duA m c (ix2 R e) * wuA m c (ix2 e d)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-! ## The blocks a point reads -/

theorem blk0 (c : Dev nD) (t : Fin cfg0.N) (k : Fin 512) (d : Fin 1024) (R : Fin 8192) (hR : R.val = t.val * 512 + k.val) :
    (iblk m c 0 t : S512x1024.Idx → EReal) (ix2 k d) = dyA m c (ix2 R d) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * k.val = R.val; rw [(idx0 t).1]; omega
  | ⟨1, _⟩ => show win0_0.index t 1 * 1024 + 1 * d.val = d.val; rw [(idx0 t).2]; omega

theorem blk1 (c : Dev nD) (t : Fin cfg0.N) (k : Fin 512) (d : Fin 1024) (R : Fin 8192) (hR : R.val = t.val * 512 + k.val) :
    (iblk m c 1 t : S512x1024.Idx → EReal) (ix2 k d) = xA m c (ix2 R d) := by
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * k.val = R.val; rw [(idx1 t).1]; omega
  | ⟨1, _⟩ => show win0_1.index t 1 * 1024 + 1 * d.val = d.val; rw [(idx1 t).2]; omega

theorem blk2 (c : Dev nD) (t : Fin cfg0.N) (d : Fin 1024) :
    (iblk m c 2 t : S1x1024.Idx → EReal) (ix2 0 d) = gnA m c (ix2 0 d) := by
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [(idx2 t).1]
  | ⟨1, _⟩ => show win0_2.index t 1 * 1024 + 1 * d.val = d.val; rw [(idx2 t).2]; omega

theorem blk3 (c : Dev nD) (t : Fin cfg0.N) (k : Fin 512) (d : Fin 2816) (R : Fin 8192) (hR : R.val = t.val * 512 + k.val) :
    (iblk m c 3 t : S512x2816.Idx → EReal) (ix2 k d) = dgA m c (ix2 R d) := by
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * k.val = R.val; rw [(idx3 t).1]; omega
  | ⟨1, _⟩ => show win0_3.index t 1 * 2816 + 1 * d.val = d.val; rw [(idx3 t).2]; omega

theorem blk4 (c : Dev nD) (t : Fin cfg0.N) (k : Fin 512) (d : Fin 2816) (R : Fin 8192) (hR : R.val = t.val * 512 + k.val) :
    (iblk m c 4 t : S512x2816.Idx → EReal) (ix2 k d) = duA m c (ix2 R d) := by
  unfold iblk
  rw [View.read_apply]
  show V m c main_arg4 _ = m (c.tc.loc main_arg4) _
  rw [V_main_arg4]
  congr 1
  funext a
  apply Fin.ext
  match a with
  | ⟨0, _⟩ => show win0_4.index t 0 * 512 + 1 * k.val = R.val; rw [(idx4 t).1]; omega
  | ⟨1, _⟩ => show win0_4.index t 1 * 2816 + 1 * d.val = d.val; rw [(idx4 t).2]; omega

theorem blk5 (c : Dev nD) (t : Fin cfg0.N) (k : Fin 2816) (d : Fin 1024) :
    (iblk m c 5 t : S2816x1024.Idx → EReal) (ix2 k d) = wgA m c (ix2 k d) := by
  unfold iblk
  rw [View.read_apply]
  show V m c main_arg5 _ = m (c.tc.loc main_arg5) _
  rw [V_main_arg5]
  congr 1
  funext a
  apply Fin.ext
  match a with
  | ⟨0, _⟩ => show win0_5.index t 0 * 2816 + 1 * k.val = k.val; rw [(idx5 t).1]; omega
  | ⟨1, _⟩ => show win0_5.index t 1 * 1024 + 1 * d.val = d.val; rw [(idx5 t).2]; omega

theorem blk6 (c : Dev nD) (t : Fin cfg0.N) (k : Fin 2816) (d : Fin 1024) :
    (iblk m c 6 t : S2816x1024.Idx → EReal) (ix2 k d) = wuA m c (ix2 k d) := by
  unfold iblk
  rw [View.read_apply]
  show V m c main_arg6 _ = m (c.tc.loc main_arg6) _
  rw [V_main_arg6]
  congr 1
  funext a
  apply Fin.ext
  match a with
  | ⟨0, _⟩ => show win0_6.index t 0 * 2816 + 1 * k.val = k.val; rw [(idx6 t).1]; omega
  | ⟨1, _⟩ => show win0_6.index t 1 * 1024 + 1 * d.val = d.val; rw [(idx6 t).2]; omega

/-! ## One point -/

theorem pay3_apply (a : FVec Ideal S512x2816 .bf16) (b : FVec Ideal S2816x1024 .bf16) (a' : FVec Ideal S512x2816 .bf16) (b' : FVec Ideal S2816x1024 .bf16) (r : Fin 512) (d : Fin 1024) :
    (k0_pay3 (F := Ideal) a b a' b') (ix2 r d)
      = (∑ e : Fin 2816, (a (ix2 r e) : EReal) * b (ix2 e d)) + ∑ e : Fin 2816, (a' (ix2 r e) : EReal) * b' (ix2 e d) := by
  unfold k0_pay3
  pointwise

theorem pay4_apply (x : FVec Ideal S512x1024 .f32) (r : Fin 512) :
    (k0_pay4 (F := Ideal) x) (ix2 r (0 : Fin 1)) = Ideal.rsqrt (Ideal.div (∑ d : Fin 1024, (x (ix2 r d) : EReal) * x (ix2 r d)) cLen + cEps) := by
  unfold k0_pay4
  pointwise

theorem pay5_apply (a : FVec Ideal S512x2816 .bf16) (b : FVec Ideal S2816x1024 .bf16) (a' : FVec Ideal S512x2816 .bf16) (b' : FVec Ideal S2816x1024 .bf16) (x : FVec Ideal S512x1024 .f32) (g : FVec Ideal S1x1024 .f32) (y : FVec Ideal S512x1024 .f32) (r : Fin 512) (d : Fin 1024) :
    (addf (F := Ideal) (φ := .f32) y (k0_pay5 a b a' b' x g)) (ix2 r d)
      = (y (ix2 r d) : EReal) + (k0_pay4 (F := Ideal) x (ix2 r 0) * (k0_pay3 (F := Ideal) a b a' b' (ix2 r d) * g (ix2 0 d)) -
      x (ix2 r d) * (k0_pay4 (F := Ideal) x (ix2 r 0) * k0_pay4 (F := Ideal) x (ix2 r 0) * k0_pay4 (F := Ideal) x (ix2 r 0) *
          ((∑ k : Fin 1024, k0_pay3 (F := Ideal) a b a' b' (ix2 r k) * g (ix2 0 k) * x (ix2 r k)) * cInv))) := by
  unfold k0_pay5
  pointwise

theorem pay6_apply (a : FVec Ideal S512x2816 .bf16) (b : FVec Ideal S2816x1024 .bf16) (a' : FVec Ideal S512x2816 .bf16) (b' : FVec Ideal S2816x1024 .bf16) (x : FVec Ideal S512x1024 .f32) (d : Fin 1024) :
    (k0_pay6 (F := Ideal) a b a' b' x) (ix2 (0 : Fin 1) d)
      = ∑ k : Fin 512, k0_pay3 (F := Ideal) a b a' b' (ix2 k d) * ((x (ix2 k d) : EReal) * k0_pay4 (F := Ideal) x (ix2 k 0)) := by
  unfold k0_pay6
  pointwise

theorem dh_blk (c : Dev nD) (t : Fin cfg0.N) (k : Fin 512) (d : Fin 1024) (R : Fin 8192) (hR : R.val = t.val * 512 + k.val) :
    (k0_pay3 (F := Ideal) (iblk m c 3 t) (iblk m c 5 t) (iblk m c 4 t) (iblk m c 6 t)) (ix2 k d) = dh m c R d := by
  refine (pay3_apply _ _ _ _ k d).trans ?_
  exact congrArg₂ _ (Finset.sum_congr rfl fun e _ => congrArg₂ _ (blk3 m c t k e R hR) (blk5 m c t e d))
    (Finset.sum_congr rfl fun e _ => congrArg₂ _ (blk4 m c t k e R hR) (blk6 m c t e d))

theorem rs_blk (c : Dev nD) (t : Fin cfg0.N) (k : Fin 512) (R : Fin 8192) (hR : R.val = t.val * 512 + k.val) :
    (k0_pay4 (F := Ideal) (iblk m c 1 t)) (ix2 k (0 : Fin 1)) = Ideal.rsqrt (msq m c R) := by
  refine (pay4_apply _ k).trans ?_
  refine congrArg (fun s => Ideal.rsqrt (Ideal.div s cLen + cEps)) ?_
  exact Finset.sum_congr rfl fun d _ => congrArg₂ _ (blk1 m c t k d R hR) (blk1 m c t k d R hR)

/-- One entry of the residual stream's gradient. -/
def dxOf (c : Dev nD) (R : Fin 8192) (d : Fin 1024) : EReal :=
  dyA m c (ix2 R d) + (Ideal.rsqrt (msq m c R) * (dh m c R d * gnA m c (ix2 0 d)) -
    xA m c (ix2 R d) * (Ideal.rsqrt (msq m c R) * Ideal.rsqrt (msq m c R) * Ideal.rsqrt (msq m c R) *
      ((∑ k : Fin 1024, dh m c R k * gnA m c (ix2 0 k) * xA m c (ix2 R k)) * cInv)))

/-- The terms of one entry of the norm weight's gradient. -/
def term (c : Dev nD) (d : Fin 1024) (R : Fin 8192) : EReal := dh m c R d * (xA m c (ix2 R d) * Ideal.rsqrt (msq m c R))

theorem hz : (![0, 0] : Fin 2 → Nat) = fun _ => 0 := funext fun a => by fin_cases a <;> rfl

theorem out7 (c : Dev nD) (t : Fin cfg0.N) :
    (outsAt0 m c t.val t.isLt).1 = addf (F := Ideal) (φ := .f32) (iblk m c 0 t) (k0_pay5 (iblk m c 3 t) (iblk m c 5 t) (iblk m c 4 t) (iblk m c 6 t) (iblk m c 1 t) (iblk m c 2 t)) := by
  have hN : t.val < 16 := lt_of_lt_of_eq t.isLt (show cfg0.N = 16 from N_0)
  by_cases h0 : t.val % 16 = 0
  case' pos =>
    rw [outsAt0_A m c t h0 (by omega)]
    dsimp only
    unfold out0_A_7 kernelRun0_A
  case' neg =>
    rw [outsAt0_B m c t h0 (by omega)]
    dsimp only
    unfold out0_B_7 kernelRun0_B
  all_goals
    rw [View.read_writes_junk_eq_canon]
    dsimp only
    sl_unfold_words
    rw [View.canon_unit_zero hz]
    simp only [k0_pay1, k0_pay2, View.readCov_unit_zero (S := S1x1024) _ hz, View.readAt_eq_ld, (hs0_0 t).read_unread, (hs0_1 t).read_unread, (hs0_2 t).read_unread, (hs0_3 t).read_unread,
      (hs0_4 t).read_unread, (hs0_5 t).read_unread, (hs0_6 t).read_unread, (hs0_8 t).read_unread, View.ld_unit_zero (S := S1x1024) hz, View.ld_unit_zero (S := S2816x1024) hz,
      View.ld_unit_zero (S := S512x1024) hz, View.ld_unit_zero (S := S512x2816) hz, shapeCast_self]

/-- The norm weight's gradient at the first point, and at a later one. -/
theorem dgn_first (c : Dev nD) (t : Fin cfg0.N) (h0 : t.val % 16 = 0) :
    (outsAt0 m c t.val t.isLt).2 = k0_pay6 (iblk m c 3 t) (iblk m c 5 t) (iblk m c 4 t) (iblk m c 6 t) (iblk m c 1 t) := by
  have hN : t.val < 16 := lt_of_lt_of_eq t.isLt (show cfg0.N = 16 from N_0)
  rw [outsAt0_A m c t h0 (by omega)]
  dsimp only
  unfold out0_A_8 kernelRun0_A
  rw [View.read_writes_junk_eq_canon]
  dsimp only
  sl_unfold_words
  rw [View.canon_unit_zero hz]
  simp only [k0_pay1, k0_pay2, View.readCov_unit_zero (S := S1x1024) _ hz, View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, View.ld_unit_zero (S := S1x1024) hz, View.ld_unit_zero (S := S2816x1024) hz,
    View.ld_unit_zero (S := S512x1024) hz, View.ld_unit_zero (S := S512x2816) hz, shapeCast_self]

theorem dgn_next (c : Dev nD) (n : ℕ) (h : n + 1 < cfg0.N) :
    (outsAt0 m c (n + 1) h).2 = addf (F := Ideal) (φ := .f32) (outsAt0 m c n (by omega)).2
      (k0_pay6 (iblk m c 3 ⟨n + 1, h⟩) (iblk m c 5 ⟨n + 1, h⟩) (iblk m c 4 ⟨n + 1, h⟩) (iblk m c 6 ⟨n + 1, h⟩) (iblk m c 1 ⟨n + 1, h⟩)) := by
  have hN : n + 1 < 16 := lt_of_lt_of_eq h (show cfg0.N = 16 from N_0)
  rw [outsAt0_B m c ⟨n + 1, h⟩ (by show ¬(n + 1) % 16 = 0; omega) (by show 1 ≤ n + 1; omega)]
  dsimp only
  unfold out0_B_8 kernelRun0_B
  rw [View.read_writes_junk_eq_canon]
  dsimp only
  sl_unfold_words
  rw [View.canon_unit_zero hz]
  simp only [k0_pay1, k0_pay2, View.readCov_unit_zero (S := S1x1024) _ hz, View.readAt_eq_ld, (hs0_0 _).read_unread, (hs0_1 _).read_unread, (hs0_2 _).read_unread, (hs0_3 _).read_unread,
    (hs0_4 _).read_unread, (hs0_5 _).read_unread, (hs0_6 _).read_unread, (hs0_8 _).read_unread, View.ld_unit_zero (S := S1x1024) hz, View.ld_unit_zero (S := S2816x1024) hz,
    View.ld_unit_zero (S := S512x1024) hz, View.ld_unit_zero (S := S512x2816) hz, shapeCast_self]
  rfl

theorem out7_apply (c : Dev nD) (t : Fin cfg0.N) (k : Fin 512) (d : Fin 1024) (R : Fin 8192) (hR : R.val = t.val * 512 + k.val) :
    ((outsAt0 m c t.val t.isLt).1 : S512x1024.Idx → EReal) (ix2 k d) = dxOf m c R d := by
  rw [out7]
  refine (pay5_apply _ _ _ _ _ _ _ k d).trans ?_
  unfold dxOf
  rw [rs_blk m c t k R hR, dh_blk m c t k d R hR]
  refine congrArg₂ _ (blk0 m c t k d R hR) (congrArg₂ _ (congrArg₂ _ rfl (congrArg₂ _ rfl (blk2 m c t d))) (congrArg₂ _ (blk1 m c t k d R hR) (congrArg₂ _ rfl (congrArg₂ _ ?_ rfl))))
  exact Finset.sum_congr rfl fun j _ => congrArg₂ _ (congrArg₂ _ (dh_blk m c t k j R hR) (blk2 m c t j)) (blk1 m c t k j R hR)

theorem pay6_tile (c : Dev nD) (t : Fin cfg0.N) (d : Fin 1024) :
    (k0_pay6 (F := Ideal) (iblk m c 3 t) (iblk m c 5 t) (iblk m c 4 t) (iblk m c 6 t) (iblk m c 1 t)) (ix2 (0 : Fin 1) d)
      = tile (by decide : 0 < 8192) 512 (term m c d) t.val := by
  have hN : t.val < 16 := lt_of_lt_of_eq t.isLt (show cfg0.N = 16 from N_0)
  rw [tile_of_lt _ _ _ _ (fun k => by have := k.isLt; omega)]
  refine (pay6_apply _ _ _ _ _ d).trans (Finset.sum_congr rfl fun k _ => ?_)
  have hlt : t.val * 512 + k.val < 8192 := by have := k.isLt; omega
  rw [dh_blk m c t k d ⟨t.val * 512 + k.val, hlt⟩ rfl, rs_blk m c t k ⟨t.val * 512 + k.val, hlt⟩ rfl]
  exact congrArg₂ _ rfl (congrArg₂ _ (blk1 m c t k d ⟨t.val * 512 + k.val, hlt⟩ rfl) rfl)

/-- After point `n` the norm weight's gradient holds the sum over the row blocks so far. -/
theorem out8 (c : Dev nD) : ∀ (n : ℕ) (h : n < cfg0.N) (d : Fin 1024),
    ((outsAt0 m c n h).2 : S1x1024.Idx → EReal) (ix2 0 d) = ∑ s ∈ Finset.range (n + 1), tile (by decide : 0 < 8192) 512 (term m c d) s := by
  intro n
  induction n with
  | zero =>
    intro h d
    rw [dgn_first m c ⟨0, h⟩ rfl, Finset.sum_range_one]
    exact pay6_tile m c ⟨0, h⟩ d
  | succ k ih =>
    intro h d
    rw [dgn_next, Finset.sum_range_succ, ← ih (by omega) d, ← pay6_tile m c ⟨k + 1, h⟩ d]
    rfl

/-! ## The two results at an entry -/

theorem result7 (c : Dev nD) (R : Fin 8192) (d : Fin 1024) :
    ((dats m 0 c).arrAt 7 cfg0.N : S8192x1024.Idx → EReal) (ix2 R d) = dxOf m c R d := by
  have hR := R.isLt
  have hN : cfg0.N = 16 := N_0
  have hlt : R.val / 512 < cfg0.N := by omega
  have e := congrFun (blocks7 m c ⟨R.val / 512, hlt⟩ (flush0_7 _)) (ix2 (⟨R.val % 512, by omega⟩ : Fin 512) d : S512x1024.Idx)
  rw [View.read_apply, flushed7] at e
  have he : ((cfg0.win 7).blk ⟨R.val / 512, hlt⟩).view.emb (ix2 (⟨R.val % 512, by omega⟩ : Fin 512) d : S512x1024.Idx) = (ix2 R d : S8192x1024.Idx) := by
    funext a
    apply Fin.ext
    match a with
    | ⟨0, _⟩ => show win0_7.index ⟨R.val / 512, hlt⟩ 0 * 512 + 1 * (R.val % 512) = R.val; rw [(idx7 ⟨R.val / 512, hlt⟩).1]; show R.val / 512 * 512 + 1 * (R.val % 512) = R.val; omega
    | ⟨1, _⟩ => show win0_7.index ⟨R.val / 512, hlt⟩ 1 * 1024 + 1 * d.val = d.val; rw [(idx7 ⟨R.val / 512, hlt⟩).2]; omega
  refine (congrArg _ he.symm).trans (e.trans ?_)
  exact out7_apply m c ⟨R.val / 512, hlt⟩ ⟨R.val % 512, by omega⟩ d R (by show R.val = R.val / 512 * 512 + R.val % 512; omega)

/-- The norm weight's gradient: the array after its one write-back. -/
def gnOut (c : Dev nD) : Buf (Elt Ideal) ((c : Thread nD τ).loc main_v0_1) := (outsAt0 m c 15 (by rw [show cfg0.N = 16 from N_0]; decide)).2

theorem flushed8_eq (c : Dev nD) (t : Fin cfg0.N) (hf : (cfg0.win 8).flush t = true) :
    (dats m 0 c).flushed 8 t = ((cfg0.win 8).blk t).view.read (Elt Ideal) (gnOut m c) := by
  have hN : cfg0.N = 16 := N_0
  have h15 : t.val = 15 := by have := (flush0_8 t).mp hf; have := t.isLt; omega
  obtain rfl : t = t0_15 := Fin.ext h15
  rw [flushed8]
  have hz' : (fun a => win0_8.index t0_15 a * main_v0_1.ty.shape.size a) = fun _ => 0 := funext fun a => by fin_cases a <;> decide
  exact (Memref.read_access_unit_zero (Elt Ideal) main_v0_1 hz' (fun a => by rw [congrFun hz' a]; simp) (gnOut m c)).symm

theorem final8 (c : Dev nD) : (dats m 0 c).arrAt 8 cfg0.N = gnOut m c :=
  (dats m 0 c).arrAt_eq_of_cover 8 (gnOut m c) (flushed8_eq m c) fun i =>
    ⟨t0_15, (flush0_8 t0_15).mpr rfl, by
      show i ∈ ((View.whole main_v0_1).slice (win0_8.rect t0_15)).set
      rw [View.set_slice_whole, Rect.mem_set_unit]
      intro a
      have h0 : (i 0 : Nat) < 1 := (i 0).isLt
      have h1 : (i 1 : Nat) < 1024 := (i 1).isLt
      match a with
      | ⟨0, _⟩ => show win0_8.index t0_15 0 * win0_8.size 0 ≤ (i 0 : Nat) ∧ (i 0 : Nat) < win0_8.index t0_15 0 * win0_8.size 0 + win0_8.xsize (grid0.coords t0_15) 0
                  rw [show win0_8.index t0_15 0 * win0_8.size 0 = 0 from by decide +kernel, show win0_8.xsize (grid0.coords t0_15) 0 = 1 from by decide +kernel]; omega
      | ⟨1, _⟩ => show win0_8.index t0_15 1 * win0_8.size 1 ≤ (i 1 : Nat) ∧ (i 1 : Nat) < win0_8.index t0_15 1 * win0_8.size 1 + win0_8.xsize (grid0.coords t0_15) 1
                  rw [show win0_8.index t0_15 1 * win0_8.size 1 = 0 from by decide +kernel, show win0_8.xsize (grid0.coords t0_15) 1 = 1024 from by decide +kernel]; omega⟩

theorem result8 (c : Dev nD) (d : Fin 1024) :
    ((dats m 0 c).arrAt 8 cfg0.N : S1x1024.Idx → EReal) (ix2 0 d) = ∑ R : Fin 8192, term m c d R := by
  rw [final8]
  exact (out8 m c 15 _ d).trans (sum_tiles (by decide : 0 < 8192) 16 512 rfl _)

end Cert.InputIdeal.Hand
-- ==== Proof.InputAlg.lean ====
/- The input-gradient kernel against its reference. The reference's derivative is the one of `x * rsqrt (mean (x * x) + eps)` by the product and chain rules:
   its second part is `-1/2 * rsqrt q / q`, spread over the row and counted twice; the kernel takes `rsqrt q` to the
   third power. The two agree for a positive real `q`, and for `q = ⊤`, where
   `rsqrt q` is zero; `q` is nothing else, a sum of squares plus a positive epsilon. -/
module

public import proofs.«01_k».proof.Proof.InputValue
public import proofs.«01_k».proof.Proof.HiddenAlg

@[expose] public section

noncomputable section

namespace Cert.Proof

open Idealize Idealize.ShloMosaic Idealize.ShloMosaic.TcCoe Idealize.SL.Sem Cert.Finite

/-! ## The constants -/

theorem cLen_eq : Ideal.ofBits .f32 0x44800000#32 = ((1024 : ℝ) : EReal) := by
  simp [Ideal.ofBits, Ideal.ieee, -EReal.coe_mul]; norm_num
theorem cInv_eq : Ideal.ofBits .f32 0x3A800000#32 = ((1 / 1024 : ℝ) : EReal) := by
  simp [Ideal.ofBits, Ideal.ieee, -EReal.coe_mul]; norm_num
theorem cHalf_eq : Ideal.ofBits .f32 0xBF000000#32 = ((-(1 / 2) : ℝ) : EReal) := by
  simp [Ideal.ofBits, Ideal.ieee, -EReal.coe_mul, -EReal.coe_neg]; norm_num
theorem cEps_pos : ∃ e : ℝ, 0 < e ∧ Ideal.ofBits .f32 0x358637BD#32 = (e : EReal) := by
  refine ⟨_, ?_, by simp [Ideal.ofBits, Ideal.ieee, -EReal.coe_mul]; rfl⟩
  norm_num

/-- A row's mean square plus epsilon is positive. -/
theorem msq_pos (x : Fin 1024 → EReal) :
    0 < Ideal.div (∑ k : Fin 1024, x k * x k) (Ideal.ofBits .f32 0x44800000#32) + Ideal.ofBits .f32 0x358637BD#32 := by
  obtain ⟨e, he, hE⟩ := cEps_pos
  have hs : 0 ≤ ∑ k : Fin 1024, x k * x k := Finset.sum_nonneg fun k _ => by
    rcases le_total 0 (x k) with h | h
    · exact mul_nonneg h h
    · have h' : 0 ≤ -x k := EReal.neg_nonneg.2 h
      have := mul_nonneg h' h'
      rwa [EReal.neg_mul, mul_comm, EReal.neg_mul, neg_neg] at this
  rw [hE, cLen_eq, Ideal.div_coe (by norm_num)]
  have h2 : 0 ≤ (∑ k : Fin 1024, x k * x k) * ((1 / 1024 : ℝ) : EReal) := mul_nonneg hs (by exact_mod_cast (by norm_num : (0 : ℝ) ≤ 1 / 1024))
  calc (0 : EReal) < (e : EReal) := by exact_mod_cast he
    _ = 0 + (e : EReal) := (zero_add _).symm
    _ ≤ _ := add_le_add_left h2 _

/-- Two halves of a number, of either infinity too. -/
theorem halves (B : EReal) : ((-(1 / 2) : ℝ) : EReal) * B + ((-(1 / 2) : ℝ) : EReal) * B = -B := by
  induction B using EReal.rec with
  | bot => rw [EReal.coe_mul_bot_of_neg (by norm_num)]; rfl
  | coe b => norm_cast; ring
  | top => rw [EReal.coe_mul_top_of_neg (by norm_num)]; rfl

/-- The law of one entry, where `q` is a positive real number. -/
theorem norm_law (y h g x S : EReal) (q : ℝ) (hq : 0 < q) :
    y + h * g * Ideal.rsqrt (q : EReal)
        + x * (∑ _k : Fin 1, Ideal.div (S * (((-(1 / 2) : ℝ) : EReal) * Ideal.div (Ideal.rsqrt (q : EReal)) (q : EReal))) ((1024 : ℝ) : EReal))
        + (∑ _k : Fin 1, Ideal.div (S * (((-(1 / 2) : ℝ) : EReal) * Ideal.div (Ideal.rsqrt (q : EReal)) (q : EReal))) ((1024 : ℝ) : EReal)) * x
      = y + (Ideal.rsqrt (q : EReal) * (h * g) - x * (Ideal.rsqrt (q : EReal) * Ideal.rsqrt (q : EReal) * Ideal.rsqrt (q : EReal) * (S * ((1 / 1024 : ℝ) : EReal)))) := by
  have hs : Ideal.rsqrt (q : EReal) = (((Real.sqrt q)⁻¹ : ℝ) : EReal) := by
    rw [Ideal.rsqrt_coe, if_neg (not_lt.2 hq.le), if_neg hq.ne']
  have h3 : (Real.sqrt q)⁻¹ * (1 / q) = (Real.sqrt q)⁻¹ * (Real.sqrt q)⁻¹ * (Real.sqrt q)⁻¹ := by
    have : (Real.sqrt q)⁻¹ * (Real.sqrt q)⁻¹ = 1 / q := by rw [← mul_inv, Real.mul_self_sqrt hq.le, one_div]
    rw [← this]; ring
  rw [hs, Ideal.div_coe hq.ne', Ideal.div_coe (by norm_num), Fin.sum_univ_one, add_assoc, add_assoc,
    ← EReal.coe_mul (Real.sqrt q)⁻¹ (1 / q), h3, EReal.coe_mul, EReal.coe_mul, mul_comm (h * g)]
  generalize (((Real.sqrt q)⁻¹ : ℝ) : EReal) = s
  have e1 : x * (S * (((-(1 / 2) : ℝ) : EReal) * (s * s * s)) * ((1 / 1024 : ℝ) : EReal))
      = ((-(1 / 2) : ℝ) : EReal) * (x * (s * s * s * (S * ((1 / 1024 : ℝ) : EReal)))) := by ac_rfl
  rw [mul_comm _ x, e1, halves, sub_eq_add_neg]

/-- The law of one entry. -/
theorem norm_eq (y h g x S q : EReal) (hq : 0 < q) :
    y + h * g * Ideal.rsqrt q
        + x * (∑ _k : Fin 1, Ideal.div (S * (Ideal.ofBits .f32 0xBF000000#32 * Ideal.div (Ideal.rsqrt q) q)) (Ideal.ofBits .f32 0x44800000#32))
        + (∑ _k : Fin 1, Ideal.div (S * (Ideal.ofBits .f32 0xBF000000#32 * Ideal.div (Ideal.rsqrt q) q)) (Ideal.ofBits .f32 0x44800000#32)) * x
      = y + (Ideal.rsqrt q * (h * g) - x * (Ideal.rsqrt q * Ideal.rsqrt q * Ideal.rsqrt q * (S * Ideal.ofBits .f32 0x3A800000#32))) := by
  rw [cHalf_eq, cLen_eq, cInv_eq]
  induction q using EReal.rec with
  | bot => exact absurd hq (by simp)
  | coe q => exact norm_law y h g x S q (by exact_mod_cast hq)
  | top =>
    have hr : Ideal.rsqrt ⊤ = 0 := rfl
    have hd : Ideal.div 0 ⊤ = 0 := by simp [Ideal.div]
    rw [hr, hd, Ideal.div_coe (by norm_num)]
    simp

open Cert.InputReferenceIdeal Cert.InputReferenceIdeal.Gen Cert.InputReferenceIdeal.Value in
/-- The reference's gradient of the residual stream at an entry. -/
theorem ref_dx (m : (ℓ : Loc nD τ sig) → Buf (Elt Ideal) ℓ) (c : Dev nD)
    (dy x : FVec Ideal S8192x1024 .f32) (gn : FVec Ideal S1x1024 .f32) (dg du : FVec Ideal S8192x2816 .bf16) (wg wu : FVec Ideal S2816x1024 .bf16)
    (a0 : m (c.tc.loc main_arg0) = dy) (a1 : m (c.tc.loc main_arg1) = x) (a2 : m (c.tc.loc main_arg2) = gn) (a3 : m (c.tc.loc main_arg3) = dg)
    (a4 : m (c.tc.loc main_arg4) = du) (a5 : m (c.tc.loc main_arg5) = wg) (a6 : m (c.tc.loc main_arg6) = wu)
    (q : EReal) (h : Fin 1024 → EReal) (R : Fin 8192) (d : Fin 1024)
    (hq : Ideal.div (∑ k : Fin 1024, (x (ix2 R k) : EReal) * x (ix2 R k)) (Ideal.ofBits .f32 0x44800000#32) + Ideal.ofBits .f32 0x358637BD#32 = q)
    (hh : ∀ k, (∑ e : Fin 2816, (du (ix2 R e) : EReal) * wu (ix2 e k)) + (∑ e : Fin 2816, (dg (ix2 R e) : EReal) * wg (ix2 e k)) = h k) :
    (res_main_v45 m c : S8192x1024.Idx → EReal) (ix2 R d)
      = dy (ix2 R d) + h d * gn (ix2 0 d) * Ideal.rsqrt q
        + x (ix2 R d) * (∑ _k : Fin 1, Ideal.div ((∑ k : Fin 1024, x (ix2 R k) * (h k * gn (ix2 0 k))) * (Ideal.ofBits .f32 0xBF000000#32 * Ideal.div (Ideal.rsqrt q) q)) (Ideal.ofBits .f32 0x44800000#32))
        + (∑ _k : Fin 1, Ideal.div ((∑ k : Fin 1024, x (ix2 R k) * (h k * gn (ix2 0 k))) * (Ideal.ofBits .f32 0xBF000000#32 * Ideal.div (Ideal.rsqrt q) q)) (Ideal.ofBits .f32 0x44800000#32)) * x (ix2 R d) := by
  unfold res_main_v45
  rw [a0, a1, a2, a3, a4, a5, a6]
  simp only [← hq, ← hh]
  pointwise

open Cert.InputReferenceIdeal Cert.InputReferenceIdeal.Gen in
/-- The reference's gradient of the norm's weight at an entry. -/
theorem ref_dgn (x : FVec Ideal S8192x1024 .f32) (dg du : FVec Ideal S8192x2816 .bf16) (wg wu : FVec Ideal S2816x1024 .bf16) (d : Fin 1024) :
    (shapeCast S1x1024 (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (addf (Host.dotGeneral dot_S8192x2816_S1024x2816_S8192x1024_1_1_0_0_n_n none (extf .f32 du bitsLt_bf16_f32) (transpose S1024x2816 [1, 0] (extf .f32 wu bitsLt_bf16_f32) transposes_S2816x1024_S1024x2816_1_0)) (Host.dotGeneral dot_S8192x2816_S1024x2816_S8192x1024_1_1_0_0_n_n none (extf .f32 dg bitsLt_bf16_f32) (transpose S1024x2816 [1, 0] (extf .f32 wg bitsLt_bf16_f32) transposes_S2816x1024_S1024x2816_1_0)))) (constant S_ .f32 0x00000000#32) reducesTo_S8192x1024_S1024_d0 h_S_) shapeCasts_S1024_S1x1024 : FVec Ideal S1x1024 .f32) (ix2 (0 : Fin 1) d)
      = ∑ R : Fin 8192, (x (ix2 R d) : EReal) * Ideal.rsqrt (Ideal.div (∑ k : Fin 1024, (x (ix2 R k) : EReal) * x (ix2 R k)) (Ideal.ofBits .f32 0x44800000#32) + Ideal.ofBits .f32 0x358637BD#32)
          * ((∑ e : Fin 2816, (du (ix2 R e) : EReal) * wu (ix2 e d)) + ∑ e : Fin 2816, (dg (ix2 R e) : EReal) * wg (ix2 e d)) := by
  pointwise

theorem algebraic_input : Cert.algebraic_InputIdeal_InputReferenceIdeal
    (hInputIdeal := Cert.InputIdeal.Gen.facts) (hInputReferenceIdeal := Cert.InputReferenceIdeal.Gen.facts) := by
  intro m ρ m' ρ' _ hag
  refine ⟨fun c => (Cert.InputIdeal.Gen.dats m 0 c).arrAt 7 Cert.InputIdeal.cfg0.N, fun c => (Cert.InputIdeal.Gen.dats m 0 c).arrAt 8 Cert.InputIdeal.cfg0.N,
    Cert.InputIdeal.Value.run_blocks m ρ, (θ_run _ _ _).mono (fun r h c => ?_) (Cert.InputReferenceIdeal.Value.run m' ρ')⟩
  obtain ⟨h0, h1, hk⟩ := h c
  obtain ⟨a0, a1, a2, a3, a4, a5, a6⟩ := hag c
  refine ⟨h0.trans ?_, h1.trans ?_, hk⟩
  · funext i
    rw [eta2 i]
    refine (ref_dx m' c _ _ _ _ _ _ _ a0 a1 a2 a3 a4 a5 a6 (Cert.InputIdeal.Hand.msq m c (i 0)) (Cert.InputIdeal.Hand.dh m c (i 0)) (i 0) (i 1) rfl
      (fun k => add_comm _ _)).trans ?_
    refine Eq.trans ?_ (Cert.InputIdeal.Hand.result7 m c (i 0) (i 1)).symm
    refine (norm_eq _ _ _ _ _ _ (msq_pos fun k => Cert.InputIdeal.Hand.xA m c (ix2 (i 0) k))).trans ?_
    unfold Cert.InputIdeal.Hand.dxOf
    have hS : (∑ k : Fin 1024, Cert.InputIdeal.Hand.xA m c (ix2 (i 0) k) * (Cert.InputIdeal.Hand.dh m c (i 0) k * Cert.InputIdeal.Hand.gnA m c (ix2 0 k)))
        = ∑ k : Fin 1024, Cert.InputIdeal.Hand.dh m c (i 0) k * Cert.InputIdeal.Hand.gnA m c (ix2 0 k) * Cert.InputIdeal.Hand.xA m c (ix2 (i 0) k) :=
      Finset.sum_congr rfl fun k _ => mul_comm _ _
    exact congrArg (fun S => Cert.InputIdeal.Hand.dyA m c (ix2 (i 0) (i 1)) + (Ideal.rsqrt (Cert.InputIdeal.Hand.msq m c (i 0)) * (Cert.InputIdeal.Hand.dh m c (i 0) (i 1) * Cert.InputIdeal.Hand.gnA m c (ix2 0 (i 1))) -
      Cert.InputIdeal.Hand.xA m c (ix2 (i 0) (i 1)) * (Ideal.rsqrt (Cert.InputIdeal.Hand.msq m c (i 0)) * Ideal.rsqrt (Cert.InputIdeal.Hand.msq m c (i 0)) * Ideal.rsqrt (Cert.InputIdeal.Hand.msq m c (i 0)) * (S * Cert.InputIdeal.Hand.cInv)))) hS
  · rw [a1, a3, a4, a5, a6]
    funext i
    rw [eta2 i, show i 0 = (0 : Fin 1) from Subsingleton.elim (α := Fin 1) _ _]
    refine (ref_dgn (m ((c.tc : Thread Cert.InputIdeal.nD Cert.InputIdeal.τ).loc Cert.InputIdeal.main_arg1)) (m ((c.tc : Thread Cert.InputIdeal.nD Cert.InputIdeal.τ).loc Cert.InputIdeal.main_arg3)) (m ((c.tc : Thread Cert.InputIdeal.nD Cert.InputIdeal.τ).loc Cert.InputIdeal.main_arg4)) (m ((c.tc : Thread Cert.InputIdeal.nD Cert.InputIdeal.τ).loc Cert.InputIdeal.main_arg5)) (m ((c.tc : Thread Cert.InputIdeal.nD Cert.InputIdeal.τ).loc Cert.InputIdeal.main_arg6)) (i 1)).trans ?_
    refine Eq.trans ?_ (Cert.InputIdeal.Hand.result8 m c (i 1)).symm
    exact Finset.sum_congr rfl fun R _ => (mul_comm _ _).trans (congrArg₂ _ (add_comm _ _) rfl)

end Cert.Proof
-- ==== Proof.LossRun.lean ====
module

public import proofs.«01_k».proof.Proof.Gen.LossIdeal.Frame

@[expose] public section

set_option maxRecDepth 16384

noncomputable section

namespace Cert.LossIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One load and one store, over what a memref is read as -/

/-- The contents `X` with the rectangle `r` replaced by `w`. -/
def putR {s : Shape} {α : Type} (r : Rect s) (X : s.Idx → α) (w : r.shape.Idx → α) : s.Idx → α :=
  fun y => match preimage? r.emb y with
    | some x => w x
    | none => X y

theorem putR_hit {s : Shape} {α : Type} (r : Rect s) (X : s.Idx → α) (w : r.shape.Idx → α) (x : r.shape.Idx) :
    putR r X w (r.emb x) = w x := by
  unfold putR; rw [preimage?_emb]

theorem putR_miss {s : Shape} {α : Type} (r : Rect s) (X : s.Idx → α) (w : r.shape.Idx → α) (y : s.Idx)
    (h : ∀ x, r.emb x ≠ y) : putR r X w y = X y := by
  unfold putR; rw [preimage?_eq_none h]

theorem read_put {s : Shape} {e : EltTy} {cs : CoreSpace} (m : Memref sig .tc cs s e) (r : Rect s) (f : m.view.ty.Contents (Elt F)) (w : r.shape.Idx → Elt F e) :
    m.view.read (Elt F) (m.view.writes (Elt F) f [⟨r, w⟩]) = putR r (m.view.read (Elt F) f) w := by
  funext y
  by_cases h : ∃ x, r.emb x = y
  · obtain ⟨x, rfl⟩ := h
    rw [putR_hit]; exact View.read_writes_cons_emb _ _ _ _ _ _
  · rw [putR_miss _ _ _ _ (fun x hx => h ⟨x, hx⟩)]
    refine View.read_writes_apply_of_forall_not_mem _ _ _ _ ?_
    intro p hp
    rw [List.mem_singleton.1 hp]
    intro hm
    rw [← Rect.map_emb_univ] at hm
    obtain ⟨x, -, hx⟩ := Finset.mem_map.1 hm
    exact h ⟨x, hx⟩

variable (c : Dev nD)

abbrev runs (p : Prog (TpuEff nD τ sig (Elt F) Λ₀ .tc) PUnit) (Q : PUnit → sProp 𝕄) : sProp 𝕄 :=
  wp frame (wpE (defs₀ (F := F)) Variants.none (c : Thread nD τ) none) Set.univ p Q

theorem run_load (Q : PUnit → sProp 𝕄) {s : Shape} {e : EltTy} {cs : CoreSpace} (m : Memref sig .tc cs s e) (r : LoadRect s) (hl : m.view.LoadsAt r)
    (q : PosShare TreeShare) (X : s.Idx → Elt F e) (k : (r.shape.Idx → Elt F e) → Prog (TpuEff nD τ sig (Elt F) Λ₀ .tc) PUnit) :
    (owns (c : Thread nD τ) m q X : sProp 𝕄) ⊢ iprop((owns (c : Thread nD τ) m q X -∗ runs c (k fun x => X (r.idx x)) Q) -∗ runs c (.op (.load m r hl) k) Q) := by
  iintro H Hk
  unfold owns
  icases H with ⟨%f, %hf, H⟩
  iapply (wp_load (defs := defs₀ (F := F)) Variants.none (c : Thread nD τ) none Set.univ (m := m) (hl := hl) (k := k) (Q := _) (q := q) (f := f) (View.setOn_subset_set _ _)) $$ H
  iintro H
  have hr : m.view.readAt (Elt F) r f = fun x => X (r.idx x) := by
    funext x; rw [View.readAt_apply, hf]
  rw [hr]
  iapply Hk
  iexists f
  isplitr
  · ipureintro; exact hf
  iexact H

theorem run_store (Q : PUnit → sProp 𝕄) {s : Shape} {e : EltTy} {cs : CoreSpace} (m : Memref sig .tc cs s e) (r : Rect s) (w : r.shape.Idx → Elt F e)
    (hx : (m.access r).Stores Finset.univ) (hm : Finset.univ = Finset.univ ∨ ∀ a, r.stride a = 1)
    (X : s.Idx → Elt F e) (k : PUnit → Prog (TpuEff nD τ sig (Elt F) Λ₀ .tc) PUnit) :
    (owns (c : Thread nD τ) m fullShare X : sProp 𝕄) ⊢ iprop((owns (c : Thread nD τ) m fullShare (putR r X w) -∗ runs c (k ⟨⟩) Q) -∗ runs c (.op (.store m r w Finset.univ hx hm) k) Q) := by
  iintro H Hk
  unfold owns
  icases H with ⟨%f, %hf, H⟩
  iapply (wp_store_writes₀ (defs := defs₀ (F := F)) Variants.none (c : Thread nD τ) none Set.univ (m := m) (r := r) (w := w) (hx := hx) (hm := hm) (k := k) (Q := _) (f := f) (View.set_slice_subset _ _)) $$ H
  iintro H
  iapply Hk
  iexists _
  isplitr
  swap
  · iexact H
  ipureintro
  rw [read_put, hf]

theorem putR_all {s : Shape} {α : Type} (off : Fin s.rank → ℕ) (inb) (h0 : ∀ a, off a = 0) (X : s.Idx → α) (w : s.Idx → α) :
    putR (Rect.unit (s := s) off s.size inb) X w = w := by
  funext y
  have he : (Rect.unit (s := s) off s.size inb).emb y = y := by
    funext a
    apply Fin.ext
    show off a + 1 * (y a).val = (y a).val
    rw [h0 a]; omega
  calc putR (Rect.unit (s := s) off s.size inb) X w y
      = putR (Rect.unit (s := s) off s.size inb) X w ((Rect.unit (s := s) off s.size inb).emb y) := by rw [he]
    _ = w y := putR_hit (Rect.unit (s := s) off s.size inb) X w y

theorem take_all {s : Shape} {α : Type} (off : Fin s.rank → ℕ) (inb) (h0 : ∀ a, off a = 0) (X : s.Idx → α) :
    (fun x => X ((Rect.unit (s := s) off s.size inb).toLoadRect.idx x)) = X := by
  funext y
  congr 1
  funext a
  apply Fin.ext
  show off a + 1 * (y a).val = (y a).val
  rw [h0 a]; omega

theorem zero2 : ∀ a : Fin 2, (![0, 0] : Fin 2 → ℕ) a = 0 := by decide

/-! ## What a point computes -/

/-- The normalized block, rounded. -/
def hOf (v37 : Vec F S512x1024 .f32) (v48 : Vec F S1x1024 .f32) : FVec F S512x1024 .bf16 :=
  have v38 : FVec F S512x1024 .f32 := mulf v37 v37
  have v39 : FVec F S512 .f32 := multiReduction .add [1] S512 v38 0x00000000#32 reduces_S512x1024_S512 (.inl rfl) rfl
  have v40 : FVec F S512x1 .f32 := shapeCast S512x1 v39 shapeCasts_S512_S512x1
  have cst_21 : F .f32 := Scalar.ofBits .f32 0x44800000#32
  have v41 : FVec F S512x1 .f32 := broadcast S512x1 cst_21
  have v42 : FVec F S512x1 .f32 := divf v40 v41
  have cst_22 : F .f32 := Scalar.ofBits .f32 0x358637BD#32
  have v43 : FVec F S512x1 .f32 := broadcast S512x1 cst_22
  have v44 : FVec F S512x1 .f32 := addf v42 v43
  have v45 : FVec F S512x1 .f32 := rsqrt v44
  have v46 : FVec F S512x1024 .f32 := broadcastTo S512x1024 v45 broadcasts_S512x1_S512x1024
  have v47 : FVec F S512x1024 .f32 := mulf v37 v46
  have v49 : FVec F S512x1024 .f32 := broadcastTo S512x1024 v48 broadcasts_S1x1024_S512x1024
  have v50 : FVec F S512x1024 .f32 := mulf v47 v49
  truncf .bf16 v50 bitsLt_bf16_f32

/-- The same as the scratch keeps it. -/
def hkOf (X2 : Vec F S512x1024 .f32) (X3 : Vec F S1x1024 .f32) : FVec F S512x1024 .bf16 :=
  shapeCast S512x1024 (hOf X2 X3) shapeCasts_S512x1024_S512x1024

/-- A point's rows of a weight matrix. -/
def rowsOf (i : grid0.Coords) (X : Vec F S2816x1024 .bf16) : Vec F S1408x1024 .bf16 :=
  fun x => X ((Rect.unit (s := S2816x1024) (k0_off1 i) S1408x1024.size (k0_off1_inb i)).toLoadRect.idx x)

/-- A product of the normalized block with a point's rows. -/
def mmOf (v3 : Vec F S512x1024 .bf16) (v7 : Vec F S1408x1024 .bf16) : FVec F S512x1408 .f32 :=
  have cst : FVec F S512x1408 .f32 := constant S512x1408 .f32 0x00000000#32
  matmul dot_S512x1024_S1408x1024_S512x1408_1_1_0_0_n_n none v3 v7 cst

/-- The gate. -/
def gateOf (v8 : FVec F S512x1408 .f32) : FVec F S512x1408 .f32 := mulf v8 (logistic v8)

/-- The gate's derivative against the other factor, rounded. -/
def gpOf (v8 v11 : FVec F S512x1408 .f32) : FVec F S512x1408 .bf16 :=
  have v12 : FVec F S512x1408 .f32 := logistic v8
  have cst_5 : F .f32 := Scalar.ofBits .f32 0x3F800000#32
  have v14 : FVec F S512x1408 .f32 := broadcast S512x1408 cst_5
  have v15 : FVec F S512x1408 .f32 := subf v14 v12
  have v16 : FVec F S512x1408 .f32 := mulf v8 v15
  have cst_6 : F .f32 := Scalar.ofBits .f32 0x3F800000#32
  have v17 : FVec F S512x1408 .f32 := broadcast S512x1408 cst_6
  have v18 : FVec F S512x1408 .f32 := addf v17 v16
  have v19 : FVec F S512x1408 .f32 := mulf v12 v18
  have v20 : FVec F S512x1408 .f32 := mulf v11 v19
  truncf .bf16 v20 bitsLt_bf16_f32

/-- The gate, rounded. -/
def upOf (v8 : FVec F S512x1408 .f32) : FVec F S512x1408 .bf16 := truncf .bf16 (gateOf v8) bitsLt_bf16_f32

/-- The gated product, rounded. -/
def hidOf (v8 v11 : FVec F S512x1408 .f32) : FVec F S512x1408 .bf16 := truncf .bf16 (mulf (gateOf v8) v11) bitsLt_bf16_f32

/-- The same as the scratch keeps it. -/
def hidkOf (v26 : FVec F S512x1408 .bf16) : FVec F S512x1408 .bf16 := shapeCast S512x1408 v26 shapeCasts_S512x1408_S512x1408

abbrev leftR : Rect S512x2816 := Rect.unit (s := S512x2816) ![0, 0] S512x1408.size inb_S512x2816_S512x1408_0_0
abbrev rightR : Rect S512x2816 := Rect.unit (s := S512x2816) ![0, 1408] S512x1408.size inb_S512x2816_S512x1408_0_1408

/-- The block's output. -/
def yOf (v37 : Vec F S512x1024 .f32) (v38 : Vec F S512x2816 .bf16) (v39 : Vec F S2816x1024 .bf16) : FVec F S512x1024 .f32 :=
  have cst_24 : FVec F S512x1024 .f32 := constant S512x1024 .f32 0x00000000#32
  have v40 : FVec F S512x1024 .f32 := matmul dot_S512x2816_S2816x1024_S512x1024_1_0_0_1_n_n none v38 v39 cst_24
  have cst_25 : F .f32 := Scalar.ofBits .f32 0x3F000000#32
  have v41 : FVec F S512x1024 .f32 := broadcast S512x1024 cst_25
  have v42 : FVec F S512x1024 .f32 := mulf v41 v40
  addf v37 v42

/-- Each row's reciprocal root mean square. -/
def rOf (v43 : FVec F S512x1024 .f32) : FVec F S512x1 .f32 :=
  have v45 : FVec F S512x1024 .f32 := mulf v43 v43
  have v46 : FVec F S512 .f32 := multiReduction .add [1] S512 v45 0x00000000#32 reduces_S512x1024_S512 (.inl rfl) rfl
  have v47 : FVec F S512x1 .f32 := shapeCast S512x1 v46 shapeCasts_S512_S512x1
  have cst_29 : F .f32 := Scalar.ofBits .f32 0x44800000#32
  have v48 : FVec F S512x1 .f32 := broadcast S512x1 cst_29
  have v49 : FVec F S512x1 .f32 := divf v47 v48
  have cst_30 : F .f32 := Scalar.ofBits .f32 0x358637BD#32
  have v50 : FVec F S512x1 .f32 := broadcast S512x1 cst_30
  have v51 : FVec F S512x1 .f32 := addf v49 v50
  rsqrt v51

/-- The difference from the target. -/
def dmOf (v43 : FVec F S512x1024 .f32) (v44 : Vec F S1x1024 .f32) (v58 : Vec F S512x1024 .f32) : FVec F S512x1024 .f32 :=
  have v54 : FVec F S512x1024 .f32 := broadcastTo S512x1024 (rOf v43) broadcasts_S512x1_S512x1024
  have v55 : FVec F S512x1024 .f32 := mulf v43 v54
  have v56 : FVec F S512x1024 .f32 := broadcastTo S512x1024 v44 broadcasts_S1x1024_S512x1024
  have v57 : FVec F S512x1024 .f32 := mulf v55 v56
  subf v57 v58

/-- The gradient at the normalized output. -/
def duOf (v43 : FVec F S512x1024 .f32) (v44 : Vec F S1x1024 .f32) (v58 : Vec F S512x1024 .f32) : FVec F S512x1024 .f32 :=
  have cst_34 : F .f32 := Scalar.ofBits .f32 0x3A800000#32
  have v60 : FVec F S512x1024 .f32 := broadcast S512x1024 cst_34
  mulf (dmOf v43 v44 v58) v60

/-- The gradient at the output. -/
def dyOf (v43 : FVec F S512x1024 .f32) (v44 : Vec F S1x1024 .f32) (v58 : Vec F S512x1024 .f32) : FVec F S512x1024 .f32 :=
  have v52 : FVec F S512x1 .f32 := rOf v43
  have v62 : FVec F S512x1024 .f32 := broadcastTo S512x1024 v44 broadcasts_S1x1024_S512x1024
  have v63 : FVec F S512x1024 .f32 := mulf (duOf v43 v44 v58) v62
  have v64 : FVec F S512x1024 .f32 := mulf v63 v43
  have v65 : FVec F S512 .f32 := multiReduction .add [1] S512 v64 0x00000000#32 reduces_S512x1024_S512 (.inl rfl) rfl
  have v66 : FVec F S512x1 .f32 := shapeCast S512x1 v65 shapeCasts_S512_S512x1
  have cst_36 : F .f32 := Scalar.ofBits .f32 0x3A800000#32
  have v67 : FVec F S512x1 .f32 := broadcast S512x1 cst_36
  have v68 : FVec F S512x1 .f32 := mulf v66 v67
  have v69 : FVec F S512x1024 .f32 := broadcastTo S512x1024 v52 broadcasts_S512x1_S512x1024
  have v70 : FVec F S512x1024 .f32 := mulf v69 v63
  have v71 : FVec F S512x1 .f32 := mulf v52 v52
  have v72 : FVec F S512x1 .f32 := mulf v71 v52
  have v73 : FVec F S512x1 .f32 := mulf v72 v68
  have v74 : FVec F S512x1024 .f32 := broadcastTo S512x1024 v73 broadcasts_S512x1_S512x1024
  have v75 : FVec F S512x1024 .f32 := mulf v43 v74
  subf v70 v75

/-- Half of it, rounded. -/
def halfOf (v76 : FVec F S512x1024 .f32) : FVec F S512x1024 .bf16 :=
  have cst_40 : F .f32 := Scalar.ofBits .f32 0x3F000000#32
  have v83 : FVec F S512x1024 .f32 := broadcast S512x1024 cst_40
  have v84 : FVec F S512x1024 .f32 := mulf v83 v76
  truncf .bf16 v84 bitsLt_bf16_f32

/-- The block's part of the scale's gradient. -/
def dgOf (v43 : FVec F S512x1024 .f32) (v44 : Vec F S1x1024 .f32) (v58 : Vec F S512x1024 .f32) : FVec F S1x1024 .f32 :=
  have v77 : FVec F S512x1024 .f32 := broadcastTo S512x1024 (rOf v43) broadcasts_S512x1_S512x1024
  have v78 : FVec F S512x1024 .f32 := mulf v43 v77
  have v79 : FVec F S512x1024 .f32 := mulf (duOf v43 v44 v58) v78
  have v80 : FVec F S1024 .f32 := multiReduction .add [0] S1024 v79 0x00000000#32 reduces_S512x1024_S1024 (.inl rfl) rfl
  shapeCast S1x1024 v80 shapeCasts_S1024_S1x1024

/-- The block's part of the squared differences. -/
def sqOf (v43 : FVec F S512x1024 .f32) (v44 : Vec F S1x1024 .f32) (v58 : Vec F S512x1024 .f32) : FVec F S1x1024 .f32 :=
  have v92 : FVec F S512x1024 .f32 := mulf (dmOf v43 v44 v58) (dmOf v43 v44 v58)
  have v93 : FVec F S1024 .f32 := multiReduction .add [0] S1024 v92 0x00000000#32 reduces_S512x1024_S1024 (.inl rfl) rfl
  shapeCast S1x1024 v93 shapeCasts_S1024_S1x1024

/-- A running sum, one block more. -/
def addOf (a b : Vec F S1x1024 .f32) : FVec F S1x1024 .f32 := addf (shapeCast S1x1024 a shapeCasts_S1x1024_S1x1024) b

/-! ## The body over its conditions -/

/-- The word the second half of the body branches on. -/
def k0_word (i : grid0.Coords) : BitVec 32 := Scalar.extui (Scalar.cmpi .eq (BitVec.ofNat 32 (i 1).val) 1#32)

def partB1 (b1 : BitVec 1) (w : BitVec 32) (b4 b5 b6 b7 b8 : BitVec 1) (i : grid0.Coords) (arg2 : Memref sig .tc .vmem S512x1024 .f32) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1408 .bf16) (harg14 : arg14.IsWhole) (arg15 : Memref sig .tc .vmem S512x1408 .bf16) (harg15 : arg15.IsWhole) (arg16 : Memref sig .tc .vmem S512x1408 .bf16) (harg16 : arg16.IsWhole) (arg17 : Memref sig .tc .vmem S512x1024 .bf16) (harg17 : arg17.IsWhole) (arg18 : Memref sig .tc .vmem S512x2816 .bf16) (harg18 : arg18.IsWhole) (arg0 : BitVec 32) :
    Prog (TpuEff nD τ sig (Elt F) Λ₀ .tc) (Σ' (v43 : FVec F S512x1024 .f32) (v53 : BitVec 1) (v59 : FVec F S512x1024 .f32) (v61 : FVec F S512x1024 .f32) (v76 : FVec F S512x1024 .f32), FVec F S512x1024 .f32) := do
  let c0_18 : Index := 0#32
  let c0_19 : Index := 0#32
  let v37 : Vec F S512x1024 .f32 ← Prog.lift (.load arg2 (Rect.unit (s := S512x1024) ![0, 0] S512x1024.size inb_S512x1024_S512x1024_0_0).toLoadRect (View.loadsAt_vmem h_S512x1024))
  let c0_20 : Index := 0#32
  let c0_21 : Index := 0#32
  let v38 : Vec F S512x2816 .bf16 ← Prog.lift (.load arg18 (Rect.unit (s := S512x2816) ![0, 0] S512x2816.size inb_S512x2816_S512x2816_0_0).toLoadRect (View.loadsAt_vmem h_S512x2816))
  let c0_22 : Index := 0#32
  let c0_23 : Index := 0#32
  let v39 : Vec F S2816x1024 .bf16 ← Prog.lift (.load arg6 (Rect.unit (s := S2816x1024) ![0, 0] S2816x1024.size inb_S2816x1024_S2816x1024_0_0).toLoadRect (View.loadsAt_vmem h_S2816x1024))
  have cst_24 : FVec F S512x1024 .f32 := constant S512x1024 .f32 0x00000000#32
  have v40 : FVec F S512x1024 .f32 := matmul dot_S512x2816_S2816x1024_S512x1024_1_0_0_1_n_n none v38 v39 cst_24
  have cst_25 : F .f32 := Scalar.ofBits .f32 0x3F000000#32
  have v41 : FVec F S512x1024 .f32 := broadcast S512x1024 cst_25
  have v42 : FVec F S512x1024 .f32 := mulf v41 v40
  have v43 : FVec F S512x1024 .f32 := addf v37 v42
  let c0_26 : Index := 0#32
  let c0_27 : Index := 0#32
  let v44 : Vec F S1x1024 .f32 ← Prog.lift (.load arg7 (Rect.unit (s := S1x1024) ![0, 0] S1x1024.size inb_S1x1024_S1x1024_0_0).toLoadRect (View.loadsAt_vmem h_S1x1024))
  have v45 : FVec F S512x1024 .f32 := mulf v43 v43
  have cst_28 : FVec F S512 .f32 := constant S512 .f32 0x00000000#32
  have v46 : FVec F S512 .f32 := multiReduction .add [1] S512 v45 0x00000000#32 reduces_S512x1024_S512 (.inl rfl) rfl
  have v47 : FVec F S512x1 .f32 := shapeCast S512x1 v46 shapeCasts_S512_S512x1
  have cst_29 : F .f32 := Scalar.ofBits .f32 0x44800000#32
  have v48 : FVec F S512x1 .f32 := broadcast S512x1 cst_29
  have v49 : FVec F S512x1 .f32 := divf v47 v48
  have cst_30 : F .f32 := Scalar.ofBits .f32 0x358637BD#32
  have v50 : FVec F S512x1 .f32 := broadcast S512x1 cst_30
  have v51 : FVec F S512x1 .f32 := addf v49 v50
  have v52 : FVec F S512x1 .f32 := rsqrt v51
  let c0_i32_31 : BitVec 32 := 0#32
  let v53 : BitVec 1 := Scalar.cmpi .eq arg0 c0_i32_31
  have v54 : FVec F S512x1024 .f32 := broadcastTo S512x1024 v52 broadcasts_S512x1_S512x1024
  have v55 : FVec F S512x1024 .f32 := mulf v43 v54
  have v56 : FVec F S512x1024 .f32 := broadcastTo S512x1024 v44 broadcasts_S1x1024_S512x1024
  have v57 : FVec F S512x1024 .f32 := mulf v55 v56
  let c0_32 : Index := 0#32
  let c0_33 : Index := 0#32
  let v58 : Vec F S512x1024 .f32 ← Prog.lift (.load arg8 (Rect.unit (s := S512x1024) ![0, 0] S512x1024.size inb_S512x1024_S512x1024_0_0).toLoadRect (View.loadsAt_vmem h_S512x1024))
  have v59 : FVec F S512x1024 .f32 := subf v57 v58
  have cst_34 : F .f32 := Scalar.ofBits .f32 0x3A800000#32
  have v60 : FVec F S512x1024 .f32 := broadcast S512x1024 cst_34
  have v61 : FVec F S512x1024 .f32 := mulf v59 v60
  have v62 : FVec F S512x1024 .f32 := broadcastTo S512x1024 v44 broadcasts_S1x1024_S512x1024
  have v63 : FVec F S512x1024 .f32 := mulf v61 v62
  have v64 : FVec F S512x1024 .f32 := mulf v63 v43
  have cst_35 : FVec F S512 .f32 := constant S512 .f32 0x00000000#32
  have v65 : FVec F S512 .f32 := multiReduction .add [1] S512 v64 0x00000000#32 reduces_S512x1024_S512 (.inl rfl) rfl
  have v66 : FVec F S512x1 .f32 := shapeCast S512x1 v65 shapeCasts_S512_S512x1
  have cst_36 : F .f32 := Scalar.ofBits .f32 0x3A800000#32
  have v67 : FVec F S512x1 .f32 := broadcast S512x1 cst_36
  have v68 : FVec F S512x1 .f32 := mulf v66 v67
  have v69 : FVec F S512x1024 .f32 := broadcastTo S512x1024 v52 broadcasts_S512x1_S512x1024
  have v70 : FVec F S512x1024 .f32 := mulf v69 v63
  have v71 : FVec F S512x1 .f32 := mulf v52 v52
  have v72 : FVec F S512x1 .f32 := mulf v71 v52
  have v73 : FVec F S512x1 .f32 := mulf v72 v68
  have v74 : FVec F S512x1024 .f32 := broadcastTo S512x1024 v73 broadcasts_S512x1_S512x1024
  have v75 : FVec F S512x1024 .f32 := mulf v43 v74
  have v76 : FVec F S512x1024 .f32 := subf v70 v75
  have v77 : FVec F S512x1024 .f32 := broadcastTo S512x1024 v52 broadcasts_S512x1_S512x1024
  pure ⟨v43, v53, v59, v61, v76, v77⟩

def partB2 (b1 : BitVec 1) (w : BitVec 32) (b4 b5 b6 b7 b8 : BitVec 1) (i : grid0.Coords) (arg2 : Memref sig .tc .vmem S512x1024 .f32) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1408 .bf16) (harg14 : arg14.IsWhole) (arg15 : Memref sig .tc .vmem S512x1408 .bf16) (harg15 : arg15.IsWhole) (arg16 : Memref sig .tc .vmem S512x1408 .bf16) (harg16 : arg16.IsWhole) (arg17 : Memref sig .tc .vmem S512x1024 .bf16) (harg17 : arg17.IsWhole) (arg18 : Memref sig .tc .vmem S512x2816 .bf16) (harg18 : arg18.IsWhole) :
    Prog (TpuEff nD τ sig (Elt F) Λ₀ .tc) (Σ' (arg0 : BitVec 32) (arg1 : BitVec 32) (v26 : FVec F S512x1408 .bf16), BitVec 32) := do
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  if k0_h1 : b1 = 1#1 then do
    let c0_18 : Index := 0#32
    let c0_19 : Index := 0#32
    let v37 : Vec F S512x1024 .f32 ← Prog.lift (.load arg2 (Rect.unit (s := S512x1024) ![0, 0] S512x1024.size inb_S512x1024_S512x1024_0_0).toLoadRect (View.loadsAt_vmem h_S512x1024))
    have v38 : FVec F S512x1024 .f32 := mulf v37 v37
    have cst_20 : FVec F S512 .f32 := constant S512 .f32 0x00000000#32
    have v39 : FVec F S512 .f32 := multiReduction .add [1] S512 v38 0x00000000#32 reduces_S512x1024_S512 (.inl rfl) rfl
    have v40 : FVec F S512x1 .f32 := shapeCast S512x1 v39 shapeCasts_S512_S512x1
    have cst_21 : F .f32 := Scalar.ofBits .f32 0x44800000#32
    have v41 : FVec F S512x1 .f32 := broadcast S512x1 cst_21
    have v42 : FVec F S512x1 .f32 := divf v40 v41
    have cst_22 : F .f32 := Scalar.ofBits .f32 0x358637BD#32
    have v43 : FVec F S512x1 .f32 := broadcast S512x1 cst_22
    have v44 : FVec F S512x1 .f32 := addf v42 v43
    have v45 : FVec F S512x1 .f32 := rsqrt v44
    have v46 : FVec F S512x1024 .f32 := broadcastTo S512x1024 v45 broadcasts_S512x1_S512x1024
    have v47 : FVec F S512x1024 .f32 := mulf v37 v46
    let c0_23 : Index := 0#32
    let c0_24 : Index := 0#32
    let v48 : Vec F S1x1024 .f32 ← Prog.lift (.load arg3 (Rect.unit (s := S1x1024) ![0, 0] S1x1024.size inb_S1x1024_S1x1024_0_0).toLoadRect (View.loadsAt_vmem h_S1x1024))
    have v49 : FVec F S512x1024 .f32 := broadcastTo S512x1024 v48 broadcasts_S1x1024_S512x1024
    have v50 : FVec F S512x1024 .f32 := mulf v47 v49
    have v51 : FVec F S512x1024 .bf16 := truncf .bf16 v50 bitsLt_bf16_f32
    let c0_25 : Index := 0#32
    let c0_26 : Index := 0#32
    let v52 : Vec F S512x1024 .bf16 ← Prog.lift (.load arg17 (Rect.unit (s := S512x1024) ![0, 0] S512x1024.size inb_S512x1024_S512x1024_0_0).toLoadRect (View.loadsAt_vmem h_S512x1024))
    have v53 : FVec F S512x1024 .bf16 := shapeCast S512x1024 v52 shapeCasts_S512x1024_S512x1024
    have v54 : FVec F S512x1024 .bf16 := shapeCast S512x1024 v51 shapeCasts_S512x1024_S512x1024
    Prog.lift (.store arg17 (Rect.unit (s := S512x1024) ![0, 0] S512x1024.size inb_S512x1024_S512x1024_0_0) v54 Finset.univ (View.stores_vmem h_S512x1024 (harg17.storeExact_slice rfl _ packedbf16_S512x1024_S512x1024_0_0) (fun _ => rfl)) (.inl rfl))
    let c0_27 : Index := 0#32
    let c0_28 : Index := 0#32
    let v55 : Vec F S512x1024 .bf16 ← Prog.lift (.load arg13 (Rect.unit (s := S512x1024) ![0, 0] S512x1024.size inb_S512x1024_S512x1024_0_0).toLoadRect (View.loadsAt_vmem h_S512x1024))
    Prog.lift (.store arg13 (Rect.unit (s := S512x1024) ![0, 0] S512x1024.size inb_S512x1024_S512x1024_0_0) v51 Finset.univ (View.stores_vmem h_S512x1024 (harg13.storeExact_slice rfl _ packedbf16_S512x1024_S512x1024_0_0) (fun _ => rfl)) (.inl rfl))
    pure ⟨⟩
  else do
    pure ⟨⟩
  let c0 : Index := 0#32
  let c0_1 : Index := 0#32
  let v3 : Vec F S512x1024 .bf16 ← Prog.lift (.load arg17 (Rect.unit (s := S512x1024) ![0, 0] S512x1024.size inb_S512x1024_S512x1024_0_0).toLoadRect (View.loadsAt_vmem h_S512x1024))
  let c1408_i32 : BitVec 32 := 1408#32
  let v4 : BitVec 32 := Scalar.muli arg1 c1408_i32
  let v5 : BitVec 32 := v4
  let v6 : Index := Scalar.indexCast v5
  let c0_2 : Index := 0#32
  let v7 : Vec F S1408x1024 .bf16 ← Prog.lift (.load arg4 (Rect.unit (s := S2816x1024) (k0_off1 i) S1408x1024.size (k0_off1_inb i)).toLoadRect (View.loadsAt_vmem h_S1408x1024))
  have cst : FVec F S512x1408 .f32 := constant S512x1408 .f32 0x00000000#32
  have v8 : FVec F S512x1408 .f32 := matmul dot_S512x1024_S1408x1024_S512x1408_1_1_0_0_n_n none v3 v7 cst
  let v9 : Index := Scalar.indexCast v5
  let c0_3 : Index := 0#32
  let v10 : Vec F S1408x1024 .bf16 ← Prog.lift (.load arg5 (Rect.unit (s := S2816x1024) (k0_off1 i) S1408x1024.size (k0_off1_inb i)).toLoadRect (View.loadsAt_vmem h_S1408x1024))
  have cst_4 : FVec F S512x1408 .f32 := constant S512x1408 .f32 0x00000000#32
  have v11 : FVec F S512x1408 .f32 := matmul dot_S512x1024_S1408x1024_S512x1408_1_1_0_0_n_n none v3 v10 cst_4
  have v12 : FVec F S512x1408 .f32 := logistic v8
  have v13 : FVec F S512x1408 .f32 := mulf v8 v12
  have cst_5 : F .f32 := Scalar.ofBits .f32 0x3F800000#32
  have v14 : FVec F S512x1408 .f32 := broadcast S512x1408 cst_5
  have v15 : FVec F S512x1408 .f32 := subf v14 v12
  have v16 : FVec F S512x1408 .f32 := mulf v8 v15
  have cst_6 : F .f32 := Scalar.ofBits .f32 0x3F800000#32
  have v17 : FVec F S512x1408 .f32 := broadcast S512x1408 cst_6
  have v18 : FVec F S512x1408 .f32 := addf v17 v16
  have v19 : FVec F S512x1408 .f32 := mulf v12 v18
  have v20 : FVec F S512x1408 .f32 := mulf v11 v19
  have v21 : FVec F S512x1408 .bf16 := truncf .bf16 v20 bitsLt_bf16_f32
  let c0_7 : Index := 0#32
  let c0_8 : Index := 0#32
  let v22 : Vec F S512x1408 .bf16 ← Prog.lift (.load arg14 (Rect.unit (s := S512x1408) ![0, 0] S512x1408.size inb_S512x1408_S512x1408_0_0).toLoadRect (View.loadsAt_vmem h_S512x1408))
  Prog.lift (.store arg14 (Rect.unit (s := S512x1408) ![0, 0] S512x1408.size inb_S512x1408_S512x1408_0_0) v21 Finset.univ (View.stores_vmem h_S512x1408 (harg14.storeExact_slice rfl _ packedbf16_S512x1408_S512x1408_0_0) (fun _ => rfl)) (.inl rfl))
  have v23 : FVec F S512x1408 .bf16 := truncf .bf16 v13 bitsLt_bf16_f32
  let c0_9 : Index := 0#32
  let c0_10 : Index := 0#32
  let v24 : Vec F S512x1408 .bf16 ← Prog.lift (.load arg15 (Rect.unit (s := S512x1408) ![0, 0] S512x1408.size inb_S512x1408_S512x1408_0_0).toLoadRect (View.loadsAt_vmem h_S512x1408))
  Prog.lift (.store arg15 (Rect.unit (s := S512x1408) ![0, 0] S512x1408.size inb_S512x1408_S512x1408_0_0) v23 Finset.univ (View.stores_vmem h_S512x1408 (harg15.storeExact_slice rfl _ packedbf16_S512x1408_S512x1408_0_0) (fun _ => rfl)) (.inl rfl))
  have v25 : FVec F S512x1408 .f32 := mulf v13 v11
  have v26 : FVec F S512x1408 .bf16 := truncf .bf16 v25 bitsLt_bf16_f32
  let c0_11 : Index := 0#32
  let c0_12 : Index := 0#32
  let v27 : Vec F S512x1408 .bf16 ← Prog.lift (.load arg16 (Rect.unit (s := S512x1408) ![0, 0] S512x1408.size inb_S512x1408_S512x1408_0_0).toLoadRect (View.loadsAt_vmem h_S512x1408))
  Prog.lift (.store arg16 (Rect.unit (s := S512x1408) ![0, 0] S512x1408.size inb_S512x1408_S512x1408_0_0) v26 Finset.univ (View.stores_vmem h_S512x1408 (harg16.storeExact_slice rfl _ packedbf16_S512x1408_S512x1408_0_0) (fun _ => rfl)) (.inl rfl))
  let c0_i32_13 : BitVec 32 := 0#32
  let v28 : BitVec 1 := Scalar.cmpi .eq arg1 c0_i32_13
  let v29 : BitVec 32 := Scalar.extui v28
  let c0_i32_14 : BitVec 32 := 0#32
  let v30 : BitVec 1 := Scalar.cmpi .ne v29 c0_i32_14
  if k0_h2 : b1 = 1#1 then do
    let c0_18 : Index := 0#32
    let c0_19 : Index := 0#32
    let v37 : Vec F S512x1408 .bf16 ← Prog.lift (.load arg18 (Rect.unit (s := S512x2816) ![0, 0] S512x1408.size inb_S512x2816_S512x1408_0_0).toLoadRect (View.loadsAt_vmem h_S512x1408))
    have v38 : FVec F S512x1408 .bf16 := shapeCast S512x1408 v37 shapeCasts_S512x1408_S512x1408
    have v39 : FVec F S512x1408 .bf16 := shapeCast S512x1408 v26 shapeCasts_S512x1408_S512x1408
    Prog.lift (.store arg18 (Rect.unit (s := S512x2816) ![0, 0] S512x1408.size inb_S512x2816_S512x1408_0_0) v39 Finset.univ (View.stores_vmem h_S512x1408 (harg18.storeExact_slice rfl _ packedbf16_S512x2816_S512x1408_0_0) (fun _ => rfl)) (.inl rfl))
    pure ⟨⟩
  else do
    pure ⟨⟩
  let c1_i32 : BitVec 32 := 1#32
  let v31 : BitVec 1 := Scalar.cmpi .eq arg1 c1_i32
  let v32 : BitVec 32 := Scalar.extui v31
  pure ⟨arg0, arg1, v26, w⟩

def bodyB (b1 : BitVec 1) (w : BitVec 32) (b4 b5 b6 b7 b8 : BitVec 1) (i : grid0.Coords) (arg2 : Memref sig .tc .vmem S512x1024 .f32) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1408 .bf16) (harg14 : arg14.IsWhole) (arg15 : Memref sig .tc .vmem S512x1408 .bf16) (harg15 : arg15.IsWhole) (arg16 : Memref sig .tc .vmem S512x1408 .bf16) (harg16 : arg16.IsWhole) (arg17 : Memref sig .tc .vmem S512x1024 .bf16) (harg17 : arg17.IsWhole) (arg18 : Memref sig .tc .vmem S512x2816 .bf16) (harg18 : arg18.IsWhole) :
    Prog (TpuEff nD τ sig (Elt F) Λ₀ .tc) PUnit := do
  let ⟨arg0, arg1, v26, v32⟩ : Σ' (arg0 : BitVec 32) (arg1 : BitVec 32) (v26 : FVec F S512x1408 .bf16), BitVec 32 ← partB2 b1 w b4 b5 b6 b7 b8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let c0_i32_15 : BitVec 32 := 0#32
  let v33 : BitVec 1 := Scalar.cmpi .ne v32 c0_i32_15
  if k0_h3 : v33 = 1#1 then do
    let c0_18 : Index := 0#32
    let c1408 : Index := 1408#32
    let v37 : Vec F S512x1408 .bf16 ← Prog.lift (.load arg18 (Rect.unit (s := S512x2816) ![0, 1408] S512x1408.size inb_S512x2816_S512x1408_0_1408).toLoadRect (View.loadsAt_vmem h_S512x1408))
    have v38 : FVec F S512x1408 .bf16 := shapeCast S512x1408 v37 shapeCasts_S512x1408_S512x1408
    have v39 : FVec F S512x1408 .bf16 := shapeCast S512x1408 v26 shapeCasts_S512x1408_S512x1408
    Prog.lift (.store arg18 (Rect.unit (s := S512x2816) ![0, 1408] S512x1408.size inb_S512x2816_S512x1408_0_1408) v39 Finset.univ (View.stores_vmem h_S512x1408 (harg18.storeExact_slice rfl _ packedbf16_S512x2816_S512x1408_0_1408) (fun _ => rfl)) (.inl rfl))
    pure ⟨⟩
  else do
    pure ⟨⟩
  let c1_i32_16 : BitVec 32 := 1#32
  let v34 : BitVec 1 := Scalar.cmpi .eq arg1 c1_i32_16
  let v35 : BitVec 32 := Scalar.extui v34
  let c0_i32_17 : BitVec 32 := 0#32
  let v36 : BitVec 1 := Scalar.cmpi .ne v35 c0_i32_17
  if k0_h4 : b4 = 1#1 then do
    let ⟨v43, v53, v59, v61, v76, v77⟩ : Σ' (v43 : FVec F S512x1024 .f32) (v53 : BitVec 1) (v59 : FVec F S512x1024 .f32) (v61 : FVec F S512x1024 .f32) (v76 : FVec F S512x1024 .f32), FVec F S512x1024 .f32 ← partB1 b1 w b4 b5 b6 b7 b8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0
    have v78 : FVec F S512x1024 .f32 := mulf v43 v77
    have v79 : FVec F S512x1024 .f32 := mulf v61 v78
    have cst_37 : FVec F S1024 .f32 := constant S1024 .f32 0x00000000#32
    have v80 : FVec F S1024 .f32 := multiReduction .add [0] S1024 v79 0x00000000#32 reduces_S512x1024_S1024 (.inl rfl) rfl
    have v81 : FVec F S1x1024 .f32 := shapeCast S1x1024 v80 shapeCasts_S1024_S1x1024
    let c0_38 : Index := 0#32
    let c0_39 : Index := 0#32
    let v82 : Vec F S512x1024 .f32 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0) v76 Finset.univ (View.stores_vmem_bits_univ h_S512x1024 rfl) (.inl rfl))
    have cst_40 : F .f32 := Scalar.ofBits .f32 0x3F000000#32
    have v83 : FVec F S512x1024 .f32 := broadcast S512x1024 cst_40
    have v84 : FVec F S512x1024 .f32 := mulf v83 v76
    have v85 : FVec F S512x1024 .bf16 := truncf .bf16 v84 bitsLt_bf16_f32
    let c0_41 : Index := 0#32
    let c0_42 : Index := 0#32
    let v86 : Vec F S512x1024 .bf16 ← Prog.lift (.load arg12 (Rect.unit (s := S512x1024) ![0, 0] S512x1024.size inb_S512x1024_S512x1024_0_0).toLoadRect (View.loadsAt_vmem h_S512x1024))
    Prog.lift (.store arg12 (Rect.unit (s := S512x1024) ![0, 0] S512x1024.size inb_S512x1024_S512x1024_0_0) v85 Finset.univ (View.stores_vmem h_S512x1024 (harg12.storeExact_slice rfl _ packedbf16_S512x1024_S512x1024_0_0) (fun _ => rfl)) (.inl rfl))
    let v87 : BitVec 32 := Scalar.extui v53
    let c0_i32_43 : BitVec 32 := 0#32
    let v88 : BitVec 1 := Scalar.cmpi .ne v87 c0_i32_43
    if k0_h5 : b5 = 1#1 then do
      let c0_49 : Index := 0#32
      let c0_50 : Index := 0#32
      let v100 : Vec F S1x1024 .f32 ← Prog.lift (.load arg10 (Rect.unit (s := S1x1024) ![0, 0] S1x1024.size inb_S1x1024_S1x1024_0_0).toLoadRect (View.loadsAt_vmem h_S1x1024))
      Prog.lift (.store arg10 (Rect.unit (s := S1x1024) ![0, 0] S1x1024.size inb_S1x1024_S1x1024_0_0) v81 Finset.univ (View.stores_vmem_bits_univ h_S1x1024 rfl) (.inl rfl))
      pure ⟨⟩
    else do
      pure ⟨⟩
    let v_true : BitVec 1 := 1#1
    let v89 : BitVec 1 := Scalar.xori v53 v_true
    let v90 : BitVec 32 := Scalar.extui v89
    let c0_i32_44 : BitVec 32 := 0#32
    let v91 : BitVec 1 := Scalar.cmpi .ne v90 c0_i32_44
    if k0_h6 : b6 = 1#1 then do
      let c0_49 : Index := 0#32
      let c0_50 : Index := 0#32
      let v100 : Vec F S1x1024 .f32 ← Prog.lift (.load arg10 (Rect.unit (s := S1x1024) ![0, 0] S1x1024.size inb_S1x1024_S1x1024_0_0).toLoadRect (View.loadsAt_vmem h_S1x1024))
      have v101 : FVec F S1x1024 .f32 := shapeCast S1x1024 v100 shapeCasts_S1x1024_S1x1024
      have v102 : FVec F S1x1024 .f32 := addf v101 v81
      let c0_51 : Index := 0#32
      let c0_52 : Index := 0#32
      let v103 : Vec F S1x1024 .f32 ← Prog.lift (.load arg10 (Rect.unit (s := S1x1024) ![0, 0] S1x1024.size inb_S1x1024_S1x1024_0_0).toLoadRect (View.loadsAt_vmem h_S1x1024))
      Prog.lift (.store arg10 (Rect.unit (s := S1x1024) ![0, 0] S1x1024.size inb_S1x1024_S1x1024_0_0) v102 Finset.univ (View.stores_vmem_bits_univ h_S1x1024 rfl) (.inl rfl))
      pure ⟨⟩
    else do
      pure ⟨⟩
    have v92 : FVec F S512x1024 .f32 := mulf v59 v59
    have cst_45 : FVec F S1024 .f32 := constant S1024 .f32 0x00000000#32
    have v93 : FVec F S1024 .f32 := multiReduction .add [0] S1024 v92 0x00000000#32 reduces_S512x1024_S1024 (.inl rfl) rfl
    have v94 : FVec F S1x1024 .f32 := shapeCast S1x1024 v93 shapeCasts_S1024_S1x1024
    let v95 : BitVec 32 := Scalar.extui v53
    let c0_i32_46 : BitVec 32 := 0#32
    let v96 : BitVec 1 := Scalar.cmpi .ne v95 c0_i32_46
    if k0_h7 : b7 = 1#1 then do
      let c0_49 : Index := 0#32
      let c0_50 : Index := 0#32
      let v100 : Vec F S1x1024 .f32 ← Prog.lift (.load arg11 (Rect.unit (s := S1x1024) ![0, 0] S1x1024.size inb_S1x1024_S1x1024_0_0).toLoadRect (View.loadsAt_vmem h_S1x1024))
      Prog.lift (.store arg11 (Rect.unit (s := S1x1024) ![0, 0] S1x1024.size inb_S1x1024_S1x1024_0_0) v94 Finset.univ (View.stores_vmem_bits_univ h_S1x1024 rfl) (.inl rfl))
      pure ⟨⟩
    else do
      pure ⟨⟩
    let true_47 : BitVec 1 := 1#1
    let v97 : BitVec 1 := Scalar.xori v53 true_47
    let v98 : BitVec 32 := Scalar.extui v97
    let c0_i32_48 : BitVec 32 := 0#32
    let v99 : BitVec 1 := Scalar.cmpi .ne v98 c0_i32_48
    if k0_h8 : b8 = 1#1 then do
      let c0_49 : Index := 0#32
      let c0_50 : Index := 0#32
      let v100 : Vec F S1x1024 .f32 ← Prog.lift (.load arg11 (Rect.unit (s := S1x1024) ![0, 0] S1x1024.size inb_S1x1024_S1x1024_0_0).toLoadRect (View.loadsAt_vmem h_S1x1024))
      have v101 : FVec F S1x1024 .f32 := shapeCast S1x1024 v100 shapeCasts_S1x1024_S1x1024
      have v102 : FVec F S1x1024 .f32 := addf v101 v94
      let c0_51 : Index := 0#32
      let c0_52 : Index := 0#32
      let v103 : Vec F S1x1024 .f32 ← Prog.lift (.load arg11 (Rect.unit (s := S1x1024) ![0, 0] S1x1024.size inb_S1x1024_S1x1024_0_0).toLoadRect (View.loadsAt_vmem h_S1x1024))
      Prog.lift (.store arg11 (Rect.unit (s := S1x1024) ![0, 0] S1x1024.size inb_S1x1024_S1x1024_0_0) v102 Finset.univ (View.stores_vmem_bits_univ h_S1x1024 rfl) (.inl rfl))
      pure ⟨⟩
    else do
      pure ⟨⟩
    pure ⟨⟩
  else do
    pure ⟨⟩
  pure ⟨⟩

variable (i : grid0.Coords) (arg2 : Memref sig .tc .vmem S512x1024 .f32) (harg2 : arg2.IsWhole) (arg3 : Memref sig .tc .vmem S1x1024 .f32) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1408 .bf16) (harg14 : arg14.IsWhole) (arg15 : Memref sig .tc .vmem S512x1408 .bf16) (harg15 : arg15.IsWhole) (arg16 : Memref sig .tc .vmem S512x1408 .bf16) (harg16 : arg16.IsWhole) (arg17 : Memref sig .tc .vmem S512x1024 .bf16) (harg17 : arg17.IsWhole) (arg18 : Memref sig .tc .vmem S512x2816 .bf16) (harg18 : arg18.IsWhole)

theorem part1_eq (b1 : BitVec 1) (w : BitVec 32) (b4 b5 b6 b7 b8 : BitVec 1) : k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = partB1 (F := F) b1 w b4 b5 b6 b7 b8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  unfold partB1 k0_part1
  rfl

theorem part2_eq : k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = partB2 (F := F) (k0_cond1 i) (k0_word i) (k0_cond4 i) (k0_cond5 i) (k0_cond6 i) (k0_cond7 i) (k0_cond8 i) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  unfold partB2 k0_part2
  rfl

theorem body_eq : cc0_ffn2_fwd_loss (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    = bodyB (F := F) (k0_cond1 i) (k0_word i) (k0_cond4 i) (k0_cond5 i) (k0_cond6 i) (k0_cond7 i) (k0_cond8 i) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  unfold bodyB cc0_ffn2_fwd_loss
  rw [part2_eq]
  congr 1

/-- A first point. -/
def case0 : Prog (TpuEff nD τ sig (Elt F) Λ₀ .tc) PUnit :=
  .op (.load arg2 (Rect.unit (s := S512x1024) ![0, 0] S512x1024.size inb_S512x1024_S512x1024_0_0).toLoadRect (View.loadsAt_vmem h_S512x1024)) fun (v37 : Vec F S512x1024 _) =>
  .op (.load arg3 (Rect.unit (s := S1x1024) ![0, 0] S1x1024.size inb_S1x1024_S1x1024_0_0).toLoadRect (View.loadsAt_vmem h_S1x1024)) fun (v48 : Vec F S1x1024 _) =>
  .op (.load arg17 (Rect.unit (s := S512x1024) ![0, 0] S512x1024.size inb_S512x1024_S512x1024_0_0).toLoadRect (View.loadsAt_vmem h_S512x1024)) fun (_v52 : Vec F S512x1024 _) =>
  .op (.store arg17 (Rect.unit (s := S512x1024) ![0, 0] S512x1024.size inb_S512x1024_S512x1024_0_0) (hkOf v37 v48) Finset.univ (View.stores_vmem h_S512x1024 (harg17.storeExact_slice rfl _ packedbf16_S512x1024_S512x1024_0_0) (fun _ => rfl)) (.inl rfl)) fun _ =>
  .op (.load arg13 (Rect.unit (s := S512x1024) ![0, 0] S512x1024.size inb_S512x1024_S512x1024_0_0).toLoadRect (View.loadsAt_vmem h_S512x1024)) fun (_v55 : Vec F S512x1024 _) =>
  .op (.store arg13 (Rect.unit (s := S512x1024) ![0, 0] S512x1024.size inb_S512x1024_S512x1024_0_0) (hOf v37 v48) Finset.univ (View.stores_vmem h_S512x1024 (harg13.storeExact_slice rfl _ packedbf16_S512x1024_S512x1024_0_0) (fun _ => rfl)) (.inl rfl)) fun _ =>
  .op (.load arg17 (Rect.unit (s := S512x1024) ![0, 0] S512x1024.size inb_S512x1024_S512x1024_0_0).toLoadRect (View.loadsAt_vmem h_S512x1024)) fun (v3 : Vec F S512x1024 _) =>
  .op (.load arg4 (Rect.unit (s := S2816x1024) (k0_off1 i) S1408x1024.size (k0_off1_inb i)).toLoadRect (View.loadsAt_vmem h_S1408x1024)) fun (v7 : Vec F S1408x1024 _) =>
  .op (.load arg5 (Rect.unit (s := S2816x1024) (k0_off1 i) S1408x1024.size (k0_off1_inb i)).toLoadRect (View.loadsAt_vmem h_S1408x1024)) fun (v10 : Vec F S1408x1024 _) =>
  .op (.load arg14 (Rect.unit (s := S512x1408) ![0, 0] S512x1408.size inb_S512x1408_S512x1408_0_0).toLoadRect (View.loadsAt_vmem h_S512x1408)) fun (_v22 : Vec F S512x1408 _) =>
  .op (.store arg14 (Rect.unit (s := S512x1408) ![0, 0] S512x1408.size inb_S512x1408_S512x1408_0_0) (gpOf (mmOf v3 v7) (mmOf v3 v10)) Finset.univ (View.stores_vmem h_S512x1408 (harg14.storeExact_slice rfl _ packedbf16_S512x1408_S512x1408_0_0) (fun _ => rfl)) (.inl rfl)) fun _ =>
  .op (.load arg15 (Rect.unit (s := S512x1408) ![0, 0] S512x1408.size inb_S512x1408_S512x1408_0_0).toLoadRect (View.loadsAt_vmem h_S512x1408)) fun (_v24 : Vec F S512x1408 _) =>
  .op (.store arg15 (Rect.unit (s := S512x1408) ![0, 0] S512x1408.size inb_S512x1408_S512x1408_0_0) (upOf (mmOf v3 v7)) Finset.univ (View.stores_vmem h_S512x1408 (harg15.storeExact_slice rfl _ packedbf16_S512x1408_S512x1408_0_0) (fun _ => rfl)) (.inl rfl)) fun _ =>
  .op (.load arg16 (Rect.unit (s := S512x1408) ![0, 0] S512x1408.size inb_S512x1408_S512x1408_0_0).toLoadRect (View.loadsAt_vmem h_S512x1408)) fun (_v27 : Vec F S512x1408 _) =>
  .op (.store arg16 (Rect.unit (s := S512x1408) ![0, 0] S512x1408.size inb_S512x1408_S512x1408_0_0) (hidOf (mmOf v3 v7) (mmOf v3 v10)) Finset.univ (View.stores_vmem h_S512x1408 (harg16.storeExact_slice rfl _ packedbf16_S512x1408_S512x1408_0_0) (fun _ => rfl)) (.inl rfl)) fun _ =>
  .op (.load arg18 (Rect.unit (s := S512x2816) ![0, 0] S512x1408.size inb_S512x2816_S512x1408_0_0).toLoadRect (View.loadsAt_vmem h_S512x1408)) fun (_w37 : Vec F S512x1408 _) =>
  .op (.store arg18 leftR (hidkOf (hidOf (mmOf v3 v7) (mmOf v3 v10))) Finset.univ (View.stores_vmem h_S512x1408 (harg18.storeExact_slice rfl _ packedbf16_S512x2816_S512x1408_0_0) (fun _ => rfl)) (.inl rfl)) fun _ =>
  .ret ⟨⟩

theorem case0_eq (b5 b6 b7 b8 : BitVec 1) : bodyB (F := F) 1#1 0#32 0#1 b5 b6 b7 b8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    = case0 (F := F) i arg2 arg3 arg4 arg5 arg13 harg13 arg14 harg14 arg15 harg15 arg16 harg16 arg17 harg17 arg18 harg18 := by
  unfold case0 bodyB partB1 partB2
  chain_rfl

/-- A last point of the first row block. -/
def case1 : Prog (TpuEff nD τ sig (Elt F) Λ₀ .tc) PUnit :=
  .op (.load arg17 (Rect.unit (s := S512x1024) ![0, 0] S512x1024.size inb_S512x1024_S512x1024_0_0).toLoadRect (View.loadsAt_vmem h_S512x1024)) fun (v3 : Vec F S512x1024 _) =>
  .op (.load arg4 (Rect.unit (s := S2816x1024) (k0_off1 i) S1408x1024.size (k0_off1_inb i)).toLoadRect (View.loadsAt_vmem h_S1408x1024)) fun (v7 : Vec F S1408x1024 _) =>
  .op (.load arg5 (Rect.unit (s := S2816x1024) (k0_off1 i) S1408x1024.size (k0_off1_inb i)).toLoadRect (View.loadsAt_vmem h_S1408x1024)) fun (v10 : Vec F S1408x1024 _) =>
  .op (.load arg14 (Rect.unit (s := S512x1408) ![0, 0] S512x1408.size inb_S512x1408_S512x1408_0_0).toLoadRect (View.loadsAt_vmem h_S512x1408)) fun (_v22 : Vec F S512x1408 _) =>
  .op (.store arg14 (Rect.unit (s := S512x1408) ![0, 0] S512x1408.size inb_S512x1408_S512x1408_0_0) (gpOf (mmOf v3 v7) (mmOf v3 v10)) Finset.univ (View.stores_vmem h_S512x1408 (harg14.storeExact_slice rfl _ packedbf16_S512x1408_S512x1408_0_0) (fun _ => rfl)) (.inl rfl)) fun _ =>
  .op (.load arg15 (Rect.unit (s := S512x1408) ![0, 0] S512x1408.size inb_S512x1408_S512x1408_0_0).toLoadRect (View.loadsAt_vmem h_S512x1408)) fun (_v24 : Vec F S512x1408 _) =>
  .op (.store arg15 (Rect.unit (s := S512x1408) ![0, 0] S512x1408.size inb_S512x1408_S512x1408_0_0) (upOf (mmOf v3 v7)) Finset.univ (View.stores_vmem h_S512x1408 (harg15.storeExact_slice rfl _ packedbf16_S512x1408_S512x1408_0_0) (fun _ => rfl)) (.inl rfl)) fun _ =>
  .op (.load arg16 (Rect.unit (s := S512x1408) ![0, 0] S512x1408.size inb_S512x1408_S512x1408_0_0).toLoadRect (View.loadsAt_vmem h_S512x1408)) fun (_v27 : Vec F S512x1408 _) =>
  .op (.store arg16 (Rect.unit (s := S512x1408) ![0, 0] S512x1408.size inb_S512x1408_S512x1408_0_0) (hidOf (mmOf v3 v7) (mmOf v3 v10)) Finset.univ (View.stores_vmem h_S512x1408 (harg16.storeExact_slice rfl _ packedbf16_S512x1408_S512x1408_0_0) (fun _ => rfl)) (.inl rfl)) fun _ =>
  .op (.load arg18 (Rect.unit (s := S512x2816) ![0, 1408] S512x1408.size inb_S512x2816_S512x1408_0_1408).toLoadRect (View.loadsAt_vmem h_S512x1408)) fun (_w37 : Vec F S512x1408 _) =>
  .op (.store arg18 rightR (hidkOf (hidOf (mmOf v3 v7) (mmOf v3 v10))) Finset.univ (View.stores_vmem h_S512x1408 (harg18.storeExact_slice rfl _ packedbf16_S512x2816_S512x1408_0_1408) (fun _ => rfl)) (.inl rfl)) fun _ =>
  .op (.load arg2 (Rect.unit (s := S512x1024) ![0, 0] S512x1024.size inb_S512x1024_S512x1024_0_0).toLoadRect (View.loadsAt_vmem h_S512x1024)) fun (v37 : Vec F S512x1024 _) =>
  .op (.load arg18 (Rect.unit (s := S512x2816) ![0, 0] S512x2816.size inb_S512x2816_S512x2816_0_0).toLoadRect (View.loadsAt_vmem h_S512x2816)) fun (v38 : Vec F S512x2816 _) =>
  .op (.load arg6 (Rect.unit (s := S2816x1024) ![0, 0] S2816x1024.size inb_S2816x1024_S2816x1024_0_0).toLoadRect (View.loadsAt_vmem h_S2816x1024)) fun (v39 : Vec F S2816x1024 _) =>
  .op (.load arg7 (Rect.unit (s := S1x1024) ![0, 0] S1x1024.size inb_S1x1024_S1x1024_0_0).toLoadRect (View.loadsAt_vmem h_S1x1024)) fun (v44 : Vec F S1x1024 _) =>
  .op (.load arg8 (Rect.unit (s := S512x1024) ![0, 0] S512x1024.size inb_S512x1024_S512x1024_0_0).toLoadRect (View.loadsAt_vmem h_S512x1024)) fun (v58 : Vec F S512x1024 _) =>
  .op (.load arg9 (Rect.unit (s := S512x1024) ![0, 0] S512x1024.size inb_S512x1024_S512x1024_0_0).toLoadRect (View.loadsAt_vmem h_S512x1024)) fun (_v82 : Vec F S512x1024 _) =>
  .op (.store arg9 (Rect.unit (s := S512x1024) ![0, 0] S512x1024.size inb_S512x1024_S512x1024_0_0) (dyOf (yOf v37 v38 v39) v44 v58) Finset.univ (View.stores_vmem_bits_univ h_S512x1024 rfl) (.inl rfl)) fun _ =>
  .op (.load arg12 (Rect.unit (s := S512x1024) ![0, 0] S512x1024.size inb_S512x1024_S512x1024_0_0).toLoadRect (View.loadsAt_vmem h_S512x1024)) fun (_v86 : Vec F S512x1024 _) =>
  .op (.store arg12 (Rect.unit (s := S512x1024) ![0, 0] S512x1024.size inb_S512x1024_S512x1024_0_0) (halfOf (dyOf (yOf v37 v38 v39) v44 v58)) Finset.univ (View.stores_vmem h_S512x1024 (harg12.storeExact_slice rfl _ packedbf16_S512x1024_S512x1024_0_0) (fun _ => rfl)) (.inl rfl)) fun _ =>
  .op (.load arg10 (Rect.unit (s := S1x1024) ![0, 0] S1x1024.size inb_S1x1024_S1x1024_0_0).toLoadRect (View.loadsAt_vmem h_S1x1024)) fun (_v100 : Vec F S1x1024 _) =>
  .op (.store arg10 (Rect.unit (s := S1x1024) ![0, 0] S1x1024.size inb_S1x1024_S1x1024_0_0) (dgOf (yOf v37 v38 v39) v44 v58) Finset.univ (View.stores_vmem_bits_univ h_S1x1024 rfl) (.inl rfl)) fun _ =>
  .op (.load arg11 (Rect.unit (s := S1x1024) ![0, 0] S1x1024.size inb_S1x1024_S1x1024_0_0).toLoadRect (View.loadsAt_vmem h_S1x1024)) fun (_v101 : Vec F S1x1024 _) =>
  .op (.store arg11 (Rect.unit (s := S1x1024) ![0, 0] S1x1024.size inb_S1x1024_S1x1024_0_0) (sqOf (yOf v37 v38 v39) v44 v58) Finset.univ (View.stores_vmem_bits_univ h_S1x1024 rfl) (.inl rfl)) fun _ =>
  .ret ⟨⟩

theorem case1_eq : bodyB (F := F) 0#1 1#32 1#1 1#1 0#1 1#1 0#1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    = case1 (F := F) i arg2 arg4 arg5 arg6 arg7 arg8 arg9 arg10 arg11 arg12 harg12 arg14 harg14 arg15 harg15 arg16 harg16 arg17 arg18 harg18 := by
  unfold case1 bodyB partB1 partB2
  chain_rfl

/-- A last point of a later row block. -/
def case2 : Prog (TpuEff nD τ sig (Elt F) Λ₀ .tc) PUnit :=
  .op (.load arg17 (Rect.unit (s := S512x1024) ![0, 0] S512x1024.size inb_S512x1024_S512x1024_0_0).toLoadRect (View.loadsAt_vmem h_S512x1024)) fun (v3 : Vec F S512x1024 _) =>
  .op (.load arg4 (Rect.unit (s := S2816x1024) (k0_off1 i) S1408x1024.size (k0_off1_inb i)).toLoadRect (View.loadsAt_vmem h_S1408x1024)) fun (v7 : Vec F S1408x1024 _) =>
  .op (.load arg5 (Rect.unit (s := S2816x1024) (k0_off1 i) S1408x1024.size (k0_off1_inb i)).toLoadRect (View.loadsAt_vmem h_S1408x1024)) fun (v10 : Vec F S1408x1024 _) =>
  .op (.load arg14 (Rect.unit (s := S512x1408) ![0, 0] S512x1408.size inb_S512x1408_S512x1408_0_0).toLoadRect (View.loadsAt_vmem h_S512x1408)) fun (_v22 : Vec F S512x1408 _) =>
  .op (.store arg14 (Rect.unit (s := S512x1408) ![0, 0] S512x1408.size inb_S512x1408_S512x1408_0_0) (gpOf (mmOf v3 v7) (mmOf v3 v10)) Finset.univ (View.stores_vmem h_S512x1408 (harg14.storeExact_slice rfl _ packedbf16_S512x1408_S512x1408_0_0) (fun _ => rfl)) (.inl rfl)) fun _ =>
  .op (.load arg15 (Rect.unit (s := S512x1408) ![0, 0] S512x1408.size inb_S512x1408_S512x1408_0_0).toLoadRect (View.loadsAt_vmem h_S512x1408)) fun (_v24 : Vec F S512x1408 _) =>
  .op (.store arg15 (Rect.unit (s := S512x1408) ![0, 0] S512x1408.size inb_S512x1408_S512x1408_0_0) (upOf (mmOf v3 v7)) Finset.univ (View.stores_vmem h_S512x1408 (harg15.storeExact_slice rfl _ packedbf16_S512x1408_S512x1408_0_0) (fun _ => rfl)) (.inl rfl)) fun _ =>
  .op (.load arg16 (Rect.unit (s := S512x1408) ![0, 0] S512x1408.size inb_S512x1408_S512x1408_0_0).toLoadRect (View.loadsAt_vmem h_S512x1408)) fun (_v27 : Vec F S512x1408 _) =>
  .op (.store arg16 (Rect.unit (s := S512x1408) ![0, 0] S512x1408.size inb_S512x1408_S512x1408_0_0) (hidOf (mmOf v3 v7) (mmOf v3 v10)) Finset.univ (View.stores_vmem h_S512x1408 (harg16.storeExact_slice rfl _ packedbf16_S512x1408_S512x1408_0_0) (fun _ => rfl)) (.inl rfl)) fun _ =>
  .op (.load arg18 (Rect.unit (s := S512x2816) ![0, 1408] S512x1408.size inb_S512x2816_S512x1408_0_1408).toLoadRect (View.loadsAt_vmem h_S512x1408)) fun (_w37 : Vec F S512x1408 _) =>
  .op (.store arg18 rightR (hidkOf (hidOf (mmOf v3 v7) (mmOf v3 v10))) Finset.univ (View.stores_vmem h_S512x1408 (harg18.storeExact_slice rfl _ packedbf16_S512x2816_S512x1408_0_1408) (fun _ => rfl)) (.inl rfl)) fun _ =>
  .op (.load arg2 (Rect.unit (s := S512x1024) ![0, 0] S512x1024.size inb_S512x1024_S512x1024_0_0).toLoadRect (View.loadsAt_vmem h_S512x1024)) fun (v37 : Vec F S512x1024 _) =>
  .op (.load arg18 (Rect.unit (s := S512x2816) ![0, 0] S512x2816.size inb_S512x2816_S512x2816_0_0).toLoadRect (View.loadsAt_vmem h_S512x2816)) fun (v38 : Vec F S512x2816 _) =>
  .op (.load arg6 (Rect.unit (s := S2816x1024) ![0, 0] S2816x1024.size inb_S2816x1024_S2816x1024_0_0).toLoadRect (View.loadsAt_vmem h_S2816x1024)) fun (v39 : Vec F S2816x1024 _) =>
  .op (.load arg7 (Rect.unit (s := S1x1024) ![0, 0] S1x1024.size inb_S1x1024_S1x1024_0_0).toLoadRect (View.loadsAt_vmem h_S1x1024)) fun (v44 : Vec F S1x1024 _) =>
  .op (.load arg8 (Rect.unit (s := S512x1024) ![0, 0] S512x1024.size inb_S512x1024_S512x1024_0_0).toLoadRect (View.loadsAt_vmem h_S512x1024)) fun (v58 : Vec F S512x1024 _) =>
  .op (.load arg9 (Rect.unit (s := S512x1024) ![0, 0] S512x1024.size inb_S512x1024_S512x1024_0_0).toLoadRect (View.loadsAt_vmem h_S512x1024)) fun (_v82 : Vec F S512x1024 _) =>
  .op (.store arg9 (Rect.unit (s := S512x1024) ![0, 0] S512x1024.size inb_S512x1024_S512x1024_0_0) (dyOf (yOf v37 v38 v39) v44 v58) Finset.univ (View.stores_vmem_bits_univ h_S512x1024 rfl) (.inl rfl)) fun _ =>
  .op (.load arg12 (Rect.unit (s := S512x1024) ![0, 0] S512x1024.size inb_S512x1024_S512x1024_0_0).toLoadRect (View.loadsAt_vmem h_S512x1024)) fun (_v86 : Vec F S512x1024 _) =>
  .op (.store arg12 (Rect.unit (s := S512x1024) ![0, 0] S512x1024.size inb_S512x1024_S512x1024_0_0) (halfOf (dyOf (yOf v37 v38 v39) v44 v58)) Finset.univ (View.stores_vmem h_S512x1024 (harg12.storeExact_slice rfl _ packedbf16_S512x1024_S512x1024_0_0) (fun _ => rfl)) (.inl rfl)) fun _ =>
  .op (.load arg10 (Rect.unit (s := S1x1024) ![0, 0] S1x1024.size inb_S1x1024_S1x1024_0_0).toLoadRect (View.loadsAt_vmem h_S1x1024)) fun (v100 : Vec F S1x1024 _) =>
  .op (.load arg10 (Rect.unit (s := S1x1024) ![0, 0] S1x1024.size inb_S1x1024_S1x1024_0_0).toLoadRect (View.loadsAt_vmem h_S1x1024)) fun (_v103 : Vec F S1x1024 _) =>
  .op (.store arg10 (Rect.unit (s := S1x1024) ![0, 0] S1x1024.size inb_S1x1024_S1x1024_0_0) (addOf v100 (dgOf (yOf v37 v38 v39) v44 v58)) Finset.univ (View.stores_vmem_bits_univ h_S1x1024 rfl) (.inl rfl)) fun _ =>
  .op (.load arg11 (Rect.unit (s := S1x1024) ![0, 0] S1x1024.size inb_S1x1024_S1x1024_0_0).toLoadRect (View.loadsAt_vmem h_S1x1024)) fun (v104 : Vec F S1x1024 _) =>
  .op (.load arg11 (Rect.unit (s := S1x1024) ![0, 0] S1x1024.size inb_S1x1024_S1x1024_0_0).toLoadRect (View.loadsAt_vmem h_S1x1024)) fun (_v105 : Vec F S1x1024 _) =>
  .op (.store arg11 (Rect.unit (s := S1x1024) ![0, 0] S1x1024.size inb_S1x1024_S1x1024_0_0) (addOf v104 (sqOf (yOf v37 v38 v39) v44 v58)) Finset.univ (View.stores_vmem_bits_univ h_S1x1024 rfl) (.inl rfl)) fun _ =>
  .ret ⟨⟩

theorem case2_eq : bodyB (F := F) 0#1 1#32 1#1 0#1 1#1 0#1 1#1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    = case2 (F := F) i arg2 arg4 arg5 arg6 arg7 arg8 arg9 arg10 arg11 arg12 harg12 arg14 harg14 arg15 harg15 arg16 harg16 arg17 arg18 harg18 := by
  unfold case2 bodyB partB1 partB2
  chain_rfl

theorem run_case0 (Q : PUnit → sProp 𝕄) (X2 : Vec F S512x1024 .f32) (X3 : Vec F S1x1024 .f32) (X4 : Vec F S2816x1024 .bf16) (X5 : Vec F S2816x1024 .bf16) (X13 : Vec F S512x1024 .bf16) (X14 : Vec F S512x1408 .bf16) (X15 : Vec F S512x1408 .bf16) (X16 : Vec F S512x1408 .bf16) (X17 : Vec F S512x1024 .bf16) (X18 : Vec F S512x2816 .bf16) :
    (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18
      ∗ ((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg13 fullShare (hOf X2 X3) ∗ owns (c : Thread nD τ) arg14 fullShare (gpOf (mmOf (hkOf X2 X3) (rowsOf i X4)) (mmOf (hkOf X2 X3) (rowsOf i X5))) ∗ owns (c : Thread nD τ) arg15 fullShare (upOf (mmOf (hkOf X2 X3) (rowsOf i X4))) ∗ owns (c : Thread nD τ) arg16 fullShare (hidOf (mmOf (hkOf X2 X3) (rowsOf i X4)) (mmOf (hkOf X2 X3) (rowsOf i X5))) ∗ owns (c : Thread nD τ) arg17 fullShare (hkOf X2 X3) ∗ owns (c : Thread nD τ) arg18 fullShare (putR leftR X18 (hidkOf (hidOf (mmOf (hkOf X2 X3) (rowsOf i X4)) (mmOf (hkOf X2 X3) (rowsOf i X5)))))) -∗ Q ⟨⟩)) : sProp 𝕄)
      ⊢ runs c (case0 (F := F) i arg2 arg3 arg4 arg5 arg13 harg13 arg14 harg14 arg15 harg15 arg16 harg16 arg17 harg17 arg18 harg18) Q := by
  iintro ⟨H2, H3, H4, H5, H13, H14, H15, H16, H17, H18, Hk⟩
  unfold case0
  iapply (run_load c Q arg2 _ _ fullShare _ _) $$ H2
  iintro H2
  iapply (run_load c Q arg3 _ _ fullShare _ _) $$ H3
  iintro H3
  iapply (run_load c Q arg17 _ _ fullShare _ _) $$ H17
  iintro H17
  iapply (run_store c Q arg17 _ _ _ _ _ _) $$ H17
  iintro H17
  iapply (run_load c Q arg13 _ _ fullShare _ _) $$ H13
  iintro H13
  iapply (run_store c Q arg13 _ _ _ _ _ _) $$ H13
  iintro H13
  iapply (run_load c Q arg17 _ _ fullShare _ _) $$ H17
  iintro H17
  iapply (run_load c Q arg4 _ _ fullShare _ _) $$ H4
  iintro H4
  iapply (run_load c Q arg5 _ _ fullShare _ _) $$ H5
  iintro H5
  iapply (run_load c Q arg14 _ _ fullShare _ _) $$ H14
  iintro H14
  iapply (run_store c Q arg14 _ _ _ _ _ _) $$ H14
  iintro H14
  iapply (run_load c Q arg15 _ _ fullShare _ _) $$ H15
  iintro H15
  iapply (run_store c Q arg15 _ _ _ _ _ _) $$ H15
  iintro H15
  iapply (run_load c Q arg16 _ _ fullShare _ _) $$ H16
  iintro H16
  iapply (run_store c Q arg16 _ _ _ _ _ _) $$ H16
  iintro H16
  iapply (run_load c Q arg18 _ _ fullShare _ _) $$ H18
  iintro H18
  iapply (run_store c Q arg18 _ _ _ _ _ _) $$ H18
  iintro H18
  simp only [take_all (s := S512x1024) ![0, 0] inb_S512x1024_S512x1024_0_0 zero2, take_all (s := S1x1024) ![0, 0] inb_S1x1024_S1x1024_0_0 zero2, putR_all (s := S512x1024) ![0, 0] inb_S512x1024_S512x1024_0_0 zero2, take_all (s := S512x1408) ![0, 0] inb_S512x1408_S512x1408_0_0 zero2, putR_all (s := S512x1408) ![0, 0] inb_S512x1408_S512x1408_0_0 zero2]
  unfold runs
  rw [wp_ret]
  imodintro
  iapply Hk
  isplitl [H2]; · iexact H2
  isplitl [H3]; · iexact H3
  isplitl [H4]; · iexact H4
  isplitl [H5]; · iexact H5
  isplitl [H13]; · iexact H13
  isplitl [H14]; · iexact H14
  isplitl [H15]; · iexact H15
  isplitl [H16]; · iexact H16
  isplitl [H17]; · iexact H17
  iexact H18

theorem run_case1 (Q : PUnit → sProp 𝕄) (X2 : Vec F S512x1024 .f32) (X4 : Vec F S2816x1024 .bf16) (X5 : Vec F S2816x1024 .bf16) (X6 : Vec F S2816x1024 .bf16) (X7 : Vec F S1x1024 .f32) (X8 : Vec F S512x1024 .f32) (X9 : Vec F S512x1024 .f32) (X10 : Vec F S1x1024 .f32) (X11 : Vec F S1x1024 .f32) (X12 : Vec F S512x1024 .bf16) (X14 : Vec F S512x1408 .bf16) (X15 : Vec F S512x1408 .bf16) (X16 : Vec F S512x1408 .bf16) (X17 : Vec F S512x1024 .bf16) (X18 : Vec F S512x2816 .bf16) :
    (iprop(owns (c : Thread nD τ) arg2 fullShare X2 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18
      ∗ ((owns (c : Thread nD τ) arg2 fullShare X2 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (dyOf (yOf X2 (putR rightR X18 (hidkOf (hidOf (mmOf X17 (rowsOf i X4)) (mmOf X17 (rowsOf i X5))))) X6) X7 X8) ∗ owns (c : Thread nD τ) arg10 fullShare (dgOf (yOf X2 (putR rightR X18 (hidkOf (hidOf (mmOf X17 (rowsOf i X4)) (mmOf X17 (rowsOf i X5))))) X6) X7 X8) ∗ owns (c : Thread nD τ) arg11 fullShare (sqOf (yOf X2 (putR rightR X18 (hidkOf (hidOf (mmOf X17 (rowsOf i X4)) (mmOf X17 (rowsOf i X5))))) X6) X7 X8) ∗ owns (c : Thread nD τ) arg12 fullShare (halfOf (dyOf (yOf X2 (putR rightR X18 (hidkOf (hidOf (mmOf X17 (rowsOf i X4)) (mmOf X17 (rowsOf i X5))))) X6) X7 X8)) ∗ owns (c : Thread nD τ) arg14 fullShare (gpOf (mmOf X17 (rowsOf i X4)) (mmOf X17 (rowsOf i X5))) ∗ owns (c : Thread nD τ) arg15 fullShare (upOf (mmOf X17 (rowsOf i X4))) ∗ owns (c : Thread nD τ) arg16 fullShare (hidOf (mmOf X17 (rowsOf i X4)) (mmOf X17 (rowsOf i X5))) ∗ owns (c : Thread nD τ) arg17 fullShare X17 ∗ owns (c : Thread nD τ) arg18 fullShare (putR rightR X18 (hidkOf (hidOf (mmOf X17 (rowsOf i X4)) (mmOf X17 (rowsOf i X5)))))) -∗ Q ⟨⟩)) : sProp 𝕄)
      ⊢ runs c (case1 (F := F) i arg2 arg4 arg5 arg6 arg7 arg8 arg9 arg10 arg11 arg12 harg12 arg14 harg14 arg15 harg15 arg16 harg16 arg17 arg18 harg18) Q := by
  iintro ⟨H2, H4, H5, H6, H7, H8, H9, H10, H11, H12, H14, H15, H16, H17, H18, Hk⟩
  unfold case1
  iapply (run_load c Q arg17 _ _ fullShare _ _) $$ H17
  iintro H17
  iapply (run_load c Q arg4 _ _ fullShare _ _) $$ H4
  iintro H4
  iapply (run_load c Q arg5 _ _ fullShare _ _) $$ H5
  iintro H5
  iapply (run_load c Q arg14 _ _ fullShare _ _) $$ H14
  iintro H14
  iapply (run_store c Q arg14 _ _ _ _ _ _) $$ H14
  iintro H14
  iapply (run_load c Q arg15 _ _ fullShare _ _) $$ H15
  iintro H15
  iapply (run_store c Q arg15 _ _ _ _ _ _) $$ H15
  iintro H15
  iapply (run_load c Q arg16 _ _ fullShare _ _) $$ H16
  iintro H16
  iapply (run_store c Q arg16 _ _ _ _ _ _) $$ H16
  iintro H16
  iapply (run_load c Q arg18 _ _ fullShare _ _) $$ H18
  iintro H18
  iapply (run_store c Q arg18 _ _ _ _ _ _) $$ H18
  iintro H18
  iapply (run_load c Q arg2 _ _ fullShare _ _) $$ H2
  iintro H2
  iapply (run_load c Q arg18 _ _ fullShare _ _) $$ H18
  iintro H18
  iapply (run_load c Q arg6 _ _ fullShare _ _) $$ H6
  iintro H6
  iapply (run_load c Q arg7 _ _ fullShare _ _) $$ H7
  iintro H7
  iapply (run_load c Q arg8 _ _ fullShare _ _) $$ H8
  iintro H8
  iapply (run_load c Q arg9 _ _ fullShare _ _) $$ H9
  iintro H9
  iapply (run_store c Q arg9 _ _ _ _ _ _) $$ H9
  iintro H9
  iapply (run_load c Q arg12 _ _ fullShare _ _) $$ H12
  iintro H12
  iapply (run_store c Q arg12 _ _ _ _ _ _) $$ H12
  iintro H12
  iapply (run_load c Q arg10 _ _ fullShare _ _) $$ H10
  iintro H10
  iapply (run_store c Q arg10 _ _ _ _ _ _) $$ H10
  iintro H10
  iapply (run_load c Q arg11 _ _ fullShare _ _) $$ H11
  iintro H11
  iapply (run_store c Q arg11 _ _ _ _ _ _) $$ H11
  iintro H11
  simp only [take_all (s := S512x1024) ![0, 0] inb_S512x1024_S512x1024_0_0 zero2, take_all (s := S512x1408) ![0, 0] inb_S512x1408_S512x1408_0_0 zero2, putR_all (s := S512x1408) ![0, 0] inb_S512x1408_S512x1408_0_0 zero2, take_all (s := S512x2816) ![0, 0] inb_S512x2816_S512x2816_0_0 zero2, take_all (s := S2816x1024) ![0, 0] inb_S2816x1024_S2816x1024_0_0 zero2, take_all (s := S1x1024) ![0, 0] inb_S1x1024_S1x1024_0_0 zero2, putR_all (s := S512x1024) ![0, 0] inb_S512x1024_S512x1024_0_0 zero2, putR_all (s := S1x1024) ![0, 0] inb_S1x1024_S1x1024_0_0 zero2]
  unfold runs
  rw [wp_ret]
  imodintro
  iapply Hk
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H15]; · iexact H15
  isplitl [H16]; · iexact H16
  isplitl [H17]; · iexact H17
  iexact H18

theorem run_case2 (Q : PUnit → sProp 𝕄) (X2 : Vec F S512x1024 .f32) (X4 : Vec F S2816x1024 .bf16) (X5 : Vec F S2816x1024 .bf16) (X6 : Vec F S2816x1024 .bf16) (X7 : Vec F S1x1024 .f32) (X8 : Vec F S512x1024 .f32) (X9 : Vec F S512x1024 .f32) (X10 : Vec F S1x1024 .f32) (X11 : Vec F S1x1024 .f32) (X12 : Vec F S512x1024 .bf16) (X14 : Vec F S512x1408 .bf16) (X15 : Vec F S512x1408 .bf16) (X16 : Vec F S512x1408 .bf16) (X17 : Vec F S512x1024 .bf16) (X18 : Vec F S512x2816 .bf16) :
    (iprop(owns (c : Thread nD τ) arg2 fullShare X2 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18
      ∗ ((owns (c : Thread nD τ) arg2 fullShare X2 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare (dyOf (yOf X2 (putR rightR X18 (hidkOf (hidOf (mmOf X17 (rowsOf i X4)) (mmOf X17 (rowsOf i X5))))) X6) X7 X8) ∗ owns (c : Thread nD τ) arg10 fullShare (addOf X10 (dgOf (yOf X2 (putR rightR X18 (hidkOf (hidOf (mmOf X17 (rowsOf i X4)) (mmOf X17 (rowsOf i X5))))) X6) X7 X8)) ∗ owns (c : Thread nD τ) arg11 fullShare (addOf X11 (sqOf (yOf X2 (putR rightR X18 (hidkOf (hidOf (mmOf X17 (rowsOf i X4)) (mmOf X17 (rowsOf i X5))))) X6) X7 X8)) ∗ owns (c : Thread nD τ) arg12 fullShare (halfOf (dyOf (yOf X2 (putR rightR X18 (hidkOf (hidOf (mmOf X17 (rowsOf i X4)) (mmOf X17 (rowsOf i X5))))) X6) X7 X8)) ∗ owns (c : Thread nD τ) arg14 fullShare (gpOf (mmOf X17 (rowsOf i X4)) (mmOf X17 (rowsOf i X5))) ∗ owns (c : Thread nD τ) arg15 fullShare (upOf (mmOf X17 (rowsOf i X4))) ∗ owns (c : Thread nD τ) arg16 fullShare (hidOf (mmOf X17 (rowsOf i X4)) (mmOf X17 (rowsOf i X5))) ∗ owns (c : Thread nD τ) arg17 fullShare X17 ∗ owns (c : Thread nD τ) arg18 fullShare (putR rightR X18 (hidkOf (hidOf (mmOf X17 (rowsOf i X4)) (mmOf X17 (rowsOf i X5)))))) -∗ Q ⟨⟩)) : sProp 𝕄)
      ⊢ runs c (case2 (F := F) i arg2 arg4 arg5 arg6 arg7 arg8 arg9 arg10 arg11 arg12 harg12 arg14 harg14 arg15 harg15 arg16 harg16 arg17 arg18 harg18) Q := by
  iintro ⟨H2, H4, H5, H6, H7, H8, H9, H10, H11, H12, H14, H15, H16, H17, H18, Hk⟩
  unfold case2
  iapply (run_load c Q arg17 _ _ fullShare _ _) $$ H17
  iintro H17
  iapply (run_load c Q arg4 _ _ fullShare _ _) $$ H4
  iintro H4
  iapply (run_load c Q arg5 _ _ fullShare _ _) $$ H5
  iintro H5
  iapply (run_load c Q arg14 _ _ fullShare _ _) $$ H14
  iintro H14
  iapply (run_store c Q arg14 _ _ _ _ _ _) $$ H14
  iintro H14
  iapply (run_load c Q arg15 _ _ fullShare _ _) $$ H15
  iintro H15
  iapply (run_store c Q arg15 _ _ _ _ _ _) $$ H15
  iintro H15
  iapply (run_load c Q arg16 _ _ fullShare _ _) $$ H16
  iintro H16
  iapply (run_store c Q arg16 _ _ _ _ _ _) $$ H16
  iintro H16
  iapply (run_load c Q arg18 _ _ fullShare _ _) $$ H18
  iintro H18
  iapply (run_store c Q arg18 _ _ _ _ _ _) $$ H18
  iintro H18
  iapply (run_load c Q arg2 _ _ fullShare _ _) $$ H2
  iintro H2
  iapply (run_load c Q arg18 _ _ fullShare _ _) $$ H18
  iintro H18
  iapply (run_load c Q arg6 _ _ fullShare _ _) $$ H6
  iintro H6
  iapply (run_load c Q arg7 _ _ fullShare _ _) $$ H7
  iintro H7
  iapply (run_load c Q arg8 _ _ fullShare _ _) $$ H8
  iintro H8
  iapply (run_load c Q arg9 _ _ fullShare _ _) $$ H9
  iintro H9
  iapply (run_store c Q arg9 _ _ _ _ _ _) $$ H9
  iintro H9
  iapply (run_load c Q arg12 _ _ fullShare _ _) $$ H12
  iintro H12
  iapply (run_store c Q arg12 _ _ _ _ _ _) $$ H12
  iintro H12
  iapply (run_load c Q arg10 _ _ fullShare _ _) $$ H10
  iintro H10
  iapply (run_load c Q arg10 _ _ fullShare _ _) $$ H10
  iintro H10
  iapply (run_store c Q arg10 _ _ _ _ _ _) $$ H10
  iintro H10
  iapply (run_load c Q arg11 _ _ fullShare _ _) $$ H11
  iintro H11
  iapply (run_load c Q arg11 _ _ fullShare _ _) $$ H11
  iintro H11
  iapply (run_store c Q arg11 _ _ _ _ _ _) $$ H11
  iintro H11
  simp only [take_all (s := S512x1024) ![0, 0] inb_S512x1024_S512x1024_0_0 zero2, take_all (s := S512x1408) ![0, 0] inb_S512x1408_S512x1408_0_0 zero2, putR_all (s := S512x1408) ![0, 0] inb_S512x1408_S512x1408_0_0 zero2, take_all (s := S512x2816) ![0, 0] inb_S512x2816_S512x2816_0_0 zero2, take_all (s := S2816x1024) ![0, 0] inb_S2816x1024_S2816x1024_0_0 zero2, take_all (s := S1x1024) ![0, 0] inb_S1x1024_S1x1024_0_0 zero2, putR_all (s := S512x1024) ![0, 0] inb_S512x1024_S512x1024_0_0 zero2, putR_all (s := S1x1024) ![0, 0] inb_S1x1024_S1x1024_0_0 zero2]
  unfold runs
  rw [wp_ret]
  imodintro
  iapply Hk
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H15]; · iexact H15
  isplitl [H16]; · iexact H16
  isplitl [H17]; · iexact H17
  iexact H18

end Cert.LossIdeal.Gen
-- ==== Proof.LossData.lean ====
module

public import proofs.«01_k».proof.Proof.LossRun
public import Idealize.ShloMosaic.Lib.Claim

@[expose] public section

set_option maxRecDepth 16384

noncomputable section

namespace Cert.LossIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem hc1 (t : Fin cfg0.N) : k0_cond1 (grid0.coords t) = 1#1 ↔ t.val % 2 = 0 :=
  (fun t => by
    have ht : t.val < 32 := Nat.lt_of_lt_of_eq t.isLt N_0
    have e1 : (grid0.coords t 1).val = t.val / 1 % 2 := Pipeline.Grid.coords_val t 1 (by decide) rfl
    simp only [k0_cond1, e1]
    word_cmp
   : ∀ t : Fin grid0.N, k0_cond1 (grid0.coords t) = 1#1 ↔ t.val % 2 = 0) t

theorem hc4 (t : Fin cfg0.N) : k0_cond4 (grid0.coords t) = 1#1 ↔ t.val % 2 = 1 :=
  (fun t => by
    have ht : t.val < 32 := Nat.lt_of_lt_of_eq t.isLt N_0
    have e1 : (grid0.coords t 1).val = t.val / 1 % 2 := Pipeline.Grid.coords_val t 1 (by decide) rfl
    simp only [k0_cond4, e1]
    word_cmp
   : ∀ t : Fin grid0.N, k0_cond4 (grid0.coords t) = 1#1 ↔ t.val % 2 = 1) t

theorem hc5 (t : Fin cfg0.N) : k0_cond5 (grid0.coords t) = 1#1 ↔ t.val < 2 :=
  (fun t => by
    have ht : t.val < 32 := Nat.lt_of_lt_of_eq t.isLt N_0
    have e1 : (grid0.coords t 0).val = t.val / 2 % 16 := Pipeline.Grid.coords_val t 0 (by decide) rfl
    simp only [k0_cond5, e1]
    word_cmp
   : ∀ t : Fin grid0.N, k0_cond5 (grid0.coords t) = 1#1 ↔ t.val < 2) t

theorem hc7 (t : Fin cfg0.N) : k0_cond7 (grid0.coords t) = 1#1 ↔ t.val < 2 :=
  (fun t => by
    have ht : t.val < 32 := Nat.lt_of_lt_of_eq t.isLt N_0
    have e1 : (grid0.coords t 0).val = t.val / 2 % 16 := Pipeline.Grid.coords_val t 0 (by decide) rfl
    simp only [k0_cond7, e1]
    word_cmp
   : ∀ t : Fin grid0.N, k0_cond7 (grid0.coords t) = 1#1 ↔ t.val < 2) t

theorem later_word : ∀ n : Fin 16, (Scalar.cmpi .ne (Scalar.extui (Scalar.xori (Scalar.cmpi .eq (BitVec.ofNat 32 n.val) 0#32) 1#1) : BitVec 32) 0#32 = 1#1 ↔ n.val ≠ 0) := by
  decide

theorem hc6 (t : Fin cfg0.N) : k0_cond6 (grid0.coords t) = 1#1 ↔ ¬t.val < 2 := by
  have ht : t.val < 32 := Nat.lt_of_lt_of_eq t.isLt N_0
  have e1 : (grid0.coords t 0).val = t.val / 2 % 16 := Pipeline.Grid.coords_val t 0 (by decide) rfl
  refine (later_word (grid0.coords t 0)).trans ?_
  rw [e1]
  omega

theorem hc8 (t : Fin cfg0.N) : k0_cond8 (grid0.coords t) = 1#1 ↔ ¬t.val < 2 := by
  have ht : t.val < 32 := Nat.lt_of_lt_of_eq t.isLt N_0
  have e1 : (grid0.coords t 0).val = t.val / 2 % 16 := Pipeline.Grid.coords_val t 0 (by decide) rfl
  refine (later_word (grid0.coords t 0)).trans ?_
  rw [e1]
  omega

theorem bit_zero (b : BitVec 1) (h : ¬b = 1#1) : b = 0#1 := by
  revert h; revert b; decide

theorem word_even (t : Fin cfg0.N) (h : t.val % 2 = 0) : k0_word (grid0.coords t) = 0#32 := by
  have e1 : (grid0.coords t 1).val = t.val / 1 % 2 := Pipeline.Grid.coords_val t 1 (by decide) rfl
  have e2 : (grid0.coords t 1).val = 0 := by rw [e1]; omega
  unfold k0_word; rw [e2]; rfl

theorem word_odd (t : Fin cfg0.N) (h : t.val % 2 = 1) : k0_word (grid0.coords t) = 1#32 := by
  have e1 : (grid0.coords t 1).val = t.val / 1 % 2 := Pipeline.Grid.coords_val t 1 (by decide) rfl
  have e2 : (grid0.coords t 1).val = 1 := by rw [e1]; omega
  unfold k0_word; rw [e2]; rfl

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_7 : ∀ t : Fin cfg0.N, t.val % 2 = 1 → cfg0.idle 7 (grid0.coords t) = false := fun t h => by
  show (!(k0_cond4 (grid0.coords t) == 1#1)) = false
  rw [(hc4 t).2 h]; rfl
theorem idleAt0_7 : ∀ t : Fin cfg0.N, t.val % 2 = 0 → cfg0.idle 7 (grid0.coords t) = true := fun t h => by
  show (!(k0_cond4 (grid0.coords t) == 1#1)) = true
  rw [bit_zero (k0_cond4 (grid0.coords t)) (fun e => by have := (hc4 t).1 e; omega)]; rfl
theorem noFlush0_7 : ∀ t : Fin cfg0.N, t.val % 2 = 0 → (cfg0.win 7).flush t = false := fun t h =>
  Bool.eq_false_iff.2 fun e => by have := (flush0_7 t).1 e; omega
theorem liveAt0_10 : ∀ t : Fin cfg0.N, t.val % 2 = 1 → cfg0.idle 10 (grid0.coords t) = false := fun t h => by
  show (!(k0_cond4 (grid0.coords t) == 1#1)) = false
  rw [(hc4 t).2 h]; rfl
theorem idleAt0_10 : ∀ t : Fin cfg0.N, t.val % 2 = 0 → cfg0.idle 10 (grid0.coords t) = true := fun t h => by
  show (!(k0_cond4 (grid0.coords t) == 1#1)) = true
  rw [bit_zero (k0_cond4 (grid0.coords t)) (fun e => by have := (hc4 t).1 e; omega)]; rfl
theorem noFlush0_10 : ∀ t : Fin cfg0.N, t.val % 2 = 0 → (cfg0.win 10).flush t = false := fun t h =>
  Bool.eq_false_iff.2 fun e => by have := (flush0_10 t).1 e; omega
theorem liveAt0_8 : ∀ t : Fin cfg0.N, t.val % 2 = 1 → cfg0.idle 8 (grid0.coords t) = false := fun t h => by
  show (!(k0_cond4 (grid0.coords t) == 1#1 && k0_cond5 (grid0.coords t) == 1#1) && !(k0_cond4 (grid0.coords t) == 1#1 && k0_cond6 (grid0.coords t) == 1#1)) = false
  rw [(hc4 t).2 h]
  by_cases h2 : t.val < 2
  · rw [(hc5 t).2 h2]; rfl
  · rw [(hc6 t).2 h2, bit_zero (k0_cond5 (grid0.coords t)) (fun e => h2 ((hc5 t).1 e))]; rfl
theorem idleAt0_8 : ∀ t : Fin cfg0.N, t.val % 2 = 0 → cfg0.idle 8 (grid0.coords t) = true := fun t h => by
  show (!(k0_cond4 (grid0.coords t) == 1#1 && k0_cond5 (grid0.coords t) == 1#1) && !(k0_cond4 (grid0.coords t) == 1#1 && k0_cond6 (grid0.coords t) == 1#1)) = true
  rw [bit_zero (k0_cond4 (grid0.coords t)) (fun e => by have := (hc4 t).1 e; omega)]; rfl
theorem noFlush0_8 : ∀ t : Fin cfg0.N, ¬t.val = 31 → (cfg0.win 8).flush t = false := fun t h =>
  Bool.eq_false_iff.2 fun e => by have := (flush0_8 t).1 e; have ht : t.val < 32 := Nat.lt_of_lt_of_eq t.isLt N_0; omega
theorem liveAt0_9 : ∀ t : Fin cfg0.N, t.val % 2 = 1 → cfg0.idle 9 (grid0.coords t) = false := fun t h => by
  show (!(k0_cond4 (grid0.coords t) == 1#1 && k0_cond7 (grid0.coords t) == 1#1) && !(k0_cond4 (grid0.coords t) == 1#1 && k0_cond8 (grid0.coords t) == 1#1)) = false
  rw [(hc4 t).2 h]
  by_cases h2 : t.val < 2
  · rw [(hc7 t).2 h2]; rfl
  · rw [(hc8 t).2 h2, bit_zero (k0_cond7 (grid0.coords t)) (fun e => h2 ((hc7 t).1 e))]; rfl
theorem idleAt0_9 : ∀ t : Fin cfg0.N, t.val % 2 = 0 → cfg0.idle 9 (grid0.coords t) = true := fun t h => by
  show (!(k0_cond4 (grid0.coords t) == 1#1 && k0_cond7 (grid0.coords t) == 1#1) && !(k0_cond4 (grid0.coords t) == 1#1 && k0_cond8 (grid0.coords t) == 1#1)) = true
  rw [bit_zero (k0_cond4 (grid0.coords t)) (fun e => by have := (hc4 t).1 e; omega)]; rfl
theorem noFlush0_9 : ∀ t : Fin cfg0.N, ¬t.val = 31 → (cfg0.win 9).flush t = false := fun t h =>
  Bool.eq_false_iff.2 fun e => by have := (flush0_9 t).1 e; have ht : t.val < 32 := Nat.lt_of_lt_of_eq t.isLt N_0; omega
theorem liveAt0_11 : ∀ t : Fin cfg0.N, t.val % 2 = 0 → cfg0.idle 11 (grid0.coords t) = false := fun t h => by
  show (!(k0_cond1 (grid0.coords t) == 1#1)) = false
  rw [(hc1 t).2 h]; rfl
theorem idleAt0_11 : ∀ t : Fin cfg0.N, t.val % 2 = 1 → cfg0.idle 11 (grid0.coords t) = true := fun t h => by
  show (!(k0_cond1 (grid0.coords t) == 1#1)) = true
  rw [bit_zero (k0_cond1 (grid0.coords t)) (fun e => by have := (hc1 t).1 e; omega)]; rfl
theorem noFlush0_11 : ∀ t : Fin cfg0.N, t.val % 2 = 0 → (cfg0.win 11).flush t = false := fun t h =>
  Bool.eq_false_iff.2 fun e => by have := (flush0_11 t).1 e; omega

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2816x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2816x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1408 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1408 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1408 .bf16 := win0_14.stage (cfg0.slots t 14)
abbrev hs0_14 (t : Fin cfg0.N) : (ms0_14 t).IsWhole := hstage0_14 ((cfg0.slots t 14).cast nbuf0_14)

abbrev scM0_0 : Memref sig .tc .vmem S512x1024 .bf16 := Memref.whole cc0_scratch0
abbrev scM0_1 : Memref sig .tc .vmem S512x2816 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What each point computes -/

/-- The two halves of the gated product side by side. -/
def joinH (a b : Vec F S512x1408 .bf16) : Vec F S512x2816 .bf16 :=
  putR rightR (putR leftR (fun _ => Scalar.ofBits .bf16 0#16) a) b

theorem left_emb (x : S512x1408.Idx) (a : Fin 2) : (leftR.emb x a).val = (x a).val := by
  show (![0, 0] : Fin 2 → ℕ) a + 1 * (x a).val = (x a).val
  have h : (![0, 0] : Fin 2 → ℕ) a = 0 := zero2 a
  omega

theorem right_emb (x : S512x1408.Idx) (a : Fin 2) : (rightR.emb x a).val = (![0, 1408] : Fin 2 → ℕ) a + (x a).val := by
  show (![0, 1408] : Fin 2 → ℕ) a + 1 * (x a).val = _
  omega

theorem join_left (D : Vec F S512x2816 .bf16) (a b : Vec F S512x1408 .bf16) (x : S512x1408.Idx) :
    putR rightR (putR leftR D a) b (leftR.emb x) = a x := by
  rw [putR_miss, putR_hit]
  intro z hz
  have h1 := congrArg (fun i => (i 1).val) hz
  have h2 := right_emb z 1
  have h3 := left_emb x 1
  have h4 : (x 1).val < 1408 := (x 1).isLt
  have h5 : (![0, 1408] : Fin 2 → ℕ) 1 = 1408 := rfl
  simp only at h1
  omega

theorem join_right (D : Vec F S512x2816 .bf16) (a b : Vec F S512x1408 .bf16) (x : S512x1408.Idx) :
    putR rightR (putR leftR D a) b (rightR.emb x) = b x := putR_hit _ _ _ _

theorem half_cases (y : S512x2816.Idx) : (∃ x, leftR.emb x = y) ∨ (∃ x, rightR.emb x = y) := by
  have hy : (y 1).val < 2816 := (y 1).isLt
  by_cases h : (y 1).val < 1408
  · refine .inl ⟨fun | 0 => ⟨(y 0).val, (y 0).isLt⟩ | 1 => ⟨(y 1).val, h⟩, ?_⟩
    funext a
    apply Fin.ext
    rw [left_emb]
    match a with | 0 => rfl | 1 => rfl
  · refine .inr ⟨fun | 0 => ⟨(y 0).val, (y 0).isLt⟩ | 1 => ⟨(y 1).val - 1408, by show _ < 1408; omega⟩, ?_⟩
    funext a
    apply Fin.ext
    rw [right_emb]
    match a with
    | 0 => show 0 + (y 0).val = (y 0).val; omega
    | 1 => show 1408 + ((y 1).val - 1408) = (y 1).val; omega

theorem join_eq (D : Vec F S512x2816 .bf16) (a b : Vec F S512x1408 .bf16) :
    putR rightR (putR leftR D a) b = joinH a b := by
  funext y
  unfold joinH
  rcases half_cases y with ⟨x, rfl⟩ | ⟨x, rfl⟩
  · rw [join_left, join_left]
  · rw [join_right, join_right]

/-- The first point of a point's row block. -/
def evn (t : Fin cfg0.N) : Fin cfg0.N := ⟨t.val - t.val % 2, Nat.lt_of_le_of_lt (Nat.sub_le _ _) t.isLt⟩

theorem evn_even (t : Fin cfg0.N) (h : t.val % 2 = 0) : evn t = t := Fin.ext (by show t.val - t.val % 2 = t.val; omega)
theorem evn_evn (t : Fin cfg0.N) : evn (evn t) = evn t := evn_even _ (by show (t.val - t.val % 2) % 2 = 0; omega)
theorem evn_odd (t : Fin cfg0.N) (h : t.val % 2 = 1) : (⟨t.val - 1, Nat.lt_of_le_of_lt (Nat.sub_le _ _) t.isLt⟩ : Fin cfg0.N) = evn t :=
  Fin.ext (by show t.val - 1 = t.val - t.val % 2; omega)

def hT (c : Dev nD) (t : Fin cfg0.N) : FVec F S512x1024 .bf16 := hOf (iblk m c 0 (evn t)) (iblk m c 1 (evn t))
def hkT (c : Dev nD) (t : Fin cfg0.N) : FVec F S512x1024 .bf16 := hkOf (iblk m c 0 (evn t)) (iblk m c 1 (evn t))
def gT (c : Dev nD) (t : Fin cfg0.N) : FVec F S512x1408 .f32 := mmOf (hkT m c t) (rowsOf (grid0.coords t) (iblk m c 2 t))
def uT (c : Dev nD) (t : Fin cfg0.N) : FVec F S512x1408 .f32 := mmOf (hkT m c t) (rowsOf (grid0.coords t) (iblk m c 3 t))
def hidT (c : Dev nD) (t : Fin cfg0.N) : FVec F S512x1408 .bf16 := hidOf (gT m c t) (uT m c t)
def yT (c : Dev nD) (t : Fin cfg0.N) : FVec F S512x1024 .f32 :=
  yOf (iblk m c 0 t) (joinH (hidkOf (hidT m c (evn t))) (hidkOf (hidT m c t))) (iblk m c 4 t)
def dyT (c : Dev nD) (t : Fin cfg0.N) : FVec F S512x1024 .f32 := dyOf (yT m c t) (iblk m c 5 t) (iblk m c 6 t)
def dgT (c : Dev nD) (t : Fin cfg0.N) : FVec F S1x1024 .f32 := dgOf (yT m c t) (iblk m c 5 t) (iblk m c 6 t)
def sqT (c : Dev nD) (t : Fin cfg0.N) : FVec F S1x1024 .f32 := sqOf (yT m c t) (iblk m c 5 t) (iblk m c 6 t)

/-- The running sums after point `n`. -/
def accAt (c : Dev nD) : (n : ℕ) → n < cfg0.N → Vec F S1x1024 .f32 × Vec F S1x1024 .f32
  | 0, h => (dgT m c ⟨0, h⟩, sqT m c ⟨0, h⟩)
  | n + 1, h => if (n + 1) % 2 = 0 then accAt c n (Nat.lt_of_succ_lt h)
      else if n = 0 then (dgT m c ⟨n + 1, h⟩, sqT m c ⟨n + 1, h⟩)
      else (addOf (accAt c n (Nat.lt_of_succ_lt h)).1 (dgT m c ⟨n + 1, h⟩), addOf (accAt c n (Nat.lt_of_succ_lt h)).2 (sqT m c ⟨n + 1, h⟩))

theorem accAt_one (c : Dev nD) (t : Fin cfg0.N) (h : t.val = 1) : accAt m c t.val t.isLt = (dgT m c t, sqT m c t) := by
  obtain ⟨n, hn⟩ := t
  simp only at h
  subst h
  rfl

theorem accAt_even (c : Dev nD) (t : Fin cfg0.N) (h : t.val % 2 = 0) (hz : t.val ≠ 0) :
    accAt m c t.val t.isLt = accAt m c (t.val - 1) (Nat.lt_of_le_of_lt (Nat.sub_le _ _) t.isLt) := by
  obtain ⟨n, hn⟩ := t
  cases n with
  | zero => exact absurd rfl hz
  | succ n => exact if_pos h

theorem accAt_odd (c : Dev nD) (t : Fin cfg0.N) (h : t.val % 2 = 1) (hz : ¬t.val < 2) :
    accAt m c t.val t.isLt = (addOf (accAt m c (t.val - 1) (Nat.lt_of_le_of_lt (Nat.sub_le _ _) t.isLt)).1 (dgT m c t), addOf (accAt m c (t.val - 1) (Nat.lt_of_le_of_lt (Nat.sub_le _ _) t.isLt)).2 (sqT m c t)) := by
  obtain ⟨n, hn⟩ := t
  cases n with
  | zero => exact absurd (by show 0 < 2; omega) hz
  | succ n =>
    have h1 : ¬(n + 1) % 2 = 0 := by simp only at h; omega
    have h2 : ¬n = 0 := by simp only at hz; omega
    exact (if_neg h1).trans (if_neg h2)

/-- The scratches after a first point. -/
def PhiE (c : Dev nD) (t : Fin cfg0.N) : sProp 𝕄 :=
  iprop(iprop(owns (c : Thread nD τ) scM0_0 fullShare (hkT m c t) ∗ (∃ d, owns (c : Thread nD τ) scM0_1 fullShare (putR leftR d (hidkOf (hidT m c t))))) ∗ (∃ r, prngReg c r))

def PhiS (c : Dev nD) (n : ℕ) (h : n ≤ cfg0.N) : sProp 𝕄 :=
  if hp : n % 2 = 1 then PhiE m c ⟨n - 1, by omega⟩ else Pipeline.ΦA spec0 c

theorem PhiS_even (c : Dev nD) (n : ℕ) (h : n ≤ cfg0.N) (hz : n % 2 = 0) : PhiS m c n h = Pipeline.ΦA spec0 c := by
  unfold PhiS; rw [dif_neg (by omega)]

theorem PhiS_odd (c : Dev nD) (n : ℕ) (h : n ≤ cfg0.N) (hz : n % 2 = 1) : PhiS m c n h = PhiE m c ⟨n - 1, by omega⟩ := by
  unfold PhiS; rw [dif_pos hz]

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dyT m c t
    | ⟨8, _⟩ => (accAt m c t.val t.isLt).1
    | ⟨9, _⟩ => (accAt m c t.val t.isLt).2
    | ⟨10, _⟩ => halfOf (dyT m c t)
    | ⟨11, _⟩ => hT m c t
    | ⟨12, _⟩ => gpOf (gT m c t) (uT m c t)
    | ⟨13, _⟩ => upOf (gT m c t)
    | ⟨14, _⟩ => hidT m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dyT m c t := by dsimp only [dats]
theorem after0_8 (c : Dev nD) (t : Fin cfg0.N) : (dats m 0 c).after 8 t = (accAt m c t.val t.isLt).1 := by dsimp only [dats]
theorem after0_9 (c : Dev nD) (t : Fin cfg0.N) : (dats m 0 c).after 9 t = (accAt m c t.val t.isLt).2 := by dsimp only [dats]
theorem after0_10 (c : Dev nD) (t : Fin cfg0.N) : (dats m 0 c).after 10 t = halfOf (dyT m c t) := by dsimp only [dats]
theorem after0_11 (c : Dev nD) (t : Fin cfg0.N) : (dats m 0 c).after 11 t = hT m c t := by dsimp only [dats]
theorem after0_12 (c : Dev nD) (t : Fin cfg0.N) : (dats m 0 c).after 12 t = gpOf (gT m c t) (uT m c t) := by dsimp only [dats]
theorem after0_13 (c : Dev nD) (t : Fin cfg0.N) : (dats m 0 c).after 13 t = upOf (gT m c t) := by dsimp only [dats]
theorem after0_14 (c : Dev nD) (t : Fin cfg0.N) : (dats m 0 c).after 14 t = hidT m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem left_live (c : Dev nD) (w : Fin cfg0.W) (t : Fin cfg0.N) (hl : cfg0.idle w (grid0.coords t) = false)
    (hclip : ∀ (i : cfg0.grid.Coords) a, (cfg0.win w).clip i a = none) (d) : (dats m 0 c).left w t d = (dats m 0 c).after w t := by
  unfold Dat.left
  rw [hl]
  show (dats m 0 c).kept w t d = _
  unfold Dat.kept
  rw [Pipeline.fill_of_clip_none w _ (hclip _) d ((dats m 0 c).after w _), Pipeline.Window.fill_cut]

theorem before0_11 (c : Dev nD) (t : Fin cfg0.N) (h : t.val % 2 = 1) (d) : (dats m 0 c).before 11 t d = hT m c t := by
  rw [Dat.before_of_pos (dats m 0 c) 11 t (by omega) ((cfg0.win 11).fetch_out rfl t), evn_odd t h,
    noFlush0_11 (evn t) (by show (t.val - t.val % 2) % 2 = 0; omega), if_neg Bool.false_ne_true,
    left_live m c 11 _ (liveAt0_11 (evn t) (by show (t.val - t.val % 2) % 2 = 0; omega)) (fun _ _ => rfl), after0_11]
  unfold hT
  rw [evn_evn]

theorem before0_8 (c : Dev nD) (t : Fin cfg0.N) (h : t.val % 2 = 1) (hz : ¬t.val < 2) (d) :
    (dats m 0 c).before 8 t d = (accAt m c (t.val - 1) (Nat.lt_of_le_of_lt (Nat.sub_le _ _) t.isLt)).1 := by
  have ht : t.val < 32 := Nat.lt_of_lt_of_eq t.isLt N_0
  rw [Dat.before_of_pos (dats m 0 c) 8 t (by omega) ((cfg0.win 8).fetch_out rfl t)]
  generalize hs : (⟨t.val - 1, Nat.lt_of_le_of_lt (Nat.sub_le _ _) t.isLt⟩ : Fin cfg0.N) = s
  have hv : s.val = t.val - 1 := by rw [← hs]
  rw [noFlush0_8 s (by omega), if_neg Bool.false_ne_true]
  have e : (dats m 0 c).left 8 s d = (dats m 0 c).before 8 s d := by
    unfold Dat.left; rw [idleAt0_8 s (by omega)]
  rw [e, Dat.before_of_pos (dats m 0 c) 8 s (by omega) ((cfg0.win 8).fetch_out rfl s)]
  have ea : accAt m c (t.val - 1) (Nat.lt_of_le_of_lt (Nat.sub_le _ _) t.isLt) = accAt m c s.val s.isLt := by subst hs; rfl
  rw [ea, accAt_even m c s (by omega) (by omega)]
  generalize hs2 : (⟨s.val - 1, Nat.lt_of_le_of_lt (Nat.sub_le _ _) s.isLt⟩ : Fin cfg0.N) = u
  have hv2 : u.val = s.val - 1 := by rw [← hs2]
  rw [noFlush0_8 u (by omega), if_neg Bool.false_ne_true, left_live m c 8 u (liveAt0_8 u (by omega)) (fun _ _ => rfl), after0_8]
  subst hs2
  rfl

theorem before0_9 (c : Dev nD) (t : Fin cfg0.N) (h : t.val % 2 = 1) (hz : ¬t.val < 2) (d) :
    (dats m 0 c).before 9 t d = (accAt m c (t.val - 1) (Nat.lt_of_le_of_lt (Nat.sub_le _ _) t.isLt)).2 := by
  have ht : t.val < 32 := Nat.lt_of_lt_of_eq t.isLt N_0
  rw [Dat.before_of_pos (dats m 0 c) 9 t (by omega) ((cfg0.win 9).fetch_out rfl t)]
  generalize hs : (⟨t.val - 1, Nat.lt_of_le_of_lt (Nat.sub_le _ _) t.isLt⟩ : Fin cfg0.N) = s
  have hv : s.val = t.val - 1 := by rw [← hs]
  rw [noFlush0_9 s (by omega), if_neg Bool.false_ne_true]
  have e : (dats m 0 c).left 9 s d = (dats m 0 c).before 9 s d := by
    unfold Dat.left; rw [idleAt0_9 s (by omega)]
  rw [e, Dat.before_of_pos (dats m 0 c) 9 s (by omega) ((cfg0.win 9).fetch_out rfl s)]
  have ea : accAt m c (t.val - 1) (Nat.lt_of_le_of_lt (Nat.sub_le _ _) t.isLt) = accAt m c s.val s.isLt := by subst hs; rfl
  rw [ea, accAt_even m c s (by omega) (by omega)]
  generalize hs2 : (⟨s.val - 1, Nat.lt_of_le_of_lt (Nat.sub_le _ _) s.isLt⟩ : Fin cfg0.N) = u
  have hv2 : u.val = s.val - 1 := by rw [← hs2]
  rw [noFlush0_9 u (by omega), if_neg Bool.false_ne_true, left_live m c 9 u (liveAt0_9 u (by omega)) (fun _ _ => rfl), after0_9]
  subst hs2
  rfl

/-! ## The body at a point -/

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)

theorem bodyAt_case0 (t : Fin cfg0.N) (h : t.val % 2 = 0) : bodyAt0 (F := F) t = case0 (F := F) (grid0.coords t) (ms0_0 t) (ms0_1 t) (ms0_2 t) (ms0_3 t) (ms0_11 t) (hs0_11 t) (ms0_12 t) (hs0_12 t) (ms0_13 t) (hs0_13 t) (ms0_14 t) (hs0_14 t) scM0_0 (Memref.isWhole_whole _) scM0_1 (Memref.isWhole_whole _) := by
  refine Eq.trans (body_eq (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)) ?_
  rw [(hc1 t).2 h, word_even t h, bit_zero (k0_cond4 (grid0.coords t)) (fun e => by have := (hc4 t).1 e; omega)]
  exact case0_eq (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) _ _ _ _

theorem bodyAt_case1 (t : Fin cfg0.N) (h : t.val % 2 = 1) (h2 : t.val < 2) : bodyAt0 (F := F) t = case1 (F := F) (grid0.coords t) (ms0_0 t) (ms0_2 t) (ms0_3 t) (ms0_4 t) (ms0_5 t) (ms0_6 t) (ms0_7 t) (ms0_8 t) (ms0_9 t) (ms0_10 t) (hs0_10 t) (ms0_12 t) (hs0_12 t) (ms0_13 t) (hs0_13 t) (ms0_14 t) (hs0_14 t) scM0_0 scM0_1 (Memref.isWhole_whole _) := by
  refine Eq.trans (body_eq (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)) ?_
  rw [bit_zero (k0_cond1 (grid0.coords t)) (fun e => by have := (hc1 t).1 e; omega), word_odd t h, (hc4 t).2 h, (hc5 t).2 h2, bit_zero (k0_cond6 (grid0.coords t)) (fun e => (hc6 t).1 e h2), (hc7 t).2 h2, bit_zero (k0_cond8 (grid0.coords t)) (fun e => (hc8 t).1 e h2)]
  exact case1_eq (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)

theorem bodyAt_case2 (t : Fin cfg0.N) (h : t.val % 2 = 1) (h2 : ¬t.val < 2) : bodyAt0 (F := F) t = case2 (F := F) (grid0.coords t) (ms0_0 t) (ms0_2 t) (ms0_3 t) (ms0_4 t) (ms0_5 t) (ms0_6 t) (ms0_7 t) (ms0_8 t) (ms0_9 t) (ms0_10 t) (hs0_10 t) (ms0_12 t) (hs0_12 t) (ms0_13 t) (hs0_13 t) (ms0_14 t) (hs0_14 t) scM0_0 scM0_1 (Memref.isWhole_whole _) := by
  refine Eq.trans (body_eq (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)) ?_
  rw [bit_zero (k0_cond1 (grid0.coords t)) (fun e => by have := (hc1 t).1 e; omega), word_odd t h, (hc4 t).2 h, bit_zero (k0_cond5 (grid0.coords t)) (fun e => h2 ((hc5 t).1 e)), (hc6 t).2 h2, bit_zero (k0_cond7 (grid0.coords t)) (fun e => h2 ((hc7 t).1 e)), (hc8 t).2 h2]
  exact case2_eq (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _)

set_option maxHeartbeats 3200000 in
theorem sound_case0 (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  rw [Dat.leavesExact_idle (dats m 0 c) 7 t (idleAt0_7 t h) (noFlush0_7 t h)]
  rw [Dat.leavesExact_idle (dats m 0 c) 8 t (idleAt0_8 t h) (noFlush0_8 t (by omega))]
  rw [Dat.leavesExact_idle (dats m 0 c) 9 t (idleAt0_9 t h) (noFlush0_9 t (by omega))]
  rw [Dat.leavesExact_idle (dats m 0 c) 10 t (idleAt0_10 t h) (noFlush0_10 t h)]
  rw [show (dats m 0 c).leavesExact 11 t = owns (c : Thread nD τ) (ms0_11 t) fullShare ((dats m 0 c).after 11 t) from by
        unfold Dat.leavesExact; rw [liveAt0_11 t h], after0_11]
  rw [show (dats m 0 c).leavesExact 12 t = owns (c : Thread nD τ) (ms0_12 t) fullShare ((dats m 0 c).after 12 t) from by
        unfold Dat.leavesExact; rw [liveAt0_12 t], after0_12]
  rw [show (dats m 0 c).leavesExact 13 t = owns (c : Thread nD τ) (ms0_13 t) fullShare ((dats m 0 c).after 13 t) from by
        unfold Dat.leavesExact; rw [liveAt0_13 t], after0_13]
  rw [show (dats m 0 c).leavesExact 14 t = owns (c : Thread nD τ) (ms0_14 t) fullShare ((dats m 0 c).after 14 t) from by
        unfold Dat.leavesExact; rw [liveAt0_14 t], after0_14]
  rw [PhiS_castSucc m c t, PhiS_even m c _ _ h, PhiS_odd m c (t.val + 1) _ (by omega), PhiA0_eq]
  rw [show (⟨t.val + 1 - 1, by omega⟩ : Fin cfg0.N) = t from Fin.ext (Nat.add_sub_cancel _ _)]
  unfold PhiE
  dsimp only [hidT, gT, uT, hkT, hT]
  rw [evn_even t h, bodyAt_case0 t h]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_case0 c (grid0.coords t) (ms0_0 t) (ms0_1 t) (ms0_2 t) (ms0_3 t) (ms0_11 t) (hs0_11 t) (ms0_12 t) (hs0_12 t) (ms0_13 t) (hs0_13 t) (ms0_14 t) (hs0_14 t) scM0_0 (Memref.isWhole_whole _) scM0_1 (Memref.isWhole_whole _) _ _ _ _ _ _ _ _ _ _ _)
  isplitl [H0]; · iexact H0
  isplitl [H1]; · iexact H1
  isplitl [H2]; · iexact H2
  isplitl [H3]; · iexact H3
  isplitl [H11]; · iexact H11
  isplitl [H12]; · iexact H12
  isplitl [H13]; · iexact H13
  isplitl [H14]; · iexact H14
  isplitl [HS0]; · iexact HS0
  isplitl [HS1]; · iexact HS1
  iintro ⟨H0, H1, H2, H3, H11, H12, H13, H14, HS0, HS1⟩
  isplitl [HS0 HS1 Hg]
  · isplitl [HS0 HS1]
    · isplitl [HS0]; · iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  isplitl [H12]; · iexact H12
  isplitl [H13]; · iexact H13
  iexact H14

set_option maxHeartbeats 3200000 in
theorem sound_case1 (c : Dev nD) (t : Fin cfg0.N) (h : t.val % 2 = 1) (h2 : t.val < 2) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_11 m c t h]
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  rw [show (dats m 0 c).leavesExact 7 t = owns (c : Thread nD τ) (ms0_7 t) fullShare ((dats m 0 c).after 7 t) from by
        unfold Dat.leavesExact; rw [liveAt0_7 t h], after0_7]
  rw [show (dats m 0 c).leavesExact 8 t = owns (c : Thread nD τ) (ms0_8 t) fullShare ((dats m 0 c).after 8 t) from by
        unfold Dat.leavesExact; rw [liveAt0_8 t h], after0_8]
  rw [show (dats m 0 c).leavesExact 9 t = owns (c : Thread nD τ) (ms0_9 t) fullShare ((dats m 0 c).after 9 t) from by
        unfold Dat.leavesExact; rw [liveAt0_9 t h], after0_9]
  rw [show (dats m 0 c).leavesExact 10 t = owns (c : Thread nD τ) (ms0_10 t) fullShare ((dats m 0 c).after 10 t) from by
        unfold Dat.leavesExact; rw [liveAt0_10 t h], after0_10]
  rw [show (dats m 0 c).leavesExact 11 t = owns (c : Thread nD τ) (ms0_11 t) fullShare ((dats m 0 c).after 11 t) from by
        unfold Dat.leavesExact; rw [idleAt0_11 t h, (flush0_11 t).2 h], after0_11]
  rw [show (dats m 0 c).leavesExact 12 t = owns (c : Thread nD τ) (ms0_12 t) fullShare ((dats m 0 c).after 12 t) from by
        unfold Dat.leavesExact; rw [liveAt0_12 t], after0_12]
  rw [show (dats m 0 c).leavesExact 13 t = owns (c : Thread nD τ) (ms0_13 t) fullShare ((dats m 0 c).after 13 t) from by
        unfold Dat.leavesExact; rw [liveAt0_13 t], after0_13]
  rw [show (dats m 0 c).leavesExact 14 t = owns (c : Thread nD τ) (ms0_14 t) fullShare ((dats m 0 c).after 14 t) from by
        unfold Dat.leavesExact; rw [liveAt0_14 t], after0_14]
  rw [PhiS_castSucc m c t, PhiS_odd m c _ _ h, PhiS_even m c (t.val + 1) _ (by omega), PhiA0_eq, evn_odd t h]
  unfold PhiE
  rw [accAt_one m c t (by omega), bodyAt_case1 t h h2]
  dsimp only [dyT, dgT, sqT, yT]
  iintro ⟨⟨⟨HS0, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [← join_eq s1]
  rw [show hkT m c (evn t) = hkT m c t from by unfold hkT; rw [evn_evn]]
  iapply (run_case1 c (grid0.coords t) (ms0_0 t) (ms0_2 t) (ms0_3 t) (ms0_4 t) (ms0_5 t) (ms0_6 t) (ms0_7 t) (ms0_8 t) (ms0_9 t) (ms0_10 t) (hs0_10 t) (ms0_12 t) (hs0_12 t) (ms0_13 t) (hs0_13 t) (ms0_14 t) (hs0_14 t) scM0_0 scM0_1 (Memref.isWhole_whole _) _ _ _ _ _ _ _ _ _ _ _ _ _ _ _ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [HS0]; · iexact HS0
  isplitl [HS1]; · iexact HS1
  iintro ⟨H0, H2, H3, H4, H5, H6, H7, H8, H9, H10, H12, H13, H14, HS0, HS1⟩
  isplitl [HS0 HS1 Hg]
  · isplitl [HS0 HS1]
    · isplitl [HS0]; · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 3200000 in
theorem sound_case2 (c : Dev nD) (t : Fin cfg0.N) (h : t.val % 2 = 1) (h2 : ¬t.val < 2) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_11 m c t h, before0_8 m c t h h2, before0_9 m c t h h2]
  rw [show (dats m 0 c).owesAt () t.succ = (dats m 0 c).owesAt () t.castSucc from rfl]
  rw [show (dats m 0 c).Φ t.succ = PhiS m c (t.val + 1) t.isLt from rfl]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  rw [show (dats m 0 c).leavesExact 7 t = owns (c : Thread nD τ) (ms0_7 t) fullShare ((dats m 0 c).after 7 t) from by
        unfold Dat.leavesExact; rw [liveAt0_7 t h], after0_7]
  rw [show (dats m 0 c).leavesExact 8 t = owns (c : Thread nD τ) (ms0_8 t) fullShare ((dats m 0 c).after 8 t) from by
        unfold Dat.leavesExact; rw [liveAt0_8 t h], after0_8]
  rw [show (dats m 0 c).leavesExact 9 t = owns (c : Thread nD τ) (ms0_9 t) fullShare ((dats m 0 c).after 9 t) from by
        unfold Dat.leavesExact; rw [liveAt0_9 t h], after0_9]
  rw [show (dats m 0 c).leavesExact 10 t = owns (c : Thread nD τ) (ms0_10 t) fullShare ((dats m 0 c).after 10 t) from by
        unfold Dat.leavesExact; rw [liveAt0_10 t h], after0_10]
  rw [show (dats m 0 c).leavesExact 11 t = owns (c : Thread nD τ) (ms0_11 t) fullShare ((dats m 0 c).after 11 t) from by
        unfold Dat.leavesExact; rw [idleAt0_11 t h, (flush0_11 t).2 h], after0_11]
  rw [show (dats m 0 c).leavesExact 12 t = owns (c : Thread nD τ) (ms0_12 t) fullShare ((dats m 0 c).after 12 t) from by
        unfold Dat.leavesExact; rw [liveAt0_12 t], after0_12]
  rw [show (dats m 0 c).leavesExact 13 t = owns (c : Thread nD τ) (ms0_13 t) fullShare ((dats m 0 c).after 13 t) from by
        unfold Dat.leavesExact; rw [liveAt0_13 t], after0_13]
  rw [show (dats m 0 c).leavesExact 14 t = owns (c : Thread nD τ) (ms0_14 t) fullShare ((dats m 0 c).after 14 t) from by
        unfold Dat.leavesExact; rw [liveAt0_14 t], after0_14]
  rw [PhiS_castSucc m c t, PhiS_odd m c _ _ h, PhiS_even m c (t.val + 1) _ (by omega), PhiA0_eq, evn_odd t h]
  unfold PhiE
  rw [accAt_odd m c t h h2, bodyAt_case2 t h h2]
  dsimp only [dyT, dgT, sqT, yT]
  iintro ⟨⟨⟨HS0, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [← join_eq s1]
  rw [show hkT m c (evn t) = hkT m c t from by unfold hkT; rw [evn_evn]]
  iapply (run_case2 c (grid0.coords t) (ms0_0 t) (ms0_2 t) (ms0_3 t) (ms0_4 t) (ms0_5 t) (ms0_6 t) (ms0_7 t) (ms0_8 t) (ms0_9 t) (ms0_10 t) (hs0_10 t) (ms0_12 t) (hs0_12 t) (ms0_13 t) (hs0_13 t) (ms0_14 t) (hs0_14 t) scM0_0 scM0_1 (Memref.isWhole_whole _) _ _ _ _ _ _ _ _ _ _ _ _ _ _ _ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [HS0]; · iexact HS0
  isplitl [HS1]; · iexact HS1
  iintro ⟨H0, H2, H3, H4, H5, H6, H7, H8, H9, H10, H12, H13, H14, HS0, HS1⟩
  isplitl [HS0 HS1 Hg]
  · isplitl [HS0 HS1]
    · isplitl [HS0]; · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_body (c : Dev nD) (t : Fin cfg0.N) :
    bodyPre m c t ⊢ wp frame (wpE (defs₀ (F := F)) Variants.none c none) Set.univ (bodyAt0 t) (fun _ => bodyPost m c t) := by
  by_cases h : t.val % 2 = 0
  · exact sound_case0 m c t h
  · by_cases h2 : t.val < 2
    · exact sound_case1 m c t (by omega) h2
    · exact sound_case2 m c t (by omega) h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_even m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_even m c _ _ (by have : cfg0.N = 32 := N_0; omega)]
  try exact Idealize.SL.BI.Entails.refl _

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  θ_run_and (frame_of m ρ (dats m) (A_eq m) (run_main m ρ)) ((θ_run defs _ _).mono (fun _ h => h.2) (run_main_quiescent m ρ))

end Cert.LossIdeal.Gen

end
-- ==== Proof.LossSame.lean ====
/- The printed program and its reading at the extended reals are the same text, so the frame of the one is the
   frame of the other. -/
module

public import proofs.«01_k».proof.Proof.LossData
public import proofs.«01_k».proof.Proof.Gen.Loss.Frame

@[expose] public section

noncomputable section

namespace Cert.Loss.Gen

open Idealize.ShloMosaic Idealize.ShloMosaic.TcCoe
open Idealize.SL Idealize.SL.RA Idealize.SL.Sem

variable {F : FTy → Type} [FloatOps F]

set_option maxRecDepth 100000 in
set_option maxHeartbeats 4000000 in
/-- The two host programs are one text. -/
theorem main_same : main (F := F) = LossIdeal.main (F := F) := by
  rfl

set_option maxRecDepth 100000 in
set_option maxHeartbeats 4000000 in
/-- The two texts of the body's first part agree. -/
theorem part1_same : @k0_part1 F _ _ = @LossIdeal.k0_part1 F _ _ := by
  rfl

set_option maxRecDepth 100000 in
set_option maxHeartbeats 4000000 in
/-- The two texts of the body's second part agree. -/
theorem part2_same : @k0_part2 F _ _ = @LossIdeal.k0_part2 F _ _ := by
  unfold k0_part2 LossIdeal.k0_part2
  rfl

set_option maxRecDepth 100000 in
set_option maxHeartbeats 4000000 in
/-- The two pipelines agree. -/
theorem pcfgs_same : pcfgs (F := F) = LossIdeal.pcfgs (F := F) := by
  rfl

set_option maxRecDepth 100000 in
set_option maxHeartbeats 4000000 in
/-- The two tables of definitions agree once the bodies do. -/
theorem defs_same (h : defs₀ (F := F) = LossIdeal.defs₀ (F := F)) : defs (F := F) = LossIdeal.defs (F := F) := by
  unfold defs LossIdeal.defs
  exact congrArg (Pipeline.defs (pcfgs (F := F)) ) h

set_option maxRecDepth 100000 in
set_option maxHeartbeats 4000000 in
/-- The two texts of the kernel's body agree. -/
theorem body_same : @cc0_ffn2_fwd_loss F _ _ = @LossIdeal.cc0_ffn2_fwd_loss F _ _ := by
  unfold cc0_ffn2_fwd_loss LossIdeal.cc0_ffn2_fwd_loss
  rw [part1_same, part2_same]
  rfl

set_option maxRecDepth 100000 in
set_option maxHeartbeats 4000000 in
/-- The two tables of the kernels' bodies agree. -/
theorem defs0_same : defs₀ (F := F) = LossIdeal.defs₀ (F := F) := by
  unfold defs₀ LossIdeal.defs₀
  rw [body_same]
  refine congrArg Defs.onTc ?_
  funext l a
  match l, a with
  | 0, (t, s) => rfl

/-- The printed program ends, leaves its arguments as they were and every counter at zero. -/
theorem frame (m : (ℓ : Loc nD τ sig) → Buf (Elt F) ℓ) (ρ : Dev nD → PrngReg) : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0)  := by
  rw [defs_same defs0_same, main_same]
  exact LossIdeal.Gen.frame m ρ

end Cert.Loss.Gen

end

end
-- ==== Proof.LossMath.lean ====
/- The entries of the forward pass of a feed-forward block into the loss, and of the loss's gradient at the block's
   output, over the extended reals. -/
module

public import Idealize.ShloMosaic.Lib.Pointwise

@[expose] public section

noncomputable section

namespace Cert.LossMath

open Idealize Idealize.ShloMosaic

/-- The row length 1024, the norm's epsilon, 1/1024 and 1/2, as the programs' constants. -/
abbrev cLen : EReal := Ideal.ofBits .f32 0x44800000#32
abbrev cEps : EReal := Ideal.ofBits .f32 0x358637BD#32
abbrev cInv : EReal := Ideal.ofBits .f32 0x3A800000#32
abbrev cHf : EReal := Ideal.ofBits .f32 0x3F000000#32

/-- The logistic function. -/
abbrev lg (x : EReal) : EReal := Ideal.div 1 (1 + Ideal.exp (-x))

/-- A row's mean square plus epsilon. -/
abbrev nrm (f : Fin 1024 → EReal) : EReal := Ideal.div (∑ d : Fin 1024, f d * f d) cLen + cEps

/-- The residual stream, the norm's scale, the three weights, the last norm's scale and the target. -/
structure Args where
  x : Fin 8192 → Fin 1024 → EReal
  gn : Fin 1024 → EReal
  wg : Fin 2816 → Fin 1024 → EReal
  wu : Fin 2816 → Fin 1024 → EReal
  wd : Fin 2816 → Fin 1024 → EReal
  gf : Fin 1024 → EReal
  tg : Fin 8192 → Fin 1024 → EReal

variable (A : Args)

/-- The normalized stream, its two projections, and their gated product. -/
def h (R : Fin 8192) (d : Fin 1024) : EReal := A.x R d * Ideal.rsqrt (nrm (A.x R)) * A.gn d
def g (R : Fin 8192) (e : Fin 2816) : EReal := ∑ d : Fin 1024, h A R d * A.wg e d
def u (R : Fin 8192) (e : Fin 2816) : EReal := ∑ d : Fin 1024, h A R d * A.wu e d
def gate (R : Fin 8192) (e : Fin 2816) : EReal := g A R e * lg (g A R e)
def hid (R : Fin 8192) (e : Fin 2816) : EReal := gate A R e * u A R e
/-- The gate's derivative against the second projection. -/
def gp (R : Fin 8192) (e : Fin 2816) : EReal := u A R e * (lg (g A R e) * (1 + g A R e * (1 - lg (g A R e))))
/-- The block's output, its difference from the target once normalized, and the gradients. -/
def y (R : Fin 8192) (d : Fin 1024) : EReal := A.x R d + cHf * ∑ e : Fin 2816, hid A R e * A.wd e d
def r (R : Fin 8192) : EReal := Ideal.rsqrt (nrm (y A R))
def dm (R : Fin 8192) (d : Fin 1024) : EReal := y A R d * r A R * A.gf d - A.tg R d
def du (R : Fin 8192) (d : Fin 1024) : EReal := dm A R d * cInv
def dy (R : Fin 8192) (d : Fin 1024) : EReal :=
  r A R * (du A R d * A.gf d) - y A R d * (r A R * r A R * r A R * ((∑ k : Fin 1024, du A R k * A.gf k * y A R k) * cInv))
/-- A row's part of the last scale's gradient, and of the squared differences. -/
def dgTerm (d : Fin 1024) (R : Fin 8192) : EReal := du A R d * (y A R d * r A R)
def sqTerm (d : Fin 1024) (R : Fin 8192) : EReal := dm A R d * dm A R d

end Cert.LossMath

end
-- ==== Proof.LossValue.lean ====
/- The values of the forward and loss kernel. A row block takes two points: each projects half of the hidden columns and
   keeps its half of the gated product, and the second contracts the whole product, normalizes, and takes the loss's
   gradient; the sums over the rows are kept over the 16 row blocks. -/
module

public import proofs.«01_k».proof.Proof.LossData
public import proofs.«01_k».proof.Proof.LossMath
public import proofs.«01_k».proof.Proof.TileSums
public import Idealize.ShloMosaic.Lib.Pipeline.Value

@[expose] public section

set_option maxRecDepth 16384

noncomputable section

namespace Cert.LossIdeal.Hand

open Idealize Idealize.ShloMosaic Idealize.ShloMosaic.TcCoe Idealize.SL.Sem
open Cert.LossIdeal Cert.LossIdeal.Gen Cert.Tiles Cert.LossMath

variable (m : (ℓ : Loc nD τ sig) → Buf (Elt Ideal) ℓ) (c : Dev nD)

/-- The argument arrays as arrays of extended reals. -/
abbrev xA : S8192x1024.Idx → EReal := m ((c : Thread nD τ).loc main_arg0)
abbrev gnA : S1x1024.Idx → EReal := m ((c : Thread nD τ).loc main_arg1)
abbrev wgA : S2816x1024.Idx → EReal := m ((c : Thread nD τ).loc main_arg2)
abbrev wuA : S2816x1024.Idx → EReal := m ((c : Thread nD τ).loc main_arg3)
abbrev wdA : S2816x1024.Idx → EReal := m ((c : Thread nD τ).loc main_arg4)
abbrev gfA : S1x1024.Idx → EReal := m ((c : Thread nD τ).loc main_arg5)
abbrev tgA : S8192x1024.Idx → EReal := m ((c : Thread nD τ).loc main_arg6)
abbrev args : Args where
  x R d := xA m c (ix2 R d)
  gn d := gnA m c (ix2 0 d)
  wg e d := wgA m c (ix2 e d)
  wu e d := wuA m c (ix2 e d)
  wd e d := wdA m c (ix2 e d)
  gf d := gfA m c (ix2 0 d)
  tg R d := tgA m c (ix2 R d)

theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val / 2 ∧ win0_6.index t (1 : Fin 2) = 0 :=
  (by decide +kernel : ∀ t : Fin grid0.N, _)
theorem idx7 : ∀ t : Fin cfg0.N, win0_7.index t (0 : Fin 2) = t.val / 2 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = t.val / 2 ∧ win0_10.index t (1 : Fin 2) = 0 :=
  (by decide +kernel : ∀ t : Fin grid0.N, _)
theorem idx11 : ∀ t : Fin cfg0.N, win0_11.index t (0 : Fin 2) = t.val / 2 ∧ win0_11.index t (1 : Fin 2) = 0 :=
  (by decide +kernel : ∀ t : Fin grid0.N, _)
theorem idx12 : ∀ t : Fin cfg0.N, win0_12.index t (0 : Fin 2) = t.val / 2 ∧ win0_12.index t (1 : Fin 2) = t.val % 2 :=
  (by decide +kernel : ∀ t : Fin grid0.N, _)
theorem idx13 : ∀ t : Fin cfg0.N, win0_13.index t (0 : Fin 2) = t.val / 2 ∧ win0_13.index t (1 : Fin 2) = t.val % 2 :=
  (by decide +kernel : ∀ t : Fin grid0.N, _)
theorem idx14 : ∀ t : Fin cfg0.N, win0_14.index t (0 : Fin 2) = t.val / 2 ∧ win0_14.index t (1 : Fin 2) = t.val % 2 :=
  (by decide +kernel : ∀ t : Fin grid0.N, _)
theorem half_coord : ∀ t : Fin cfg0.N, (grid0.coords t 1).val = t.val % 2 ∧ k0_off1 (grid0.coords t) 0 = 1408 * (t.val % 2) ∧ k0_off1 (grid0.coords t) 1 = 0 :=
  (by decide +kernel : ∀ t : Fin grid0.N, _)

/-! ## The blocks a point reads -/

theorem blk0 (t : Fin cfg0.N) (k : Fin 512) (d : Fin 1024) (R : Fin 8192) (hR : R.val = t.val / 2 * 512 + k.val) :
    (iblk m c 0 t : S512x1024.Idx → EReal) (ix2 k d) = (args m c).x R d := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * k.val = R.val; rw [(idx0 t).1]; omega
  | ⟨1, _⟩ => show win0_0.index t 1 * 1024 + 1 * d.val = d.val; rw [(idx0 t).2]; omega

theorem blk6 (t : Fin cfg0.N) (k : Fin 512) (d : Fin 1024) (R : Fin 8192) (hR : R.val = t.val / 2 * 512 + k.val) :
    (iblk m c 6 t : S512x1024.Idx → EReal) (ix2 k d) = (args m c).tg R d := by
  unfold iblk
  rw [View.read_apply]
  show V m c main_arg6 _ = m (c.tc.loc main_arg6) _
  rw [V_main_arg6]
  congr 1
  funext a
  apply Fin.ext
  match a with
  | ⟨0, _⟩ => show win0_6.index t 0 * 512 + 1 * k.val = R.val; rw [(idx6 t).1]; omega
  | ⟨1, _⟩ => show win0_6.index t 1 * 1024 + 1 * d.val = d.val; rw [(idx6 t).2]; omega

theorem blk1 (t : Fin cfg0.N) (d : Fin 1024) :
    (iblk m c 1 t : S1x1024.Idx → EReal) (ix2 0 d) = (args m c).gn d := by
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = 0; rw [(idx1 t).1]
  | ⟨1, _⟩ => show win0_1.index t 1 * 1024 + 1 * d.val = d.val; rw [(idx1 t).2]; omega

theorem blk5 (t : Fin cfg0.N) (d : Fin 1024) :
    (iblk m c 5 t : S1x1024.Idx → EReal) (ix2 0 d) = (args m c).gf d := by
  unfold iblk
  rw [View.read_apply]
  show V m c main_arg5 _ = m (c.tc.loc main_arg5) _
  rw [V_main_arg5]
  congr 1
  funext a
  apply Fin.ext
  match a with
  | ⟨0, _⟩ => show win0_5.index t 0 * 1 + 1 * 0 = 0; rw [(idx5 t).1]
  | ⟨1, _⟩ => show win0_5.index t 1 * 1024 + 1 * d.val = d.val; rw [(idx5 t).2]; omega

theorem blk2 (t : Fin cfg0.N) (e : Fin 2816) (d : Fin 1024) :
    (iblk m c 2 t : S2816x1024.Idx → EReal) (ix2 e d) = (args m c).wg e d := by
  unfold iblk
  rw [View.read_apply]
  show V m c main_arg2 _ = m (c.tc.loc main_arg2) _
  rw [V_main_arg2]
  congr 1
  funext a
  apply Fin.ext
  match a with
  | ⟨0, _⟩ => show win0_2.index t 0 * 2816 + 1 * e.val = e.val; rw [(idx2 t).1]; omega
  | ⟨1, _⟩ => show win0_2.index t 1 * 1024 + 1 * d.val = d.val; rw [(idx2 t).2]; omega

theorem blk3 (t : Fin cfg0.N) (e : Fin 2816) (d : Fin 1024) :
    (iblk m c 3 t : S2816x1024.Idx → EReal) (ix2 e d) = (args m c).wu e d := by
  unfold iblk
  rw [View.read_apply]
  show V m c main_arg3 _ = m (c.tc.loc main_arg3) _
  rw [V_main_arg3]
  congr 1
  funext a
  apply Fin.ext
  match a with
  | ⟨0, _⟩ => show win0_3.index t 0 * 2816 + 1 * e.val = e.val; rw [(idx3 t).1]; omega
  | ⟨1, _⟩ => show win0_3.index t 1 * 1024 + 1 * d.val = d.val; rw [(idx3 t).2]; omega

theorem blk4 (t : Fin cfg0.N) (e : Fin 2816) (d : Fin 1024) :
    (iblk m c 4 t : S2816x1024.Idx → EReal) (ix2 e d) = (args m c).wd e d := by
  unfold iblk
  rw [View.read_apply]
  show V m c main_arg4 _ = m (c.tc.loc main_arg4) _
  rw [V_main_arg4]
  congr 1
  funext a
  apply Fin.ext
  match a with
  | ⟨0, _⟩ => show win0_4.index t 0 * 2816 + 1 * e.val = e.val; rw [(idx4 t).1]; omega
  | ⟨1, _⟩ => show win0_4.index t 1 * 1024 + 1 * d.val = d.val; rw [(idx4 t).2]; omega

/-! ## The operations at an entry -/

theorem hk_at (x : FVec Ideal S512x1024 .f32) (g : FVec Ideal S1x1024 .f32) (k : Fin 512) (d : Fin 1024) :
    (hkOf (F := Ideal) x g) (ix2 k d) = (x (ix2 k d) : EReal) * Ideal.rsqrt (nrm fun j => x (ix2 k j)) * g (ix2 0 d) := by
  unfold hkOf hOf
  pointwise
theorem h_at (x : FVec Ideal S512x1024 .f32) (g : FVec Ideal S1x1024 .f32) (k : Fin 512) (d : Fin 1024) :
    (hOf (F := Ideal) x g) (ix2 k d) = (x (ix2 k d) : EReal) * Ideal.rsqrt (nrm fun j => x (ix2 k j)) * g (ix2 0 d) := by
  unfold hOf
  pointwise
theorem mm_at (a : FVec Ideal S512x1024 .bf16) (b : FVec Ideal S1408x1024 .bf16) (k : Fin 512) (e : Fin 1408) :
    (mmOf (F := Ideal) a b) (ix2 k e) = ∑ d : Fin 1024, (a (ix2 k d) : EReal) * b (ix2 e d) := by
  unfold mmOf
  pointwise
theorem gp_at (a b : FVec Ideal S512x1408 .f32) (k : Fin 512) (e : Fin 1408) :
    (gpOf (F := Ideal) a b) (ix2 k e) = (b (ix2 k e) : EReal) * (lg (a (ix2 k e)) * (1 + a (ix2 k e) * (1 - lg (a (ix2 k e))))) := by
  unfold gpOf
  pointwise
  rfl
theorem up_at (a : FVec Ideal S512x1408 .f32) (k : Fin 512) (e : Fin 1408) :
    (upOf (F := Ideal) a) (ix2 k e) = (a (ix2 k e) : EReal) * lg (a (ix2 k e)) := by
  unfold upOf gateOf
  pointwise
  rfl
theorem hid_at (a b : FVec Ideal S512x1408 .f32) (k : Fin 512) (e : Fin 1408) :
    (hidOf (F := Ideal) a b) (ix2 k e) = (a (ix2 k e) : EReal) * lg (a (ix2 k e)) * b (ix2 k e) := by
  unfold hidOf gateOf
  pointwise
  rfl
theorem hidk_at (a : FVec Ideal S512x1408 .bf16) : hidkOf (F := Ideal) a = a := by
  funext i
  unfold hidkOf
  exact congrFun (shapeCast_self a _) i
theorem y_at (x : FVec Ideal S512x1024 .f32) (a : FVec Ideal S512x2816 .bf16) (b : FVec Ideal S2816x1024 .bf16) (k : Fin 512) (d : Fin 1024) :
    (yOf (F := Ideal) x a b) (ix2 k d) = (x (ix2 k d) : EReal) + cHf * ∑ e : Fin 2816, (a (ix2 k e) : EReal) * b (ix2 e d) := by
  unfold yOf
  pointwise
theorem r_at (y : FVec Ideal S512x1024 .f32) (k : Fin 512) :
    (rOf (F := Ideal) y) (ix2 k (0 : Fin 1)) = Ideal.rsqrt (nrm fun j => (y (ix2 k j) : EReal)) := by
  unfold rOf
  pointwise
theorem dm_at (y : FVec Ideal S512x1024 .f32) (g : FVec Ideal S1x1024 .f32) (t : FVec Ideal S512x1024 .f32) (k : Fin 512) (d : Fin 1024) :
    (dmOf (F := Ideal) y g t) (ix2 k d) = (y (ix2 k d) : EReal) * rOf (F := Ideal) y (ix2 k 0) * g (ix2 0 d) - t (ix2 k d) := by
  unfold dmOf
  pointwise
theorem du_at (y : FVec Ideal S512x1024 .f32) (g : FVec Ideal S1x1024 .f32) (t : FVec Ideal S512x1024 .f32) (k : Fin 512) (d : Fin 1024) :
    (duOf (F := Ideal) y g t) (ix2 k d) = (dmOf (F := Ideal) y g t (ix2 k d) : EReal) * cInv := by
  unfold duOf
  pointwise
theorem dy_at (y : FVec Ideal S512x1024 .f32) (g : FVec Ideal S1x1024 .f32) (t : FVec Ideal S512x1024 .f32) (k : Fin 512) (d : Fin 1024) :
    (dyOf (F := Ideal) y g t) (ix2 k d) = (rOf (F := Ideal) y (ix2 k 0) : EReal) * (duOf (F := Ideal) y g t (ix2 k d) * g (ix2 0 d))
      - y (ix2 k d) * (rOf (F := Ideal) y (ix2 k 0) * rOf (F := Ideal) y (ix2 k 0) * rOf (F := Ideal) y (ix2 k 0)
        * ((∑ j : Fin 1024, duOf (F := Ideal) y g t (ix2 k j) * g (ix2 0 j) * y (ix2 k j)) * cInv)) := by
  unfold dyOf
  pointwise
theorem half_at (y : FVec Ideal S512x1024 .f32) (k : Fin 512) (d : Fin 1024) :
    (halfOf (F := Ideal) y) (ix2 k d) = cHf * (y (ix2 k d) : EReal) := by
  unfold halfOf
  pointwise
theorem dg_at (y : FVec Ideal S512x1024 .f32) (g : FVec Ideal S1x1024 .f32) (t : FVec Ideal S512x1024 .f32) (d : Fin 1024) :
    (dgOf (F := Ideal) y g t) (ix2 (0 : Fin 1) d) = ∑ k : Fin 512, (duOf (F := Ideal) y g t (ix2 k d) : EReal) * (y (ix2 k d) * rOf (F := Ideal) y (ix2 k 0)) := by
  unfold dgOf
  pointwise
theorem sq_at (y : FVec Ideal S512x1024 .f32) (g : FVec Ideal S1x1024 .f32) (t : FVec Ideal S512x1024 .f32) (d : Fin 1024) :
    (sqOf (F := Ideal) y g t) (ix2 (0 : Fin 1) d) = ∑ k : Fin 512, (dmOf (F := Ideal) y g t (ix2 k d) : EReal) * dmOf (F := Ideal) y g t (ix2 k d) := by
  unfold sqOf
  pointwise
theorem add_at (a b : FVec Ideal S1x1024 .f32) (d : Fin 1024) :
    (addOf (F := Ideal) a b) (ix2 (0 : Fin 1) d) = (a (ix2 0 d) : EReal) + b (ix2 0 d) := by
  unfold addOf
  pointwise

/-! ## One point -/

section
variable (t : Fin cfg0.N) (k : Fin 512) (R : Fin 8192) (hR : R.val = t.val / 2 * 512 + k.val)
include hR

theorem evn_half : R.val = (evn t).val / 2 * 512 + k.val := by
  show R.val = (t.val - t.val % 2) / 2 * 512 + k.val
  omega
theorem hkT_at (d : Fin 1024) : (hkT m c t : S512x1024.Idx → EReal) (ix2 k d) = h (args m c) R d := by
  have hE := evn_half t k R hR
  refine (hk_at _ _ k d).trans ?_
  exact congrArg₂ _ (congrArg₂ _ (blk0 m c _ k d R hE) (congrArg (fun f => Ideal.rsqrt (nrm f)) (funext fun j => blk0 m c _ k j R hE))) (blk1 m c _ d)
theorem hT_at (d : Fin 1024) : (hT m c t : S512x1024.Idx → EReal) (ix2 k d) = h (args m c) R d := by
  have hE := evn_half t k R hR
  refine (h_at _ _ k d).trans ?_
  exact congrArg₂ _ (congrArg₂ _ (blk0 m c _ k d R hE) (congrArg (fun f => Ideal.rsqrt (nrm f)) (funext fun j => blk0 m c _ k j R hE))) (blk1 m c _ d)

theorem rows_at (X : FVec Ideal S2816x1024 .bf16) (e : Fin 1408) (E : Fin 2816) (hE : E.val = 1408 * (t.val % 2) + e.val) (d : Fin 1024) :
    (rowsOf (F := Ideal) (grid0.coords t) X) (ix2 e d) = X (ix2 E d) := by
  unfold rowsOf
  congr 1
  funext a
  apply Fin.ext
  match a with
  | ⟨0, _⟩ => show k0_off1 (grid0.coords t) 0 + 1 * e.val = E.val; rw [(half_coord t).2.1]; omega
  | ⟨1, _⟩ => show k0_off1 (grid0.coords t) 1 + 1 * d.val = d.val; rw [(half_coord t).2.2]; omega

section
variable (e : Fin 1408) (E : Fin 2816) (hE : E.val = 1408 * (t.val % 2) + e.val)
include hE
theorem gT_at : (gT m c t : S512x1408.Idx → EReal) (ix2 k e) = g (args m c) R E := by
  refine (mm_at _ _ k e).trans (Finset.sum_congr rfl fun d _ => congrArg₂ _ (hkT_at m c t k R hR d) ?_)
  exact (rows_at t k R hR _ e E hE d).trans (blk2 m c t E d)
theorem uT_at : (uT m c t : S512x1408.Idx → EReal) (ix2 k e) = u (args m c) R E := by
  refine (mm_at _ _ k e).trans (Finset.sum_congr rfl fun d _ => congrArg₂ _ (hkT_at m c t k R hR d) ?_)
  exact (rows_at t k R hR _ e E hE d).trans (blk3 m c t E d)
theorem hidT_at : (hidT m c t : S512x1408.Idx → EReal) (ix2 k e) = hid (args m c) R E := by
  refine (hid_at _ _ k e).trans ?_
  rw [gT_at m c t k R hR e E hE, uT_at m c t k R hR e E hE]
  rfl
theorem gpT_at : (gpOf (gT m c t) (uT m c t) : S512x1408.Idx → EReal) (ix2 k e) = gp (args m c) R E := by
  refine (gp_at _ _ k e).trans ?_
  rw [gT_at m c t k R hR e E hE, uT_at m c t k R hR e E hE]
  rfl
theorem upT_at : (upOf (gT m c t) : S512x1408.Idx → EReal) (ix2 k e) = gate (args m c) R E := by
  refine (up_at _ k e).trans ?_
  rw [gT_at m c t k R hR e E hE]
  rfl
end

section
variable (ht : t.val % 2 = 1)
include ht

/-- The two halves of the gated product together. -/
theorem join_at (e : Fin 2816) :
    (joinH (F := Ideal) (hidkOf (hidT m c (evn t))) (hidkOf (hidT m c t)) : S512x2816.Idx → EReal) (ix2 k e) = hid (args m c) R e := by
  rw [hidk_at, hidk_at]
  unfold joinH
  by_cases he : e.val < 1408
  · have hx : leftR.emb (ix2 k ⟨e.val, he⟩ : S512x1408.Idx) = (ix2 k e : S512x2816.Idx) := by
      funext a
      apply Fin.ext
      rw [left_emb]
      match a with
      | ⟨0, _⟩ => rfl
      | ⟨1, _⟩ => rfl
    rw [← hx]
    refine (join_left (F := Ideal) _ _ _ _).trans ?_
    exact hidT_at m c (evn t) k R (evn_half t k R hR) ⟨e.val, he⟩ e (by show e.val = 1408 * ((t.val - t.val % 2) % 2) + e.val; omega)
  · have hlt : e.val - 1408 < 1408 := by have := e.isLt; omega
    have hx : rightR.emb (ix2 k ⟨e.val - 1408, hlt⟩ : S512x1408.Idx) = (ix2 k e : S512x2816.Idx) := by
      funext a
      apply Fin.ext
      rw [right_emb]
      match a with
      | ⟨0, _⟩ => show 0 + k.val = k.val; omega
      | ⟨1, _⟩ => show 1408 + (e.val - 1408) = e.val; omega
    rw [← hx]
    refine (join_right (F := Ideal) _ _ _ _).trans ?_
    exact hidT_at m c t k R hR ⟨e.val - 1408, hlt⟩ e (by show e.val = 1408 * (t.val % 2) + (e.val - 1408); omega)

theorem yT_at (d : Fin 1024) : (yT m c t : S512x1024.Idx → EReal) (ix2 k d) = y (args m c) R d := by
  refine (y_at _ _ _ k d).trans ?_
  exact congrArg₂ _ (blk0 m c t k d R hR) (congrArg₂ _ rfl (Finset.sum_congr rfl fun e _ => congrArg₂ _ (join_at m c t k R hR ht e) (blk4 m c t e d)))
theorem rT_at : (rOf (yT m c t) : S512x1.Idx → EReal) (ix2 k 0) = r (args m c) R := by
  refine (r_at _ k).trans ?_
  exact congrArg (fun f => Ideal.rsqrt (nrm f)) (funext fun j => yT_at m c t k R hR ht j)
theorem dmT_at (d : Fin 1024) : (dmOf (yT m c t) (iblk m c 5 t) (iblk m c 6 t) : S512x1024.Idx → EReal) (ix2 k d) = dm (args m c) R d := by
  refine (dm_at _ _ _ k d).trans ?_
  exact congrArg₂ _ (congrArg₂ _ (congrArg₂ _ (yT_at m c t k R hR ht d) (rT_at m c t k R hR ht)) (blk5 m c t d)) (blk6 m c t k d R hR)
theorem duT_at (d : Fin 1024) : (duOf (yT m c t) (iblk m c 5 t) (iblk m c 6 t) : S512x1024.Idx → EReal) (ix2 k d) = du (args m c) R d :=
  (du_at _ _ _ k d).trans (congrArg₂ _ (dmT_at m c t k R hR ht d) rfl)
theorem dyT_at (d : Fin 1024) : (dyT m c t : S512x1024.Idx → EReal) (ix2 k d) = dy (args m c) R d := by
  refine (dy_at _ _ _ k d).trans ?_
  rw [rT_at m c t k R hR ht, duT_at m c t k R hR ht d]
  refine congrArg₂ _ (congrArg₂ _ rfl (congrArg₂ _ rfl (blk5 m c t d))) (congrArg₂ _ (yT_at m c t k R hR ht d) (congrArg₂ _ rfl (congrArg₂ _ ?_ rfl)))
  exact Finset.sum_congr rfl fun j _ => congrArg₂ _ (congrArg₂ _ (duT_at m c t k R hR ht j) (blk5 m c t j)) (yT_at m c t k R hR ht j)
theorem halfT_at (d : Fin 1024) : (halfOf (dyT m c t) : S512x1024.Idx → EReal) (ix2 k d) = cHf * dy (args m c) R d :=
  (half_at _ k d).trans (congrArg₂ _ rfl (dyT_at m c t k R hR ht d))
end
end

/-! ## The sums over the rows -/

theorem row_lt (s : ℕ) (hs : s < 16) (k : Fin 512) : s * 512 + k.val < 8192 := by have := k.isLt; omega

theorem dg_tile (t : Fin cfg0.N) (s : ℕ) (hs : t.val = 2 * s + 1) (d : Fin 1024) :
    (dgT m c t : S1x1024.Idx → EReal) (ix2 0 d) = tile (by decide : 0 < 8192) 512 (dgTerm (args m c) d) s := by
  have hN : t.val < 32 := lt_of_lt_of_eq t.isLt (show cfg0.N = 32 from N_0)
  rw [tile_of_lt _ _ _ _ (row_lt s (by omega))]
  refine (dg_at _ _ _ d).trans (Finset.sum_congr rfl fun k _ => ?_)
  have hR : (⟨s * 512 + k.val, row_lt s (by omega) k⟩ : Fin 8192).val = t.val / 2 * 512 + k.val := by show s * 512 + k.val = _; omega
  exact congrArg₂ _ (duT_at m c t k _ hR (by omega) d) (congrArg₂ _ (yT_at m c t k _ hR (by omega) d) (rT_at m c t k _ hR (by omega)))
theorem sq_tile (t : Fin cfg0.N) (s : ℕ) (hs : t.val = 2 * s + 1) (d : Fin 1024) :
    (sqT m c t : S1x1024.Idx → EReal) (ix2 0 d) = tile (by decide : 0 < 8192) 512 (sqTerm (args m c) d) s := by
  have hN : t.val < 32 := lt_of_lt_of_eq t.isLt (show cfg0.N = 32 from N_0)
  rw [tile_of_lt _ _ _ _ (row_lt s (by omega))]
  refine (sq_at _ _ _ d).trans (Finset.sum_congr rfl fun k _ => ?_)
  have hR : (⟨s * 512 + k.val, row_lt s (by omega) k⟩ : Fin 8192).val = t.val / 2 * 512 + k.val := by show s * 512 + k.val = _; omega
  exact congrArg₂ _ (dmT_at m c t k _ hR (by omega) d) (dmT_at m c t k _ hR (by omega) d)

/-- After a row block's second point the two sums hold the row blocks so far. -/
theorem acc_at (d : Fin 1024) : ∀ (s : ℕ) (hs : 2 * s + 1 < cfg0.N),
    ((accAt m c (2 * s + 1) hs).1 : S1x1024.Idx → EReal) (ix2 0 d) = ∑ i ∈ Finset.range (s + 1), tile (by decide : 0 < 8192) 512 (dgTerm (args m c) d) i
      ∧ ((accAt m c (2 * s + 1) hs).2 : S1x1024.Idx → EReal) (ix2 0 d) = ∑ i ∈ Finset.range (s + 1), tile (by decide : 0 < 8192) 512 (sqTerm (args m c) d) i := by
  intro s
  induction s with
  | zero =>
    intro hs
    have e : accAt m c (2 * 0 + 1) hs = _ := accAt_one m c ⟨2 * 0 + 1, hs⟩ rfl
    rw [e, Finset.sum_range_one, Finset.sum_range_one]
    exact ⟨dg_tile m c _ 0 rfl d, sq_tile m c _ 0 rfl d⟩
  | succ s ih =>
    intro hs
    have e : accAt m c (2 * (s + 1) + 1) hs = (addOf (accAt m c (2 * (s + 1)) (by omega)).1 (dgT m c ⟨2 * (s + 1) + 1, hs⟩), addOf (accAt m c (2 * (s + 1)) (by omega)).2 (sqT m c ⟨2 * (s + 1) + 1, hs⟩)) :=
      accAt_odd m c ⟨2 * (s + 1) + 1, hs⟩ (by show (2 * (s + 1) + 1) % 2 = 1; omega) (by show ¬2 * (s + 1) + 1 < 2; omega)
    have e2 : accAt m c (2 * (s + 1)) (by omega) = accAt m c (2 * s + 1) (by omega) :=
      accAt_even m c ⟨2 * (s + 1), by omega⟩ (by show 2 * (s + 1) % 2 = 0; omega) (by show 2 * (s + 1) ≠ 0; omega)
    rw [e, e2, Finset.sum_range_succ _ (s + 1), Finset.sum_range_succ _ (s + 1), ← (ih (by omega)).1, ← (ih (by omega)).2]
    exact ⟨(add_at _ _ d).trans (congrArg₂ _ rfl (dg_tile m c _ (s + 1) rfl d)), (add_at _ _ d).trans (congrArg₂ _ rfl (sq_tile m c _ (s + 1) rfl d))⟩

/-! ## The eight arrays -/

theorem inj7 : ∀ t t' : Fin cfg0.N, (cfg0.win 7).flush t = true → (cfg0.win 7).flush t' = true → (cfg0.win 7).index t = (cfg0.win 7).index t' → t = t' := by
  intro t t' hf hf' e
  have e0 : win0_7.index t (0 : Fin 2) = win0_7.index t' (0 : Fin 2) := congrFun e 0
  rw [(idx7 t).1, (idx7 t').1] at e0
  have h1 := (flush0_7 t).1 hf
  have h2 := (flush0_7 t').1 hf'
  exact Fin.ext (by omega)
theorem result7 (R : Fin 8192) (d : Fin 1024) : ((dats m 0 c).arrAt 7 cfg0.N : S8192x1024.Idx → EReal) (ix2 R d) = dy (args m c) R d := by
  have hN : cfg0.N = 32 := N_0
  have hR := R.isLt
  have hlt : 2 * (R.val / 512) + 1 < cfg0.N := by omega
  have e := congrFun ((dats m 0 c).read_blk_arrAt_eq_flushed 7 (fun t t' hf hf' hne => (cfg0.win 7).disjoint_blk fun h => hne (inj7 t t' hf hf' h)) cfg0.N ⟨2 * (R.val / 512) + 1, hlt⟩ hlt ((flush0_7 _).2 (by show (2 * (R.val / 512) + 1) % 2 = 1; omega))) (ix2 (⟨R.val % 512, by omega⟩ : Fin 512) d : S512x1024.Idx)
  rw [View.read_apply] at e
  have he : ((cfg0.win 7).blk ⟨2 * (R.val / 512) + 1, hlt⟩).view.emb (ix2 (⟨R.val % 512, by omega⟩ : Fin 512) d : S512x1024.Idx) = (ix2 R d : S8192x1024.Idx) := by
    funext a
    apply Fin.ext
    match a with
    | ⟨0, _⟩ => show win0_7.index ⟨2 * (R.val / 512) + 1, hlt⟩ 0 * 512 + 1 * (R.val % 512) = R.val; rw [(idx7 ⟨2 * (R.val / 512) + 1, hlt⟩).1]; show (2 * (R.val / 512) + 1) / 2 * 512 + 1 * (R.val % 512) = R.val; omega
    | ⟨1, _⟩ => show win0_7.index ⟨2 * (R.val / 512) + 1, hlt⟩ 1 * 1024 + 1 * d.val = d.val; rw [(idx7 ⟨2 * (R.val / 512) + 1, hlt⟩).2]; show 0 * 1024 + 1 * d.val = d.val; omega
  refine (congrArg ((dats m 0 c).arrAt 7 cfg0.N : S8192x1024.Idx → EReal) he.symm).trans (e.trans ?_)
  show (cfg0.win 7).cut (grid0.coords ⟨2 * (R.val / 512) + 1, hlt⟩) ((dats m 0 c).after 7 ⟨2 * (R.val / 512) + 1, hlt⟩) (ix2 (⟨R.val % 512, by omega⟩ : Fin 512) d : S512x1024.Idx) = _
  rw [after0_7]
  exact dyT_at m c _ _ R (by show R.val = (2 * (R.val / 512) + 1) / 2 * 512 + R.val % 512; omega) (by show (2 * (R.val / 512) + 1) % 2 = 1; omega) d

theorem inj10 : ∀ t t' : Fin cfg0.N, (cfg0.win 10).flush t = true → (cfg0.win 10).flush t' = true → (cfg0.win 10).index t = (cfg0.win 10).index t' → t = t' := by
  intro t t' hf hf' e
  have e0 : win0_10.index t (0 : Fin 2) = win0_10.index t' (0 : Fin 2) := congrFun e 0
  rw [(idx10 t).1, (idx10 t').1] at e0
  have h1 := (flush0_10 t).1 hf
  have h2 := (flush0_10 t').1 hf'
  exact Fin.ext (by omega)
theorem result10 (R : Fin 8192) (d : Fin 1024) : ((dats m 0 c).arrAt 10 cfg0.N : S8192x1024.Idx → EReal) (ix2 R d) = cHf * dy (args m c) R d := by
  have hN : cfg0.N = 32 := N_0
  have hR := R.isLt
  have hlt : 2 * (R.val / 512) + 1 < cfg0.N := by omega
  have e := congrFun ((dats m 0 c).read_blk_arrAt_eq_flushed 10 (fun t t' hf hf' hne => (cfg0.win 10).disjoint_blk fun h => hne (inj10 t t' hf hf' h)) cfg0.N ⟨2 * (R.val / 512) + 1, hlt⟩ hlt ((flush0_10 _).2 (by show (2 * (R.val / 512) + 1) % 2 = 1; omega))) (ix2 (⟨R.val % 512, by omega⟩ : Fin 512) d : S512x1024.Idx)
  rw [View.read_apply] at e
  have he : ((cfg0.win 10).blk ⟨2 * (R.val / 512) + 1, hlt⟩).view.emb (ix2 (⟨R.val % 512, by omega⟩ : Fin 512) d : S512x1024.Idx) = (ix2 R d : S8192x1024.Idx) := by
    funext a
    apply Fin.ext
    match a with
    | ⟨0, _⟩ => show win0_10.index ⟨2 * (R.val / 512) + 1, hlt⟩ 0 * 512 + 1 * (R.val % 512) = R.val; rw [(idx10 ⟨2 * (R.val / 512) + 1, hlt⟩).1]; show (2 * (R.val / 512) + 1) / 2 * 512 + 1 * (R.val % 512) = R.val; omega
    | ⟨1, _⟩ => show win0_10.index ⟨2 * (R.val / 512) + 1, hlt⟩ 1 * 1024 + 1 * d.val = d.val; rw [(idx10 ⟨2 * (R.val / 512) + 1, hlt⟩).2]; show 0 * 1024 + 1 * d.val = d.val; omega
  refine (congrArg ((dats m 0 c).arrAt 10 cfg0.N : S8192x1024.Idx → EReal) he.symm).trans (e.trans ?_)
  show (cfg0.win 10).cut (grid0.coords ⟨2 * (R.val / 512) + 1, hlt⟩) ((dats m 0 c).after 10 ⟨2 * (R.val / 512) + 1, hlt⟩) (ix2 (⟨R.val % 512, by omega⟩ : Fin 512) d : S512x1024.Idx) = _
  rw [after0_10]
  exact halfT_at m c _ _ R (by show R.val = (2 * (R.val / 512) + 1) / 2 * 512 + R.val % 512; omega) (by show (2 * (R.val / 512) + 1) % 2 = 1; omega) d

theorem inj11 : ∀ t t' : Fin cfg0.N, (cfg0.win 11).flush t = true → (cfg0.win 11).flush t' = true → (cfg0.win 11).index t = (cfg0.win 11).index t' → t = t' := by
  intro t t' hf hf' e
  have e0 : win0_11.index t (0 : Fin 2) = win0_11.index t' (0 : Fin 2) := congrFun e 0
  rw [(idx11 t).1, (idx11 t').1] at e0
  have h1 := (flush0_11 t).1 hf
  have h2 := (flush0_11 t').1 hf'
  exact Fin.ext (by omega)
theorem result11 (R : Fin 8192) (d : Fin 1024) : ((dats m 0 c).arrAt 11 cfg0.N : S8192x1024.Idx → EReal) (ix2 R d) = h (args m c) R d := by
  have hN : cfg0.N = 32 := N_0
  have hR := R.isLt
  have hlt : 2 * (R.val / 512) + 1 < cfg0.N := by omega
  have e := congrFun ((dats m 0 c).read_blk_arrAt_eq_flushed 11 (fun t t' hf hf' hne => (cfg0.win 11).disjoint_blk fun h => hne (inj11 t t' hf hf' h)) cfg0.N ⟨2 * (R.val / 512) + 1, hlt⟩ hlt ((flush0_11 _).2 (by show (2 * (R.val / 512) + 1) % 2 = 1; omega))) (ix2 (⟨R.val % 512, by omega⟩ : Fin 512) d : S512x1024.Idx)
  rw [View.read_apply] at e
  have he : ((cfg0.win 11).blk ⟨2 * (R.val / 512) + 1, hlt⟩).view.emb (ix2 (⟨R.val % 512, by omega⟩ : Fin 512) d : S512x1024.Idx) = (ix2 R d : S8192x1024.Idx) := by
    funext a
    apply Fin.ext
    match a with
    | ⟨0, _⟩ => show win0_11.index ⟨2 * (R.val / 512) + 1, hlt⟩ 0 * 512 + 1 * (R.val % 512) = R.val; rw [(idx11 ⟨2 * (R.val / 512) + 1, hlt⟩).1]; show (2 * (R.val / 512) + 1) / 2 * 512 + 1 * (R.val % 512) = R.val; omega
    | ⟨1, _⟩ => show win0_11.index ⟨2 * (R.val / 512) + 1, hlt⟩ 1 * 1024 + 1 * d.val = d.val; rw [(idx11 ⟨2 * (R.val / 512) + 1, hlt⟩).2]; show 0 * 1024 + 1 * d.val = d.val; omega
  refine (congrArg ((dats m 0 c).arrAt 11 cfg0.N : S8192x1024.Idx → EReal) he.symm).trans (e.trans ?_)
  show (cfg0.win 11).cut (grid0.coords ⟨2 * (R.val / 512) + 1, hlt⟩) ((dats m 0 c).after 11 ⟨2 * (R.val / 512) + 1, hlt⟩) (ix2 (⟨R.val % 512, by omega⟩ : Fin 512) d : S512x1024.Idx) = _
  rw [after0_11]
  exact hT_at m c _ _ R (by show R.val = (2 * (R.val / 512) + 1) / 2 * 512 + R.val % 512; omega) d

theorem inj12 : ∀ t t' : Fin cfg0.N, (cfg0.win 12).flush t = true → (cfg0.win 12).flush t' = true → (cfg0.win 12).index t = (cfg0.win 12).index t' → t = t' := by
  intro t t' hf hf' e
  have e0 : win0_12.index t (0 : Fin 2) = win0_12.index t' (0 : Fin 2) := congrFun e 0
  rw [(idx12 t).1, (idx12 t').1] at e0
  have e1 : win0_12.index t (1 : Fin 2) = win0_12.index t' (1 : Fin 2) := congrFun e 1
  rw [(idx12 t).2, (idx12 t').2] at e1
  exact Fin.ext (by omega)
theorem result12 (R : Fin 8192) (E : Fin 2816) : ((dats m 0 c).arrAt 12 cfg0.N : S8192x2816.Idx → EReal) (ix2 R E) = gp (args m c) R E := by
  have hN : cfg0.N = 32 := N_0
  have hR := R.isLt
  have hE := E.isLt
  have hlt : 2 * (R.val / 512) + E.val / 1408 < cfg0.N := by omega
  have e := congrFun ((dats m 0 c).read_blk_arrAt_eq_flushed 12 (fun t t' hf hf' hne => (cfg0.win 12).disjoint_blk fun h => hne (inj12 t t' hf hf' h)) cfg0.N ⟨2 * (R.val / 512) + E.val / 1408, hlt⟩ hlt (flush0_12 _)) (ix2 (⟨R.val % 512, by omega⟩ : Fin 512) (⟨E.val % 1408, by omega⟩ : Fin 1408) : S512x1408.Idx)
  rw [View.read_apply] at e
  have he : ((cfg0.win 12).blk ⟨2 * (R.val / 512) + E.val / 1408, hlt⟩).view.emb (ix2 (⟨R.val % 512, by omega⟩ : Fin 512) (⟨E.val % 1408, by omega⟩ : Fin 1408) : S512x1408.Idx) = (ix2 R E : S8192x2816.Idx) := by
    funext a
    apply Fin.ext
    match a with
    | ⟨0, _⟩ => show win0_12.index ⟨2 * (R.val / 512) + E.val / 1408, hlt⟩ 0 * 512 + 1 * (R.val % 512) = R.val; rw [(idx12 ⟨2 * (R.val / 512) + E.val / 1408, hlt⟩).1]; show (2 * (R.val / 512) + E.val / 1408) / 2 * 512 + 1 * (R.val % 512) = R.val; omega
    | ⟨1, _⟩ => show win0_12.index ⟨2 * (R.val / 512) + E.val / 1408, hlt⟩ 1 * 1408 + 1 * (E.val % 1408) = E.val; rw [(idx12 ⟨2 * (R.val / 512) + E.val / 1408, hlt⟩).2]; show (2 * (R.val / 512) + E.val / 1408) % 2 * 1408 + 1 * (E.val % 1408) = E.val; omega
  refine (congrArg ((dats m 0 c).arrAt 12 cfg0.N : S8192x2816.Idx → EReal) he.symm).trans (e.trans ?_)
  show (cfg0.win 12).cut (grid0.coords ⟨2 * (R.val / 512) + E.val / 1408, hlt⟩) ((dats m 0 c).after 12 ⟨2 * (R.val / 512) + E.val / 1408, hlt⟩) (ix2 (⟨R.val % 512, by omega⟩ : Fin 512) (⟨E.val % 1408, by omega⟩ : Fin 1408) : S512x1408.Idx) = _
  rw [after0_12]
  exact gpT_at m c _ _ R (by show R.val = (2 * (R.val / 512) + E.val / 1408) / 2 * 512 + R.val % 512; omega) _ E (by show E.val = 1408 * ((2 * (R.val / 512) + E.val / 1408) % 2) + E.val % 1408; omega)

theorem inj13 : ∀ t t' : Fin cfg0.N, (cfg0.win 13).flush t = true → (cfg0.win 13).flush t' = true → (cfg0.win 13).index t = (cfg0.win 13).index t' → t = t' := by
  intro t t' hf hf' e
  have e0 : win0_13.index t (0 : Fin 2) = win0_13.index t' (0 : Fin 2) := congrFun e 0
  rw [(idx13 t).1, (idx13 t').1] at e0
  have e1 : win0_13.index t (1 : Fin 2) = win0_13.index t' (1 : Fin 2) := congrFun e 1
  rw [(idx13 t).2, (idx13 t').2] at e1
  exact Fin.ext (by omega)
theorem result13 (R : Fin 8192) (E : Fin 2816) : ((dats m 0 c).arrAt 13 cfg0.N : S8192x2816.Idx → EReal) (ix2 R E) = gate (args m c) R E := by
  have hN : cfg0.N = 32 := N_0
  have hR := R.isLt
  have hE := E.isLt
  have hlt : 2 * (R.val / 512) + E.val / 1408 < cfg0.N := by omega
  have e := congrFun ((dats m 0 c).read_blk_arrAt_eq_flushed 13 (fun t t' hf hf' hne => (cfg0.win 13).disjoint_blk fun h => hne (inj13 t t' hf hf' h)) cfg0.N ⟨2 * (R.val / 512) + E.val / 1408, hlt⟩ hlt (flush0_13 _)) (ix2 (⟨R.val % 512, by omega⟩ : Fin 512) (⟨E.val % 1408, by omega⟩ : Fin 1408) : S512x1408.Idx)
  rw [View.read_apply] at e
  have he : ((cfg0.win 13).blk ⟨2 * (R.val / 512) + E.val / 1408, hlt⟩).view.emb (ix2 (⟨R.val % 512, by omega⟩ : Fin 512) (⟨E.val % 1408, by omega⟩ : Fin 1408) : S512x1408.Idx) = (ix2 R E : S8192x2816.Idx) := by
    funext a
    apply Fin.ext
    match a with
    | ⟨0, _⟩ => show win0_13.index ⟨2 * (R.val / 512) + E.val / 1408, hlt⟩ 0 * 512 + 1 * (R.val % 512) = R.val; rw [(idx13 ⟨2 * (R.val / 512) + E.val / 1408, hlt⟩).1]; show (2 * (R.val / 512) + E.val / 1408) / 2 * 512 + 1 * (R.val % 512) = R.val; omega
    | ⟨1, _⟩ => show win0_13.index ⟨2 * (R.val / 512) + E.val / 1408, hlt⟩ 1 * 1408 + 1 * (E.val % 1408) = E.val; rw [(idx13 ⟨2 * (R.val / 512) + E.val / 1408, hlt⟩).2]; show (2 * (R.val / 512) + E.val / 1408) % 2 * 1408 + 1 * (E.val % 1408) = E.val; omega
  refine (congrArg ((dats m 0 c).arrAt 13 cfg0.N : S8192x2816.Idx → EReal) he.symm).trans (e.trans ?_)
  show (cfg0.win 13).cut (grid0.coords ⟨2 * (R.val / 512) + E.val / 1408, hlt⟩) ((dats m 0 c).after 13 ⟨2 * (R.val / 512) + E.val / 1408, hlt⟩) (ix2 (⟨R.val % 512, by omega⟩ : Fin 512) (⟨E.val % 1408, by omega⟩ : Fin 1408) : S512x1408.Idx) = _
  rw [after0_13]
  exact upT_at m c _ _ R (by show R.val = (2 * (R.val / 512) + E.val / 1408) / 2 * 512 + R.val % 512; omega) _ E (by show E.val = 1408 * ((2 * (R.val / 512) + E.val / 1408) % 2) + E.val % 1408; omega)

theorem inj14 : ∀ t t' : Fin cfg0.N, (cfg0.win 14).flush t = true → (cfg0.win 14).flush t' = true → (cfg0.win 14).index t = (cfg0.win 14).index t' → t = t' := by
  intro t t' hf hf' e
  have e0 : win0_14.index t (0 : Fin 2) = win0_14.index t' (0 : Fin 2) := congrFun e 0
  rw [(idx14 t).1, (idx14 t').1] at e0
  have e1 : win0_14.index t (1 : Fin 2) = win0_14.index t' (1 : Fin 2) := congrFun e 1
  rw [(idx14 t).2, (idx14 t').2] at e1
  exact Fin.ext (by omega)
theorem result14 (R : Fin 8192) (E : Fin 2816) : ((dats m 0 c).arrAt 14 cfg0.N : S8192x2816.Idx → EReal) (ix2 R E) = hid (args m c) R E := by
  have hN : cfg0.N = 32 := N_0
  have hR := R.isLt
  have hE := E.isLt
  have hlt : 2 * (R.val / 512) + E.val / 1408 < cfg0.N := by omega
  have e := congrFun ((dats m 0 c).read_blk_arrAt_eq_flushed 14 (fun t t' hf hf' hne => (cfg0.win 14).disjoint_blk fun h => hne (inj14 t t' hf hf' h)) cfg0.N ⟨2 * (R.val / 512) + E.val / 1408, hlt⟩ hlt (flush0_14 _)) (ix2 (⟨R.val % 512, by omega⟩ : Fin 512) (⟨E.val % 1408, by omega⟩ : Fin 1408) : S512x1408.Idx)
  rw [View.read_apply] at e
  have he : ((cfg0.win 14).blk ⟨2 * (R.val / 512) + E.val / 1408, hlt⟩).view.emb (ix2 (⟨R.val % 512, by omega⟩ : Fin 512) (⟨E.val % 1408, by omega⟩ : Fin 1408) : S512x1408.Idx) = (ix2 R E : S8192x2816.Idx) := by
    funext a
    apply Fin.ext
    match a with
    | ⟨0, _⟩ => show win0_14.index ⟨2 * (R.val / 512) + E.val / 1408, hlt⟩ 0 * 512 + 1 * (R.val % 512) = R.val; rw [(idx14 ⟨2 * (R.val / 512) + E.val / 1408, hlt⟩).1]; show (2 * (R.val / 512) + E.val / 1408) / 2 * 512 + 1 * (R.val % 512) = R.val; omega
    | ⟨1, _⟩ => show win0_14.index ⟨2 * (R.val / 512) + E.val / 1408, hlt⟩ 1 * 1408 + 1 * (E.val % 1408) = E.val; rw [(idx14 ⟨2 * (R.val / 512) + E.val / 1408, hlt⟩).2]; show (2 * (R.val / 512) + E.val / 1408) % 2 * 1408 + 1 * (E.val % 1408) = E.val; omega
  refine (congrArg ((dats m 0 c).arrAt 14 cfg0.N : S8192x2816.Idx → EReal) he.symm).trans (e.trans ?_)
  show (cfg0.win 14).cut (grid0.coords ⟨2 * (R.val / 512) + E.val / 1408, hlt⟩) ((dats m 0 c).after 14 ⟨2 * (R.val / 512) + E.val / 1408, hlt⟩) (ix2 (⟨R.val % 512, by omega⟩ : Fin 512) (⟨E.val % 1408, by omega⟩ : Fin 1408) : S512x1408.Idx) = _
  rw [after0_14]
  exact hidT_at m c _ _ R (by show R.val = (2 * (R.val / 512) + E.val / 1408) / 2 * 512 + R.val % 512; omega) _ E (by show E.val = 1408 * ((2 * (R.val / 512) + E.val / 1408) % 2) + E.val % 1408; omega)

theorem inj8 : ∀ t t' : Fin cfg0.N, (cfg0.win 8).flush t = true → (cfg0.win 8).flush t' = true → (cfg0.win 8).index t = (cfg0.win 8).index t' → t = t' := by
  intro t t' hf hf' e
  have h1 := (flush0_8 t).1 hf
  have h2 := (flush0_8 t').1 hf'
  have hN : cfg0.N = 32 := N_0
  have := t.isLt
  have := t'.isLt
  exact Fin.ext (by omega)
theorem result8 (d : Fin 1024) : ((dats m 0 c).arrAt 8 cfg0.N : S1x1024.Idx → EReal) (ix2 0 d) = ∑ R : Fin 8192, dgTerm (args m c) d R := by
  have hN : cfg0.N = 32 := N_0
  have hlt : 2 * 15 + 1 < cfg0.N := by omega
  have e := congrFun ((dats m 0 c).read_blk_arrAt_eq_flushed 8 (fun t t' hf hf' hne => (cfg0.win 8).disjoint_blk fun h => hne (inj8 t t' hf hf' h)) cfg0.N ⟨2 * 15 + 1, hlt⟩ hlt ((flush0_8 _).2 rfl)) (ix2 (0 : Fin 1) d : S1x1024.Idx)
  rw [View.read_apply] at e
  have he : ((cfg0.win 8).blk ⟨2 * 15 + 1, hlt⟩).view.emb (ix2 (0 : Fin 1) d : S1x1024.Idx) = (ix2 0 d : S1x1024.Idx) := by
    funext a
    apply Fin.ext
    match a with
    | ⟨0, _⟩ => show win0_8.index ⟨2 * 15 + 1, hlt⟩ 0 * 1 + 1 * 0 = 0; rw [(idx8 ⟨2 * 15 + 1, hlt⟩).1]
    | ⟨1, _⟩ => show win0_8.index ⟨2 * 15 + 1, hlt⟩ 1 * 1024 + 1 * d.val = d.val; rw [(idx8 ⟨2 * 15 + 1, hlt⟩).2]; show 0 * 1024 + 1 * d.val = d.val; omega
  refine (congrArg ((dats m 0 c).arrAt 8 cfg0.N : S1x1024.Idx → EReal) he.symm).trans (e.trans ?_)
  show (cfg0.win 8).cut (grid0.coords ⟨2 * 15 + 1, hlt⟩) ((dats m 0 c).after 8 ⟨2 * 15 + 1, hlt⟩) (ix2 (0 : Fin 1) d : S1x1024.Idx) = _
  rw [after0_8]
  exact ((acc_at m c d 15 hlt).1).trans (sum_tiles (by decide : 0 < 8192) 16 512 rfl _)

theorem inj9 : ∀ t t' : Fin cfg0.N, (cfg0.win 9).flush t = true → (cfg0.win 9).flush t' = true → (cfg0.win 9).index t = (cfg0.win 9).index t' → t = t' := by
  intro t t' hf hf' e
  have h1 := (flush0_9 t).1 hf
  have h2 := (flush0_9 t').1 hf'
  have hN : cfg0.N = 32 := N_0
  have := t.isLt
  have := t'.isLt
  exact Fin.ext (by omega)
theorem result9 (d : Fin 1024) : ((dats m 0 c).arrAt 9 cfg0.N : S1x1024.Idx → EReal) (ix2 0 d) = ∑ R : Fin 8192, sqTerm (args m c) d R := by
  have hN : cfg0.N = 32 := N_0
  have hlt : 2 * 15 + 1 < cfg0.N := by omega
  have e := congrFun ((dats m 0 c).read_blk_arrAt_eq_flushed 9 (fun t t' hf hf' hne => (cfg0.win 9).disjoint_blk fun h => hne (inj9 t t' hf hf' h)) cfg0.N ⟨2 * 15 + 1, hlt⟩ hlt ((flush0_9 _).2 rfl)) (ix2 (0 : Fin 1) d : S1x1024.Idx)
  rw [View.read_apply] at e
  have he : ((cfg0.win 9).blk ⟨2 * 15 + 1, hlt⟩).view.emb (ix2 (0 : Fin 1) d : S1x1024.Idx) = (ix2 0 d : S1x1024.Idx) := by
    funext a
    apply Fin.ext
    match a with
    | ⟨0, _⟩ => show win0_9.index ⟨2 * 15 + 1, hlt⟩ 0 * 1 + 1 * 0 = 0; rw [(idx9 ⟨2 * 15 + 1, hlt⟩).1]
    | ⟨1, _⟩ => show win0_9.index ⟨2 * 15 + 1, hlt⟩ 1 * 1024 + 1 * d.val = d.val; rw [(idx9 ⟨2 * 15 + 1, hlt⟩).2]; show 0 * 1024 + 1 * d.val = d.val; omega
  refine (congrArg ((dats m 0 c).arrAt 9 cfg0.N : S1x1024.Idx → EReal) he.symm).trans (e.trans ?_)
  show (cfg0.win 9).cut (grid0.coords ⟨2 * 15 + 1, hlt⟩) ((dats m 0 c).after 9 ⟨2 * 15 + 1, hlt⟩) (ix2 (0 : Fin 1) d : S1x1024.Idx) = _
  rw [after0_9]
  exact ((acc_at m c d 15 hlt).2).trans (sum_tiles (by decide : 0 < 8192) 16 512 rfl _)

end Cert.LossIdeal.Hand

end
-- ==== Proof.LossAlg.lean ====
/- The forward and loss kernel against its reference. -/
module

public import proofs.«01_k».proof.Defs
public import proofs.«01_k».proof.Proof.LossValue
public import proofs.«01_k».proof.Proof.InputAlg
public import proofs.«01_k».proof.Proof.Gen.LossReferenceIdeal.Run

@[expose] public section

set_option maxRecDepth 16384

noncomputable section

namespace Cert.LossReferenceIdeal.Hand

open Idealize Idealize.ShloMosaic Idealize.ShloMosaic.TcCoe Idealize.SL.Sem Cert.LossMath
open Cert.LossReferenceIdeal Cert.LossReferenceIdeal.Gen Cert.LossReferenceIdeal.Value

/-- The arguments' entries. -/
abbrev argsOf (x : FVec Ideal S8192x1024 .f32) (gn : FVec Ideal S1x1024 .f32) (wg wu wd : FVec Ideal S2816x1024 .bf16) (gf : FVec Ideal S1x1024 .f32)
    (tg : FVec Ideal S8192x1024 .f32) : Args where
  x R d := x (ix2 R d)
  gn d := gn (ix2 0 d)
  wg e d := wg (ix2 e d)
  wu e d := wu (ix2 e d)
  wd e d := wd (ix2 e d)
  gf d := gf (ix2 0 d)
  tg R d := tg (ix2 R d)

variable (m : (ℓ : Loc nD τ sig) → Buf (Elt Ideal) ℓ) (c : Dev nD)
    (x : FVec Ideal S8192x1024 .f32) (gn : FVec Ideal S1x1024 .f32) (wg wu wd : FVec Ideal S2816x1024 .bf16) (gf : FVec Ideal S1x1024 .f32)
    (tg : FVec Ideal S8192x1024 .f32)
    (a0 : m (c.tc.loc main_arg0) = x) (a1 : m (c.tc.loc main_arg1) = gn) (a2 : m (c.tc.loc main_arg2) = wg) (a3 : m (c.tc.loc main_arg3) = wu)
    (a4 : m (c.tc.loc main_arg4) = wd) (a5 : m (c.tc.loc main_arg5) = gf) (a6 : m (c.tc.loc main_arg6) = tg)
include a0 a1 a2 a3 a4 a5 a6

theorem ref_gp (R : Fin 8192) (e : Fin 2816) :
    (res_main_v98 m c : S8192x2816.Idx → EReal) (ix2 R e)
      = u (argsOf x gn wg wu wd gf tg) R e * (lg (g (argsOf x gn wg wu wd gf tg) R e)
        + g (argsOf x gn wg wu wd gf tg) R e * (lg (g (argsOf x gn wg wu wd gf tg) R e) * (1 - lg (g (argsOf x gn wg wu wd gf tg) R e)))) := by
  unfold res_main_v98
  rw [a0, a1, a2, a3]
  simp only [u, g, h]
  pointwise
  first | done | rfl

/-- The gradient at the normalized output, as the reference has it. -/
def duRef (A : Args) (R : Fin 8192) (d : Fin 1024) : EReal := Ideal.div (cHf * 1) cLen * (Ideal.ofBits .f32 0x40000000#32 * dm A R d)

/-- The gradient at the output, as the reference has it. -/
def dyRef (A : Args) (R : Fin 8192) (d : Fin 1024) : EReal :=
      duRef A R d * A.gf d * r A R
        + y A R d * (∑ _k : Fin 1, Ideal.div ((∑ k : Fin 1024, y A R k * (duRef A R k * A.gf k)) * (Ideal.ofBits .f32 0xBF000000#32 * Ideal.div (r A R) (nrm (y A R)))) (Ideal.ofBits .f32 0x44800000#32))
        + (∑ _k : Fin 1, Ideal.div ((∑ k : Fin 1024, y A R k * (duRef A R k * A.gf k)) * (Ideal.ofBits .f32 0xBF000000#32 * Ideal.div (r A R) (nrm (y A R)))) (Ideal.ofBits .f32 0x44800000#32)) * y A R d

theorem ref_sq (d : Fin 1024) :
    (res_main_v89 m c : S1x1024.Idx → EReal) (ix2 0 d) = ∑ R : Fin 8192, sqTerm (argsOf x gn wg wu wd gf tg) d R := by
  unfold res_main_v89
  rw [a0, a1, a2, a3, a4, a5, a6]
  simp only [sqTerm, dm, r, y, hid, gate, u, g, h]
  pointwise
  first | done | rfl

theorem ref_dgf (d : Fin 1024) :
    (res_main_v57 m c : S1x1024.Idx → EReal) (ix2 0 d)
      = ∑ R : Fin 8192, y (argsOf x gn wg wu wd gf tg) R d * r (argsOf x gn wg wu wd gf tg) R * duRef (argsOf x gn wg wu wd gf tg) R d := by
  unfold res_main_v57
  rw [a0, a1, a2, a3, a4, a5, a6]
  simp only [duRef, dm, r, y, hid, gate, u, g, h]
  pointwise
  first | done | rfl

theorem ref_dy (R : Fin 8192) (d : Fin 1024) :
    (res_main_v73 m c : S8192x1024.Idx → EReal) (ix2 R d) = dyRef (argsOf x gn wg wu wd gf tg) R d := by
  unfold res_main_v73
  rw [a0, a1, a2, a3, a4, a5, a6]
  simp only [dyRef, duRef, dm, r, y, hid, gate, u, g, h]
  pointwise
  first | done | rfl

theorem ref_half (R : Fin 8192) (d : Fin 1024) :
    (res_main_v96 m c : S8192x1024.Idx → EReal) (ix2 R d) = cHf * dyRef (argsOf x gn wg wu wd gf tg) R d := by
  unfold res_main_v96
  rw [a0, a1, a2, a3, a4, a5, a6]
  simp only [dyRef, duRef, dm, r, y, hid, gate, u, g, h]
  pointwise
  first | done | rfl

end Cert.LossReferenceIdeal.Hand

namespace Cert.Proof

open Idealize Idealize.ShloMosaic Idealize.ShloMosaic.TcCoe Idealize.SL.Sem Cert.LossMath Cert.LossReferenceIdeal.Hand

theorem cTwo_eq : Ideal.ofBits .f32 0x40000000#32 = ((2 : ℝ) : EReal) := by
  simp [Ideal.ofBits, Ideal.ieee, -EReal.coe_mul]; norm_num
theorem cHf_eq : Ideal.ofBits .f32 0x3F000000#32 = ((1 / 2 : ℝ) : EReal) := by
  simp [Ideal.ofBits, Ideal.ieee, -EReal.coe_mul]; norm_num

/-- The two forms of the gradient at the normalized output. -/
theorem du_eq (A : Args) (R : Fin 8192) (d : Fin 1024) : duRef A R d = du A R d := by
  unfold duRef du
  rw [cHf, cLen, cInv, cHf_eq, cLen_eq, cInv_eq, cTwo_eq, mul_one, Ideal.div_coe (by norm_num), ← EReal.coe_mul, ← mul_assoc, ← EReal.coe_mul, mul_comm]
  congr 2
  norm_num

/-- The two forms of the gate's derivative. -/
theorem gp_eq (A : Args) (R : Fin 8192) (e : Fin 2816) :
    u A R e * (lg (g A R e) + g A R e * (lg (g A R e) * (1 - lg (g A R e)))) = gp A R e := by
  unfold gp
  congr 1
  generalize g A R e = G
  have := gate_eq 1 1 G ⟨1, by simp⟩ ⟨1, by simp⟩
  simp only [one_mul, mul_one] at this
  exact this

/-- The two forms of the gradient at the output. -/
theorem dy_eq (A : Args) (R : Fin 8192) (d : Fin 1024) : dyRef A R d = dy A R d := by
  have e := norm_eq 0 (du A R d) (A.gf d) (y A R d) (∑ k : Fin 1024, du A R k * A.gf k * y A R k) (nrm (y A R)) (msq_pos (y A R))
  rw [zero_add, zero_add] at e
  have hS : (∑ k : Fin 1024, y A R k * (duRef A R k * A.gf k)) = ∑ k : Fin 1024, du A R k * A.gf k * y A R k :=
    Finset.sum_congr rfl fun k _ => by rw [du_eq, mul_comm]
  unfold dyRef
  rw [hS, du_eq]
  exact e

theorem dgf_eq (A : Args) (d : Fin 1024) : ∑ R : Fin 8192, y A R d * r A R * duRef A R d = ∑ R : Fin 8192, dgTerm A d R :=
  Finset.sum_congr rfl fun R _ => by rw [du_eq]; exact mul_comm _ _

theorem ext2 {a b : ℕ} {f f' : (⟨2, ![a, b]⟩ : Shape).Idx → EReal} (h : ∀ R d, f (ix2 R d) = f' (ix2 R d)) : f = f' :=
  funext fun i => by rw [eta2 i]; exact h _ _

/-- The kernel's run, its eight arrays named. -/
theorem loss_run (m : (ℓ : Loc Cert.LossIdeal.nD Cert.LossIdeal.τ Cert.LossIdeal.sig) → Buf (Elt Ideal) ℓ) (ρ : Dev Cert.LossIdeal.nD → PrngReg) :
    θ_run (Cert.LossIdeal.defs (F := Ideal)) (onTc (τ := Cert.LossIdeal.τ) (Cert.LossIdeal.main (F := Ideal))) ⟨m, fun _ => 0, ρ⟩
      (fun r => (∀ c : Dev Cert.LossIdeal.nD, r.2.mem ((c.tc : Thread Cert.LossIdeal.nD Cert.LossIdeal.τ).loc Cert.LossIdeal.main_v0_0) = (Cert.LossIdeal.Gen.dats m 0 c).arrAt 7 Cert.LossIdeal.cfg0.N
          ∧ r.2.mem ((c.tc : Thread Cert.LossIdeal.nD Cert.LossIdeal.τ).loc Cert.LossIdeal.main_v0_1) = (Cert.LossIdeal.Gen.dats m 0 c).arrAt 8 Cert.LossIdeal.cfg0.N
          ∧ r.2.mem ((c.tc : Thread Cert.LossIdeal.nD Cert.LossIdeal.τ).loc Cert.LossIdeal.main_v0_2) = (Cert.LossIdeal.Gen.dats m 0 c).arrAt 9 Cert.LossIdeal.cfg0.N
          ∧ r.2.mem ((c.tc : Thread Cert.LossIdeal.nD Cert.LossIdeal.τ).loc Cert.LossIdeal.main_v0_3) = (Cert.LossIdeal.Gen.dats m 0 c).arrAt 10 Cert.LossIdeal.cfg0.N
          ∧ r.2.mem ((c.tc : Thread Cert.LossIdeal.nD Cert.LossIdeal.τ).loc Cert.LossIdeal.main_v0_4) = (Cert.LossIdeal.Gen.dats m 0 c).arrAt 11 Cert.LossIdeal.cfg0.N
          ∧ r.2.mem ((c.tc : Thread Cert.LossIdeal.nD Cert.LossIdeal.τ).loc Cert.LossIdeal.main_v0_5) = (Cert.LossIdeal.Gen.dats m 0 c).arrAt 12 Cert.LossIdeal.cfg0.N
          ∧ r.2.mem ((c.tc : Thread Cert.LossIdeal.nD Cert.LossIdeal.τ).loc Cert.LossIdeal.main_v0_6) = (Cert.LossIdeal.Gen.dats m 0 c).arrAt 13 Cert.LossIdeal.cfg0.N
          ∧ r.2.mem ((c.tc : Thread Cert.LossIdeal.nD Cert.LossIdeal.τ).loc Cert.LossIdeal.main_v0_7) = (Cert.LossIdeal.Gen.dats m 0 c).arrAt 14 Cert.LossIdeal.cfg0.N)) :=
  (θ_run _ _ _).mono (fun r h c => ⟨(h c).1 7, (h c).1 8, (h c).1 9, (h c).1 10, (h c).1 11, (h c).1 12, (h c).1 13, (h c).1 14⟩) (Cert.LossIdeal.Gen.run_main m ρ)

theorem algebraic_loss : Cert.algebraic_LossIdeal_LossReferenceIdeal
    (hLossIdeal := Cert.LossIdeal.Gen.facts) (hLossReferenceIdeal := Cert.LossReferenceIdeal.Gen.facts) := by
  intro m ρ m' ρ' _ hag
  refine ⟨fun c => (Cert.LossIdeal.Gen.dats m 0 c).arrAt 7 Cert.LossIdeal.cfg0.N,
    fun c => (Cert.LossIdeal.Gen.dats m 0 c).arrAt 8 Cert.LossIdeal.cfg0.N,
    fun c => (Cert.LossIdeal.Gen.dats m 0 c).arrAt 9 Cert.LossIdeal.cfg0.N,
    fun c => (Cert.LossIdeal.Gen.dats m 0 c).arrAt 10 Cert.LossIdeal.cfg0.N,
    fun c => (Cert.LossIdeal.Gen.dats m 0 c).arrAt 11 Cert.LossIdeal.cfg0.N,
    fun c => (Cert.LossIdeal.Gen.dats m 0 c).arrAt 12 Cert.LossIdeal.cfg0.N,
    fun c => (Cert.LossIdeal.Gen.dats m 0 c).arrAt 13 Cert.LossIdeal.cfg0.N,
    fun c => (Cert.LossIdeal.Gen.dats m 0 c).arrAt 14 Cert.LossIdeal.cfg0.N,
    (θ_run _ _ _).mono (fun r h c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2, h.2.1 c⟩)
      (θ_run_and (loss_run m ρ) (Cert.LossIdeal.Gen.frame m ρ)),
    (θ_run _ _ _).mono (fun r h c => ?_) (Cert.LossReferenceIdeal.Value.run m' ρ')⟩
  obtain ⟨h0, h1, h2, h3, h4, h5, h6, h7, hk⟩ := h c
  obtain ⟨a0, a1, a2, a3, a4, a5, a6⟩ := hag c
  refine ⟨h0.trans ?_, h1.trans ?_, h2.trans ?_, h3.trans ?_, h4.trans ?_, h5.trans ?_, h6.trans ?_, h7.trans ?_, hk⟩
  · funext i
    rw [eta2 i]
    refine (ref_dy m' c _ _ _ _ _ _ _ a0 a1 a2 a3 a4 a5 a6 (i 0) (i 1)).trans ((dy_eq _ _ _).trans ?_)
    exact (Cert.LossIdeal.Hand.result7 m c (i 0) (i 1)).symm
  · funext i
    rw [eta2 i, show i 0 = (0 : Fin 1) from Subsingleton.elim (α := Fin 1) _ _]
    refine (ref_dgf m' c _ _ _ _ _ _ _ a0 a1 a2 a3 a4 a5 a6 (i 1)).trans ?_
    exact (dgf_eq _ _).trans (Cert.LossIdeal.Hand.result8 m c (i 1)).symm
  · funext i
    rw [eta2 i, show i 0 = (0 : Fin 1) from Subsingleton.elim (α := Fin 1) _ _]
    exact (ref_sq m' c _ _ _ _ _ _ _ a0 a1 a2 a3 a4 a5 a6 (i 1)).trans (Cert.LossIdeal.Hand.result9 m c (i 1)).symm
  · funext i
    rw [eta2 i]
    refine (ref_half m' c _ _ _ _ _ _ _ a0 a1 a2 a3 a4 a5 a6 (i 0) (i 1)).trans ?_
    refine (congrArg (fun z => cHf * z) (dy_eq _ _ _)).trans ?_
    exact (Cert.LossIdeal.Hand.result10 m c (i 0) (i 1)).symm
  · rw [a0, a1]
    refine ext2 fun R d => ?_
    refine Eq.trans ?_ (Cert.LossIdeal.Hand.result11 m c R d).symm
    simp only [Cert.LossMath.h]
    pointwise
    first | done | rfl
  · funext i
    rw [eta2 i]
    refine (ref_gp m' c _ _ _ _ _ _ _ a0 a1 a2 a3 a4 a5 a6 (i 0) (i 1)).trans ((gp_eq _ _ _).trans ?_)
    exact (Cert.LossIdeal.Hand.result12 m c (i 0) (i 1)).symm
  · rw [a0, a1, a2]
    refine ext2 fun R d => ?_
    refine Eq.trans ?_ (Cert.LossIdeal.Hand.result13 m c R d).symm
    simp only [gate, g, Cert.LossMath.h]
    pointwise
    first | done | rfl
  · rw [a0, a1, a2, a3]
    refine ext2 fun R d => ?_
    refine Eq.trans ?_ (Cert.LossIdeal.Hand.result14 m c R d).symm
    simp only [hid, gate, g, u, Cert.LossMath.h]
    pointwise
    first | done | rfl

end Cert.Proof

end
-- ==== Proof.OutProjCases.lean ====
/- What one grid point of the output projection's backward kernel leaves: its blocks of the gradients of the two
   mixer outputs, the second of them also dealt out by residue modulo 4 and 16, and the weight's gradient so far. -/
module

public import proofs.«01_k».proof.Defs
public import proofs.«01_k».proof.Proof.Gen.OutProjIdeal.Value
public import Idealize.ShloMosaic.Lib.Pointwise
public import Idealize.ShloMosaic.Lib.Pipeline.Value

@[expose] public section

noncomputable section

namespace Cert.OutProjIdeal.Hand

open Idealize Idealize.ShloMosaic Idealize.ShloMosaic.TcCoe Idealize.SL.Sem
open Cert.OutProjIdeal Cert.OutProjIdeal.Gen Cert.OutProjIdeal.Value

theorem hz : (![0, 0] : Fin 2 → Nat) = fun _ => 0 := funext fun a => by fin_cases a <;> rfl

/-- The two halves of the weight's rows. -/
abbrev upper (w : Vec Ideal S1024x1024 .bf16) : Vec Ideal S512x1024 .bf16 :=
  View.ld w (Rect.unit ![0, 0] S512x1024.size inb_S1024x1024_S512x1024_0_0)
abbrev lower (w : Vec Ideal S1024x1024 .bf16) : Vec Ideal S512x1024 .bf16 :=
  View.ld w (Rect.unit ![512, 0] S512x1024.size inb_S1024x1024_S512x1024_512_0)

/-! ## The pieces dealt out by residue

Each store takes one column tile's rows of one residue; all the stores agree with one function of the block. -/

/-- Row `k` of residue `r` is row `dil * k + r` of the block. -/
def dealt4 (D : FVec Ideal S512x512 .f32) : S4x128x512.Idx → EReal := fun y => D (ix2 ⟨4 * (y 1).val + (y 0).val, by
  have h1 : (y 1).val < 128 := (y 1).isLt
  have h0 : (y 0).val < 4 := (y 0).isLt
  omega⟩ (y 2))
def dealt16 (D : FVec Ideal S512x512 .f32) : S16x32x512.Idx → EReal := fun y => D (ix2 ⟨16 * (y 1).val + (y 0).val, by
  have h1 : (y 1).val < 32 := (y 1).isLt
  have h0 : (y 0).val < 16 := (y 0).isLt
  omega⟩ (y 2))

/-- A column tile of the block. -/
def colTile (o : ℕ) (D : FVec Ideal S512x512 .f32) (T : FVec Ideal S512x128 .f32) : Prop :=
  ∀ (k : Fin 512) (d : Fin 128) (j : Fin 512), j.val = o + d.val → T (ix2 k d) = D (ix2 k j)

theorem pay_cols (a : FVec Ideal S512x1024 .f32) (b : FVec Ideal S512x1024 .bf16) :
    colTile 0 (k0_pay4 a b) (k0_pay6 a b) ∧ colTile 128 (k0_pay4 a b) (k0_pay7 a b)
    ∧ colTile 256 (k0_pay4 a b) (k0_pay8 a b) ∧ colTile 384 (k0_pay4 a b) (k0_pay9 a b) := by
  refine ⟨?_, ?_, ?_, ?_⟩ <;> intro k d j h
  case' refine_1 => unfold k0_pay6
  case' refine_2 => unfold k0_pay7
  case' refine_3 => unfold k0_pay8
  case' refine_4 => unfold k0_pay9
  all_goals
    rw [shapeCast_self]
    exact extractStridedSlice_apply _ _ _ _ _ (fun | ⟨0, _⟩ => by show k.val = 0 + k.val; omega | ⟨1, _⟩ => h)

theorem piece4 {o : Fin 2 → ℕ} {o' : Fin 3 → ℕ} {D : FVec Ideal S512x512 .f32} {T : FVec Ideal S512x128 .f32}
    (h : ∃ p, colTile p D T ∧ o 0 = o' 0 ∧ o 1 = 0 ∧ o' 1 = 0 ∧ o' 2 = p) (v : View sig .tc .vmem S512x128 .f32)
    (i1 : ∀ a, (![0, 0] : Fin 2 → ℕ) a + S512x128.size a ≤ S512x128.size a)
    (i2 : ∀ a, S128x128.size a = 0 ∨ o a + (![4, 1] : Fin 2 → ℕ) a * (S128x128.size a - 1) < S512x128.size a)
    (i3 : ∀ a, o' a + S1x128x128.size a ≤ S4x128x512.size a) (x : S1x128x128.Idx) :
    (k0_pay12 (F := Ideal) (v.readCov [⟨Rect.unit (s := S512x128) ![0, 0] S512x128.size i1, T⟩] ⟨o, S128x128.size, ![4, 1], i2⟩)) x
      = dealt4 D ((Rect.unit (s := S4x128x512) o' S1x128x128.size i3).emb x) := by
  obtain ⟨p, hT, h0, h1, h2, h3⟩ := h
  rw [View.readCov_eq_canon', View.canon_unit_zero hz]
  have hx0 : (x 0).val = 0 := Nat.lt_one_iff.1 (x 0).isLt
  have hx1 : (x 1).val < 128 := (x 1).isLt
  have hx2 : (x 2).val < 128 := (x 2).isLt
  have l0 : o' 0 + 1 ≤ 4 := i3 0
  have l2 : o' 2 + 128 ≤ 512 := i3 2
  unfold k0_pay12
  refine (shapeCast_addUnit_apply _ _ _ _).trans ?_
  show T _ = D _
  refine Eq.trans ?_ ((hT ⟨4 * (x 1).val + (o' 0), by omega⟩ ⟨(x 2).val, hx2⟩ ⟨p + (x 2).val, by omega⟩ rfl).trans ?_)
  · refine congrArg T (funext fun a => Fin.ext ?_)
    match a with
    | ⟨0, _⟩ => show o 0 + 4 * (x 1).val = 4 * (x 1).val + o' 0; omega
    | ⟨1, _⟩ => show o 1 + 1 * (x 2).val = (x 2).val; omega
  · refine congrArg D (funext fun a => Fin.ext ?_)
    match a with
    | ⟨0, _⟩ => show 4 * (x 1).val + o' 0 = 4 * (o' 1 + 1 * (x 1).val) + (o' 0 + 1 * (x 0).val); omega
    | ⟨1, _⟩ => show p + (x 2).val = o' 2 + 1 * (x 2).val; omega

theorem piece16 {o : Fin 2 → ℕ} {o' : Fin 3 → ℕ} {D : FVec Ideal S512x512 .f32} {T : FVec Ideal S512x128 .f32}
    (h : ∃ p, colTile p D T ∧ o 0 = o' 0 ∧ o 1 = 0 ∧ o' 1 = 0 ∧ o' 2 = p) (v : View sig .tc .vmem S512x128 .f32)
    (i1 : ∀ a, (![0, 0] : Fin 2 → ℕ) a + S512x128.size a ≤ S512x128.size a)
    (i2 : ∀ a, S32x128.size a = 0 ∨ o a + (![16, 1] : Fin 2 → ℕ) a * (S32x128.size a - 1) < S512x128.size a)
    (i3 : ∀ a, o' a + S1x32x128.size a ≤ S16x32x512.size a) (x : S1x32x128.Idx) :
    (k0_pay28 (F := Ideal) (v.readCov [⟨Rect.unit (s := S512x128) ![0, 0] S512x128.size i1, T⟩] ⟨o, S32x128.size, ![16, 1], i2⟩)) x
      = dealt16 D ((Rect.unit (s := S16x32x512) o' S1x32x128.size i3).emb x) := by
  obtain ⟨p, hT, h0, h1, h2, h3⟩ := h
  rw [View.readCov_eq_canon', View.canon_unit_zero hz]
  have hx0 : (x 0).val = 0 := Nat.lt_one_iff.1 (x 0).isLt
  have hx1 : (x 1).val < 32 := (x 1).isLt
  have hx2 : (x 2).val < 128 := (x 2).isLt
  have l0 : o' 0 + 1 ≤ 16 := i3 0
  have l2 : o' 2 + 128 ≤ 512 := i3 2
  unfold k0_pay28
  refine (shapeCast_addUnit_apply _ _ _ _).trans ?_
  show T _ = D _
  refine Eq.trans ?_ ((hT ⟨16 * (x 1).val + (o' 0), by omega⟩ ⟨(x 2).val, hx2⟩ ⟨p + (x 2).val, by omega⟩ rfl).trans ?_)
  · refine congrArg T (funext fun a => Fin.ext ?_)
    match a with
    | ⟨0, _⟩ => show o 0 + 16 * (x 1).val = 16 * (x 1).val + o' 0; omega
    | ⟨1, _⟩ => show o 1 + 1 * (x 2).val = (x 2).val; omega
  · refine congrArg D (funext fun a => Fin.ext ?_)
    match a with
    | ⟨0, _⟩ => show 16 * (x 1).val + o' 0 = 16 * (o' 1 + 1 * (x 1).val) + (o' 0 + 1 * (x 0).val); omega
    | ⟨1, _⟩ => show p + (x 2).val = o' 2 + 1 * (x 2).val; omega

/-! ## One point -/

variable (m : (ℓ : Loc nD τ sig) → Buf (Elt Ideal) ℓ)

theorem point_cases (t : Fin cfg0.N) {P : Prop} (hA : t.val % 16 = 0 → ¬1 ≤ t.val → ¬t.val % 16 = 15 → P)
    (hB : ¬t.val % 16 = 0 → 1 ≤ t.val → ¬t.val % 16 = 15 → P) (hC : ¬t.val % 16 = 0 → 1 ≤ t.val → t.val % 16 = 15 → P) : P := by
  have hN : t.val < 16 := lt_of_lt_of_eq t.isLt (show cfg0.N = 16 from N_0)
  by_cases h0 : t.val % 16 = 0
  · exact hA h0 (by omega) (by omega)
  · by_cases h2 : t.val % 16 = 15
    · exact hC h0 (by omega) h2
    · exact hB h0 (by omega) h2

theorem out4 (c : Dev nD) (t : Fin cfg0.N) : (outsAt0 m c t.val t.isLt).1 = k0_pay3 (iblk m c 0 t) (upper (iblk m c 3 t)) := by
  refine point_cases t (fun h0 h1 h2 => ?_) (fun h0 h1 h2 => ?_) fun h0 h1 h2 => ?_
  case' refine_1 =>
    rw [outsAt0_A m c t h0 h1 h2]
    dsimp only
    unfold out0_A_4 kernelRun0_A
  case' refine_2 =>
    rw [outsAt0_B m c t h0 h1 h2]
    dsimp only
    unfold out0_B_4 kernelRun0_B
  case' refine_3 =>
    rw [outsAt0_C m c t h0 h1 h2]
    dsimp only
    unfold out0_C_4 kernelRun0_C
  all_goals
    rw [View.read_writes_junk_eq_canon]
    dsimp only
    sl_unfold_words
    rw [View.canon_unit_zero hz]
    simp only [View.readAt_eq_ld, (hs0_0 t).read_unread, (hs0_3 t).read_unread, View.ld_unit_zero (S := S512x1024) hz]

theorem out5 (c : Dev nD) (t : Fin cfg0.N) : (outsAt0 m c t.val t.isLt).2.1 = k0_pay5 (iblk m c 0 t) (lower (iblk m c 3 t)) := by
  refine point_cases t (fun h0 h1 h2 => ?_) (fun h0 h1 h2 => ?_) fun h0 h1 h2 => ?_
  case' refine_1 =>
    rw [outsAt0_A m c t h0 h1 h2]
    dsimp only
    unfold out0_A_5 kernelRun0_A
  case' refine_2 =>
    rw [outsAt0_B m c t h0 h1 h2]
    dsimp only
    unfold out0_B_5 kernelRun0_B
  case' refine_3 =>
    rw [outsAt0_C m c t h0 h1 h2]
    dsimp only
    unfold out0_C_5 kernelRun0_C
  all_goals
    rw [View.read_writes_junk_eq_canon]
    dsimp only
    sl_unfold_words
    rw [View.canon_unit_zero hz]
    simp only [View.readAt_eq_ld, (hs0_0 t).read_unread, (hs0_3 t).read_unread, View.ld_unit_zero (S := S512x1024) hz]

theorem out7 (c : Dev nD) (t : Fin cfg0.N) (y : S4x128x512.Idx) : (outsAt0 m c t.val t.isLt).2.2.2.1 y = dealt4 (k0_pay4 (iblk m c 0 t) (lower (iblk m c 3 t))) y := by
  refine point_cases t (fun h0 h1 h2 => ?_) (fun h0 h1 h2 => ?_) fun h0 h1 h2 => ?_
  case' refine_1 =>
    rw [outsAt0_A m c t h0 h1 h2]
    dsimp only
    unfold out0_A_7
    rw [View.read_writes_junk_eq_canon]
    refine View.canon_apply_of_pieces _ _ ?_ y (by apply cover0_A_7)
    unfold kernelRun0_A
  case' refine_2 =>
    rw [outsAt0_B m c t h0 h1 h2]
    dsimp only
    unfold out0_B_7
    rw [View.read_writes_junk_eq_canon]
    refine View.canon_apply_of_pieces _ _ ?_ y (by apply cover0_B_7)
    unfold kernelRun0_B
  case' refine_3 =>
    rw [outsAt0_C m c t h0 h1 h2]
    dsimp only
    unfold out0_C_7
    rw [View.read_writes_junk_eq_canon]
    refine View.canon_apply_of_pieces _ _ ?_ y (by apply cover0_C_7)
    unfold kernelRun0_C
  all_goals
    dsimp only
    sl_unfold_words
    simp only [View.readAt_eq_ld, (hs0_0 t).read_unread, (hs0_3 t).read_unread, View.ld_unit_zero (S := S512x1024) hz]
    obtain ⟨q6, q7, q8, q9⟩ := pay_cols (iblk m c 0 t) (lower (iblk m c 3 t))
    generalize k0_pay6 (F := Ideal) _ _ = T6 at q6 ⊢
    generalize k0_pay7 (F := Ideal) _ _ = T7 at q7 ⊢
    generalize k0_pay8 (F := Ideal) _ _ = T8 at q8 ⊢
    generalize k0_pay9 (F := Ideal) _ _ = T9 at q9 ⊢
    repeat' (first | exact fun _ h => absurd h List.not_mem_nil | refine List.forall_mem_cons.2 ⟨?_, ?_⟩)
    all_goals
      intro x
      refine piece4 ?_ _ _ _ ?_ x
      all_goals first | exact ⟨_, q6, by decide⟩ | exact ⟨_, q7, by decide⟩ | exact ⟨_, q8, by decide⟩ | exact ⟨_, q9, by decide⟩ | decide

theorem out8 (c : Dev nD) (t : Fin cfg0.N) (y : S16x32x512.Idx) : (outsAt0 m c t.val t.isLt).2.2.2.2.1 y = dealt16 (k0_pay4 (iblk m c 0 t) (lower (iblk m c 3 t))) y := by
  refine point_cases t (fun h0 h1 h2 => ?_) (fun h0 h1 h2 => ?_) fun h0 h1 h2 => ?_
  case' refine_1 =>
    rw [outsAt0_A m c t h0 h1 h2]
    dsimp only
    unfold out0_A_8
    rw [View.read_writes_junk_eq_canon]
    refine View.canon_apply_of_pieces _ _ ?_ y (by apply cover0_A_8)
    unfold kernelRun0_A
  case' refine_2 =>
    rw [outsAt0_B m c t h0 h1 h2]
    dsimp only
    unfold out0_B_8
    rw [View.read_writes_junk_eq_canon]
    refine View.canon_apply_of_pieces _ _ ?_ y (by apply cover0_B_8)
    unfold kernelRun0_B
  case' refine_3 =>
    rw [outsAt0_C m c t h0 h1 h2]
    dsimp only
    unfold out0_C_8
    rw [View.read_writes_junk_eq_canon]
    refine View.canon_apply_of_pieces _ _ ?_ y (by apply cover0_C_8)
    unfold kernelRun0_C
  all_goals
    dsimp only
    sl_unfold_words
    simp only [View.readAt_eq_ld, (hs0_0 t).read_unread, (hs0_3 t).read_unread, View.ld_unit_zero (S := S512x1024) hz]
    obtain ⟨q6, q7, q8, q9⟩ := pay_cols (iblk m c 0 t) (lower (iblk m c 3 t))
    generalize k0_pay6 (F := Ideal) _ _ = T6 at q6 ⊢
    generalize k0_pay7 (F := Ideal) _ _ = T7 at q7 ⊢
    generalize k0_pay8 (F := Ideal) _ _ = T8 at q8 ⊢
    generalize k0_pay9 (F := Ideal) _ _ = T9 at q9 ⊢
    repeat' (first | exact fun _ h => absurd h List.not_mem_nil | refine List.forall_mem_cons.2 ⟨?_, ?_⟩)
    all_goals
      intro x
      refine piece16 ?_ _ _ _ ?_ x
      all_goals first | exact ⟨_, q6, by decide⟩ | exact ⟨_, q7, by decide⟩ | exact ⟨_, q8, by decide⟩ | exact ⟨_, q9, by decide⟩ | decide

/-! ## The weight's gradient so far -/

/-- Column `j` of the two inputs put side by side, at row `k`. -/
def cat {N : ℕ} (a b : (⟨2, ![N, 512]⟩ : Shape).Idx → EReal) (k : Fin N) (j : Fin 1024) : EReal :=
  if h : j.val < 512 then a (ix2 k ⟨j.val, h⟩) else b (ix2 k ⟨j.val - 512, by have := j.isLt; omega⟩)

/-- One point's part of the weight's gradient. -/
def part (dy : FVec Ideal S512x1024 .f32) (a b : FVec Ideal S512x512 .bf16) : S1024x1024.Idx → EReal := fun y =>
  ∑ k : Fin 512, cat a b k (y 0) * dy (ix2 k (y 1))

theorem pay98_apply (dy : FVec Ideal S512x1024 .f32) (a : FVec Ideal S512x512 .bf16) (r : Fin 512) (d : Fin 1024) :
    k0_pay98 (F := Ideal) (k0_pay2 dy) a (ix2 r d) = ∑ k : Fin 512, (a (ix2 k r) : EReal) * dy (ix2 k d) := by
  unfold k0_pay98 k0_pay2
  pointwise
theorem pay99_apply (dy : FVec Ideal S512x1024 .f32) (a : FVec Ideal S512x512 .bf16) (r : Fin 512) (d : Fin 1024) :
    k0_pay99 (F := Ideal) (k0_pay2 dy) a (ix2 r d) = ∑ k : Fin 512, (a (ix2 k r) : EReal) * dy (ix2 k d) := by
  unfold k0_pay99 k0_pay2
  pointwise

theorem cat_upper {N : ℕ} (a b : (⟨2, ![N, 512]⟩ : Shape).Idx → EReal) (k : Fin N) (j : Fin 1024) (r : Fin 512) (h : j.val = r.val) :
    cat a b k j = a (ix2 k r) := by
  have hr := r.isLt
  unfold cat
  rw [dif_pos (by omega)]
  exact congrArg (fun q => a (ix2 k q)) (Fin.ext h)
theorem cat_lower {N : ℕ} (a b : (⟨2, ![N, 512]⟩ : Shape).Idx → EReal) (k : Fin N) (j : Fin 1024) (r : Fin 512) (h : j.val = 512 + r.val) :
    cat a b k j = b (ix2 k r) := by
  unfold cat
  rw [dif_neg (by omega)]
  exact congrArg (fun q => b (ix2 k q)) (Fin.ext (by show j.val - 512 = r.val; omega))

theorem part_upper (dy : FVec Ideal S512x1024 .f32) (a b : FVec Ideal S512x512 .bf16) (i : ∀ n, (![0, 0] : Fin 2 → ℕ) n + S512x1024.size n ≤ S1024x1024.size n) (x : S512x1024.Idx) :
    k0_pay98 (F := Ideal) (k0_pay2 dy) a x = part dy a b ((Rect.unit (s := S1024x1024) ![0, 0] S512x1024.size i).emb x) := by
  refine (congrArg _ (eq_ix2 x)).trans ((pay98_apply dy a (x 0) (x 1)).trans (Finset.sum_congr rfl fun k _ => congrArg₂ (fun p q : EReal => p * q) ?_ (congrArg dy (funext fun n => Fin.ext ?_))))
  · exact (cat_upper _ _ _ _ _ (by show 0 + 1 * (x 0).val = _; omega)).symm
  · match n with
    | ⟨0, _⟩ => rfl
    | ⟨1, _⟩ => show (x 1).val = 0 + 1 * (x 1).val; omega
theorem part_lower (dy : FVec Ideal S512x1024 .f32) (a b : FVec Ideal S512x512 .bf16) (i : ∀ n, (![512, 0] : Fin 2 → ℕ) n + S512x1024.size n ≤ S1024x1024.size n) (x : S512x1024.Idx) :
    k0_pay99 (F := Ideal) (k0_pay2 dy) b x = part dy a b ((Rect.unit (s := S1024x1024) ![512, 0] S512x1024.size i).emb x) := by
  refine (congrArg _ (eq_ix2 x)).trans ((pay99_apply dy b (x 0) (x 1)).trans (Finset.sum_congr rfl fun k _ => congrArg₂ (fun p q : EReal => p * q) ?_ (congrArg dy (funext fun n => Fin.ext ?_))))
  · exact (cat_lower _ _ _ _ _ (by show 512 + 1 * (x 0).val = _; omega)).symm
  · match n with
    | ⟨0, _⟩ => rfl
    | ⟨1, _⟩ => show (x 1).val = 0 + 1 * (x 1).val; omega

theorem pay100_eq (v : FVec Ideal S512x1024 .bf16) (a : FVec Ideal S512x512 .bf16) : k0_pay100 v a = k0_pay98 v a := shapeCast_self _ _
theorem pay101_eq (v : FVec Ideal S512x1024 .bf16) (a : FVec Ideal S512x512 .bf16) : k0_pay101 v a = k0_pay99 v a := shapeCast_self _ _
theorem pay102_eq (v : FVec Ideal S512x1024 .bf16) (a : FVec Ideal S512x512 .bf16) (o : FVec Ideal S512x1024 .f32) : k0_pay102 v a o = addf o (k0_pay98 v a) := shapeCast_self _ _
theorem pay103_eq (v : FVec Ideal S512x1024 .bf16) (a : FVec Ideal S512x512 .bf16) (o : FVec Ideal S512x1024 .f32) : k0_pay103 v a o = addf o (k0_pay99 v a) := shapeCast_self _ _

theorem acc_first (c : Dev nD) (t : Fin cfg0.N) (h0 : t.val % 16 = 0) (h1 : ¬1 ≤ t.val) (h2 : ¬t.val % 16 = 15) (y : S1024x1024.Idx) :
    (outsAt0 m c t.val t.isLt).2.2.2.2.2 y = part (iblk m c 0 t) (iblk m c 1 t) (iblk m c 2 t) y := by
  rw [outsAt0_A m c t h0 h1 h2]
  dsimp only
  unfold sout0_A_0
  rw [View.read_writes_junk_eq_canon]
  refine View.canon_apply_of_pieces _ _ ?_ y (by apply scover0_A_0)
  unfold kernelRun0_A
  dsimp only
  sl_unfold_words
  simp only [View.readAt_eq_ld, (hs0_0 t).read_unread, (hs0_1 t).read_unread, (hs0_2 t).read_unread, View.ld_unit_zero (S := S512x1024) hz, View.ld_unit_zero (S := S512x512) hz,
    pay100_eq, pay101_eq]
  refine List.forall_mem_cons.2 ⟨fun x => part_lower _ _ _ inb_S1024x1024_S512x1024_512_0 x, List.forall_mem_cons.2 ⟨fun x => part_upper _ _ _ inb_S1024x1024_S512x1024_0_0 x, fun _ h => absurd h List.not_mem_nil⟩⟩

theorem acc_next (c : Dev nD) (n : ℕ) (h : n + 1 < cfg0.N) (y : S1024x1024.Idx) :
    (outsAt0 m c (n + 1) h).2.2.2.2.2 y = ((outsAt0 m c n (by omega)).2.2.2.2.2 y : EReal) + part (iblk m c 0 ⟨n + 1, h⟩) (iblk m c 1 ⟨n + 1, h⟩) (iblk m c 2 ⟨n + 1, h⟩) y := by
  have hN : n + 1 < 16 := lt_of_lt_of_eq h (show cfg0.N = 16 from N_0)
  have h0 : ¬(n + 1) % 16 = 0 := by omega
  by_cases h2 : (n + 1) % 16 = 15
  case' neg =>
    rw [outsAt0_B m c ⟨n + 1, h⟩ h0 (by show 1 ≤ n + 1; omega) h2]
    dsimp only
    unfold sout0_B_0
    rw [View.read_writes_junk_eq_canon]
    refine View.canon_apply_of_pieces (fun y => ((outsAt0 m c n (by omega)).2.2.2.2.2 y : EReal) + part _ _ _ y) _ ?_ y (by apply scover0_B_0)
    unfold kernelRun0_B
  case' pos =>
    rw [outsAt0_C m c ⟨n + 1, h⟩ h0 (by show 1 ≤ n + 1; omega) h2]
    dsimp only
    unfold sout0_C_0
    rw [View.read_writes_junk_eq_canon]
    refine View.canon_apply_of_pieces (fun y => ((outsAt0 m c n (by omega)).2.2.2.2.2 y : EReal) + part _ _ _ y) _ ?_ y (by apply scover0_C_0)
    unfold kernelRun0_C
  all_goals
    dsimp only
    sl_unfold_words
    simp only [View.readAt_eq_ld, (hs0_0 _).read_unread, (hs0_1 _).read_unread, (hs0_2 _).read_unread, (Memref.isWhole_whole _).read_unread, View.ld_unit_zero (S := S512x1024) hz, View.ld_unit_zero (S := S512x512) hz,
      pay102_eq, pay103_eq]
    refine List.forall_mem_cons.2 ⟨fun x => congrArg₂ (fun p q : EReal => p + q) rfl (part_lower _ _ _ inb_S1024x1024_S512x1024_512_0 x), List.forall_mem_cons.2
      ⟨fun x => congrArg₂ (fun p q : EReal => p + q) rfl (part_upper _ _ _ inb_S1024x1024_S512x1024_0_0 x), fun _ h => absurd h List.not_mem_nil⟩⟩

theorem pay1_canon (v : View sig .tc .vmem S1024x1024 .f32) (L : List (View.Piece (Elt Ideal) S1024x1024 .f32)) (y : S1024x1024.Idx) :
    k0_pay1 (F := Ideal) (v.readCov L (Rect.unit ![0, 0] S1024x1024.size inb_S1024x1024_S1024x1024_0_0).toLoadRect) y = View.canon L y := by
  unfold k0_pay1
  rw [View.readCov_eq_canon']
  show View.canon L _ = View.canon L _
  refine congrArg _ (funext fun a => Fin.ext ?_)
  show (![0, 0] : Fin 2 → ℕ) a + 1 * (y a).val = (y a).val
  rw [congrFun hz a]
  omega

/-- The last point hands out what it has gathered. -/
theorem out6 (c : Dev nD) (t : Fin cfg0.N) (h2 : t.val % 16 = 15) (y : S1024x1024.Idx) :
    (outsAt0 m c t.val t.isLt).2.2.1 y = (outsAt0 m c t.val t.isLt).2.2.2.2.2 y := by
  rw [outsAt0_C m c t (by omega) (by omega) h2]
  dsimp only
  unfold out0_C_6 sout0_C_0
  refine (congrFun (View.read_writes_junk_eq_canon (Val := Elt Ideal) VO0_6 _) y).trans (Eq.trans ?_ (congrFun (View.read_writes_junk_eq_canon (Val := Elt Ideal) VS0_0 _) y).symm)
  unfold kernelRun0_C
  dsimp only
  sl_unfold_words
  rw [View.canon_unit_zero (S := S1024x1024) hz]
  exact pay1_canon _ _ y

end Cert.OutProjIdeal.Hand
-- ==== Proof.OutProjValue.lean ====
/- The values of the output projection's backward kernel: the two mixer outputs' gradients are rows of `dy @ w`, dealt
   out by residue too for the second; the weight's gradient is summed over the 16 row blocks in a scratch buffer. -/
module

public import proofs.«01_k».proof.Proof.OutProjCases
public import proofs.«01_k».proof.Proof.TileSums
public import Idealize.ShloMosaic.Lib.Pointwise
public import Idealize.ShloMosaic.Lib.Pipeline.Value

@[expose] public section

noncomputable section

namespace Cert.OutProjIdeal.Hand

open Idealize Idealize.ShloMosaic Idealize.ShloMosaic.TcCoe Idealize.SL.Sem
open Cert.OutProjIdeal Cert.OutProjIdeal.Gen Cert.OutProjIdeal.Value Cert.Tiles

variable (m : (ℓ : Loc nD τ sig) → Buf (Elt Ideal) ℓ)

/-- The argument arrays as arrays of extended reals. -/
abbrev dyA (c : Dev nD) : S8192x1024.Idx → EReal := m ((c : Thread nD τ).loc main_arg0)
abbrev aA (c : Dev nD) : S8192x512.Idx → EReal := m ((c : Thread nD τ).loc main_arg1)
abbrev bA (c : Dev nD) : S8192x512.Idx → EReal := m ((c : Thread nD τ).loc main_arg2)
abbrev wA (c : Dev nD) : S1024x1024.Idx → EReal := m ((c : Thread nD τ).loc main_arg3)

/-- The gradient of the mixers' outputs put side by side, and the terms of the weight's gradient. -/
def mix (c : Dev nD) (R : Fin 8192) (J : Fin 1024) : EReal := ∑ d : Fin 1024, dyA m c (ix2 R d) * wA m c (ix2 J d)
def term (c : Dev nD) (J d : Fin 1024) (R : Fin 8192) : EReal := cat (aA m c) (bA m c) R J * dyA m c (ix2 R d)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx7 : ∀ t : Fin cfg0.N, win0_7.index t (0 : Fin 3) = 0 ∧ win0_7.index t (1 : Fin 3) = t.val ∧ win0_7.index t (2 : Fin 3) = 0 :=
  (by decide +kernel : ∀ t : Fin grid0.N, _)
theorem idx8 : ∀ t : Fin cfg0.N, win0_8.index t (0 : Fin 3) = 0 ∧ win0_8.index t (1 : Fin 3) = t.val ∧ win0_8.index t (2 : Fin 3) = 0 :=
  (by decide +kernel : ∀ t : Fin grid0.N, _)

/-! ## The blocks a point reads -/

theorem blk0 (c : Dev nD) (t : Fin cfg0.N) (k : Fin 512) (d : Fin 1024) (R : Fin 8192) (hR : R.val = t.val * 512 + k.val) :
    (iblk m c 0 t : S512x1024.Idx → EReal) (ix2 k d) = dyA m c (ix2 R d) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * k.val = R.val; rw [(idx0 t).1]; omega
  | ⟨1, _⟩ => show win0_0.index t 1 * 1024 + 1 * d.val = d.val; rw [(idx0 t).2]; omega

theorem blk1 (c : Dev nD) (t : Fin cfg0.N) (k : Fin 512) (d : Fin 512) (R : Fin 8192) (hR : R.val = t.val * 512 + k.val) :
    (iblk m c 1 t : S512x512.Idx → EReal) (ix2 k d) = aA m c (ix2 R d) := by
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * k.val = R.val; rw [(idx1 t).1]; omega
  | ⟨1, _⟩ => show win0_1.index t 1 * 512 + 1 * d.val = d.val; rw [(idx1 t).2]; omega

theorem blk2 (c : Dev nD) (t : Fin cfg0.N) (k : Fin 512) (d : Fin 512) (R : Fin 8192) (hR : R.val = t.val * 512 + k.val) :
    (iblk m c 2 t : S512x512.Idx → EReal) (ix2 k d) = bA m c (ix2 R d) := by
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * k.val = R.val; rw [(idx2 t).1]; omega
  | ⟨1, _⟩ => show win0_2.index t 1 * 512 + 1 * d.val = d.val; rw [(idx2 t).2]; omega

theorem blk3 (c : Dev nD) (t : Fin cfg0.N) (k : Fin 1024) (d : Fin 1024) :
    (iblk m c 3 t : S1024x1024.Idx → EReal) (ix2 k d) = wA m c (ix2 k d) := by
  unfold iblk
  rw [View.read_apply]
  show V m c main_arg3 _ = m (c.tc.loc main_arg3) _
  rw [V_main_arg3]
  congr 1
  funext a
  apply Fin.ext
  match a with
  | ⟨0, _⟩ => show win0_3.index t 0 * 1024 + 1 * k.val = k.val; rw [(idx3 t).1]; omega
  | ⟨1, _⟩ => show win0_3.index t 1 * 1024 + 1 * d.val = d.val; rw [(idx3 t).2]; omega

/-! ## One point -/

theorem pay3_apply (dy : FVec Ideal S512x1024 .f32) (w : FVec Ideal S512x1024 .bf16) (r j : Fin 512) :
    k0_pay3 (F := Ideal) dy w (ix2 r j) = ∑ d : Fin 1024, (dy (ix2 r d) : EReal) * w (ix2 j d) := by
  unfold k0_pay3 k0_pay2
  pointwise
theorem pay4_apply (dy : FVec Ideal S512x1024 .f32) (w : FVec Ideal S512x1024 .bf16) (r j : Fin 512) :
    k0_pay4 (F := Ideal) dy w (ix2 r j) = ∑ d : Fin 1024, (dy (ix2 r d) : EReal) * w (ix2 j d) := by
  unfold k0_pay4 k0_pay2
  pointwise
theorem pay5_apply (dy : FVec Ideal S512x1024 .f32) (w : FVec Ideal S512x1024 .bf16) (r j : Fin 512) :
    k0_pay5 (F := Ideal) dy w (ix2 r j) = ∑ d : Fin 1024, (dy (ix2 r d) : EReal) * w (ix2 j d) := pay4_apply dy w r j

theorem upper_apply (c : Dev nD) (t : Fin cfg0.N) (j : Fin 512) (d J : Fin 1024) (h : J.val = j.val) :
    (upper (iblk m c 3 t) : S512x1024.Idx → EReal) (ix2 j d) = wA m c (ix2 J d) := by
  refine Eq.trans ?_ (blk3 m c t J d)
  refine congrArg (iblk m c 3 t : S1024x1024.Idx → EReal) (funext fun a => Fin.ext ?_)
  match a with
  | ⟨0, _⟩ => show 0 + 1 * j.val = J.val; omega
  | ⟨1, _⟩ => show 0 + 1 * d.val = d.val; omega
theorem lower_apply (c : Dev nD) (t : Fin cfg0.N) (j : Fin 512) (d J : Fin 1024) (h : J.val = 512 + j.val) :
    (lower (iblk m c 3 t) : S512x1024.Idx → EReal) (ix2 j d) = wA m c (ix2 J d) := by
  refine Eq.trans ?_ (blk3 m c t J d)
  refine congrArg (iblk m c 3 t : S1024x1024.Idx → EReal) (funext fun a => Fin.ext ?_)
  match a with
  | ⟨0, _⟩ => show 512 + 1 * j.val = J.val; omega
  | ⟨1, _⟩ => show 0 + 1 * d.val = d.val; omega

theorem out4_apply (c : Dev nD) (t : Fin cfg0.N) (k j : Fin 512) (R : Fin 8192) (J : Fin 1024) (hR : R.val = t.val * 512 + k.val) (hJ : J.val = j.val) :
    ((outsAt0 m c t.val t.isLt).1 : S512x512.Idx → EReal) (ix2 k j) = mix m c R J := by
  rw [out4]
  refine (pay3_apply _ _ k j).trans ?_
  exact Finset.sum_congr rfl fun d _ => congrArg₂ _ (blk0 m c t k d R hR) (upper_apply m c t j d J hJ)
theorem out5_apply (c : Dev nD) (t : Fin cfg0.N) (k j : Fin 512) (R : Fin 8192) (J : Fin 1024) (hR : R.val = t.val * 512 + k.val) (hJ : J.val = 512 + j.val) :
    ((outsAt0 m c t.val t.isLt).2.1 : S512x512.Idx → EReal) (ix2 k j) = mix m c R J := by
  rw [out5]
  refine (pay5_apply _ _ k j).trans ?_
  exact Finset.sum_congr rfl fun d _ => congrArg₂ _ (blk0 m c t k d R hR) (lower_apply m c t j d J hJ)
theorem out7_apply (c : Dev nD) (t : Fin cfg0.N) (r : Fin 4) (k : Fin 128) (j : Fin 512) (R : Fin 8192) (J : Fin 1024) (hR : R.val = t.val * 512 + (4 * k.val + r.val)) (hJ : J.val = 512 + j.val) :
    ((outsAt0 m c t.val t.isLt).2.2.2.1 : S4x128x512.Idx → EReal) (ix3 r k j) = mix m c R J := by
  rw [out7]
  refine (pay4_apply _ _ _ _).trans ?_
  exact Finset.sum_congr rfl fun d _ => congrArg₂ _ (blk0 m c t _ d R hR) (lower_apply m c t j d J hJ)
theorem out8_apply (c : Dev nD) (t : Fin cfg0.N) (r : Fin 16) (k : Fin 32) (j : Fin 512) (R : Fin 8192) (J : Fin 1024) (hR : R.val = t.val * 512 + (16 * k.val + r.val)) (hJ : J.val = 512 + j.val) :
    ((outsAt0 m c t.val t.isLt).2.2.2.2.1 : S16x32x512.Idx → EReal) (ix3 r k j) = mix m c R J := by
  rw [out8]
  refine (pay4_apply _ _ _ _).trans ?_
  exact Finset.sum_congr rfl fun d _ => congrArg₂ _ (blk0 m c t _ d R hR) (lower_apply m c t j d J hJ)

theorem part_tile (c : Dev nD) (t : Fin cfg0.N) (J d : Fin 1024) :
    part (iblk m c 0 t) (iblk m c 1 t) (iblk m c 2 t) (ix2 J d) = tile (by decide : 0 < 8192) 512 (term m c J d) t.val := by
  have hN : t.val < 16 := lt_of_lt_of_eq t.isLt (show cfg0.N = 16 from N_0)
  rw [tile_of_lt _ _ _ _ (fun k => by have := k.isLt; omega)]
  refine Finset.sum_congr rfl fun k _ => ?_
  have hlt : t.val * 512 + k.val < 8192 := by have := k.isLt; omega
  refine congrArg₂ (fun p q : EReal => p * q) ?_ (blk0 m c t k d ⟨t.val * 512 + k.val, hlt⟩ rfl)
  by_cases hJ : J.val < 512
  · exact (cat_upper _ _ _ _ ⟨J.val, hJ⟩ rfl).trans ((blk1 m c t k ⟨J.val, hJ⟩ ⟨t.val * 512 + k.val, hlt⟩ rfl).trans (cat_upper _ _ _ _ ⟨J.val, hJ⟩ rfl).symm)
  · have hj : J.val - 512 < 512 := by have := J.isLt; omega
    have e : J.val = 512 + (⟨J.val - 512, hj⟩ : Fin 512).val := by show _ = 512 + (J.val - 512); omega
    exact (cat_lower _ _ _ _ ⟨J.val - 512, hj⟩ e).trans ((blk2 m c t k ⟨J.val - 512, hj⟩ ⟨t.val * 512 + k.val, hlt⟩ rfl).trans (cat_lower _ _ _ _ ⟨J.val - 512, hj⟩ e).symm)

/-- After point `n` the scratch holds the sum over the row blocks so far. -/
theorem acc (c : Dev nD) : ∀ (n : ℕ) (h : n < cfg0.N) (J d : Fin 1024),
    ((outsAt0 m c n h).2.2.2.2.2 : S1024x1024.Idx → EReal) (ix2 J d) = ∑ s ∈ Finset.range (n + 1), tile (by decide : 0 < 8192) 512 (term m c J d) s := by
  intro n
  induction n with
  | zero =>
    intro h J d
    rw [Finset.sum_range_one]
    exact (acc_first m c ⟨0, h⟩ rfl (by show ¬1 ≤ 0; omega) (by show ¬0 % 16 = 15; omega) _).trans (part_tile m c ⟨0, h⟩ J d)
  | succ k ih =>
    intro h J d
    rw [Finset.sum_range_succ, ← ih (by omega) J d, ← part_tile m c ⟨k + 1, h⟩ J d]
    exact acc_next m c k h _

/-! ## The five results at an entry -/

theorem result4 (c : Dev nD) (R : Fin 8192) (j : Fin 512) (J : Fin 1024) (hJ : J.val = j.val) :
    ((dats m 0 c).arrAt 4 cfg0.N : S8192x512.Idx → EReal) (ix2 R j) = mix m c R J := by
  have hR := R.isLt
  have hN : cfg0.N = 16 := N_0
  have hlt : R.val / 512 < cfg0.N := by omega
  have e := congrFun (blocks4 m c ⟨R.val / 512, hlt⟩ (flush0_4 _)) (ix2 (⟨R.val % 512, by omega⟩ : Fin 512) j : S512x512.Idx)
  rw [View.read_apply, flushed4] at e
  have he : ((cfg0.win 4).blk ⟨R.val / 512, hlt⟩).view.emb (ix2 (⟨R.val % 512, by omega⟩ : Fin 512) j : S512x512.Idx) = (ix2 R j : S8192x512.Idx) := by
    funext a
    apply Fin.ext
    match a with
    | ⟨0, _⟩ => show win0_4.index ⟨R.val / 512, hlt⟩ 0 * 512 + 1 * (R.val % 512) = R.val; rw [(idx4 ⟨R.val / 512, hlt⟩).1]; show R.val / 512 * 512 + 1 * (R.val % 512) = R.val; omega
    | ⟨1, _⟩ => show win0_4.index ⟨R.val / 512, hlt⟩ 1 * 512 + 1 * j.val = j.val; rw [(idx4 ⟨R.val / 512, hlt⟩).2]; omega
  refine (congrArg _ he.symm).trans (e.trans ?_)
  exact out4_apply m c ⟨R.val / 512, hlt⟩ ⟨R.val % 512, by omega⟩ j R J (by show R.val = R.val / 512 * 512 + R.val % 512; omega) hJ

theorem result5 (c : Dev nD) (R : Fin 8192) (j : Fin 512) (J : Fin 1024) (hJ : J.val = 512 + j.val) :
    ((dats m 0 c).arrAt 5 cfg0.N : S8192x512.Idx → EReal) (ix2 R j) = mix m c R J := by
  have hR := R.isLt
  have hN : cfg0.N = 16 := N_0
  have hlt : R.val / 512 < cfg0.N := by omega
  have e := congrFun (blocks5 m c ⟨R.val / 512, hlt⟩ (flush0_5 _)) (ix2 (⟨R.val % 512, by omega⟩ : Fin 512) j : S512x512.Idx)
  rw [View.read_apply, flushed5] at e
  have he : ((cfg0.win 5).blk ⟨R.val / 512, hlt⟩).view.emb (ix2 (⟨R.val % 512, by omega⟩ : Fin 512) j : S512x512.Idx) = (ix2 R j : S8192x512.Idx) := by
    funext a
    apply Fin.ext
    match a with
    | ⟨0, _⟩ => show win0_5.index ⟨R.val / 512, hlt⟩ 0 * 512 + 1 * (R.val % 512) = R.val; rw [(idx5 ⟨R.val / 512, hlt⟩).1]; show R.val / 512 * 512 + 1 * (R.val % 512) = R.val; omega
    | ⟨1, _⟩ => show win0_5.index ⟨R.val / 512, hlt⟩ 1 * 512 + 1 * j.val = j.val; rw [(idx5 ⟨R.val / 512, hlt⟩).2]; omega
  refine (congrArg _ he.symm).trans (e.trans ?_)
  exact out5_apply m c ⟨R.val / 512, hlt⟩ ⟨R.val % 512, by omega⟩ j R J (by show R.val = R.val / 512 * 512 + R.val % 512; omega) hJ

theorem result7 (c : Dev nD) (r : Fin 4) (q : Fin 2048) (j : Fin 512) (R : Fin 8192) (hR : R.val = 4 * q.val + r.val) (J : Fin 1024) (hJ : J.val = 512 + j.val) :
    ((dats m 0 c).arrAt 7 cfg0.N : S4x2048x512.Idx → EReal) (ix3 r q j) = mix m c R J := by
  have hr := r.isLt
  have hq := q.isLt
  have hN : cfg0.N = 16 := N_0
  have hlt : q.val / 128 < cfg0.N := by omega
  have e := congrFun (blocks7 m c ⟨q.val / 128, hlt⟩ (flush0_7 _)) (ix3 r (⟨q.val % 128, by omega⟩ : Fin 128) j : S4x128x512.Idx)
  rw [View.read_apply, flushed7] at e
  have he : ((cfg0.win 7).blk ⟨q.val / 128, hlt⟩).view.emb (ix3 r (⟨q.val % 128, by omega⟩ : Fin 128) j : S4x128x512.Idx) = (ix3 r q j : S4x2048x512.Idx) := by
    funext a
    apply Fin.ext
    match a with
    | ⟨0, _⟩ => show win0_7.index ⟨q.val / 128, hlt⟩ 0 * 4 + 1 * r.val = r.val; rw [(idx7 ⟨q.val / 128, hlt⟩).1]; omega
    | ⟨1, _⟩ => show win0_7.index ⟨q.val / 128, hlt⟩ 1 * 128 + 1 * (q.val % 128) = q.val; rw [(idx7 ⟨q.val / 128, hlt⟩).2.1]; show q.val / 128 * 128 + 1 * (q.val % 128) = q.val; omega
    | ⟨2, _⟩ => show win0_7.index ⟨q.val / 128, hlt⟩ 2 * 512 + 1 * j.val = j.val; rw [(idx7 ⟨q.val / 128, hlt⟩).2.2]; omega
  refine (congrArg _ he.symm).trans (e.trans ?_)
  exact out7_apply m c ⟨q.val / 128, hlt⟩ r ⟨q.val % 128, by omega⟩ j R J (by show R.val = q.val / 128 * 512 + (4 * (q.val % 128) + r.val); omega) hJ

theorem result8 (c : Dev nD) (r : Fin 16) (q : Fin 512) (j : Fin 512) (R : Fin 8192) (hR : R.val = 16 * q.val + r.val) (J : Fin 1024) (hJ : J.val = 512 + j.val) :
    ((dats m 0 c).arrAt 8 cfg0.N : S16x512x512.Idx → EReal) (ix3 r q j) = mix m c R J := by
  have hr := r.isLt
  have hq := q.isLt
  have hN : cfg0.N = 16 := N_0
  have hlt : q.val / 32 < cfg0.N := by omega
  have e := congrFun (blocks8 m c ⟨q.val / 32, hlt⟩ (flush0_8 _)) (ix3 r (⟨q.val % 32, by omega⟩ : Fin 32) j : S16x32x512.Idx)
  rw [View.read_apply, flushed8] at e
  have he : ((cfg0.win 8).blk ⟨q.val / 32, hlt⟩).view.emb (ix3 r (⟨q.val % 32, by omega⟩ : Fin 32) j : S16x32x512.Idx) = (ix3 r q j : S16x512x512.Idx) := by
    funext a
    apply Fin.ext
    match a with
    | ⟨0, _⟩ => show win0_8.index ⟨q.val / 32, hlt⟩ 0 * 16 + 1 * r.val = r.val; rw [(idx8 ⟨q.val / 32, hlt⟩).1]; omega
    | ⟨1, _⟩ => show win0_8.index ⟨q.val / 32, hlt⟩ 1 * 32 + 1 * (q.val % 32) = q.val; rw [(idx8 ⟨q.val / 32, hlt⟩).2.1]; show q.val / 32 * 32 + 1 * (q.val % 32) = q.val; omega
    | ⟨2, _⟩ => show win0_8.index ⟨q.val / 32, hlt⟩ 2 * 512 + 1 * j.val = j.val; rw [(idx8 ⟨q.val / 32, hlt⟩).2.2]; omega
  refine (congrArg _ he.symm).trans (e.trans ?_)
  exact out8_apply m c ⟨q.val / 32, hlt⟩ r ⟨q.val % 32, by omega⟩ j R J (by show R.val = q.val / 32 * 512 + (16 * (q.val % 32) + r.val); omega) hJ

/-- The block of the weight's gradient after point `n`; after the last one it is the array, written back once. -/
def gwAt (c : Dev nD) (n : ℕ) (h : n < cfg0.N) : S1024x1024.Idx → EReal := (outsAt0 m c n h).2.2.1
def gwOut (c : Dev nD) : Buf (Elt Ideal) ((c : Thread nD τ).loc main_v0_2) := gwAt m c 15 (by rw [show cfg0.N = 16 from N_0]; decide)

theorem flushed6_eq (c : Dev nD) (t : Fin cfg0.N) (hf : (cfg0.win 6).flush t = true) :
    (dats m 0 c).flushed 6 t = ((cfg0.win 6).blk t).view.read (Elt Ideal) (gwOut m c) := by
  have hN : cfg0.N = 16 := N_0
  have h15 : t.val = 15 := by have := (flush0_6 t).mp hf; have := t.isLt; omega
  obtain rfl : t = t0_15 := Fin.ext h15
  rw [flushed6]
  have hz' : (fun a => win0_6.index t0_15 a * main_v0_2.ty.shape.size a) = fun _ => 0 := funext fun a => by fin_cases a <;> decide
  exact (Memref.read_access_unit_zero (Elt Ideal) main_v0_2 hz' (fun a => by rw [congrFun hz' a]; simp) (gwOut m c)).symm

theorem final6 (c : Dev nD) : (dats m 0 c).arrAt 6 cfg0.N = gwOut m c :=
  (dats m 0 c).arrAt_eq_of_cover 6 (gwOut m c) (flushed6_eq m c) fun i =>
    ⟨t0_15, (flush0_6 t0_15).mpr rfl, by
      show i ∈ ((View.whole main_v0_2).slice (win0_6.rect t0_15)).set
      rw [View.set_slice_whole, Rect.mem_set_unit]
      intro a
      have h0 : (i 0 : Nat) < 1024 := (i 0).isLt
      have h1 : (i 1 : Nat) < 1024 := (i 1).isLt
      match a with
      | ⟨0, _⟩ => show win0_6.index t0_15 0 * win0_6.size 0 ≤ (i 0 : Nat) ∧ (i 0 : Nat) < win0_6.index t0_15 0 * win0_6.size 0 + win0_6.xsize (grid0.coords t0_15) 0
                  rw [show win0_6.index t0_15 0 * win0_6.size 0 = 0 from by decide +kernel, show win0_6.xsize (grid0.coords t0_15) 0 = 1024 from by decide +kernel]; omega
      | ⟨1, _⟩ => show win0_6.index t0_15 1 * win0_6.size 1 ≤ (i 1 : Nat) ∧ (i 1 : Nat) < win0_6.index t0_15 1 * win0_6.size 1 + win0_6.xsize (grid0.coords t0_15) 1
                  rw [show win0_6.index t0_15 1 * win0_6.size 1 = 0 from by decide +kernel, show win0_6.xsize (grid0.coords t0_15) 1 = 1024 from by decide +kernel]; omega⟩

theorem gw_last (c : Dev nD) (n : ℕ) (h : n < cfg0.N) (hn : n % 16 = 15) (J d : Fin 1024) :
    gwAt m c n h (ix2 J d) = ∑ s ∈ Finset.range (n + 1), tile (by decide : 0 < 8192) 512 (term m c J d) s :=
  (out6 m c ⟨n, h⟩ hn (ix2 J d)).trans (acc m c n h J d)

theorem result6 (c : Dev nD) (J d : Fin 1024) :
    ((dats m 0 c).arrAt 6 cfg0.N : S1024x1024.Idx → EReal) (ix2 J d) = ∑ R : Fin 8192, term m c J d R := by
  have h15 : 15 < cfg0.N := by rw [show cfg0.N = 16 from N_0]; decide
  rw [final6]
  refine (gw_last m c 15 h15 (by decide) J d).trans ?_
  exact sum_tiles (by decide : 0 < 8192) 16 512 rfl _

end Cert.OutProjIdeal.Hand
-- ==== Proof.OutProjAlg.lean ====
/- The output projection's backward kernel against its reference: the same sums, the weight's gradient with its two
   factors the other way round. -/
module

public import proofs.«01_k».proof.Proof.OutProjValue
public import proofs.«01_k».proof.Proof.LossAlg
public import proofs.«01_k».proof.Proof.Gen.OutProjReferenceIdeal.Run

@[expose] public section

noncomputable section

namespace Cert.Proof

open Idealize Idealize.ShloMosaic Idealize.ShloMosaic.TcCoe Idealize.SL.Sem

/-! ## The reference at an entry -/

section Ref
open Cert.OutProjReferenceIdeal Cert.OutProjReferenceIdeal.Gen

theorem out_ref_da (dy : FVec Ideal S8192x1024 .f32) (w : FVec Ideal S1024x1024 .bf16) (R : Fin 8192) (j : Fin 512) (J : Fin 1024) (hJ : J.val = j.val) :
    (truncf .bf16 (extractStridedSlice S8192x512 ![0, 0] (Host.dotGeneral dot_S8192x1024_S1024x1024_S8192x1024_1_1_0_0_n_n none dy (extf .f32 w bitsLt_bf16_f32)) slices_S8192x1024_S8192x512_0_0) bitsLt_bf16_f32 : FVec Ideal S8192x512 .bf16) (ix2 R j)
      = ∑ d : Fin 1024, (dy (ix2 R d) : EReal) * w (ix2 J d) := by
  have hj := j.isLt
  rw [show J = ⟨j.val, by omega⟩ from Fin.ext hJ]
  pointwise

theorem out_ref_db (dy : FVec Ideal S8192x1024 .f32) (w : FVec Ideal S1024x1024 .bf16) (R : Fin 8192) (j : Fin 512) (J : Fin 1024) (hJ : J.val = 512 + j.val) :
    (extractStridedSlice S8192x512 ![0, 512] (Host.dotGeneral dot_S8192x1024_S1024x1024_S8192x1024_1_1_0_0_n_n none dy (extf .f32 w bitsLt_bf16_f32)) slices_S8192x1024_S8192x512_0_512 : FVec Ideal S8192x512 .f32) (ix2 R j)
      = ∑ d : Fin 1024, (dy (ix2 R d) : EReal) * w (ix2 J d) := by
  have hj := j.isLt
  rw [show J = ⟨512 + j.val, by omega⟩ from Fin.ext hJ]
  pointwise

theorem out_ref_gw (dy : FVec Ideal S8192x1024 .f32) (a b : FVec Ideal S8192x512 .bf16) (J d : Fin 1024) :
    (truncf .bf16 (transpose S1024x1024 [1, 0] (Host.dotGeneral dot_S8192x1024_S8192x1024_S1024x1024_0_0_1_1_n_n none dy (concatenate S8192x1024 1 [⟨S8192x512, (extf .f32 a bitsLt_bf16_f32)⟩, ⟨S8192x512, (extf .f32 b bitsLt_bf16_f32)⟩] concatenates_S8192x512_S8192x512_S8192x1024_d1)) transposes_S1024x1024_S1024x1024_1_0) bitsLt_bf16_f32 : FVec Ideal S1024x1024 .bf16) (ix2 J d)
      = ∑ R : Fin 8192, (dy (ix2 R d) : EReal) * Cert.OutProjIdeal.Hand.cat a b R J := by
  unfold Cert.OutProjIdeal.Hand.cat
  pointwise

theorem out_ref_seg4 (D : FVec Ideal S8192x512 .f32) (r : Fin 4) (q : Fin 2048) (j : Fin 512) (R : Fin 8192) (hR : R.val = 4 * q.val + r.val) :
    (truncf .bf16 (transpose S4x2048x512 [1, 0, 2] (shapeCast S2048x4x512 D shapeCasts_S8192x512_S2048x4x512) transposes_S2048x4x512_S4x2048x512_1_0_2) bitsLt_bf16_f32 : FVec Ideal S4x2048x512 .bf16) (ix3 r q j)
      = D (ix2 R j) := by
  have hr := r.isLt
  have hq := q.isLt
  rw [show R = ⟨q.val * 4 + r.val, by omega⟩ from Fin.ext (hR.trans (by rw [Nat.mul_comm]))]
  pointwise

theorem out_ref_seg16 (D : FVec Ideal S8192x512 .f32) (r : Fin 16) (q : Fin 512) (j : Fin 512) (R : Fin 8192) (hR : R.val = 16 * q.val + r.val) :
    (truncf .bf16 (transpose S16x512x512 [1, 0, 2] (shapeCast S512x16x512 D shapeCasts_S8192x512_S512x16x512) transposes_S512x16x512_S16x512x512_1_0_2) bitsLt_bf16_f32 : FVec Ideal S16x512x512 .bf16) (ix3 r q j)
      = D (ix2 R j) := by
  have hr := r.isLt
  have hq := q.isLt
  rw [show R = ⟨q.val * 16 + r.val, by omega⟩ from Fin.ext (hR.trans (by rw [Nat.mul_comm]))]
  pointwise

end Ref

theorem ext3 {a b e : ℕ} {f f' : (⟨3, ![a, b, e]⟩ : Shape).Idx → EReal} (h : ∀ r q j, f (ix3 r q j) = f' (ix3 r q j)) : f = f' :=
  funext fun i => by rw [eq_ix3 i]; exact h _ _ _

theorem algebraic_out_proj : Cert.algebraic_OutProjIdeal_OutProjReferenceIdeal
    (hOutProjIdeal := Cert.OutProjIdeal.Gen.facts) (hOutProjReferenceIdeal := Cert.OutProjReferenceIdeal.Gen.facts) := by
  intro m ρ m' ρ' _ hag
  refine ⟨fun c => (Cert.OutProjIdeal.Gen.dats m 0 c).arrAt 4 Cert.OutProjIdeal.cfg0.N, fun c => (Cert.OutProjIdeal.Gen.dats m 0 c).arrAt 5 Cert.OutProjIdeal.cfg0.N,
    fun c => (Cert.OutProjIdeal.Gen.dats m 0 c).arrAt 6 Cert.OutProjIdeal.cfg0.N, fun c => (Cert.OutProjIdeal.Gen.dats m 0 c).arrAt 7 Cert.OutProjIdeal.cfg0.N,
    fun c => (Cert.OutProjIdeal.Gen.dats m 0 c).arrAt 8 Cert.OutProjIdeal.cfg0.N,
    Cert.OutProjIdeal.Value.run_blocks m ρ, (θ_run _ _ _).mono (fun r h c => ?_) (Cert.OutProjReferenceIdeal.Value.run m' ρ')⟩
  obtain ⟨h0, h1, h2, h3, h4, hk⟩ := h c
  obtain ⟨a0, a1, a2, a3⟩ := hag c
  refine ⟨h0.trans ?_, h1.trans ?_, h2.trans ?_, h3.trans ?_, h4.trans ?_, hk⟩
  all_goals rw [a0]
  · rw [a3]
    refine ext2 fun R j => ?_
    have hj := j.isLt
    exact (out_ref_da (Cert.OutProjIdeal.Hand.dyA m c) (Cert.OutProjIdeal.Hand.wA m c) R j ⟨j.val, by omega⟩ rfl).trans (Cert.OutProjIdeal.Hand.result4 m c R j ⟨j.val, by omega⟩ rfl).symm
  · rw [a3]
    refine ext2 fun R j => ?_
    have hj := j.isLt
    exact (out_ref_db (Cert.OutProjIdeal.Hand.dyA m c) (Cert.OutProjIdeal.Hand.wA m c) R j ⟨512 + j.val, by omega⟩ rfl).trans (Cert.OutProjIdeal.Hand.result5 m c R j ⟨512 + j.val, by omega⟩ rfl).symm
  · rw [a1, a2]
    refine ext2 fun J d => ?_
    refine (out_ref_gw (Cert.OutProjIdeal.Hand.dyA m c) (Cert.OutProjIdeal.Hand.aA m c) (Cert.OutProjIdeal.Hand.bA m c) J d).trans (Eq.trans ?_ (Cert.OutProjIdeal.Hand.result6 m c J d).symm)
    exact Finset.sum_congr rfl fun R _ => mul_comm _ _
  · rw [a3]
    refine ext3 fun r q j => ?_
    have hr := r.isLt
    have hq := q.isLt
    have hj := j.isLt
    exact (out_ref_seg4 _ r q j ⟨4 * q.val + r.val, by omega⟩ rfl).trans ((out_ref_db (Cert.OutProjIdeal.Hand.dyA m c) (Cert.OutProjIdeal.Hand.wA m c) _ j ⟨512 + j.val, by omega⟩ rfl).trans
      (Cert.OutProjIdeal.Hand.result7 m c r q j _ rfl ⟨512 + j.val, by omega⟩ rfl).symm)
  · rw [a3]
    refine ext3 fun r q j => ?_
    have hr := r.isLt
    have hq := q.isLt
    have hj := j.isLt
    exact (out_ref_seg16 _ r q j ⟨16 * q.val + r.val, by omega⟩ rfl).trans ((out_ref_db (Cert.OutProjIdeal.Hand.dyA m c) (Cert.OutProjIdeal.Hand.wA m c) _ j ⟨512 + j.val, by omega⟩ rfl).trans
      (Cert.OutProjIdeal.Hand.result8 m c r q j _ rfl ⟨512 + j.val, by omega⟩ rfl).symm)

end Cert.Proof
-- ==== Proof.InProjCases.lean ====
/- One point of the input projection's backward kernel: the five stored pieces of a row of the concatenated gradient (the
   rotations undone, the two planes folded, the three patterns added), and what the point leaves in each output block. -/
module

public import proofs.«01_k».proof.Defs
public import proofs.«01_k».proof.Proof.Gen.InProjIdeal.Value
public import Idealize.ShloMosaic.Lib.Pointwise
public import Idealize.ShloMosaic.Lib.Pipeline.Value

@[expose] public section

noncomputable section

namespace Cert.InProjIdeal.Hand

open Idealize Idealize.ShloMosaic Idealize.ShloMosaic.TcCoe Idealize.SL.Sem
open Cert.InProjIdeal Cert.InProjIdeal.Gen Cert.InProjIdeal.Value

theorem hz : (![0, 0] : Fin 2 → Nat) = fun _ => 0 := funext fun a => by fin_cases a <;> rfl

/-- The entries that a column tile starting at column `p` takes: of a block, and of a block whose rows come by residue. -/
def tile1 (x : S512x512.Idx → EReal) (p : ℕ) : S512x128.Idx → EReal := fun y => x (ix2 (y 0) ⟨(p + (y 1).val) % 512, Nat.mod_lt _ (by decide)⟩)
def tile4 (x : S4x128x512.Idx → EReal) (p : ℕ) : S512x128.Idx → EReal := fun y =>
  x (ix3 ⟨(y 0).val % 4, Nat.mod_lt _ (by decide)⟩ ⟨(y 0).val / 4, by have : (y 0).val < 512 := (y 0).isLt; omega⟩ ⟨(p + (y 1).val) % 512, Nat.mod_lt _ (by decide)⟩)
def tile16 (x : S16x32x512.Idx → EReal) (p : ℕ) : S512x128.Idx → EReal := fun y =>
  x (ix3 ⟨(y 0).val % 16, Nat.mod_lt _ (by decide)⟩ ⟨(y 0).val / 16, by have : (y 0).val < 512 := (y 0).isLt; omega⟩ ⟨(p + (y 1).val) % 512, Nat.mod_lt _ (by decide)⟩)

/-- `G` added on the rows whose residue modulo `d` is below `r`. -/
def upTo (d r : ℕ) (f G : S512x128.Idx → EReal) : S512x128.Idx → EReal := fun y => if (y 0).val % d < r then f y + G y else f y

theorem upTo_all (d : ℕ) (hd : 0 < d) (f G : S512x128.Idx → EReal) : upTo d d f G = fun y => f y + G y :=
  funext fun y => if_pos (Nat.mod_lt _ hd)
theorem upTo_zero (d : ℕ) (f G : S512x128.Idx → EReal) : upTo d 0 f G = f := funext fun y => if_neg (by omega)

theorem step4 {r p : ℕ} {L : List (View.Piece (Elt Ideal) S512x128 .f32)} {f : S512x128.Idx → EReal} {v : View sig .tc .vmem S512x128 .f32}
    {X : Memref sig .tc .vmem S4x128x512 .bf16} {hX : X.IsWhole} {x : Vec Ideal S4x128x512 .bf16}
    {i1 : ∀ a, S128x128.size a = 0 ∨ (![r, 0] : Fin 2 → ℕ) a + (![4, 1] : Fin 2 → ℕ) a * (S128x128.size a - 1) < S512x128.size a}
    {hs : ∀ a, 0 < (![4, 1] : Fin 2 → ℕ) a}
    {i2 : ∀ a, (![r, 0, p] : Fin 3 → ℕ) a + S1x128x128.size a ≤ S4x128x512.size a}
    (h : ∀ y, View.canon L y = upTo 4 r f (tile4 x p) y) (y : S512x128.Idx) :
    View.canon ((⟨⟨⟨![r, 0], S128x128.size, ![4, 1], i1⟩, hs⟩, k0_pay21 (F := Ideal)
        (View.readAt (Elt Ideal) X.view (Rect.unit (s := S4x128x512) ![r, 0, p] S1x128x128.size i2).toLoadRect (hX.unread x))
        (v.readCov L ⟨![r, 0], S128x128.size, ![4, 1], i1⟩)⟩ : View.Piece (Elt Ideal) S512x128 .f32) :: L) y = upTo 4 (r + 1) f (tile4 x p) y := by
  have hy0 : (y 0).val < 512 := (y 0).isLt
  have hy1 : (y 1).val < 128 := (y 1).isLt
  have l0 : r + 1 ≤ 4 := i2 0
  have l2 : p + 128 ≤ 512 := i2 2
  by_cases hr : (y 0).val % 4 = r
  · have hz0 : (y 0).val / 4 < 128 := by omega
    have e : (⟨⟨![r, 0], S128x128.size, ![4, 1], i1⟩, hs⟩ : Rect S512x128).emb (ix2 ⟨(y 0).val / 4, hz0⟩ ⟨(y 1).val, hy1⟩ : S128x128.Idx) = y := by
      funext a
      apply Fin.ext
      match a with
      | ⟨0, _⟩ => show r + 4 * ((y 0).val / 4) = (y 0).val; omega
      | ⟨1, _⟩ => show 0 + 1 * (y 1).val = (y 1).val; omega
    refine (congrArg _ e.symm).trans ((View.canon_cons_emb _ _ L _).trans ?_)
    unfold k0_pay21
    rw [shapeCast_self, View.readCov_eq_canon', View.readAt_eq_ld, hX.read_unread]
    change (View.canon L ((⟨⟨![r, 0], S128x128.size, ![4, 1], i1⟩, hs⟩ : Rect S512x128).emb (ix2 ⟨(y 0).val / 4, hz0⟩ ⟨(y 1).val, hy1⟩ : S128x128.Idx)) : EReal)
      + shapeCast S128x128 (View.ld x (Rect.unit (s := S4x128x512) ![r, 0, p] S1x128x128.size i2)) shapeCasts_S1x128x128_S128x128 (ix2 ⟨(y 0).val / 4, hz0⟩ ⟨(y 1).val, hy1⟩) = _
    rw [e, h y]
    refine (congrArg _ (shapeCast_dropUnit_apply _ _ _ _)).trans ?_
    unfold upTo
    rw [if_neg (by omega), if_pos (by omega)]
    refine congrArg (f y + ·) (congrArg x (funext fun a => Fin.ext ?_))
    match a with
    | ⟨0, _⟩ => show r + 1 * 0 = (y 0).val % 4; omega
    | ⟨1, _⟩ => show 0 + 1 * ((y 0).val / 4) = (y 0).val / 4; omega
    | ⟨2, _⟩ => show p + 1 * (y 1).val = (p + (y 1).val) % 512; omega
  · rw [View.canon_cons_of_not_mem, h y]
    · unfold upTo
      exact if_congr (by omega) rfl rfl
    · intro hm
      obtain ⟨j, hj, hj'⟩ := (LoadRect.mem_set _).mp hm 0
      have : (y 0).val = r + 4 * j := hj'
      omega

theorem step16 {r p : ℕ} {L : List (View.Piece (Elt Ideal) S512x128 .f32)} {f : S512x128.Idx → EReal} {v : View sig .tc .vmem S512x128 .f32}
    {X : Memref sig .tc .vmem S16x32x512 .bf16} {hX : X.IsWhole} {x : Vec Ideal S16x32x512 .bf16}
    {i1 : ∀ a, S32x128.size a = 0 ∨ (![r, 0] : Fin 2 → ℕ) a + (![16, 1] : Fin 2 → ℕ) a * (S32x128.size a - 1) < S512x128.size a}
    {hs : ∀ a, 0 < (![16, 1] : Fin 2 → ℕ) a}
    {i2 : ∀ a, (![r, 0, p] : Fin 3 → ℕ) a + S1x32x128.size a ≤ S16x32x512.size a}
    (h : ∀ y, View.canon L y = upTo 16 r f (tile16 x p) y) (y : S512x128.Idx) :
    View.canon ((⟨⟨⟨![r, 0], S32x128.size, ![16, 1], i1⟩, hs⟩, k0_pay39 (F := Ideal)
        (View.readAt (Elt Ideal) X.view (Rect.unit (s := S16x32x512) ![r, 0, p] S1x32x128.size i2).toLoadRect (hX.unread x))
        (v.readCov L ⟨![r, 0], S32x128.size, ![16, 1], i1⟩)⟩ : View.Piece (Elt Ideal) S512x128 .f32) :: L) y = upTo 16 (r + 1) f (tile16 x p) y := by
  have hy0 : (y 0).val < 512 := (y 0).isLt
  have hy1 : (y 1).val < 128 := (y 1).isLt
  have l0 : r + 1 ≤ 16 := i2 0
  have l2 : p + 128 ≤ 512 := i2 2
  by_cases hr : (y 0).val % 16 = r
  · have hz0 : (y 0).val / 16 < 32 := by omega
    have e : (⟨⟨![r, 0], S32x128.size, ![16, 1], i1⟩, hs⟩ : Rect S512x128).emb (ix2 ⟨(y 0).val / 16, hz0⟩ ⟨(y 1).val, hy1⟩ : S32x128.Idx) = y := by
      funext a
      apply Fin.ext
      match a with
      | ⟨0, _⟩ => show r + 16 * ((y 0).val / 16) = (y 0).val; omega
      | ⟨1, _⟩ => show 0 + 1 * (y 1).val = (y 1).val; omega
    refine (congrArg _ e.symm).trans ((View.canon_cons_emb _ _ L _).trans ?_)
    unfold k0_pay39
    rw [shapeCast_self, View.readCov_eq_canon', View.readAt_eq_ld, hX.read_unread]
    change (View.canon L ((⟨⟨![r, 0], S32x128.size, ![16, 1], i1⟩, hs⟩ : Rect S512x128).emb (ix2 ⟨(y 0).val / 16, hz0⟩ ⟨(y 1).val, hy1⟩ : S32x128.Idx)) : EReal)
      + shapeCast S32x128 (View.ld x (Rect.unit (s := S16x32x512) ![r, 0, p] S1x32x128.size i2)) shapeCasts_S1x32x128_S32x128 (ix2 ⟨(y 0).val / 16, hz0⟩ ⟨(y 1).val, hy1⟩) = _
    rw [e, h y]
    refine (congrArg _ (shapeCast_dropUnit_apply _ _ _ _)).trans ?_
    unfold upTo
    rw [if_neg (by omega), if_pos (by omega)]
    refine congrArg (f y + ·) (congrArg x (funext fun a => Fin.ext ?_))
    match a with
    | ⟨0, _⟩ => show r + 1 * 0 = (y 0).val % 16; omega
    | ⟨1, _⟩ => show 0 + 1 * ((y 0).val / 16) = (y 0).val / 16; omega
    | ⟨2, _⟩ => show p + 1 * (y 1).val = (p + (y 1).val) % 512; omega
  · rw [View.canon_cons_of_not_mem, h y]
    · unfold upTo
      exact if_congr (by omega) rfl rfl
    · intro hm
      obtain ⟨j, hj, hj'⟩ := (LoadRect.mem_set _).mp hm 0
      have : (y 0).val = r + 16 * j := hj'
      omega

/-- The whole tile stored, before anything is added. -/
theorem start {p : ℕ} {L : List (View.Piece (Elt Ideal) S512x128 .f32)} {X : Memref sig .tc .vmem S512x512 .bf16} {hX : X.IsWhole} {x : Vec Ideal S512x512 .bf16}
    {i1 : ∀ a, (![0, 0] : Fin 2 → ℕ) a + S512x128.size a ≤ S512x128.size a} {i2 : ∀ a, (![0, 0] : Fin 2 → ℕ) a + S512x512.size a ≤ S512x512.size a}
    {hs : S512x512.Slices ![0, p] S512x128} (hp : p + 128 ≤ 512) (y : S512x128.Idx) :
    View.canon ((⟨Rect.unit (s := S512x128) ![0, 0] S512x128.size i1, shapeCast S512x128 (extractStridedSlice S512x128 ![0, p]
      (extf (F := Ideal) .f32 (View.readAt (Elt Ideal) X.view (Rect.unit (s := S512x512) ![0, 0] S512x512.size i2).toLoadRect (hX.unread x)) bitsLt_bf16_f32 : FVec Ideal S512x512 .f32) hs) shapeCasts_S512x128_S512x128⟩
        : View.Piece (Elt Ideal) S512x128 .f32) :: L) y = tile1 x p y := by
  rw [View.canon_cons_unit_zero hz, shapeCast_self, View.readAt_eq_ld, hX.read_unread, View.ld_unit_zero (S := S512x512) hz]
  have hy1 : (y 1).val < 128 := (y 1).isLt
  exact extractStridedSlice_apply _ _ _ _ _ (fun | ⟨0, _⟩ => by show (y 0).val = 0 + (y 0).val; omega | ⟨1, _⟩ => by show (p + (y 1).val) % 512 = p + (y 1).val; omega)

/-- A column tile of the sum of the three patterns' blocks. -/
def tile3 (x : S512x512.Idx → EReal) (x4 : S4x128x512.Idx → EReal) (x16 : S16x32x512.Idx → EReal) (p : ℕ) : S512x128.Idx → EReal := fun y =>
  tile1 x p y + tile4 x4 p y + tile16 x16 p y

theorem after16 {p : ℕ} {L : List (View.Piece (Elt Ideal) S512x128 .f32)} {x : S512x512.Idx → EReal} {x4 : S4x128x512.Idx → EReal} {x16 : S16x32x512.Idx → EReal}
    (h : ∀ y, View.canon L y = upTo 16 16 (fun y => tile1 x p y + tile4 x4 p y) (tile16 x16 p) y) (y : S512x128.Idx) : View.canon L y = tile3 x x4 x16 p y := by
  rw [h, upTo_all _ (by decide)]; rfl
theorem after4 {p : ℕ} {L : List (View.Piece (Elt Ideal) S512x128 .f32)} {x : S512x512.Idx → EReal} {x4 : S4x128x512.Idx → EReal} {G : S512x128.Idx → EReal}
    (h : ∀ y, View.canon L y = upTo 4 4 (tile1 x p) (tile4 x4 p) y) (y : S512x128.Idx) : View.canon L y = upTo 16 0 (fun y => tile1 x p y + tile4 x4 p y) G y := by
  rw [h, upTo_all _ (by decide), upTo_zero]
theorem after1 {p : ℕ} {L : List (View.Piece (Elt Ideal) S512x128 .f32)} {x : S512x512.Idx → EReal} {G : S512x128.Idx → EReal}
    (h : ∀ y, View.canon L y = tile1 x p y) (y : S512x128.Idx) : View.canon L y = upTo 4 0 (tile1 x p) G y := by
  rw [h, upTo_zero]

/-! ## Rows of the concatenated gradient -/

/-- A row's entries at natural-number columns. -/
def row {n w : ℕ} (hw : 0 < w) (x : (⟨2, ![n, w]⟩ : Shape).Idx → EReal) (k : Fin n) (j : ℕ) : EReal := x (ix2 k ⟨j % w, Nat.mod_lt _ hw⟩)

/-- The transpose of the rotation, on a row whose heads of 64 columns are rotated with the cosines and the signed sines. -/
def unrot (g cs sn : ℕ → EReal) (j : ℕ) : EReal := g j * cs j + if j % 64 < 32 then g (j + 32) * sn (j + 32) else g (j - 32) * sn (j - 32)

def ropeV (v10 : FVec Ideal S512x512 .f32) (v0 v2 : FVec Ideal S512x128 .f32) : FVec Ideal S512x512 .f32 :=
  have v12 := mulf v10 (concatenate S512x512 1 [⟨S512x128, v0⟩, ⟨S512x128, v0⟩, ⟨S512x128, v0⟩, ⟨S512x128, v0⟩] concatenates_S512x128_S512x128_S512x128_S512x128_S512x512_d1)
  have v14 := mulf v10 (concatenate S512x512 1 [⟨S512x128, v2⟩, ⟨S512x128, v2⟩, ⟨S512x128, v2⟩, ⟨S512x128, v2⟩] concatenates_S512x128_S512x128_S512x128_S512x128_S512x512_d1)
  have v31 : IVec S1x512 32 := select k0_pay223 (addi k0_pay222 k0_pay224) k0_pay222
  have v33 : IVec S1x512 1 := cmpi .slt v31 (broadcast S1x512 32#32)
  have v37 : IVec S512x512 1 := broadcastTo S512x512 (shapeCast S1x512 v33 shapeCasts_S1x512_S1x512) broadcasts_S1x512_S512x512
  addf v12 (select v37 (dynamicRotate 1 480#32 none v14 rotates_S512x512_d1) (dynamicRotate 1 32#32 none v14 rotates_S512x512_d1))

theorem mask512 : ∀ j : Fin 512, (cmpi .slt (select k0_pay223 (addi k0_pay222 k0_pay224) k0_pay222) (broadcast S1x512 32#32) : IVec S1x512 1) (ix2 0 j) = if j.val % 64 < 32 then 1#1 else 0#1 := by
  decide +kernel

theorem pay5_eq (v0 v2 : FVec Ideal S512x128 .f32) (x : FVec Ideal S512x512 .bf16) :
    k0_pay5 (F := Ideal) v0 v2 x = ropeV (mulf (F := Ideal) (φ := .f32) (extf .f32 x bitsLt_bf16_f32) (broadcast S512x512 (Scalar.ofBits .f32 0x3E000000#32))) (k0_pay2 v0) (k0_pay3 v2) := by
  rfl
theorem pay116_eq (v0 v2 T0 T1 T2 T3 : FVec Ideal S512x128 .f32) :
    k0_pay116 (F := Ideal) (k0_pay112 v0 T0 T1 T2 T3) (k0_pay113 v2 T0 T1 T2 T3) 64#32 k0_pay114 k0_pay115
      = ropeV (mulf (F := Ideal) (φ := .f32) (concatenate S512x512 1 [⟨S512x128, T0⟩, ⟨S512x128, T1⟩, ⟨S512x128, T2⟩, ⟨S512x128, T3⟩] concatenates_S512x128_S512x128_S512x128_S512x128_S512x512_d1) (broadcast S512x512 (Scalar.ofBits .f32 0x3E000000#32))) v0 v2 := by
  refine (shapeCast_self _ _).trans ?_
  rfl
theorem pay225_eq (v0 v2 T0 T1 T2 T3 : FVec Ideal S512x128 .f32) :
    k0_pay225 (F := Ideal) (k0_pay220 v0 T0 T1 T2 T3) (k0_pay221 v2 T0 T1 T2 T3) k0_pay222 k0_pay223 k0_pay224
      = ropeV (concatenate S512x512 1 [⟨S512x128, T0⟩, ⟨S512x128, T1⟩, ⟨S512x128, T2⟩, ⟨S512x128, T3⟩] concatenates_S512x128_S512x128_S512x128_S512x128_S512x512_d1) v0 v2 := by
  refine (shapeCast_self _ _).trans ?_
  rfl

theorem pay322_eq (T0 T1 T2 T3 : FVec Ideal S512x128 .f32) : k0_pay322 (F := Ideal) T0 T1 T2 T3
    = concatenate S512x512 1 [⟨S512x128, T0⟩, ⟨S512x128, T1⟩, ⟨S512x128, T2⟩, ⟨S512x128, T3⟩] concatenates_S512x128_S512x128_S512x128_S512x128_S512x512_d1 := shapeCast_self _ _
theorem pay14_eq (a b : Vec Ideal S1x512x128 .bf16) : k0_pay14 (F := Ideal) k0_pay4 a b = k0_pay7 (F := Ideal) k0_pay4 a b := shapeCast_self _ _
theorem pay6_eq (v0 v2 : FVec Ideal S512x128 .f32) (x : FVec Ideal S512x512 .bf16) :
    k0_pay6 (F := Ideal) (k0_pay5 v0 v2 x) = ropeV (mulf (F := Ideal) (φ := .f32) (extf .f32 x bitsLt_bf16_f32) (broadcast S512x512 (Scalar.ofBits .f32 0x3E000000#32))) (k0_pay2 v0) (k0_pay3 v2) :=
  (shapeCast_self _ _).trans (pay5_eq v0 v2 x)

theorem four_tiles (x : S512x512.Idx → EReal) (x4 : S4x128x512.Idx → EReal) (x16 : S16x32x512.Idx → EReal) (k : Fin 512) (j : Fin 512) :
    (concatenate S512x512 1 [⟨S512x128, tile3 x x4 x16 0⟩, ⟨S512x128, tile3 x x4 x16 128⟩, ⟨S512x128, tile3 x x4 x16 256⟩, ⟨S512x128, tile3 x x4 x16 384⟩] concatenates_S512x128_S512x128_S512x128_S512x128_S512x512_d1 : S512x512.Idx → EReal) (ix2 k j)
      = x (ix2 k j) + x4 (ix3 ⟨k.val % 4, Nat.mod_lt _ (by decide)⟩ ⟨k.val / 4, by have := k.isLt; omega⟩ j) + x16 (ix3 ⟨k.val % 16, Nat.mod_lt _ (by decide)⟩ ⟨k.val / 16, by have := k.isLt; omega⟩ j) := by
  pointwise
  have hj : j.val < 512 := j.isLt
  have key : ∀ (p q : ℕ) (hq : q < 128), p + q = j.val → tile3 x x4 x16 p (ix2 k ⟨q, hq⟩)
      = x (ix2 k j) + x4 (ix3 ⟨k.val % 4, Nat.mod_lt _ (by decide)⟩ ⟨k.val / 4, by have := k.isLt; omega⟩ j) + x16 (ix3 ⟨k.val % 16, Nat.mod_lt _ (by decide)⟩ ⟨k.val / 16, by have := k.isLt; omega⟩ j) := by
    intro p q hq h
    have e : (⟨(p + q) % 512, Nat.mod_lt _ (by decide)⟩ : Fin 512) = j := Fin.ext (show (p + q) % 512 = j.val by omega)
    show x (ix2 k ⟨(p + q) % 512, _⟩) + x4 (ix3 _ _ ⟨(p + q) % 512, _⟩) + x16 (ix3 _ _ ⟨(p + q) % 512, _⟩) = _
    rw [e]
    rfl
  split_ifs <;> exact key _ _ _ (by omega)

/-- Four equal column tiles side by side repeat with period 128. -/
theorem lanes (c : S512x128.Idx → EReal) (k : Fin 512) (n : ℕ) (hn : n < 512) {h3 : ¬n < 128 → ¬n - 128 < 128 → ¬n - 128 - 128 < 128 → n - 128 - 128 - 128 < 128} :
    (if h : n < 128 then c (ix2 k ⟨n, h⟩) else if h' : n - 128 < 128 then c (ix2 k ⟨n - 128, h'⟩)
      else if h'' : n - 128 - 128 < 128 then c (ix2 k ⟨n - 128 - 128, h''⟩) else c (ix2 k ⟨n - 128 - 128 - 128, h3 h h' h''⟩))
      = row (by decide) c k n := by
  unfold row
  split_ifs <;> exact congrArg (fun j => c (ix2 k j)) (Fin.ext (by show _ = n % 128; dsimp only; omega))

theorem unrot_congr {g cs sn : ℕ → EReal} {j : ℕ} {A B C : EReal} (hA : A = g j * cs j) (hB : j % 64 < 32 → B = g (j + 32) * sn (j + 32))
    (hC : ¬j % 64 < 32 → C = g (j - 32) * sn (j - 32)) {b : BitVec 1} (hb : b = if j % 64 < 32 then 1#1 else 0#1) :
    A + Scalar.select b B C = unrot g cs sn j := by
  unfold unrot
  by_cases h : j % 64 < 32
  · rw [hb, if_pos h, if_pos h, ← hB h, hA]; rfl
  · rw [hb, if_neg h, if_neg h, ← hC h, hA]; rfl

theorem row_mk {n w : ℕ} {hw : 0 < w} (x : (⟨2, ![n, w]⟩ : Shape).Idx → EReal) (k : Fin n) (j : ℕ) {q : ℕ} (hq : q < w) (h : q = j % w) : x (ix2 k ⟨q, hq⟩) = row hw x k j := by
  subst h; rfl

theorem ropeV_apply (g : FVec Ideal S512x512 .f32) (cs sn : FVec Ideal S512x128 .f32) (k j : Fin 512) :
    ropeV g cs sn (ix2 k j) = unrot (row (by decide) g k) (row (by decide) cs k) (row (by decide) sn k) j.val := by
  unfold ropeV
  generalize hM : (cmpi .slt (select k0_pay223 (addi k0_pay222 k0_pay224) k0_pay222) (broadcast S1x512 32#32) : IVec S1x512 1) = M
  have hm : M (ix2 0 j) = if j.val % 64 < 32 then 1#1 else 0#1 := by rw [← hM]; exact mask512 j
  have hj : j.val < 512 := j.isLt
  pointwise
  rw [lanes cs k j.val hj, lanes sn k _ (Nat.mod_lt _ (by decide)), lanes sn k _ (Nat.mod_lt _ (by decide))]
  refine unrot_congr ?_ (fun h => ?_) (fun h => ?_) hm
  · exact congrArg (· * _) (row_mk g k _ _ (by omega))
  · exact congrArg₂ (· * ·) (row_mk g k _ _ (by omega)) (congrArg (row _ sn k) (by omega))
  · exact congrArg₂ (· * ·) (row_mk g k _ _ (by omega)) (congrArg (row _ sn k) (by omega))

/-- Two pairs of heads that shared a key or value head, added: the first pair below column 64, the second above it. -/
def fold (a b : ℕ → EReal) (j : ℕ) : EReal := if j < 64 then a j + a (j + 64) else b j + b (j - 64)

/-- The same on an unmasked tile. -/
def plane (x : S2x512x128.Idx → EReal) (h : Fin 2) (k : Fin 512) (j : ℕ) : EReal := x (ix3 h k ⟨j % 128, Nat.mod_lt _ (by decide)⟩)

theorem mask4 : ∀ j : Fin 128, (k0_pay4 : IVec S1x128 1) (ix2 0 j) = if j.val < 64 then 1#1 else 0#1 := by
  decide +kernel
theorem mask12 (k : Fin 512) (j : Fin 128) : (k0_pay12 : IVec S512x128 1) (ix2 k j) = if j.val % 64 < 32 then 1#1 else 0#1 := by
  have h : ∀ j : Fin 128, (k0_pay12 : IVec S512x128 1) (ix2 0 j) = if j.val % 64 < 32 then 1#1 else 0#1 := by decide +kernel
  exact h j

theorem fold_apply (a b : Vec Ideal S1x512x128 .bf16) (k : Fin 512) (j : Fin 128) :
    k0_pay7 (F := Ideal) k0_pay4 a b (ix2 k j) = fold (fun n => a (ix3 0 k ⟨n % 128, Nat.mod_lt _ (by decide)⟩)) (fun n => b (ix3 0 k ⟨n % 128, Nat.mod_lt _ (by decide)⟩)) j.val := by
  have hm := mask4 j
  have hj : j.val < 128 := j.isLt
  unfold k0_pay7
  generalize (k0_pay4 : IVec S1x128 1) = M at hm ⊢
  pointwise
  unfold fold
  rw [hm]
  by_cases h : j.val < 64
  · rw [if_pos h, if_pos h]
    refine congrArg₂ (fun p q => (a (ix3 0 k p) : EReal) + a (ix3 0 k q)) (Fin.ext ?_) (Fin.ext ?_)
    · show j.val = j.val % 128; omega
    · show (j.val + 128 - 64) % 128 = (j.val + 64) % 128; omega
  · rw [if_neg h, if_neg h]
    refine congrArg₂ (fun p q => (b (ix3 0 k p) : EReal) + b (ix3 0 k q)) (Fin.ext ?_) (Fin.ext ?_)
    · show j.val = j.val % 128; omega
    · show (j.val + 128 - 64) % 128 = (j.val - 64) % 128; omega

theorem rope128 (g : FVec Ideal S512x128 .f32) (cs sn : FVec Ideal S512x128 .f32) (k : Fin 512) (j : Fin 128) :
    k0_pay13 (F := Ideal) (mulf g cs) (dynamicRotate 1 96#32 none (mulf g sn) rotates_S512x128_d1) (dynamicRotate 1 32#32 none (mulf g sn) rotates_S512x128_d1) k0_pay12 (ix2 k j)
      = unrot (row (by decide) g k) (row (by decide) cs k) (row (by decide) sn k) j.val := by
  have hm := mask12 k j
  have hj : j.val < 128 := j.isLt
  unfold k0_pay13
  generalize (k0_pay12 : IVec S512x128 1) = M at hm ⊢
  pointwise
  refine unrot_congr ?_ (fun h => ?_) (fun h => ?_) hm
  · exact congrArg₂ (· * ·) (row_mk g k _ _ (by omega)) (row_mk cs k _ _ (by omega))
  · exact congrArg₂ (· * ·) (row_mk g k _ _ (by omega)) (row_mk sn k _ _ (by omega))
  · exact congrArg₂ (· * ·) (row_mk g k _ _ (by omega)) (row_mk sn k _ _ (by omega))

/-! ## The concatenated gradient of one block -/

abbrev cQ : EReal := Ideal.ofBits .f32 0x3E000000#32

/-- One row of it, from the row's own entries: cosines, signed sines, the near attention's three gradients by head, and the three summed ones. -/
def dpRow (cs sn aq ak0 ak1 av0 av1 q k v : ℕ → EReal) (J : ℕ) : EReal :=
  if J < 512 then unrot (fun j => aq j * cQ) cs sn J
  else if J < 640 then unrot (fold ak0 ak1) cs sn (J - 512)
  else if J < 768 then fold av0 av1 (J - 640)
  else if J < 1280 then unrot (fun j => q j * cQ) cs sn (J - 768)
  else if J < 1792 then unrot k cs sn (J - 1280)
  else v (J - 1792)

/-- A row of a block's sum with the two that come by residue. -/
def sumRow (x : S512x512.Idx → EReal) (x4 : S4x128x512.Idx → EReal) (x16 : S16x32x512.Idx → EReal) (k : Fin 512) (j : ℕ) : EReal :=
  row (by decide) x k j + x4 (ix3 ⟨k.val % 4, Nat.mod_lt _ (by decide)⟩ ⟨k.val / 4, by have := k.isLt; omega⟩ ⟨j % 512, Nat.mod_lt _ (by decide)⟩)
    + x16 (ix3 ⟨k.val % 16, Nat.mod_lt _ (by decide)⟩ ⟨k.val / 16, by have := k.isLt; omega⟩ ⟨j % 512, Nat.mod_lt _ (by decide)⟩)

def dpB (cs sn : S512x128.Idx → EReal) (aq : S512x512.Idx → EReal) (ak av : S2x512x128.Idx → EReal) (q k v : S512x512.Idx → EReal)
    (q4 k4 v4 : S4x128x512.Idx → EReal) (q16 k16 v16 : S16x32x512.Idx → EReal) : S512x2304.Idx → EReal := fun y =>
  dpRow (row (by decide) cs (y 0)) (row (by decide) sn (y 0)) (row (by decide) aq (y 0)) (plane ak 0 (y 0)) (plane ak 1 (y 0)) (plane av 0 (y 0)) (plane av 1 (y 0))
    (sumRow q q4 q16 (y 0)) (sumRow k k4 k16 (y 0)) (sumRow v v4 v16 (y 0)) (y 1).val

theorem seg {n o : ℕ} {T : (⟨2, ![512, n]⟩ : Shape).Idx → EReal} {D : S512x2304.Idx → EReal} {i : ∀ a, (![0, o] : Fin 2 → ℕ) a + (![512, n] : Fin 2 → ℕ) a ≤ S512x2304.size a}
    (h : ∀ (k : Fin 512) (j : Fin n) (J : Fin 2304), J.val = o + j.val → T (ix2 k j) = D (ix2 k J)) (x : (⟨2, ![512, n]⟩ : Shape).Idx) :
    T x = D ((Rect.unit (s := S512x2304) ![0, o] ![512, n] i).emb x) := by
  have l : o + n ≤ 2304 := i 1
  have hx : (x 1).val < n := (x 1).isLt
  refine Eq.trans (congrArg T ?_) ((h (x 0) (x 1) ⟨o + (x 1).val, by omega⟩ rfl).trans (congrArg D ?_))
  · funext a
    match a with
    | ⟨0, _⟩ => rfl
    | ⟨1, _⟩ => rfl
  · funext a
    apply Fin.ext
    match a with
    | ⟨0, _⟩ => show (x 0).val = 0 + 1 * (x 0).val; omega
    | ⟨1, _⟩ => show o + (x 1).val = o + 1 * (x 1).val; omega

theorem seg_mem {n o : ℕ} {i : ∀ a, (![0, o] : Fin 2 → ℕ) a + (![512, n] : Fin 2 → ℕ) a ≤ S512x2304.size a} {y : S512x2304.Idx} (h : o ≤ (y 1).val ∧ (y 1).val < o + n) :
    y ∈ (Rect.unit (s := S512x2304) ![0, o] ![512, n] i).set :=
  Rect.mem_set_unit.2 (fun | ⟨0, _⟩ => ⟨Nat.zero_le _, by show (y 0).val < 0 + 512; have : (y 0).val < 512 := (y 0).isLt; omega⟩ | ⟨1, _⟩ => h)

/-- The sum of a block with the two that come by residue, as its four column tiles hold it. -/
def Tiles (x : S512x512.Idx → EReal) (x4 : S4x128x512.Idx → EReal) (x16 : S16x32x512.Idx → EReal) (T0 T1 T2 T3 : FVec Ideal S512x128 .f32) : Prop :=
  T0 = tile3 x x4 x16 0 ∧ T1 = tile3 x x4 x16 128 ∧ T2 = tile3 x x4 x16 256 ∧ T3 = tile3 x x4 x16 384

theorem Tiles.cat {x : S512x512.Idx → EReal} {x4 : S4x128x512.Idx → EReal} {x16 : S16x32x512.Idx → EReal} {T0 T1 T2 T3 : FVec Ideal S512x128 .f32} (h : Tiles x x4 x16 T0 T1 T2 T3) (k j : Fin 512) :
    (concatenate S512x512 1 [⟨S512x128, T0⟩, ⟨S512x128, T1⟩, ⟨S512x128, T2⟩, ⟨S512x128, T3⟩] concatenates_S512x128_S512x128_S512x128_S512x128_S512x512_d1 : S512x512.Idx → EReal) (ix2 k j) = sumRow x x4 x16 k j.val := by
  obtain ⟨rfl, rfl, rfl, rfl⟩ := h
  refine (four_tiles x x4 x16 k j).trans ?_
  have e : (⟨j.val % 512, Nat.mod_lt _ (by decide)⟩ : Fin 512) = j := Fin.ext (Nat.mod_eq_of_lt j.isLt)
  unfold sumRow row
  rw [e]

theorem unrot_congr' {g g' cs sn : ℕ → EReal} {j n : ℕ} (hn : n % 64 = 0) (hj : j < n) (h : ∀ i < n, g i = g' i) : unrot g cs sn j = unrot g' cs sn j := by
  unfold unrot
  rw [h j hj]
  by_cases hl : j % 64 < 32
  · rw [if_pos hl, if_pos hl, h _ (by omega)]
  · rw [if_neg hl, if_neg hl, h _ (by omega)]

theorem scale_row (a : FVec Ideal S512x512 .bf16) (k : Fin 512) (i : ℕ) :
    row (n := 512) (w := 512) (by decide) (mulf (F := Ideal) (φ := .f32) (extf .f32 a bitsLt_bf16_f32) (broadcast S512x512 (Scalar.ofBits .f32 0x3E000000#32))) k i = row (n := 512) (w := 512) (by decide) a k i * cQ := by
  unfold row
  pointwise

theorem dp_canon {cs sn : Vec Ideal S512x128 .f32} {aq : Vec Ideal S512x512 .bf16} {ak av : S2x512x128.Idx → EReal} {q k v : S512x512.Idx → EReal}
    {q4 k4 v4 : S4x128x512.Idx → EReal} {q16 k16 v16 : S16x32x512.Idx → EReal} {Q0 Q1 Q2 Q3 K0 K1 K2 K3 V0 V1 V2 V3 : FVec Ideal S512x128 .f32} {c s : Vec Ideal S512x128 .f32}
    {a : Vec Ideal S512x512 .bf16} {k0 k1 v0 v1 : Vec Ideal S1x512x128 .bf16}
    {i0 : ∀ a, (![0, 0] : Fin 2 → ℕ) a + S512x512.size a ≤ S512x2304.size a} {i1 : ∀ a, (![0, 512] : Fin 2 → ℕ) a + S512x128.size a ≤ S512x2304.size a}
    {i2 : ∀ a, (![0, 640] : Fin 2 → ℕ) a + S512x128.size a ≤ S512x2304.size a} {i3 : ∀ a, (![0, 768] : Fin 2 → ℕ) a + S512x512.size a ≤ S512x2304.size a}
    {i4 : ∀ a, (![0, 1280] : Fin 2 → ℕ) a + S512x512.size a ≤ S512x2304.size a} {i5 : ∀ a, (![0, 1792] : Fin 2 → ℕ) a + S512x512.size a ≤ S512x2304.size a}
    (hc : c = cs) (hs : s = sn) (ha : a = aq) (hk0 : ∀ k j, k0 (ix3 0 k j) = ak (ix3 0 k j)) (hk1 : ∀ k j, k1 (ix3 0 k j) = ak (ix3 1 k j))
    (hv0 : ∀ k j, v0 (ix3 0 k j) = av (ix3 0 k j)) (hv1 : ∀ k j, v1 (ix3 0 k j) = av (ix3 1 k j))
    (hq : Tiles q q4 q16 Q0 Q1 Q2 Q3) (hk : Tiles k k4 k16 K0 K1 K2 K3) (hv : Tiles v v4 v16 V0 V1 V2 V3) (y : S512x2304.Idx) :
    View.canon ([⟨Rect.unit (s := S512x2304) ![0, 1792] S512x512.size i5, k0_pay322 (F := Ideal) V0 V1 V2 V3⟩,
      ⟨Rect.unit (s := S512x2304) ![0, 1280] S512x512.size i4, k0_pay225 (F := Ideal) (k0_pay220 (k0_pay2 c) K0 K1 K2 K3) (k0_pay221 (k0_pay3 s) K0 K1 K2 K3) k0_pay222 k0_pay223 k0_pay224⟩,
      ⟨Rect.unit (s := S512x2304) ![0, 768] S512x512.size i3, k0_pay116 (F := Ideal) (k0_pay112 (k0_pay2 c) Q0 Q1 Q2 Q3) (k0_pay113 (k0_pay3 s) Q0 Q1 Q2 Q3) 64#32 k0_pay114 k0_pay115⟩,
      ⟨Rect.unit (s := S512x2304) ![0, 640] S512x128.size i2, k0_pay14 (F := Ideal) k0_pay4 v0 v1⟩,
      ⟨Rect.unit (s := S512x2304) ![0, 512] S512x128.size i1, k0_pay13 (F := Ideal) (k0_pay8 (k0_pay2 c) k0_pay4 k0 k1) (k0_pay10 (k0_pay3 s) k0_pay4 k0 k1) (k0_pay11 (k0_pay3 s) k0_pay4 k0 k1) k0_pay12⟩,
      ⟨Rect.unit (s := S512x2304) ![0, 0] S512x512.size i0, k0_pay6 (F := Ideal) (k0_pay5 c s a)⟩] : List (View.Piece (Elt Ideal) S512x2304 .bf16)) y
      = dpB cs sn aq ak av q k v q4 k4 v4 q16 k16 v16 y := by
  subst hc hs ha
  have hy : (y 1).val < 2304 := (y 1).isLt
  have e2 : k0_pay2 (F := Ideal) c = c := shapeCast_self _ _
  have e3 : k0_pay3 (F := Ideal) s = s := shapeCast_self _ _
  have hfold : ∀ (a b : Vec Ideal S1x512x128 .bf16) (x : S2x512x128.Idx → EReal), (∀ k j, a (ix3 0 k j) = x (ix3 0 k j)) → (∀ k j, b (ix3 0 k j) = x (ix3 1 k j)) →
      ∀ (k : Fin 512) (j : Fin 128), k0_pay7 (F := Ideal) k0_pay4 a b (ix2 k j) = fold (plane x 0 k) (plane x 1 k) j.val := by
    intro a b x h0 h1 k j
    refine (fold_apply a b k j).trans ?_
    simp only [h0, h1]
    rfl
  refine View.canon_apply_of_pieces _ _ ?_ y ?_
  · refine List.forall_mem_cons.2 ⟨seg (i := i5) fun k j J h => ?_, List.forall_mem_cons.2 ⟨seg (i := i4) fun k j J h => ?_, List.forall_mem_cons.2 ⟨seg (i := i3) fun k j J h => ?_,
      List.forall_mem_cons.2 ⟨seg (i := i2) fun k j J h => ?_, List.forall_mem_cons.2 ⟨seg (i := i1) fun k j J h => ?_, List.forall_mem_cons.2 ⟨seg (i := i0) fun k j J h => ?_, fun _ h => absurd h List.not_mem_nil⟩⟩⟩⟩⟩⟩
    all_goals
      have hj := j.isLt
      show _ = dpRow (row (by decide) c k) (row (by decide) s k) (row (by decide) a k) (plane ak 0 k) (plane ak 1 k) (plane av 0 k) (plane av 1 k) (sumRow q q4 q16 k) (sumRow _ k4 k16 k) (sumRow v v4 v16 k) J.val
      rw [h]
      unfold dpRow
    · rw [if_neg (by omega), if_neg (by omega), if_neg (by omega), if_neg (by omega), if_neg (by omega), Nat.add_sub_cancel_left]
      exact (congrFun (pay322_eq V0 V1 V2 V3) _).trans (hv.cat k j)
    · rw [if_neg (by omega), if_neg (by omega), if_neg (by omega), if_neg (by omega), if_pos (by omega), Nat.add_sub_cancel_left, e2, e3]
      refine (congrFun (pay225_eq _ _ _ _ _ _) _).trans ((ropeV_apply _ _ _ k j).trans (unrot_congr' (n := 512) rfl hj fun i hi => ?_))
      refine (hk.cat k _).trans ?_
      exact congrArg _ (Nat.mod_eq_of_lt hi)
    · rw [if_neg (by omega), if_neg (by omega), if_neg (by omega), if_pos (by omega), Nat.add_sub_cancel_left, e2, e3]
      refine (congrFun (pay116_eq _ _ _ _ _ _) _).trans ((ropeV_apply _ _ _ k j).trans (unrot_congr' (n := 512) rfl hj fun i hi => ?_))
      refine congrArg (· * cQ) ((hq.cat k _).trans ?_)
      exact congrArg _ (Nat.mod_eq_of_lt hi)
    · rw [if_neg (by omega), if_neg (by omega), if_pos (by omega), Nat.add_sub_cancel_left]
      exact (congrFun (pay14_eq v0 v1) _).trans (hfold v0 v1 av hv0 hv1 k j)
    · rw [if_neg (by omega), if_pos (by omega), Nat.add_sub_cancel_left, e2, e3]
      refine (rope128 _ _ _ k j).trans (unrot_congr' (n := 128) rfl hj fun i hi => ?_)
      refine (hfold k0 k1 ak hk0 hk1 k _).trans ?_
      exact congrArg _ (Nat.mod_eq_of_lt hi)
    · rw [if_pos (by omega), Nat.zero_add]
      refine (congrFun (pay6_eq c s a) _).trans ?_
      rw [e2, e3]
      exact (ropeV_apply _ _ _ k j).trans (unrot_congr' (n := 512) rfl hj fun i hi => scale_row a k i)
  · by_cases h1 : (y 1).val < 512
    · exact ⟨_, .tail _ (.tail _ (.tail _ (.tail _ (.tail _ (.head _))))), seg_mem (i := i0) ⟨by omega, by omega⟩⟩
    by_cases h2 : (y 1).val < 640
    · exact ⟨_, .tail _ (.tail _ (.tail _ (.tail _ (.head _)))), seg_mem (i := i1) ⟨by omega, by omega⟩⟩
    by_cases h3 : (y 1).val < 768
    · exact ⟨_, .tail _ (.tail _ (.tail _ (.head _))), seg_mem (i := i2) ⟨by omega, by omega⟩⟩
    by_cases h4 : (y 1).val < 1280
    · exact ⟨_, .tail _ (.tail _ (.head _)), seg_mem (i := i3) ⟨by omega, by omega⟩⟩
    by_cases h5 : (y 1).val < 1792
    · exact ⟨_, .tail _ (.head _), seg_mem (i := i4) ⟨by omega, by omega⟩⟩
    · exact ⟨_, .head _, seg_mem (i := i5) ⟨by omega, by omega⟩⟩

theorem whole {L : List (View.Piece (Elt Ideal) S512x128 .f32)} {v : View sig .tc .vmem S512x128 .f32} {i : ∀ a, (![0, 0] : Fin 2 → ℕ) a + S512x128.size a ≤ S512x128.size a} {G : S512x128.Idx → EReal}
    (h : ∀ y, View.canon L y = G y) : v.readCov L (Rect.unit (s := S512x128) ![0, 0] S512x128.size i).toLoadRect = G := by
  rw [View.readCov_eq_canon']
  funext j
  refine (h _).trans (congrArg G (funext fun a => Fin.ext ?_))
  match a with
  | ⟨0, _⟩ => show 0 + 1 * (j 0).val = (j 0).val; omega
  | ⟨1, _⟩ => show 0 + 1 * (j 1).val = (j 1).val; omega

theorem plane_read {X : Memref sig .tc .vmem S2x512x128 .bf16} (hX : X.IsWhole) (x : Vec Ideal S2x512x128 .bf16) {h : ℕ} (hh : h < 2)
    (i : ∀ a, (![h, 0, 0] : Fin 3 → ℕ) a + S1x512x128.size a ≤ S2x512x128.size a) (k : Fin 512) (j : Fin 128) :
    View.readAt (Elt Ideal) X.view (Rect.unit (s := S2x512x128) ![h, 0, 0] S1x512x128.size i).toLoadRect (hX.unread x) (ix3 0 k j) = x (ix3 ⟨h, hh⟩ k j) := by
  rw [View.readAt_eq_ld, hX.read_unread]
  refine congrArg x (funext fun a => Fin.ext ?_)
  match a with
  | ⟨0, _⟩ => show h + 1 * 0 = h; omega
  | ⟨1, _⟩ => show 0 + 1 * k.val = k.val; omega
  | ⟨2, _⟩ => show 0 + 1 * j.val = j.val; omega

theorem block_read {n w : ℕ} {e : EltTy} {X : Memref sig .tc .vmem ⟨2, ![n, w]⟩ e} (hX : X.IsWhole) (x : Vec Ideal ⟨2, ![n, w]⟩ e)
    (i : ∀ a, (![0, 0] : Fin 2 → ℕ) a + (![n, w] : Fin 2 → ℕ) a ≤ (⟨2, ![n, w]⟩ : Shape).size a) :
    View.readAt (Elt Ideal) X.view (Rect.unit (s := ⟨2, ![n, w]⟩) ![0, 0] ![n, w] i).toLoadRect (hX.unread x) = x := by
  rw [View.readAt_eq_ld, hX.read_unread]
  exact View.ld_unit_zero (S := ⟨2, ![n, w]⟩) hz _ _

/-- What a read of the concatenated gradient finds, whole and by columns. -/
theorem whole_dp {L : List (View.Piece (Elt Ideal) S512x2304 .bf16)} (v : View sig .tc .vmem S512x2304 .bf16) {i : ∀ a, (![0, 0] : Fin 2 → ℕ) a + S512x2304.size a ≤ S512x2304.size a} {D : S512x2304.Idx → EReal}
    (h : ∀ y, View.canon L y = D y) : v.readCov L (Rect.unit (s := S512x2304) ![0, 0] S512x2304.size i).toLoadRect = D := by
  rw [View.readCov_eq_canon']
  funext j
  refine (h _).trans (congrArg D (funext fun a => Fin.ext ?_))
  match a with
  | ⟨0, _⟩ => show 0 + 1 * (j 0).val = (j 0).val; omega
  | ⟨1, _⟩ => show 0 + 1 * (j 1).val = (j 1).val; omega

theorem cols_dp {o : ℕ} {L : List (View.Piece (Elt Ideal) S512x2304 .bf16)} (v : View sig .tc .vmem S512x2304 .bf16) {i : ∀ a, (![0, o] : Fin 2 → ℕ) a + S512x768.size a ≤ S512x2304.size a} {D : S512x2304.Idx → EReal}
    (h : ∀ y, View.canon L y = D y) (k : Fin 512) (j : Fin 768) (J : Fin 2304) (hJ : J.val = o + j.val) :
    v.readCov L (Rect.unit (s := S512x2304) ![0, o] S512x768.size i).toLoadRect (ix2 k j) = D (ix2 k J) := by
  rw [View.readCov_eq_canon']
  refine (h _).trans (congrArg D (funext fun a => Fin.ext ?_))
  match a with
  | ⟨0, _⟩ => show 0 + 1 * k.val = k.val; omega
  | ⟨1, _⟩ => show o + 1 * j.val = J.val; omega

theorem dx_point {L : List (View.Piece (Elt Ideal) S512x2304 .bf16)} {v : View sig .tc .vmem S512x2304 .bf16} {i : ∀ a, (![0, 0] : Fin 2 → ℕ) a + S512x2304.size a ≤ S512x2304.size a} {D : S512x2304.Idx → EReal}
    {x x' d d' : Vec Ideal S512x1024 .f32} {g g' : Vec Ideal S1x1024 .f32} {w w' : Vec Ideal S2304x1024 .bf16} (hx : x' = x) (hd : d' = d) (hg : g' = g) (hw : w' = w) (h : ∀ y, View.canon L y = D y) :
    k0_pay339 (F := Ideal) x' (k0_pay334 x') (k0_pay335 (k0_pay323 (v.readCov L (Rect.unit (s := S512x2304) ![0, 0] S512x2304.size i).toLoadRect) w') g')
      (k0_pay336 (k0_pay323 (v.readCov L (Rect.unit (s := S512x2304) ![0, 0] S512x2304.size i).toLoadRect) w') x' g') k0_pay337 d'
      = k0_pay339 x (k0_pay334 x) (k0_pay335 (k0_pay323 D w) g) (k0_pay336 (k0_pay323 D w) x g) k0_pay337 d := by
  rw [whole_dp v h, hx, hd, hg, hw]

theorem half_point {L : List (View.Piece (Elt Ideal) S512x2304 .bf16)} {v : View sig .tc .vmem S512x2304 .bf16} {i : ∀ a, (![0, 0] : Fin 2 → ℕ) a + S512x2304.size a ≤ S512x2304.size a} {D : S512x2304.Idx → EReal}
    {x x' d d' : Vec Ideal S512x1024 .f32} {g g' : Vec Ideal S1x1024 .f32} {w w' : Vec Ideal S2304x1024 .bf16} (hx : x' = x) (hd : d' = d) (hg : g' = g) (hw : w' = w) (h : ∀ y, View.canon L y = D y) :
    k0_pay340 (F := Ideal) x' (k0_pay334 x') (k0_pay335 (k0_pay323 (v.readCov L (Rect.unit (s := S512x2304) ![0, 0] S512x2304.size i).toLoadRect) w') g')
      (k0_pay336 (k0_pay323 (v.readCov L (Rect.unit (s := S512x2304) ![0, 0] S512x2304.size i).toLoadRect) w') x' g') k0_pay337 d'
      = k0_pay340 x (k0_pay334 x) (k0_pay335 (k0_pay323 D w) g) (k0_pay336 (k0_pay323 D w) x g) k0_pay337 d := by
  rw [whole_dp v h, hx, hd, hg, hw]

theorem dgn_point {L : List (View.Piece (Elt Ideal) S512x2304 .bf16)} {v : View sig .tc .vmem S512x2304 .bf16} {i : ∀ a, (![0, 0] : Fin 2 → ℕ) a + S512x2304.size a ≤ S512x2304.size a} {D : S512x2304.Idx → EReal}
    {x x' : Vec Ideal S512x1024 .f32} {w w' : Vec Ideal S2304x1024 .bf16} (hx : x' = x) (hw : w' = w) (h : ∀ y, View.canon L y = D y) (y : S1x1024.Idx) :
    k0_pay338 (F := Ideal) (k0_pay323 (v.readCov L (Rect.unit (s := S512x2304) ![0, 0] S512x2304.size i).toLoadRect) w') x' (k0_pay334 x') y
      = (0 : EReal) + k0_pay338 (k0_pay323 D w) x (k0_pay334 x) y := by
  rw [whole_dp v h, hx, hw, zero_add]

theorem dgn_later {L : List (View.Piece (Elt Ideal) S512x2304 .bf16)} {v : View sig .tc .vmem S512x2304 .bf16} {i : ∀ a, (![0, 0] : Fin 2 → ℕ) a + S512x2304.size a ≤ S512x2304.size a} {D : S512x2304.Idx → EReal}
    {x x' : Vec Ideal S512x1024 .f32} {w w' : Vec Ideal S2304x1024 .bf16} {p p' : Vec Ideal S1x1024 .f32} (hx : x' = x) (hw : w' = w) (hp : p' = p) (h : ∀ y, View.canon L y = D y) (y : S1x1024.Idx) :
    k0_pay341 (F := Ideal) (k0_pay323 (v.readCov L (Rect.unit (s := S512x2304) ![0, 0] S512x2304.size i).toLoadRect) w') x' (k0_pay334 x') p' y
      = (p y : EReal) + k0_pay338 (k0_pay323 D w) x (k0_pay334 x) y := by
  rw [whole_dp v h, hx, hw, hp]
  unfold k0_pay341
  rw [shapeCast_self]
  rfl

/-- The weight's gradient is kept in three bands of rows. -/
theorem bands {T0 T1 T2 : S768x1024.Idx → EReal} {G : S2304x1024.Idx → EReal}
    {i0 : ∀ a, (![0, 0] : Fin 2 → ℕ) a + S768x1024.size a ≤ S2304x1024.size a} {i1 : ∀ a, (![768, 0] : Fin 2 → ℕ) a + S768x1024.size a ≤ S2304x1024.size a}
    {i2 : ∀ a, (![1536, 0] : Fin 2 → ℕ) a + S768x1024.size a ≤ S2304x1024.size a}
    (h2 : ∀ (j : Fin 768) (d : Fin 1024) (J : Fin 2304), J.val = 1536 + j.val → T2 (ix2 j d) = G (ix2 J d))
    (h1 : ∀ (j : Fin 768) (d : Fin 1024) (J : Fin 2304), J.val = 768 + j.val → T1 (ix2 j d) = G (ix2 J d))
    (h0 : ∀ (j : Fin 768) (d : Fin 1024) (J : Fin 2304), J.val = 0 + j.val → T0 (ix2 j d) = G (ix2 J d)) (y : S2304x1024.Idx) :
    View.canon (Val := Elt Ideal) (e := .f32) ([⟨Rect.unit (s := S2304x1024) ![1536, 0] S768x1024.size i2, T2⟩, ⟨Rect.unit (s := S2304x1024) ![768, 0] S768x1024.size i1, T1⟩, ⟨Rect.unit (s := S2304x1024) ![0, 0] S768x1024.size i0, T0⟩] : List (View.Piece (Elt Ideal) S2304x1024 .f32)) y = G y := by
  have hy : (y 0).val < 2304 := (y 0).isLt
  have hy1 : (y 1).val < 1024 := (y 1).isLt
  have band : ∀ {o : ℕ} (i : ∀ a, (![o, 0] : Fin 2 → ℕ) a + S768x1024.size a ≤ S2304x1024.size a) {T : S768x1024.Idx → EReal}
      (h : ∀ (j : Fin 768) (d : Fin 1024) (J : Fin 2304), J.val = o + j.val → T (ix2 j d) = G (ix2 J d)) (x : S768x1024.Idx), T x = G ((Rect.unit (s := S2304x1024) ![o, 0] S768x1024.size i).emb x) := by
    intro o i T h x
    have l : o + 768 ≤ 2304 := i 0
    have hx : (x 0).val < 768 := (x 0).isLt
    refine Eq.trans (congrArg T ?_) ((h (x 0) (x 1) ⟨o + (x 0).val, by omega⟩ rfl).trans (congrArg G ?_))
    · funext a
      match a with
      | ⟨0, _⟩ => rfl
      | ⟨1, _⟩ => rfl
    · funext a
      apply Fin.ext
      match a with
      | ⟨0, _⟩ => show o + (x 0).val = o + 1 * (x 0).val; omega
      | ⟨1, _⟩ => show (x 1).val = 0 + 1 * (x 1).val; omega
  have mem : ∀ {o : ℕ} (i : ∀ a, (![o, 0] : Fin 2 → ℕ) a + S768x1024.size a ≤ S2304x1024.size a), o ≤ (y 0).val ∧ (y 0).val < o + 768 → y ∈ (Rect.unit (s := S2304x1024) ![o, 0] S768x1024.size i).set :=
    fun i h => Rect.mem_set_unit.2 (fun | ⟨0, _⟩ => h | ⟨1, _⟩ => ⟨Nat.zero_le _, by show (y 1).val < 0 + 1024; omega⟩)
  refine View.canon_apply_of_pieces _ _ (List.forall_mem_cons.2 ⟨band i2 h2, List.forall_mem_cons.2 ⟨band i1 h1, List.forall_mem_cons.2 ⟨band i0 h0, fun _ h => absurd h List.not_mem_nil⟩⟩⟩) y ?_
  by_cases c0 : (y 0).val < 768
  · exact ⟨_, .tail _ (.tail _ (.head _)), mem i0 ⟨by omega, by omega⟩⟩
  by_cases c1 : (y 0).val < 1536
  · exact ⟨_, .tail _ (.head _), mem i1 ⟨by omega, by omega⟩⟩
  · exact ⟨_, .head _, mem i2 ⟨by omega, by omega⟩⟩

/-- One block's share of one entry of the weight's gradient. -/
def share (D : S512x2304.Idx → EReal) (h : S512x1024.Idx → EReal) (J : Fin 2304) (d : Fin 1024) : EReal := ∑ k : Fin 512, D (ix2 k J) * h (ix2 k d)

theorem pay325_apply (h : Vec Ideal S512x1024 .bf16) (V : Vec Ideal S512x768 .bf16) (j : Fin 768) (d : Fin 1024) :
    k0_pay325 (F := Ideal) h V (ix2 j d) = ∑ k : Fin 512, (V (ix2 k j) : EReal) * h (ix2 k d) := by
  unfold k0_pay325 k0_pay324
  rw [shapeCast_self]
  pointwise

theorem first_band {o : ℕ} {L : List (View.Piece (Elt Ideal) S512x2304 .bf16)} {v : View sig .tc .vmem S512x2304 .bf16} {i : ∀ a, (![0, o] : Fin 2 → ℕ) a + S512x768.size a ≤ S512x2304.size a} {D : S512x2304.Idx → EReal}
    {h h' : Vec Ideal S512x1024 .bf16} (hh : h' = h) (hD : ∀ y, View.canon L y = D y) (j : Fin 768) (d : Fin 1024) (J : Fin 2304) (hJ : J.val = o + j.val) :
    k0_pay326 (F := Ideal) h' (v.readCov L (Rect.unit (s := S512x2304) ![0, o] S512x768.size i).toLoadRect) (ix2 j d) = (fun y => (0 : EReal) + share D h (y 0) (y 1)) (ix2 J d) := by
  rw [hh]
  refine (congrFun (shapeCast_self _ _) _).trans ((pay325_apply h _ j d).trans ?_)
  refine Eq.trans (Finset.sum_congr rfl fun k _ => congrArg (· * _) (cols_dp v hD k j J hJ)) ?_
  exact (zero_add _).symm

theorem later_band {o : ℕ} {L : List (View.Piece (Elt Ideal) S512x2304 .bf16)} {v : View sig .tc .vmem S512x2304 .bf16} {i : ∀ a, (![0, o] : Fin 2 → ℕ) a + S512x768.size a ≤ S512x2304.size a} {D : S512x2304.Idx → EReal}
    {h h' : Vec Ideal S512x1024 .bf16} (hh : h' = h) (hD : ∀ y, View.canon L y = D y) {X : Memref sig .tc .vmem S2304x1024 .f32} (hX : X.IsWhole) (p : Vec Ideal S2304x1024 .f32)
    {i' : ∀ a, (![o, 0] : Fin 2 → ℕ) a + S768x1024.size a ≤ S2304x1024.size a} (j : Fin 768) (d : Fin 1024) (J : Fin 2304) (hJ : J.val = o + j.val) :
    k0_pay327 (F := Ideal) (k0_pay325 h' (v.readCov L (Rect.unit (s := S512x2304) ![0, o] S512x768.size i).toLoadRect))
      (View.readAt (Elt Ideal) X.view (Rect.unit (s := S2304x1024) ![o, 0] S768x1024.size i').toLoadRect (hX.unread p)) (ix2 j d) = (fun y => (p y : EReal) + share D h (y 0) (y 1)) (ix2 J d) := by
  rw [hh, View.readAt_eq_ld, hX.read_unread]
  unfold k0_pay327
  rw [shapeCast_self]
  refine congrArg₂ (fun a b : EReal => a + b) (congrArg p (funext fun a => Fin.ext ?_)) ((pay325_apply h _ j d).trans (Finset.sum_congr rfl fun k _ => congrArg (· * _) (cols_dp v hD k j J hJ)))
  match a with
  | ⟨0, _⟩ => show o + 1 * j.val = J.val; omega
  | ⟨1, _⟩ => show 0 + 1 * d.val = d.val; omega

theorem last_copy {L : List (View.Piece (Elt Ideal) S2304x1024 .f32)} {v : View sig .tc .vmem S2304x1024 .f32} {i : ∀ a, (![0, 0] : Fin 2 → ℕ) a + S2304x1024.size a ≤ S2304x1024.size a} (y : S2304x1024.Idx) :
    (k0_pay1 (F := Ideal) (v.readCov L (Rect.unit (s := S2304x1024) ![0, 0] S2304x1024.size i).toLoadRect) y : EReal) = View.canon L y := by
  rw [View.readCov_eq_canon']
  refine congrArg (View.canon L) (funext fun a => Fin.ext ?_)
  match a with
  | ⟨0, _⟩ => show 0 + 1 * (y 0).val = (y 0).val; omega
  | ⟨1, _⟩ => show 0 + 1 * (y 1).val = (y 1).val; omega

/-! ## One point -/

variable (m : (ℓ : Loc nD τ sig) → Buf (Elt Ideal) ℓ)

theorem point_cases (t : Fin cfg0.N) {P : Prop} (hA : t.val % 16 = 0 → ¬1 ≤ t.val → ¬t.val % 16 = 15 → P)
    (hB : ¬t.val % 16 = 0 → 1 ≤ t.val → ¬t.val % 16 = 15 → P) (hC : ¬t.val % 16 = 0 → 1 ≤ t.val → t.val % 16 = 15 → P) : P := by
  have hN : t.val < 16 := lt_of_lt_of_eq t.isLt (show cfg0.N = 16 from N_0)
  by_cases h0 : t.val % 16 = 0
  · exact hA h0 (by omega) (by omega)
  · by_cases h2 : t.val % 16 = 15
    · exact hC h0 (by omega) h2
    · exact hB h0 (by omega) h2

/-- A block's concatenated gradient, and its gradient at the norm's output. -/
abbrev dpT (c : Dev nD) (t : Fin cfg0.N) : S512x2304.Idx → EReal :=
  dpB (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
abbrev dhT (c : Dev nD) (t : Fin cfg0.N) : FVec Ideal S512x1024 .f32 := k0_pay323 (F := Ideal) (dpT m c t) (iblk m c 3 t)

/-- What the two accumulators hold before a point. -/
def before20 (c : Dev nD) (t : Fin cfg0.N) : S1x1024.Idx → EReal := fun y =>
  if t.val % 16 = 0 then 0 else (outsAt0 m c (t.val - 1) (Nat.lt_of_le_of_lt (Nat.sub_le _ _) t.isLt)).2.1 y
def beforeW (c : Dev nD) (t : Fin cfg0.N) : S2304x1024.Idx → EReal := fun y =>
  if t.val % 16 = 0 then 0 else (outsAt0 m c (t.val - 1) (Nat.lt_of_le_of_lt (Nat.sub_le _ _) t.isLt)).2.2.2.2 y

set_option maxHeartbeats 4000000 in
theorem point (c : Dev nD) (t : Fin cfg0.N) :
    (outsAt0 m c t.val t.isLt).1 = k0_pay339 (F := Ideal) (iblk m c 1 t) (k0_pay334 (iblk m c 1 t)) (k0_pay335 (dhT m c t) (iblk m c 2 t)) (k0_pay336 (dhT m c t) (iblk m c 1 t) (iblk m c 2 t)) k0_pay337 (iblk m c 0 t)
    ∧ (outsAt0 m c t.val t.isLt).2.2.2.1 = k0_pay340 (F := Ideal) (iblk m c 1 t) (k0_pay334 (iblk m c 1 t)) (k0_pay335 (dhT m c t) (iblk m c 2 t)) (k0_pay336 (dhT m c t) (iblk m c 1 t) (iblk m c 2 t)) k0_pay337 (iblk m c 0 t)
    ∧ (∀ y, (outsAt0 m c t.val t.isLt).2.1 y = before20 m c t y + k0_pay338 (F := Ideal) (dhT m c t) (iblk m c 1 t) (k0_pay334 (iblk m c 1 t)) y)
    ∧ (∀ y, (outsAt0 m c t.val t.isLt).2.2.2.2 y = (fun y => beforeW m c t y + share (dpT m c t) (iblk m c 4 t) (y 0) (y 1)) y)
    ∧ (t.val % 16 = 15 → ∀ y, (outsAt0 m c t.val t.isLt).2.2.1 y = (outsAt0 m c t.val t.isLt).2.2.2.2 y) := by
  unfold before20 beforeW
  refine point_cases t (fun h0 h1 h2 => ?_) (fun h0 h1 h2 => ?_) fun h0 h1 h2 => ?_
  case' refine_1 =>
    rw [outsAt0_A m c t h0 h1 h0 h1 h0 h1 h0 h1 h2]
    simp only [if_pos h0]
    unfold out0_A_19 out0_A_20 out0_A_22 sout0_A_1 kernelRun0_A
    refine ⟨?_, ?_, fun y => ?_, fun y => ?_, fun h => absurd h h2⟩
    case' refine_3 =>
      rw [View.read_writes_junk_eq_canon, View.canon_unit_zero hz]
      refine dgn_point (block_read (hs0_1 t) _ _) (block_read (hs0_3 t) _ _) ?_ y
    case' refine_4 =>
      rw [View.read_writes_junk_eq_canon]
      refine bands (G := fun y => (0 : EReal) + share (dpT m c t) (iblk m c 4 t) (y 0) (y 1)) (fun j d J hJ => ?_) (fun j d J hJ => ?_) (fun j d J hJ => ?_) y
      all_goals refine first_band (block_read (hs0_4 t) _ _) ?_ j d J hJ
  case' refine_2 =>
    rw [outsAt0_B m c t h0 h1 h0 h1 h0 h1 h0 h1 h2]
    simp only [if_neg h0]
    unfold out0_B_19 out0_B_20 out0_B_22 sout0_B_1 kernelRun0_B
    refine ⟨?_, ?_, fun y => ?_, fun y => ?_, fun h => absurd h h2⟩
  case' refine_3 =>
    rw [outsAt0_C m c t h0 h1 h0 h1 h0 h1 h0 h1 h2]
    simp only [if_neg h0]
    unfold out0_C_19 out0_C_20 out0_C_21 out0_C_22 sout0_C_1 kernelRun0_C
    refine ⟨?_, ?_, fun y => ?_, fun y => ?_, fun _ y => ?_⟩
    case refine_5 =>
      rw [View.read_writes_junk_eq_canon, View.canon_unit_zero hz, View.read_writes_junk_eq_canon]
      exact last_copy y
  case' refine_2.refine_3 | refine_3.refine_3 =>
    rw [View.read_writes_junk_eq_canon, View.canon_unit_zero hz]
    refine dgn_later (block_read (hs0_1 t) _ _) (block_read (hs0_3 t) _ _) (block_read (hs0_20 t) _ _) ?_ y
  case' refine_2.refine_4 | refine_3.refine_4 =>
    rw [View.read_writes_junk_eq_canon]
    refine bands (G := fun y => ((outsAt0 m c (t.val - 1) (Nat.lt_of_le_of_lt (Nat.sub_le _ _) t.isLt)).2.2.2.2 y : EReal) + share (dpT m c t) (iblk m c 4 t) (y 0) (y 1)) (fun j d J hJ => ?_) (fun j d J hJ => ?_) (fun j d J hJ => ?_) y
    all_goals refine later_band (block_read (hs0_4 t) _ _) ?_ (Memref.isWhole_whole _) _ j d J hJ
  case' refine_1.refine_1 | refine_2.refine_1 | refine_3.refine_1 =>
    rw [View.read_writes_junk_eq_canon, View.canon_unit_zero hz]
    refine dx_point (block_read (hs0_1 t) _ _) (block_read (hs0_0 t) _ _) (block_read (hs0_2 t) _ _) (block_read (hs0_3 t) _ _) ?_
  case' refine_1.refine_2 | refine_2.refine_2 | refine_3.refine_2 =>
    rw [View.read_writes_junk_eq_canon, View.canon_unit_zero hz]
    refine half_point (block_read (hs0_1 t) _ _) (block_read (hs0_0 t) _ _) (block_read (hs0_2 t) _ _) (block_read (hs0_3 t) _ _) ?_
  all_goals
    intro y
    refine dp_canon (block_read (hs0_5 t) _ _) (block_read (hs0_6 t) _ _) (block_read (hs0_7 t) _ _) (plane_read (hs0_8 t) _ (by decide) _) (plane_read (hs0_8 t) _ (by decide) _)
      (plane_read (hs0_9 t) _ (by decide) _) (plane_read (hs0_9 t) _ (by decide) _) ⟨whole ?_, whole ?_, whole ?_, whole ?_⟩ ⟨whole ?_, whole ?_, whole ?_, whole ?_⟩ ⟨whole ?_, whole ?_, whole ?_, whole ?_⟩ y
    all_goals
      intro y
      refine after16 ?_ y
      iterate 16 refine step16 ?_
      refine after4 ?_
      iterate 4 refine step4 ?_
      refine after1 ?_
      exact start (by decide) (hs := by decide)

end Cert.InProjIdeal.Hand
-- ==== Proof.InProjValue.lean ====
/- The values of the input projection's backward kernel: a row of the concatenated gradient from the row's own entries
   of the arguments, the gradient at the norm's output, the norm's gradient, and the two sums over the 16 row blocks. -/
module

public import proofs.«01_k».proof.Proof.InProjCases
public import proofs.«01_k».proof.Proof.TileSums
public import Idealize.ShloMosaic.Lib.Pointwise
public import Idealize.ShloMosaic.Lib.Pipeline.Value
public import Idealize.ShloMosaic.Lib.StableHlo.Run
public import Idealize.ShloMosaic.Lib.Tactic

@[expose] public section

noncomputable section

namespace Cert.InProjIdeal.Hand

open Idealize Idealize.ShloMosaic Idealize.ShloMosaic.TcCoe Idealize.SL.Sem
open Cert.InProjIdeal Cert.InProjIdeal.Gen Cert.InProjIdeal.Value Cert.Tiles

/-! ## A row of the concatenated gradient, from the argument arrays -/

/-- The cosines and the signed sines of a row, repeated over its columns. -/
def cosRow (cs : S8192x32.Idx → EReal) (R : Fin 8192) (j : ℕ) : EReal := row (by decide) cs R j
def sinRow (sn : S8192x32.Idx → EReal) (R : Fin 8192) (j : ℕ) : EReal := if j % 64 < 32 then -row (by decide) sn R j else row (by decide) sn R j
/-- A row of one head's plane, and of three patterns' sum, two of which have their rows dealt out by residue. -/
def planeA (x : S2x8192x128.Idx → EReal) (h : Fin 2) (R : Fin 8192) (j : ℕ) : EReal := x (ix3 h R ⟨j % 128, Nat.mod_lt _ (by decide)⟩)
def sumA (x : S8192x512.Idx → EReal) (x4 : S4x2048x512.Idx → EReal) (x16 : S16x512x512.Idx → EReal) (R : Fin 8192) (j : ℕ) : EReal :=
  row (by decide) x R j + x4 (ix3 ⟨R.val % 4, Nat.mod_lt _ (by decide)⟩ ⟨R.val / 4, by have := R.isLt; omega⟩ ⟨j % 512, Nat.mod_lt _ (by decide)⟩)
    + x16 (ix3 ⟨R.val % 16, Nat.mod_lt _ (by decide)⟩ ⟨R.val / 16, by have := R.isLt; omega⟩ ⟨j % 512, Nat.mod_lt _ (by decide)⟩)
def dpA (cs sn : S8192x32.Idx → EReal) (aq : S8192x512.Idx → EReal) (ak av : S2x8192x128.Idx → EReal) (q k v : S8192x512.Idx → EReal)
    (q4 k4 v4 : S4x2048x512.Idx → EReal) (q16 k16 v16 : S16x512x512.Idx → EReal) (R : Fin 8192) : ℕ → EReal :=
  dpRow (cosRow cs R) (sinRow sn R) (row (by decide) aq R) (planeA ak 0 R) (planeA ak 1 R) (planeA av 0 R) (planeA av 1 R)
    (sumA q q4 q16 R) (sumA k k4 k16 R) (sumA v v4 v16 R)

variable (m : (ℓ : Loc nD τ sig) → Buf (Elt Ideal) ℓ)

/-- The argument arrays as arrays of extended reals. -/
abbrev yA (c : Dev nD) : S8192x1024.Idx → EReal := m ((c : Thread nD τ).loc main_arg0)
abbrev xA (c : Dev nD) : S8192x1024.Idx → EReal := m ((c : Thread nD τ).loc main_arg1)
abbrev gnA (c : Dev nD) : S1x1024.Idx → EReal := m ((c : Thread nD τ).loc main_arg2)
abbrev wA (c : Dev nD) : S2304x1024.Idx → EReal := m ((c : Thread nD τ).loc main_arg3)

/-- The row length 1024, the norm's epsilon, and 1/1024, as the programs' constants. -/
abbrev cLen : EReal := Ideal.ofBits .f32 0x44800000#32
abbrev cEps : EReal := Ideal.ofBits .f32 0x358637BD#32
abbrev cInv : EReal := Ideal.ofBits .f32 0x3A800000#32

def dp (c : Dev nD) : Fin 8192 → ℕ → EReal :=
  dpA (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16)) (m ((c : Thread nD τ).loc main_arg17))
/-- A row's mean square plus epsilon, the gradient at the norm's output, and the normalised row. -/
def msq (c : Dev nD) (R : Fin 8192) : EReal := Ideal.div (∑ d : Fin 1024, xA m c (ix2 R d) * xA m c (ix2 R d)) cLen + cEps
def dh (c : Dev nD) (R : Fin 8192) (d : Fin 1024) : EReal := ∑ J : Fin 2304, dp m c R J.val * wA m c (ix2 J d)
def nrm (c : Dev nD) (R : Fin 8192) (d : Fin 1024) : EReal := xA m c (ix2 R d) * Ideal.rsqrt (msq m c R) * gnA m c (ix2 0 d)
/-- One entry of the residual stream's gradient. -/
def dxOf (c : Dev nD) (R : Fin 8192) (d : Fin 1024) : EReal :=
  yA m c (ix2 R d) + (Ideal.rsqrt (msq m c R) * (dh m c R d * gnA m c (ix2 0 d)) -
    xA m c (ix2 R d) * (Ideal.rsqrt (msq m c R) * Ideal.rsqrt (msq m c R) * Ideal.rsqrt (msq m c R) *
      ((∑ k : Fin 1024, dh m c R k * gnA m c (ix2 0 k) * xA m c (ix2 R k)) * cInv)))
/-- The terms of one entry of the norm weight's gradient, and of the projection weight's. -/
def termN (c : Dev nD) (d : Fin 1024) (R : Fin 8192) : EReal := dh m c R d * (xA m c (ix2 R d) * Ideal.rsqrt (msq m c R))
def termW (c : Dev nD) (J : Fin 2304) (d : Fin 1024) (R : Fin 8192) : EReal := dp m c R J.val * nrm m c R d

/-! ## What the host code prepares -/

abbrev xV (c : Dev nD) : FVec Ideal S8192x1024 .f32 := m ((c : Thread nD τ).loc main_arg1)
abbrev gnV (c : Dev nD) : FVec Ideal S1x1024 .f32 := m ((c : Thread nD τ).loc main_arg2)
abbrev csV (c : Dev nD) : FVec Ideal S8192x32 .f32 := m ((c : Thread nD τ).loc main_arg4)
abbrev snV (c : Dev nD) : FVec Ideal S8192x32 .f32 := m ((c : Thread nD τ).loc main_arg5)

theorem norm_at (x : FVec Ideal S8192x1024 .f32) (g : FVec Ideal S1x1024 .f32) (R : Fin 8192) (d : Fin 1024) :
    (truncf .bf16 (mulf (mulf x (broadcastInDim S8192x1024 ![0, 1] bcast_S8192x1_S8192x1024_0_1 (Host.rsqrt (addf (Host.divf
      (broadcastInDim S8192x1 ![0] bcast_S8192_S8192x1_0 (Host.reduceAdd (mulf x x) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 g)) bitsLt_bf16_f32 : FVec Ideal S8192x1024 .bf16) (ix2 R d)
      = (x (ix2 R d) : EReal) * Ideal.rsqrt (Ideal.div (∑ d : Fin 1024, (x (ix2 R d) : EReal) * x (ix2 R d)) cLen + cEps) * g (ix2 0 d) := by
  pointwise

theorem host12 (c : Dev nD) (R : Fin 8192) (d : Fin 1024) : (V m c main_v12 : S8192x1024.Idx → EReal) (ix2 R d) = nrm m c R d := by
  refine Eq.trans (congrFun ?_ _) (norm_at (xV m c) (gnV m c) R d)
  unfold V
  after_results

theorem cos_at (x : FVec Ideal S8192x32 .f32) (R : Fin 8192) (j : Fin 128) :
    (concatenate S8192x128 1 [⟨S8192x32, x⟩, ⟨S8192x32, x⟩, ⟨S8192x32, x⟩, ⟨S8192x32, x⟩] concatenates_S8192x32_S8192x32_S8192x32_S8192x32_S8192x128_d1 : FVec Ideal S8192x128 .f32) (ix2 R j) = cosRow x R j.val := by
  have hj := j.isLt
  have e : ∀ i (h : i < 32), i = j.val % 32 → (x (ix2 R ⟨i, h⟩) : EReal) = x (ix2 R ⟨j.val % 32, Nat.mod_lt _ (by decide)⟩) := fun i h hi => by subst hi; rfl
  unfold cosRow row
  pointwise
  by_cases h0 : j.val < 32
  · rw [dif_pos h0]
    exact e _ _ (by omega)
  rw [dif_neg h0]
  by_cases h1 : j.val - 32 < 32
  · rw [dif_pos h1]
    exact e _ _ (by omega)
  rw [dif_neg h1]
  by_cases h2 : j.val - 32 - 32 < 32
  · rw [dif_pos h2]
    exact e _ _ (by omega)
  rw [dif_neg h2]
  exact e _ _ (by omega)

theorem sin_at (x : FVec Ideal S8192x32 .f32) (R : Fin 8192) (j : Fin 128) :
    (concatenate S8192x128 1 [⟨S8192x32, Host.negf x⟩, ⟨S8192x32, x⟩, ⟨S8192x32, Host.negf x⟩, ⟨S8192x32, x⟩] concatenates_S8192x32_S8192x32_S8192x32_S8192x32_S8192x128_d1 : FVec Ideal S8192x128 .f32) (ix2 R j) = sinRow x R j.val := by
  have hj := j.isLt
  have e : ∀ i (h : i < 32), i = j.val % 32 → (x (ix2 R ⟨i, h⟩) : EReal) = x (ix2 R ⟨j.val % 32, Nat.mod_lt _ (by decide)⟩) := fun i h hi => by subst hi; rfl
  have e' : ∀ i (h : i < 32), i = j.val % 32 → -(x (ix2 R ⟨i, h⟩) : EReal) = -(x (ix2 R ⟨j.val % 32, Nat.mod_lt _ (by decide)⟩)) := fun i h hi => by subst hi; rfl
  unfold sinRow row
  by_cases h0 : j.val < 32
  · rw [if_pos (show j.val % 64 < 32 by omega)]
    pointwise
    rw [dif_pos h0]
    exact e' (j.val) (by omega) (by omega)
  by_cases h1 : j.val - 32 < 32
  · rw [if_neg (show ¬j.val % 64 < 32 by omega)]
    pointwise
    rw [dif_neg h0, dif_pos h1]
    exact e (j.val - 32) (by omega) (by omega)
  by_cases h2 : j.val - 32 - 32 < 32
  · rw [if_pos (show j.val % 64 < 32 by omega)]
    pointwise
    rw [dif_neg h0, dif_neg h1, dif_pos h2]
    exact e' (j.val - 32 - 32) (by omega) (by omega)
  · rw [if_neg (show ¬j.val % 64 < 32 by omega)]
    pointwise
    rw [dif_neg h0, dif_neg h1, dif_neg h2]
    exact e (j.val - 32 - 32 - 32) (by omega) (by omega)

theorem host13 (c : Dev nD) (R : Fin 8192) (j : Fin 128) : (V m c main_v13 : S8192x128.Idx → EReal) (ix2 R j) = cosRow (csV m c) R j.val := by
  refine Eq.trans (congrFun ?_ _) (cos_at (csV m c) R j)
  simp only [V, hostOps0, List.cons_append, List.nil_append]
  after_results_simp
  rfl

theorem host15 (c : Dev nD) (R : Fin 8192) (j : Fin 128) : (V m c main_v15 : S8192x128.Idx → EReal) (ix2 R j) = sinRow (snV m c) R j.val := by
  refine Eq.trans (congrFun ?_ _) (sin_at (snV m c) R j)
  simp only [V, hostOps0, List.cons_append, List.nil_append]
  after_results_simp
  rfl

/-! ## The blocks a point reads -/

theorem idxR : ∀ t : Fin cfg0.N, win0_0.index t = ![t.val, 0] ∧ win0_1.index t = ![t.val, 0] ∧ win0_4.index t = ![t.val, 0] ∧ win0_5.index t = ![t.val, 0] ∧ win0_6.index t = ![t.val, 0]
    ∧ win0_7.index t = ![t.val, 0] ∧ win0_10.index t = ![t.val, 0] ∧ win0_11.index t = ![t.val, 0] ∧ win0_12.index t = ![t.val, 0] ∧ win0_19.index t = ![t.val, 0] ∧ win0_22.index t = ![t.val, 0] :=
  (by decide +kernel : ∀ t : Fin grid0.N, _)
theorem idxZ : ∀ t : Fin cfg0.N, win0_2.index t = ![0, 0] ∧ win0_3.index t = ![0, 0] :=
  (by decide +kernel : ∀ t : Fin grid0.N, _)
theorem idxP : ∀ t : Fin cfg0.N, win0_8.index t = ![0, t.val, 0] ∧ win0_9.index t = ![0, t.val, 0] ∧ win0_13.index t = ![0, t.val, 0] ∧ win0_14.index t = ![0, t.val, 0] ∧ win0_15.index t = ![0, t.val, 0]
    ∧ win0_16.index t = ![0, t.val, 0] ∧ win0_17.index t = ![0, t.val, 0] ∧ win0_18.index t = ![0, t.val, 0] :=
  (by decide +kernel : ∀ t : Fin grid0.N, _)

/-- An index whose components are those of a block's entry at block index `i`. -/
theorem place2 {n w a b : ℕ} {y : (⟨2, ![n, w]⟩ : Shape).Idx} {i : Fin 2 → ℕ} {p q k j : ℕ} {R : Fin n} {d : Fin w} (hi : i = ![p, q])
    (h0 : (y 0).val = i 0 * a + 1 * k) (h1 : (y 1).val = i 1 * b + 1 * j) (hR : R.val = p * a + k) (hd : d.val = q * b + j) : y = ix2 R d := by
  subst hi
  funext e
  match e with
  | ⟨0, _⟩ => exact Fin.ext (by rw [show (1 * k) = k from Nat.one_mul k] at h0; exact h0.trans hR.symm)
  | ⟨1, _⟩ => exact Fin.ext (by rw [show (1 * j) = j from Nat.one_mul j] at h1; exact h1.trans hd.symm)
theorem place3 {n w u a b e : ℕ} {y : (⟨3, ![n, w, u]⟩ : Shape).Idx} {i : Fin 3 → ℕ} {p q s k j l : ℕ} {R : Fin n} {d : Fin w} {f : Fin u} (hi : i = ![p, q, s])
    (h0 : (y 0).val = i 0 * a + 1 * k) (h1 : (y 1).val = i 1 * b + 1 * j) (h2 : (y 2).val = i 2 * e + 1 * l) (hR : R.val = p * a + k) (hd : d.val = q * b + j) (hf : f.val = s * e + l) : y = ix3 R d f := by
  subst hi
  funext e
  match e with
  | ⟨0, _⟩ => exact Fin.ext (by rw [show (1 * k) = k from Nat.one_mul k] at h0; exact h0.trans hR.symm)
  | ⟨1, _⟩ => exact Fin.ext (by rw [show (1 * j) = j from Nat.one_mul j] at h1; exact h1.trans hd.symm)
  | ⟨2, _⟩ => exact Fin.ext (by rw [show (1 * l) = l from Nat.one_mul l] at h2; exact h2.trans hf.symm)

theorem zeq (d b : ℕ) : d = 0 * b + d := by omega

variable (c : Dev nD) (t : Fin cfg0.N)

theorem blk0 (k : Fin 512) (d : Fin 1024) (R : Fin 8192) (hR : R.val = t.val * 512 + k.val) : (iblk m c 0 t : S512x1024.Idx → EReal) (ix2 k d) = yA m c (ix2 R d) :=
  (congrFun (V_main_arg0 m c) _).trans (congrArg _ (place2 (idxR t).1 rfl rfl hR (zeq _ _)))
theorem blk1 (k : Fin 512) (d : Fin 1024) (R : Fin 8192) (hR : R.val = t.val * 512 + k.val) : (iblk m c 1 t : S512x1024.Idx → EReal) (ix2 k d) = xA m c (ix2 R d) :=
  (congrFun (V_main_arg1 m c) _).trans (congrArg _ (place2 (idxR t).2.1 rfl rfl hR (zeq _ _)))
theorem blk2 (d : Fin 1024) : (iblk m c 2 t : S1x1024.Idx → EReal) (ix2 0 d) = gnA m c (ix2 0 d) :=
  (congrFun (V_main_arg2 m c) _).trans (congrArg _ (place2 (idxZ t).1 rfl rfl (zeq _ _) (zeq _ _)))
theorem blk3 (J : Fin 2304) (d : Fin 1024) : (iblk m c 3 t : S2304x1024.Idx → EReal) (ix2 J d) = wA m c (ix2 J d) :=
  (congrFun (V_main_arg3 m c) _).trans (congrArg _ (place2 (idxZ t).2 rfl rfl (zeq _ _) (zeq _ _)))
theorem blk4 (k : Fin 512) (d : Fin 1024) (R : Fin 8192) (hR : R.val = t.val * 512 + k.val) : (iblk m c 4 t : S512x1024.Idx → EReal) (ix2 k d) = nrm m c R d :=
  (congrArg (V m c main_v12) (place2 (idxR t).2.2.1 rfl rfl hR (zeq _ _))).trans (host12 m c R d)

section Rows
variable (k : Fin 512) (R : Fin 8192) (hR : R.val = t.val * 512 + k.val)
include hR

theorem row5 : row (by decide) (iblk m c 5 t : S512x128.Idx → EReal) k = cosRow (csV m c) R := funext fun j => by
  refine (congrArg (V m c main_v13) (place2 (R := R) (d := (⟨j % 128, Nat.mod_lt _ (by decide)⟩ : Fin 128)) (idxR t).2.2.2.1 rfl rfl hR (zeq _ _))).trans ((host13 m c R _).trans ?_)
  unfold cosRow row
  have h : j % 128 % 32 = j % 32 := by omega
  simp only [h]
theorem row6 : row (by decide) (iblk m c 6 t : S512x128.Idx → EReal) k = sinRow (snV m c) R := funext fun j => by
  refine (congrArg (V m c main_v15) (place2 (R := R) (d := (⟨j % 128, Nat.mod_lt _ (by decide)⟩ : Fin 128)) (idxR t).2.2.2.2.1 rfl rfl hR (zeq _ _))).trans ((host15 m c R _).trans ?_)
  unfold sinRow row
  have h : j % 128 % 32 = j % 32 := by omega
  have h' : j % 128 % 64 = j % 64 := by omega
  simp only [h, h']
theorem row7 : row (by decide) (iblk m c 7 t : S512x512.Idx → EReal) k = row (by decide) (m ((c : Thread nD τ).loc main_arg6) : S8192x512.Idx → EReal) R := funext fun j =>
  (congrFun (V_main_arg6 m c) _).trans (congrArg _ (place2 (idxR t).2.2.2.2.2.1 rfl rfl hR (zeq _ _)))
theorem plane8 (h : Fin 2) : plane (iblk m c 8 t) h k = planeA (m ((c : Thread nD τ).loc main_arg7)) h R := funext fun j =>
  (congrFun (V_main_arg7 m c) _).trans (congrArg _ (place3 (idxP t).1 rfl rfl rfl (zeq _ _) hR (zeq _ _)))
theorem plane9 (h : Fin 2) : plane (iblk m c 9 t) h k = planeA (m ((c : Thread nD τ).loc main_arg8)) h R := funext fun j =>
  (congrFun (V_main_arg8 m c) _).trans (congrArg _ (place3 (idxP t).2.1 rfl rfl rfl (zeq _ _) hR (zeq _ _)))
theorem row10 (j : ℕ) : row (by decide) (iblk m c 10 t : S512x512.Idx → EReal) k j = row (by decide) (m ((c : Thread nD τ).loc main_arg9) : S8192x512.Idx → EReal) R j :=
  (congrFun (V_main_arg9 m c) _).trans (congrArg _ (place2 (idxR t).2.2.2.2.2.2.1 rfl rfl hR (zeq _ _)))
theorem row11 (j : ℕ) : row (by decide) (iblk m c 11 t : S512x512.Idx → EReal) k j = row (by decide) (m ((c : Thread nD τ).loc main_arg10) : S8192x512.Idx → EReal) R j :=
  (congrFun (V_main_arg10 m c) _).trans (congrArg _ (place2 (idxR t).2.2.2.2.2.2.2.1 rfl rfl hR (zeq _ _)))
theorem row12 (j : ℕ) : row (by decide) (iblk m c 12 t : S512x512.Idx → EReal) k j = row (by decide) (m ((c : Thread nD τ).loc main_arg11) : S8192x512.Idx → EReal) R j :=
  (congrFun (V_main_arg11 m c) _).trans (congrArg _ (place2 (idxR t).2.2.2.2.2.2.2.2.1 rfl rfl hR (zeq _ _)))
theorem res4 : R.val % 4 = k.val % 4 ∧ R.val / 4 = t.val * 128 + k.val / 4 := by omega
theorem res16 : R.val % 16 = k.val % 16 ∧ R.val / 16 = t.val * 32 + k.val / 16 := by omega
theorem seg13 (j : Fin 512) : (iblk m c 13 t : S4x128x512.Idx → EReal) (ix3 ⟨k.val % 4, Nat.mod_lt _ (by decide)⟩ ⟨k.val / 4, by have := k.isLt; omega⟩ j)
    = (m ((c : Thread nD τ).loc main_arg12) : S4x2048x512.Idx → EReal) (ix3 ⟨R.val % 4, Nat.mod_lt _ (by decide)⟩ ⟨R.val / 4, by have := R.isLt; omega⟩ j) :=
  (congrFun (V_main_arg12 m c) _).trans (congrArg _ (place3 (idxP t).2.2.1 rfl rfl rfl ((res4 t k R hR).1.trans (zeq _ _)) (res4 t k R hR).2 (zeq _ _)))
theorem seg14 (j : Fin 512) : (iblk m c 14 t : S4x128x512.Idx → EReal) (ix3 ⟨k.val % 4, Nat.mod_lt _ (by decide)⟩ ⟨k.val / 4, by have := k.isLt; omega⟩ j)
    = (m ((c : Thread nD τ).loc main_arg13) : S4x2048x512.Idx → EReal) (ix3 ⟨R.val % 4, Nat.mod_lt _ (by decide)⟩ ⟨R.val / 4, by have := R.isLt; omega⟩ j) :=
  (congrFun (V_main_arg13 m c) _).trans (congrArg _ (place3 (idxP t).2.2.2.1 rfl rfl rfl ((res4 t k R hR).1.trans (zeq _ _)) (res4 t k R hR).2 (zeq _ _)))
theorem seg15 (j : Fin 512) : (iblk m c 15 t : S4x128x512.Idx → EReal) (ix3 ⟨k.val % 4, Nat.mod_lt _ (by decide)⟩ ⟨k.val / 4, by have := k.isLt; omega⟩ j)
    = (m ((c : Thread nD τ).loc main_arg14) : S4x2048x512.Idx → EReal) (ix3 ⟨R.val % 4, Nat.mod_lt _ (by decide)⟩ ⟨R.val / 4, by have := R.isLt; omega⟩ j) :=
  (congrFun (V_main_arg14 m c) _).trans (congrArg _ (place3 (idxP t).2.2.2.2.1 rfl rfl rfl ((res4 t k R hR).1.trans (zeq _ _)) (res4 t k R hR).2 (zeq _ _)))
theorem seg16 (j : Fin 512) : (iblk m c 16 t : S16x32x512.Idx → EReal) (ix3 ⟨k.val % 16, Nat.mod_lt _ (by decide)⟩ ⟨k.val / 16, by have := k.isLt; omega⟩ j)
    = (m ((c : Thread nD τ).loc main_arg15) : S16x512x512.Idx → EReal) (ix3 ⟨R.val % 16, Nat.mod_lt _ (by decide)⟩ ⟨R.val / 16, by have := R.isLt; omega⟩ j) :=
  (congrFun (V_main_arg15 m c) _).trans (congrArg _ (place3 (idxP t).2.2.2.2.2.1 rfl rfl rfl ((res16 t k R hR).1.trans (zeq _ _)) (res16 t k R hR).2 (zeq _ _)))
theorem seg17 (j : Fin 512) : (iblk m c 17 t : S16x32x512.Idx → EReal) (ix3 ⟨k.val % 16, Nat.mod_lt _ (by decide)⟩ ⟨k.val / 16, by have := k.isLt; omega⟩ j)
    = (m ((c : Thread nD τ).loc main_arg16) : S16x512x512.Idx → EReal) (ix3 ⟨R.val % 16, Nat.mod_lt _ (by decide)⟩ ⟨R.val / 16, by have := R.isLt; omega⟩ j) :=
  (congrFun (V_main_arg16 m c) _).trans (congrArg _ (place3 (idxP t).2.2.2.2.2.2.1 rfl rfl rfl ((res16 t k R hR).1.trans (zeq _ _)) (res16 t k R hR).2 (zeq _ _)))
theorem seg18 (j : Fin 512) : (iblk m c 18 t : S16x32x512.Idx → EReal) (ix3 ⟨k.val % 16, Nat.mod_lt _ (by decide)⟩ ⟨k.val / 16, by have := k.isLt; omega⟩ j)
    = (m ((c : Thread nD τ).loc main_arg17) : S16x512x512.Idx → EReal) (ix3 ⟨R.val % 16, Nat.mod_lt _ (by decide)⟩ ⟨R.val / 16, by have := R.isLt; omega⟩ j) :=
  (congrFun (V_main_arg17 m c) _).trans (congrArg _ (place3 (idxP t).2.2.2.2.2.2.2 rfl rfl rfl ((res16 t k R hR).1.trans (zeq _ _)) (res16 t k R hR).2 (zeq _ _)))
theorem sum10 : sumRow (iblk m c 10 t) (iblk m c 13 t) (iblk m c 16 t) k = sumA (m ((c : Thread nD τ).loc main_arg9)) (m ((c : Thread nD τ).loc main_arg12)) (m ((c : Thread nD τ).loc main_arg15)) R :=
  funext fun j => congrArg₂ (fun a b : EReal => a + b) (congrArg₂ (fun a b : EReal => a + b) (row10 m c t k R hR j) (seg13 m c t k R hR _)) (seg16 m c t k R hR _)
theorem sum11 : sumRow (iblk m c 11 t) (iblk m c 14 t) (iblk m c 17 t) k = sumA (m ((c : Thread nD τ).loc main_arg10)) (m ((c : Thread nD τ).loc main_arg13)) (m ((c : Thread nD τ).loc main_arg16)) R :=
  funext fun j => congrArg₂ (fun a b : EReal => a + b) (congrArg₂ (fun a b : EReal => a + b) (row11 m c t k R hR j) (seg14 m c t k R hR _)) (seg17 m c t k R hR _)
theorem sum12 : sumRow (iblk m c 12 t) (iblk m c 15 t) (iblk m c 18 t) k = sumA (m ((c : Thread nD τ).loc main_arg11)) (m ((c : Thread nD τ).loc main_arg14)) (m ((c : Thread nD τ).loc main_arg17)) R :=
  funext fun j => congrArg₂ (fun a b : EReal => a + b) (congrArg₂ (fun a b : EReal => a + b) (row12 m c t k R hR j) (seg15 m c t k R hR _)) (seg18 m c t k R hR _)

/-- A row of the block's concatenated gradient is that row of the whole. -/
theorem dp_blk (J : Fin 2304) : dpT m c t (ix2 k J) = dp m c R J.val := by
  show dpRow (row _ (iblk m c 5 t : S512x128.Idx → EReal) k) (row _ (iblk m c 6 t : S512x128.Idx → EReal) k) (row _ (iblk m c 7 t : S512x512.Idx → EReal) k) (plane (iblk m c 8 t) 0 k) (plane (iblk m c 8 t) 1 k)
    (plane (iblk m c 9 t) 0 k) (plane (iblk m c 9 t) 1 k) (sumRow (iblk m c 10 t) (iblk m c 13 t) (iblk m c 16 t) k) (sumRow (iblk m c 11 t) (iblk m c 14 t) (iblk m c 17 t) k)
    (sumRow (iblk m c 12 t) (iblk m c 15 t) (iblk m c 18 t) k) J.val = _
  rw [row5 m c t k R hR, row6 m c t k R hR, row7 m c t k R hR, plane8 m c t k R hR, plane8 m c t k R hR, plane9 m c t k R hR, plane9 m c t k R hR, sum10 m c t k R hR, sum11 m c t k R hR, sum12 m c t k R hR]
  rfl
end Rows

/-! ## One point -/

theorem pay323_apply (D : FVec Ideal S512x2304 .bf16) (w : FVec Ideal S2304x1024 .bf16) (k : Fin 512) (d : Fin 1024) :
    k0_pay323 (F := Ideal) D w (ix2 k d) = ∑ J : Fin 2304, (D (ix2 k J) : EReal) * w (ix2 J d) := by
  unfold k0_pay323
  pointwise
theorem pay334_apply (x : FVec Ideal S512x1024 .f32) (k : Fin 512) :
    k0_pay334 (F := Ideal) x (ix2 k (0 : Fin 1)) = Ideal.rsqrt (Ideal.div (∑ d : Fin 1024, (x (ix2 k d) : EReal) * x (ix2 k d)) cLen + cEps) := by
  unfold k0_pay334
  pointwise
theorem pay338_apply (D : FVec Ideal S512x1024 .f32) (x : FVec Ideal S512x1024 .f32) (s : FVec Ideal S512x1 .f32) (d : Fin 1024) :
    k0_pay338 (F := Ideal) D x s (ix2 (0 : Fin 1) d) = ∑ k : Fin 512, (D (ix2 k d) : EReal) * (x (ix2 k d) * s (ix2 k 0)) := by
  unfold k0_pay338
  pointwise
theorem pay339_apply (D x y : FVec Ideal S512x1024 .f32) (s : FVec Ideal S512x1 .f32) (g : FVec Ideal S1x1024 .f32) (k : Fin 512) (d : Fin 1024) :
    k0_pay339 (F := Ideal) x s (k0_pay335 D g) (k0_pay336 D x g) k0_pay337 y (ix2 k d)
      = (y (ix2 k d) : EReal) + (s (ix2 k 0) * (D (ix2 k d) * g (ix2 0 d)) -
      x (ix2 k d) * (s (ix2 k 0) * s (ix2 k 0) * s (ix2 k 0) * ((∑ e : Fin 1024, D (ix2 k e) * g (ix2 0 e) * x (ix2 k e)) * cInv))) := by
  unfold k0_pay339 k0_pay335 k0_pay336 k0_pay337 k0_pay335
  pointwise
theorem pay340_apply (D x y : FVec Ideal S512x1024 .f32) (s : FVec Ideal S512x1 .f32) (g : FVec Ideal S1x1024 .f32) (k : Fin 512) (d : Fin 1024) :
    k0_pay340 (F := Ideal) x s (k0_pay335 D g) (k0_pay336 D x g) k0_pay337 y (ix2 k d)
      = Ideal.ofBits .f32 0x3F000000#32 * k0_pay339 (F := Ideal) x s (k0_pay335 D g) (k0_pay336 D x g) k0_pay337 y (ix2 k d) := by
  unfold k0_pay340
  pointwise

theorem dh_blk (k : Fin 512) (d : Fin 1024) (R : Fin 8192) (hR : R.val = t.val * 512 + k.val) : (dhT m c t : S512x1024.Idx → EReal) (ix2 k d) = dh m c R d :=
  (pay323_apply _ _ k d).trans (Finset.sum_congr rfl fun J _ => congrArg₂ _ (dp_blk m c t k R hR J) (blk3 m c t J d))

theorem rs_blk (k : Fin 512) (R : Fin 8192) (hR : R.val = t.val * 512 + k.val) :
    (k0_pay334 (F := Ideal) (iblk m c 1 t)) (ix2 k (0 : Fin 1)) = Ideal.rsqrt (msq m c R) := by
  refine (pay334_apply _ k).trans ?_
  refine congrArg (fun s => Ideal.rsqrt (Ideal.div s cLen + cEps)) ?_
  exact Finset.sum_congr rfl fun d _ => congrArg₂ _ (blk1 m c t k d R hR) (blk1 m c t k d R hR)

theorem dx_blk (k : Fin 512) (d : Fin 1024) (R : Fin 8192) (hR : R.val = t.val * 512 + k.val) :
    k0_pay339 (F := Ideal) (iblk m c 1 t) (k0_pay334 (iblk m c 1 t)) (k0_pay335 (dhT m c t) (iblk m c 2 t)) (k0_pay336 (dhT m c t) (iblk m c 1 t) (iblk m c 2 t)) k0_pay337 (iblk m c 0 t) (ix2 k d) = dxOf m c R d := by
  refine (pay339_apply _ _ _ _ _ k d).trans ?_
  unfold dxOf
  rw [rs_blk m c t k R hR, dh_blk m c t k d R hR]
  refine congrArg₂ _ (blk0 m c t k d R hR) (congrArg₂ _ (congrArg₂ _ rfl (congrArg₂ _ rfl (blk2 m c t d))) (congrArg₂ _ (blk1 m c t k d R hR) (congrArg₂ _ rfl (congrArg₂ _ ?_ rfl))))
  exact Finset.sum_congr rfl fun j _ => congrArg₂ _ (congrArg₂ _ (dh_blk m c t k j R hR) (blk2 m c t j)) (blk1 m c t k j R hR)

theorem n_tile (d : Fin 1024) :
    (k0_pay338 (F := Ideal) (dhT m c t) (iblk m c 1 t) (k0_pay334 (iblk m c 1 t))) (ix2 (0 : Fin 1) d) = tile (by decide : 0 < 8192) 512 (termN m c d) t.val := by
  have hN : t.val < 16 := lt_of_lt_of_eq t.isLt (show cfg0.N = 16 from N_0)
  rw [tile_of_lt _ _ _ _ (fun k => by have := k.isLt; omega)]
  refine (pay338_apply _ _ _ d).trans (Finset.sum_congr rfl fun k _ => ?_)
  have hlt : t.val * 512 + k.val < 8192 := by have := k.isLt; omega
  rw [dh_blk m c t k d ⟨t.val * 512 + k.val, hlt⟩ rfl, rs_blk m c t k ⟨t.val * 512 + k.val, hlt⟩ rfl]
  exact congrArg₂ _ rfl (congrArg₂ _ (blk1 m c t k d ⟨t.val * 512 + k.val, hlt⟩ rfl) rfl)

theorem w_tile (J : Fin 2304) (d : Fin 1024) : share (dpT m c t) (iblk m c 4 t) J d = tile (by decide : 0 < 8192) 512 (termW m c J d) t.val := by
  have hN : t.val < 16 := lt_of_lt_of_eq t.isLt (show cfg0.N = 16 from N_0)
  rw [tile_of_lt _ _ _ _ (fun k => by have := k.isLt; omega)]
  refine Finset.sum_congr rfl fun k _ => ?_
  have hlt : t.val * 512 + k.val < 8192 := by have := k.isLt; omega
  exact congrArg₂ _ (dp_blk m c t k ⟨t.val * 512 + k.val, hlt⟩ rfl J) (blk4 m c t k d ⟨t.val * 512 + k.val, hlt⟩ rfl)

/-- After point `n` the two accumulators hold the sums over the row blocks so far. -/
theorem acc : ∀ (n : ℕ) (h : n < cfg0.N),
    (∀ d : Fin 1024, ((outsAt0 m c n h).2.1 : S1x1024.Idx → EReal) (ix2 0 d) = ∑ s ∈ Finset.range (n + 1), tile (by decide : 0 < 8192) 512 (termN m c d) s)
    ∧ ∀ (J : Fin 2304) (d : Fin 1024), ((outsAt0 m c n h).2.2.2.2 : S2304x1024.Idx → EReal) (ix2 J d) = ∑ s ∈ Finset.range (n + 1), tile (by decide : 0 < 8192) 512 (termW m c J d) s := by
  intro n
  induction n with
  | zero =>
    intro h
    refine ⟨fun d => ?_, fun J d => ?_⟩
    · rw [Finset.sum_range_one]
      exact ((point m c ⟨0, h⟩).2.2.1 _).trans ((congrArg₂ _ (if_pos rfl) (n_tile m c ⟨0, h⟩ d)).trans (zero_add _))
    · rw [Finset.sum_range_one]
      exact ((point m c ⟨0, h⟩).2.2.2.1 _).trans ((congrArg₂ _ (if_pos rfl) (w_tile m c ⟨0, h⟩ J d)).trans (zero_add _))
  | succ k ih =>
    intro h
    have hN : k + 1 < 16 := lt_of_lt_of_eq h (show cfg0.N = 16 from N_0)
    have hk : ¬(k + 1) % 16 = 0 := by omega
    refine ⟨fun d => ?_, fun J d => ?_⟩
    · rw [Finset.sum_range_succ, ← (ih (by omega)).1 d]
      exact ((point m c ⟨k + 1, h⟩).2.2.1 _).trans (congrArg₂ _ (if_neg hk) (n_tile m c ⟨k + 1, h⟩ d))
    · rw [Finset.sum_range_succ, ← (ih (by omega)).2 J d]
      exact ((point m c ⟨k + 1, h⟩).2.2.2.1 _).trans (congrArg₂ _ (if_neg hk) (w_tile m c ⟨k + 1, h⟩ J d))

/-! ## The four results at an entry -/

theorem result19 (R : Fin 8192) (d : Fin 1024) : ((dats m 0 c).arrAt 19 cfg0.N : S8192x1024.Idx → EReal) (ix2 R d) = dxOf m c R d := by
  have hR := R.isLt
  have hN : cfg0.N = 16 := N_0
  have hlt : R.val / 512 < cfg0.N := by omega
  have hr : R.val = R.val / 512 * 512 + R.val % 512 := by omega
  have e := congrFun (blocks19 m c ⟨R.val / 512, hlt⟩ (flush0_19 _)) (ix2 (⟨R.val % 512, by omega⟩ : Fin 512) d : S512x1024.Idx)
  rw [View.read_apply, flushed19, (point m c ⟨R.val / 512, hlt⟩).1] at e
  have he : ((cfg0.win 19).blk ⟨R.val / 512, hlt⟩).view.emb (ix2 (⟨R.val % 512, by omega⟩ : Fin 512) d : S512x1024.Idx) = (ix2 R d : S8192x1024.Idx) :=
    place2 (idxR ⟨R.val / 512, hlt⟩).2.2.2.2.2.2.2.2.2.1 rfl rfl hr (zeq _ _)
  exact (congrArg _ he.symm).trans (e.trans (dx_blk m c ⟨R.val / 512, hlt⟩ ⟨R.val % 512, by omega⟩ d R hr))

theorem result22 (R : Fin 8192) (d : Fin 1024) : ((dats m 0 c).arrAt 22 cfg0.N : S8192x1024.Idx → EReal) (ix2 R d) = Ideal.ofBits .f32 0x3F000000#32 * dxOf m c R d := by
  have hR := R.isLt
  have hN : cfg0.N = 16 := N_0
  have hlt : R.val / 512 < cfg0.N := by omega
  have hr : R.val = R.val / 512 * 512 + R.val % 512 := by omega
  have e := congrFun (blocks22 m c ⟨R.val / 512, hlt⟩ (flush0_22 _)) (ix2 (⟨R.val % 512, by omega⟩ : Fin 512) d : S512x1024.Idx)
  rw [View.read_apply, flushed22, (point m c ⟨R.val / 512, hlt⟩).2.1] at e
  have he : ((cfg0.win 22).blk ⟨R.val / 512, hlt⟩).view.emb (ix2 (⟨R.val % 512, by omega⟩ : Fin 512) d : S512x1024.Idx) = (ix2 R d : S8192x1024.Idx) :=
    place2 (idxR ⟨R.val / 512, hlt⟩).2.2.2.2.2.2.2.2.2.2 rfl rfl hr (zeq _ _)
  exact (congrArg _ he.symm).trans (e.trans ((pay340_apply _ _ _ _ _ _ d).trans (congrArg _ (dx_blk m c ⟨R.val / 512, hlt⟩ ⟨R.val % 512, by omega⟩ d R hr))))

theorem result20 (d : Fin 1024) : ((dats m 0 c).arrAt 20 cfg0.N : S1x1024.Idx → EReal) (ix2 0 d) = ∑ R : Fin 8192, termN m c d R := by
  have h15 : 15 < cfg0.N := by rw [show cfg0.N = 16 from N_0]; decide
  rw [final20, G20_last, ← outsAt0_sweep m c 15 h15]
  exact ((acc m c 15 h15).1 d).trans (sum_tiles (by decide : 0 < 8192) 16 512 rfl _)

/-- At the last point the weight's gradient is written out. -/
theorem last_point (t : Fin cfg0.N) (h : t.val % 16 = 15) (y : S2304x1024.Idx) : (outsAt0 m c t.val t.isLt).2.2.1 y = (outsAt0 m c t.val t.isLt).2.2.2.2 y :=
  (point m c t).2.2.2.2 h y
theorem last21 (n : ℕ) (hn : n < cfg0.N) (h : n % 16 = 15) (y : S2304x1024.Idx) : (outsAt0 m c n hn).2.2.1 y = (outsAt0 m c n hn).2.2.2.2 y := by
  obtain ⟨t, rfl⟩ : ∃ t : Fin cfg0.N, t.val = n := ⟨⟨n, hn⟩, rfl⟩
  exact last_point m c t h y

theorem res21 (h15 : 15 < cfg0.N) (J : Fin 2304) (d : Fin 1024) : (outsAt0 m c 15 h15).2.2.1 (ix2 J d) = ∑ R : Fin 8192, termW m c J d R := by
  rw [last21 m c 15 h15 (Nat.mod_eq_of_lt (by decide))]
  exact ((acc m c 15 h15).2 J d).trans (sum_tiles (by decide : 0 < 8192) 16 512 rfl _)

theorem result21 (J : Fin 2304) (d : Fin 1024) : ((dats m 0 c).arrAt 21 cfg0.N : S2304x1024.Idx → EReal) (ix2 J d) = ∑ R : Fin 8192, termW m c J d R := by
  have h15 : 15 < cfg0.N := by rw [show cfg0.N = 16 from N_0]; decide
  rw [final21, G21_last, ← outsAt0_sweep m c 15 h15]
  exact res21 m c h15 J d

end Cert.InProjIdeal.Hand
-- ==== Proof.InProjAlg.lean ====
/- The input projection's backward kernel against its reference. The reference rotates back by heads of 64 columns, folds the near
   attention's two planes by padding them with zeros, and takes the norm's derivative by the product and chain rules, as
   the input-gradient kernel's reference does. -/
module

public import proofs.«01_k».proof.Proof.InProjValue
public import proofs.«01_k».proof.Proof.LossAlg
public import proofs.«01_k».proof.Proof.InputAlg
public import proofs.«01_k».proof.Proof.Gen.InProjReferenceIdeal.Run
public import Idealize.ShloMosaic.Lib.Pointwise

@[expose] public section

noncomputable section

namespace Cert.Proof

open Idealize Idealize.ShloMosaic Idealize.ShloMosaic.TcCoe Idealize.SL.Sem
open Cert.InProjIdeal.Hand (row unrot fold dpRow cQ cosRow sinRow planeA sumA dpA)

section Ref
open Cert.InProjReferenceIdeal Cert.InProjReferenceIdeal.Gen Cert.InProjReferenceIdeal.Value

theorem six_ref (a : FVec Ideal S8192x512 .f32) (b c' : FVec Ideal S8192x128 .f32) (d e f : FVec Ideal S8192x512 .f32) (R : Fin 8192) (J : Fin 2304) :
    (concatenate S8192x2304 1 [⟨S8192x512, a⟩, ⟨S8192x128, b⟩, ⟨S8192x128, c'⟩, ⟨S8192x512, d⟩, ⟨S8192x512, e⟩, ⟨S8192x512, f⟩] concatenates_S8192x512_S8192x128_S8192x128_S8192x512_S8192x512_S8192x512_S8192x2304_d1 : FVec Ideal S8192x2304 .f32) (ix2 R J)
      = if h : J.val < 512 then a (ix2 R ⟨J.val, h⟩) else if h1 : J.val < 640 then b (ix2 R ⟨J.val - 512, by omega⟩) else if h2 : J.val < 768 then c' (ix2 R ⟨J.val - 640, by omega⟩)
        else if h3 : J.val < 1280 then d (ix2 R ⟨J.val - 768, by omega⟩) else if h4 : J.val < 1792 then e (ix2 R ⟨J.val - 1280, by omega⟩) else f (ix2 R ⟨J.val - 1792, by omega⟩) := by
  have hJ := J.isLt
  have e : ∀ (x : FVec Ideal S8192x128 .f32) (i i' : ℕ) (h : i < 128) (h' : i' < 128), i = i' → (x (ix2 R ⟨i, h⟩) : EReal) = x (ix2 R ⟨i', h'⟩) := fun x i i' h h' hi => by subst hi; rfl
  have e' : ∀ (x : FVec Ideal S8192x512 .f32) (i i' : ℕ) (h : i < 512) (h' : i' < 512), i = i' → (x (ix2 R ⟨i, h⟩) : EReal) = x (ix2 R ⟨i', h'⟩) := fun x i i' h h' hi => by subst hi; rfl
  by_cases h1 : J.val < 512
  · rw [dif_pos h1]
    pointwise
    rw [dif_pos h1]
  rw [dif_neg h1]
  by_cases h2 : J.val < 640
  · have g : J.val - 512 < 128 := by omega
    rw [dif_pos h2]
    pointwise
    rw [dif_neg h1, dif_pos g]
  have g2 : ¬J.val - 512 < 128 := by omega
  rw [dif_neg h2]
  by_cases h3 : J.val < 768
  · have g : J.val - 512 - 128 < 128 := by omega
    rw [dif_pos h3]
    pointwise
    rw [dif_neg h1, dif_neg g2, dif_pos g]
    exact e _ _ _ _ _ (by omega)
  have g3 : ¬J.val - 512 - 128 < 128 := by omega
  rw [dif_neg h3]
  by_cases h4 : J.val < 1280
  · have g : J.val - 512 - 128 - 128 < 512 := by omega
    rw [dif_pos h4]
    pointwise
    rw [dif_neg h1, dif_neg g2, dif_neg g3, dif_pos g]
    exact e' _ _ _ _ _ (by omega)
  have g4 : ¬J.val - 512 - 128 - 128 < 512 := by omega
  rw [dif_neg h4]
  by_cases h5 : J.val < 1792
  · have g : J.val - 512 - 128 - 128 - 512 < 512 := by omega
    rw [dif_pos h5]
    pointwise
    rw [dif_neg h1, dif_neg g2, dif_neg g3, dif_neg g4, dif_pos g]
    exact e' _ _ _ _ _ (by omega)
  have g5 : ¬J.val - 512 - 128 - 128 - 512 < 512 := by omega
  rw [dif_neg h5]
  pointwise
  rw [dif_neg h1, dif_neg g2, dif_neg g3, dif_neg g4, dif_neg g5]
  exact e' _ _ _ _ _ (by omega)

theorem rope_ref512 (G : FVec Ideal S8192x512 .f32) (c s : FVec Ideal S8192x32 .f32) (R : Fin 8192) (j : Fin 512) :
    (shapeCast S8192x512 (concatenate S8192x8x64 2 [⟨S8192x8x32, addf (mulf (extractStridedSlice S8192x8x32 ![0, 0, 32] (shapeCast S8192x8x64 G shapeCasts_S8192x512_S8192x8x64) slices_S8192x8x64_S8192x8x32_0_0_32) (broadcastInDim S8192x8x32 ![0, 1, 2] bcast_S8192x1x32_S8192x8x32_0_1_2 (broadcastInDim S8192x1x32 ![0, 2] bcast_S8192x32_S8192x1x32_0_2 s))) (mulf (extractStridedSlice S8192x8x32 ![0, 0, 0] (shapeCast S8192x8x64 G shapeCasts_S8192x512_S8192x8x64) slices_S8192x8x64_S8192x8x32_0_0_0) (broadcastInDim S8192x8x32 ![0, 1, 2] bcast_S8192x1x32_S8192x8x32_0_1_2 (broadcastInDim S8192x1x32 ![0, 2] bcast_S8192x32_S8192x1x32_0_2 c)))⟩,
      ⟨S8192x8x32, addf (mulf (extractStridedSlice S8192x8x32 ![0, 0, 32] (shapeCast S8192x8x64 G shapeCasts_S8192x512_S8192x8x64) slices_S8192x8x64_S8192x8x32_0_0_32) (broadcastInDim S8192x8x32 ![0, 1, 2] bcast_S8192x1x32_S8192x8x32_0_1_2 (broadcastInDim S8192x1x32 ![0, 2] bcast_S8192x32_S8192x1x32_0_2 c))) (mulf (Host.negf (extractStridedSlice S8192x8x32 ![0, 0, 0] (shapeCast S8192x8x64 G shapeCasts_S8192x512_S8192x8x64) slices_S8192x8x64_S8192x8x32_0_0_0)) (broadcastInDim S8192x8x32 ![0, 1, 2] bcast_S8192x1x32_S8192x8x32_0_1_2 (broadcastInDim S8192x1x32 ![0, 2] bcast_S8192x32_S8192x1x32_0_2 s)))⟩] concatenates_S8192x8x32_S8192x8x32_S8192x8x64_d2) shapeCasts_S8192x8x64_S8192x512 : FVec Ideal S8192x512 .f32) (ix2 R j)
      = unrot (row (by decide) G R) (cosRow c R) (sinRow s R) j.val := by
  have hj := j.isLt
  have e : ∀ (x : FVec Ideal S8192x32 .f32) (i i' : ℕ) (h : i < 32) (h' : i' < 32), i = i' → (x (ix2 R ⟨i, h⟩) : EReal) = x (ix2 R ⟨i', h'⟩) := fun x i i' h h' hi => by subst hi; rfl
  have e' : ∀ (i i' : ℕ) (h : i < 512) (h' : i' < 512), i = i' → (G (ix2 R ⟨i, h⟩) : EReal) = G (ix2 R ⟨i', h'⟩) := fun i i' h h' hi => by subst hi; rfl
  unfold unrot cosRow sinRow row
  by_cases h : j.val % 64 < 32
  · rw [if_pos h, if_neg (by omega)]
    pointwise
    rw [dif_pos h, add_comm]
    exact congrArg₂ _ (congrArg₂ _ (e' _ _ _ _ (by omega)) (e c _ _ _ _ (by omega))) (congrArg₂ _ (e' _ _ _ _ (by omega)) (e s _ _ _ _ (by omega)))
  · rw [if_neg h, if_pos (by omega)]
    pointwise
    rw [dif_neg h, neg_mul, ← mul_neg]
    exact congrArg₂ _ (congrArg₂ _ (e' _ _ _ _ (by omega)) (e c _ _ _ _ (by omega))) (congrArg₂ _ (e' _ _ _ _ (by omega)) (congrArg Neg.neg (e s _ _ _ _ (by omega))))

theorem rope_ref128 (G : FVec Ideal S8192x128 .f32) (c s : FVec Ideal S8192x32 .f32) (R : Fin 8192) (j : Fin 128) :
    (shapeCast S8192x128 (concatenate S8192x2x64 2 [⟨S8192x2x32, addf (mulf (extractStridedSlice S8192x2x32 ![0, 0, 32] (shapeCast S8192x2x64 G shapeCasts_S8192x128_S8192x2x64) slices_S8192x2x64_S8192x2x32_0_0_32) (broadcastInDim S8192x2x32 ![0, 1, 2] bcast_S8192x1x32_S8192x2x32_0_1_2 (broadcastInDim S8192x1x32 ![0, 2] bcast_S8192x32_S8192x1x32_0_2 s))) (mulf (extractStridedSlice S8192x2x32 ![0, 0, 0] (shapeCast S8192x2x64 G shapeCasts_S8192x128_S8192x2x64) slices_S8192x2x64_S8192x2x32_0_0_0) (broadcastInDim S8192x2x32 ![0, 1, 2] bcast_S8192x1x32_S8192x2x32_0_1_2 (broadcastInDim S8192x1x32 ![0, 2] bcast_S8192x32_S8192x1x32_0_2 c)))⟩,
      ⟨S8192x2x32, addf (mulf (extractStridedSlice S8192x2x32 ![0, 0, 32] (shapeCast S8192x2x64 G shapeCasts_S8192x128_S8192x2x64) slices_S8192x2x64_S8192x2x32_0_0_32) (broadcastInDim S8192x2x32 ![0, 1, 2] bcast_S8192x1x32_S8192x2x32_0_1_2 (broadcastInDim S8192x1x32 ![0, 2] bcast_S8192x32_S8192x1x32_0_2 c))) (mulf (Host.negf (extractStridedSlice S8192x2x32 ![0, 0, 0] (shapeCast S8192x2x64 G shapeCasts_S8192x128_S8192x2x64) slices_S8192x2x64_S8192x2x32_0_0_0)) (broadcastInDim S8192x2x32 ![0, 1, 2] bcast_S8192x1x32_S8192x2x32_0_1_2 (broadcastInDim S8192x1x32 ![0, 2] bcast_S8192x32_S8192x1x32_0_2 s)))⟩] concatenates_S8192x2x32_S8192x2x32_S8192x2x64_d2) shapeCasts_S8192x2x64_S8192x128 : FVec Ideal S8192x128 .f32) (ix2 R j)
      = unrot (row (by decide) G R) (cosRow c R) (sinRow s R) j.val := by
  have hj := j.isLt
  have e : ∀ (x : FVec Ideal S8192x32 .f32) (i i' : ℕ) (h : i < 32) (h' : i' < 32), i = i' → (x (ix2 R ⟨i, h⟩) : EReal) = x (ix2 R ⟨i', h'⟩) := fun x i i' h h' hi => by subst hi; rfl
  have e' : ∀ (i i' : ℕ) (h : i < 128) (h' : i' < 128), i = i' → (G (ix2 R ⟨i, h⟩) : EReal) = G (ix2 R ⟨i', h'⟩) := fun i i' h h' hi => by subst hi; rfl
  unfold unrot cosRow sinRow row
  by_cases h : j.val % 64 < 32
  · rw [if_pos h, if_neg (by omega)]
    pointwise
    rw [dif_pos h, add_comm]
    exact congrArg₂ _ (congrArg₂ _ (e' _ _ _ _ (by omega)) (e c _ _ _ _ (by omega))) (congrArg₂ _ (e' _ _ _ _ (by omega)) (e s _ _ _ _ (by omega)))
  · rw [if_neg h, if_pos (by omega)]
    pointwise
    rw [dif_neg h, neg_mul, ← mul_neg]
    exact congrArg₂ _ (congrArg₂ _ (e' _ _ _ _ (by omega)) (e c _ _ _ _ (by omega))) (congrArg₂ _ (e' _ _ _ _ (by omega)) (congrArg Neg.neg (e s _ _ _ _ (by omega))))

theorem fold_ref (a b : FVec Ideal S8192x128 .f32) (R : Fin 8192) (j : Fin 128) :
    (addf (pad S8192x128 ![0, 64] ![0, 0] ![0, 0] (addf (extractStridedSlice S8192x64 ![0, 0] b slices_S8192x128_S8192x64_0_0) (extractStridedSlice S8192x64 ![0, 64] b slices_S8192x128_S8192x64_0_64)) (constant S_ .f32 0x00000000#32) pads_S8192x64_S8192x128_000_6400 h_S_)
      (pad S8192x128 ![0, 0] ![0, 64] ![0, 0] (addf (extractStridedSlice S8192x64 ![0, 0] a slices_S8192x128_S8192x64_0_0) (extractStridedSlice S8192x64 ![0, 64] a slices_S8192x128_S8192x64_0_64)) (constant S_ .f32 0x00000000#32) pads_S8192x64_S8192x128_000_0640 h_S_) : FVec Ideal S8192x128 .f32) (ix2 R j)
      = fold (row (by decide) a R) (row (by decide) b R) j.val := by
  have hj := j.isLt
  have e : ∀ (x : FVec Ideal S8192x128 .f32) (i i' : ℕ) (h : i < 128) (h' : i' < 128), i = i' → (x (ix2 R ⟨i, h⟩) : EReal) = x (ix2 R ⟨i', h'⟩) := fun x i i' h h' hi => by subst hi; rfl
  unfold fold row
  by_cases h : j.val < 64
  · rw [if_pos h]
    pointwise
    rw [dif_pos h, dif_neg (by omega), zero_add]
    exact congrArg₂ _ (e a _ _ _ _ (by omega)) (e a _ _ _ _ (by omega))
  · rw [if_neg h]
    pointwise
    rw [dif_neg h, dif_pos (by omega), add_zero, add_comm]
    exact congrArg₂ _ (e b _ _ _ _ (by omega)) (e b _ _ _ _ (by omega))

theorem plane0_ref (x : FVec Ideal S2x8192x128 .bf16) (R : Fin 8192) :
    row (by decide) (shapeCast S8192x128 (extractStridedSlice S1x8192x128 ![0, 0, 0] (extf .f32 x bitsLt_bf16_f32 : FVec Ideal S2x8192x128 .f32) slices_S2x8192x128_S1x8192x128_0_0_0) shapeCasts_S1x8192x128_S8192x128 : FVec Ideal S8192x128 .f32) R = planeA x 0 R := funext fun j => by
  unfold row planeA
  pointwise
theorem plane1_ref (x : FVec Ideal S2x8192x128 .bf16) (R : Fin 8192) :
    row (by decide) (shapeCast S8192x128 (extractStridedSlice S1x8192x128 ![1, 0, 0] (extf .f32 x bitsLt_bf16_f32 : FVec Ideal S2x8192x128 .f32) slices_S2x8192x128_S1x8192x128_1_0_0) shapeCasts_S1x8192x128_S8192x128 : FVec Ideal S8192x128 .f32) R = planeA x 1 R := funext fun j => by
  unfold row planeA
  pointwise

theorem sum_ref (p : FVec Ideal S8192x512 .bf16) (p4 : FVec Ideal S4x2048x512 .bf16) (p16 : FVec Ideal S16x512x512 .bf16) (R : Fin 8192) (j : Fin 512) :
    (addf (addf (extf .f32 p bitsLt_bf16_f32) (shapeCast _ (transpose S512x16x512 [1, 0, 2] (extf .f32 p16 bitsLt_bf16_f32) transposes_S16x512x512_S512x16x512_1_0_2) shapeCasts_S512x16x512_S8192x512))
      (shapeCast _ (transpose S2048x4x512 [1, 0, 2] (extf .f32 p4 bitsLt_bf16_f32) transposes_S4x2048x512_S2048x4x512_1_0_2) shapeCasts_S2048x4x512_S8192x512) : FVec Ideal S8192x512 .f32) (ix2 R j)
      = sumA p p4 p16 R j.val := by
  have hj : j.val % 512 = j.val := Nat.mod_eq_of_lt j.isLt
  have e : (⟨j.val % 512, Nat.mod_lt _ (by decide)⟩ : Fin 512) = j := Fin.ext hj
  unfold sumA row
  rw [e, add_right_comm]
  pointwise

/-- A row scaled by 1/8. -/
theorem scaled_row (G : FVec Ideal S8192x512 .f32) (g : ℕ → EReal) (R : Fin 8192) (h : ∀ j, row (by decide) G R j = g j) :
    row (by decide) (mulf G (broadcastInDim S8192x512 ![] bcast_S_S8192x512 (constant S_ .f32 0x3E000000#32)) : FVec Ideal S8192x512 .f32) R = fun j => g j * cQ := funext fun j => by
  rw [← h j]
  unfold row cQ
  pointwise
theorem extf_row (G : FVec Ideal S8192x512 .bf16) (R : Fin 8192) (j : ℕ) : row (by decide) (extf .f32 G bitsLt_bf16_f32 : FVec Ideal S8192x512 .f32) R j = row (by decide) G R j := by
  unfold row
  pointwise
theorem sum_row (p : FVec Ideal S8192x512 .bf16) (p4 : FVec Ideal S4x2048x512 .bf16) (p16 : FVec Ideal S16x512x512 .bf16) (R : Fin 8192) (j : ℕ) :
    row (by decide) (addf (addf (extf .f32 p bitsLt_bf16_f32) (shapeCast _ (transpose S512x16x512 [1, 0, 2] (extf .f32 p16 bitsLt_bf16_f32) transposes_S16x512x512_S512x16x512_1_0_2) shapeCasts_S512x16x512_S8192x512))
      (shapeCast _ (transpose S2048x4x512 [1, 0, 2] (extf .f32 p4 bitsLt_bf16_f32) transposes_S4x2048x512_S2048x4x512_1_0_2) shapeCasts_S2048x4x512_S8192x512) : FVec Ideal S8192x512 .f32) R j
      = sumA p p4 p16 R j := by
  unfold row
  refine (sum_ref p p4 p16 R ⟨j % 512, Nat.mod_lt _ (by decide)⟩).trans ?_
  unfold sumA row
  simp only [Nat.mod_mod]

set_option maxRecDepth 8192 in
/-- One row of the reference's concatenated gradient. -/
theorem ref_dp (V0 : Valuation τ sig (Elt Ideal)) (R : Fin 8192) (J : Fin 2304) :
    (res_main_v246 V0 : FVec Ideal S8192x2304 .f32) (ix2 R J)
      = dpA (V0 (Proc.devRef .tc main_arg4)) (V0 (Proc.devRef .tc main_arg5)) (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11)) (V0 (Proc.devRef .tc main_arg12)) (V0 (Proc.devRef .tc main_arg13))
          (V0 (Proc.devRef .tc main_arg14)) (V0 (Proc.devRef .tc main_arg15)) (V0 (Proc.devRef .tc main_arg16)) (V0 (Proc.devRef .tc main_arg17)) R J.val := by
  have hJ := J.isLt
  unfold res_main_v246
  refine (six_ref _ _ _ _ _ _ R J).trans ?_
  unfold dpA dpRow
  by_cases h1 : J.val < 512
  · rw [dif_pos h1, if_pos h1]
    refine (rope_ref512 (mulf (extf .f32 (V0 (Proc.devRef .tc main_arg6)) bitsLt_bf16_f32) (broadcastInDim S8192x512 ![] bcast_S_S8192x512 (constant S_ .f32 0x3E000000#32)))
      (V0 (Proc.devRef .tc main_arg4)) (V0 (Proc.devRef .tc main_arg5)) R ⟨J.val, h1⟩).trans ?_
    exact congrArg (fun g => unrot g _ _ _) (scaled_row _ _ R (extf_row _ R))
  rw [dif_neg h1, if_neg h1]
  by_cases h2 : J.val < 640
  · rw [dif_pos h2, if_pos h2]
    refine (rope_ref128 (addf (pad S8192x128 ![0, 64] ![0, 0] ![0, 0] (addf (extractStridedSlice S8192x64 ![0, 0] (res_main_v168 V0) slices_S8192x128_S8192x64_0_0) (extractStridedSlice S8192x64 ![0, 64] (res_main_v168 V0) slices_S8192x128_S8192x64_0_64)) (constant S_ .f32 0x00000000#32) pads_S8192x64_S8192x128_000_6400 h_S_) (pad S8192x128 ![0, 0] ![0, 64] ![0, 0] (addf (extractStridedSlice S8192x64 ![0, 0] (res_main_v166 V0) slices_S8192x128_S8192x64_0_0) (extractStridedSlice S8192x64 ![0, 64] (res_main_v166 V0) slices_S8192x128_S8192x64_0_64)) (constant S_ .f32 0x00000000#32) pads_S8192x64_S8192x128_000_0640 h_S_))
      (V0 (Proc.devRef .tc main_arg4)) (V0 (Proc.devRef .tc main_arg5)) R ⟨J.val - 512, by omega⟩).trans ?_
    refine Cert.InProjIdeal.Hand.unrot_congr' (n := 128) rfl (by show J.val - 512 < 128; omega) fun i hi => ?_
    have e : (⟨i % 128, Nat.mod_lt _ (by decide)⟩ : Fin 128) = ⟨i, hi⟩ := Fin.ext (Nat.mod_eq_of_lt hi)
    unfold row
    rw [e]
    refine (fold_ref (res_main_v166 V0) (res_main_v168 V0) R ⟨i, hi⟩).trans ?_
    exact congrArg₂ (fun a b => fold a b i) (plane0_ref _ R) (plane1_ref _ R)
  rw [dif_neg h2, if_neg h2]
  by_cases h3 : J.val < 768
  · rw [dif_pos h3, if_pos h3]
    refine (fold_ref (res_main_v153 V0) (res_main_v155 V0) R ⟨J.val - 640, by omega⟩).trans ?_
    exact congrArg₂ (fun a b => fold a b (J.val - 640)) (plane0_ref _ R) (plane1_ref _ R)
  rw [dif_neg h3, if_neg h3]
  by_cases h4 : J.val < 1280
  · rw [dif_pos h4, if_pos h4]
    refine (rope_ref512 (mulf (addf (addf (extf .f32 (V0 (Proc.devRef .tc main_arg9)) bitsLt_bf16_f32) (shapeCast _ (transpose S512x16x512 [1, 0, 2] (extf .f32 (V0 (Proc.devRef .tc main_arg15)) bitsLt_bf16_f32) transposes_S16x512x512_S512x16x512_1_0_2) shapeCasts_S512x16x512_S8192x512)) (shapeCast _ (transpose S2048x4x512 [1, 0, 2] (extf .f32 (V0 (Proc.devRef .tc main_arg12)) bitsLt_bf16_f32) transposes_S4x2048x512_S2048x4x512_1_0_2) shapeCasts_S2048x4x512_S8192x512)) (broadcastInDim S8192x512 ![] bcast_S_S8192x512 (constant S_ .f32 0x3E000000#32)))
      (V0 (Proc.devRef .tc main_arg4)) (V0 (Proc.devRef .tc main_arg5)) R ⟨J.val - 768, by omega⟩).trans ?_
    exact congrArg (fun g => unrot g _ _ _) (scaled_row _ _ R fun j => sum_row _ _ _ R j)
  rw [dif_neg h4, if_neg h4]
  by_cases h5 : J.val < 1792
  · rw [dif_pos h5, if_pos h5]
    refine (rope_ref512 (addf (addf (extf .f32 (V0 (Proc.devRef .tc main_arg10)) bitsLt_bf16_f32) (shapeCast _ (transpose S512x16x512 [1, 0, 2] (extf .f32 (V0 (Proc.devRef .tc main_arg16)) bitsLt_bf16_f32) transposes_S16x512x512_S512x16x512_1_0_2) shapeCasts_S512x16x512_S8192x512)) (shapeCast _ (transpose S2048x4x512 [1, 0, 2] (extf .f32 (V0 (Proc.devRef .tc main_arg13)) bitsLt_bf16_f32) transposes_S4x2048x512_S2048x4x512_1_0_2) shapeCasts_S2048x4x512_S8192x512))
      (V0 (Proc.devRef .tc main_arg4)) (V0 (Proc.devRef .tc main_arg5)) R ⟨J.val - 1280, by omega⟩).trans ?_
    exact congrArg (fun g => unrot g _ _ _) (funext fun j => sum_row _ _ _ R j)
  rw [dif_neg h5, if_neg h5]
  exact sum_ref _ _ _ R ⟨J.val - 1792, by omega⟩

/-- The reference's gradient at the norm's output, of the residual stream, of the norm's weight and of the projection's weight. -/
theorem in_ref_dh (P : FVec Ideal S8192x2304 .f32) (w : FVec Ideal S2304x1024 .bf16) (R : Fin 8192) (d : Fin 1024) :
    (Host.dotGeneral dot_S8192x2304_S1024x2304_S8192x1024_1_1_0_0_n_n none P (transpose S1024x2304 [1, 0] (extf .f32 w bitsLt_bf16_f32) transposes_S2304x1024_S1024x2304_1_0) : FVec Ideal S8192x1024 .f32) (ix2 R d)
      = ∑ J : Fin 2304, (P (ix2 R J) : EReal) * w (ix2 J d) := by
  pointwise
theorem in_ref_dx (y x H : FVec Ideal S8192x1024 .f32) (g : FVec Ideal S1x1024 .f32) (q : EReal) (h : Fin 1024 → EReal) (R : Fin 8192) (d : Fin 1024)
    (hq : (Ideal.div (∑ k : Fin 1024, (x (ix2 R k) : EReal) * x (ix2 R k)) (Ideal.ofBits .f32 0x44800000#32) + Ideal.ofBits .f32 0x358637BD#32) = q) (hh : ∀ k, H (ix2 R k) = h k) :
    (addf (addf (addf y (mulf (mulf H (broadcastInDim S8192x1024 ![0, 1] bcast_S1x1024_S8192x1024_0_1 g)) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf x (broadcastInDim S8192x1024 ![0] bcast_S8192_S8192x1024_0 (Host.reduceAdd (Host.divf (mulf (shapeCast _ (Host.reduceAdd (mulf x (mulf H (broadcastInDim S8192x1024 ![0, 1] bcast_S1x1024_S8192x1024_0_1 g))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf H (broadcastInDim S8192x1024 ![0, 1] bcast_S1x1024_S8192x1024_0_1 g))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x) : FVec Ideal S8192x1024 .f32) (ix2 R d)
      = y (ix2 R d) + h d * g (ix2 0 d) * Ideal.rsqrt q + x (ix2 R d) * (∑ _k : Fin 1, Ideal.div ((∑ k : Fin 1024, x (ix2 R k) * (h k * g (ix2 0 k))) * (Ideal.ofBits .f32 0xBF000000#32 * Ideal.div (Ideal.rsqrt q) q)) (Ideal.ofBits .f32 0x44800000#32)) + (∑ _k : Fin 1, Ideal.div ((∑ k : Fin 1024, x (ix2 R k) * (h k * g (ix2 0 k))) * (Ideal.ofBits .f32 0xBF000000#32 * Ideal.div (Ideal.rsqrt q) q)) (Ideal.ofBits .f32 0x44800000#32)) * x (ix2 R d) := by
  simp only [← hq, ← hh]
  pointwise
theorem in_ref_half (D : FVec Ideal S8192x1024 .f32) (R : Fin 8192) (d : Fin 1024) :
    (truncf .bf16 (mulf (broadcastInDim S8192x1024 ![] bcast_S_S8192x1024 (constant S_ .f32 0x3F000000#32)) D) bitsLt_bf16_f32 : FVec Ideal S8192x1024 .bf16) (ix2 R d)
      = Ideal.ofBits .f32 0x3F000000#32 * D (ix2 R d) := by
  pointwise
theorem in_ref_dgn (x H : FVec Ideal S8192x1024 .f32) (d : Fin 1024) :
    (shapeCast S1x1024 (Host.reduceAdd (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) H) (constant S_ .f32 0x00000000#32) reducesTo_S8192x1024_S1024_d0 h_S_) shapeCasts_S1024_S1x1024 : FVec Ideal S1x1024 .f32) (ix2 (0 : Fin 1) d)
      = ∑ R : Fin 8192, (x (ix2 R d) : EReal) * Ideal.rsqrt (Ideal.div (∑ k : Fin 1024, (x (ix2 R k) : EReal) * x (ix2 R k)) (Ideal.ofBits .f32 0x44800000#32) + Ideal.ofBits .f32 0x358637BD#32) * H (ix2 R d) := by
  pointwise
theorem in_ref_gw (P : FVec Ideal S8192x2304 .f32) (x : FVec Ideal S8192x1024 .f32) (g : FVec Ideal S1x1024 .f32) (J : Fin 2304) (d : Fin 1024) :
    (truncf .bf16 (transpose S2304x1024 [1, 0] (transpose S1024x2304 [1, 0] (Host.dotGeneral dot_S8192x2304_S8192x1024_S2304x1024_0_0_1_1_n_n none P (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g))) transposes_S2304x1024_S1024x2304_1_0) transposes_S1024x2304_S2304x1024_1_0) bitsLt_bf16_f32 : FVec Ideal S2304x1024 .bf16) (ix2 J d)
      = ∑ R : Fin 8192, (P (ix2 R J) : EReal) * ((x (ix2 R d) : EReal) * Ideal.rsqrt (Ideal.div (∑ k : Fin 1024, (x (ix2 R k) : EReal) * x (ix2 R k)) (Ideal.ofBits .f32 0x44800000#32) + Ideal.ofBits .f32 0x358637BD#32) * g (ix2 0 d)) := by
  pointwise

set_option maxRecDepth 8192 in
/-- The same entries in terms of the reference's arguments. -/
theorem in_ref_dx_at (V0 : Valuation τ sig (Elt Ideal)) (y x : FVec Ideal S8192x1024 .f32) (g : FVec Ideal S1x1024 .f32)
    (h0 : V0 (Proc.devRef .tc main_arg0) = y) (h1 : V0 (Proc.devRef .tc main_arg1) = x) (h2 : V0 (Proc.devRef .tc main_arg2) = g) (q : EReal) (h : Fin 1024 → EReal) (R : Fin 8192) (d : Fin 1024)
    (hq : (Ideal.div (∑ k : Fin 1024, (x (ix2 R k) : EReal) * x (ix2 R k)) (Ideal.ofBits .f32 0x44800000#32) + Ideal.ofBits .f32 0x358637BD#32) = q) (hh : ∀ k, (res_main_v249 V0 : FVec Ideal S8192x1024 .f32) (ix2 R k) = h k) :
    (addf (addf (addf (V0 (Proc.devRef .tc main_arg0)) (mulf (res_main_v254 V0) (broadcastInDim S8192x1024 ![0, 1] bcast_S8192x1_S8192x1024_0_1 (res_main_v21 V0)))) (mulf (V0 (Proc.devRef .tc main_arg1)) (res_main_v265 V0))) (mulf (res_main_v265 V0) (V0 (Proc.devRef .tc main_arg1))) : FVec Ideal S8192x1024 .f32) (ix2 R d) = y (ix2 R d) + h d * g (ix2 0 d) * Ideal.rsqrt q + x (ix2 R d) * (∑ _k : Fin 1, Ideal.div ((∑ k : Fin 1024, x (ix2 R k) * (h k * g (ix2 0 k))) * (Ideal.ofBits .f32 0xBF000000#32 * Ideal.div (Ideal.rsqrt q) q)) (Ideal.ofBits .f32 0x44800000#32)) + (∑ _k : Fin 1, Ideal.div ((∑ k : Fin 1024, x (ix2 R k) * (h k * g (ix2 0 k))) * (Ideal.ofBits .f32 0xBF000000#32 * Ideal.div (Ideal.rsqrt q) q)) (Ideal.ofBits .f32 0x44800000#32)) * x (ix2 R d) := by
  subst h0 h1 h2
  exact in_ref_dx _ _ (res_main_v249 V0) _ q h R d hq hh
set_option maxRecDepth 8192 in
theorem in_ref_dgn_at (V0 : Valuation τ sig (Elt Ideal)) (x : FVec Ideal S8192x1024 .f32) (h1 : V0 (Proc.devRef .tc main_arg1) = x) (d : Fin 1024) :
    (shapeCast S1x1024 (Host.reduceAdd (mulf (res_main_v26 V0) (res_main_v249 V0)) (constant S_ .f32 0x00000000#32) reducesTo_S8192x1024_S1024_d0 h_S_) shapeCasts_S1024_S1x1024 : FVec Ideal S1x1024 .f32) (ix2 (0 : Fin 1) d)
      = ∑ R : Fin 8192, (x (ix2 R d) : EReal) * Ideal.rsqrt (Ideal.div (∑ k : Fin 1024, (x (ix2 R k) : EReal) * x (ix2 R k)) (Ideal.ofBits .f32 0x44800000#32) + Ideal.ofBits .f32 0x358637BD#32) * (res_main_v249 V0 : FVec Ideal S8192x1024 .f32) (ix2 R d) := by
  subst h1
  exact in_ref_dgn _ (res_main_v249 V0) d
set_option maxRecDepth 8192 in
theorem in_ref_gw_at (V0 : Valuation τ sig (Elt Ideal)) (x : FVec Ideal S8192x1024 .f32) (g : FVec Ideal S1x1024 .f32)
    (h1 : V0 (Proc.devRef .tc main_arg1) = x) (h2 : V0 (Proc.devRef .tc main_arg2) = g) (P : FVec Ideal S8192x2304 .f32) (hP : res_main_v246 V0 = P) (J : Fin 2304) (d : Fin 1024) :
    (truncf .bf16 (transpose S2304x1024 [1, 0] (transpose S1024x2304 [1, 0] (Host.dotGeneral dot_S8192x2304_S8192x1024_S2304x1024_0_0_1_1_n_n (φ₁ := .f32) (φ₂ := .f32) none (res_main_v246 V0) (res_main_v28 V0)) transposes_S2304x1024_S1024x2304_1_0) transposes_S1024x2304_S2304x1024_1_0) bitsLt_bf16_f32 : FVec Ideal S2304x1024 .bf16) (ix2 J d)
      = ∑ R : Fin 8192, (P (ix2 R J) : EReal) * ((x (ix2 R d) : EReal) * Ideal.rsqrt (Ideal.div (∑ k : Fin 1024, (x (ix2 R k) : EReal) * x (ix2 R k)) (Ideal.ofBits .f32 0x44800000#32) + Ideal.ofBits .f32 0x358637BD#32) * g (ix2 0 d)) := by
  subst h1 h2 hP
  exact in_ref_gw (res_main_v246 V0) _ _ J d

end Ref

open Idealize.ShloMosaic.StableHlo Cert.InProjIdeal.Hand in
theorem algebraic_in_proj : Cert.algebraic_InProjIdeal_InProjReferenceIdeal
    (hInProjIdeal := Cert.InProjIdeal.Gen.facts) (hInProjReferenceIdeal := Cert.InProjReferenceIdeal.Gen.facts) := by
  intro m ρ m' ρ' _ hag
  refine ⟨fun c => (Cert.InProjIdeal.Gen.dats m 0 c).arrAt 19 Cert.InProjIdeal.cfg0.N, fun c => (Cert.InProjIdeal.Gen.dats m 0 c).arrAt 20 Cert.InProjIdeal.cfg0.N,
    fun c => (Cert.InProjIdeal.Gen.dats m 0 c).arrAt 21 Cert.InProjIdeal.cfg0.N, fun c => (Cert.InProjIdeal.Gen.dats m 0 c).arrAt 22 Cert.InProjIdeal.cfg0.N,
    Cert.InProjIdeal.Value.run_blocks m ρ, (θ_run _ _ _).mono (fun r h c => ?_) (Cert.InProjReferenceIdeal.Value.run m' ρ')⟩
  obtain ⟨h0, h1, h2, h3, hk⟩ := h c
  obtain ⟨a0, a1, a2, a3, a4, a5, a6, a7, a8, a9, a10, a11, a12, a13, a14, a15, a16, a17⟩ := hag c
  have hP : ∀ (R : Fin 8192) (J : Fin 2304), (Cert.InProjReferenceIdeal.Value.res_main_v246 (launchContents m' c) : FVec Ideal Cert.InProjReferenceIdeal.S8192x2304 .f32) (ix2 R J) = dp m c R J.val := fun R J => by
    refine (ref_dp (launchContents m' c) R J).trans ?_
    unfold dp
    rw [← a4, ← a5, ← a6, ← a7, ← a8, ← a9, ← a10, ← a11, ← a12, ← a13, ← a14, ← a15, ← a16, ← a17]
  have hH : ∀ (R : Fin 8192) (d : Fin 1024), (Cert.InProjReferenceIdeal.Value.res_main_v249 (launchContents m' c) : FVec Ideal Cert.InProjReferenceIdeal.S8192x1024 .f32) (ix2 R d) = dh m c R d := fun R d => by
    refine (in_ref_dh (Cert.InProjReferenceIdeal.Value.res_main_v246 (launchContents m' c)) (m' ((c.tc : Thread Cert.InProjReferenceIdeal.nD Cert.InProjReferenceIdeal.τ).loc Cert.InProjReferenceIdeal.main_arg3)) R d).trans ?_
    rw [a3]
    exact Finset.sum_congr rfl fun J _ => congrArg₂ _ (hP R J) rfl
  have hD : ∀ (R : Fin 8192) (d : Fin 1024), (addf (addf (addf ((launchContents m' c) (Proc.devRef .tc Cert.InProjReferenceIdeal.main_arg0)) (mulf (Cert.InProjReferenceIdeal.Value.res_main_v254 (launchContents m' c)) (broadcastInDim Cert.InProjReferenceIdeal.S8192x1024 ![0, 1] Cert.InProjReferenceIdeal.Gen.bcast_S8192x1_S8192x1024_0_1 (Cert.InProjReferenceIdeal.Value.res_main_v21 (launchContents m' c))))) (mulf ((launchContents m' c) (Proc.devRef .tc Cert.InProjReferenceIdeal.main_arg1)) (Cert.InProjReferenceIdeal.Value.res_main_v265 (launchContents m' c)))) (mulf (Cert.InProjReferenceIdeal.Value.res_main_v265 (launchContents m' c)) ((launchContents m' c) (Proc.devRef .tc Cert.InProjReferenceIdeal.main_arg1))) : FVec Ideal Cert.InProjReferenceIdeal.S8192x1024 .f32) (ix2 R d) = dxOf m c R d := fun R d => by
    refine (in_ref_dx_at (launchContents m' c) (yA m c) (xA m c) (gnA m c) a0 a1 a2 (msq m c R) (dh m c R) R d rfl (hH R)).trans ?_
    refine (norm_eq _ _ _ _ _ _ (msq_pos fun k => xA m c (ix2 R k))).trans ?_
    unfold dxOf
    have hS : (∑ k : Fin 1024, xA m c (ix2 R k) * (dh m c R k * gnA m c (ix2 0 k))) = ∑ k : Fin 1024, dh m c R k * gnA m c (ix2 0 k) * xA m c (ix2 R k) :=
      Finset.sum_congr rfl fun k _ => mul_comm _ _
    exact congrArg (fun S => yA m c (ix2 R d) + (Ideal.rsqrt (msq m c R) * (dh m c R d * gnA m c (ix2 0 d)) -
      xA m c (ix2 R d) * (Ideal.rsqrt (msq m c R) * Ideal.rsqrt (msq m c R) * Ideal.rsqrt (msq m c R) * (S * cInv)))) hS
  refine ⟨h0.trans ?_, h1.trans ?_, h2.trans ?_, h3.trans ?_, hk⟩
  · exact ext2 fun R d => (hD R d).trans (result19 m c R d).symm
  · funext i
    rw [eta2 i, show i 0 = (0 : Fin 1) from Subsingleton.elim (α := Fin 1) _ _]
    refine (in_ref_dgn_at (launchContents m' c) (xA m c) a1 (i 1)).trans (Eq.trans ?_ (result20 m c (i 1)).symm)
    exact Finset.sum_congr rfl fun R _ => (mul_comm _ _).trans (congrArg₂ _ (hH R (i 1)) rfl)
  · refine ext2 fun J d => (in_ref_gw_at (launchContents m' c) (xA m c) (gnA m c) a1 a2 _ rfl J d).trans (Eq.trans ?_ (result21 m c J d).symm)
    exact Finset.sum_congr rfl fun R _ => congrArg₂ _ (hP R J) rfl
  · exact ext2 fun R d => (in_ref_half _ R d).trans ((congrArg _ (hD R d)).trans (result22 m c R d).symm)
end Cert.Proof
-- ==== Proof.AttnMath.lean ====
/- The banded attention's gradients as functions of real arrays: what both programs compute. -/
module

public import Mathlib.Analysis.SpecialFunctions.Log.Basic
public import Mathlib.Data.EReal.Operations
public import Idealize.ShloMosaic.Lib.Pointwise

@[expose] public section

noncomputable section

namespace Cert.AttnMath

/-- A row sees the rows of its own segment of 512 that are at most 64 away. -/
def Sees (i j : ℕ) : Prop := i ≤ j + 64 ∧ j ≤ i + 64 ∧ i / 512 = j / 512

instance (i j : ℕ) : Decidable (Sees i j) := by unfold Sees; infer_instance

/-- The column of lane `d` of head `h`. -/
def col (h : Fin 8) (d : Fin 64) : Fin 512 := ⟨64 * h.val + d.val, by omega⟩

/-- The queries, keys, values, the output's gradient, and the two other patterns' outputs and log-denominators. -/
structure Args where
  q : Fin 8192 → Fin 512 → ℝ
  k : Fin 8192 → Fin 512 → ℝ
  v : Fin 8192 → Fin 512 → ℝ
  g : Fin 8192 → Fin 512 → ℝ
  o1 : Fin 8192 → Fin 512 → ℝ
  o2 : Fin 8192 → Fin 512 → ℝ
  l1 : Fin 8192 → Fin 8 → ℝ
  l2 : Fin 8192 → Fin 8 → ℝ

variable (A : Args)

/-- The score of row `i` against row `j` in head `h`. -/
def S (h : Fin 8) (i j : Fin 8192) : ℝ := ∑ d : Fin 64, A.q i (col h d) * A.k j (col h d)
/-- Its exponential inside the band, zero outside. -/
def E (h : Fin 8) (i j : Fin 8192) : ℝ := if Sees i.val j.val then Real.exp (S A h i j) else 0
/-- The denominator over the three patterns. -/
def den (i : Fin 8192) (h : Fin 8) : ℝ := Real.exp (A.l1 i h) + Real.exp (A.l2 i h) + ∑ j : Fin 8192, E A h i j
/-- The numerator over the three patterns. -/
def num (i : Fin 8192) (h : Fin 8) (d : Fin 64) : ℝ :=
  Real.exp (A.l1 i h) * A.o1 i (col h d) + Real.exp (A.l2 i h) * A.o2 i (col h d) + ∑ j : Fin 8192, A.v j (col h d) * E A h i j
/-- The probability of row `j` for row `i`. -/
def P (h : Fin 8) (i j : Fin 8192) : ℝ := E A h i j / den A i h
/-- The gradient's product with the output, row by row. -/
def delta (i : Fin 8192) (h : Fin 8) : ℝ := ∑ d : Fin 64, A.g i (col h d) * (num A i h d / den A i h)
/-- The gradient's product with the values of row `j`. -/
def dp (h : Fin 8) (i j : Fin 8192) : ℝ := ∑ d : Fin 64, A.g i (col h d) * A.v j (col h d)
/-- The gradient of the score. -/
def ds (h : Fin 8) (i j : Fin 8192) : ℝ := P A h i j * (dp A h i j - delta A i h)
/-- The gradient of the queries. -/
def dq (i : Fin 8192) (h : Fin 8) (d : Fin 64) : ℝ := ∑ j : Fin 8192, ds A h i j * A.k j (col h d)
/-- The gradient of the keys. -/
def dk (j : Fin 8192) (h : Fin 8) (d : Fin 64) : ℝ := ∑ i : Fin 8192, ds A h i j * A.q i (col h d)
/-- The gradient of the values. -/
def dv (j : Fin 8192) (h : Fin 8) (d : Fin 64) : ℝ := ∑ i : Fin 8192, P A h i j * A.g i (col h d)

theorem E_nonneg (h : Fin 8) (i j : Fin 8192) : 0 ≤ E A h i j := by
  unfold E; split
  · exact (Real.exp_pos _).le
  · exact le_rfl

theorem den_pos (i : Fin 8192) (h : Fin 8) : 0 < den A i h := by
  have h1 := Real.exp_pos (A.l1 i h)
  have h2 := Real.exp_pos (A.l2 i h)
  have h3 : 0 ≤ ∑ j : Fin 8192, E A h i j := Finset.sum_nonneg fun j _ => E_nonneg A h i j
  unfold den; linarith

theorem E_of_not (h : Fin 8) (i j : Fin 8192) (n : ¬Sees i.val j.val) : E A h i j = 0 := if_neg n
theorem P_of_not (h : Fin 8) (i j : Fin 8192) (n : ¬Sees i.val j.val) : P A h i j = 0 := by
  rw [P, E_of_not A h i j n, zero_div]
theorem ds_of_not (h : Fin 8) (i j : Fin 8192) (n : ¬Sees i.val j.val) : ds A h i j = 0 := by
  rw [ds, P_of_not A h i j n, zero_mul]

/-- A sum of real numbers, summed as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The probability as the exponential of the score less the logarithm of the denominator. -/
theorem P_exp (h : Fin 8) (i j : Fin 8192) (y : Sees i.val j.val) : P A h i j = Real.exp (S A h i j - Real.log (den A i h)) := by
  rw [Real.exp_sub, Real.exp_log (den_pos A i h), P, E, if_pos y]

end Cert.AttnMath

end
-- ==== Proof.AttnWords.lean ====
/- Index words: the band's distance test and the segment's number. -/
module

public import Idealize.ShloMosaic.Lib.Pointwise
public import Idealize.ShloMosaic.Lib.WordCmp

@[expose] public section

namespace Cert.AttnWords

open Idealize.ShloMosaic

theorem abs_le_iff (x : BitVec 32) (a : ℤ) (h : x.toInt = a) (lo : -2 ^ 30 < a) (hi : a < 2 ^ 30) :
    IntOp.cmpi .sle (IntOp.absi x) 64#32 = 1#1 ↔ -64 ≤ a ∧ a ≤ 64 := by
  have e : (IntOp.absi x).toInt = |a| := by
    have b1 := BitVec.msb_eq_toInt (x := x)
    unfold IntOp.absi
    split
    · rename_i g
      rw [b1, decide_eq_true_eq] at g
      rw [BitVec.toInt_neg, h, abs_of_neg (by omega), Int.bmod_def]
      omega
    · rename_i g
      rw [b1, decide_eq_true_eq] at g
      rw [h, abs_of_nonneg (by omega)]
  rw [WordCmp.cmpi_sle_eq, e, show (64#32 : BitVec 32).toInt = 64 from by decide]
  rw [abs_le.symm]
  by_cases g : |a| ≤ 64 <;> simp [g]

theorem toInt_sub_ofNat (a b : ℕ) (ha : a < 2 ^ 30) (hb : b < 2 ^ 30) : (IntOp.subi (BitVec.ofNat 32 a) (BitVec.ofNat 32 b)).toInt = (a : ℤ) - b := by
  show (BitVec.ofNat 32 a - BitVec.ofNat 32 b).toInt = (a : ℤ) - b
  rw [BitVec.toInt_sub, WordCmp.toInt_ofNat_of_lt (by omega), WordCmp.toInt_ofNat_of_lt (by omega)]
  rw [Int.bmod_def]; omega

theorem toInt_addi (x y : BitVec 32) (a b : ℤ) (hx : x.toInt = a) (hy : y.toInt = b) (lo : -2 ^ 30 < a + b) (hi : a + b < 2 ^ 30) : (IntOp.addi x y).toInt = a + b := by
  show (x + y).toInt = a + b
  rw [BitVec.toInt_add, hx, hy, Int.bmod_def]; omega

theorem addi_ofNat (a b : ℕ) : IntOp.addi (BitVec.ofNat 32 a) (BitVec.ofNat 32 b) = BitVec.ofNat 32 (a + b) :=
  (BitVec.ofNat_add a b).symm

theorem seg_host : ∀ i : Fin 8192, IntOp.divsi .host (BitVec.ofNat 32 i.val) 512#32 = BitVec.ofNat 32 (i.val / 512) := by
  decide +kernel

theorem seg_iff (i j : Fin 8192) :
    IntOp.cmpi .eq (IntOp.divsi .host (BitVec.ofNat 32 i.val) 512#32) (IntOp.divsi .host (BitVec.ofNat 32 j.val) 512#32) = 1#1 ↔ i.val / 512 = j.val / 512 := by
  rw [seg_host, seg_host, WordCmp.cmpi_eq_ofNat_eq_one_iff (by omega) (by omega)]

end Cert.AttnWords
-- ==== Proof.AttnRef.lean ====
/- The reference of the banded attention's gradient, stage by stage and read at an index. -/
module

public import proofs.«01_k».proof.Proof.Gen.AttnReferenceIdeal.Run
public import proofs.«01_k».proof.Proof.AttnMath
public import proofs.«01_k».proof.Proof.AttnWords

@[expose] public section

noncomputable section

namespace Cert.AttnReferenceIdeal.Hand

open Idealize Idealize.ShloMosaic Idealize.ShloMosaic.TcCoe Idealize.SL.Sem
open Cert.AttnReferenceIdeal Cert.AttnReferenceIdeal.Gen Cert.AttnMath

/-- The rows cut into heads. -/
def split (a : FVec Ideal S8192x512 .bf16) : FVec Ideal S8192x8x64 .f32 :=
  shapeCast _ (extf .f32 a bitsLt_bf16_f32) shapeCasts_S8192x512_S8192x8x64

def band : IVec S8192x8192 1 :=
  andi (cmpi .sle (absi (subi (iotaInDim S8192x8192 32 0) (iotaInDim S8192x8192 32 1))) (broadcastInDim S8192x8192 ![] bcast_S_S8192x8192 (constantI S_ 32 64#32)))
    (cmpi .eq (Host.divsi (iotaInDim S8192x8192 32 0) (broadcastInDim S8192x8192 ![] bcast_S_S8192x8192 (constantI S_ 32 512#32)))
      (Host.divsi (iotaInDim S8192x8192 32 1) (broadcastInDim S8192x8192 ![] bcast_S_S8192x8192 (constantI S_ 32 512#32))))

def bands : IVec S8x8192x8192 1 :=
  broadcastInDim S8x8192x8192 ![0, 1, 2] bcast_S1x8192x8192_S8x8192x8192_0_1_2 (broadcastInDim S1x8192x8192 ![1, 2] bcast_S8192x8192_S1x8192x8192_1_2 band)

def ex (q k : FVec Ideal S8192x512 .bf16) : FVec Ideal S8x8192x8192 .f32 :=
  Host.exp (select bands (Host.dotGeneral dot_S8192x8x64_S8192x8x64_S8x8192x8192_2_2_0_0_1_1 none (split q) (split k))
    (broadcastInDim S8x8192x8192 ![] bcast_S_S8x8192x8192 (id (constant S_ .f32 0xFF800000#32))))

def denR (e : FVec Ideal S8x8192x8192 .f32) (l1 l2 : FVec Ideal S8192x8 .f32) : FVec Ideal S8192x8 .f32 :=
  addf (addf (Host.exp l1) (Host.exp l2)) (transpose S8192x8 [1, 0] (Host.reduceAdd e (constant S_ .f32 0x00000000#32) reducesTo_S8x8192x8192_S8x8192_d2 h_S_) transposes_S8x8192_S8192x8_1_0)

def wide (l : FVec Ideal S8192x8 .f32) : FVec Ideal S8192x8x64 .f32 :=
  broadcastInDim S8192x8x64 ![0, 1, 2] bcast_S8192x8x1_S8192x8x64_0_1_2 (broadcastInDim S8192x8x1 ![0, 1] bcast_S8192x8_S8192x8x1_0_1 l)

def numR (e : FVec Ideal S8x8192x8192 .f32) (l1 l2 : FVec Ideal S8192x8 .f32) (o1 o2 v : FVec Ideal S8192x512 .bf16) : FVec Ideal S8192x8x64 .f32 :=
  addf (addf (mulf (wide (Host.exp l1)) (split o1)) (mulf (wide (Host.exp l2)) (split o2)))
    (transpose S8192x8x64 [2, 0, 1] (Host.dotGeneral dot_S8192x8x64_S8x8192x8192_S8x64x8192_0_2_2_1_1_0 none (split v) e) transposes_S8x64x8192_S8192x8x64_2_0_1)

/-- The output's gradient over the denominator, heads first. -/
def gd (g : FVec Ideal S8192x512 .bf16) (dn : FVec Ideal S8192x8 .f32) : FVec Ideal S8x64x8192 .f32 :=
  transpose S8x64x8192 [1, 2, 0] (Host.divf (split g) (wide dn)) transposes_S8192x8x64_S8x64x8192_1_2_0

/-- The denominator's own gradient. -/
def dden (g : FVec Ideal S8192x512 .bf16) (dn : FVec Ideal S8192x8 .f32) (nm : FVec Ideal S8192x8x64 .f32) : FVec Ideal S8192x8 .f32 :=
  Host.reduceAdd (Host.negf (shapeCast _ (Host.reduceAdd (mulf (mulf (split g)
      (broadcastInDim S8192x8x64 ![0, 1, 2] bcast_S8192x8x1_S8192x8x64_0_1_2 (Host.divf (broadcastInDim S8192x8x1 ![] bcast_S_S8192x8x1 (constant S_ .f32 0x3F800000#32))
        (mulf (broadcastInDim S8192x8x1 ![0, 1] bcast_S8192x8_S8192x8x1_0_1 dn) (broadcastInDim S8192x8x1 ![0, 1] bcast_S8192x8_S8192x8x1_0_1 dn))))) nm)
    (constant S_ .f32 0x00000000#32) reducesTo_S8192x8x64_S8192x8_d2 h_S_) shapeCasts_S8192x8_S8192x8x1)) (constant S_ .f32 0x00000000#32) reducesTo_S8192x8x1_S8192x8_d2 h_S_

def dsR (e : FVec Ideal S8x8192x8192 .f32) (w : FVec Ideal S8x64x8192 .f32) (v : FVec Ideal S8192x512 .bf16) (dd : FVec Ideal S8192x8 .f32) : FVec Ideal S8x8192x8192 .f32 :=
  select bands (mulf (addf (Host.dotGeneral dot_S8x64x8192_S8192x8x64_S8x8192x8192_1_2_2_0_0_1 none w (split v))
      (broadcastInDim S8x8192x8192 ![0, 1] bcast_S8x8192_S8x8192x8192_0_1 (transpose S8x8192 [1, 0] dd transposes_S8192x8_S8x8192_1_0))) e)
    (broadcastInDim S8x8192x8192 ![] bcast_S_S8x8192x8192 (constant S_ .f32 0x00000000#32))

def dqR (s : FVec Ideal S8x8192x8192 .f32) (k : FVec Ideal S8192x512 .bf16) : FVec Ideal S8192x512 .bf16 :=
  truncf .bf16 (shapeCast _ (transpose S8192x8x64 [1, 0, 2] (Host.dotGeneral dot_S8x8192x8192_S8192x8x64_S8x8192x64_2_0_1_2_0_1 none s (split k)) transposes_S8x8192x64_S8192x8x64_1_0_2) shapeCasts_S8192x8x64_S8192x512) bitsLt_bf16_f32

def dkR (s : FVec Ideal S8x8192x8192 .f32) (q : FVec Ideal S8192x512 .bf16) : FVec Ideal S8192x512 .bf16 :=
  truncf .bf16 (shapeCast _ (transpose S8192x8x64 [1, 0, 2] (Host.dotGeneral dot_S8x8192x8192_S8192x8x64_S8x8192x64_1_0_2_2_0_1 none s (split q)) transposes_S8x8192x64_S8192x8x64_1_0_2) shapeCasts_S8192x8x64_S8192x512) bitsLt_bf16_f32

def dvR (e : FVec Ideal S8x8192x8192 .f32) (w : FVec Ideal S8x64x8192 .f32) : FVec Ideal S8192x512 .bf16 :=
  truncf .bf16 (shapeCast _ (transpose S8192x8x64 [2, 0, 1] (Host.dotGeneral dot_S8x64x8192_S8x8192x8192_S8x64x8192_2_1_1_2_0_0 none w e) transposes_S8x64x8192_S8192x8x64_2_0_1) shapeCasts_S8192x8x64_S8192x512) bitsLt_bf16_f32

/-! ## Read at an index -/

theorem col_div (h : Fin 8) (d : Fin 64) (p : (col h d).val / 64 < 8) : (⟨(col h d).val / 64, p⟩ : Fin 8) = h :=
  Fin.ext (by show (64 * h.val + d.val) / 64 = h.val; omega)
theorem col_mod (h : Fin 8) (d : Fin 64) (p : (col h d).val % 64 < 64) : (⟨(col h d).val % 64, p⟩ : Fin 64) = d :=
  Fin.ext (by show (64 * h.val + d.val) % 64 = d.val; omega)

theorem split_at (a : FVec Ideal S8192x512 .bf16) (R : Fin 8192) (h : Fin 8) (d : Fin 64) :
    (split a : S8192x8x64.Idx → EReal) (ix3 R h d) = a (ix2 R (col h d)) := by
  unfold split
  pointwise
  congr 2
  exact Fin.ext (by show h.val * 64 + d.val = 64 * h.val + d.val; omega)

theorem wide_at (l : FVec Ideal S8192x8 .f32) (R : Fin 8192) (h : Fin 8) (d : Fin 64) :
    (wide l : S8192x8x64.Idx → EReal) (ix3 R h d) = l (ix2 R h) := by
  unfold wide
  pointwise

theorem ex_at (q k : FVec Ideal S8192x512 .bf16) (h : Fin 8) (i j : Fin 8192) :
    (ex q k : S8x8192x8192.Idx → EReal) (ix3 h i j)
      = Ideal.exp (if bands (ix3 h i j) = 1#1 then ∑ d : Fin 64, (split q (ix3 i h d) : EReal) * split k (ix3 j h d) else Ideal.ofBits .f32 0xFF800000#32) := by
  unfold ex
  pointwise
  rfl

theorem band_at (h : Fin 8) (i j : Fin 8192) : bands (ix3 h i j) = band (ix2 i j) := by
  unfold bands
  pointwise

theorem band_iff (i j : Fin 8192) : band (ix2 i j) = 1#1 ↔ Sees i.val j.val := by
  unfold band
  pointwise
  rw [IntOp.andi_eq_one, AttnWords.seg_iff, AttnWords.abs_le_iff _ ((i.val : ℤ) - j.val) (AttnWords.toInt_sub_ofNat _ _ (by omega) (by omega)) (by omega) (by omega)]
  unfold Sees
  omega

theorem denR_at (e : FVec Ideal S8x8192x8192 .f32) (l1 l2 : FVec Ideal S8192x8 .f32) (i : Fin 8192) (h : Fin 8) :
    (denR e l1 l2 : S8192x8.Idx → EReal) (ix2 i h) = Ideal.exp (l1 (ix2 i h)) + Ideal.exp (l2 (ix2 i h)) + ∑ j : Fin 8192, (e (ix3 h i j) : EReal) := by
  unfold denR
  pointwise

theorem numR_at (e : FVec Ideal S8x8192x8192 .f32) (l1 l2 : FVec Ideal S8192x8 .f32) (o1 o2 v : FVec Ideal S8192x512 .bf16) (i : Fin 8192) (h : Fin 8) (d : Fin 64) :
    (numR e l1 l2 o1 o2 v : S8192x8x64.Idx → EReal) (ix3 i h d)
      = (wide (Host.exp l1) (ix3 i h d) : EReal) * split o1 (ix3 i h d) + (wide (Host.exp l2) (ix3 i h d) : EReal) * split o2 (ix3 i h d)
        + ∑ j : Fin 8192, (split v (ix3 j h d) : EReal) * e (ix3 h i j) := by
  unfold numR
  pointwise

theorem gd_at (g : FVec Ideal S8192x512 .bf16) (dn : FVec Ideal S8192x8 .f32) (i : Fin 8192) (h : Fin 8) (d : Fin 64) :
    (gd g dn : S8x64x8192.Idx → EReal) (ix3 h d i) = Ideal.div (split g (ix3 i h d)) (wide dn (ix3 i h d)) := by
  unfold gd
  pointwise

theorem dden_at (g : FVec Ideal S8192x512 .bf16) (dn : FVec Ideal S8192x8 .f32) (nm : FVec Ideal S8192x8x64 .f32) (i : Fin 8192) (h : Fin 8) :
    (dden g dn nm : S8192x8.Idx → EReal) (ix2 i h)
      = ∑ _z : Fin 1, -(∑ d : Fin 64, (split g (ix3 i h d) : EReal) * Ideal.div (Ideal.ofBits .f32 0x3F800000#32) (dn (ix2 i h) * dn (ix2 i h)) * nm (ix3 i h d)) := by
  unfold dden
  pointwise

theorem dsR_at (e : FVec Ideal S8x8192x8192 .f32) (w : FVec Ideal S8x64x8192 .f32) (v : FVec Ideal S8192x512 .bf16) (dd : FVec Ideal S8192x8 .f32) (h : Fin 8) (i j : Fin 8192) :
    (dsR e w v dd : S8x8192x8192.Idx → EReal) (ix3 h i j)
      = if bands (ix3 h i j) = 1#1 then ((∑ d : Fin 64, (w (ix3 h d i) : EReal) * split v (ix3 j h d)) + dd (ix2 i h)) * e (ix3 h i j) else 0 := by
  unfold dsR
  pointwise
  rfl

theorem dqR_at (s : FVec Ideal S8x8192x8192 .f32) (k : FVec Ideal S8192x512 .bf16) (i : Fin 8192) (h : Fin 8) (d : Fin 64) :
    (dqR s k : S8192x512.Idx → EReal) (ix2 i (col h d)) = ∑ j : Fin 8192, (s (ix3 h i j) : EReal) * split k (ix3 j h d) := by
  unfold dqR
  pointwise
  simp only [col_div, col_mod]

theorem dkR_at (s : FVec Ideal S8x8192x8192 .f32) (q : FVec Ideal S8192x512 .bf16) (j : Fin 8192) (h : Fin 8) (d : Fin 64) :
    (dkR s q : S8192x512.Idx → EReal) (ix2 j (col h d)) = ∑ i : Fin 8192, (s (ix3 h i j) : EReal) * split q (ix3 i h d) := by
  unfold dkR
  pointwise
  simp only [col_div, col_mod]

theorem dvR_at (e : FVec Ideal S8x8192x8192 .f32) (w : FVec Ideal S8x64x8192 .f32) (j : Fin 8192) (h : Fin 8) (d : Fin 64) :
    (dvR e w : S8192x512.Idx → EReal) (ix2 j (col h d)) = ∑ i : Fin 8192, (w (ix3 h d i) : EReal) * e (ix3 h i j) := by
  unfold dvR
  pointwise
  simp only [col_div, col_mod]

variable (m : (ℓ : Loc nD τ sig) → Buf (Elt Ideal) ℓ) (c : Dev nD)

abbrev exM : FVec Ideal S8x8192x8192 .f32 := ex (m ((c.tc : Thread nD τ).loc main_arg0)) (m ((c.tc : Thread nD τ).loc main_arg1))
abbrev denM : FVec Ideal S8192x8 .f32 := denR (exM m c) (m ((c.tc : Thread nD τ).loc main_arg5)) (m ((c.tc : Thread nD τ).loc main_arg7))
abbrev numM : FVec Ideal S8192x8x64 .f32 := numR (exM m c) (m ((c.tc : Thread nD τ).loc main_arg5)) (m ((c.tc : Thread nD τ).loc main_arg7))
  (m ((c.tc : Thread nD τ).loc main_arg4)) (m ((c.tc : Thread nD τ).loc main_arg6)) (m ((c.tc : Thread nD τ).loc main_arg2))
abbrev gdM : FVec Ideal S8x64x8192 .f32 := gd (m ((c.tc : Thread nD τ).loc main_arg3)) (denM m c)
abbrev dsM : FVec Ideal S8x8192x8192 .f32 := dsR (exM m c) (gdM m c) (m ((c.tc : Thread nD τ).loc main_arg2)) (dden (m ((c.tc : Thread nD τ).loc main_arg3)) (denM m c) (numM m c))

theorem res0_eq : Value.res_main_v77 m c = dqR (dsM m c) (m ((c.tc : Thread nD τ).loc main_arg1)) := rfl
theorem res1_eq : Value.res_main_v78 m c = dkR (dsM m c) (m ((c.tc : Thread nD τ).loc main_arg0)) := rfl

end Cert.AttnReferenceIdeal.Hand

end
-- ==== Proof.AttnRefReal.lean ====
/- The stages of the banded attention's gradient at real arguments. -/
module

public import proofs.«01_k».proof.Proof.AttnRef

@[expose] public section

noncomputable section

namespace Cert.AttnReferenceIdeal.Hand

open Idealize Idealize.ShloMosaic Idealize.ShloMosaic.TcCoe Idealize.SL.Sem
open Cert.AttnReferenceIdeal Cert.AttnReferenceIdeal.Gen Cert.AttnMath

theorem negInf_eq : Ideal.ofBits .f32 0xFF800000#32 = (⊥ : EReal) := by simp [Ideal.ofBits, Ideal.ieee]
theorem one_eq : Ideal.ofBits .f32 0x3F800000#32 = ((1 : ℝ) : EReal) := by
  simp [Ideal.ofBits, Ideal.ieee, -EReal.coe_mul]; norm_num

/-- The eight arguments hold real numbers. -/
structure Reals (A : Args) (q k v g o1 : FVec Ideal S8192x512 .bf16) (l1 : FVec Ideal S8192x8 .f32) (o2 : FVec Ideal S8192x512 .bf16) (l2 : FVec Ideal S8192x8 .f32) : Prop where
  q : ∀ i x, (q (ix2 i x) : EReal) = ((A.q i x : ℝ) : EReal)
  k : ∀ i x, (k (ix2 i x) : EReal) = ((A.k i x : ℝ) : EReal)
  v : ∀ i x, (v (ix2 i x) : EReal) = ((A.v i x : ℝ) : EReal)
  g : ∀ i x, (g (ix2 i x) : EReal) = ((A.g i x : ℝ) : EReal)
  o1 : ∀ i x, (o1 (ix2 i x) : EReal) = ((A.o1 i x : ℝ) : EReal)
  l1 : ∀ i x, (l1 (ix2 i x) : EReal) = ((A.l1 i x : ℝ) : EReal)
  o2 : ∀ i x, (o2 (ix2 i x) : EReal) = ((A.o2 i x : ℝ) : EReal)
  l2 : ∀ i x, (l2 (ix2 i x) : EReal) = ((A.l2 i x : ℝ) : EReal)

variable {A : Args} {q k v g o1 : FVec Ideal S8192x512 .bf16} {l1 : FVec Ideal S8192x8 .f32} {o2 : FVec Ideal S8192x512 .bf16} {l2 : FVec Ideal S8192x8 .f32}
  (B : Reals A q k v g o1 l1 o2 l2)
include B

theorem ex_real (h : Fin 8) (i j : Fin 8192) : (ex q k (ix3 h i j) : EReal) = ((E A h i j : ℝ) : EReal) := by
  rw [ex_at, band_at]
  by_cases y : Sees i.val j.val
  · rw [if_pos ((band_iff i j).2 y), E, if_pos y]
    have hs : (∑ d : Fin 64, (split q (ix3 i h d) : EReal) * split k (ix3 j h d)) = ((S A h i j : ℝ) : EReal) := by
      rw [S, coe_sum]
      refine Finset.sum_congr rfl fun d _ => ?_
      rw [split_at, split_at, B.q, B.k, EReal.coe_mul]
    rw [hs, Ideal.exp_coe]
  · rw [if_neg (fun z => y ((band_iff i j).1 z)), E, if_neg y, negInf_eq, Ideal.exp_bot]
    rfl

theorem den_real (i : Fin 8192) (h : Fin 8) : (denR (ex q k) l1 l2 (ix2 i h) : EReal) = ((den A i h : ℝ) : EReal) := by
  rw [denR_at, B.l1, B.l2, Ideal.exp_coe, Ideal.exp_coe, den, EReal.coe_add, EReal.coe_add, coe_sum]
  exact congrArg₂ _ rfl (Finset.sum_congr rfl fun j _ => ex_real B h i j)

theorem exp_at (l : FVec Ideal S8192x8 .f32) (i : Fin 8192) (h : Fin 8) : (Host.exp l (ix2 i h) : EReal) = Ideal.exp (l (ix2 i h)) := by
  pointwise

theorem num_real (i : Fin 8192) (h : Fin 8) (d : Fin 64) : (numR (ex q k) l1 l2 o1 o2 v (ix3 i h d) : EReal) = ((num A i h d : ℝ) : EReal) := by
  rw [numR_at, wide_at, wide_at, split_at, split_at, exp_at B, exp_at B, B.l1, B.l2, B.o1, B.o2, Ideal.exp_coe, Ideal.exp_coe, num, EReal.coe_add, EReal.coe_add,
    EReal.coe_mul, EReal.coe_mul, coe_sum]
  refine congrArg₂ _ rfl (Finset.sum_congr rfl fun j _ => ?_)
  rw [split_at, B.v, ex_real B, EReal.coe_mul]

theorem gd_real (i : Fin 8192) (h : Fin 8) (d : Fin 64) : (gd g (denR (ex q k) l1 l2) (ix3 h d i) : EReal) = ((A.g i (col h d) / den A i h : ℝ) : EReal) := by
  rw [gd_at, wide_at, split_at, den_real B, B.g, Ideal.div_coe (den_pos A i h).ne', ← EReal.coe_mul, mul_one_div]

theorem dden_real (i : Fin 8192) (h : Fin 8) : (dden g (denR (ex q k) l1 l2) (numR (ex q k) l1 l2 o1 o2 v) (ix2 i h) : EReal)
    = ((-(∑ d : Fin 64, A.g i (col h d) * (1 / (den A i h * den A i h)) * num A i h d) : ℝ) : EReal) := by
  have hd := (den_pos A i h).ne'
  rw [dden_at, Fin.sum_univ_one, EReal.coe_neg, coe_sum]
  refine congrArg _ (Finset.sum_congr rfl fun d _ => ?_)
  rw [split_at, den_real B, num_real B, B.g, one_eq, ← EReal.coe_mul, Ideal.div_coe (mul_ne_zero hd hd), ← EReal.coe_mul, ← EReal.coe_mul, ← EReal.coe_mul, one_mul]

theorem ds_real (h : Fin 8) (i j : Fin 8192) :
    (dsR (ex q k) (gd g (denR (ex q k) l1 l2)) v (dden g (denR (ex q k) l1 l2) (numR (ex q k) l1 l2 o1 o2 v)) (ix3 h i j) : EReal) = ((ds A h i j : ℝ) : EReal) := by
  rw [dsR_at, band_at]
  by_cases y : Sees i.val j.val
  · have hd := (den_pos A i h).ne'
    have hs : (∑ d : Fin 64, (gd g (denR (ex q k) l1 l2) (ix3 h d i) : EReal) * split v (ix3 j h d)) = ((∑ d : Fin 64, A.g i (col h d) / den A i h * A.v j (col h d) : ℝ) : EReal) := by
      rw [coe_sum]
      refine Finset.sum_congr rfl fun d _ => ?_
      rw [gd_real B, split_at, B.v, EReal.coe_mul]
    rw [if_pos ((band_iff i j).2 y), hs, dden_real B, ex_real B, ← EReal.coe_add, ← EReal.coe_mul]
    congr 1
    rw [ds, P, dp, delta]
    have e1 : (∑ d : Fin 64, A.g i (col h d) / den A i h * A.v j (col h d)) = (den A i h)⁻¹ * ∑ d : Fin 64, A.g i (col h d) * A.v j (col h d) := by
      rw [Finset.mul_sum]
      exact Finset.sum_congr rfl fun d _ => by ring
    have e2 : (∑ d : Fin 64, A.g i (col h d) * (1 / (den A i h * den A i h)) * num A i h d) = (den A i h)⁻¹ * ∑ d : Fin 64, A.g i (col h d) * (num A i h d / den A i h) := by
      rw [Finset.mul_sum]
      exact Finset.sum_congr rfl fun d _ => by field_simp
    rw [e1, e2]; ring
  · rw [if_neg (fun z => y ((band_iff i j).1 z)), ds_of_not A h i j y]
    rfl

theorem dq_real (i : Fin 8192) (h : Fin 8) (d : Fin 64) :
    (dqR (dsR (ex q k) (gd g (denR (ex q k) l1 l2)) v (dden g (denR (ex q k) l1 l2) (numR (ex q k) l1 l2 o1 o2 v))) k (ix2 i (col h d)) : EReal) = ((dq A i h d : ℝ) : EReal) := by
  rw [dqR_at, dq, coe_sum]
  refine Finset.sum_congr rfl fun j _ => ?_
  rw [ds_real B, split_at, B.k, EReal.coe_mul]

theorem dk_real (j : Fin 8192) (h : Fin 8) (d : Fin 64) :
    (dkR (dsR (ex q k) (gd g (denR (ex q k) l1 l2)) v (dden g (denR (ex q k) l1 l2) (numR (ex q k) l1 l2 o1 o2 v))) q (ix2 j (col h d)) : EReal) = ((dk A j h d : ℝ) : EReal) := by
  rw [dkR_at, dk, coe_sum]
  refine Finset.sum_congr rfl fun i _ => ?_
  rw [ds_real B, split_at, B.q, EReal.coe_mul]

theorem dv_real (j : Fin 8192) (h : Fin 8) (d : Fin 64) :
    (dvR (ex q k) (gd g (denR (ex q k) l1 l2)) (ix2 j (col h d)) : EReal) = ((dv A j h d : ℝ) : EReal) := by
  rw [dvR_at, dv, coe_sum]
  refine Finset.sum_congr rfl fun i _ => ?_
  rw [gd_real B, ex_real B, ← EReal.coe_mul, P]
  congr 1; ring

end Cert.AttnReferenceIdeal.Hand

end
-- ==== Proof.AttnHost.lean ====
/- The two arrays the attention gradient's host code prepares: the merged output and the logarithm of its denominator. -/
module

public import proofs.«01_k».proof.Proof.AttnRefReal
public import proofs.«01_k».proof.Proof.AttnData
public import Idealize.ShloMosaic.Lib.StableHlo.Run
public import Idealize.ShloMosaic.Lib.Tactic

@[expose] public section

noncomputable section

namespace Cert.AttnIdeal.Hand

open Idealize Idealize.ShloMosaic Idealize.ShloMosaic.TcCoe Idealize.SL.Sem
open Cert.AttnIdeal Cert.AttnIdeal.Gen Cert.AttnMath
open Cert.AttnReferenceIdeal.Hand (ex denR numR wide Reals)

variable (m : (ℓ : Loc nD τ sig) → Buf (Elt Ideal) ℓ) (c : Dev nD)

abbrev qA : FVec Ideal S8192x512 .bf16 := m ((c.tc : Thread nD τ).loc main_arg0)
abbrev kA : FVec Ideal S8192x512 .bf16 := m ((c.tc : Thread nD τ).loc main_arg1)
abbrev vA : FVec Ideal S8192x512 .bf16 := m ((c.tc : Thread nD τ).loc main_arg2)
abbrev gA : FVec Ideal S8192x512 .bf16 := m ((c.tc : Thread nD τ).loc main_arg3)
abbrev o1A : FVec Ideal S8192x512 .bf16 := m ((c.tc : Thread nD τ).loc main_arg4)
abbrev l1A : FVec Ideal S8192x8 .f32 := m ((c.tc : Thread nD τ).loc main_arg5)
abbrev o2A : FVec Ideal S8192x512 .bf16 := m ((c.tc : Thread nD τ).loc main_arg6)
abbrev l2A : FVec Ideal S8192x8 .f32 := m ((c.tc : Thread nD τ).loc main_arg7)

/-- The merged output, rows joined. -/
def outOf (nm : FVec Ideal S8192x8x64 .f32) (dn : FVec Ideal S8192x8 .f32) : FVec Ideal S8192x512 .bf16 :=
  truncf .bf16 (shapeCast _ (Host.divf nm (wide dn)) shapeCasts_S8192x8x64_S8192x512) bitsLt_bf16_f32
/-- The logarithm of the denominator, on every lane of its head. -/
def lseOf (dn : FVec Ideal S8192x8 .f32) : FVec Ideal S8192x512 .f32 :=
  shapeCast _ (wide (Host.log dn)) shapeCasts_S8192x8x64_S8192x512

theorem host48 : V m c main_v48 = outOf (numR (ex (qA m c) (kA m c)) (l1A m c) (l2A m c) (o1A m c) (o2A m c) (vA m c)) (denR (ex (qA m c) (kA m c)) (l1A m c) (l2A m c)) := by
  simp only [V, hostOps0, hostOps0_1, hostOps0_2, List.flatten_cons, List.flatten_nil, List.append_nil, List.cons_append, List.nil_append]
  after_results_simp
  rfl
theorem host52 : V m c main_v52 = lseOf (denR (ex (qA m c) (kA m c)) (l1A m c) (l2A m c)) := by
  simp only [V, hostOps0, hostOps0_1, hostOps0_2, List.flatten_cons, List.flatten_nil, List.append_nil, List.cons_append, List.nil_append]
  after_results_simp
  rfl

theorem outOf_at (nm : FVec Ideal S8192x8x64 .f32) (dn : FVec Ideal S8192x8 .f32) (R : Fin 8192) (h : Fin 8) (d : Fin 64) :
    (outOf nm dn (ix2 R (col h d)) : EReal) = Ideal.div (nm (ix3 R h d)) (wide dn (ix3 R h d)) := by
  unfold outOf
  pointwise
  simp only [Cert.AttnReferenceIdeal.Hand.col_div, Cert.AttnReferenceIdeal.Hand.col_mod]

theorem lseOf_at (dn : FVec Ideal S8192x8 .f32) (R : Fin 8192) (h : Fin 8) (d : Fin 64) :
    (lseOf dn (ix2 R (col h d)) : EReal) = wide (Host.log dn) (ix3 R h d) := by
  unfold lseOf
  pointwise
  simp only [Cert.AttnReferenceIdeal.Hand.col_div, Cert.AttnReferenceIdeal.Hand.col_mod]

theorem log_at (l : FVec Ideal S8192x8 .f32) (i : Fin 8192) (h : Fin 8) : (Host.log l (ix2 i h) : EReal) = Ideal.log (l (ix2 i h)) := by
  pointwise

variable {A : Args} (B : Reals A (qA m c) (kA m c) (vA m c) (gA m c) (o1A m c) (l1A m c) (o2A m c) (l2A m c))
include B

theorem v48_real (R : Fin 8192) (h : Fin 8) (d : Fin 64) : (V m c main_v48 (ix2 R (col h d) : S8192x512.Idx) : EReal) = ((num A R h d / den A R h : ℝ) : EReal) := by
  rw [host48]
  refine (outOf_at _ _ R h d).trans ?_
  rw [Cert.AttnReferenceIdeal.Hand.wide_at, Cert.AttnReferenceIdeal.Hand.num_real B, Cert.AttnReferenceIdeal.Hand.den_real B, Ideal.div_coe (den_pos A R h).ne', ← EReal.coe_mul, mul_one_div]

theorem v52_real (R : Fin 8192) (h : Fin 8) (d : Fin 64) : (V m c main_v52 (ix2 R (col h d) : S8192x512.Idx) : EReal) = ((Real.log (den A R h) : ℝ) : EReal) := by
  rw [host52]
  refine (lseOf_at _ R h d).trans ?_
  rw [Cert.AttnReferenceIdeal.Hand.wide_at, log_at, Cert.AttnReferenceIdeal.Hand.den_real B, Ideal.log_coe, if_neg (not_le.2 (den_pos A R h))]

end Cert.AttnIdeal.Hand

end
-- ==== Proof.AttnStrip.lean ====
/- One strip's arithmetic read at an index. -/
module

public import proofs.«01_k».proof.Proof.AttnRoll
public import proofs.«01_k».proof.Proof.AttnMath
public import proofs.«01_k».proof.Proof.AttnWords

@[expose] public section

noncomputable section

namespace Cert.AttnIdeal.Hand

open Idealize Idealize.ShloMosaic Idealize.ShloMosaic.TcCoe Idealize.SL.Sem
open Cert.AttnIdeal Cert.AttnIdeal.Gen Cert.AttnMath

theorem low_at (l : Fin 128) : lowM (ix2 0 l) = 1#1 ↔ l.val < 64 := by
  unfold lowM
  pointwise
  exact WordCmp.cmpi_slt_ofNat_eq_one_iff (by omega) (by omega)

/-- Row `r` of head `e` of the pair, the two heads one above the other. -/
def row (e : Fin 2) (r : Fin 64) : Fin 128 := ⟨64 * e.val + r.val, by omega⟩

/-- The head of the pair that a lane is of. -/
def half (l : Fin 128) : Fin 2 := ⟨l.val / 64, by omega⟩

theorem half_zero (l : Fin 128) : half l = 0 ↔ l.val < 64 := by
  rw [Fin.ext_iff]; show l.val / 64 = 0 ↔ _; omega
theorem half_one (l : Fin 128) : half l = 1 ↔ ¬l.val < 64 := by
  rw [Fin.ext_iff]; show l.val / 64 = 1 ↔ _; omega

theorem low_sub (r : Fin 64) (p : (row 0 r).val < 64) : (⟨(row 0 r).val, p⟩ : Fin 64) = r := Fin.ext (by show 64 * 0 + r.val = r.val; omega)
theorem high_sub (r : Fin 64) (p : (row 1 r).val - 64 < 64) : (⟨(row 1 r).val - 64, p⟩ : Fin 64) = r := Fin.ext (by show 64 * 1 + r.val - 64 = r.val; omega)

theorem splitHeads_at (x : Vec Ideal S64x128 .bf16) (e : Fin 2) (r : Fin 64) (l : Fin 128) :
    (splitHeads x : S128x128.Idx → EReal) (ix2 (row e r) l) = if half l = e then (x (ix2 r l) : EReal) else 0 := by
  unfold splitHeads
  pointwise
  obtain rfl | rfl : e = 0 ∨ e = 1 := by omega
  · rw [dif_pos (show (row 0 r).val < 64 from by show 64 * 0 + r.val < 64; omega), low_sub]
    exact if_congr ((low_at l).trans (half_zero l).symm) rfl rfl
  · rw [dif_neg (show ¬(row 1 r).val < 64 from by show ¬(64 * 1 + r.val < 64); omega), high_sub]
    by_cases h : l.val < 64
    · exact (if_pos ((low_at l).2 h)).trans (if_neg (fun g => (half_one l).1 g h)).symm
    · exact (if_neg (fun g => h ((low_at l).1 g))).trans (if_pos ((half_one l).2 h)).symm

theorem scoreOf_at (q2 : FVec Ideal S128x128 .bf16) (kw : Vec Ideal S256x128 .bf16) (r : Fin 128) (c : Fin 256) :
    (scoreOf q2 kw : S128x256.Idx → EReal) (ix2 r c) = ∑ l : Fin 128, (q2 (ix2 r l) : EReal) * kw (ix2 c l) := by
  unfold scoreOf
  pointwise

/-- The log-denominator of each row, read off one head's lanes. -/
def lseRow (M : IVec S1x128 1) (lv : Vec Ideal S64x128 .f32) : FVec Ideal S64x1 .f32 :=
  shapeCast S64x1 (multiReduction (F := Ideal) .maximumf [1] S64 (select (broadcastTo S64x128 (shapeCast S1x128 M shapeCasts_S1x128_S1x128) broadcasts_S1x128_S64x128)
    (shapeCast S64x128 lv shapeCasts_S64x128_S64x128) (broadcast S64x128 (Scalar.ofBits .f32 0xFF800000#32))) 0xFF800000#32 reduces_S64x128_S64 (.inl rfl) rfl) shapeCasts_S64_S64x1

/-- The product of the gradient and the output over one head's lanes. -/
def delRow (M : IVec S1x128 1) (dov ov : Vec Ideal S64x128 .bf16) : FVec Ideal S64x1 .f32 :=
  shapeCast S64x1 (multiReduction (F := Ideal) .add [1] S64 (select (broadcastTo S64x128 (shapeCast S1x128 M shapeCasts_S1x128_S1x128) broadcasts_S1x128_S64x128)
    (mulf (extf .f32 dov bitsLt_bf16_f32) (extf .f32 (shapeCast S64x128 ov shapeCasts_S64x128_S64x128) bitsLt_bf16_f32)) (broadcast S64x128 (Scalar.ofBits .f32 0x00000000#32)))
    0x00000000#32 reduces_S64x128_S64 (.inl rfl) rfl) shapeCasts_S64_S64x1

/-- One head's probabilities. -/
def pHalf (valid : IVec S64x256 1) (s : FVec Ideal S64x256 .f32) (L : FVec Ideal S64x1 .f32) : FVec Ideal S64x256 .f32 :=
  exp (subf (select valid s (broadcast S64x256 (Named.named κ "mask" 0xF149F2CA#32))) (broadcastTo S64x256 L broadcasts_S64x1_S64x256))

/-- One head's score gradients. -/
def dHalf (p s : FVec Ideal S64x256 .f32) (D : FVec Ideal S64x1 .f32) : FVec Ideal S64x256 .f32 :=
  mulf p (subf s (broadcastTo S64x256 D broadcasts_S64x1_S64x256))

def highM : IVec S1x128 1 := xori lowM (constantI S1x128 1 1#1)

theorem probOf_eq (valid : IVec S64x256 1) (dov ov : Vec Ideal S64x128 .bf16) (lv : Vec Ideal S64x128 .f32) (sc dp : FVec Ideal S128x256 .f32) :
    probOf valid dov ov lv sc dp = concatenate S128x256 0 [⟨S64x256, truncf .bf16 (pHalf valid (extractStridedSlice S64x256 ![0, 0] sc slices_S128x256_o0_0_S64x256) (lseRow lowM lv)) bitsLt_bf16_f32⟩,
      ⟨S64x256, truncf .bf16 (pHalf valid (extractStridedSlice S64x256 ![64, 0] sc slices_S128x256_o64_0_S64x256) (lseRow highM lv)) bitsLt_bf16_f32⟩] concatenates_S64x256_S64x256_S128x256_d0 := rfl

theorem dscOf_eq (valid : IVec S64x256 1) (dov ov : Vec Ideal S64x128 .bf16) (lv : Vec Ideal S64x128 .f32) (sc dp : FVec Ideal S128x256 .f32) :
    dscOf valid dov ov lv sc dp = concatenate S128x256 0
      [⟨S64x256, truncf .bf16 (dHalf (pHalf valid (extractStridedSlice S64x256 ![0, 0] sc slices_S128x256_o0_0_S64x256) (lseRow lowM lv)) (extractStridedSlice S64x256 ![0, 0] dp slices_S128x256_o0_0_S64x256) (delRow lowM dov ov)) bitsLt_bf16_f32⟩,
      ⟨S64x256, truncf .bf16 (dHalf (pHalf valid (extractStridedSlice S64x256 ![64, 0] sc slices_S128x256_o64_0_S64x256) (lseRow highM lv)) (extractStridedSlice S64x256 ![64, 0] dp slices_S128x256_o64_0_S64x256) (delRow highM dov ov)) bitsLt_bf16_f32⟩] concatenates_S64x256_S64x256_S128x256_d0 := rfl

theorem lseRow_at (M : IVec S1x128 1) (lv : Vec Ideal S64x128 .f32) (r : Fin 64) :
    (lseRow M lv : S64x1.Idx → EReal) (ix2 r 0) = Finset.univ.fold max ⊥ (fun l : Fin 128 => if M (ix2 0 l) = 1#1 then (lv (ix2 r l) : EReal) else ⊥) := by
  have hb : (Ideal.ofBits .f32 0xFF800000#32 : EReal) = ⊥ := by simp [Ideal.ofBits, Ideal.ieee]
  unfold lseRow
  pointwise
  rw [hb]
  rfl

theorem delRow_at (M : IVec S1x128 1) (dov ov : Vec Ideal S64x128 .bf16) (r : Fin 64) :
    (delRow M dov ov : S64x1.Idx → EReal) (ix2 r 0) = ∑ l : Fin 128, if M (ix2 0 l) = 1#1 then (dov (ix2 r l) : EReal) * ov (ix2 r l) else 0 := by
  unfold delRow
  pointwise
  rfl

theorem pHalf_at (valid : IVec S64x256 1) (s : FVec Ideal S64x256 .f32) (L : FVec Ideal S64x1 .f32) (r : Fin 64) (c : Fin 256) :
    (pHalf valid s L : S64x256.Idx → EReal) (ix2 r c) = Ideal.exp ((if valid (ix2 r c) = 1#1 then (s (ix2 r c) : EReal) else ⊥) - L (ix2 r 0)) := by
  have hm : (Named.named (F := Ideal) κ "mask" (φ := .f32) 0xF149F2CA#32 : EReal) = ⊥ := IdealRules.named_const.ideal_named_scalar _ _ _ _ rfl
  unfold pHalf
  pointwise
  rw [hm]
  rfl

theorem dHalf_at (p s : FVec Ideal S64x256 .f32) (D : FVec Ideal S64x1 .f32) (r : Fin 64) (c : Fin 256) :
    (dHalf p s D : S64x256.Idx → EReal) (ix2 r c) = (p (ix2 r c) : EReal) * (s (ix2 r c) - D (ix2 r 0)) := by
  unfold dHalf
  pointwise

theorem high_at (l : Fin 128) : highM (ix2 0 l) = 1#1 ↔ ¬l.val < 64 := by
  rw [← low_at l]
  unfold highM
  pointwise
  generalize lowM (ix2 0 l) = b
  revert b; decide

/-- The lanes of a head of the pair. -/
def headM (e : Fin 2) : IVec S1x128 1 := if e = 0 then lowM else highM

theorem headM_at (e : Fin 2) (l : Fin 128) : headM e (ix2 0 l) = 1#1 ↔ half l = e := by
  obtain rfl | rfl : e = 0 ∨ e = 1 := by omega
  · rw [half_zero]; exact low_at l
  · rw [half_one]; exact high_at l

theorem slice_low (s : FVec Ideal S128x256 .f32) (r : Fin 64) (c : Fin 256) :
    (extractStridedSlice S64x256 ![0, 0] s slices_S128x256_o0_0_S64x256 : S64x256.Idx → EReal) (ix2 r c) = s (ix2 (row 0 r) c) := by
  pointwise
  exact congrArg (fun a => s (ix2 a c)) (Fin.ext (by show r.val = 64 * 0 + r.val; omega))
theorem slice_high (s : FVec Ideal S128x256 .f32) (r : Fin 64) (c : Fin 256) :
    (extractStridedSlice S64x256 ![64, 0] s slices_S128x256_o64_0_S64x256 : S64x256.Idx → EReal) (ix2 r c) = s (ix2 (row 1 r) c) := by
  pointwise
  exact congrArg (fun a => s (ix2 a c)) (Fin.ext (by show 64 + r.val = 64 * 1 + r.val; omega))

theorem probOf_at (valid : IVec S64x256 1) (dov ov : Vec Ideal S64x128 .bf16) (lv : Vec Ideal S64x128 .f32) (sc dp : FVec Ideal S128x256 .f32) (e : Fin 2) (r : Fin 64) (c : Fin 256) :
    (probOf valid dov ov lv sc dp : S128x256.Idx → EReal) (ix2 (row e r) c) =
      Ideal.exp ((if valid (ix2 r c) = 1#1 then (sc (ix2 (row e r) c) : EReal) else ⊥) - lseRow (headM e) lv (ix2 r 0)) := by
  rw [probOf_eq]
  pointwise
  obtain rfl | rfl : e = 0 ∨ e = 1 := by omega
  · rw [dif_pos (show (row 0 r).val < 64 from by show 64 * 0 + r.val < 64; omega), low_sub, pHalf_at, slice_low]
    rfl
  · rw [dif_neg (show ¬(row 1 r).val < 64 from by show ¬(64 * 1 + r.val < 64); omega), high_sub, pHalf_at, slice_high]
    rfl

theorem dscOf_at (valid : IVec S64x256 1) (dov ov : Vec Ideal S64x128 .bf16) (lv : Vec Ideal S64x128 .f32) (sc dp : FVec Ideal S128x256 .f32) (e : Fin 2) (r : Fin 64) (c : Fin 256) :
    (dscOf valid dov ov lv sc dp : S128x256.Idx → EReal) (ix2 (row e r) c) =
      Ideal.exp ((if valid (ix2 r c) = 1#1 then (sc (ix2 (row e r) c) : EReal) else ⊥) - lseRow (headM e) lv (ix2 r 0))
        * (dp (ix2 (row e r) c) - delRow (headM e) dov ov (ix2 r 0)) := by
  rw [dscOf_eq]
  pointwise
  obtain rfl | rfl : e = 0 ∨ e = 1 := by omega
  · rw [dif_pos (show (row 0 r).val < 64 from by show 64 * 0 + r.val < 64; omega), low_sub, dHalf_at, pHalf_at, slice_low, slice_low]
    rfl
  · rw [dif_neg (show ¬(row 1 r).val < 64 from by show ¬(64 * 1 + r.val < 64); omega), high_sub, dHalf_at, pHalf_at, slice_high, slice_high]
    rfl

theorem accOf_at (old : Vec Ideal S256x128 .f32) (p2 : FVec Ideal S128x256 .bf16) (x2 : FVec Ideal S128x128 .bf16) (c : Fin 256) (l : Fin 128) :
    (accOf old p2 x2 : S256x128.Idx → EReal) (ix2 c l) = old (ix2 c l) + ∑ r : Fin 128, (p2 (ix2 r c) : EReal) * x2 (ix2 r l) := by
  unfold accOf
  pointwise

theorem dqOf_at (ds2 : FVec Ideal S128x256 .bf16) (kw : Vec Ideal S256x128 .bf16) (r : Fin 64) (l : Fin 128) :
    (dqOf ds2 kw : S64x128.Idx → EReal) (ix2 r l) = ∑ c : Fin 256, (ds2 (ix2 (row (half l) r) c) : EReal) * kw (ix2 c l) := by
  unfold dqOf
  pointwise
  by_cases h : l.val < 64
  · rw [(half_zero l).2 h]
    refine (if_pos ((low_at l).2 h)).trans (Finset.sum_congr rfl fun c _ => ?_)
    exact congrArg (fun a => (ds2 (ix2 a c) : EReal) * kw (ix2 c l)) (Fin.ext (by show r.val = 64 * 0 + r.val; omega))
  · rw [(half_one l).2 h]
    refine (if_neg (fun g => h ((low_at l).1 g))).trans (Finset.sum_congr rfl fun c _ => ?_)
    exact congrArg (fun a => (ds2 (ix2 a c) : EReal) * kw (ix2 c l)) (Fin.ext (by show 64 + r.val = 64 * 1 + r.val; omega))

/-! The band: the window's first row and the segment of a strip. -/

/-- The first row of the window of a strip. -/
def base (t : Fin 4) (j : Fin 32) : ℕ := min 7936 (2048 * t.val + 64 * j.val - 64)

def rowW (t : Fin 4) (j : Fin 32) : BitVec 32 := Scalar.addi (Scalar.muli (BitVec.ofNat 32 t.val) 2048#32) (BitVec.ofNat 32 (64 * j.val))
def baseW (t : Fin 4) (j : Fin 32) : BitVec 32 := Scalar.minsi 7936#32 (Scalar.maxsi 0#32 (Scalar.subi (rowW t j) 64#32))
def segW (t : Fin 4) (j : Fin 32) : BitVec 32 :=
  Scalar.muli (Scalar.select (Scalar.andi (Scalar.cmpi .ne (Scalar.subi (Scalar.extui (Scalar.cmpi .sgt (rowW t j) 0#32)) (Scalar.extui (Scalar.cmpi .slt (rowW t j) 0#32)))
    (Scalar.subi (Scalar.extui (Scalar.cmpi .sgt 512#32 0#32)) (Scalar.extui (Scalar.cmpi .slt 512#32 0#32) : BitVec 32)))
    (Scalar.cmpi .ne (Scalar.remsi (rowW t j) 512#32) 0#32)) (Scalar.subi (Scalar.divsi (rowW t j) 512#32) 1#32) (Scalar.divsi (rowW t j) 512#32)) 512#32

theorem baseW_eq : ∀ (t : Fin 4) (j : Fin 32), baseW t j = BitVec.ofNat 32 (base t j) := by decide +kernel
theorem distW_eq : ∀ (t : Fin 4) (j : Fin 32), (Scalar.subi (baseW t j) (rowW t j)).toInt = (base t j : ℤ) - ((2048 * t.val + 64 * j.val : ℕ) : ℤ) := by decide +kernel
theorem segW_eq : ∀ (t : Fin 4) (j : Fin 32), segW t j = BitVec.ofNat 32 (512 * ((2048 * t.val + 64 * j.val) / 512)) := by decide +kernel
theorem segW_end : ∀ (t : Fin 4) (j : Fin 32), Scalar.addi (segW t j) 512#32 = BitVec.ofNat 32 (512 * ((2048 * t.val + 64 * j.val) / 512) + 512) := by decide +kernel

theorem validOf_at (i : grid0.Coords) (t : Fin 4) (ht : (i 1).val = t.val) (j : Fin 32) (r : Fin 64) (c : Fin 256) :
    validOf i j.val (ix2 r c) = 1#1 ↔ Sees (2048 * t.val + 64 * j.val + r.val) (base t j + c.val) := by
  unfold validOf
  pointwise
  rw [ht]
  change IntOp.andi (IntOp.andi (IntOp.cmpi .sle (IntOp.absi (IntOp.addi (IntOp.subi (BitVec.ofNat 32 c.val) (BitVec.ofNat 32 r.val)) (Scalar.subi (baseW t j) (rowW t j)))) 64#32)
    (IntOp.cmpi .sge (IntOp.addi (BitVec.ofNat 32 c.val) (baseW t j)) (segW t j))) (IntOp.cmpi .slt (IntOp.addi (BitVec.ofNat 32 c.val) (baseW t j)) (Scalar.addi (segW t j) 512#32)) = 1#1 ↔ _
  have hb : base t j ≤ 7936 := by unfold base; omega
  have hd := AttnWords.toInt_addi _ _ _ _ (AttnWords.toInt_sub_ofNat c.val r.val (by omega) (by omega)) (distW_eq t j) (by omega) (by omega)
  rw [IntOp.andi_eq_one, IntOp.andi_eq_one, AttnWords.abs_le_iff _ _ hd (by omega) (by omega), segW_end, segW_eq, baseW_eq, AttnWords.addi_ofNat,
    WordCmp.cmpi_sge_ofNat_eq_one_iff (by omega) (by omega), WordCmp.cmpi_slt_ofNat_eq_one_iff (by omega) (by omega)]
  unfold Sees
  push_cast
  omega

theorem off1_eq (t : Fin 4) (j : Fin 32) (i : grid0.Coords) (ht : (i 1).val = t.val) : k0_off1 i (BitVec.ofNat 32 (64 * j.val)) = ![base t j, 0] := by
  have h : ∀ (t : Fin 4) (j : Fin 32), (Scalar.indexCast (baseW t j)).toNat = base t j := by decide +kernel
  rw [← h]
  unfold k0_off1
  rw [ht]
  rfl

end Cert.AttnIdeal.Hand

end
-- ==== Proof.AttnReal.lean ====
/- One strip's gradients over real blocks: a strip adds to every key's row the products of the rows that see it. -/
module

public import proofs.«01_k».proof.Proof.AttnStrip
public import proofs.«01_k».proof.Proof.AttnTile

@[expose] public section

noncomputable section

namespace Cert.AttnIdeal.Hand

open Idealize Idealize.ShloMosaic Idealize.ShloMosaic.TcCoe Idealize.SL.Sem
open Cert.AttnIdeal Cert.AttnIdeal.Gen Cert.AttnMath

/-- Lane `l` of the pair of heads `p`, as a column. -/
def lane (p : Fin 4) (l : Fin 128) : Fin 512 := ⟨128 * p.val + l.val, by omega⟩
/-- Head `e` of the pair. -/
def hd (p : Fin 4) (e : Fin 2) : Fin 8 := ⟨2 * p.val + e.val, by omega⟩
/-- A lane within its head. -/
def sub (l : Fin 128) : Fin 64 := ⟨l.val % 64, by omega⟩
/-- Row `r` of tile `t`. -/
def rowT (t : Fin 4) (r : Fin 2048) : Fin 8192 := ⟨2048 * t.val + r.val, by omega⟩
/-- Row `r` of strip `j` in a tile. -/
def rowS (j : Fin 32) (r : Fin 64) : Fin 2048 := ⟨64 * j.val + r.val, by omega⟩
/-- Row `c` of a strip's window of keys. -/
def key (t : Fin 4) (j : Fin 32) (c : Fin 256) : Fin 8192 := ⟨base t j + c.val, by have : base t j ≤ 7936 := by unfold base; omega
                                                                                   omega⟩

theorem lane_col (p : Fin 4) (l : Fin 128) : lane p l = col (hd p (half l)) (sub l) :=
  Fin.ext (by show 128 * p.val + l.val = 64 * (2 * p.val + l.val / 64) + l.val % 64; omega)
theorem lane_row (p : Fin 4) (e : Fin 2) (d : Fin 64) : lane p (row e d) = col (hd p e) d :=
  Fin.ext (by show 128 * p.val + (64 * e.val + d.val) = 64 * (2 * p.val + e.val) + d.val; omega)
theorem half_row (e : Fin 2) (d : Fin 64) : half (row e d) = e := Fin.ext (by show (64 * e.val + d.val) / 64 = e.val; omega)
theorem sub_row (e : Fin 2) (d : Fin 64) : sub (row e d) = d := Fin.ext (by show (64 * e.val + d.val) % 64 = d.val; omega)

/-- A sum over the pair's rows or lanes, head by head. -/
theorem sum_row {M : Type*} [AddCommMonoid M] (f : Fin 128 → M) : ∑ l : Fin 128, f l = ∑ e : Fin 2, ∑ d : Fin 64, f (row e d) := by
  rw [Idealize.ShloMosaic.Fin.sum_univ_tiles 2 64 rfl f]
  refine Finset.sum_congr rfl fun e _ => Finset.sum_congr rfl fun d _ => congrArg f (Fin.ext ?_)
  show e.val * 64 + d.val = 64 * e.val + d.val; omega

/-- Only the chosen head's entries count. -/
theorem sum_head (e : Fin 2) (f : Fin 2 → Fin 64 → EReal) : (∑ e' : Fin 2, ∑ d : Fin 64, if e' = e then f e' d else 0) = ∑ d : Fin 64, f e d := by
  rw [Finset.sum_eq_single e]
  · exact Finset.sum_congr rfl fun d _ => if_pos rfl
  · intro b _ hb; exact Finset.sum_eq_zero fun d _ => if_neg hb
  · intro h; exact absurd (Finset.mem_univ e) h

/-! ## The blocks of a point, real -/

/-- What the six blocks of a point hold. -/
structure Blocks (A : Args) (p t : Fin 4) (X3 : Vec Ideal S2048x128 .bf16) (X4 X5 : Vec Ideal S8192x128 .bf16) (X6 X7 : Vec Ideal S2048x128 .bf16) (X8 : Vec Ideal S2048x128 .f32) : Prop where
  q : ∀ r l, (X3 (ix2 r l) : EReal) = ((A.q (rowT t r) (lane p l) : ℝ) : EReal)
  k : ∀ K l, (X4 (ix2 K l) : EReal) = ((A.k K (lane p l) : ℝ) : EReal)
  v : ∀ K l, (X5 (ix2 K l) : EReal) = ((A.v K (lane p l) : ℝ) : EReal)
  o : ∀ r l, (X6 (ix2 r l) : EReal) = ((num A (rowT t r) (hd p (half l)) (sub l) / den A (rowT t r) (hd p (half l)) : ℝ) : EReal)
  g : ∀ r l, (X7 (ix2 r l) : EReal) = ((A.g (rowT t r) (lane p l) : ℝ) : EReal)
  l : ∀ r l, (X8 (ix2 r l) : EReal) = ((Real.log (den A (rowT t r) (hd p (half l))) : ℝ) : EReal)

theorem emb_rows (j : Fin 32) (r : Fin 64) (l : Fin 128) : (rowsR j).emb (ix2 r l : S64x128.Idx) = ix2 (rowS j r) l := by
  funext a
  apply Fin.ext
  match a with
  | ⟨0, _⟩ => show 64 * j.val + 1 * r.val = 64 * j.val + r.val; omega
  | ⟨1, _⟩ => show 0 + 1 * l.val = l.val; omega

theorem emb_win (i : grid0.Coords) (t : Fin 4) (ht : (i 1).val = t.val) (j : Fin 32) (c : Fin 256) (l : Fin 128) :
    (winR i j).emb (ix2 c l : S256x128.Idx) = ix2 (key t j c) l := by
  funext a
  apply Fin.ext
  match a with
  | ⟨0, _⟩ =>
    show k0_off1 i (BitVec.ofNat 32 (64 * j.val)) 0 + 1 * c.val = base t j + c.val
    rw [off1_eq t j i ht]; show base t j + 1 * c.val = _; omega
  | ⟨1, _⟩ =>
    show k0_off1 i (BitVec.ofNat 32 (64 * j.val)) 1 + 1 * l.val = l.val
    rw [off1_eq t j i ht]; show 0 + 1 * l.val = _; omega

theorem lseRow_real (e : Fin 2) (lv : Vec Ideal S64x128 .f32) (r : Fin 64) (x : Fin 2 → ℝ) (h : ∀ l, (lv (ix2 r l) : EReal) = ((x (half l) : ℝ) : EReal)) :
    (lseRow (headM e) lv : S64x1.Idx → EReal) (ix2 r 0) = ((x e : ℝ) : EReal) := by
  rw [lseRow_at]
  refine le_antisymm ?_ ?_
  · rw [Finset.fold_max_le]
    refine ⟨bot_le, fun l _ => ?_⟩
    split
    · rename_i g
      rw [h, (headM_at e l).1 g]
    · exact bot_le
  · rw [Finset.le_fold_max]
    refine Or.inr ⟨row e 0, Finset.mem_univ _, ?_⟩
    rw [if_pos ((headM_at e _).2 (half_row e 0)), h, half_row]

section
variable {A : Args} {p t : Fin 4} {X3 : Vec Ideal S2048x128 .bf16} {X4 X5 : Vec Ideal S8192x128 .bf16} {X6 X7 : Vec Ideal S2048x128 .bf16} {X8 : Vec Ideal S2048x128 .f32}
  (B : Blocks A p t X3 X4 X5 X6 X7 X8) (i : grid0.Coords) (ht : (i 1).val = t.val) (j : Fin 32)
include B ht

theorem kw_real (c : Fin 256) (l : Fin 128) : ((gradsFor i X3 X4 X5 X6 X7 X8 j).kw (ix2 c l) : EReal) = ((A.k (key t j c) (lane p l) : ℝ) : EReal) := by
  show (X4 ((winR i j).emb (ix2 c l : S256x128.Idx)) : EReal) = _
  rw [emb_win i t ht]; exact B.k _ _

theorem q2_real (e : Fin 2) (r : Fin 64) (l : Fin 128) :
    ((gradsFor i X3 X4 X5 X6 X7 X8 j).q2 (ix2 (row e r) l) : EReal) = if half l = e then ((A.q (rowT t (rowS j r)) (lane p l) : ℝ) : EReal) else 0 := by
  show (splitHeads (fun x => X3 ((rowsR j).emb x)) : S128x128.Idx → EReal) (ix2 (row e r) l) = _
  rw [splitHeads_at]
  refine if_congr Iff.rfl ?_ rfl
  show (X3 ((rowsR j).emb (ix2 r l : S64x128.Idx)) : EReal) = _
  rw [emb_rows]; exact B.q _ _

theorem do2_real (e : Fin 2) (r : Fin 64) (l : Fin 128) :
    ((gradsFor i X3 X4 X5 X6 X7 X8 j).do2 (ix2 (row e r) l) : EReal) = if half l = e then ((A.g (rowT t (rowS j r)) (lane p l) : ℝ) : EReal) else 0 := by
  show (splitHeads (fun x => X7 ((rowsR j).emb x)) : S128x128.Idx → EReal) (ix2 (row e r) l) = _
  rw [splitHeads_at]
  refine if_congr Iff.rfl ?_ rfl
  show (X7 ((rowsR j).emb (ix2 r l : S64x128.Idx)) : EReal) = _
  rw [emb_rows]; exact B.g _ _

theorem score_real (e : Fin 2) (r : Fin 64) (c : Fin 256) :
    (scoreOf (splitHeads (fun x => X3 ((rowsR j).emb x))) (fun x => X4 ((winR i j).emb x)) : S128x256.Idx → EReal) (ix2 (row e r) c)
      = ((S A (hd p e) (rowT t (rowS j r)) (key t j c) : ℝ) : EReal) := by
  rw [scoreOf_at, sum_row, S, coe_sum, ← sum_head e (fun e' d => ((A.q (rowT t (rowS j r)) (col (hd p e') d) * A.k (key t j c) (col (hd p e') d) : ℝ) : EReal))]
  refine Finset.sum_congr rfl fun e' _ => Finset.sum_congr rfl fun d _ => ?_
  have h1 := q2_real B i ht j e r (row e' d)
  have h2 := kw_real B i ht j c (row e' d)
  refine (congrArg₂ (fun a b : EReal => a * b) h1 h2).trans ?_
  rw [half_row, lane_row]
  split
  · rw [EReal.coe_mul]
  · rw [zero_mul]

theorem dp_real (e : Fin 2) (r : Fin 64) (c : Fin 256) :
    (scoreOf (splitHeads (fun x => X7 ((rowsR j).emb x))) (fun x => X5 ((winR i j).emb x)) : S128x256.Idx → EReal) (ix2 (row e r) c)
      = ((dp A (hd p e) (rowT t (rowS j r)) (key t j c) : ℝ) : EReal) := by
  rw [scoreOf_at, sum_row, dp, coe_sum, ← sum_head e (fun e' d => ((A.g (rowT t (rowS j r)) (col (hd p e') d) * A.v (key t j c) (col (hd p e') d) : ℝ) : EReal))]
  refine Finset.sum_congr rfl fun e' _ => Finset.sum_congr rfl fun d _ => ?_
  have h1 := do2_real B i ht j e r (row e' d)
  have h2 : (X5 ((winR i j).emb (ix2 c (row e' d) : S256x128.Idx)) : EReal) = ((A.v (key t j c) (lane p (row e' d)) : ℝ) : EReal) := by rw [emb_win i t ht]; exact B.v _ _
  refine (congrArg₂ (fun a b : EReal => a * b) h1 h2).trans ?_
  rw [half_row, lane_row]
  split
  · rw [EReal.coe_mul]
  · rw [zero_mul]

theorem lse_real (e : Fin 2) (r : Fin 64) :
    (lseRow (headM e) (fun x => X8 ((rowsR j).emb x)) : S64x1.Idx → EReal) (ix2 r 0) = ((Real.log (den A (rowT t (rowS j r)) (hd p e)) : ℝ) : EReal) := by
  refine lseRow_real e _ r (fun e => Real.log (den A (rowT t (rowS j r)) (hd p e))) fun l => ?_
  show (X8 ((rowsR j).emb (ix2 r l : S64x128.Idx)) : EReal) = _
  rw [emb_rows]; exact B.l _ _

theorem del_real (e : Fin 2) (r : Fin 64) :
    (delRow (headM e) (fun x => X7 ((rowsR j).emb x)) (fun x => X6 ((rowsR j).emb x)) : S64x1.Idx → EReal) (ix2 r 0) = ((delta A (rowT t (rowS j r)) (hd p e) : ℝ) : EReal) := by
  rw [delRow_at, sum_row, delta, coe_sum, ← sum_head e (fun e' d => ((A.g (rowT t (rowS j r)) (col (hd p e') d) * (num A (rowT t (rowS j r)) (hd p e') d / den A (rowT t (rowS j r)) (hd p e')) : ℝ) : EReal))]
  refine Finset.sum_congr rfl fun e' _ => Finset.sum_congr rfl fun d _ => ?_
  refine if_congr ((headM_at e _).trans (by rw [half_row])) ?_ rfl
  have h1 : (X7 ((rowsR j).emb (ix2 r (row e' d) : S64x128.Idx)) : EReal) = ((A.g (rowT t (rowS j r)) (lane p (row e' d)) : ℝ) : EReal) := by rw [emb_rows]; exact B.g _ _
  have h2 : (X6 ((rowsR j).emb (ix2 r (row e' d) : S64x128.Idx)) : EReal) = ((num A (rowT t (rowS j r)) (hd p (half (row e' d))) (sub (row e' d)) / den A (rowT t (rowS j r)) (hd p (half (row e' d))) : ℝ) : EReal) := by
    rw [emb_rows]; exact B.o _ _
  refine (congrArg₂ (fun a b : EReal => a * b) h1 h2).trans ?_
  rw [half_row, lane_row, sub_row, EReal.coe_mul]

theorem exp_real (e : Fin 2) (r : Fin 64) (c : Fin 256) :
    Ideal.exp ((if validOf i j.val (ix2 r c) = 1#1 then ((S A (hd p e) (rowT t (rowS j r)) (key t j c) : ℝ) : EReal) else ⊥) - ((Real.log (den A (rowT t (rowS j r)) (hd p e)) : ℝ) : EReal))
      = ((P A (hd p e) (rowT t (rowS j r)) (key t j c) : ℝ) : EReal) := by
  have hv : validOf i j.val (ix2 r c) = 1#1 ↔ Sees (rowT t (rowS j r)).val (key t j c).val := by
    rw [validOf_at i t ht j r c]
    show Sees (2048 * t.val + 64 * j.val + r.val) _ ↔ Sees (2048 * t.val + (64 * j.val + r.val)) _
    rw [Nat.add_assoc]; exact Iff.rfl
  by_cases h : Sees (rowT t (rowS j r)).val (key t j c).val
  · rw [if_pos (hv.2 h), ← EReal.coe_sub, Ideal.exp_coe, P_exp A _ _ _ h]
  · rw [if_neg (fun g => h (hv.1 g)), P_of_not A _ _ _ h, EReal.bot_sub, Ideal.exp_bot]; rfl

theorem pr2_real (e : Fin 2) (r : Fin 64) (c : Fin 256) :
    ((gradsFor i X3 X4 X5 X6 X7 X8 j).pr2 (ix2 (row e r) c) : EReal) = ((P A (hd p e) (rowT t (rowS j r)) (key t j c) : ℝ) : EReal) := by
  refine (probOf_at (validOf i j.val) (fun x => X7 ((rowsR j).emb x)) (fun x => X6 ((rowsR j).emb x)) (fun x => X8 ((rowsR j).emb x)) (scoreOf (splitHeads (fun x => X3 ((rowsR j).emb x))) (fun x => X4 ((winR i j).emb x))) (scoreOf (splitHeads (fun x => X7 ((rowsR j).emb x))) (fun x => X5 ((winR i j).emb x))) e r c).trans ?_
  refine Eq.trans ?_ (exp_real B i ht j e r c)
  refine congrArg Ideal.exp (congrArg₂ (fun a b : EReal => a - b) (if_congr Iff.rfl (score_real B i ht j e r c) rfl) (lse_real B i ht j e r))

theorem ds2_real (e : Fin 2) (r : Fin 64) (c : Fin 256) :
    ((gradsFor i X3 X4 X5 X6 X7 X8 j).ds2 (ix2 (row e r) c) : EReal) = ((ds A (hd p e) (rowT t (rowS j r)) (key t j c) : ℝ) : EReal) := by
  refine (dscOf_at (validOf i j.val) (fun x => X7 ((rowsR j).emb x)) (fun x => X6 ((rowsR j).emb x)) (fun x => X8 ((rowsR j).emb x)) (scoreOf (splitHeads (fun x => X3 ((rowsR j).emb x))) (fun x => X4 ((winR i j).emb x))) (scoreOf (splitHeads (fun x => X7 ((rowsR j).emb x))) (fun x => X5 ((winR i j).emb x))) e r c).trans ?_
  rw [ds, EReal.coe_mul, EReal.coe_sub]
  refine congrArg₂ (fun a b : EReal => a * b) ?_ (congrArg₂ (fun a b : EReal => a - b) (dp_real B i ht j e r c) (del_real B i ht j e r))
  refine Eq.trans ?_ (exp_real B i ht j e r c)
  refine congrArg Ideal.exp (congrArg₂ (fun a b : EReal => a - b) (if_congr Iff.rfl (score_real B i ht j e r c) rfl) (lse_real B i ht j e r))

end

end Cert.AttnIdeal.Hand

end
-- ==== Proof.AttnFold.lean ====
/- The strips and tiles added up: the gradients of a column over its four tiles. -/
module

public import proofs.«01_k».proof.Proof.AttnReal
public import proofs.«01_k».proof.Proof.AttnData

@[expose] public section

noncomputable section

namespace Cert.AttnIdeal.Hand

open Idealize Idealize.ShloMosaic Idealize.ShloMosaic.TcCoe Idealize.SL.Sem
open Cert.AttnIdeal Cert.AttnIdeal.Gen Cert.AttnMath

/-- A row that a strip's row sees lies in the strip's window. -/
theorem window_of_sees (t : Fin 4) (j : Fin 32) (r : Fin 64) (K : Fin 8192) (h : Sees (rowT t (rowS j r)).val K.val) :
    base t j ≤ K.val ∧ K.val < base t j + 256 := by
  have h' : Sees (2048 * t.val + (64 * j.val + r.val)) K.val := h
  unfold Sees at h'
  unfold base
  omega

/-- A strip's products summed over its window are the products summed over all the keys. -/
theorem sum_window (t : Fin 4) (j : Fin 32) (r : Fin 64) (f : Fin 8192 → ℝ) (h : ∀ K : Fin 8192, ¬Sees (rowT t (rowS j r)).val K.val → f K = 0) :
    ∑ c : Fin 256, f (key t j c) = ∑ K : Fin 8192, f K := by
  refine Finset.sum_of_injOn (key t j) ?_ (fun _ _ => Finset.mem_coe.2 (Finset.mem_univ _)) ?_ (fun _ _ => rfl)
  · intro a _ b _ hab
    have : base t j + a.val = base t j + b.val := congrArg Fin.val hab
    exact Fin.ext (by omega)
  · intro K _ hK
    refine h K fun hs => hK ?_
    obtain ⟨h1, h2⟩ := window_of_sees t j r K hs
    exact ⟨⟨K.val - base t j, by omega⟩, Finset.mem_coe.2 (Finset.mem_univ _), Fin.ext (by show base t j + (K.val - base t j) = K.val; omega)⟩

section
variable {p t : Fin 4} (i : grid0.Coords) (ht : (i 1).val = t.val) (j : Fin 32)

include ht in
theorem step_real (p2 : FVec Ideal S128x256 .bf16) (x2 : FVec Ideal S128x128 .bf16) (w : Fin 8 → Fin 8192 → Fin 8192 → ℝ) (x : Fin 8192 → Fin 512 → ℝ)
    (hp : ∀ (e : Fin 2) (r : Fin 64) (c : Fin 256), (p2 (ix2 (row e r) c) : EReal) = ((w (hd p e) (rowT t (rowS j r)) (key t j c) : ℝ) : EReal))
    (hx : ∀ (e : Fin 2) (r : Fin 64) (l : Fin 128), (x2 (ix2 (row e r) l) : EReal) = if half l = e then ((x (rowT t (rowS j r)) (lane p l) : ℝ) : EReal) else 0)
    (hw : ∀ h i k, ¬Sees (Fin.val i) (Fin.val k) → w h i k = 0) (b : Vec Ideal S8192x128 .f32) (K : Fin 8192) (l : Fin 128) :
    (putR (winR i j) b (accOf (fun x => b ((winR i j).emb x)) p2 x2) (ix2 K l : S8192x128.Idx) : EReal)
      = b (ix2 K l) + ((∑ r : Fin 64, w (hd p (half l)) (rowT t (rowS j r)) K * x (rowT t (rowS j r)) (lane p l) : ℝ) : EReal) := by
  by_cases hk : ∃ c : Fin 256, key t j c = K
  · obtain ⟨c, rfl⟩ := hk
    rw [← emb_win i t ht j c l, putR_hit]
    refine (accOf_at _ p2 x2 c l).trans ?_
    refine congrArg (fun a : EReal => b ((winR i j).emb (ix2 c l : S256x128.Idx)) + a) ?_
    rw [sum_row, coe_sum, ← sum_head (half l) (fun e' r => ((w (hd p e') (rowT t (rowS j r)) (key t j c) * x (rowT t (rowS j r)) (lane p l) : ℝ) : EReal))]
    refine Finset.sum_congr rfl fun e' _ => Finset.sum_congr rfl fun r _ => ?_
    rw [hp, hx]
    by_cases he : half l = e'
    · rw [if_pos he, if_pos he.symm, EReal.coe_mul]
    · rw [if_neg he, if_neg (fun g => he g.symm), mul_zero]
  · rw [putR_miss]
    · rw [Finset.sum_eq_zero, EReal.coe_zero, add_zero]
      intro r _
      rw [hw _ _ _ (fun hs => hk ?_), zero_mul]
      obtain ⟨h1, h2⟩ := window_of_sees t j r K hs
      exact ⟨⟨K.val - base t j, by omega⟩, Fin.ext (by show base t j + (K.val - base t j) = K.val; omega)⟩
    · intro y hy
      have h0 : ((winR i j).emb y 0).val = K.val := by rw [hy]; rfl
      have h1 : ((winR i j).emb y 0).val = k0_off1 i (BitVec.ofNat 32 (64 * j.val)) 0 + 1 * (y 0).val := rfl
      rw [off1_eq t j i ht] at h1
      have h1' : ((winR i j).emb y 0).val = base t j + 1 * (y 0).val := h1
      exact hk ⟨⟨(y 0).val, (y 0).isLt⟩, Fin.ext (by show base t j + (y 0).val = K.val; omega)⟩

end

/-- Steps that each add a real number at a place leave there the sum of them all. -/
theorem foldl_add {ι β : Type} (step : Vec Ideal S8192x128 .f32 → β → Vec Ideal S8192x128 .f32) (G : ι → β) (f : ι → ℝ) (y : S8192x128.Idx)
    (h : ∀ b j, (step b (G j) y : EReal) = b y + ((f j : ℝ) : EReal)) (js : List ι) :
    ∀ b : Vec Ideal S8192x128 .f32, ((js.map G).foldl step b y : EReal) = b y + (((js.map f).sum : ℝ) : EReal) := by
  induction js with
  | nil => intro b; simp
  | cons j js ih =>
    intro b
    rw [List.map_cons, List.foldl_cons, ih, h, List.map_cons, List.sum_cons, EReal.coe_add, add_assoc]

theorem strips_sum (f : Fin 32 → ℝ) : (strips.map f).sum = ∑ j : Fin 32, f j := by
  rw [Fin.sum_univ_def]
  congr 2

/-- One tile's part of a sum over the rows. -/
def tileSum (t : Fin 4) (f : Fin 8192 → ℝ) : ℝ := ∑ j : Fin 32, ∑ r : Fin 64, f (rowT t (rowS j r))

theorem sum_tiles4 (f : Fin 8192 → ℝ) : tileSum 0 f + tileSum 1 f + tileSum 2 f + tileSum 3 f = ∑ i : Fin 8192, f i := by
  have h : ∀ t : Fin 4, tileSum t f = ∑ r : Fin 2048, f (rowT t r) := fun t => by
    rw [tileSum, Idealize.ShloMosaic.Fin.sum_univ_tiles 32 64 rfl (fun r : Fin 2048 => f (rowT t r))]
    refine Finset.sum_congr rfl fun j _ => Finset.sum_congr rfl fun r _ => congrArg (fun a => f (rowT t a)) (Fin.ext ?_)
    show 64 * j.val + r.val = j.val * 64 + r.val; omega
  rw [h, h, h, h, Idealize.ShloMosaic.Fin.sum_univ_tiles 4 2048 rfl f, Fin.sum_univ_four]
  have e : ∀ t : Fin 4, (∑ r : Fin 2048, f (rowT t r)) = ∑ r : Fin 2048, f ⟨t.val * 2048 + r.val, by omega⟩ := fun t =>
    Finset.sum_congr rfl fun r _ => congrArg f (Fin.ext (by show 2048 * t.val + r.val = t.val * 2048 + r.val; omega))
  rw [e, e, e, e]

variable {A : Args} {p t : Fin 4} {X3 : Vec Ideal S2048x128 .bf16} {X4 X5 : Vec Ideal S8192x128 .bf16} {X6 X7 : Vec Ideal S2048x128 .bf16} {X8 : Vec Ideal S2048x128 .f32}
  (B : Blocks A p t X3 X4 X5 X6 X7 X8) (i : grid0.Coords) (ht : (i 1).val = t.val)
include B ht

/-- A tile adds to the values' gradient, -/
theorem foldl_dv (b : Vec Ideal S8192x128 .f32) (K : Fin 8192) (l : Fin 128) :
    ((tileGrads i X3 X4 X5 X6 X7 X8).foldl (dvStep i) b (ix2 K l : S8192x128.Idx) : EReal)
      = b (ix2 K l) + ((tileSum t (fun R => P A (hd p (half l)) R K * A.g R (lane p l)) : ℝ) : EReal) := by
  unfold tileGrads
  rw [foldl_add (dvStep i) (gradsFor i X3 X4 X5 X6 X7 X8) (fun j => ∑ r : Fin 64, P A (hd p (half l)) (rowT t (rowS j r)) K * A.g (rowT t (rowS j r)) (lane p l)) _ ?_ strips b, strips_sum]
  · rfl
  · intro b j
    exact step_real i ht j _ _ (P A) A.g (pr2_real B i ht j) (do2_real B i ht j) (P_of_not A) b K l

/-- and to the keys' gradient, the products of its rows. -/
theorem foldl_dk (b : Vec Ideal S8192x128 .f32) (K : Fin 8192) (l : Fin 128) :
    ((tileGrads i X3 X4 X5 X6 X7 X8).foldl (dkStep i) b (ix2 K l : S8192x128.Idx) : EReal)
      = b (ix2 K l) + ((tileSum t (fun R => ds A (hd p (half l)) R K * A.q R (lane p l)) : ℝ) : EReal) := by
  unfold tileGrads
  rw [foldl_add (dkStep i) (gradsFor i X3 X4 X5 X6 X7 X8) (fun j => ∑ r : Fin 64, ds A (hd p (half l)) (rowT t (rowS j r)) K * A.q (rowT t (rowS j r)) (lane p l)) _ ?_ strips b, strips_sum]
  · rfl
  · intro b j
    exact step_real i ht j _ _ (ds A) A.q (ds2_real B i ht j) (q2_real B i ht j) (ds_of_not A) b K l

/-- The queries' gradient over a tile. -/
theorem dqTile_real (r : Fin 2048) (l : Fin 128) :
    (dqTile i X3 X4 X5 X6 X7 X8 (ix2 r l : S2048x128.Idx) : EReal) = ((dq A (rowT t r) (hd p (half l)) (sub l) : ℝ) : EReal) := by
  have hr : r = rowS ⟨r.val / 64, by omega⟩ ⟨r.val % 64, by omega⟩ := Fin.ext (by show r.val = 64 * (r.val / 64) + r.val % 64; omega)
  have hc : dqTile i X3 X4 X5 X6 X7 X8 (ix2 r l : S2048x128.Idx)
      = dqOf (gradsFor i X3 X4 X5 X6 X7 X8 ⟨r.val / 64, by omega⟩).ds2 (gradsFor i X3 X4 X5 X6 X7 X8 ⟨r.val / 64, by omega⟩).kw (ix2 (⟨r.val % 64, by omega⟩ : Fin 64) l) := by
    unfold dqTile
    refine congrArg _ (funext fun a => ?_)
    match a with
    | ⟨0, _⟩ => rfl
    | ⟨1, _⟩ => rfl
  rw [hc, dqOf_at, dq, ← lane_col]
  conv_rhs => rw [hr]
  rw [← sum_window t ⟨r.val / 64, by omega⟩ ⟨r.val % 64, by omega⟩ _ (fun K hK => by rw [ds_of_not A _ _ _ hK, zero_mul]), coe_sum]
  refine Finset.sum_congr rfl fun c _ => ?_
  rw [ds2_real B i ht, kw_real B i ht, EReal.coe_mul]

end Cert.AttnIdeal.Hand

end
-- ==== Proof.AttnValue.lean ====
/- The attention gradient's kernel over real arguments: its blocks, its accumulators after the last tile of a column,
   and the three arrays it leaves. -/
module

public import proofs.«01_k».proof.Proof.AttnHost
public import proofs.«01_k».proof.Proof.AttnFold
public import Idealize.ShloMosaic.Lib.Pipeline.Value

@[expose] public section

noncomputable section

namespace Cert.AttnIdeal.Hand

open Idealize Idealize.ShloMosaic Idealize.ShloMosaic.TcCoe Idealize.SL.Sem
open Cert.AttnIdeal Cert.AttnIdeal.Gen Cert.AttnMath
open Cert.AttnReferenceIdeal.Hand (Reals)

variable (m : (ℓ : Loc nD τ sig) → Buf (Elt Ideal) ℓ) (c : Dev nD)

theorem idx1 : ∀ t : Fin cfg0.N, win0_1.index t (0 : Fin 2) = t.val % 4 ∧ win0_1.index t (1 : Fin 2) = t.val / 4 :=
  (by decide +kernel : ∀ t : Fin grid0.N, _)
theorem idx2 : ∀ t : Fin cfg0.N, win0_2.index t (0 : Fin 2) = 0 ∧ win0_2.index t (1 : Fin 2) = t.val / 4 :=
  (by decide +kernel : ∀ t : Fin grid0.N, _)
theorem idx3 : ∀ t : Fin cfg0.N, win0_3.index t (0 : Fin 2) = 0 ∧ win0_3.index t (1 : Fin 2) = t.val / 4 :=
  (by decide +kernel : ∀ t : Fin grid0.N, _)
theorem idx4 : ∀ t : Fin cfg0.N, win0_4.index t (0 : Fin 2) = t.val % 4 ∧ win0_4.index t (1 : Fin 2) = t.val / 4 :=
  (by decide +kernel : ∀ t : Fin grid0.N, _)
theorem idx5 : ∀ t : Fin cfg0.N, win0_5.index t (0 : Fin 2) = t.val % 4 ∧ win0_5.index t (1 : Fin 2) = t.val / 4 :=
  (by decide +kernel : ∀ t : Fin grid0.N, _)
theorem idx6 : ∀ t : Fin cfg0.N, win0_6.index t (0 : Fin 2) = t.val % 4 ∧ win0_6.index t (1 : Fin 2) = t.val / 4 :=
  (by decide +kernel : ∀ t : Fin grid0.N, _)
theorem idx7 : ∀ t : Fin cfg0.N, win0_7.index t (0 : Fin 2) = t.val % 4 ∧ win0_7.index t (1 : Fin 2) = t.val / 4 :=
  (by decide +kernel : ∀ t : Fin grid0.N, _)
theorem idx8 : ∀ t : Fin cfg0.N, win0_8.index t (0 : Fin 2) = 0 ∧ win0_8.index t (1 : Fin 2) = t.val / 4 :=
  (by decide +kernel : ∀ t : Fin grid0.N, _)
theorem idx9 : ∀ t : Fin cfg0.N, win0_9.index t (0 : Fin 2) = 0 ∧ win0_9.index t (1 : Fin 2) = t.val / 4 :=
  (by decide +kernel : ∀ t : Fin grid0.N, _)

theorem tile_coord (t : Fin cfg0.N) : (grid0.coords t 1).val = t.val % 4 := by
  have e : (grid0.coords t 1).val = t.val / 1 % 4 := Pipeline.Grid.coords_val t 1 (by decide) rfl
  rw [e, Nat.div_one]

/-! ## The blocks a point reads -/

theorem blk1 (t : Fin cfg0.N) (p s : Fin 4) (h : t.val = 4 * p.val + s.val) (k : Fin 2048) (l : Fin 128) :
    (iblk m c 1 t : S2048x128.Idx → EReal) (ix2 k l) = (qA m c : S8192x512.Idx → EReal) (ix2 (rowT s k) (lane p l)) := by
  unfold iblk
  rw [View.read_apply]
  show V m c main_arg0 _ = m (c.tc.loc main_arg0) _
  rw [V_main_arg0]
  congr 1
  funext a
  apply Fin.ext
  match a with
  | ⟨0, _⟩ => show win0_1.index t 0 * 2048 + 1 * k.val = 2048 * s.val + k.val; rw [(idx1 t).1]; omega
  | ⟨1, _⟩ => show win0_1.index t 1 * 128 + 1 * l.val = 128 * p.val + l.val; rw [(idx1 t).2]; omega

theorem blk2 (t : Fin cfg0.N) (p s : Fin 4) (h : t.val = 4 * p.val + s.val) (k : Fin 8192) (l : Fin 128) :
    (iblk m c 2 t : S8192x128.Idx → EReal) (ix2 k l) = (kA m c : S8192x512.Idx → EReal) (ix2 (k) (lane p l)) := by
  unfold iblk
  rw [View.read_apply]
  show V m c main_arg1 _ = m (c.tc.loc main_arg1) _
  rw [V_main_arg1]
  congr 1
  funext a
  apply Fin.ext
  match a with
  | ⟨0, _⟩ => show win0_2.index t 0 * 8192 + 1 * k.val = k.val; rw [(idx2 t).1]; omega
  | ⟨1, _⟩ => show win0_2.index t 1 * 128 + 1 * l.val = 128 * p.val + l.val; rw [(idx2 t).2]; omega

theorem blk3 (t : Fin cfg0.N) (p s : Fin 4) (h : t.val = 4 * p.val + s.val) (k : Fin 8192) (l : Fin 128) :
    (iblk m c 3 t : S8192x128.Idx → EReal) (ix2 k l) = (vA m c : S8192x512.Idx → EReal) (ix2 (k) (lane p l)) := by
  unfold iblk
  rw [View.read_apply]
  show V m c main_arg2 _ = m (c.tc.loc main_arg2) _
  rw [V_main_arg2]
  congr 1
  funext a
  apply Fin.ext
  match a with
  | ⟨0, _⟩ => show win0_3.index t 0 * 8192 + 1 * k.val = k.val; rw [(idx3 t).1]; omega
  | ⟨1, _⟩ => show win0_3.index t 1 * 128 + 1 * l.val = 128 * p.val + l.val; rw [(idx3 t).2]; omega

theorem blk4 (t : Fin cfg0.N) (p s : Fin 4) (h : t.val = 4 * p.val + s.val) (k : Fin 2048) (l : Fin 128) :
    (iblk m c 4 t : S2048x128.Idx → EReal) (ix2 k l) = (V m c main_v48 : S8192x512.Idx → EReal) (ix2 (rowT s k) (lane p l)) := by
  unfold iblk
  rw [View.read_apply]
  show V m c main_v48 _ = V m c main_v48 _
  congr 1
  funext a
  apply Fin.ext
  match a with
  | ⟨0, _⟩ => show win0_4.index t 0 * 2048 + 1 * k.val = 2048 * s.val + k.val; rw [(idx4 t).1]; omega
  | ⟨1, _⟩ => show win0_4.index t 1 * 128 + 1 * l.val = 128 * p.val + l.val; rw [(idx4 t).2]; omega

theorem blk5 (t : Fin cfg0.N) (p s : Fin 4) (h : t.val = 4 * p.val + s.val) (k : Fin 2048) (l : Fin 128) :
    (iblk m c 5 t : S2048x128.Idx → EReal) (ix2 k l) = (gA m c : S8192x512.Idx → EReal) (ix2 (rowT s k) (lane p l)) := by
  unfold iblk
  rw [View.read_apply]
  show V m c main_arg3 _ = m (c.tc.loc main_arg3) _
  rw [V_main_arg3]
  congr 1
  funext a
  apply Fin.ext
  match a with
  | ⟨0, _⟩ => show win0_5.index t 0 * 2048 + 1 * k.val = 2048 * s.val + k.val; rw [(idx5 t).1]; omega
  | ⟨1, _⟩ => show win0_5.index t 1 * 128 + 1 * l.val = 128 * p.val + l.val; rw [(idx5 t).2]; omega

theorem blk6 (t : Fin cfg0.N) (p s : Fin 4) (h : t.val = 4 * p.val + s.val) (k : Fin 2048) (l : Fin 128) :
    (iblk m c 6 t : S2048x128.Idx → EReal) (ix2 k l) = (V m c main_v52 : S8192x512.Idx → EReal) (ix2 (rowT s k) (lane p l)) := by
  unfold iblk
  rw [View.read_apply]
  show V m c main_v52 _ = V m c main_v52 _
  congr 1
  funext a
  apply Fin.ext
  match a with
  | ⟨0, _⟩ => show win0_6.index t 0 * 2048 + 1 * k.val = 2048 * s.val + k.val; rw [(idx6 t).1]; omega
  | ⟨1, _⟩ => show win0_6.index t 1 * 128 + 1 * l.val = 128 * p.val + l.val; rw [(idx6 t).2]; omega

theorem pay3_at (x : Vec Ideal S8192x128 .f32) (K : Fin 8192) (l : Fin 128) : (k0_pay3 (F := Ideal) x (ix2 K l) : EReal) = x (ix2 K l) := by
  unfold k0_pay3
  pointwise
theorem pay4_at (x : Vec Ideal S8192x128 .f32) (K : Fin 8192) (l : Fin 128) : (k0_pay4 (F := Ideal) x (ix2 K l) : EReal) = x (ix2 K l) := by
  unfold k0_pay4
  pointwise
theorem pay5_at (K : Fin 8192) (l : Fin 128) : (k0_pay5 (F := Ideal) (ix2 K l) : EReal) = 0 := by
  unfold k0_pay5
  pointwise
theorem pay6_at (K : Fin 8192) (l : Fin 128) : (k0_pay6 (F := Ideal) (ix2 K l) : EReal) = 0 := by
  unfold k0_pay6
  pointwise

section
variable {A : Args} (B : Reals A (qA m c) (kA m c) (vA m c) (gA m c) (o1A m c) (l1A m c) (o2A m c) (l2A m c))
include B

theorem blocks (t : Fin cfg0.N) (p s : Fin 4) (h : t.val = 4 * p.val + s.val) :
    Blocks A p s (iblk m c 1 t) (iblk m c 2 t) (iblk m c 3 t) (iblk m c 4 t) (iblk m c 5 t) (iblk m c 6 t) where
  q r l := (blk1 m c t p s h r l).trans (B.q _ _)
  k K l := (blk2 m c t p s h K l).trans (B.k _ _)
  v K l := (blk3 m c t p s h K l).trans (B.v _ _)
  o r l := (blk4 m c t p s h r l).trans (by rw [lane_col]; exact v48_real m c B _ _ _)
  g r l := (blk5 m c t p s h r l).trans (B.g _ _)
  l r l := (blk6 m c t p s h r l).trans (by rw [lane_col]; exact v52_real m c B _ _ _)

/-! ## The accumulators -/

/-- One tile's step. -/
theorem step_acc (t : Fin cfg0.N) (p s : Fin 4) (h : t.val = 4 * p.val + s.val) (x : Vec Ideal S8192x128 .f32 × Vec Ideal S8192x128 .f32) (K : Fin 8192) (l : Fin 128) :
    ((stepT m c t x).1 (ix2 K l : S8192x128.Idx) : EReal) = x.1 (ix2 K l) + ((tileSum s (fun R => ds A (hd p (half l)) R K * A.q R (lane p l)) : ℝ) : EReal)
      ∧ ((stepT m c t x).2 (ix2 K l : S8192x128.Idx) : EReal) = x.2 (ix2 K l) + ((tileSum s (fun R => P A (hd p (half l)) R K * A.g R (lane p l)) : ℝ) : EReal) := by
  have ht : (grid0.coords t 1).val = s.val := by rw [tile_coord]; omega
  have hb := blocks m c B t p s h
  unfold stepT gradsT
  dsimp only
  generalize iblk m c 1 t = X3 at hb ⊢
  generalize iblk m c 2 t = X4 at hb ⊢
  generalize iblk m c 3 t = X5 at hb ⊢
  generalize iblk m c 4 t = X6 at hb ⊢
  generalize iblk m c 5 t = X7 at hb ⊢
  generalize iblk m c 6 t = X8 at hb ⊢
  refine ⟨?_, ?_⟩
  · exact foldl_dk hb (grid0.coords t) ht x.1 K l
  · exact foldl_dv hb (grid0.coords t) ht x.2 K l

/-- After a column's last tile the accumulators hold the keys' and the values' gradients. -/
theorem acc_last (p : Fin 4) (h3 : 4 * p.val + 3 < cfg0.N) (K : Fin 8192) (l : Fin 128) :
    ((accAt m c (4 * p.val + 3) h3).1 (ix2 K l : S8192x128.Idx) : EReal) = ((dk A K (hd p (half l)) (sub l) : ℝ) : EReal)
      ∧ ((accAt m c (4 * p.val + 3) h3).2 (ix2 K l : S8192x128.Idx) : EReal) = ((dv A K (hd p (half l)) (sub l) : ℝ) : EReal) := by
  have e0 := accAt_first m c ⟨4 * p.val, by omega⟩ (by show 4 * p.val % 4 = 0; omega)
  have e1 := accAt_later m c ⟨4 * p.val + 1, by omega⟩ (by show ¬(4 * p.val + 1) % 4 = 0; omega)
  have e2 := accAt_later m c ⟨4 * p.val + 2, by omega⟩ (by show ¬(4 * p.val + 2) % 4 = 0; omega)
  have e3 := accAt_later m c ⟨4 * p.val + 3, h3⟩ (by show ¬(4 * p.val + 3) % 4 = 0; omega)
  have s0 := step_acc m c B ⟨4 * p.val, by omega⟩ p 0 rfl ((k0_pay5 (F := Ideal), k0_pay6 (F := Ideal)) : Vec Ideal S8192x128 .f32 × Vec Ideal S8192x128 .f32) K l
  have s1 := step_acc m c B ⟨4 * p.val + 1, by omega⟩ p 1 rfl (accAt m c (4 * p.val) (by omega)) K l
  have s2 := step_acc m c B ⟨4 * p.val + 2, by omega⟩ p 2 rfl (accAt m c (4 * p.val + 1) (by omega)) K l
  have s3 := step_acc m c B ⟨4 * p.val + 3, h3⟩ p 3 rfl (accAt m c (4 * p.val + 2) (by omega)) K l
  rw [← e0] at s0
  have e1' : accAt m c (4 * p.val + 1) (by omega) = stepT m c ⟨4 * p.val + 1, by omega⟩ (accAt m c (4 * p.val) (by omega)) := e1
  have e2' : accAt m c (4 * p.val + 2) (by omega) = stepT m c ⟨4 * p.val + 2, by omega⟩ (accAt m c (4 * p.val + 1) (by omega)) := e2
  have e3' : accAt m c (4 * p.val + 3) h3 = stepT m c ⟨4 * p.val + 3, h3⟩ (accAt m c (4 * p.val + 2) (by omega)) := e3
  rw [← e1'] at s1
  rw [← e2'] at s2
  rw [← e3'] at s3
  refine ⟨?_, ?_⟩
  · rw [s3.1, s2.1, s1.1, s0.1]
    dsimp only
    rw [pay5_at, zero_add, ← EReal.coe_add, ← EReal.coe_add, ← EReal.coe_add, sum_tiles4, dk, ← lane_col]
  · rw [s3.2, s2.2, s1.2, s0.2]
    dsimp only
    rw [pay6_at, zero_add, ← EReal.coe_add, ← EReal.coe_add, ← EReal.coe_add, sum_tiles4, dv, ← lane_col]
end

/-! ## The three arrays -/

theorem inj7 : ∀ t t' : Fin cfg0.N, (cfg0.win 7).flush t = true → (cfg0.win 7).flush t' = true → (cfg0.win 7).index t = (cfg0.win 7).index t' → t = t' := by
  intro t t' hf hf' e
  have e0 : win0_7.index t (0 : Fin 2) = win0_7.index t' (0 : Fin 2) := congrFun e 0
  have e1 : win0_7.index t (1 : Fin 2) = win0_7.index t' (1 : Fin 2) := congrFun e 1
  rw [(idx7 t).1, (idx7 t').1] at e0
  rw [(idx7 t).2, (idx7 t').2] at e1
  exact Fin.ext (by omega)
theorem array7 (t : Fin cfg0.N) (p s : Fin 4) (h : t.val = 4 * p.val + s.val) (k : Fin 2048) (l : Fin 128) :
    ((dats m 0 c).arrAt 7 cfg0.N : S8192x512.Idx → EReal) (ix2 (rowT s k) (lane p l)) = (dqAt m c t : S2048x128.Idx → EReal) (ix2 k l) := by
  have e := congrFun ((dats m 0 c).read_blk_arrAt_eq_flushed 7 (fun t t' hf hf' hne => (cfg0.win 7).disjoint_blk fun h => hne (inj7 t t' hf hf' h)) cfg0.N t t.isLt (flush0_7 t)) (ix2 k l : S2048x128.Idx)
  rw [View.read_apply] at e
  have he : ((cfg0.win 7).blk t).view.emb (ix2 k l : S2048x128.Idx) = (ix2 (rowT s k) (lane p l) : S8192x512.Idx) := by
    funext a
    apply Fin.ext
    match a with
    | ⟨0, _⟩ => show win0_7.index t 0 * 2048 + 1 * k.val = 2048 * s.val + k.val; rw [(idx7 t).1]; omega
    | ⟨1, _⟩ => show win0_7.index t 1 * 128 + 1 * l.val = 128 * p.val + l.val; rw [(idx7 t).2]; omega
  refine Eq.trans (congrArg ((dats m 0 c).arrAt 7 cfg0.N : S8192x512.Idx → EReal) he.symm) ?_
  refine Eq.trans e ?_
  show (cfg0.win 7).cut (grid0.coords t) ((dats m 0 c).after 7 t) (ix2 k l) = _
  rw [after0_7]
  rfl

theorem inj8 : ∀ t t' : Fin cfg0.N, (cfg0.win 8).flush t = true → (cfg0.win 8).flush t' = true → (cfg0.win 8).index t = (cfg0.win 8).index t' → t = t' := by
  intro t t' hf hf' e
  have e1 : win0_8.index t (1 : Fin 2) = win0_8.index t' (1 : Fin 2) := congrFun e 1
  rw [(idx8 t).2, (idx8 t').2] at e1
  have := (flush0_8 t).1 hf
  have := (flush0_8 t').1 hf'
  exact Fin.ext (by omega)
set_option maxRecDepth 16384 in
theorem array8 (t : Fin cfg0.N) (p : Fin 4) (h : t.val = 4 * p.val + 3) (k : Fin 8192) (l : Fin 128) :
    ((dats m 0 c).arrAt 8 cfg0.N : S8192x512.Idx → EReal) (ix2 (k) (lane p l)) = (k0_pay3 (accAt m c t.val t.isLt).1 : S8192x128.Idx → EReal) (ix2 k l) := by
  have e := congrFun ((dats m 0 c).read_blk_arrAt_eq_flushed 8 (fun t t' hf hf' hne => (cfg0.win 8).disjoint_blk fun h => hne (inj8 t t' hf hf' h)) cfg0.N t t.isLt ((flush0_8 t).2 (by omega))) (ix2 k l : S8192x128.Idx)
  rw [View.read_apply] at e
  have he : ((cfg0.win 8).blk t).view.emb (ix2 k l : S8192x128.Idx) = (ix2 (k) (lane p l) : S8192x512.Idx) := by
    funext a
    apply Fin.ext
    match a with
    | ⟨0, _⟩ => show win0_8.index t 0 * 8192 + 1 * k.val = k.val; rw [(idx8 t).1]; omega
    | ⟨1, _⟩ => show win0_8.index t 1 * 128 + 1 * l.val = 128 * p.val + l.val; rw [(idx8 t).2]; omega
  refine Eq.trans (congrArg ((dats m 0 c).arrAt 8 cfg0.N : S8192x512.Idx → EReal) he.symm) ?_
  refine Eq.trans e ?_
  show (cfg0.win 8).cut (grid0.coords t) ((dats m 0 c).after 8 t) (ix2 k l) = _
  rw [after0_8]
  rfl

theorem inj9 : ∀ t t' : Fin cfg0.N, (cfg0.win 9).flush t = true → (cfg0.win 9).flush t' = true → (cfg0.win 9).index t = (cfg0.win 9).index t' → t = t' := by
  intro t t' hf hf' e
  have e1 : win0_9.index t (1 : Fin 2) = win0_9.index t' (1 : Fin 2) := congrFun e 1
  rw [(idx9 t).2, (idx9 t').2] at e1
  have := (flush0_9 t).1 hf
  have := (flush0_9 t').1 hf'
  exact Fin.ext (by omega)
set_option maxRecDepth 16384 in
theorem array9 (t : Fin cfg0.N) (p : Fin 4) (h : t.val = 4 * p.val + 3) (k : Fin 8192) (l : Fin 128) :
    ((dats m 0 c).arrAt 9 cfg0.N : S8192x512.Idx → EReal) (ix2 (k) (lane p l)) = (k0_pay4 (accAt m c t.val t.isLt).2 : S8192x128.Idx → EReal) (ix2 k l) := by
  have e := congrFun ((dats m 0 c).read_blk_arrAt_eq_flushed 9 (fun t t' hf hf' hne => (cfg0.win 9).disjoint_blk fun h => hne (inj9 t t' hf hf' h)) cfg0.N t t.isLt ((flush0_9 t).2 (by omega))) (ix2 k l : S8192x128.Idx)
  rw [View.read_apply] at e
  have he : ((cfg0.win 9).blk t).view.emb (ix2 k l : S8192x128.Idx) = (ix2 (k) (lane p l) : S8192x512.Idx) := by
    funext a
    apply Fin.ext
    match a with
    | ⟨0, _⟩ => show win0_9.index t 0 * 8192 + 1 * k.val = k.val; rw [(idx9 t).1]; omega
    | ⟨1, _⟩ => show win0_9.index t 1 * 128 + 1 * l.val = 128 * p.val + l.val; rw [(idx9 t).2]; omega
  refine Eq.trans (congrArg ((dats m 0 c).arrAt 9 cfg0.N : S8192x512.Idx → EReal) he.symm) ?_
  refine Eq.trans e ?_
  show (cfg0.win 9).cut (grid0.coords t) ((dats m 0 c).after 9 t) (ix2 k l) = _
  rw [after0_9]
  rfl

section
variable {A : Args} (B : Reals A (qA m c) (kA m c) (vA m c) (gA m c) (o1A m c) (l1A m c) (o2A m c) (l2A m c))
include B

theorem lane_of (h : Fin 8) (d : Fin 64) : col h d = lane ⟨h.val / 2, by omega⟩ ⟨64 * (h.val % 2) + d.val, by omega⟩ :=
  Fin.ext (by show 64 * h.val + d.val = 128 * (h.val / 2) + (64 * (h.val % 2) + d.val); omega)
theorem hd_of (h : Fin 8) (d : Fin 64) : hd ⟨h.val / 2, by omega⟩ (half ⟨64 * (h.val % 2) + d.val, by omega⟩) = h :=
  Fin.ext (by show 2 * (h.val / 2) + (64 * (h.val % 2) + d.val) / 64 = h.val; omega)
theorem sub_of (h : Fin 8) (d : Fin 64) : sub ⟨64 * (h.val % 2) + d.val, by omega⟩ = d :=
  Fin.ext (by show (64 * (h.val % 2) + d.val) % 64 = d.val; omega)

/-- The queries' gradient, -/
theorem result7 (R : Fin 8192) (h : Fin 8) (d : Fin 64) : ((dats m 0 c).arrAt 7 cfg0.N : S8192x512.Idx → EReal) (ix2 R (col h d)) = ((dq A R h d : ℝ) : EReal) := by
  have hN : cfg0.N = 16 := N_0
  have hR : R = rowT ⟨R.val / 2048, by omega⟩ ⟨R.val % 2048, by omega⟩ := Fin.ext (by show R.val = 2048 * (R.val / 2048) + R.val % 2048; omega)
  have ht : 4 * (h.val / 2) + R.val / 2048 < cfg0.N := by omega
  have e := array7 m c ⟨4 * (h.val / 2) + R.val / 2048, ht⟩ ⟨h.val / 2, by omega⟩ ⟨R.val / 2048, by omega⟩ rfl ⟨R.val % 2048, by omega⟩ ⟨64 * (h.val % 2) + d.val, by omega⟩
  rw [← hR, ← lane_of m c B h d] at e
  refine e.trans ?_
  have hc : (grid0.coords ⟨4 * (h.val / 2) + R.val / 2048, ht⟩ 1).val = R.val / 2048 := by
    rw [tile_coord]; show (4 * (h.val / 2) + R.val / 2048) % 4 = R.val / 2048; omega
  refine (dqTile_real (blocks m c B ⟨4 * (h.val / 2) + R.val / 2048, ht⟩ ⟨h.val / 2, by omega⟩ ⟨R.val / 2048, by omega⟩ rfl) _ hc ⟨R.val % 2048, by omega⟩ ⟨64 * (h.val % 2) + d.val, by omega⟩).trans ?_
  rw [hd_of m c B h d, sub_of m c B h d, ← hR]

/-- the keys', -/
theorem result8 (K : Fin 8192) (h : Fin 8) (d : Fin 64) : ((dats m 0 c).arrAt 8 cfg0.N : S8192x512.Idx → EReal) (ix2 K (col h d)) = ((dk A K h d : ℝ) : EReal) := by
  have hN : cfg0.N = 16 := N_0
  have ht : 4 * (h.val / 2) + 3 < cfg0.N := by omega
  have e := array8 m c ⟨4 * (h.val / 2) + 3, ht⟩ ⟨h.val / 2, by omega⟩ rfl K ⟨64 * (h.val % 2) + d.val, by omega⟩
  rw [← lane_of m c B h d] at e
  refine e.trans ((pay3_at _ _ _).trans ?_)
  refine ((acc_last m c B ⟨h.val / 2, by omega⟩ ht K ⟨64 * (h.val % 2) + d.val, by omega⟩).1).trans ?_
  rw [hd_of m c B h d, sub_of m c B h d]

/-- and the values'. -/
theorem result9 (K : Fin 8192) (h : Fin 8) (d : Fin 64) : ((dats m 0 c).arrAt 9 cfg0.N : S8192x512.Idx → EReal) (ix2 K (col h d)) = ((dv A K h d : ℝ) : EReal) := by
  have hN : cfg0.N = 16 := N_0
  have ht : 4 * (h.val / 2) + 3 < cfg0.N := by omega
  have e := array9 m c ⟨4 * (h.val / 2) + 3, ht⟩ ⟨h.val / 2, by omega⟩ rfl K ⟨64 * (h.val % 2) + d.val, by omega⟩
  rw [← lane_of m c B h d] at e
  refine e.trans ((pay4_at _ _ _).trans ?_)
  refine ((acc_last m c B ⟨h.val / 2, by omega⟩ ht K ⟨64 * (h.val % 2) + d.val, by omega⟩).2).trans ?_
  rw [hd_of m c B h d, sub_of m c B h d]
end

end Cert.AttnIdeal.Hand

end
-- ==== Proof.AttnAlg.lean ====
/- The attention gradient's kernel against its reference, where the arguments are real numbers. -/
module

public import proofs.«01_k».proof.Proof.AttnValue
public import proofs.«01_k».proof.Proof.HiddenAlg

@[expose] public section

noncomputable section

namespace Cert.Proof

open Idealize Idealize.ShloMosaic Idealize.ShloMosaic.TcCoe Idealize.SL.Sem Cert.Finite Cert.AttnMath
open Cert.AttnReferenceIdeal.Hand (Reals)
open Cert.AttnIdeal.Hand (qA kA vA gA o1A l1A o2A l2A)

/-- The shape relations the precondition's operations take. -/
theorem attn_finite_facts : Cert.Pre_attn_finite.Facts := by
  constructor <;> decide +kernel

/-- The precondition says that the eight arguments are arrays of real numbers. -/
theorem attn_real (m : (ℓ : Loc Cert.AttnIdeal.nD Cert.AttnIdeal.τ Cert.AttnIdeal.sig) → Buf (Elt Ideal) ℓ)
    (h : Cert.Pre_AttnIdeal_attn_finite (hPre_attn_finite := attn_finite_facts) m) (c : Dev Cert.AttnIdeal.nD) :
    Real' (qA m c) ∧ Real' (kA m c) ∧ Real' (vA m c) ∧ Real' (gA m c) ∧ Real' (o1A m c) ∧ Real' (l1A m c) ∧ Real' (o2A m c) ∧ Real' (l2A m c) := by
  have e := congrFun (h c) ix0
  unfold Cert.Pre_attn_finite.fn Cert.Pre_attn_finite.fn_part1 Cert.Pre_attn_finite.fn_part2 at e
  dsimp only at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Cert.Pre_attn_finite.S_).Idx := ⟨fun a b => funext fun i => i.elim0⟩
  exact ⟨real_of_all _ _ _ _ _ _ e0, real_of_all _ _ _ _ _ _ e1, real_of_all _ _ _ _ _ _ e2, real_of_all _ _ _ _ _ _ e3,
    real_of_all _ _ _ _ _ _ e4, real_of_all _ _ _ _ _ _ e5, real_of_all _ _ _ _ _ _ e6, real_of_all _ _ _ _ _ _ e7⟩

theorem coe_toReal_of (x : EReal) (h : ∃ r : ℝ, x = r) : x = ((x.toReal : ℝ) : EReal) := by
  obtain ⟨r, rfl⟩ := h
  rw [EReal.toReal_coe]

/-- The arguments in memory, as real numbers. -/
def attnArgs (m : (ℓ : Loc Cert.AttnIdeal.nD Cert.AttnIdeal.τ Cert.AttnIdeal.sig) → Buf (Elt Ideal) ℓ) (c : Dev Cert.AttnIdeal.nD) : Args where
  q i x := EReal.toReal (qA m c (ix2 i x))
  k i x := EReal.toReal (kA m c (ix2 i x))
  v i x := EReal.toReal (vA m c (ix2 i x))
  g i x := EReal.toReal (gA m c (ix2 i x))
  o1 i x := EReal.toReal (o1A m c (ix2 i x))
  o2 i x := EReal.toReal (o2A m c (ix2 i x))
  l1 i x := EReal.toReal (l1A m c (ix2 i x))
  l2 i x := EReal.toReal (l2A m c (ix2 i x))

theorem attn_reals (m : (ℓ : Loc Cert.AttnIdeal.nD Cert.AttnIdeal.τ Cert.AttnIdeal.sig) → Buf (Elt Ideal) ℓ)
    (h : Cert.Pre_AttnIdeal_attn_finite (hPre_attn_finite := attn_finite_facts) m) (c : Dev Cert.AttnIdeal.nD) :
    Reals (attnArgs m c) (qA m c) (kA m c) (vA m c) (gA m c) (o1A m c) (l1A m c) (o2A m c) (l2A m c) := by
  obtain ⟨r0, r1, r2, r3, r4, r5, r6, r7⟩ := attn_real m h c
  exact ⟨fun i x => coe_toReal_of _ (r0 _), fun i x => coe_toReal_of _ (r1 _), fun i x => coe_toReal_of _ (r2 _), fun i x => coe_toReal_of _ (r3 _),
    fun i x => coe_toReal_of _ (r4 _), fun i x => coe_toReal_of _ (r5 _), fun i x => coe_toReal_of _ (r6 _), fun i x => coe_toReal_of _ (r7 _)⟩

theorem eq_col (x : Fin 512) : x = col ⟨x.val / 64, by omega⟩ ⟨x.val % 64, by omega⟩ :=
  Fin.ext (by show x.val = 64 * (x.val / 64) + x.val % 64; omega)

/-- The kernel's run, its three arrays named and the arguments kept. -/
theorem attn_run (m : (ℓ : Loc Cert.AttnIdeal.nD Cert.AttnIdeal.τ Cert.AttnIdeal.sig) → Buf (Elt Ideal) ℓ) (ρ : Dev Cert.AttnIdeal.nD → PrngReg) :
    θ_run (Cert.AttnIdeal.defs (F := Ideal)) (onTc (τ := Cert.AttnIdeal.τ) (Cert.AttnIdeal.main (F := Ideal))) ⟨m, fun _ => 0, ρ⟩
      (fun r => (∀ c : Dev Cert.AttnIdeal.nD,
          r.2.mem ((c.tc : Thread Cert.AttnIdeal.nD Cert.AttnIdeal.τ).loc Cert.AttnIdeal.main_v54_0) = (Cert.AttnIdeal.Gen.dats m 0 c).arrAt 7 Cert.AttnIdeal.cfg0.N
          ∧ r.2.mem ((c.tc : Thread Cert.AttnIdeal.nD Cert.AttnIdeal.τ).loc Cert.AttnIdeal.main_v54_1) = (Cert.AttnIdeal.Gen.dats m 0 c).arrAt 8 Cert.AttnIdeal.cfg0.N
          ∧ r.2.mem ((c.tc : Thread Cert.AttnIdeal.nD Cert.AttnIdeal.τ).loc Cert.AttnIdeal.main_v54_2) = (Cert.AttnIdeal.Gen.dats m 0 c).arrAt 9 Cert.AttnIdeal.cfg0.N)) :=
  (θ_run _ _ _).mono (fun r h c => ⟨(h c).1 7, (h c).1 8, (h c).1 9⟩) (Cert.AttnIdeal.Gen.run_main m ρ)

theorem algebraic_attn : Cert.algebraic_AttnIdeal_AttnReferenceIdeal_pre_attn_finite
    (hAttnIdeal := Cert.AttnIdeal.Gen.facts) (hAttnReferenceIdeal := Cert.AttnReferenceIdeal.Gen.facts)
    (hPre_attn_finite := attn_finite_facts) := by
  intro m ρ m' ρ' hpre hag
  refine ⟨fun c => (Cert.AttnIdeal.Gen.dats m 0 c).arrAt 7 Cert.AttnIdeal.cfg0.N, fun c => (Cert.AttnIdeal.Gen.dats m 0 c).arrAt 8 Cert.AttnIdeal.cfg0.N,
    fun c => (Cert.AttnIdeal.Gen.dats m 0 c).arrAt 9 Cert.AttnIdeal.cfg0.N,
    (θ_run _ _ _).mono (fun r h c => ⟨(h.1 c).1, (h.1 c).2.1, (h.1 c).2.2, h.2.1 c⟩) (θ_run_and (attn_run m ρ) (Cert.AttnIdeal.Gen.frame m ρ)),
    (θ_run _ _ _).mono (fun r h c => ?_) (Cert.AttnReferenceIdeal.Value.run m' ρ')⟩
  obtain ⟨h0, h1, h2, hk⟩ := h c
  obtain ⟨a0, a1, a2, a3, a4, a5, a6, a7⟩ := hag c
  have B := attn_reals m hpre c
  have B' : Reals (attnArgs m c) (m' ((c.tc : Thread Cert.AttnReferenceIdeal.nD Cert.AttnReferenceIdeal.τ).loc Cert.AttnReferenceIdeal.main_arg0))
      (m' ((c.tc : Thread Cert.AttnReferenceIdeal.nD Cert.AttnReferenceIdeal.τ).loc Cert.AttnReferenceIdeal.main_arg1))
      (m' ((c.tc : Thread Cert.AttnReferenceIdeal.nD Cert.AttnReferenceIdeal.τ).loc Cert.AttnReferenceIdeal.main_arg2))
      (m' ((c.tc : Thread Cert.AttnReferenceIdeal.nD Cert.AttnReferenceIdeal.τ).loc Cert.AttnReferenceIdeal.main_arg3))
      (m' ((c.tc : Thread Cert.AttnReferenceIdeal.nD Cert.AttnReferenceIdeal.τ).loc Cert.AttnReferenceIdeal.main_arg4))
      (m' ((c.tc : Thread Cert.AttnReferenceIdeal.nD Cert.AttnReferenceIdeal.τ).loc Cert.AttnReferenceIdeal.main_arg5))
      (m' ((c.tc : Thread Cert.AttnReferenceIdeal.nD Cert.AttnReferenceIdeal.τ).loc Cert.AttnReferenceIdeal.main_arg6))
      (m' ((c.tc : Thread Cert.AttnReferenceIdeal.nD Cert.AttnReferenceIdeal.τ).loc Cert.AttnReferenceIdeal.main_arg7)) :=
    ⟨fun i x => (congrFun a0 (ix2 i x)).trans (B.q i x), fun i x => (congrFun a1 (ix2 i x)).trans (B.k i x), fun i x => (congrFun a2 (ix2 i x)).trans (B.v i x),
      fun i x => (congrFun a3 (ix2 i x)).trans (B.g i x), fun i x => (congrFun a4 (ix2 i x)).trans (B.o1 i x), fun i x => (congrFun a5 (ix2 i x)).trans (B.l1 i x),
      fun i x => (congrFun a6 (ix2 i x)).trans (B.o2 i x), fun i x => (congrFun a7 (ix2 i x)).trans (B.l2 i x)⟩
  refine ⟨h0.trans ?_, h1.trans ?_, h2.trans ?_, hk⟩
  · funext i
    rw [eta2 i, eq_col (i 1)]
    exact (Cert.AttnReferenceIdeal.Hand.dq_real B' (i 0) _ _).trans (Cert.AttnIdeal.Hand.result7 m c B (i 0) _ _).symm
  · funext i
    rw [eta2 i, eq_col (i 1)]
    exact (Cert.AttnReferenceIdeal.Hand.dk_real B' (i 0) _ _).trans (Cert.AttnIdeal.Hand.result8 m c B (i 0) _ _).symm
  · funext i
    rw [eta2 i, eq_col (i 1)]
    exact (Cert.AttnReferenceIdeal.Hand.dv_real B' (i 0) _ _).trans (Cert.AttnIdeal.Hand.result9 m c B (i 0) _ _).symm

end Cert.Proof
-- ==== Proof.lean ====
/- The claims about the backward pass of a feed-forward block, of the mixer's projections and of a banded attention, call by call: frames, and
   equality with the references over the extended reals. -/
module

public import proofs.«01_k».proof.Defs
public import proofs.«01_k».proof.Proof.Gen.Hidden.Frame
public import proofs.«01_k».proof.Proof.Gen.HiddenIdeal.Value
public import proofs.«01_k».proof.Proof.Gen.HiddenReferenceIdeal
public import proofs.«01_k».proof.Proof.Gen.HiddenReferenceIdeal.Run
public import proofs.«01_k».proof.Proof.Gen.GateUp.Frame
public import proofs.«01_k».proof.Proof.Gen.GateUpIdeal.Value
public import proofs.«01_k».proof.Proof.Gen.GateUpReferenceIdeal
public import proofs.«01_k».proof.Proof.Gen.GateUpReferenceIdeal.Run
public import proofs.«01_k».proof.Proof.Gen.Input.Frame
public import proofs.«01_k».proof.Proof.Gen.InputIdeal.Value
public import proofs.«01_k».proof.Proof.Gen.InputReferenceIdeal
public import proofs.«01_k».proof.Proof.Gen.InputReferenceIdeal.Run
public import proofs.«01_k».proof.Proof.Gen.Loss.Frame
public import proofs.«01_k».proof.Proof.Gen.LossIdeal.Frame
public import proofs.«01_k».proof.Proof.Gen.LossReferenceIdeal
public import proofs.«01_k».proof.Proof.Gen.LossReferenceIdeal.Run
public import proofs.«01_k».proof.Proof.Gen.Attn.Frame
public import proofs.«01_k».proof.Proof.Gen.AttnIdeal.Frame
public import proofs.«01_k».proof.Proof.AttnSame
public import proofs.«01_k».proof.Proof.AttnData
public import proofs.«01_k».proof.Proof.Gen.AttnReferenceIdeal
public import proofs.«01_k».proof.Proof.Gen.AttnReferenceIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.InProj.Frame
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import Idealize.ShloMosaic.Lib.Quiescent
public import proofs.«01_k».proof.Proof.HiddenAlg
public import proofs.«01_k».proof.Proof.GateUpValue
public import proofs.«01_k».proof.Proof.InputAlg
public import proofs.«01_k».proof.Proof.LossSame
public import proofs.«01_k».proof.Proof.LossAlg
public import proofs.«01_k».proof.Proof.OutProjAlg
public import proofs.«01_k».proof.Proof.InProjAlg
public import proofs.«01_k».proof.Proof.AttnAlg

@[expose] public section

namespace Cert.Proof

open Idealize Idealize.ShloMosaic Idealize.SL.Sem

/-- Every claim of this certificate. -/
theorem claim : Cert.Claim :=
  ⟨Hidden.Gen.facts, HiddenIdeal.Gen.facts, HiddenReferenceIdeal.Gen.facts, GateUp.Gen.facts, GateUpIdeal.Gen.facts,
    GateUpReferenceIdeal.Gen.facts, Input.Gen.facts, InputIdeal.Gen.facts, InputReferenceIdeal.Gen.facts,
    Loss.Gen.facts, LossIdeal.Gen.facts, LossReferenceIdeal.Gen.facts,
    OutProj.Gen.facts, OutProjIdeal.Gen.facts, OutProjReferenceIdeal.Gen.facts,
    InProj.Gen.facts, InProjIdeal.Gen.facts, InProjReferenceIdeal.Gen.facts,
    Attn.Gen.facts, AttnIdeal.Gen.facts, AttnReferenceIdeal.Gen.facts, hidden_finite_facts, attn_finite_facts,
    fun m ρ _ => Hidden.Gen.frame m ρ,
    fun m ρ _ => HiddenIdeal.Gen.frame m ρ,
    fun m ρ _ => HiddenIdeal.Gen.frame m ρ,
    fun m ρ _ => (θ_run _ _ _).mono (fun _ h => ⟨fun c => (h c).2.2.2, sem_eq_zero_of_no_sems (by decide) _⟩) (HiddenReferenceIdeal.Value.run m ρ),
    fun m ρ _ => (θ_run _ _ _).mono (fun _ h => ⟨fun c => (h c).2.2.2, sem_eq_zero_of_no_sems (by decide) _⟩) (HiddenReferenceIdeal.Value.run m ρ),
    fun m ρ _ => GateUp.Gen.frame m ρ,
    fun m ρ _ => GateUpIdeal.Gen.frame m ρ,
    fun m ρ _ => (θ_run _ _ _).mono (fun _ h => ⟨fun c => (h c).2.2, sem_eq_zero_of_no_sems (by decide) _⟩) (GateUpReferenceIdeal.Value.run m ρ),
    fun m ρ _ => Input.Gen.frame m ρ,
    fun m ρ _ => InputIdeal.Gen.frame m ρ,
    fun m ρ _ => (θ_run _ _ _).mono (fun _ h => ⟨fun c => (h c).2.2, sem_eq_zero_of_no_sems (by decide) _⟩) (InputReferenceIdeal.Value.run m ρ),
    fun m ρ _ => Loss.Gen.frame m ρ,
    fun m ρ _ => LossIdeal.Gen.frame m ρ,
    fun m ρ _ => (θ_run _ _ _).mono (fun _ h => ⟨fun c => (h c).2.2.2.2.2.2.2.2, sem_eq_zero_of_no_sems (by decide) _⟩) (LossReferenceIdeal.Value.run m ρ),
    fun m ρ _ => OutProj.Gen.frame m ρ,
    fun m ρ _ => OutProjIdeal.Gen.frame m ρ,
    fun m ρ _ => (θ_run _ _ _).mono (fun _ h => ⟨fun c => (h c).2.2.2.2.2, sem_eq_zero_of_no_sems (by decide) _⟩) (OutProjReferenceIdeal.Value.run m ρ),
    fun m ρ _ => InProj.Gen.frame m ρ,
    fun m ρ _ => InProjIdeal.Gen.frame m ρ,
    fun m ρ _ => (θ_run _ _ _).mono (fun _ h => ⟨fun c => (h c).2.2.2.2, sem_eq_zero_of_no_sems (by decide) _⟩) (InProjReferenceIdeal.Value.run m ρ),
    fun m ρ _ => Attn.Gen.frame m ρ,
    fun m ρ _ => AttnIdeal.Gen.frame m ρ,
    fun m ρ _ => AttnIdeal.Gen.frame m ρ,
    fun m ρ _ => (θ_run _ _ _).mono (fun _ h => ⟨fun c => (h c).2.2.2, sem_eq_zero_of_no_sems (by decide) _⟩) (AttnReferenceIdeal.Value.run m ρ),
    fun m ρ _ => (θ_run _ _ _).mono (fun _ h => ⟨fun c => (h c).2.2.2, sem_eq_zero_of_no_sems (by decide) _⟩) (AttnReferenceIdeal.Value.run m ρ),
    trivial, algebraic_hidden, trivial, algebraic_gate_up, trivial, algebraic_input,
    trivial, algebraic_loss, trivial, algebraic_out_proj, trivial, algebraic_in_proj,
    IdealRules.named_const.statement Cert.AttnIdeal.κ "mask" .f32 0xF149F2CA#32 ⊥ rfl, algebraic_attn⟩

end Cert.Proof
